-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_activation [hPre_finite_activation : Cert.Pre_finite_activation.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_activation.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite_activation.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite_activation.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_activation [hPre_finite_activation : Cert.Pre_finite_activation.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_activation.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite_activation.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite_activation.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_up [hPre_finite_up : Cert.Pre_finite_up.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_up.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).1 = (fun _ => 1#1)
    ∧ (Cert.Pre_finite_up.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_up [hPre_finite_up : Cert.Pre_finite_up.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_up.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).1 = (fun _ => 1#1)
    ∧ (Cert.Pre_finite_up.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Kernel27Ideal_finite_heads [hPre_finite_heads : Cert.Pre_finite_heads.Facts] (m : (ℓ : Loc Cert.Kernel27Ideal.nD Cert.Kernel27Ideal.τ Cert.Kernel27Ideal.sig) → Buf (Elt Ideal) ℓ) : Prop :=
  ∀ c : Dev Cert.Kernel27Ideal.nD,
    (Cert.Pre_finite_heads.fn (F := Ideal) (m ((c.tc : Thread Cert.Kernel27Ideal.nD Cert.Kernel27Ideal.τ).loc Cert.Kernel27Ideal.main_arg0)) (m ((c.tc : Thread Cert.Kernel27Ideal.nD Cert.Kernel27Ideal.τ).loc Cert.Kernel27Ideal.main_arg1)) (m ((c.tc : Thread Cert.Kernel27Ideal.nD Cert.Kernel27Ideal.τ).loc Cert.Kernel27Ideal.main_arg2)) (m ((c.tc : Thread Cert.Kernel27Ideal.nD Cert.Kernel27Ideal.τ).loc Cert.Kernel27Ideal.main_arg3)) (m ((c.tc : Thread Cert.Kernel27Ideal.nD Cert.Kernel27Ideal.τ).loc Cert.Kernel27Ideal.main_arg4)) (m ((c.tc : Thread Cert.Kernel27Ideal.nD Cert.Kernel27Ideal.τ).loc Cert.Kernel27Ideal.main_arg5)) (m ((c.tc : Thread Cert.Kernel27Ideal.nD Cert.Kernel27Ideal.τ).loc Cert.Kernel27Ideal.main_arg6)) (m ((c.tc : Thread Cert.Kernel27Ideal.nD Cert.Kernel27Ideal.τ).loc Cert.Kernel27Ideal.main_arg7))).1 = (fun _ => 1#1)
    ∧ (Cert.Pre_finite_heads.fn (F := Ideal) (m ((c.tc : Thread Cert.Kernel27Ideal.nD Cert.Kernel27Ideal.τ).loc Cert.Kernel27Ideal.main_arg0)) (m ((c.tc : Thread Cert.Kernel27Ideal.nD Cert.Kernel27Ideal.τ).loc Cert.Kernel27Ideal.main_arg1)) (m ((c.tc : Thread Cert.Kernel27Ideal.nD Cert.Kernel27Ideal.τ).loc Cert.Kernel27Ideal.main_arg2)) (m ((c.tc : Thread Cert.Kernel27Ideal.nD Cert.Kernel27Ideal.τ).loc Cert.Kernel27Ideal.main_arg3)) (m ((c.tc : Thread Cert.Kernel27Ideal.nD Cert.Kernel27Ideal.τ).loc Cert.Kernel27Ideal.main_arg4)) (m ((c.tc : Thread Cert.Kernel27Ideal.nD Cert.Kernel27Ideal.τ).loc Cert.Kernel27Ideal.main_arg5)) (m ((c.tc : Thread Cert.Kernel27Ideal.nD Cert.Kernel27Ideal.τ).loc Cert.Kernel27Ideal.main_arg6)) (m ((c.tc : Thread Cert.Kernel27Ideal.nD Cert.Kernel27Ideal.τ).loc Cert.Kernel27Ideal.main_arg7))).2.1 = (fun _ => 1#1)
    ∧ (Cert.Pre_finite_heads.fn (F := Ideal) (m ((c.tc : Thread Cert.Kernel27Ideal.nD Cert.Kernel27Ideal.τ).loc Cert.Kernel27Ideal.main_arg0)) (m ((c.tc : Thread Cert.Kernel27Ideal.nD Cert.Kernel27Ideal.τ).loc Cert.Kernel27Ideal.main_arg1)) (m ((c.tc : Thread Cert.Kernel27Ideal.nD Cert.Kernel27Ideal.τ).loc Cert.Kernel27Ideal.main_arg2)) (m ((c.tc : Thread Cert.Kernel27Ideal.nD Cert.Kernel27Ideal.τ).loc Cert.Kernel27Ideal.main_arg3)) (m ((c.tc : Thread Cert.Kernel27Ideal.nD Cert.Kernel27Ideal.τ).loc Cert.Kernel27Ideal.main_arg4)) (m ((c.tc : Thread Cert.Kernel27Ideal.nD Cert.Kernel27Ideal.τ).loc Cert.Kernel27Ideal.main_arg5)) (m ((c.tc : Thread Cert.Kernel27Ideal.nD Cert.Kernel27Ideal.τ).loc Cert.Kernel27Ideal.main_arg6)) (m ((c.tc : Thread Cert.Kernel27Ideal.nD Cert.Kernel27Ideal.τ).loc Cert.Kernel27Ideal.main_arg7))).2.2.1 = (fun _ => 1#1)
    ∧ (Cert.Pre_finite_heads.fn (F := Ideal) (m ((c.tc : Thread Cert.Kernel27Ideal.nD Cert.Kernel27Ideal.τ).loc Cert.Kernel27Ideal.main_arg0)) (m ((c.tc : Thread Cert.Kernel27Ideal.nD Cert.Kernel27Ideal.τ).loc Cert.Kernel27Ideal.main_arg1)) (m ((c.tc : Thread Cert.Kernel27Ideal.nD Cert.Kernel27Ideal.τ).loc Cert.Kernel27Ideal.main_arg2)) (m ((c.tc : Thread Cert.Kernel27Ideal.nD Cert.Kernel27Ideal.τ).loc Cert.Kernel27Ideal.main_arg3)) (m ((c.tc : Thread Cert.Kernel27Ideal.nD Cert.Kernel27Ideal.τ).loc Cert.Kernel27Ideal.main_arg4)) (m ((c.tc : Thread Cert.Kernel27Ideal.nD Cert.Kernel27Ideal.τ).loc Cert.Kernel27Ideal.main_arg5)) (m ((c.tc : Thread Cert.Kernel27Ideal.nD Cert.Kernel27Ideal.τ).loc Cert.Kernel27Ideal.main_arg6)) (m ((c.tc : Thread Cert.Kernel27Ideal.nD Cert.Kernel27Ideal.τ).loc Cert.Kernel27Ideal.main_arg7))).2.2.2.1 = (fun _ => 1#1)
    ∧ (Cert.Pre_finite_heads.fn (F := Ideal) (m ((c.tc : Thread Cert.Kernel27Ideal.nD Cert.Kernel27Ideal.τ).loc Cert.Kernel27Ideal.main_arg0)) (m ((c.tc : Thread Cert.Kernel27Ideal.nD Cert.Kernel27Ideal.τ).loc Cert.Kernel27Ideal.main_arg1)) (m ((c.tc : Thread Cert.Kernel27Ideal.nD Cert.Kernel27Ideal.τ).loc Cert.Kernel27Ideal.main_arg2)) (m ((c.tc : Thread Cert.Kernel27Ideal.nD Cert.Kernel27Ideal.τ).loc Cert.Kernel27Ideal.main_arg3)) (m ((c.tc : Thread Cert.Kernel27Ideal.nD Cert.Kernel27Ideal.τ).loc Cert.Kernel27Ideal.main_arg4)) (m ((c.tc : Thread Cert.Kernel27Ideal.nD Cert.Kernel27Ideal.τ).loc Cert.Kernel27Ideal.main_arg5)) (m ((c.tc : Thread Cert.Kernel27Ideal.nD Cert.Kernel27Ideal.τ).loc Cert.Kernel27Ideal.main_arg6)) (m ((c.tc : Thread Cert.Kernel27Ideal.nD Cert.Kernel27Ideal.τ).loc Cert.Kernel27Ideal.main_arg7))).2.2.2.2.1 = (fun _ => 1#1)
    ∧ (Cert.Pre_finite_heads.fn (F := Ideal) (m ((c.tc : Thread Cert.Kernel27Ideal.nD Cert.Kernel27Ideal.τ).loc Cert.Kernel27Ideal.main_arg0)) (m ((c.tc : Thread Cert.Kernel27Ideal.nD Cert.Kernel27Ideal.τ).loc Cert.Kernel27Ideal.main_arg1)) (m ((c.tc : Thread Cert.Kernel27Ideal.nD Cert.Kernel27Ideal.τ).loc Cert.Kernel27Ideal.main_arg2)) (m ((c.tc : Thread Cert.Kernel27Ideal.nD Cert.Kernel27Ideal.τ).loc Cert.Kernel27Ideal.main_arg3)) (m ((c.tc : Thread Cert.Kernel27Ideal.nD Cert.Kernel27Ideal.τ).loc Cert.Kernel27Ideal.main_arg4)) (m ((c.tc : Thread Cert.Kernel27Ideal.nD Cert.Kernel27Ideal.τ).loc Cert.Kernel27Ideal.main_arg5)) (m ((c.tc : Thread Cert.Kernel27Ideal.nD Cert.Kernel27Ideal.τ).loc Cert.Kernel27Ideal.main_arg6)) (m ((c.tc : Thread Cert.Kernel27Ideal.nD Cert.Kernel27Ideal.τ).loc Cert.Kernel27Ideal.main_arg7))).2.2.2.2.2.1 = (fun _ => 1#1)
    ∧ (Cert.Pre_finite_heads.fn (F := Ideal) (m ((c.tc : Thread Cert.Kernel27Ideal.nD Cert.Kernel27Ideal.τ).loc Cert.Kernel27Ideal.main_arg0)) (m ((c.tc : Thread Cert.Kernel27Ideal.nD Cert.Kernel27Ideal.τ).loc Cert.Kernel27Ideal.main_arg1)) (m ((c.tc : Thread Cert.Kernel27Ideal.nD Cert.Kernel27Ideal.τ).loc Cert.Kernel27Ideal.main_arg2)) (m ((c.tc : Thread Cert.Kernel27Ideal.nD Cert.Kernel27Ideal.τ).loc Cert.Kernel27Ideal.main_arg3)) (m ((c.tc : Thread Cert.Kernel27Ideal.nD Cert.Kernel27Ideal.τ).loc Cert.Kernel27Ideal.main_arg4)) (m ((c.tc : Thread Cert.Kernel27Ideal.nD Cert.Kernel27Ideal.τ).loc Cert.Kernel27Ideal.main_arg5)) (m ((c.tc : Thread Cert.Kernel27Ideal.nD Cert.Kernel27Ideal.τ).loc Cert.Kernel27Ideal.main_arg6)) (m ((c.tc : Thread Cert.Kernel27Ideal.nD Cert.Kernel27Ideal.τ).loc Cert.Kernel27Ideal.main_arg7))).2.2.2.2.2.2 = (fun _ => 1#1)

def Pre_Reference27Ideal (m : (ℓ : Loc Cert.Reference27Ideal.nD Cert.Reference27Ideal.τ Cert.Reference27Ideal.sig) → Buf (Elt Ideal) ℓ) : Prop :=
  True

def Pre_Reference27Ideal_finite_heads [hPre_finite_heads : Cert.Pre_finite_heads.Facts] (m : (ℓ : Loc Cert.Reference27Ideal.nD Cert.Reference27Ideal.τ Cert.Reference27Ideal.sig) → Buf (Elt Ideal) ℓ) : Prop :=
  ∀ c : Dev Cert.Reference27Ideal.nD,
    (Cert.Pre_finite_heads.fn (F := Ideal) (m ((c.tc : Thread Cert.Reference27Ideal.nD Cert.Reference27Ideal.τ).loc Cert.Reference27Ideal.main_arg0)) (m ((c.tc : Thread Cert.Reference27Ideal.nD Cert.Reference27Ideal.τ).loc Cert.Reference27Ideal.main_arg1)) (m ((c.tc : Thread Cert.Reference27Ideal.nD Cert.Reference27Ideal.τ).loc Cert.Reference27Ideal.main_arg2)) (m ((c.tc : Thread Cert.Reference27Ideal.nD Cert.Reference27Ideal.τ).loc Cert.Reference27Ideal.main_arg3)) (m ((c.tc : Thread Cert.Reference27Ideal.nD Cert.Reference27Ideal.τ).loc Cert.Reference27Ideal.main_arg4)) (m ((c.tc : Thread Cert.Reference27Ideal.nD Cert.Reference27Ideal.τ).loc Cert.Reference27Ideal.main_arg5)) (m ((c.tc : Thread Cert.Reference27Ideal.nD Cert.Reference27Ideal.τ).loc Cert.Reference27Ideal.main_arg6)) (m ((c.tc : Thread Cert.Reference27Ideal.nD Cert.Reference27Ideal.τ).loc Cert.Reference27Ideal.main_arg7))).1 = (fun _ => 1#1)
    ∧ (Cert.Pre_finite_heads.fn (F := Ideal) (m ((c.tc : Thread Cert.Reference27Ideal.nD Cert.Reference27Ideal.τ).loc Cert.Reference27Ideal.main_arg0)) (m ((c.tc : Thread Cert.Reference27Ideal.nD Cert.Reference27Ideal.τ).loc Cert.Reference27Ideal.main_arg1)) (m ((c.tc : Thread Cert.Reference27Ideal.nD Cert.Reference27Ideal.τ).loc Cert.Reference27Ideal.main_arg2)) (m ((c.tc : Thread Cert.Reference27Ideal.nD Cert.Reference27Ideal.τ).loc Cert.Reference27Ideal.main_arg3)) (m ((c.tc : Thread Cert.Reference27Ideal.nD Cert.Reference27Ideal.τ).loc Cert.Reference27Ideal.main_arg4)) (m ((c.tc : Thread Cert.Reference27Ideal.nD Cert.Reference27Ideal.τ).loc Cert.Reference27Ideal.main_arg5)) (m ((c.tc : Thread Cert.Reference27Ideal.nD Cert.Reference27Ideal.τ).loc Cert.Reference27Ideal.main_arg6)) (m ((c.tc : Thread Cert.Reference27Ideal.nD Cert.Reference27Ideal.τ).loc Cert.Reference27Ideal.main_arg7))).2.1 = (fun _ => 1#1)
    ∧ (Cert.Pre_finite_heads.fn (F := Ideal) (m ((c.tc : Thread Cert.Reference27Ideal.nD Cert.Reference27Ideal.τ).loc Cert.Reference27Ideal.main_arg0)) (m ((c.tc : Thread Cert.Reference27Ideal.nD Cert.Reference27Ideal.τ).loc Cert.Reference27Ideal.main_arg1)) (m ((c.tc : Thread Cert.Reference27Ideal.nD Cert.Reference27Ideal.τ).loc Cert.Reference27Ideal.main_arg2)) (m ((c.tc : Thread Cert.Reference27Ideal.nD Cert.Reference27Ideal.τ).loc Cert.Reference27Ideal.main_arg3)) (m ((c.tc : Thread Cert.Reference27Ideal.nD Cert.Reference27Ideal.τ).loc Cert.Reference27Ideal.main_arg4)) (m ((c.tc : Thread Cert.Reference27Ideal.nD Cert.Reference27Ideal.τ).loc Cert.Reference27Ideal.main_arg5)) (m ((c.tc : Thread Cert.Reference27Ideal.nD Cert.Reference27Ideal.τ).loc Cert.Reference27Ideal.main_arg6)) (m ((c.tc : Thread Cert.Reference27Ideal.nD Cert.Reference27Ideal.τ).loc Cert.Reference27Ideal.main_arg7))).2.2.1 = (fun _ => 1#1)
    ∧ (Cert.Pre_finite_heads.fn (F := Ideal) (m ((c.tc : Thread Cert.Reference27Ideal.nD Cert.Reference27Ideal.τ).loc Cert.Reference27Ideal.main_arg0)) (m ((c.tc : Thread Cert.Reference27Ideal.nD Cert.Reference27Ideal.τ).loc Cert.Reference27Ideal.main_arg1)) (m ((c.tc : Thread Cert.Reference27Ideal.nD Cert.Reference27Ideal.τ).loc Cert.Reference27Ideal.main_arg2)) (m ((c.tc : Thread Cert.Reference27Ideal.nD Cert.Reference27Ideal.τ).loc Cert.Reference27Ideal.main_arg3)) (m ((c.tc : Thread Cert.Reference27Ideal.nD Cert.Reference27Ideal.τ).loc Cert.Reference27Ideal.main_arg4)) (m ((c.tc : Thread Cert.Reference27Ideal.nD Cert.Reference27Ideal.τ).loc Cert.Reference27Ideal.main_arg5)) (m ((c.tc : Thread Cert.Reference27Ideal.nD Cert.Reference27Ideal.τ).loc Cert.Reference27Ideal.main_arg6)) (m ((c.tc : Thread Cert.Reference27Ideal.nD Cert.Reference27Ideal.τ).loc Cert.Reference27Ideal.main_arg7))).2.2.2.1 = (fun _ => 1#1)
    ∧ (Cert.Pre_finite_heads.fn (F := Ideal) (m ((c.tc : Thread Cert.Reference27Ideal.nD Cert.Reference27Ideal.τ).loc Cert.Reference27Ideal.main_arg0)) (m ((c.tc : Thread Cert.Reference27Ideal.nD Cert.Reference27Ideal.τ).loc Cert.Reference27Ideal.main_arg1)) (m ((c.tc : Thread Cert.Reference27Ideal.nD Cert.Reference27Ideal.τ).loc Cert.Reference27Ideal.main_arg2)) (m ((c.tc : Thread Cert.Reference27Ideal.nD Cert.Reference27Ideal.τ).loc Cert.Reference27Ideal.main_arg3)) (m ((c.tc : Thread Cert.Reference27Ideal.nD Cert.Reference27Ideal.τ).loc Cert.Reference27Ideal.main_arg4)) (m ((c.tc : Thread Cert.Reference27Ideal.nD Cert.Reference27Ideal.τ).loc Cert.Reference27Ideal.main_arg5)) (m ((c.tc : Thread Cert.Reference27Ideal.nD Cert.Reference27Ideal.τ).loc Cert.Reference27Ideal.main_arg6)) (m ((c.tc : Thread Cert.Reference27Ideal.nD Cert.Reference27Ideal.τ).loc Cert.Reference27Ideal.main_arg7))).2.2.2.2.1 = (fun _ => 1#1)
    ∧ (Cert.Pre_finite_heads.fn (F := Ideal) (m ((c.tc : Thread Cert.Reference27Ideal.nD Cert.Reference27Ideal.τ).loc Cert.Reference27Ideal.main_arg0)) (m ((c.tc : Thread Cert.Reference27Ideal.nD Cert.Reference27Ideal.τ).loc Cert.Reference27Ideal.main_arg1)) (m ((c.tc : Thread Cert.Reference27Ideal.nD Cert.Reference27Ideal.τ).loc Cert.Reference27Ideal.main_arg2)) (m ((c.tc : Thread Cert.Reference27Ideal.nD Cert.Reference27Ideal.τ).loc Cert.Reference27Ideal.main_arg3)) (m ((c.tc : Thread Cert.Reference27Ideal.nD Cert.Reference27Ideal.τ).loc Cert.Reference27Ideal.main_arg4)) (m ((c.tc : Thread Cert.Reference27Ideal.nD Cert.Reference27Ideal.τ).loc Cert.Reference27Ideal.main_arg5)) (m ((c.tc : Thread Cert.Reference27Ideal.nD Cert.Reference27Ideal.τ).loc Cert.Reference27Ideal.main_arg6)) (m ((c.tc : Thread Cert.Reference27Ideal.nD Cert.Reference27Ideal.τ).loc Cert.Reference27Ideal.main_arg7))).2.2.2.2.2.1 = (fun _ => 1#1)
    ∧ (Cert.Pre_finite_heads.fn (F := Ideal) (m ((c.tc : Thread Cert.Reference27Ideal.nD Cert.Reference27Ideal.τ).loc Cert.Reference27Ideal.main_arg0)) (m ((c.tc : Thread Cert.Reference27Ideal.nD Cert.Reference27Ideal.τ).loc Cert.Reference27Ideal.main_arg1)) (m ((c.tc : Thread Cert.Reference27Ideal.nD Cert.Reference27Ideal.τ).loc Cert.Reference27Ideal.main_arg2)) (m ((c.tc : Thread Cert.Reference27Ideal.nD Cert.Reference27Ideal.τ).loc Cert.Reference27Ideal.main_arg3)) (m ((c.tc : Thread Cert.Reference27Ideal.nD Cert.Reference27Ideal.τ).loc Cert.Reference27Ideal.main_arg4)) (m ((c.tc : Thread Cert.Reference27Ideal.nD Cert.Reference27Ideal.τ).loc Cert.Reference27Ideal.main_arg5)) (m ((c.tc : Thread Cert.Reference27Ideal.nD Cert.Reference27Ideal.τ).loc Cert.Reference27Ideal.main_arg6)) (m ((c.tc : Thread Cert.Reference27Ideal.nD Cert.Reference27Ideal.τ).loc Cert.Reference27Ideal.main_arg7))).2.2.2.2.2.2 = (fun _ => 1#1)

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite_activation [hKernel2Ideal : Cert.Kernel2Ideal.Facts] [hPre_finite_activation : Cert.Pre_finite_activation.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_activation m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite_activation [hReference2Ideal : Cert.Reference2Ideal.Facts] [hPre_finite_activation : Cert.Pre_finite_activation.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_activation m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_finite_up [hKernel6Ideal : Cert.Kernel6Ideal.Facts] [hPre_finite_up : Cert.Pre_finite_up.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_up m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_finite_up [hReference6Ideal : Cert.Reference6Ideal.Facts] [hPre_finite_up : Cert.Pre_finite_up.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_up m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4)
      ∧ r.2.mem ((c.tc : Thread Cert.Kernel27.nD Cert.Kernel27.τ).loc Cert.Kernel27.main_arg5) = m ((c.tc : Thread Cert.Kernel27.nD Cert.Kernel27.τ).loc Cert.Kernel27.main_arg5)
      ∧ r.2.mem ((c.tc : Thread Cert.Kernel27.nD Cert.Kernel27.τ).loc Cert.Kernel27.main_arg6) = m ((c.tc : Thread Cert.Kernel27.nD Cert.Kernel27.τ).loc Cert.Kernel27.main_arg6)
      ∧ r.2.mem ((c.tc : Thread Cert.Kernel27.nD Cert.Kernel27.τ).loc Cert.Kernel27.main_arg7) = m ((c.tc : Thread Cert.Kernel27.nD Cert.Kernel27.τ).loc Cert.Kernel27.main_arg7))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
      ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5)
      ∧ r.2.mem ((c.tc : Thread Cert.Kernel27Ideal.nD Cert.Kernel27Ideal.τ).loc Cert.Kernel27Ideal.main_arg6) = m ((c.tc : Thread Cert.Kernel27Ideal.nD Cert.Kernel27Ideal.τ).loc Cert.Kernel27Ideal.main_arg6)
      ∧ r.2.mem ((c.tc : Thread Cert.Kernel27Ideal.nD Cert.Kernel27Ideal.τ).loc Cert.Kernel27Ideal.main_arg7) = m ((c.tc : Thread Cert.Kernel27Ideal.nD Cert.Kernel27Ideal.τ).loc Cert.Kernel27Ideal.main_arg7))
      ∧ r.2.sem = fun _ => 0)

def quiescent_Kernel27Ideal_pre_finite_heads [hKernel27Ideal : Cert.Kernel27Ideal.Facts] [hPre_finite_heads : Cert.Pre_finite_heads.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal_finite_heads m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
      ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5)
      ∧ r.2.mem ((c.tc : Thread Cert.Kernel27Ideal.nD Cert.Kernel27Ideal.τ).loc Cert.Kernel27Ideal.main_arg6) = m ((c.tc : Thread Cert.Kernel27Ideal.nD Cert.Kernel27Ideal.τ).loc Cert.Kernel27Ideal.main_arg6)
      ∧ r.2.mem ((c.tc : Thread Cert.Kernel27Ideal.nD Cert.Kernel27Ideal.τ).loc Cert.Kernel27Ideal.main_arg7) = m ((c.tc : Thread Cert.Kernel27Ideal.nD Cert.Kernel27Ideal.τ).loc Cert.Kernel27Ideal.main_arg7))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4)
      ∧ r.2.mem ((c.tc : Thread Cert.Reference27Ideal.nD Cert.Reference27Ideal.τ).loc Cert.Reference27Ideal.main_arg5) = m ((c.tc : Thread Cert.Reference27Ideal.nD Cert.Reference27Ideal.τ).loc Cert.Reference27Ideal.main_arg5)
      ∧ r.2.mem ((c.tc : Thread Cert.Reference27Ideal.nD Cert.Reference27Ideal.τ).loc Cert.Reference27Ideal.main_arg6) = m ((c.tc : Thread Cert.Reference27Ideal.nD Cert.Reference27Ideal.τ).loc Cert.Reference27Ideal.main_arg6)
      ∧ r.2.mem ((c.tc : Thread Cert.Reference27Ideal.nD Cert.Reference27Ideal.τ).loc Cert.Reference27Ideal.main_arg7) = m ((c.tc : Thread Cert.Reference27Ideal.nD Cert.Reference27Ideal.τ).loc Cert.Reference27Ideal.main_arg7))
      ∧ r.2.sem = fun _ => 0)

def quiescent_Reference27Ideal_pre_finite_heads [hReference27Ideal : Cert.Reference27Ideal.Facts] [hPre_finite_heads : Cert.Pre_finite_heads.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal_finite_heads m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4)
      ∧ r.2.mem ((c.tc : Thread Cert.Reference27Ideal.nD Cert.Reference27Ideal.τ).loc Cert.Reference27Ideal.main_arg5) = m ((c.tc : Thread Cert.Reference27Ideal.nD Cert.Reference27Ideal.τ).loc Cert.Reference27Ideal.main_arg5)
      ∧ r.2.mem ((c.tc : Thread Cert.Reference27Ideal.nD Cert.Reference27Ideal.τ).loc Cert.Reference27Ideal.main_arg6) = m ((c.tc : Thread Cert.Reference27Ideal.nD Cert.Reference27Ideal.τ).loc Cert.Reference27Ideal.main_arg6)
      ∧ r.2.mem ((c.tc : Thread Cert.Reference27Ideal.nD Cert.Reference27Ideal.τ).loc Cert.Reference27Ideal.main_arg7) = m ((c.tc : Thread Cert.Reference27Ideal.nD Cert.Reference27Ideal.τ).loc Cert.Reference27Ideal.main_arg7))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3)
      ∧ r.2.mem ((c.tc : Thread Cert.Kernel28.nD Cert.Kernel28.τ).loc Cert.Kernel28.main_arg4) = m ((c.tc : Thread Cert.Kernel28.nD Cert.Kernel28.τ).loc Cert.Kernel28.main_arg4)
      ∧ r.2.mem ((c.tc : Thread Cert.Kernel28.nD Cert.Kernel28.τ).loc Cert.Kernel28.main_arg5) = m ((c.tc : Thread Cert.Kernel28.nD Cert.Kernel28.τ).loc Cert.Kernel28.main_arg5)
      ∧ r.2.mem ((c.tc : Thread Cert.Kernel28.nD Cert.Kernel28.τ).loc Cert.Kernel28.main_arg6) = m ((c.tc : Thread Cert.Kernel28.nD Cert.Kernel28.τ).loc Cert.Kernel28.main_arg6)
      ∧ r.2.mem ((c.tc : Thread Cert.Kernel28.nD Cert.Kernel28.τ).loc Cert.Kernel28.main_arg7) = m ((c.tc : Thread Cert.Kernel28.nD Cert.Kernel28.τ).loc Cert.Kernel28.main_arg7)
      ∧ r.2.mem ((c.tc : Thread Cert.Kernel28.nD Cert.Kernel28.τ).loc Cert.Kernel28.main_arg8) = m ((c.tc : Thread Cert.Kernel28.nD Cert.Kernel28.τ).loc Cert.Kernel28.main_arg8))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
      ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
      ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5)
      ∧ r.2.mem ((c.tc : Thread Cert.Kernel28Ideal.nD Cert.Kernel28Ideal.τ).loc Cert.Kernel28Ideal.main_arg6) = m ((c.tc : Thread Cert.Kernel28Ideal.nD Cert.Kernel28Ideal.τ).loc Cert.Kernel28Ideal.main_arg6)
      ∧ r.2.mem ((c.tc : Thread Cert.Kernel28Ideal.nD Cert.Kernel28Ideal.τ).loc Cert.Kernel28Ideal.main_arg7) = m ((c.tc : Thread Cert.Kernel28Ideal.nD Cert.Kernel28Ideal.τ).loc Cert.Kernel28Ideal.main_arg7)
      ∧ r.2.mem ((c.tc : Thread Cert.Kernel28Ideal.nD Cert.Kernel28Ideal.τ).loc Cert.Kernel28Ideal.main_arg8) = m ((c.tc : Thread Cert.Kernel28Ideal.nD Cert.Kernel28Ideal.τ).loc Cert.Kernel28Ideal.main_arg8))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4)
      ∧ r.2.mem ((c.tc : Thread Cert.Reference28Ideal.nD Cert.Reference28Ideal.τ).loc Cert.Reference28Ideal.main_arg5) = m ((c.tc : Thread Cert.Reference28Ideal.nD Cert.Reference28Ideal.τ).loc Cert.Reference28Ideal.main_arg5)
      ∧ r.2.mem ((c.tc : Thread Cert.Reference28Ideal.nD Cert.Reference28Ideal.τ).loc Cert.Reference28Ideal.main_arg6) = m ((c.tc : Thread Cert.Reference28Ideal.nD Cert.Reference28Ideal.τ).loc Cert.Reference28Ideal.main_arg6)
      ∧ r.2.mem ((c.tc : Thread Cert.Reference28Ideal.nD Cert.Reference28Ideal.τ).loc Cert.Reference28Ideal.main_arg7) = m ((c.tc : Thread Cert.Reference28Ideal.nD Cert.Reference28Ideal.τ).loc Cert.Reference28Ideal.main_arg7)
      ∧ r.2.mem ((c.tc : Thread Cert.Reference28Ideal.nD Cert.Reference28Ideal.τ).loc Cert.Reference28Ideal.main_arg8) = m ((c.tc : Thread Cert.Reference28Ideal.nD Cert.Reference28Ideal.τ).loc Cert.Reference28Ideal.main_arg8))
      ∧ r.2.sem = fun _ => 0)

def preserves_Kernel_KernelIdeal : Prop :=
  IdealRules.named_const.Statement Cert.KernelIdeal.κ "ln_2" .f32 0x3F317218#32 ((Real.log 2 : ℝ) : EReal)

def preserves_Kernel2_Kernel2Ideal : Prop :=
  True

def preserves_Kernel3_Kernel3Ideal : Prop :=
  True

def preserves_Kernel4_Kernel4Ideal : Prop :=
  True

def preserves_Kernel5_Kernel5Ideal : Prop :=
  True

def preserves_Kernel6_Kernel6Ideal : Prop :=
  True

def preserves_Kernel7_Kernel7Ideal : Prop :=
  True

def preserves_Kernel8_Kernel8Ideal : Prop :=
  True

def preserves_Kernel9_Kernel9Ideal : Prop :=
  True

def preserves_Kernel10_Kernel10Ideal : Prop :=
  True

def preserves_Kernel11_Kernel11Ideal : Prop :=
  True

def preserves_Kernel12_Kernel12Ideal : Prop :=
  True

def preserves_Kernel13_Kernel13Ideal : Prop :=
  True

def preserves_Kernel14_Kernel14Ideal : Prop :=
  True

def preserves_Kernel15_Kernel15Ideal : Prop :=
  True

def preserves_Kernel16_Kernel16Ideal : Prop :=
  True

def preserves_Kernel17_Kernel17Ideal : Prop :=
  True

def preserves_Kernel18_Kernel18Ideal : Prop :=
  True

def preserves_Kernel19_Kernel19Ideal : Prop :=
  True

def preserves_Kernel20_Kernel20Ideal : Prop :=
  True

def preserves_Kernel21_Kernel21Ideal : Prop :=
  True

def preserves_Kernel22_Kernel22Ideal : Prop :=
  True

def preserves_Kernel23_Kernel23Ideal : Prop :=
  True

def preserves_Kernel24_Kernel24Ideal : Prop :=
  True

def preserves_Kernel25_Kernel25Ideal : Prop :=
  True

def preserves_Kernel26_Kernel26Ideal : Prop :=
  True

def preserves_Kernel27_Kernel27Ideal : Prop :=
  True

def preserves_Kernel28_Kernel28Ideal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v93_0)) (v1 : (c : Dev Cert.KernelIdeal.nD) → Buf (Elt Ideal) ((c.tc : Thread Cert.KernelIdeal.nD Cert.KernelIdeal.τ).loc Cert.KernelIdeal.main_v93_1)) (v2 : (c : Dev Cert.KernelIdeal.nD) → Buf (Elt Ideal) ((c.tc : Thread Cert.KernelIdeal.nD Cert.KernelIdeal.τ).loc Cert.KernelIdeal.main_v93_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93_0) = v0 c
          ∧ r.2.mem ((c.tc : Thread Cert.KernelIdeal.nD Cert.KernelIdeal.τ).loc Cert.KernelIdeal.main_v93_1) = v1 c
          ∧ r.2.mem ((c.tc : Thread Cert.KernelIdeal.nD Cert.KernelIdeal.τ).loc Cert.KernelIdeal.main_v93_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def algebraic_Kernel2Ideal_Reference2Ideal_pre_finite_activation [hKernel2Ideal : Cert.Kernel2Ideal.Facts] [hReference2Ideal : Cert.Reference2Ideal.Facts] [hPre_finite_activation : Cert.Pre_finite_activation.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_activation m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v15_0)) (v1 : (c : Dev Cert.Kernel2Ideal.nD) → Buf (Elt Ideal) ((c.tc : Thread Cert.Kernel2Ideal.nD Cert.Kernel2Ideal.τ).loc Cert.Kernel2Ideal.main_v15_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15_0) = v0 c
          ∧ r.2.mem ((c.tc : Thread Cert.Kernel2Ideal.nD Cert.Kernel2Ideal.τ).loc Cert.Kernel2Ideal.main_v15_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_v12) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_v22) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def algebraic_Kernel6Ideal_Reference6Ideal_pre_finite_up [hKernel6Ideal : Cert.Kernel6Ideal.Facts] [hReference6Ideal : Cert.Reference6Ideal.Facts] [hPre_finite_up : Cert.Pre_finite_up.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_up m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)) (v2 : (c : Dev Cert.Kernel6Ideal.nD) → Buf (Elt Ideal) ((c.tc : Thread Cert.Kernel6Ideal.nD Cert.Kernel6Ideal.τ).loc Cert.Kernel6Ideal.main_v4_2)) (v3 : (c : Dev Cert.Kernel6Ideal.nD) → Buf (Elt Ideal) ((c.tc : Thread Cert.Kernel6Ideal.nD Cert.Kernel6Ideal.τ).loc Cert.Kernel6Ideal.main_v4_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_v4_2) = v2 c
          ∧ r.2.mem ((c.tc : Thread Cert.Kernel6Ideal.nD Cert.Kernel6Ideal.τ).loc Cert.Kernel6Ideal.main_v4_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v21) = v0 c
          ∧ r.2.mem ((c.tc : Thread Cert.Reference6Ideal.nD Cert.Reference6Ideal.τ).loc Cert.Reference6Ideal.main_v22) = v1 c
          ∧ r.2.mem ((c.tc : Thread Cert.Reference6Ideal.nD Cert.Reference6Ideal.τ).loc Cert.Reference6Ideal.main_v23) = v2 c
          ∧ r.2.mem ((c.tc : Thread Cert.Reference6Ideal.nD Cert.Reference6Ideal.τ).loc Cert.Reference6Ideal.main_v24) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)) (v2 : (c : Dev Cert.Kernel8Ideal.nD) → Buf (Elt Ideal) ((c.tc : Thread Cert.Kernel8Ideal.nD Cert.Kernel8Ideal.τ).loc Cert.Kernel8Ideal.main_v2_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_v2_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v53) = v0 c
          ∧ r.2.mem ((c.tc : Thread Cert.Reference8Ideal.nD Cert.Reference8Ideal.τ).loc Cert.Reference8Ideal.main_v52) = v1 c
          ∧ r.2.mem ((c.tc : Thread Cert.Reference8Ideal.nD Cert.Reference8Ideal.τ).loc Cert.Reference8Ideal.main_v36) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v4_0)) (v1 : (c : Dev Cert.Kernel9Ideal.nD) → Buf (Elt Ideal) ((c.tc : Thread Cert.Kernel9Ideal.nD Cert.Kernel9Ideal.τ).loc Cert.Kernel9Ideal.main_v4_1)) (v2 : (c : Dev Cert.Kernel9Ideal.nD) → Buf (Elt Ideal) ((c.tc : Thread Cert.Kernel9Ideal.nD Cert.Kernel9Ideal.τ).loc Cert.Kernel9Ideal.main_v4_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4_0) = v0 c
          ∧ r.2.mem ((c.tc : Thread Cert.Kernel9Ideal.nD Cert.Kernel9Ideal.τ).loc Cert.Kernel9Ideal.main_v4_1) = v1 c
          ∧ r.2.mem ((c.tc : Thread Cert.Kernel9Ideal.nD Cert.Kernel9Ideal.τ).loc Cert.Kernel9Ideal.main_v4_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v13) = v0 c
          ∧ r.2.mem ((c.tc : Thread Cert.Reference9Ideal.nD Cert.Reference9Ideal.τ).loc Cert.Reference9Ideal.main_v14) = v1 c
          ∧ r.2.mem ((c.tc : Thread Cert.Reference9Ideal.nD Cert.Reference9Ideal.τ).loc Cert.Reference9Ideal.main_v15) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v6_0)) (v1 : (c : Dev Cert.Kernel10Ideal.nD) → Buf (Elt Ideal) ((c.tc : Thread Cert.Kernel10Ideal.nD Cert.Kernel10Ideal.τ).loc Cert.Kernel10Ideal.main_v6_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v6_0) = v0 c
          ∧ r.2.mem ((c.tc : Thread Cert.Kernel10Ideal.nD Cert.Kernel10Ideal.τ).loc Cert.Kernel10Ideal.main_v6_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v39) = v0 c
          ∧ r.2.mem ((c.tc : Thread Cert.Reference10Ideal.nD Cert.Reference10Ideal.τ).loc Cert.Reference10Ideal.main_v22) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v1) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0))

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v1) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0))

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v1) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0))

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v0) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0))

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v0) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0))

def algebraic_Kernel27Ideal_Reference27Ideal_pre_finite_heads [hKernel27Ideal : Cert.Kernel27Ideal.Facts] [hReference27Ideal : Cert.Reference27Ideal.Facts] [hPre_finite_heads : Cert.Pre_finite_heads.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal_finite_heads m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)
      ∧ m' ((c.tc : Thread Cert.Reference27Ideal.nD Cert.Reference27Ideal.τ).loc Cert.Reference27Ideal.main_arg5) = m ((c.tc : Thread Cert.Kernel27Ideal.nD Cert.Kernel27Ideal.τ).loc Cert.Kernel27Ideal.main_arg5)
      ∧ m' ((c.tc : Thread Cert.Reference27Ideal.nD Cert.Reference27Ideal.τ).loc Cert.Reference27Ideal.main_arg6) = m ((c.tc : Thread Cert.Kernel27Ideal.nD Cert.Kernel27Ideal.τ).loc Cert.Kernel27Ideal.main_arg6)
      ∧ m' ((c.tc : Thread Cert.Reference27Ideal.nD Cert.Reference27Ideal.τ).loc Cert.Reference27Ideal.main_arg7) = m ((c.tc : Thread Cert.Kernel27Ideal.nD Cert.Kernel27Ideal.τ).loc Cert.Kernel27Ideal.main_arg7)) →
    ∃ (v0 : (c : Dev Cert.Kernel27Ideal.nD) → Buf (Elt Ideal) ((c.tc : Thread Cert.Kernel27Ideal.nD Cert.Kernel27Ideal.τ).loc Cert.Kernel27Ideal.main_v53_0)) (v1 : (c : Dev Cert.Kernel27Ideal.nD) → Buf (Elt Ideal) ((c.tc : Thread Cert.Kernel27Ideal.nD Cert.Kernel27Ideal.τ).loc Cert.Kernel27Ideal.main_v53_1)) (v2 : (c : Dev Cert.Kernel27Ideal.nD) → Buf (Elt Ideal) ((c.tc : Thread Cert.Kernel27Ideal.nD Cert.Kernel27Ideal.τ).loc Cert.Kernel27Ideal.main_v53_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v53_0) = v0 c
          ∧ r.2.mem ((c.tc : Thread Cert.Kernel27Ideal.nD Cert.Kernel27Ideal.τ).loc Cert.Kernel27Ideal.main_v53_1) = v1 c
          ∧ r.2.mem ((c.tc : Thread Cert.Kernel27Ideal.nD Cert.Kernel27Ideal.τ).loc Cert.Kernel27Ideal.main_v53_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
          ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5)
          ∧ r.2.mem ((c.tc : Thread Cert.Kernel27Ideal.nD Cert.Kernel27Ideal.τ).loc Cert.Kernel27Ideal.main_arg6) = m ((c.tc : Thread Cert.Kernel27Ideal.nD Cert.Kernel27Ideal.τ).loc Cert.Kernel27Ideal.main_arg6)
          ∧ r.2.mem ((c.tc : Thread Cert.Kernel27Ideal.nD Cert.Kernel27Ideal.τ).loc Cert.Kernel27Ideal.main_arg7) = m ((c.tc : Thread Cert.Kernel27Ideal.nD Cert.Kernel27Ideal.τ).loc Cert.Kernel27Ideal.main_arg7))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v176) = v0 c
          ∧ r.2.mem ((c.tc : Thread Cert.Reference27Ideal.nD Cert.Reference27Ideal.τ).loc Cert.Reference27Ideal.main_v177) = v1 c
          ∧ r.2.mem ((c.tc : Thread Cert.Reference27Ideal.nD Cert.Reference27Ideal.τ).loc Cert.Reference27Ideal.main_v178) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4)
          ∧ r.2.mem ((c.tc : Thread Cert.Reference27Ideal.nD Cert.Reference27Ideal.τ).loc Cert.Reference27Ideal.main_arg5) = m' ((c.tc : Thread Cert.Reference27Ideal.nD Cert.Reference27Ideal.τ).loc Cert.Reference27Ideal.main_arg5)
          ∧ r.2.mem ((c.tc : Thread Cert.Reference27Ideal.nD Cert.Reference27Ideal.τ).loc Cert.Reference27Ideal.main_arg6) = m' ((c.tc : Thread Cert.Reference27Ideal.nD Cert.Reference27Ideal.τ).loc Cert.Reference27Ideal.main_arg6)
          ∧ r.2.mem ((c.tc : Thread Cert.Reference27Ideal.nD Cert.Reference27Ideal.τ).loc Cert.Reference27Ideal.main_arg7) = m' ((c.tc : Thread Cert.Reference27Ideal.nD Cert.Reference27Ideal.τ).loc Cert.Reference27Ideal.main_arg7))

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)
      ∧ m' ((c.tc : Thread Cert.Reference28Ideal.nD Cert.Reference28Ideal.τ).loc Cert.Reference28Ideal.main_arg4) = m ((c.tc : Thread Cert.Kernel28Ideal.nD Cert.Kernel28Ideal.τ).loc Cert.Kernel28Ideal.main_arg4)
      ∧ m' ((c.tc : Thread Cert.Reference28Ideal.nD Cert.Reference28Ideal.τ).loc Cert.Reference28Ideal.main_arg5) = m ((c.tc : Thread Cert.Kernel28Ideal.nD Cert.Kernel28Ideal.τ).loc Cert.Kernel28Ideal.main_arg5)
      ∧ m' ((c.tc : Thread Cert.Reference28Ideal.nD Cert.Reference28Ideal.τ).loc Cert.Reference28Ideal.main_arg6) = m ((c.tc : Thread Cert.Kernel28Ideal.nD Cert.Kernel28Ideal.τ).loc Cert.Kernel28Ideal.main_arg6)
      ∧ m' ((c.tc : Thread Cert.Reference28Ideal.nD Cert.Reference28Ideal.τ).loc Cert.Reference28Ideal.main_arg7) = m ((c.tc : Thread Cert.Kernel28Ideal.nD Cert.Kernel28Ideal.τ).loc Cert.Kernel28Ideal.main_arg7)
      ∧ m' ((c.tc : Thread Cert.Reference28Ideal.nD Cert.Reference28Ideal.τ).loc Cert.Reference28Ideal.main_arg8) = m ((c.tc : Thread Cert.Kernel28Ideal.nD Cert.Kernel28Ideal.τ).loc Cert.Kernel28Ideal.main_arg8)) →
    ∃ (v0 : (c : Dev Cert.Kernel28Ideal.nD) → Buf (Elt Ideal) ((c.tc : Thread Cert.Kernel28Ideal.nD Cert.Kernel28Ideal.τ).loc Cert.Kernel28Ideal.main_v9_0)) (v1 : (c : Dev Cert.Kernel28Ideal.nD) → Buf (Elt Ideal) ((c.tc : Thread Cert.Kernel28Ideal.nD Cert.Kernel28Ideal.τ).loc Cert.Kernel28Ideal.main_v9_1)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v9_0) = v0 c
          ∧ r.2.mem ((c.tc : Thread Cert.Kernel28Ideal.nD Cert.Kernel28Ideal.τ).loc Cert.Kernel28Ideal.main_v9_1) = v1 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
          ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
          ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5)
          ∧ r.2.mem ((c.tc : Thread Cert.Kernel28Ideal.nD Cert.Kernel28Ideal.τ).loc Cert.Kernel28Ideal.main_arg6) = m ((c.tc : Thread Cert.Kernel28Ideal.nD Cert.Kernel28Ideal.τ).loc Cert.Kernel28Ideal.main_arg6)
          ∧ r.2.mem ((c.tc : Thread Cert.Kernel28Ideal.nD Cert.Kernel28Ideal.τ).loc Cert.Kernel28Ideal.main_arg7) = m ((c.tc : Thread Cert.Kernel28Ideal.nD Cert.Kernel28Ideal.τ).loc Cert.Kernel28Ideal.main_arg7)
          ∧ r.2.mem ((c.tc : Thread Cert.Kernel28Ideal.nD Cert.Kernel28Ideal.τ).loc Cert.Kernel28Ideal.main_arg8) = m ((c.tc : Thread Cert.Kernel28Ideal.nD Cert.Kernel28Ideal.τ).loc Cert.Kernel28Ideal.main_arg8))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v62) = v0 c
          ∧ r.2.mem ((c.tc : Thread Cert.Reference28Ideal.nD Cert.Reference28Ideal.τ).loc Cert.Reference28Ideal.main_v63) = v1 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3)
          ∧ r.2.mem ((c.tc : Thread Cert.Reference28Ideal.nD Cert.Reference28Ideal.τ).loc Cert.Reference28Ideal.main_arg4) = m' ((c.tc : Thread Cert.Reference28Ideal.nD Cert.Reference28Ideal.τ).loc Cert.Reference28Ideal.main_arg4)
          ∧ r.2.mem ((c.tc : Thread Cert.Reference28Ideal.nD Cert.Reference28Ideal.τ).loc Cert.Reference28Ideal.main_arg5) = m' ((c.tc : Thread Cert.Reference28Ideal.nD Cert.Reference28Ideal.τ).loc Cert.Reference28Ideal.main_arg5)
          ∧ r.2.mem ((c.tc : Thread Cert.Reference28Ideal.nD Cert.Reference28Ideal.τ).loc Cert.Reference28Ideal.main_arg6) = m' ((c.tc : Thread Cert.Reference28Ideal.nD Cert.Reference28Ideal.τ).loc Cert.Reference28Ideal.main_arg6)
          ∧ r.2.mem ((c.tc : Thread Cert.Reference28Ideal.nD Cert.Reference28Ideal.τ).loc Cert.Reference28Ideal.main_arg7) = m' ((c.tc : Thread Cert.Reference28Ideal.nD Cert.Reference28Ideal.τ).loc Cert.Reference28Ideal.main_arg7)
          ∧ r.2.mem ((c.tc : Thread Cert.Reference28Ideal.nD Cert.Reference28Ideal.τ).loc Cert.Reference28Ideal.main_arg8) = m' ((c.tc : Thread Cert.Reference28Ideal.nD Cert.Reference28Ideal.τ).loc Cert.Reference28Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hPre_finite : Cert.Pre_finite.Facts) (hPre_finite_activation : Cert.Pre_finite_activation.Facts) (hPre_finite_up : Cert.Pre_finite_up.Facts) (hPre_finite_heads : Cert.Pre_finite_heads.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite_activation (hKernel2Ideal := hKernel2Ideal) (hPre_finite_activation := hPre_finite_activation)
    ∧ quiescent_Reference2Ideal (hReference2Ideal := hReference2Ideal)
    ∧ quiescent_Reference2Ideal_pre_finite_activation (hReference2Ideal := hReference2Ideal) (hPre_finite_activation := hPre_finite_activation)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_up (hKernel6Ideal := hKernel6Ideal) (hPre_finite_up := hPre_finite_up)
    ∧ quiescent_Reference6Ideal (hReference6Ideal := hReference6Ideal)
    ∧ quiescent_Reference6Ideal_pre_finite_up (hReference6Ideal := hReference6Ideal) (hPre_finite_up := hPre_finite_up)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Kernel27Ideal_pre_finite_heads (hKernel27Ideal := hKernel27Ideal) (hPre_finite_heads := hPre_finite_heads)
    ∧ quiescent_Reference27Ideal (hReference27Ideal := hReference27Ideal)
    ∧ quiescent_Reference27Ideal_pre_finite_heads (hReference27Ideal := hReference27Ideal) (hPre_finite_heads := hPre_finite_heads)
    ∧ quiescent_Kernel28 (hKernel28 := hKernel28)
    ∧ quiescent_Kernel28Ideal (hKernel28Ideal := hKernel28Ideal)
    ∧ quiescent_Reference28Ideal (hReference28Ideal := hReference28Ideal)
    ∧ preserves_Kernel_KernelIdeal
    ∧ preserves_Kernel2_Kernel2Ideal
    ∧ preserves_Kernel3_Kernel3Ideal
    ∧ preserves_Kernel4_Kernel4Ideal
    ∧ preserves_Kernel5_Kernel5Ideal
    ∧ preserves_Kernel6_Kernel6Ideal
    ∧ preserves_Kernel7_Kernel7Ideal
    ∧ preserves_Kernel8_Kernel8Ideal
    ∧ preserves_Kernel9_Kernel9Ideal
    ∧ preserves_Kernel10_Kernel10Ideal
    ∧ preserves_Kernel11_Kernel11Ideal
    ∧ preserves_Kernel12_Kernel12Ideal
    ∧ preserves_Kernel13_Kernel13Ideal
    ∧ preserves_Kernel14_Kernel14Ideal
    ∧ preserves_Kernel15_Kernel15Ideal
    ∧ preserves_Kernel16_Kernel16Ideal
    ∧ preserves_Kernel17_Kernel17Ideal
    ∧ preserves_Kernel18_Kernel18Ideal
    ∧ preserves_Kernel19_Kernel19Ideal
    ∧ preserves_Kernel20_Kernel20Ideal
    ∧ preserves_Kernel21_Kernel21Ideal
    ∧ preserves_Kernel22_Kernel22Ideal
    ∧ preserves_Kernel23_Kernel23Ideal
    ∧ preserves_Kernel24_Kernel24Ideal
    ∧ preserves_Kernel25_Kernel25Ideal
    ∧ preserves_Kernel26_Kernel26Ideal
    ∧ preserves_Kernel27_Kernel27Ideal
    ∧ preserves_Kernel28_Kernel28Ideal
    ∧ algebraic_KernelIdeal_ReferenceIdeal_pre_finite (hKernelIdeal := hKernelIdeal) (hReferenceIdeal := hReferenceIdeal) (hPre_finite := hPre_finite)
    ∧ algebraic_Kernel2Ideal_Reference2Ideal_pre_finite_activation (hKernel2Ideal := hKernel2Ideal) (hReference2Ideal := hReference2Ideal) (hPre_finite_activation := hPre_finite_activation)
    ∧ algebraic_Kernel3Ideal_Reference3Ideal (hKernel3Ideal := hKernel3Ideal) (hReference3Ideal := hReference3Ideal)
    ∧ algebraic_Kernel4Ideal_Reference4Ideal (hKernel4Ideal := hKernel4Ideal) (hReference4Ideal := hReference4Ideal)
    ∧ algebraic_Kernel5Ideal_Reference5Ideal (hKernel5Ideal := hKernel5Ideal) (hReference5Ideal := hReference5Ideal)
    ∧ algebraic_Kernel6Ideal_Reference6Ideal_pre_finite_up (hKernel6Ideal := hKernel6Ideal) (hReference6Ideal := hReference6Ideal) (hPre_finite_up := hPre_finite_up)
    ∧ algebraic_Kernel7Ideal_Reference7Ideal (hKernel7Ideal := hKernel7Ideal) (hReference7Ideal := hReference7Ideal)
    ∧ algebraic_Kernel8Ideal_Reference8Ideal (hKernel8Ideal := hKernel8Ideal) (hReference8Ideal := hReference8Ideal)
    ∧ algebraic_Kernel9Ideal_Reference9Ideal (hKernel9Ideal := hKernel9Ideal) (hReference9Ideal := hReference9Ideal)
    ∧ algebraic_Kernel10Ideal_Reference10Ideal (hKernel10Ideal := hKernel10Ideal) (hReference10Ideal := hReference10Ideal)
    ∧ algebraic_Kernel11Ideal_Reference11Ideal (hKernel11Ideal := hKernel11Ideal) (hReference11Ideal := hReference11Ideal)
    ∧ algebraic_Kernel12Ideal_Reference12Ideal (hKernel12Ideal := hKernel12Ideal) (hReference12Ideal := hReference12Ideal)
    ∧ algebraic_Kernel13Ideal_Reference13Ideal (hKernel13Ideal := hKernel13Ideal) (hReference13Ideal := hReference13Ideal)
    ∧ algebraic_Kernel14Ideal_Reference14Ideal (hKernel14Ideal := hKernel14Ideal) (hReference14Ideal := hReference14Ideal)
    ∧ algebraic_Kernel15Ideal_Reference15Ideal (hKernel15Ideal := hKernel15Ideal) (hReference15Ideal := hReference15Ideal)
    ∧ algebraic_Kernel16Ideal_Reference16Ideal (hKernel16Ideal := hKernel16Ideal) (hReference16Ideal := hReference16Ideal)
    ∧ algebraic_Kernel17Ideal_Reference17Ideal (hKernel17Ideal := hKernel17Ideal) (hReference17Ideal := hReference17Ideal)
    ∧ algebraic_Kernel18Ideal_Reference18Ideal (hKernel18Ideal := hKernel18Ideal) (hReference18Ideal := hReference18Ideal)
    ∧ algebraic_Kernel19Ideal_Reference19Ideal (hKernel19Ideal := hKernel19Ideal) (hReference19Ideal := hReference19Ideal)
    ∧ algebraic_Kernel20Ideal_Reference20Ideal (hKernel20Ideal := hKernel20Ideal) (hReference20Ideal := hReference20Ideal)
    ∧ algebraic_Kernel21Ideal_Reference21Ideal (hKernel21Ideal := hKernel21Ideal) (hReference21Ideal := hReference21Ideal)
    ∧ algebraic_Kernel22Ideal_Reference22Ideal (hKernel22Ideal := hKernel22Ideal) (hReference22Ideal := hReference22Ideal)
    ∧ algebraic_Kernel23Ideal_Reference23Ideal (hKernel23Ideal := hKernel23Ideal) (hReference23Ideal := hReference23Ideal)
    ∧ algebraic_Kernel24Ideal_Reference24Ideal (hKernel24Ideal := hKernel24Ideal) (hReference24Ideal := hReference24Ideal)
    ∧ algebraic_Kernel25Ideal_Reference25Ideal (hKernel25Ideal := hKernel25Ideal) (hReference25Ideal := hReference25Ideal)
    ∧ algebraic_Kernel26Ideal_Reference26Ideal (hKernel26Ideal := hKernel26Ideal) (hReference26Ideal := hReference26Ideal)
    ∧ algebraic_Kernel27Ideal_Reference27Ideal_pre_finite_heads (hKernel27Ideal := hKernel27Ideal) (hReference27Ideal := hReference27Ideal) (hPre_finite_heads := hPre_finite_heads)
    ∧ algebraic_Kernel28Ideal_Reference28Ideal (hKernel28Ideal := hKernel28Ideal) (hReference28Ideal := hReference28Ideal)
-- ==== Pre_finite.lean ====
abbrev S1x8192x8x64 : Shape := ⟨4, ![1, 8192, 8, 64]⟩
abbrev S1x8192x2x64 : Shape := ⟨4, ![1, 8192, 2, 64]⟩
abbrev S1x8192x512 : Shape := ⟨3, ![1, 8192, 512]⟩
abbrev S_ : Shape := ⟨0, ![]⟩

class Facts : Prop where
  bcast_S_S1x8192x8x64 : S_.BroadcastsInDim S1x8192x8x64 (![] : Fin 0 → Fin S1x8192x8x64.rank)
  bcast_S_S1x8192x2x64 : S_.BroadcastsInDim S1x8192x2x64 (![] : Fin 0 → Fin S1x8192x2x64.rank)
  bcast_S_S1x8192x512 : S_.BroadcastsInDim S1x8192x512 (![] : Fin 0 → Fin S1x8192x512.rank)

variable [Facts]

def fn {F : FTy → Type} [FloatOps F] (main_arg0 : FVec F S1x8192x8x64 .f32) (main_arg1 : FVec F S1x8192x2x64 .f32) (main_arg2 : FVec F S1x8192x2x64 .f32) (main_arg3 : FVec F S1x8192x512 .f32) : IVec S1x8192x8x64 1 × IVec S1x8192x2x64 1 × IVec S1x8192x2x64 1 × IVec S1x8192x512 1 :=
  let main_v0 : FVec F S1x8192x8x64 .f32 := Host.absf main_arg0
  let main_cst : FVec F S_ .f32 := constant S_ .f32 0x7F800000#32
  let main_v1 : FVec F S1x8192x8x64 .f32 := broadcastInDim S1x8192x8x64 ![] bcast_S_S1x8192x8x64 main_cst
  let main_v2 : IVec S1x8192x8x64 1 := cmpf .olt main_v0 main_v1
  let main_v3 : FVec F S1x8192x2x64 .f32 := Host.absf main_arg1
  let main_cst_0 : FVec F S_ .f32 := constant S_ .f32 0x7F800000#32
  let main_v4 : FVec F S1x8192x2x64 .f32 := broadcastInDim S1x8192x2x64 ![] bcast_S_S1x8192x2x64 main_cst_0
  let main_v5 : IVec S1x8192x2x64 1 := cmpf .olt main_v3 main_v4
  let main_v6 : FVec F S1x8192x2x64 .f32 := Host.absf main_arg2
  let main_cst_1 : FVec F S_ .f32 := constant S_ .f32 0x7F800000#32
  let main_v7 : FVec F S1x8192x2x64 .f32 := broadcastInDim S1x8192x2x64 ![] bcast_S_S1x8192x2x64 main_cst_1
  let main_v8 : IVec S1x8192x2x64 1 := cmpf .olt main_v6 main_v7
  let main_v9 : FVec F S1x8192x512 .f32 := Host.absf main_arg3
  let main_cst_2 : FVec F S_ .f32 := constant S_ .f32 0x7F800000#32
  let main_v10 : FVec F S1x8192x512 .f32 := broadcastInDim S1x8192x512 ![] bcast_S_S1x8192x512 main_cst_2
  let main_v11 : IVec S1x8192x512 1 := cmpf .olt main_v9 main_v10
  (main_v2, main_v5, main_v8, main_v11)
-- ==== Pre_finite_activation.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩

class Facts : Prop where
  bcast_S_S8192x2816 : S_.BroadcastsInDim S8192x2816 (![] : Fin 0 → Fin S8192x2816.rank)
  bcast_S_S2816x1024 : S_.BroadcastsInDim S2816x1024 (![] : Fin 0 → Fin S2816x1024.rank)
  bcast_S_S8192x1024 : S_.BroadcastsInDim S8192x1024 (![] : Fin 0 → Fin S8192x1024.rank)

variable [Facts]

def fn {F : FTy → Type} [FloatOps F] (main_arg0 : FVec F S8192x2816 .f32) (main_arg1 : FVec F S8192x2816 .f32) (main_arg2 : FVec F S2816x1024 .f32) (main_arg3 : FVec F S8192x1024 .f32) : IVec S8192x2816 1 × IVec S2816x1024 1 × IVec S8192x1024 1 :=
  let main_v0 : FVec F S8192x2816 .f32 := Host.absf main_arg1
  let main_cst : FVec F S_ .f32 := constant S_ .f32 0x7F800000#32
  let main_v1 : FVec F S8192x2816 .f32 := broadcastInDim S8192x2816 ![] bcast_S_S8192x2816 main_cst
  let main_v2 : IVec S8192x2816 1 := cmpf .olt main_v0 main_v1
  let main_v3 : FVec F S2816x1024 .f32 := Host.absf main_arg2
  let main_cst_0 : FVec F S_ .f32 := constant S_ .f32 0x7F800000#32
  let main_v4 : FVec F S2816x1024 .f32 := broadcastInDim S2816x1024 ![] bcast_S_S2816x1024 main_cst_0
  let main_v5 : IVec S2816x1024 1 := cmpf .olt main_v3 main_v4
  let main_v6 : FVec F S8192x1024 .f32 := Host.absf main_arg3
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  (main_v2, main_v5, main_v8)
-- ==== Pre_finite_heads.lean ====
abbrev S8192x512 : Shape := ⟨2, ![8192, 512]⟩
abbrev S8192x128 : Shape := ⟨2, ![8192, 128]⟩
abbrev S8192x768 : Shape := ⟨2, ![8192, 768]⟩
abbrev S1x64 : Shape := ⟨2, ![1, 64]⟩
abbrev S8192x32 : Shape := ⟨2, ![8192, 32]⟩
abbrev S8192x640 : Shape := ⟨2, ![8192, 640]⟩
abbrev S_ : Shape := ⟨0, ![]⟩

class Facts : Prop where
  slices_S8192x768_S8192x640_0_0 : S8192x768.Slices ![0, 0] S8192x640
  bcast_S_S8192x512 : S_.BroadcastsInDim S8192x512 (![] : Fin 0 → Fin S8192x512.rank)
  bcast_S_S8192x128 : S_.BroadcastsInDim S8192x128 (![] : Fin 0 → Fin S8192x128.rank)
  bcast_S_S8192x640 : S_.BroadcastsInDim S8192x640 (![] : Fin 0 → Fin S8192x640.rank)
  bcast_S_S1x64 : S_.BroadcastsInDim S1x64 (![] : Fin 0 → Fin S1x64.rank)
  bcast_S_S8192x32 : S_.BroadcastsInDim S8192x32 (![] : Fin 0 → Fin S8192x32.rank)

variable [Facts]

def fn_part1 {F : FTy → Type} [FloatOps F] (main_arg7 : FVec F S8192x32 .f32) (main_v3 : IVec S8192x512 1) (main_v6 : IVec S8192x128 1) (main_v9 : IVec S8192x640 1) (main_v12 : IVec S1x64 1) (main_v15 : IVec S1x64 1) (main_v16 : FVec F S8192x32 .f32) (main_v17 : FVec F S8192x32 .f32) : IVec S8192x512 1 × IVec S8192x128 1 × IVec S8192x640 1 × IVec S1x64 1 × IVec S1x64 1 × IVec S8192x32 1 × IVec S8192x32 1 :=
  let main_v18 : IVec S8192x32 1 := cmpf .olt main_v16 main_v17
  let main_v19 : FVec F S8192x32 .f32 := Host.absf main_arg7
  let main_cst_5 : FVec F S_ .f32 := constant S_ .f32 0x7F800000#32
  let main_v20 : FVec F S8192x32 .f32 := broadcastInDim S8192x32 ![] bcast_S_S8192x32 main_cst_5
  let main_v21 : IVec S8192x32 1 := cmpf .olt main_v19 main_v20
  (main_v3, main_v6, main_v9, main_v12, main_v15, main_v18, main_v21)

def fn {F : FTy → Type} [FloatOps F] (main_arg0 : FVec F S8192x512 .f32) (main_arg1 : FVec F S8192x128 .f32) (main_arg2 : FVec F S8192x128 .f32) (main_arg3 : FVec F S8192x768 .f32) (main_arg4 : FVec F S1x64 .f32) (main_arg5 : FVec F S1x64 .f32) (main_arg6 : FVec F S8192x32 .f32) (main_arg7 : FVec F S8192x32 .f32) : IVec S8192x512 1 × IVec S8192x128 1 × IVec S8192x640 1 × IVec S1x64 1 × IVec S1x64 1 × IVec S8192x32 1 × IVec S8192x32 1 :=
  let main_v0 : FVec F S8192x640 .f32 := (extractStridedSlice S8192x640 ![0, 0] · slices_S8192x768_S8192x640_0_0) main_arg3
  let main_v1 : FVec F S8192x512 .f32 := Host.absf main_arg0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_v7 : FVec F S8192x640 .f32 := Host.absf main_v0
  let main_cst_1 : FVec F S_ .f32 := constant S_ .f32 0x7F800000#32
  let main_v8 : FVec F S8192x640 .f32 := broadcastInDim S8192x640 ![] bcast_S_S8192x640 main_cst_1
  let main_v9 : IVec S8192x640 1 := cmpf .olt main_v7 main_v8
  let main_v10 : FVec F S1x64 .f32 := Host.absf main_arg4
  let main_cst_2 : FVec F S_ .f32 := constant S_ .f32 0x7F800000#32
  let main_v11 : FVec F S1x64 .f32 := broadcastInDim S1x64 ![] bcast_S_S1x64 main_cst_2
  let main_v12 : IVec S1x64 1 := cmpf .olt main_v10 main_v11
  let main_v13 : FVec F S1x64 .f32 := Host.absf main_arg5
  let main_cst_3 : FVec F S_ .f32 := constant S_ .f32 0x7F800000#32
  let main_v14 : FVec F S1x64 .f32 := broadcastInDim S1x64 ![] bcast_S_S1x64 main_cst_3
  let main_v15 : IVec S1x64 1 := cmpf .olt main_v13 main_v14
  let main_v16 : FVec F S8192x32 .f32 := Host.absf main_arg6
  let main_cst_4 : FVec F S_ .f32 := constant S_ .f32 0x7F800000#32
  let main_v17 : FVec F S8192x32 .f32 := broadcastInDim S8192x32 ![] bcast_S_S8192x32 main_cst_4
  fn_part1 (F := F) main_arg7 main_v3 main_v6 main_v9 main_v12 main_v15 main_v16 main_v17
-- ==== Pre_finite_up.lean ====
abbrev S8192x1024 : Shape := ⟨2, ![8192, 1024]⟩
abbrev S1x1024 : Shape := ⟨2, ![1, 1024]⟩
abbrev S1024x2816 : Shape := ⟨2, ![1024, 2816]⟩
abbrev S_ : Shape := ⟨0, ![]⟩

class Facts : Prop where
  bcast_S_S1x1024 : S_.BroadcastsInDim S1x1024 (![] : Fin 0 → Fin S1x1024.rank)
  bcast_S_S1024x2816 : S_.BroadcastsInDim S1024x2816 (![] : Fin 0 → Fin S1024x2816.rank)

variable [Facts]

def fn {F : FTy → Type} [FloatOps F] (main_arg0 : FVec F S8192x1024 .f32) (main_arg1 : FVec F S1x1024 .f32) (main_arg2 : FVec F S1024x2816 .f32) (main_arg3 : FVec F S1024x2816 .f32) : IVec S1x1024 1 × IVec S1024x2816 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S1024x2816 .f32 := Host.absf main_arg3
  let main_cst_0 : FVec F S_ .f32 := constant S_ .f32 0x7F800000#32
  let main_v4 : FVec F S1024x2816 .f32 := broadcastInDim S1024x2816 ![] bcast_S_S1024x2816 main_cst_0
  let main_v5 : IVec S1024x2816 1 := cmpf .olt main_v3 main_v4
  (main_v2, main_v5)
-- ==== Kernel.lean ====
abbrev S1x8192x8x64 : Shape := ⟨4, ![1, 8192, 8, 64]⟩
abbrev S1x8192x2x64 : Shape := ⟨4, ![1, 8192, 2, 64]⟩
abbrev S1x8192x512 : Shape := ⟨3, ![1, 8192, 512]⟩
abbrev S1x8192x2x4x64 : Shape := ⟨5, ![1, 8192, 2, 4, 64]⟩
abbrev S1x2x8192x8192x4 : Shape := ⟨5, ![1, 2, 8192, 8192, 4]⟩
abbrev S1x2x4x8192x8192 : Shape := ⟨5, ![1, 2, 4, 8192, 8192]⟩
abbrev S_ : Shape := ⟨0, ![]⟩
abbrev S1x2x4x8192 : Shape := ⟨4, ![1, 2, 4, 8192]⟩
abbrev S1x2x4x8192x1 : Shape := ⟨5, ![1, 2, 4, 8192, 1]⟩
abbrev S8x16x1x512 : Shape := ⟨4, ![8, 16, 1, 512]⟩
abbrev S1x2x64x4x8192 : Shape := ⟨5, ![1, 2, 64, 4, 8192]⟩
abbrev S1x8192x8 : Shape := ⟨3, ![1, 8192, 8]⟩
abbrev S8192x8 : Shape := ⟨2, ![8192, 8]⟩
abbrev S16x1x512x8 : Shape := ⟨4, ![16, 1, 512, 8]⟩
abbrev S8192x512 : Shape := ⟨2, ![8192, 512]⟩
abbrev S16x512x8x64 : Shape := ⟨4, ![16, 512, 8, 64]⟩
abbrev S8x16x64x512 : Shape := ⟨4, ![8, 16, 64, 512]⟩
abbrev S8x16x128x512 : Shape := ⟨4, ![8, 16, 128, 512]⟩
abbrev S8x16x512x128 : Shape := ⟨4, ![8, 16, 512, 128]⟩
abbrev S2x32x64x256 : Shape := ⟨4, ![2, 32, 64, 256]⟩
abbrev S8192x128 : Shape := ⟨2, ![8192, 128]⟩
abbrev S32x256x2x64 : Shape := ⟨4, ![32, 256, 2, 64]⟩
abbrev S2x32x128x256 : Shape := ⟨4, ![2, 32, 128, 256]⟩
abbrev S1x1x128x256 : Shape := ⟨4, ![1, 1, 128, 256]⟩
abbrev S4x16x512x128 : Shape := ⟨4, ![4, 16, 512, 128]⟩
abbrev S4x16x64x512 : Shape := ⟨4, ![4, 16, 64, 512]⟩
abbrev S1x1x64x256 : Shape := ⟨4, ![1, 1, 64, 256]⟩
abbrev S2x512x256 : Shape := ⟨3, ![2, 512, 256]⟩
abbrev S128x256 : Shape := ⟨2, ![128, 256]⟩
abbrev S64x256 : Shape := ⟨2, ![64, 256]⟩
abbrev S1x1x512x128 : Shape := ⟨4, ![1, 1, 512, 128]⟩
abbrev S512x128 : Shape := ⟨2, ![512, 128]⟩
abbrev S512x256 : Shape := ⟨2, ![512, 256]⟩
abbrev S1x512x256 : Shape := ⟨3, ![1, 512, 256]⟩
abbrev S1x1x64x512 : Shape := ⟨4, ![1, 1, 64, 512]⟩
abbrev S64x512 : Shape := ⟨2, ![64, 512]⟩

abbrev nBuf : Space → Nat
  | .hbm => 137
  | .vmem => 18
  | .smem => 0
  | _ => 0

abbrev hbmTy0_0 (i : Nat) : BufTy := match i % 128 with
  | 0 => ⟨S1x8192x8x64, .f32⟩
  | 1 => ⟨S1x8192x2x64, .f32⟩
  | 2 => ⟨S1x8192x2x64, .f32⟩
  | 3 => ⟨S1x8192x512, .f32⟩
  | 4 => ⟨S1x8192x2x4x64, .f32⟩
  | 5 => ⟨S1x2x8192x8192x4, .f32⟩
  | 6 => ⟨S1x2x4x8192x8192, .f32⟩
  | 7 => ⟨S_, .f32⟩
  | 8 => ⟨S1x2x4x8192x8192, .f32⟩
  | 9 => ⟨S1x2x4x8192x8192, .f32⟩
  | 10 => ⟨S_, .f32⟩
  | 11 => ⟨S1x2x4x8192, .f32⟩
  | 12 => ⟨S1x2x4x8192x1, .f32⟩
  | 13 => ⟨S1x2x4x8192x8192, .f32⟩
  | 14 => ⟨S1x2x4x8192x8192, .f32⟩
  | 15 => ⟨S1x2x4x8192x8192, .f32⟩
  | 16 => ⟨S_, .f32⟩
  | 17 => ⟨S1x2x4x8192, .f32⟩
  | 18 => ⟨S1x2x4x8192x1, .f32⟩
  | 19 => ⟨S_, .f32⟩
  | 20 => ⟨S_, .f32⟩
  | 21 => ⟨S_, .f32⟩
  | 22 => ⟨S_, .f32⟩
  | 23 => ⟨S1x2x4x8192x1, .f32⟩
  | 24 => ⟨S1x2x4x8192x1, .f32⟩
  | 25 => ⟨S1x2x4x8192x1, .f32⟩
  | 26 => ⟨S1x2x4x8192x1, .f32⟩
  | 27 => ⟨S8x16x1x512, .f32⟩
  | 28 => ⟨S1x2x4x8192x8192, .f32⟩
  | 29 => ⟨S1x2x4x8192x8192, .f32⟩
  | 30 => ⟨S1x2x64x4x8192, .f32⟩
  | 31 => ⟨S1x8192x2x4x64, .f32⟩
  | 32 => ⟨S1x8192x8x64, .f32⟩
  | 33 => ⟨S1x8192x8x64, .f32⟩
  | 34 => ⟨S1x8192x8x64, .f32⟩
  | 35 => ⟨S_, .f32⟩
  | 36 => ⟨S1x8192x8, .f32⟩
  | 37 => ⟨S8192x8, .f32⟩
  | 38 => ⟨S16x1x512x8, .f32⟩
  | 39 => ⟨S8x16x1x512, .f32⟩
  | 40 => ⟨S_, .f32⟩
  | 41 => ⟨S_, .f32⟩
  | 42 => ⟨S1x8192x8x64, .f32⟩
  | 43 => ⟨S1x8192x8x64, .f32⟩
  | 44 => ⟨S8192x512, .f32⟩
  | 45 => ⟨S16x512x8x64, .f32⟩
  | 46 => ⟨S8x16x64x512, .f32⟩
  | 47 => ⟨S8192x512, .f32⟩
  | 48 => ⟨S16x512x8x64, .f32⟩
  | 49 => ⟨S8x16x64x512, .f32⟩
  | 50 => ⟨S8x16x1x512, .bf16⟩
  | 51 => ⟨S8x16x1x512, .f32⟩
  | 52 => ⟨S8x16x1x512, .f32⟩
  | 53 => ⟨S8x16x64x512, .i32⟩
  | 54 => ⟨S_, .i32⟩
  | 55 => ⟨S8x16x64x512, .i32⟩
  | 56 => ⟨S8x16x64x512, .i1⟩
  | 57 => ⟨S_, .i32⟩
  | 58 => ⟨S8x16x64x512, .i32⟩
  | 59 => ⟨S8x16x64x512, .i1⟩
  | 60 => ⟨S_, .f32⟩
  | 61 => ⟨S_, .f32⟩
  | 62 => ⟨S8x16x64x512, .f32⟩
  | 63 => ⟨S8x16x64x512, .f32⟩
  | 64 => ⟨S8x16x64x512, .f32⟩
  | 65 => ⟨S8x16x64x512, .f32⟩
  | 66 => ⟨S8x16x64x512, .f32⟩
  | 67 => ⟨S8x16x128x512, .f32⟩
  | 68 => ⟨S8x16x512x128, .f32⟩
  | 69 => ⟨S8x16x512x128, .bf16⟩
  | 70 => ⟨S8x16x1x512, .bf16⟩
  | 71 => ⟨S8x16x1x512, .f32⟩
  | 72 => ⟨S8x16x1x512, .f32⟩
  | 73 => ⟨S8x16x64x512, .i32⟩
  | 74 => ⟨S_, .i32⟩
  | 75 => ⟨S8x16x64x512, .i32⟩
  | 76 => ⟨S8x16x64x512, .i1⟩
  | 77 => ⟨S_, .i32⟩
  | 78 => ⟨S8x16x64x512, .i32⟩
  | 79 => ⟨S8x16x64x512, .i1⟩
  | 80 => ⟨S_, .f32⟩
  | 81 => ⟨S_, .f32⟩
  | 82 => ⟨S8x16x64x512, .f32⟩
  | 83 => ⟨S8x16x64x512, .f32⟩
  | 84 => ⟨S8x16x64x512, .f32⟩
  | 85 => ⟨S8x16x64x512, .f32⟩
  | 86 => ⟨S8x16x64x512, .f32⟩
  | 87 => ⟨S8x16x128x512, .f32⟩
  | 88 => ⟨S8x16x512x128, .f32⟩
  | 89 => ⟨S8x16x512x128, .bf16⟩
  | 90 => ⟨S8x16x64x512, .bf16⟩
  | 91 => ⟨S8x16x64x512, .bf16⟩
  | 92 => ⟨S2x32x64x256, .i32⟩
  | 93 => ⟨S_, .i32⟩
  | 94 => ⟨S2x32x64x256, .i32⟩
  | 95 => ⟨S2x32x64x256, .i1⟩
  | 96 => ⟨S_, .i32⟩
  | 97 => ⟨S2x32x64x256, .i32⟩
  | 98 => ⟨S2x32x64x256, .i1⟩
  | 99 => ⟨S_, .f32⟩
  | 100 => ⟨S_, .f32⟩
  | 101 => ⟨S2x32x64x256, .f32⟩
  | 102 => ⟨S2x32x64x256, .f32⟩
  | 103 => ⟨S2x32x64x256, .f32⟩
  | 104 => ⟨S_, .f32⟩
  | 105 => ⟨S2x32x64x256, .f32⟩
  | 106 => ⟨S2x32x64x256, .f32⟩
  | 107 => ⟨S8192x128, .f32⟩
  | 108 => ⟨S32x256x2x64, .f32⟩
  | 109 => ⟨S2x32x64x256, .f32⟩
  | 110 => ⟨S2x32x64x256, .f32⟩
  | 111 => ⟨S2x32x128x256, .f32⟩
  | 112 => ⟨S2x32x128x256, .bf16⟩
  | 113 => ⟨S2x32x64x256, .i32⟩
  | 114 => ⟨S_, .i32⟩
  | 115 => ⟨S2x32x64x256, .i32⟩
  | 116 => ⟨S2x32x64x256, .i1⟩
  | 117 => ⟨S_, .i32⟩
  | 118 => ⟨S2x32x64x256, .i32⟩
  | 119 => ⟨S2x32x64x256, .i1⟩
  | 120 => ⟨S_, .f32⟩
  | 121 => ⟨S_, .f32⟩
  | 122 => ⟨S2x32x64x256, .f32⟩
  | 123 => ⟨S2x32x64x256, .f32⟩
  | 124 => ⟨S2x32x64x256, .f32⟩
  | 125 => ⟨S_, .f32⟩
  | 126 => ⟨S2x32x64x256, .f32⟩
  | 127 => ⟨S2x32x64x256, .f32⟩
  | _ => ⟨S1x8192x8x64, .f32⟩

abbrev hbmTy0_1 (i : Nat) : BufTy := match i % 128 with
  | 0 => ⟨S8192x128, .f32⟩
  | 1 => ⟨S32x256x2x64, .f32⟩
  | 2 => ⟨S2x32x64x256, .f32⟩
  | 3 => ⟨S2x32x64x256, .f32⟩
  | 4 => ⟨S2x32x128x256, .f32⟩
  | 5 => ⟨S2x32x128x256, .bf16⟩
  | 6 => ⟨S8x16x64x512, .f32⟩
  | 7 => ⟨S2x32x64x256, .f32⟩
  | 8 => ⟨S2x32x64x256, .f32⟩
  | _ => ⟨S1x8192x8x64, .f32⟩

abbrev hbmTy (i : Nat) : BufTy := match i / 128 with
  | 0 => hbmTy0_0 i
  | 1 => hbmTy0_1 i
  | _ => ⟨S1x8192x8x64, .f32⟩

abbrev bufTy : (tb : Table) → Fin (tcTables nBuf tb) → BufTy
  | .hbm, ⟨i, _⟩ => hbmTy i
  | .local _ .vmem, ⟨0, _⟩ => ⟨S1x1x128x256, .bf16⟩
  | .local _ .vmem, ⟨1, _⟩ => ⟨S1x1x128x256, .bf16⟩
  | .local _ .vmem, ⟨2, _⟩ => ⟨S4x16x512x128, .bf16⟩
  | .local _ .vmem, ⟨3, _⟩ => ⟨S4x16x512x128, .bf16⟩
  | .local _ .vmem, ⟨4, _⟩ => ⟨S4x16x64x512, .bf16⟩
  | .local _ .vmem, ⟨5, _⟩ => ⟨S4x16x64x512, .bf16⟩
  | .local _ .vmem, ⟨6, _⟩ => ⟨S1x1x128x256, .bf16⟩
  | .local _ .vmem, ⟨7, _⟩ => ⟨S1x1x128x256, .bf16⟩
  | .local _ .vmem, ⟨8, _⟩ => ⟨S4x16x64x512, .f32⟩
  | .local _ .vmem, ⟨9, _⟩ => ⟨S4x16x64x512, .f32⟩
  | .local _ .vmem, ⟨10, _⟩ => ⟨S1x1x64x256, .f32⟩
  | .local _ .vmem, ⟨11, _⟩ => ⟨S1x1x64x256, .f32⟩
  | .local _ .vmem, ⟨12, _⟩ => ⟨S1x1x64x256, .f32⟩
  | .local _ .vmem, ⟨13, _⟩ => ⟨S1x1x64x256, .f32⟩
  | .local _ .vmem, ⟨14, _⟩ => ⟨S2x512x256, .f32⟩
  | .local _ .vmem, ⟨15, _⟩ => ⟨S2x512x256, .f32⟩
  | .local _ .vmem, ⟨16, _⟩ => ⟨S2x512x256, .bf16⟩
  | .local _ .vmem, ⟨17, _⟩ => ⟨S2x512x256, .bf16⟩
  | _, _ => ⟨S1x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_c : Ref sig .tc := ⟨.hbm, 54, rfl⟩
abbrev main_v43 : Ref sig .tc := ⟨.hbm, 55, rfl⟩
abbrev main_v44 : Ref sig .tc := ⟨.hbm, 56, rfl⟩
abbrev main_c_6 : Ref sig .tc := ⟨.hbm, 57, rfl⟩
abbrev main_v45 : Ref sig .tc := ⟨.hbm, 58, rfl⟩
abbrev main_v46 : Ref sig .tc := ⟨.hbm, 59, rfl⟩
abbrev main_cst_7 : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_v47 : Ref sig .tc := ⟨.hbm, 64, rfl⟩
abbrev main_call1_v0 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_c_8 : Ref sig .tc := ⟨.hbm, 74, rfl⟩
abbrev main_v56 : Ref sig .tc := ⟨.hbm, 75, rfl⟩
abbrev main_v57 : Ref sig .tc := ⟨.hbm, 76, rfl⟩
abbrev main_c_9 : Ref sig .tc := ⟨.hbm, 77, rfl⟩
abbrev main_v58 : Ref sig .tc := ⟨.hbm, 78, rfl⟩
abbrev main_v59 : Ref sig .tc := ⟨.hbm, 79, rfl⟩
abbrev main_cst_10 : Ref sig .tc := ⟨.hbm, 80, rfl⟩
abbrev main_call2_v0 : Ref sig .tc := ⟨.hbm, 81, rfl⟩
abbrev main_call2_v1 : Ref sig .tc := ⟨.hbm, 82, rfl⟩
abbrev main_call2_v2 : Ref sig .tc := ⟨.hbm, 83, rfl⟩
abbrev main_v60 : Ref sig .tc := ⟨.hbm, 84, rfl⟩
abbrev main_call3_v0 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_11 : Ref sig .tc := ⟨.hbm, 93, rfl⟩
abbrev main_v68 : Ref sig .tc := ⟨.hbm, 94, rfl⟩
abbrev main_v69 : Ref sig .tc := ⟨.hbm, 95, rfl⟩
abbrev main_c_12 : Ref sig .tc := ⟨.hbm, 96, rfl⟩
abbrev main_v70 : Ref sig .tc := ⟨.hbm, 97, rfl⟩
abbrev main_v71 : Ref sig .tc := ⟨.hbm, 98, rfl⟩
abbrev main_cst_13 : Ref sig .tc := ⟨.hbm, 99, rfl⟩
abbrev main_cst_14 : Ref sig .tc := ⟨.hbm, 100, rfl⟩
abbrev main_call4_v0 : Ref sig .tc := ⟨.hbm, 101, rfl⟩
abbrev main_call4_v1 : Ref sig .tc := ⟨.hbm, 102, rfl⟩
abbrev main_v72 : Ref sig .tc := ⟨.hbm, 103, rfl⟩
abbrev main_cst_15 : Ref sig .tc := ⟨.hbm, 104, rfl⟩
abbrev main_call5_v0 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_c_16 : Ref sig .tc := ⟨.hbm, 114, rfl⟩
abbrev main_v81 : Ref sig .tc := ⟨.hbm, 115, rfl⟩
abbrev main_v82 : Ref sig .tc := ⟨.hbm, 116, rfl⟩
abbrev main_c_17 : Ref sig .tc := ⟨.hbm, 117, rfl⟩
abbrev main_v83 : Ref sig .tc := ⟨.hbm, 118, rfl⟩
abbrev main_v84 : Ref sig .tc := ⟨.hbm, 119, rfl⟩
abbrev main_cst_18 : Ref sig .tc := ⟨.hbm, 120, rfl⟩
abbrev main_cst_19 : Ref sig .tc := ⟨.hbm, 121, rfl⟩
abbrev main_call6_v0 : Ref sig .tc := ⟨.hbm, 122, rfl⟩
abbrev main_call6_v1 : Ref sig .tc := ⟨.hbm, 123, rfl⟩
abbrev main_v85 : Ref sig .tc := ⟨.hbm, 124, rfl⟩
abbrev main_cst_20 : Ref sig .tc := ⟨.hbm, 125, rfl⟩
abbrev main_call7_v0 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93_0 : Ref sig .tc := ⟨.hbm, 134, rfl⟩
abbrev main_v93_1 : Ref sig .tc := ⟨.hbm, 135, rfl⟩
abbrev main_v93_2 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32_31 : BitVec 32 := 0#32
  let c4_i32 : BitVec 32 := 4#32
  let v29 : BitVec 32 := Scalar.addi c0_i32_31 c4_i32
  let c1_i32 : BitVec 32 := 1#32
  ⟨c0_i32_31, v29, c1_i32⟩
def k0_off1 (k0_t1 : Fin k0_t1_loop.trips) (c0_i32_65 : BitVec 32) : Fin 4 → Nat :=
  let c16_i32 : BitVec 32 := 16#32
  let c0_i32_31 : BitVec 32 := 0#32
  let c1_i32 : BitVec 32 := 1#32
  let arg15 : BitVec 32 := Scf.iv c0_i32_31 c1_i32 k0_t1
  let v58 : BitVec 32 := Scalar.muli c16_i32 arg15
  let v59 : BitVec 32 := Scalar.addi v58 c0_i32_65
  let c1_i32_72 : BitVec 32 := 1#32
  let v64 : BitVec 32 := Scalar.subi v59 c1_i32_72
  let c0_i32_73 : BitVec 32 := 0#32
  let v65 : BitVec 32 := Scalar.maxsi v64 c0_i32_73
  let c0_i32_75 : BitVec 32 := 0#32
  let v67 : BitVec 1 := Scalar.cmpi .sgt v65 c0_i32_75
  let v68 : BitVec 32 := Scalar.extui v67
  let c0_i32_76 : BitVec 32 := 0#32
  let v69 : BitVec 1 := Scalar.cmpi .slt v65 c0_i32_76
  let v70 : BitVec 32 := Scalar.extui v69
  let v71 : BitVec 32 := Scalar.subi v68 v70
  let c16_i32_74 : BitVec 32 := 16#32
  let c0_i32_77 : BitVec 32 := 0#32
  let v72 : BitVec 1 := Scalar.cmpi .sgt c16_i32_74 c0_i32_77
  let v73 : BitVec 32 := Scalar.extui v72
  let c0_i32_78 : BitVec 32 := 0#32
  let v74 : BitVec 1 := Scalar.cmpi .slt c16_i32_74 c0_i32_78
  let v75 : BitVec 32 := Scalar.extui v74
  let v76 : BitVec 32 := Scalar.subi v73 v75
  let v77 : BitVec 1 := Scalar.cmpi .ne v71 v76
  let v78 : BitVec 32 := Scalar.remsi v65 c16_i32_74
  let c0_i32_79 : BitVec 32 := 0#32
  let v79 : BitVec 1 := Scalar.cmpi .ne v78 c0_i32_79
  let v80 : BitVec 1 := Scalar.andi v77 v79
  let v66 : BitVec 32 := Scalar.divsi v65 c16_i32_74
  let c1_i32_80 : BitVec 32 := 1#32
  let v81 : BitVec 32 := Scalar.subi v66 c1_i32_80
  let v82 : BitVec 32 := Scalar.select v80 v81 v66
  let v95 : Index := Scalar.indexCast v82
  let c16_i32_81 : BitVec 32 := 16#32
  let c0_i32_82 : BitVec 32 := 0#32
  let v83 : BitVec 1 := Scalar.cmpi .eq c16_i32_81 c0_i32_82
  let c1_i32_83 : BitVec 32 := 1#32
  let v84 : BitVec 32 := Scalar.select v83 c1_i32_83 c16_i32_81
  let v85 : BitVec 32 := Scalar.remsi v65 v84
  let c0_i32_85 : BitVec 32 := 0#32
  let v87 : BitVec 1 := Scalar.cmpi .slt v85 c0_i32_85
  let c0_i32_86 : BitVec 32 := 0#32
  let v88 : BitVec 1 := Scalar.cmpi .slt v84 c0_i32_86
  let v89 : BitVec 1 := Scalar.xori v87 v88
  let c0_i32_84 : BitVec 32 := 0#32
  let v86 : BitVec 1 := Scalar.cmpi .ne v85 c0_i32_84
  let v90 : BitVec 1 := Scalar.andi v89 v86
  let v91 : BitVec 32 := Scalar.addi v85 v84
  let v92 : BitVec 32 := Scalar.select v90 v91 v85
  let v96 : Index := Scalar.indexCast v92
  let c0_90 : Index := 0#32
  let c0_91 : Index := 0#32
  ![v95.toNat, v96.toNat, 0, 0]
def k0_off2 (k0_t1 : Fin k0_t1_loop.trips) (c0_i32_65 : BitVec 32) : Fin 4 → Nat :=
  let c16_i32 : BitVec 32 := 16#32
  let c0_i32_31 : BitVec 32 := 0#32
  let c1_i32 : BitVec 32 := 1#32
  let arg15 : BitVec 32 := Scf.iv c0_i32_31 c1_i32 k0_t1
  let v58 : BitVec 32 := Scalar.muli c16_i32 arg15
  let v59 : BitVec 32 := Scalar.addi v58 c0_i32_65
  let c1_i32_104 : BitVec 32 := 1#32
  let v120 : BitVec 32 := Scalar.addi v59 c1_i32_104
  let c63_i32 : BitVec 32 := 63#32
  let v121 : BitVec 32 := Scalar.minsi v120 c63_i32
  let c0_i32_106 : BitVec 32 := 0#32
  let v123 : BitVec 1 := Scalar.cmpi .sgt v121 c0_i32_106
  let v124 : BitVec 32 := Scalar.extui v123
  let c0_i32_107 : BitVec 32 := 0#32
  let v125 : BitVec 1 := Scalar.cmpi .slt v121 c0_i32_107
  let v126 : BitVec 32 := Scalar.extui v125
  let v127 : BitVec 32 := Scalar.subi v124 v126
  let c16_i32_105 : BitVec 32 := 16#32
  let c0_i32_108 : BitVec 32 := 0#32
  let v128 : BitVec 1 := Scalar.cmpi .sgt c16_i32_105 c0_i32_108
  let v129 : BitVec 32 := Scalar.extui v128
  let c0_i32_109 : BitVec 32 := 0#32
  let v130 : BitVec 1 := Scalar.cmpi .slt c16_i32_105 c0_i32_109
  let v131 : BitVec 32 := Scalar.extui v130
  let v132 : BitVec 32 := Scalar.subi v129 v131
  let v133 : BitVec 1 := Scalar.cmpi .ne v127 v132
  let v134 : BitVec 32 := Scalar.remsi v121 c16_i32_105
  let c0_i32_110 : BitVec 32 := 0#32
  let v135 : BitVec 1 := Scalar.cmpi .ne v134 c0_i32_110
  let v136 : BitVec 1 := Scalar.andi v133 v135
  let v122 : BitVec 32 := Scalar.divsi v121 c16_i32_105
  let c1_i32_111 : BitVec 32 := 1#32
  let v137 : BitVec 32 := Scalar.subi v122 c1_i32_111
  let v138 : BitVec 32 := Scalar.select v136 v137 v122
  let v149 : Index := Scalar.indexCast v138
  let c16_i32_112 : BitVec 32 := 16#32
  let c0_i32_113 : BitVec 32 := 0#32
  let v139 : BitVec 1 := Scalar.cmpi .eq c16_i32_112 c0_i32_113
  let c1_i32_114 : BitVec 32 := 1#32
  let v140 : BitVec 32 := Scalar.select v139 c1_i32_114 c16_i32_112
  let v141 : BitVec 32 := Scalar.remsi v121 v140
  let c0_i32_116 : BitVec 32 := 0#32
  let v143 : BitVec 1 := Scalar.cmpi .slt v141 c0_i32_116
  let c0_i32_117 : BitVec 32 := 0#32
  let v144 : BitVec 1 := Scalar.cmpi .slt v140 c0_i32_117
  let v145 : BitVec 1 := Scalar.xori v143 v144
  let c0_i32_115 : BitVec 32 := 0#32
  let v142 : BitVec 1 := Scalar.cmpi .ne v141 c0_i32_115
  let v146 : BitVec 1 := Scalar.andi v145 v142
  let v147 : BitVec 32 := Scalar.addi v141 v140
  let v148 : BitVec 32 := Scalar.select v146 v147 v141
  let v150 : Index := Scalar.indexCast v148
  let c0_118 : Index := 0#32
  let c0_119 : Index := 0#32
  ![v149.toNat, v150.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x16x512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S4x16x512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S4x16x64x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S4x16x64x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S1x1x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x16x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x64x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "ln_2" => some ((Real.log 2 : ℝ) : EReal)
  | _ => none
-- ==== ReferenceIdeal.lean ====
abbrev S1x8192x8x64 : Shape := ⟨4, ![1, 8192, 8, 64]⟩
abbrev S1x8192x2x64 : Shape := ⟨4, ![1, 8192, 2, 64]⟩
abbrev S1x8192x512 : Shape := ⟨3, ![1, 8192, 512]⟩
abbrev S1x8192x2x4x64 : Shape := ⟨5, ![1, 8192, 2, 4, 64]⟩
abbrev S1x2x8192x8192x4 : Shape := ⟨5, ![1, 2, 8192, 8192, 4]⟩
abbrev S1x2x4x8192x8192 : Shape := ⟨5, ![1, 2, 4, 8192, 8192]⟩
abbrev S_ : Shape := ⟨0, ![]⟩
abbrev S1x2x4x8192 : Shape := ⟨4, ![1, 2, 4, 8192]⟩
abbrev S1x2x4x8192x1 : Shape := ⟨5, ![1, 2, 4, 8192, 1]⟩
abbrev S1x2x64x4x8192 : Shape := ⟨5, ![1, 2, 64, 4, 8192]⟩
abbrev S1x2x64x8192 : Shape := ⟨4, ![1, 2, 64, 8192]⟩
abbrev S2x4x8192 : Shape := ⟨3, ![2, 4, 8192]⟩
abbrev S1x2x8192x4x64 : Shape := ⟨5, ![1, 2, 8192, 4, 64]⟩
abbrev S1x2x8192x64 : Shape := ⟨4, ![1, 2, 8192, 64]⟩
abbrev S16x512x8x64 : Shape := ⟨4, ![16, 512, 8, 64]⟩
abbrev S8x16x64x512 : Shape := ⟨4, ![8, 16, 64, 512]⟩
abbrev S32x256x2x64 : Shape := ⟨4, ![32, 256, 2, 64]⟩
abbrev S2x32x64x256 : Shape := ⟨4, ![2, 32, 64, 256]⟩

abbrev nBuf : Space → Nat
  | .hbm => 89
  | .vmem => 0
  | .smem => 0
  | _ => 0

abbrev bufTy : (tb : Table) → Fin (tcTables nBuf tb) → BufTy
  | .hbm, ⟨0, _⟩ => ⟨S1x8192x8x64, .f32⟩
  | .hbm, ⟨1, _⟩ => ⟨S1x8192x2x64, .f32⟩
  | .hbm, ⟨2, _⟩ => ⟨S1x8192x2x64, .f32⟩
  | .hbm, ⟨3, _⟩ => ⟨S1x8192x512, .f32⟩
  | .hbm, ⟨4, _⟩ => ⟨S1x8192x2x4x64, .f32⟩
  | .hbm, ⟨5, _⟩ => ⟨S1x2x8192x8192x4, .f32⟩
  | .hbm, ⟨6, _⟩ => ⟨S1x2x4x8192x8192, .f32⟩
  | .hbm, ⟨7, _⟩ => ⟨S_, .f32⟩
  | .hbm, ⟨8, _⟩ => ⟨S1x2x4x8192x8192, .f32⟩
  | .hbm, ⟨9, _⟩ => ⟨S1x2x4x8192x8192, .f32⟩
  | .hbm, ⟨10, _⟩ => ⟨S_, .f32⟩
  | .hbm, ⟨11, _⟩ => ⟨S1x2x4x8192, .f32⟩
  | .hbm, ⟨12, _⟩ => ⟨S1x2x4x8192x1, .f32⟩
  | .hbm, ⟨13, _⟩ => ⟨S1x2x4x8192x8192, .f32⟩
  | .hbm, ⟨14, _⟩ => ⟨S1x2x4x8192x8192, .i1⟩
  | .hbm, ⟨15, _⟩ => ⟨S1x2x4x8192x8192, .f32⟩
  | .hbm, ⟨16, _⟩ => ⟨S_, .f32⟩
  | .hbm, ⟨17, _⟩ => ⟨S1x2x4x8192, .f32⟩
  | .hbm, ⟨18, _⟩ => ⟨S_, .f32⟩
  | .hbm, ⟨19, _⟩ => ⟨S1x2x4x8192, .f32⟩
  | .hbm, ⟨20, _⟩ => ⟨S1x2x4x8192, .f32⟩
  | .hbm, ⟨21, _⟩ => ⟨S_, .f32⟩
  | .hbm, ⟨22, _⟩ => ⟨S1x2x4x8192, .f32⟩
  | .hbm, ⟨23, _⟩ => ⟨S1x2x4x8192, .i1⟩
  | .hbm, ⟨24, _⟩ => ⟨S_, .f32⟩
  | .hbm, ⟨25, _⟩ => ⟨S1x2x4x8192, .f32⟩
  | .hbm, ⟨26, _⟩ => ⟨S1x2x4x8192, .i1⟩
  | .hbm, ⟨27, _⟩ => ⟨S_, .f32⟩
  | .hbm, ⟨28, _⟩ => ⟨S1x2x4x8192, .f32⟩
  | .hbm, ⟨29, _⟩ => ⟨S_, .f32⟩
  | .hbm, ⟨30, _⟩ => ⟨S1x2x4x8192, .f32⟩
  | .hbm, ⟨31, _⟩ => ⟨S_, .f32⟩
  | .hbm, ⟨32, _⟩ => ⟨S1x2x4x8192, .f32⟩
  | .hbm, ⟨33, _⟩ => ⟨S1x2x4x8192, .f32⟩
  | .hbm, ⟨34, _⟩ => ⟨S1x2x4x8192, .f32⟩
  | .hbm, ⟨35, _⟩ => ⟨S1x2x4x8192x1, .f32⟩
  | .hbm, ⟨36, _⟩ => ⟨S1x2x4x8192x8192, .f32⟩
  | .hbm, ⟨37, _⟩ => ⟨S1x2x4x8192x8192, .f32⟩
  | .hbm, ⟨38, _⟩ => ⟨S1x2x4x8192x8192, .f32⟩
  | .hbm, ⟨39, _⟩ => ⟨S_, .f32⟩
  | .hbm, ⟨40, _⟩ => ⟨S1x2x4x8192, .f32⟩
  | .hbm, ⟨41, _⟩ => ⟨S1x2x4x8192x1, .f32⟩
  | .hbm, ⟨42, _⟩ => ⟨S1x2x4x8192x8192, .f32⟩
  | .hbm, ⟨43, _⟩ => ⟨S1x2x4x8192x8192, .f32⟩
  | .hbm, ⟨44, _⟩ => ⟨S1x2x4x8192x1, .f32⟩
  | .hbm, ⟨45, _⟩ => ⟨S_, .f32⟩
  | .hbm, ⟨46, _⟩ => ⟨S1x2x4x8192x1, .f32⟩
  | .hbm, ⟨47, _⟩ => ⟨S1x2x4x8192x1, .f32⟩
  | .hbm, ⟨48, _⟩ => ⟨S1x2x64x4x8192, .f32⟩
  | .hbm, ⟨49, _⟩ => ⟨S1x8192x2x4x64, .f32⟩
  | .hbm, ⟨50, _⟩ => ⟨S1x8192x512, .f32⟩
  | .hbm, ⟨51, _⟩ => ⟨S1x8192x2x4x64, .f32⟩
  | .hbm, ⟨52, _⟩ => ⟨S1x2x64x4x8192, .f32⟩
  | .hbm, ⟨53, _⟩ => ⟨S1x2x4x8192x8192, .f32⟩
  | .hbm, ⟨54, _⟩ => ⟨S1x2x64x8192, .f32⟩
  | .hbm, ⟨55, _⟩ => ⟨S1x8192x2x64, .f32⟩
  | .hbm, ⟨56, _⟩ => ⟨S1x2x4x8192x8192, .f32⟩
  | .hbm, ⟨57, _⟩ => ⟨S1x2x4x8192x8192, .f32⟩
  | .hbm, ⟨58, _⟩ => ⟨S1x2x4x8192x8192, .f32⟩
  | .hbm, ⟨59, _⟩ => ⟨S_, .f32⟩
  | .hbm, ⟨60, _⟩ => ⟨S1x2x4x8192, .f32⟩
  | .hbm, ⟨61, _⟩ => ⟨S1x2x4x8192x1, .f32⟩
  | .hbm, ⟨62, _⟩ => ⟨S1x2x4x8192x1, .f32⟩
  | .hbm, ⟨63, _⟩ => ⟨S1x2x4x8192x8192, .f32⟩
  | .hbm, ⟨64, _⟩ => ⟨S1x2x4x8192x8192, .f32⟩
  | .hbm, ⟨65, _⟩ => ⟨S_, .f32⟩
  | .hbm, ⟨66, _⟩ => ⟨S2x4x8192, .f32⟩
  | .hbm, ⟨67, _⟩ => ⟨S1x2x4x8192, .f32⟩
  | .hbm, ⟨68, _⟩ => ⟨S1x2x4x8192x8192, .f32⟩
  | .hbm, ⟨69, _⟩ => ⟨S1x2x4x8192x8192, .f32⟩
  | .hbm, ⟨70, _⟩ => ⟨S1x2x4x8192x8192, .f32⟩
  | .hbm, ⟨71, _⟩ => ⟨S_, .f32⟩
  | .hbm, ⟨72, _⟩ => ⟨S1x2x4x8192x8192, .f32⟩
  | .hbm, ⟨73, _⟩ => ⟨S1x2x4x8192x8192, .f32⟩
  | .hbm, ⟨74, _⟩ => ⟨S1x2x8192x8192x4, .f32⟩
  | .hbm, ⟨75, _⟩ => ⟨S1x2x8192x4x64, .f32⟩
  | .hbm, ⟨76, _⟩ => ⟨S1x8192x2x4x64, .f32⟩
  | .hbm, ⟨77, _⟩ => ⟨S1x2x8192x64, .f32⟩
  | .hbm, ⟨78, _⟩ => ⟨S1x8192x2x64, .f32⟩
  | .hbm, ⟨79, _⟩ => ⟨S1x8192x8x64, .f32⟩
  | .hbm, ⟨80, _⟩ => ⟨S_, .f32⟩
  | .hbm, ⟨81, _⟩ => ⟨S1x8192x8x64, .f32⟩
  | .hbm, ⟨82, _⟩ => ⟨S1x8192x8x64, .f32⟩
  | .hbm, ⟨83, _⟩ => ⟨S16x512x8x64, .f32⟩
  | .hbm, ⟨84, _⟩ => ⟨S8x16x64x512, .f32⟩
  | .hbm, ⟨85, _⟩ => ⟨S32x256x2x64, .f32⟩
  | .hbm, ⟨86, _⟩ => ⟨S2x32x64x256, .f32⟩
  | .hbm, ⟨87, _⟩ => ⟨S32x256x2x64, .f32⟩
  | .hbm, ⟨88, _⟩ => ⟨S2x32x64x256, .f32⟩
  | _, _ => ⟨S1x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_cst_7 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_9 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_10 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_11 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_12 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_13 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩

abbrev nD : Nat := 1
abbrev τ : Topo := Topo.v7x

variable {F : FTy → Type} [FloatOps F]
-- ==== Kernel2.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩
abbrev S256x1024 : Shape := ⟨2, ![256, 1024]⟩
abbrev S256x2816 : Shape := ⟨2, ![256, 2816]⟩
abbrev S256x256 : Shape := ⟨2, ![256, 256]⟩

abbrev nBuf : Space → Nat
  | .hbm => 24
  | .vmem => 11
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S2816x1024, .f32⟩
  | .hbm, ⟨3, _⟩ => ⟨S8192x1024, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .bf16⟩
  | .hbm, ⟨20, _⟩ => ⟨S2816x1024, .bf16⟩
  | .hbm, ⟨21, _⟩ => ⟨S8192x2816, .bf16⟩
  | .hbm, ⟨22, _⟩ => ⟨S8192x2816, .bf16⟩
  | .hbm, ⟨23, _⟩ => ⟨S8192x2816, .bf16⟩
  | .local _ .vmem, ⟨0, _⟩ => ⟨S256x1024, .f32⟩
  | .local _ .vmem, ⟨1, _⟩ => ⟨S256x1024, .f32⟩
  | .local _ .vmem, ⟨2, _⟩ => ⟨S2816x1024, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15_0 : Ref sig .tc := ⟨.hbm, 22, rfl⟩
abbrev main_v15_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S2816x1024, .f32⟩
  | .hbm, ⟨3, _⟩ => ⟨S8192x1024, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .bf16⟩
  | .hbm, ⟨33, _⟩ => ⟨S8192x2816, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩

abbrev nD : Nat := 1
abbrev τ : Topo := Topo.v7x

variable {F : FTy → Type} [FloatOps F]
-- ==== Kernel3.lean ====
abbrev S8192x2816 : Shape := ⟨2, ![8192, 2816]⟩
abbrev S1024x2816 : Shape := ⟨2, ![1024, 2816]⟩
abbrev S8192x1024 : Shape := ⟨2, ![8192, 1024]⟩
abbrev S1x1024 : Shape := ⟨2, ![1, 1024]⟩
abbrev S2816x1024 : Shape := ⟨2, ![2816, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 15
  | .vmem => 14
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S1024x2816, .f32⟩
  | .hbm, ⟨3, _⟩ => ⟨S1024x2816, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x2816, .bf16⟩
  | .hbm, ⟨8, _⟩ => ⟨S2816x1024, .f32⟩
  | .hbm, ⟨9, _⟩ => ⟨S2816x1024, .bf16⟩
  | .hbm, ⟨10, _⟩ => ⟨S8192x2816, .bf16⟩
  | .hbm, ⟨11, _⟩ => ⟨S2816x1024, .f32⟩
  | .hbm, ⟨12, _⟩ => ⟨S2816x1024, .bf16⟩
  | .hbm, ⟨13, _⟩ => ⟨S8192x1024, .f32⟩
  | .hbm, ⟨14, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Kernel3Ideal.lean ====
abbrev S8192x2816 : Shape := ⟨2, ![8192, 2816]⟩
abbrev S1024x2816 : Shape := ⟨2, ![1024, 2816]⟩
abbrev S8192x1024 : Shape := ⟨2, ![8192, 1024]⟩
abbrev S1x1024 : Shape := ⟨2, ![1, 1024]⟩
abbrev S2816x1024 : Shape := ⟨2, ![2816, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 15
  | .vmem => 14
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S1024x2816, .f32⟩
  | .hbm, ⟨3, _⟩ => ⟨S1024x2816, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x2816, .bf16⟩
  | .hbm, ⟨8, _⟩ => ⟨S2816x1024, .f32⟩
  | .hbm, ⟨9, _⟩ => ⟨S2816x1024, .bf16⟩
  | .hbm, ⟨10, _⟩ => ⟨S8192x2816, .bf16⟩
  | .hbm, ⟨11, _⟩ => ⟨S2816x1024, .f32⟩
  | .hbm, ⟨12, _⟩ => ⟨S2816x1024, .bf16⟩
  | .hbm, ⟨13, _⟩ => ⟨S8192x1024, .f32⟩
  | .hbm, ⟨14, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference3Ideal.lean ====
abbrev S8192x2816 : Shape := ⟨2, ![8192, 2816]⟩
abbrev S1024x2816 : Shape := ⟨2, ![1024, 2816]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S1024x2816, .f32⟩
  | .hbm, ⟨3, _⟩ => ⟨S1024x2816, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x2816, .f32⟩
  | .hbm, ⟨27, _⟩ => ⟨S8192x2816, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== Kernel4.lean ====
abbrev S8192x1024 : Shape := ⟨2, ![8192, 1024]⟩
abbrev S8192x2816 : Shape := ⟨2, ![8192, 2816]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S8192x2816, .bf16⟩
  | .hbm, ⟨3, _⟩ => ⟨S8192x1024, .bf16⟩
  | .hbm, ⟨4, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S_, .f32⟩
  | .hbm, ⟨3, _⟩ => ⟨S1024x2816, .f32⟩
  | .hbm, ⟨4, _⟩ => ⟨S8192x2816, .f32⟩
  | .hbm, ⟨5, _⟩ => ⟨S2816x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 14
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S1024x2816, .f32⟩
  | .hbm, ⟨12, _⟩ => ⟨S2816x1024, .f32⟩
  | .hbm, ⟨13, _⟩ => ⟨S2816x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel6.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S8192x2816 : Shape := ⟨2, ![8192, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S256x256 : Shape := ⟨2, ![256, 256]⟩

abbrev nBuf : Space → Nat
  | .hbm => 12
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2816x1024, .bf16⟩
  | .hbm, ⟨6, _⟩ => ⟨S2816x1024, .f32⟩
  | .hbm, ⟨7, _⟩ => ⟨S2816x1024, .bf16⟩
  | .hbm, ⟨8, _⟩ => ⟨S8192x1024, .bf16⟩
  | .hbm, ⟨9, _⟩ => ⟨S8192x2816, .bf16⟩
  | .hbm, ⟨10, _⟩ => ⟨S8192x2816, .bf16⟩
  | .hbm, ⟨11, _⟩ => ⟨S8192x2816, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S256x1024, .bf16⟩
  | .local _ .vmem, ⟨6, _⟩ => ⟨S256x1024, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S256x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S8192x1024 : Shape := ⟨2, ![8192, 1024]⟩
abbrev S1x1024 : Shape := ⟨2, ![1, 1024]⟩
abbrev S1024x2816 : Shape := ⟨2, ![1024, 2816]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S_, .f32⟩
  | .hbm, ⟨24, _⟩ => ⟨S8192x2816, .f32⟩
  | .hbm, ⟨25, _⟩ => ⟨S8192x2816, .f32⟩
  | .hbm, ⟨26, _⟩ => ⟨S_, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S_, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S_, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S8192x1024, .bf16⟩
  | .hbm, ⟨53, _⟩ => ⟨S8192x2816, .bf16⟩
  | .hbm, ⟨54, _⟩ => ⟨S8192x2816, .bf16⟩
  | .hbm, ⟨55, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v14 : Ref sig .tc := ⟨.hbm, 29, rfl⟩
abbrev main_call1_v0 : Ref sig .tc := ⟨.hbm, 30, rfl⟩
abbrev main_call1_v1 : Ref sig .tc := ⟨.hbm, 31, rfl⟩
abbrev main_call1_cst : Ref sig .tc := ⟨.hbm, 32, rfl⟩
abbrev main_call1_v2 : Ref sig .tc := ⟨.hbm, 33, rfl⟩
abbrev main_call1_v3 : Ref sig .tc := ⟨.hbm, 34, rfl⟩
abbrev main_call1_cst_0 : Ref sig .tc := ⟨.hbm, 35, rfl⟩
abbrev main_call1_v4 : Ref sig .tc := ⟨.hbm, 36, rfl⟩
abbrev main_v15_2 : Ref sig .tc := ⟨.hbm, 37, rfl⟩
abbrev main_call1_cst_1 : Ref sig .tc := ⟨.hbm, 38, rfl⟩
abbrev main_call1_v6 : Ref sig .tc := ⟨.hbm, 39, rfl⟩
abbrev main_call1_v7 : Ref sig .tc := ⟨.hbm, 40, rfl⟩
abbrev main_v15_1 : Ref sig .tc := ⟨.hbm, 41, rfl⟩
abbrev main_v15_0 : Ref sig .tc := ⟨.hbm, 42, rfl⟩
abbrev main_v16 : Ref sig .tc := ⟨.hbm, 43, rfl⟩
abbrev main_cst_2 : Ref sig .tc := ⟨.hbm, 44, rfl⟩
abbrev main_v17 : Ref sig .tc := ⟨.hbm, 45, rfl⟩
abbrev main_v18 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩

abbrev nD : Nat := 1
abbrev τ : Topo := Topo.v7x

variable {F : FTy → Type} [FloatOps F]
-- ==== Kernel7.lean ====
abbrev S8192x2816 : Shape := ⟨2, ![8192, 2816]⟩
abbrev S2816x1024 : Shape := ⟨2, ![2816, 1024]⟩
abbrev S8192x1024 : Shape := ⟨2, ![8192, 1024]⟩
abbrev S512x2816 : Shape := ⟨2, ![512, 2816]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x2816, .bf16⟩
  | .hbm, ⟨4, _⟩ => ⟨S2816x1024, .bf16⟩
  | .hbm, ⟨5, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel8.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S1x128 : Shape := ⟨2, ![1, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 10
  | .vmem => 12
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x2816, .bf16⟩
  | .hbm, ⟨6, _⟩ => ⟨S2816x1024, .bf16⟩
  | .hbm, ⟨7, _⟩ => ⟨S1x128, .f32⟩
  | .hbm, ⟨8, _⟩ => ⟨S8192x1024, .f32⟩
  | .hbm, ⟨9, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1x128, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference8Ideal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x128 : Shape := ⟨2, ![1, 128]⟩

abbrev nBuf : Space → Nat
  | .hbm => 76
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S_, .f32⟩
  | .hbm, ⟨37, _⟩ => ⟨S8192, .f32⟩
  | .hbm, ⟨38, _⟩ => ⟨S8192, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S8192, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S1x128, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_cst_9 : Ref sig .tc := ⟨.hbm, 43, rfl⟩
abbrev main_cst_10 : Ref sig .tc := ⟨.hbm, 44, rfl⟩
abbrev main_v28 : Ref sig .tc := ⟨.hbm, 45, rfl⟩
abbrev main_v29 : Ref sig .tc := ⟨.hbm, 46, rfl⟩
abbrev main_cst_11 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_12 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_13 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_cst_15 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩

abbrev nD : Nat := 1
abbrev τ : Topo := Topo.v7x

variable {F : FTy → Type} [FloatOps F]
-- ==== Kernel9.lean ====
abbrev S8192x1024 : Shape := ⟨2, ![8192, 1024]⟩
abbrev S1x1024 : Shape := ⟨2, ![1, 1024]⟩
abbrev S1024x1792 : Shape := ⟨2, ![1024, 1792]⟩
abbrev S1792x1024 : Shape := ⟨2, ![1792, 1024]⟩
abbrev S768x1024 : Shape := ⟨2, ![768, 1024]⟩
abbrev S1024x1024 : Shape := ⟨2, ![1024, 1024]⟩
abbrev S8192x768 : Shape := ⟨2, ![8192, 768]⟩
abbrev S512x1024 : Shape := ⟨2, ![512, 1024]⟩
abbrev S512x768 : Shape := ⟨2, ![512, 768]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1792, .f32⟩
  | .hbm, ⟨3, _⟩ => ⟨S1792x1024, .f32⟩
  | .hbm, ⟨4, _⟩ => ⟨S1792x1024, .bf16⟩
  | .hbm, ⟨5, _⟩ => ⟨S768x1024, .bf16⟩
  | .hbm, ⟨6, _⟩ => ⟨S1024x1024, .bf16⟩
  | .hbm, ⟨7, _⟩ => ⟨S8192x768, .f32⟩
  | .hbm, ⟨8, _⟩ => ⟨S8192x1024, .f32⟩
  | .hbm, ⟨9, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S768x1024, .bf16⟩
  | .local _ .vmem, ⟨4, _⟩ => ⟨S1024x1024, .bf16⟩
  | .local _ .vmem, ⟨5, _⟩ => ⟨S512x768, .f32⟩
  | .local _ .vmem, ⟨6, _⟩ => ⟨S512x768, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S8192x1024 : Shape := ⟨2, ![8192, 1024]⟩
abbrev S1x1024 : Shape := ⟨2, ![1, 1024]⟩
abbrev S1024x1792 : Shape := ⟨2, ![1024, 1792]⟩
abbrev S_ : Shape := ⟨0, ![]⟩
abbrev S8192 : Shape := ⟨1, ![8192]⟩
abbrev S8192x1 : Shape := ⟨2, ![8192, 1]⟩
abbrev S8192x1792 : Shape := ⟨2, ![8192, 1792]⟩
abbrev S8192x768 : Shape := ⟨2, ![8192, 768]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1792, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1792, .f32⟩
  | .hbm, ⟨19, _⟩ => ⟨S8192x768, .f32⟩
  | .hbm, ⟨20, _⟩ => ⟨S8192x1024, .f32⟩
  | .hbm, ⟨21, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel10.lean ====
abbrev S8192x768 : Shape := ⟨2, ![8192, 768]⟩
abbrev S8192x1024 : Shape := ⟨2, ![8192, 1024]⟩
abbrev S1024x768 : Shape := ⟨2, ![1024, 768]⟩
abbrev S1024x1024 : Shape := ⟨2, ![1024, 1024]⟩
abbrev S1x1024 : Shape := ⟨2, ![1, 1024]⟩
abbrev S768x1024 : Shape := ⟨2, ![768, 1024]⟩
abbrev S512x768 : Shape := ⟨2, ![512, 768]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 15
  | .vmem => 14
  | .smem => 0
  | _ => 0

abbrev bufTy : (tb : Table) → Fin (tcTables nBuf tb) → BufTy
  | .hbm, ⟨0, _⟩ => ⟨S8192x768, .f32⟩
  | .hbm, ⟨1, _⟩ => ⟨S8192x1024, .f32⟩
  | .hbm, ⟨2, _⟩ => ⟨S1024x768, .f32⟩
  | .hbm, ⟨3, _⟩ => ⟨S1024x1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x768, .bf16⟩
  | .hbm, ⟨8, _⟩ => ⟨S768x1024, .f32⟩
  | .hbm, ⟨9, _⟩ => ⟨S768x1024, .bf16⟩
  | .hbm, ⟨10, _⟩ => ⟨S8192x1024, .bf16⟩
  | .hbm, ⟨11, _⟩ => ⟨S1024x1024, .f32⟩
  | .hbm, ⟨12, _⟩ => ⟨S1024x1024, .bf16⟩
  | .hbm, ⟨13, _⟩ => ⟨S8192x1024, .f32⟩
  | .hbm, ⟨14, _⟩ => ⟨S1x1024, .f32⟩
  | .local _ .vmem, ⟨0, _⟩ => ⟨S512x768, .bf16⟩
  | .local _ .vmem, ⟨1, _⟩ => ⟨S512x768, .bf16⟩
  | .local _ .vmem, ⟨2, _⟩ => ⟨S768x1024, .bf16⟩
  | .local _ .vmem, ⟨3, _⟩ => ⟨S512x1024, .bf16⟩
  | .local _ .vmem, ⟨4, _⟩ => ⟨S512x1024, .bf16⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference10Ideal.lean ====
abbrev S8192x768 : Shape := ⟨2, ![8192, 768]⟩
abbrev S8192x1024 : Shape := ⟨2, ![8192, 1024]⟩
abbrev S1024x768 : Shape := ⟨2, ![1024, 768]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192x1024, .f32⟩
  | .hbm, ⟨2, _⟩ => ⟨S1024x768, .f32⟩
  | .hbm, ⟨3, _⟩ => ⟨S1024x1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x768, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== Kernel11.lean ====
abbrev S8192x1024 : Shape := ⟨2, ![8192, 1024]⟩
abbrev S8192x768 : Shape := ⟨2, ![8192, 768]⟩
abbrev S768x1024 : Shape := ⟨2, ![768, 1024]⟩
abbrev S2048x384 : Shape := ⟨2, ![2048, 384]⟩
abbrev S2048x1024 : Shape := ⟨2, ![2048, 1024]⟩
abbrev S384x1024 : Shape := ⟨2, ![384, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x768, .f32⟩
  | .hbm, ⟨2, _⟩ => ⟨S8192x768, .bf16⟩
  | .hbm, ⟨3, _⟩ => ⟨S8192x1024, .bf16⟩
  | .hbm, ⟨4, _⟩ => ⟨S768x1024, .bf16⟩
  | .local _ .vmem, ⟨0, _⟩ => ⟨S2048x384, .bf16⟩
  | .local _ .vmem, ⟨1, _⟩ => ⟨S2048x384, .bf16⟩
  | .local _ .vmem, ⟨2, _⟩ => ⟨S2048x1024, .bf16⟩
  | .local _ .vmem, ⟨3, _⟩ => ⟨S2048x1024, .bf16⟩
  | .local _ .vmem, ⟨4, _⟩ => ⟨S384x1024, .bf16⟩
  | .local _ .vmem, ⟨5, _⟩ => ⟨S384x1024, .bf16⟩
  | .local _ .vmem, ⟨6, _⟩ => ⟨S384x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S384x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference11Ideal.lean ====
abbrev S8192x1024 : Shape := ⟨2, ![8192, 1024]⟩
abbrev S8192x768 : Shape := ⟨2, ![8192, 768]⟩
abbrev S_ : Shape := ⟨0, ![]⟩
abbrev S1024x768 : Shape := ⟨2, ![1024, 768]⟩
abbrev S768x1024 : Shape := ⟨2, ![768, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x768, .f32⟩
  | .hbm, ⟨2, _⟩ => ⟨S_, .f32⟩
  | .hbm, ⟨3, _⟩ => ⟨S1024x768, .f32⟩
  | .hbm, ⟨4, _⟩ => ⟨S8192x768, .f32⟩
  | .hbm, ⟨5, _⟩ => ⟨S768x1024, .f32⟩
  | .hbm, ⟨6, _⟩ => ⟨S1024x768, .f32⟩
  | .hbm, ⟨7, _⟩ => ⟨S768x1024, .f32⟩
  | .hbm, ⟨8, _⟩ => ⟨S768x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S8192x1024 : Shape := ⟨2, ![8192, 1024]⟩
abbrev S1024x1024 : Shape := ⟨2, ![1024, 1024]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference12Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S8192x1024 : Shape := ⟨2, ![8192, 1024]⟩
abbrev S1024x1024 : Shape := ⟨2, ![1024, 1024]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .f32⟩
  | .local _ .vmem, ⟨3, _⟩ => ⟨S2048x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference13Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Kernel14Ideal.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference14Ideal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S352x1024 : Shape := ⟨2, ![352, 1024]⟩

abbrev nBuf : Space → Nat
  | .hbm => 7
  | .vmem => 7
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S352x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Kernel15Ideal.lean ====
abbrev S352x1024 : Shape := ⟨2, ![352, 1024]⟩

abbrev nBuf : Space → Nat
  | .hbm => 7
  | .vmem => 7
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S352x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference15Ideal.lean ====
abbrev S352x1024 : Shape := ⟨2, ![352, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S_, .f32⟩
  | .hbm, ⟨5, _⟩ => ⟨S352x1024, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S352x1024, .f32⟩
  | .hbm, ⟨11, _⟩ => ⟨S_, .f32⟩
  | .hbm, ⟨12, _⟩ => ⟨S352x1024, .f32⟩
  | .hbm, ⟨13, _⟩ => ⟨S352x1024, .f32⟩
  | .hbm, ⟨14, _⟩ => ⟨S352x1024, .f32⟩
  | .hbm, ⟨15, _⟩ => ⟨S_, .f32⟩
  | .hbm, ⟨16, _⟩ => ⟨S352x1024, .f32⟩
  | .hbm, ⟨17, _⟩ => ⟨S352x1024, .f32⟩
  | .hbm, ⟨18, _⟩ => ⟨S352x1024, .f32⟩
  | .hbm, ⟨19, _⟩ => ⟨S_, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S352x1024, .f32⟩
  | .hbm, ⟨26, _⟩ => ⟨S_, .f32⟩
  | .hbm, ⟨27, _⟩ => ⟨S352x1024, .f32⟩
  | .hbm, ⟨28, _⟩ => ⟨S352x1024, .f32⟩
  | .hbm, ⟨29, _⟩ => ⟨S352x1024, .f32⟩
  | .hbm, ⟨30, _⟩ => ⟨S_, .f32⟩
  | .hbm, ⟨31, _⟩ => ⟨S352x1024, .f32⟩
  | .hbm, ⟨32, _⟩ => ⟨S352x1024, .f32⟩
  | .hbm, ⟨33, _⟩ => ⟨S352x1024, .f32⟩
  | .hbm, ⟨34, _⟩ => ⟨S_, .f32⟩
  | .hbm, ⟨35, _⟩ => ⟨S352x1024, .f32⟩
  | .hbm, ⟨36, _⟩ => ⟨S352x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S224x1024 : Shape := ⟨2, ![224, 1024]⟩

abbrev nBuf : Space → Nat
  | .hbm => 7
  | .vmem => 7
  | .smem => 0
  | _ => 0

abbrev bufTy : (tb : Table) → Fin (tcTables nBuf tb) → BufTy
  | .hbm, ⟨0, _⟩ => ⟨S224x1024, .f32⟩
  | .hbm, ⟨1, _⟩ => ⟨S224x1024, .f32⟩
  | .hbm, ⟨2, _⟩ => ⟨S224x1024, .f32⟩
  | .hbm, ⟨3, _⟩ => ⟨S224x1024, .f32⟩
  | .hbm, ⟨4, _⟩ => ⟨S224x1024, .f32⟩
  | .hbm, ⟨5, _⟩ => ⟨S224x1024, .f32⟩
  | .hbm, ⟨6, _⟩ => ⟨S224x1024, .f32⟩
  | .local _ .vmem, ⟨0, _⟩ => ⟨S224x1024, .f32⟩
  | .local _ .vmem, ⟨1, _⟩ => ⟨S224x1024, .f32⟩
  | .local _ .vmem, ⟨2, _⟩ => ⟨S224x1024, .f32⟩
  | .local _ .vmem, ⟨3, _⟩ => ⟨S224x1024, .f32⟩
  | .local _ .vmem, ⟨4, _⟩ => ⟨S224x1024, .f32⟩
  | .local _ .vmem, ⟨5, _⟩ => ⟨S224x1024, .f32⟩
  | .local _ .vmem, ⟨6, _⟩ => ⟨S224x1024, .f32⟩
  | _, _ => ⟨S224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S224x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S224x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S224x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S224x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S224x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S224x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S224x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Kernel16Ideal.lean ====
abbrev S224x1024 : Shape := ⟨2, ![224, 1024]⟩

abbrev nBuf : Space → Nat
  | .hbm => 7
  | .vmem => 7
  | .smem => 0
  | _ => 0

abbrev bufTy : (tb : Table) → Fin (tcTables nBuf tb) → BufTy
  | .hbm, ⟨0, _⟩ => ⟨S224x1024, .f32⟩
  | .hbm, ⟨1, _⟩ => ⟨S224x1024, .f32⟩
  | .hbm, ⟨2, _⟩ => ⟨S224x1024, .f32⟩
  | .hbm, ⟨3, _⟩ => ⟨S224x1024, .f32⟩
  | .hbm, ⟨4, _⟩ => ⟨S224x1024, .f32⟩
  | .hbm, ⟨5, _⟩ => ⟨S224x1024, .f32⟩
  | .hbm, ⟨6, _⟩ => ⟨S224x1024, .f32⟩
  | .local _ .vmem, ⟨0, _⟩ => ⟨S224x1024, .f32⟩
  | .local _ .vmem, ⟨1, _⟩ => ⟨S224x1024, .f32⟩
  | .local _ .vmem, ⟨2, _⟩ => ⟨S224x1024, .f32⟩
  | .local _ .vmem, ⟨3, _⟩ => ⟨S224x1024, .f32⟩
  | .local _ .vmem, ⟨4, _⟩ => ⟨S224x1024, .f32⟩
  | .local _ .vmem, ⟨5, _⟩ => ⟨S224x1024, .f32⟩
  | .local _ .vmem, ⟨6, _⟩ => ⟨S224x1024, .f32⟩
  | _, _ => ⟨S224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S224x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S224x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S224x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S224x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S224x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S224x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S224x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference16Ideal.lean ====
abbrev S224x1024 : Shape := ⟨2, ![224, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S224x1024, .f32⟩
  | .hbm, ⟨1, _⟩ => ⟨S224x1024, .f32⟩
  | .hbm, ⟨2, _⟩ => ⟨S224x1024, .f32⟩
  | .hbm, ⟨3, _⟩ => ⟨S224x1024, .f32⟩
  | .hbm, ⟨4, _⟩ => ⟨S_, .f32⟩
  | .hbm, ⟨5, _⟩ => ⟨S224x1024, .f32⟩
  | .hbm, ⟨6, _⟩ => ⟨S224x1024, .f32⟩
  | .hbm, ⟨7, _⟩ => ⟨S_, .f32⟩
  | .hbm, ⟨8, _⟩ => ⟨S224x1024, .f32⟩
  | .hbm, ⟨9, _⟩ => ⟨S224x1024, .f32⟩
  | .hbm, ⟨10, _⟩ => ⟨S224x1024, .f32⟩
  | .hbm, ⟨11, _⟩ => ⟨S_, .f32⟩
  | .hbm, ⟨12, _⟩ => ⟨S224x1024, .f32⟩
  | .hbm, ⟨13, _⟩ => ⟨S224x1024, .f32⟩
  | .hbm, ⟨14, _⟩ => ⟨S224x1024, .f32⟩
  | .hbm, ⟨15, _⟩ => ⟨S_, .f32⟩
  | .hbm, ⟨16, _⟩ => ⟨S224x1024, .f32⟩
  | .hbm, ⟨17, _⟩ => ⟨S224x1024, .f32⟩
  | .hbm, ⟨18, _⟩ => ⟨S224x1024, .f32⟩
  | .hbm, ⟨19, _⟩ => ⟨S_, .f32⟩
  | .hbm, ⟨20, _⟩ => ⟨S224x1024, .f32⟩
  | .hbm, ⟨21, _⟩ => ⟨S224x1024, .f32⟩
  | .hbm, ⟨22, _⟩ => ⟨S_, .f32⟩
  | .hbm, ⟨23, _⟩ => ⟨S224x1024, .f32⟩
  | .hbm, ⟨24, _⟩ => ⟨S224x1024, .f32⟩
  | .hbm, ⟨25, _⟩ => ⟨S224x1024, .f32⟩
  | .hbm, ⟨26, _⟩ => ⟨S_, .f32⟩
  | .hbm, ⟨27, _⟩ => ⟨S224x1024, .f32⟩
  | .hbm, ⟨28, _⟩ => ⟨S224x1024, .f32⟩
  | .hbm, ⟨29, _⟩ => ⟨S224x1024, .f32⟩
  | .hbm, ⟨30, _⟩ => ⟨S_, .f32⟩
  | .hbm, ⟨31, _⟩ => ⟨S224x1024, .f32⟩
  | .hbm, ⟨32, _⟩ => ⟨S224x1024, .f32⟩
  | .hbm, ⟨33, _⟩ => ⟨S224x1024, .f32⟩
  | .hbm, ⟨34, _⟩ => ⟨S_, .f32⟩
  | .hbm, ⟨35, _⟩ => ⟨S224x1024, .f32⟩
  | .hbm, ⟨36, _⟩ => ⟨S224x1024, .f32⟩
  | _, _ => ⟨S224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S128x1024 : Shape := ⟨2, ![128, 1024]⟩

abbrev nBuf : Space → Nat
  | .hbm => 7
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Kernel17Ideal.lean ====
abbrev S128x1024 : Shape := ⟨2, ![128, 1024]⟩

abbrev nBuf : Space → Nat
  | .hbm => 7
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference17Ideal.lean ====
abbrev S128x1024 : Shape := ⟨2, ![128, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S128x1024, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S_, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S1024x128 : Shape := ⟨2, ![1024, 128]⟩

abbrev nBuf : Space → Nat
  | .hbm => 7
  | .vmem => 7
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S1024x128, .f32⟩
  | .hbm, ⟨5, _⟩ => ⟨S1024x128, .f32⟩
  | .hbm, ⟨6, _⟩ => ⟨S1024x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Kernel18Ideal.lean ====
abbrev S1024x128 : Shape := ⟨2, ![1024, 128]⟩

abbrev nBuf : Space → Nat
  | .hbm => 7
  | .vmem => 7
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S1024x128, .f32⟩
  | .hbm, ⟨5, _⟩ => ⟨S1024x128, .f32⟩
  | .hbm, ⟨6, _⟩ => ⟨S1024x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference18Ideal.lean ====
abbrev S1024x128 : Shape := ⟨2, ![1024, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S_, .f32⟩
  | .hbm, ⟨5, _⟩ => ⟨S1024x128, .f32⟩
  | .hbm, ⟨6, _⟩ => ⟨S1024x128, .f32⟩
  | .hbm, ⟨7, _⟩ => ⟨S_, .f32⟩
  | .hbm, ⟨8, _⟩ => ⟨S1024x128, .f32⟩
  | .hbm, ⟨9, _⟩ => ⟨S1024x128, .f32⟩
  | .hbm, ⟨10, _⟩ => ⟨S1024x128, .f32⟩
  | .hbm, ⟨11, _⟩ => ⟨S_, .f32⟩
  | .hbm, ⟨12, _⟩ => ⟨S1024x128, .f32⟩
  | .hbm, ⟨13, _⟩ => ⟨S1024x128, .f32⟩
  | .hbm, ⟨14, _⟩ => ⟨S1024x128, .f32⟩
  | .hbm, ⟨15, _⟩ => ⟨S_, .f32⟩
  | .hbm, ⟨16, _⟩ => ⟨S1024x128, .f32⟩
  | .hbm, ⟨17, _⟩ => ⟨S1024x128, .f32⟩
  | .hbm, ⟨18, _⟩ => ⟨S1024x128, .f32⟩
  | .hbm, ⟨19, _⟩ => ⟨S_, .f32⟩
  | .hbm, ⟨20, _⟩ => ⟨S1024x128, .f32⟩
  | .hbm, ⟨21, _⟩ => ⟨S1024x128, .f32⟩
  | .hbm, ⟨22, _⟩ => ⟨S_, .f32⟩
  | .hbm, ⟨23, _⟩ => ⟨S1024x128, .f32⟩
  | .hbm, ⟨24, _⟩ => ⟨S1024x128, .f32⟩
  | .hbm, ⟨25, _⟩ => ⟨S1024x128, .f32⟩
  | .hbm, ⟨26, _⟩ => ⟨S_, .f32⟩
  | .hbm, ⟨27, _⟩ => ⟨S1024x128, .f32⟩
  | .hbm, ⟨28, _⟩ => ⟨S1024x128, .f32⟩
  | .hbm, ⟨29, _⟩ => ⟨S1024x128, .f32⟩
  | .hbm, ⟨30, _⟩ => ⟨S_, .f32⟩
  | .hbm, ⟨31, _⟩ => ⟨S1024x128, .f32⟩
  | .hbm, ⟨32, _⟩ => ⟨S1024x128, .f32⟩
  | .hbm, ⟨33, _⟩ => ⟨S1024x128, .f32⟩
  | .hbm, ⟨34, _⟩ => ⟨S_, .f32⟩
  | .hbm, ⟨35, _⟩ => ⟨S1024x128, .f32⟩
  | .hbm, ⟨36, _⟩ => ⟨S1024x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S1x512 : Shape := ⟨2, ![1, 512]⟩

abbrev nBuf : Space → Nat
  | .hbm => 7
  | .vmem => 7
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Kernel19Ideal.lean ====
abbrev S1x512 : Shape := ⟨2, ![1, 512]⟩

abbrev nBuf : Space → Nat
  | .hbm => 7
  | .vmem => 7
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference19Ideal.lean ====
abbrev S1x512 : Shape := ⟨2, ![1, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S_, .f32⟩
  | .hbm, ⟨5, _⟩ => ⟨S1x512, .f32⟩
  | .hbm, ⟨6, _⟩ => ⟨S1x512, .f32⟩
  | .hbm, ⟨7, _⟩ => ⟨S_, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S_, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S_, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S_, .f32⟩
  | .hbm, ⟨20, _⟩ => ⟨S1x512, .f32⟩
  | .hbm, ⟨21, _⟩ => ⟨S1x512, .f32⟩
  | .hbm, ⟨22, _⟩ => ⟨S_, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S_, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S_, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S_, .f32⟩
  | .hbm, ⟨35, _⟩ => ⟨S1x512, .f32⟩
  | .hbm, ⟨36, _⟩ => ⟨S1x512, .f32⟩
  | _, _ => ⟨S1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S1x64 : Shape := ⟨2, ![1, 64]⟩

abbrev nBuf : Space → Nat
  | .hbm => 7
  | .vmem => 7
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S1x64, .f32⟩
  | _, _ => ⟨S1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Kernel20Ideal.lean ====
abbrev S1x64 : Shape := ⟨2, ![1, 64]⟩

abbrev nBuf : Space → Nat
  | .hbm => 7
  | .vmem => 7
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S1x64, .f32⟩
  | _, _ => ⟨S1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference20Ideal.lean ====
abbrev S1x64 : Shape := ⟨2, ![1, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S_, .f32⟩
  | .hbm, ⟨5, _⟩ => ⟨S1x64, .f32⟩
  | .hbm, ⟨6, _⟩ => ⟨S1x64, .f32⟩
  | .hbm, ⟨7, _⟩ => ⟨S_, .f32⟩
  | .hbm, ⟨8, _⟩ => ⟨S1x64, .f32⟩
  | .hbm, ⟨9, _⟩ => ⟨S1x64, .f32⟩
  | .hbm, ⟨10, _⟩ => ⟨S1x64, .f32⟩
  | .hbm, ⟨11, _⟩ => ⟨S_, .f32⟩
  | .hbm, ⟨12, _⟩ => ⟨S1x64, .f32⟩
  | .hbm, ⟨13, _⟩ => ⟨S1x64, .f32⟩
  | .hbm, ⟨14, _⟩ => ⟨S1x64, .f32⟩
  | .hbm, ⟨15, _⟩ => ⟨S_, .f32⟩
  | .hbm, ⟨16, _⟩ => ⟨S1x64, .f32⟩
  | .hbm, ⟨17, _⟩ => ⟨S1x64, .f32⟩
  | .hbm, ⟨18, _⟩ => ⟨S1x64, .f32⟩
  | .hbm, ⟨19, _⟩ => ⟨S_, .f32⟩
  | .hbm, ⟨20, _⟩ => ⟨S1x64, .f32⟩
  | .hbm, ⟨21, _⟩ => ⟨S1x64, .f32⟩
  | .hbm, ⟨22, _⟩ => ⟨S_, .f32⟩
  | .hbm, ⟨23, _⟩ => ⟨S1x64, .f32⟩
  | .hbm, ⟨24, _⟩ => ⟨S1x64, .f32⟩
  | .hbm, ⟨25, _⟩ => ⟨S1x64, .f32⟩
  | .hbm, ⟨26, _⟩ => ⟨S_, .f32⟩
  | .hbm, ⟨27, _⟩ => ⟨S1x64, .f32⟩
  | .hbm, ⟨28, _⟩ => ⟨S1x64, .f32⟩
  | .hbm, ⟨29, _⟩ => ⟨S1x64, .f32⟩
  | .hbm, ⟨30, _⟩ => ⟨S_, .f32⟩
  | .hbm, ⟨31, _⟩ => ⟨S1x64, .f32⟩
  | .hbm, ⟨32, _⟩ => ⟨S1x64, .f32⟩
  | .hbm, ⟨33, _⟩ => ⟨S1x64, .f32⟩
  | .hbm, ⟨34, _⟩ => ⟨S_, .f32⟩
  | .hbm, ⟨35, _⟩ => ⟨S1x64, .f32⟩
  | .hbm, ⟨36, _⟩ => ⟨S1x64, .f32⟩
  | _, _ => ⟨S1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S8x128 : Shape := ⟨2, ![8, 128]⟩

abbrev nBuf : Space → Nat
  | .hbm => 7
  | .vmem => 7
  | .smem => 0
  | _ => 0

abbrev bufTy : (tb : Table) → Fin (tcTables nBuf tb) → BufTy
  | .hbm, ⟨0, _⟩ => ⟨S8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S8x128, .f32⟩
  | .hbm, ⟨5, _⟩ => ⟨S8x128, .f32⟩
  | .hbm, ⟨6, _⟩ => ⟨S8x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | _, _ => ⟨S8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference21Ideal.lean ====
abbrev S8x128 : Shape := ⟨2, ![8, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S_, .f32⟩
  | .hbm, ⟨5, _⟩ => ⟨S8x128, .f32⟩
  | .hbm, ⟨6, _⟩ => ⟨S8x128, .f32⟩
  | .hbm, ⟨7, _⟩ => ⟨S_, .f32⟩
  | .hbm, ⟨8, _⟩ => ⟨S8x128, .f32⟩
  | .hbm, ⟨9, _⟩ => ⟨S8x128, .f32⟩
  | .hbm, ⟨10, _⟩ => ⟨S8x128, .f32⟩
  | .hbm, ⟨11, _⟩ => ⟨S_, .f32⟩
  | .hbm, ⟨12, _⟩ => ⟨S8x128, .f32⟩
  | .hbm, ⟨13, _⟩ => ⟨S8x128, .f32⟩
  | .hbm, ⟨14, _⟩ => ⟨S8x128, .f32⟩
  | .hbm, ⟨15, _⟩ => ⟨S_, .f32⟩
  | .hbm, ⟨16, _⟩ => ⟨S8x128, .f32⟩
  | .hbm, ⟨17, _⟩ => ⟨S8x128, .f32⟩
  | .hbm, ⟨18, _⟩ => ⟨S8x128, .f32⟩
  | .hbm, ⟨19, _⟩ => ⟨S_, .f32⟩
  | .hbm, ⟨20, _⟩ => ⟨S8x128, .f32⟩
  | .hbm, ⟨21, _⟩ => ⟨S8x128, .f32⟩
  | .hbm, ⟨22, _⟩ => ⟨S_, .f32⟩
  | .hbm, ⟨23, _⟩ => ⟨S8x128, .f32⟩
  | .hbm, ⟨24, _⟩ => ⟨S8x128, .f32⟩
  | .hbm, ⟨25, _⟩ => ⟨S8x128, .f32⟩
  | .hbm, ⟨26, _⟩ => ⟨S_, .f32⟩
  | .hbm, ⟨27, _⟩ => ⟨S8x128, .f32⟩
  | .hbm, ⟨28, _⟩ => ⟨S8x128, .f32⟩
  | .hbm, ⟨29, _⟩ => ⟨S8x128, .f32⟩
  | .hbm, ⟨30, _⟩ => ⟨S_, .f32⟩
  | .hbm, ⟨31, _⟩ => ⟨S8x128, .f32⟩
  | .hbm, ⟨32, _⟩ => ⟨S8x128, .f32⟩
  | .hbm, ⟨33, _⟩ => ⟨S8x128, .f32⟩
  | .hbm, ⟨34, _⟩ => ⟨S_, .f32⟩
  | .hbm, ⟨35, _⟩ => ⟨S8x128, .f32⟩
  | .hbm, ⟨36, _⟩ => ⟨S8x128, .f32⟩
  | _, _ => ⟨S8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S8x1184x1024 : Shape := ⟨3, ![8, 1184, 1024]⟩
abbrev S1184x1024 : Shape := ⟨2, ![1184, 1024]⟩
abbrev S8x592x1024 : Shape := ⟨3, ![8, 592, 1024]⟩
abbrev S592x1024 : Shape := ⟨2, ![592, 1024]⟩
abbrev S1x592x1024 : Shape := ⟨3, ![1, 592, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x1184x1024, .bf16⟩
  | .hbm, ⟨1, _⟩ => ⟨S1184x1024, .f32⟩
  | .local _ .vmem, ⟨0, _⟩ => ⟨S8x592x1024, .bf16⟩
  | .local _ .vmem, ⟨1, _⟩ => ⟨S8x592x1024, .bf16⟩
  | .local _ .vmem, ⟨2, _⟩ => ⟨S592x1024, .f32⟩
  | .local _ .vmem, ⟨3, _⟩ => ⟨S592x1024, .f32⟩
  | _, _ => ⟨S8x1184x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x592x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S592x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference22Ideal.lean ====
abbrev S8x1184x1024 : Shape := ⟨3, ![8, 1184, 1024]⟩
abbrev S_ : Shape := ⟨0, ![]⟩
abbrev S1184x1024 : Shape := ⟨2, ![1184, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x1184x1024, .bf16⟩
  | .hbm, ⟨1, _⟩ => ⟨S8x1184x1024, .f32⟩
  | .hbm, ⟨2, _⟩ => ⟨S_, .f32⟩
  | .hbm, ⟨3, _⟩ => ⟨S1184x1024, .f32⟩
  | _, _ => ⟨S8x1184x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel23.lean ====
abbrev S8x224x1024 : Shape := ⟨3, ![8, 224, 1024]⟩
abbrev S224x1024 : Shape := ⟨2, ![224, 1024]⟩
abbrev S1x224x1024 : Shape := ⟨3, ![1, 224, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x224x1024, .bf16⟩
  | .hbm, ⟨1, _⟩ => ⟨S224x1024, .f32⟩
  | .local _ .vmem, ⟨0, _⟩ => ⟨S8x224x1024, .bf16⟩
  | .local _ .vmem, ⟨1, _⟩ => ⟨S224x1024, .f32⟩
  | _, _ => ⟨S8x224x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x224x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S224x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Kernel23Ideal.lean ====
abbrev S8x224x1024 : Shape := ⟨3, ![8, 224, 1024]⟩
abbrev S224x1024 : Shape := ⟨2, ![224, 1024]⟩
abbrev S1x224x1024 : Shape := ⟨3, ![1, 224, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x224x1024, .bf16⟩
  | .hbm, ⟨1, _⟩ => ⟨S224x1024, .f32⟩
  | .local _ .vmem, ⟨0, _⟩ => ⟨S8x224x1024, .bf16⟩
  | .local _ .vmem, ⟨1, _⟩ => ⟨S224x1024, .f32⟩
  | _, _ => ⟨S8x224x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x224x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S224x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference23Ideal.lean ====
abbrev S8x224x1024 : Shape := ⟨3, ![8, 224, 1024]⟩
abbrev S_ : Shape := ⟨0, ![]⟩
abbrev S224x1024 : Shape := ⟨2, ![224, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x224x1024, .bf16⟩
  | .hbm, ⟨1, _⟩ => ⟨S8x224x1024, .f32⟩
  | .hbm, ⟨2, _⟩ => ⟨S_, .f32⟩
  | .hbm, ⟨3, _⟩ => ⟨S224x1024, .f32⟩
  | _, _ => ⟨S8x224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel24.lean ====
abbrev S8x352x1024 : Shape := ⟨3, ![8, 352, 1024]⟩
abbrev S352x1024 : Shape := ⟨2, ![352, 1024]⟩
abbrev S1x352x1024 : Shape := ⟨3, ![1, 352, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .local _ .vmem, ⟨0, _⟩ => ⟨S8x352x1024, .bf16⟩
  | .local _ .vmem, ⟨1, _⟩ => ⟨S352x1024, .f32⟩
  | _, _ => ⟨S8x352x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Kernel24Ideal.lean ====
abbrev S8x352x1024 : Shape := ⟨3, ![8, 352, 1024]⟩
abbrev S352x1024 : Shape := ⟨2, ![352, 1024]⟩
abbrev S1x352x1024 : Shape := ⟨3, ![1, 352, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .local _ .vmem, ⟨0, _⟩ => ⟨S8x352x1024, .bf16⟩
  | .local _ .vmem, ⟨1, _⟩ => ⟨S352x1024, .f32⟩
  | _, _ => ⟨S8x352x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference24Ideal.lean ====
abbrev S8x352x1024 : Shape := ⟨3, ![8, 352, 1024]⟩
abbrev S_ : Shape := ⟨0, ![]⟩
abbrev S352x1024 : Shape := ⟨2, ![352, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .f32⟩
  | .hbm, ⟨2, _⟩ => ⟨S_, .f32⟩
  | .hbm, ⟨3, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel25.lean ====
abbrev S8x1088x128 : Shape := ⟨3, ![8, 1088, 128]⟩
abbrev S1088x128 : Shape := ⟨2, ![1088, 128]⟩
abbrev S1x1088x128 : Shape := ⟨3, ![1, 1088, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x1088x128, .f32⟩
  | .hbm, ⟨1, _⟩ => ⟨S1088x128, .f32⟩
  | .local _ .vmem, ⟨0, _⟩ => ⟨S8x1088x128, .f32⟩
  | .local _ .vmem, ⟨1, _⟩ => ⟨S1088x128, .f32⟩
  | _, _ => ⟨S8x1088x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1088x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1088x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Kernel25Ideal.lean ====
abbrev S8x1088x128 : Shape := ⟨3, ![8, 1088, 128]⟩
abbrev S1088x128 : Shape := ⟨2, ![1088, 128]⟩
abbrev S1x1088x128 : Shape := ⟨3, ![1, 1088, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x1088x128, .f32⟩
  | .hbm, ⟨1, _⟩ => ⟨S1088x128, .f32⟩
  | .local _ .vmem, ⟨0, _⟩ => ⟨S8x1088x128, .f32⟩
  | .local _ .vmem, ⟨1, _⟩ => ⟨S1088x128, .f32⟩
  | _, _ => ⟨S8x1088x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1088x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1088x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference25Ideal.lean ====
abbrev S8x1088x128 : Shape := ⟨3, ![8, 1088, 128]⟩
abbrev S_ : Shape := ⟨0, ![]⟩
abbrev S1088x128 : Shape := ⟨2, ![1088, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x1088x128, .f32⟩
  | .hbm, ⟨1, _⟩ => ⟨S_, .f32⟩
  | .hbm, ⟨2, _⟩ => ⟨S1088x128, .f32⟩
  | _, _ => ⟨S8x1088x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel26.lean ====
abbrev S8x24x128 : Shape := ⟨3, ![8, 24, 128]⟩
abbrev S24x128 : Shape := ⟨2, ![24, 128]⟩
abbrev S1x24x128 : Shape := ⟨3, ![1, 24, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x24x128, .f32⟩
  | .hbm, ⟨1, _⟩ => ⟨S24x128, .f32⟩
  | .local _ .vmem, ⟨0, _⟩ => ⟨S8x24x128, .f32⟩
  | .local _ .vmem, ⟨1, _⟩ => ⟨S24x128, .f32⟩
  | _, _ => ⟨S8x24x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x24x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S24x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference26Ideal.lean ====
abbrev S8x24x128 : Shape := ⟨3, ![8, 24, 128]⟩
abbrev S_ : Shape := ⟨0, ![]⟩
abbrev S24x128 : Shape := ⟨2, ![24, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x24x128, .f32⟩
  | .hbm, ⟨1, _⟩ => ⟨S_, .f32⟩
  | .hbm, ⟨2, _⟩ => ⟨S24x128, .f32⟩
  | _, _ => ⟨S8x24x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel27.lean ====
abbrev S8192x512 : Shape := ⟨2, ![8192, 512]⟩
abbrev S8192x128 : Shape := ⟨2, ![8192, 128]⟩
abbrev S8192x768 : Shape := ⟨2, ![8192, 768]⟩
abbrev S1x64 : Shape := ⟨2, ![1, 64]⟩
abbrev S8192x32 : Shape := ⟨2, ![8192, 32]⟩
abbrev S2 : Shape := ⟨1, ![2]⟩
abbrev S1x2 : Shape := ⟨2, ![1, 2]⟩
abbrev S64x2 : Shape := ⟨2, ![64, 2]⟩
abbrev S128 : Shape := ⟨1, ![128]⟩
abbrev S512x8192 : Shape := ⟨2, ![512, 8192]⟩
abbrev S8x64x16x512 : Shape := ⟨4, ![8, 64, 16, 512]⟩
abbrev S8x16x64x512 : Shape := ⟨4, ![8, 16, 64, 512]⟩
abbrev S128x8192 : Shape := ⟨2, ![128, 8192]⟩
abbrev S2x64x32x256 : Shape := ⟨4, ![2, 64, 32, 256]⟩
abbrev S2x32x64x256 : Shape := ⟨4, ![2, 32, 64, 256]⟩
abbrev S1x1x1x64 : Shape := ⟨4, ![1, 1, 1, 64]⟩
abbrev S1x1x8x64 : Shape := ⟨4, ![1, 1, 8, 64]⟩
abbrev S1x512 : Shape := ⟨2, ![1, 512]⟩
abbrev S1x1x2x64 : Shape := ⟨4, ![1, 1, 2, 64]⟩
abbrev S1x128 : Shape := ⟨2, ![1, 128]⟩
abbrev S8192x32x2 : Shape := ⟨3, ![8192, 32, 2]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S512 : Shape := ⟨1, ![512]⟩
abbrev S_ : Shape := ⟨0, ![]⟩
abbrev S512x1 : Shape := ⟨2, ![512, 1]⟩
abbrev S512x512 : Shape := ⟨2, ![512, 512]⟩
abbrev S128x1 : Shape := ⟨2, ![128, 1]⟩
abbrev S128x128 : Shape := ⟨2, ![128, 128]⟩
abbrev S8x1x64x512 : Shape := ⟨4, ![8, 1, 64, 512]⟩
abbrev S2x2x64x256 : Shape := ⟨4, ![2, 2, 64, 256]⟩
abbrev S512x768 : Shape := ⟨2, ![512, 768]⟩
abbrev S512x128 : Shape := ⟨2, ![512, 128]⟩
abbrev S8x64x512 : Shape := ⟨3, ![8, 64, 512]⟩
abbrev S2x1x64x256 : Shape := ⟨4, ![2, 1, 64, 256]⟩
abbrev S2x64x256 : Shape := ⟨3, ![2, 64, 256]⟩
abbrev S128x256 : Shape := ⟨2, ![128, 256]⟩
abbrev S256x128 : Shape := ⟨2, ![256, 128]⟩

abbrev nBuf : Space → Nat
  | .hbm => 101
  | .vmem => 20
  | .smem => 0
  | _ => 0

abbrev bufTy : (tb : Table) → Fin (tcTables nBuf tb) → BufTy
  | .hbm, ⟨0, _⟩ => ⟨S8192x512, .f32⟩
  | .hbm, ⟨1, _⟩ => ⟨S8192x128, .f32⟩
  | .hbm, ⟨2, _⟩ => ⟨S8192x128, .f32⟩
  | .hbm, ⟨3, _⟩ => ⟨S8192x768, .f32⟩
  | .hbm, ⟨4, _⟩ => ⟨S1x64, .f32⟩
  | .hbm, ⟨5, _⟩ => ⟨S1x64, .f32⟩
  | .hbm, ⟨6, _⟩ => ⟨S8192x32, .f32⟩
  | .hbm, ⟨7, _⟩ => ⟨S8192x32, .f32⟩
  | .hbm, ⟨8, _⟩ => ⟨S2, .f32⟩
  | .hbm, ⟨9, _⟩ => ⟨S1x2, .f32⟩
  | .hbm, ⟨10, _⟩ => ⟨S64x2, .f32⟩
  | .hbm, ⟨11, _⟩ => ⟨S128, .f32⟩
  | .hbm, ⟨12, _⟩ => ⟨S512x8192, .f32⟩
  | .hbm, ⟨13, _⟩ => ⟨S8x64x16x512, .f32⟩
  | .hbm, ⟨14, _⟩ => ⟨S8x16x64x512, .f32⟩
  | .hbm, ⟨15, _⟩ => ⟨S128x8192, .f32⟩
  | .hbm, ⟨16, _⟩ => ⟨S2x64x32x256, .f32⟩
  | .hbm, ⟨17, _⟩ => ⟨S2x32x64x256, .f32⟩
  | .hbm, ⟨18, _⟩ => ⟨S128x8192, .f32⟩
  | .hbm, ⟨19, _⟩ => ⟨S2x64x32x256, .f32⟩
  | .hbm, ⟨20, _⟩ => ⟨S2x32x64x256, .f32⟩
  | .hbm, ⟨21, _⟩ => ⟨S1x1x1x64, .f32⟩
  | .hbm, ⟨22, _⟩ => ⟨S1x1x8x64, .f32⟩
  | .hbm, ⟨23, _⟩ => ⟨S1x512, .f32⟩
  | .hbm, ⟨24, _⟩ => ⟨S1x1x1x64, .f32⟩
  | .hbm, ⟨25, _⟩ => ⟨S1x1x2x64, .f32⟩
  | .hbm, ⟨26, _⟩ => ⟨S1x128, .f32⟩
  | .hbm, ⟨27, _⟩ => ⟨S8192x32x2, .f32⟩
  | .hbm, ⟨28, _⟩ => ⟨S8192x64, .f32⟩
  | .hbm, ⟨29, _⟩ => ⟨S1x8192x1x64, .f32⟩
  | .hbm, ⟨30, _⟩ => ⟨S1x8192x2x64, .f32⟩
  | .hbm, ⟨31, _⟩ => ⟨S8192x128, .f32⟩
  | .hbm, ⟨32, _⟩ => ⟨S8192x32x2, .f32⟩
  | .hbm, ⟨33, _⟩ => ⟨S8192x64, .f32⟩
  | .hbm, ⟨34, _⟩ => ⟨S1x8192x1x64, .f32⟩
  | .hbm, ⟨35, _⟩ => ⟨S1x8192x2x64, .f32⟩
  | .hbm, ⟨36, _⟩ => ⟨S8192x128, .f32⟩
  | .hbm, ⟨37, _⟩ => ⟨S1x128, .f32⟩
  | .hbm, ⟨38, _⟩ => ⟨S8192x128, .f32⟩
  | .hbm, ⟨39, _⟩ => ⟨S8192x128, .f32⟩
  | .hbm, ⟨40, _⟩ => ⟨S512, .i32⟩
  | .hbm, ⟨41, _⟩ => ⟨S_, .i32⟩
  | .hbm, ⟨42, _⟩ => ⟨S_, .i32⟩
  | .hbm, ⟨43, _⟩ => ⟨S512, .i32⟩
  | .hbm, ⟨44, _⟩ => ⟨S512, .i32⟩
  | .hbm, ⟨45, _⟩ => ⟨S512, .i32⟩
  | .hbm, ⟨46, _⟩ => ⟨S_, .i32⟩
  | .hbm, ⟨47, _⟩ => ⟨S512, .i32⟩
  | .hbm, ⟨48, _⟩ => ⟨S512, .i1⟩
  | .hbm, ⟨49, _⟩ => ⟨S512, .i32⟩
  | .hbm, ⟨50, _⟩ => ⟨S512, .i32⟩
  | .hbm, ⟨51, _⟩ => ⟨S_, .i32⟩
  | .hbm, ⟨52, _⟩ => ⟨S512, .i32⟩
  | .hbm, ⟨53, _⟩ => ⟨S512, .i1⟩
  | .hbm, ⟨54, _⟩ => ⟨S512, .i1⟩
  | .hbm, ⟨55, _⟩ => ⟨S_, .i32⟩
  | .hbm, ⟨56, _⟩ => ⟨S512, .i32⟩
  | .hbm, ⟨57, _⟩ => ⟨S512, .i32⟩
  | .hbm, ⟨58, _⟩ => ⟨S512, .i32⟩
  | .hbm, ⟨59, _⟩ => ⟨S512x1, .i32⟩
  | .hbm, ⟨60, _⟩ => ⟨S1x512, .i32⟩
  | .hbm, ⟨61, _⟩ => ⟨S512x512, .i32⟩
  | .hbm, ⟨62, _⟩ => ⟨S512x512, .i32⟩
  | .hbm, ⟨63, _⟩ => ⟨S512x512, .i1⟩
  | .hbm, ⟨64, _⟩ => ⟨S512x512, .f32⟩
  | .hbm, ⟨65, _⟩ => ⟨S_, .f32⟩
  | .hbm, ⟨66, _⟩ => ⟨S512x512, .f32⟩
  | .hbm, ⟨67, _⟩ => ⟨S512x512, .f32⟩
  | .hbm, ⟨68, _⟩ => ⟨S512x512, .bf16⟩
  | .hbm, ⟨69, _⟩ => ⟨S128, .i32⟩
  | .hbm, ⟨70, _⟩ => ⟨S_, .i32⟩
  | .hbm, ⟨71, _⟩ => ⟨S_, .i32⟩
  | .hbm, ⟨72, _⟩ => ⟨S128, .i32⟩
  | .hbm, ⟨73, _⟩ => ⟨S128, .i32⟩
  | .hbm, ⟨74, _⟩ => ⟨S128, .i32⟩
  | .hbm, ⟨75, _⟩ => ⟨S_, .i32⟩
  | .hbm, ⟨76, _⟩ => ⟨S128, .i32⟩
  | .hbm, ⟨77, _⟩ => ⟨S128, .i1⟩
  | .hbm, ⟨78, _⟩ => ⟨S128, .i32⟩
  | .hbm, ⟨79, _⟩ => ⟨S128, .i32⟩
  | .hbm, ⟨80, _⟩ => ⟨S_, .i32⟩
  | .hbm, ⟨81, _⟩ => ⟨S128, .i32⟩
  | .hbm, ⟨82, _⟩ => ⟨S128, .i1⟩
  | .hbm, ⟨83, _⟩ => ⟨S128, .i1⟩
  | .hbm, ⟨84, _⟩ => ⟨S_, .i32⟩
  | .hbm, ⟨85, _⟩ => ⟨S128, .i32⟩
  | .hbm, ⟨86, _⟩ => ⟨S128, .i32⟩
  | .hbm, ⟨87, _⟩ => ⟨S128, .i32⟩
  | .hbm, ⟨88, _⟩ => ⟨S128x1, .i32⟩
  | .hbm, ⟨89, _⟩ => ⟨S1x128, .i32⟩
  | .hbm, ⟨90, _⟩ => ⟨S128x128, .i32⟩
  | .hbm, ⟨91, _⟩ => ⟨S128x128, .i32⟩
  | .hbm, ⟨92, _⟩ => ⟨S128x128, .i1⟩
  | .hbm, ⟨93, _⟩ => ⟨S128x128, .f32⟩
  | .hbm, ⟨94, _⟩ => ⟨S_, .f32⟩
  | .hbm, ⟨95, _⟩ => ⟨S128x128, .f32⟩
  | .hbm, ⟨96, _⟩ => ⟨S128x128, .f32⟩
  | .hbm, ⟨97, _⟩ => ⟨S128x128, .bf16⟩
  | .hbm, ⟨98, _⟩ => ⟨S8192x768, .bf16⟩
  | .hbm, ⟨99, _⟩ => ⟨S1x512, .f32⟩
  | .hbm, ⟨100, _⟩ => ⟨S1x128, .f32⟩
  | .local _ .vmem, ⟨0, _⟩ => ⟨S8x1x64x512, .f32⟩
  | .local _ .vmem, ⟨1, _⟩ => ⟨S8x1x64x512, .f32⟩
  | .local _ .vmem, ⟨2, _⟩ => ⟨S2x2x64x256, .f32⟩
  | .local _ .vmem, ⟨3, _⟩ => ⟨S2x2x64x256, .f32⟩
  | .local _ .vmem, ⟨4, _⟩ => ⟨S2x2x64x256, .f32⟩
  | .local _ .vmem, ⟨5, _⟩ => ⟨S2x2x64x256, .f32⟩
  | .local _ .vmem, ⟨6, _⟩ => ⟨S512x768, .f32⟩
  | .local _ .vmem, ⟨7, _⟩ => ⟨S512x768, .f32⟩
  | .local _ .vmem, ⟨8, _⟩ => ⟨S1x512, .f32⟩
  | .local _ .vmem, ⟨9, _⟩ => ⟨S1x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x512, .bf16⟩
  | .local _ .vmem, ⟨15, _⟩ => ⟨S128x128, .bf16⟩
  | .local _ .vmem, ⟨16, _⟩ => ⟨S512x768, .bf16⟩
  | .local _ .vmem, ⟨17, _⟩ => ⟨S512x768, .bf16⟩
  | .local _ .vmem, ⟨18, _⟩ => ⟨S1x512, .f32⟩
  | .local _ .vmem, ⟨19, _⟩ => ⟨S1x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_c : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_v7 : Ref sig .tc := ⟨.hbm, 49, rfl⟩
abbrev main_call0_v8 : Ref sig .tc := ⟨.hbm, 50, rfl⟩
abbrev main_call0_c : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_c_0 : Ref sig .tc := ⟨.hbm, 55, rfl⟩
abbrev main_call0_v12 : Ref sig .tc := ⟨.hbm, 56, rfl⟩
abbrev main_call0_v13 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_0 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_1 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_v5 : Ref sig .tc := ⟨.hbm, 76, rfl⟩
abbrev main_call1_v6 : Ref sig .tc := ⟨.hbm, 77, rfl⟩
abbrev main_call1_v7 : Ref sig .tc := ⟨.hbm, 78, rfl⟩
abbrev main_call1_v8 : Ref sig .tc := ⟨.hbm, 79, rfl⟩
abbrev main_call1_c : Ref sig .tc := ⟨.hbm, 80, rfl⟩
abbrev main_call1_v9 : Ref sig .tc := ⟨.hbm, 81, rfl⟩
abbrev main_call1_v10 : Ref sig .tc := ⟨.hbm, 82, rfl⟩
abbrev main_call1_v11 : Ref sig .tc := ⟨.hbm, 83, rfl⟩
abbrev main_call1_c_0 : Ref sig .tc := ⟨.hbm, 84, rfl⟩
abbrev main_call1_v12 : Ref sig .tc := ⟨.hbm, 85, rfl⟩
abbrev main_call1_v13 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_cst_2 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53_0 : Ref sig .tc := ⟨.hbm, 98, rfl⟩
abbrev main_v53_1 : Ref sig .tc := ⟨.hbm, 99, rfl⟩
abbrev main_v53_2 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x2x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x2x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference27Ideal.lean ====
abbrev S8192x512 : Shape := ⟨2, ![8192, 512]⟩
abbrev S8192x128 : Shape := ⟨2, ![8192, 128]⟩
abbrev S8192x768 : Shape := ⟨2, ![8192, 768]⟩
abbrev S1x64 : Shape := ⟨2, ![1, 64]⟩
abbrev S8192x32 : Shape := ⟨2, ![8192, 32]⟩
abbrev S8x64 : Shape := ⟨2, ![8, 64]⟩
abbrev S2x64 : Shape := ⟨2, ![2, 64]⟩
abbrev S8192x8x64 : Shape := ⟨3, ![8192, 8, 64]⟩
abbrev S_ : Shape := ⟨0, ![]⟩
abbrev S8192x8 : Shape := ⟨2, ![8192, 8]⟩
abbrev S8192x8x1 : Shape := ⟨3, ![8192, 8, 1]⟩
abbrev S1x8x64 : Shape := ⟨3, ![1, 8, 64]⟩
abbrev S8192x8x32x2 : Shape := ⟨4, ![8192, 8, 32, 2]⟩
abbrev S8192x8x32x1 : Shape := ⟨4, ![8192, 8, 32, 1]⟩
abbrev S8192x8x32 : Shape := ⟨3, ![8192, 8, 32]⟩
abbrev S8192x1x32 : Shape := ⟨3, ![8192, 1, 32]⟩
abbrev S8192x2x64 : Shape := ⟨3, ![8192, 2, 64]⟩
abbrev S8192x2 : Shape := ⟨2, ![8192, 2]⟩
abbrev S8192x2x1 : Shape := ⟨3, ![8192, 2, 1]⟩
abbrev S1x2x64 : Shape := ⟨3, ![1, 2, 64]⟩
abbrev S8192x2x32x2 : Shape := ⟨4, ![8192, 2, 32, 2]⟩
abbrev S8192x2x32x1 : Shape := ⟨4, ![8192, 2, 32, 1]⟩
abbrev S8192x2x32 : Shape := ⟨3, ![8192, 2, 32]⟩
abbrev S1x512 : Shape := ⟨2, ![1, 512]⟩
abbrev S1x128 : Shape := ⟨2, ![1, 128]⟩

abbrev nBuf : Space → Nat
  | .hbm => 211
  | .vmem => 0
  | .smem => 0
  | _ => 0

abbrev hbmTy0_0 (i : Nat) : BufTy := match i % 128 with
  | 0 => ⟨S8192x512, .f32⟩
  | 1 => ⟨S8192x128, .f32⟩
  | 2 => ⟨S8192x128, .f32⟩
  | 3 => ⟨S8192x768, .f32⟩
  | 4 => ⟨S1x64, .f32⟩
  | 5 => ⟨S1x64, .f32⟩
  | 6 => ⟨S8192x32, .f32⟩
  | 7 => ⟨S8192x32, .f32⟩
  | 8 => ⟨S8x64, .f32⟩
  | 9 => ⟨S2x64, .f32⟩
  | 10 => ⟨S8192x512, .f32⟩
  | 11 => ⟨S8192x128, .f32⟩
  | 12 => ⟨S8192x128, .f32⟩
  | 13 => ⟨S8192x8x64, .f32⟩
  | 14 => ⟨S8192x8x64, .f32⟩
  | 15 => ⟨S_, .f32⟩
  | 16 => ⟨S8192x8, .f32⟩
  | 17 => ⟨S8192x8x1, .f32⟩
  | 18 => ⟨S_, .f32⟩
  | 19 => ⟨S8192x8x1, .f32⟩
  | 20 => ⟨S8192x8x1, .f32⟩
  | 21 => ⟨S_, .f32⟩
  | 22 => ⟨S8192x8x1, .f32⟩
  | 23 => ⟨S8192x8x1, .f32⟩
  | 24 => ⟨S8192x8x1, .f32⟩
  | 25 => ⟨S8192x8x1, .f32⟩
  | 26 => ⟨S_, .f32⟩
  | 27 => ⟨S8192x8x1, .f32⟩
  | 28 => ⟨S8192x8x1, .f32⟩
  | 29 => ⟨S8192x8x64, .f32⟩
  | 30 => ⟨S8192x8x64, .f32⟩
  | 31 => ⟨S1x8x64, .f32⟩
  | 32 => ⟨S8192x8x64, .f32⟩
  | 33 => ⟨S8192x8x64, .f32⟩
  | 34 => ⟨S8192x8x32x2, .f32⟩
  | 35 => ⟨S8192x8x32x1, .f32⟩
  | 36 => ⟨S8192x8x32, .f32⟩
  | 37 => ⟨S8192x8x32x1, .f32⟩
  | 38 => ⟨S8192x8x32, .f32⟩
  | 39 => ⟨S8192x1x32, .f32⟩
  | 40 => ⟨S8192x1x32, .f32⟩
  | 41 => ⟨S8192x8x32, .f32⟩
  | 42 => ⟨S8192x8x32, .f32⟩
  | 43 => ⟨S8192x8x32, .f32⟩
  | 44 => ⟨S8192x8x32, .f32⟩
  | 45 => ⟨S8192x8x32, .f32⟩
  | 46 => ⟨S8192x8x32, .f32⟩
  | 47 => ⟨S8192x8x32, .f32⟩
  | 48 => ⟨S8192x8x32, .f32⟩
  | 49 => ⟨S8192x8x32, .f32⟩
  | 50 => ⟨S8192x8x32, .f32⟩
  | 51 => ⟨S8192x8x32x1, .f32⟩
  | 52 => ⟨S8192x8x32x1, .f32⟩
  | 53 => ⟨S8192x8x32x2, .f32⟩
  | 54 => ⟨S8192x8x64, .f32⟩
  | 55 => ⟨S8192x2x64, .f32⟩
  | 56 => ⟨S8192x2x64, .f32⟩
  | 57 => ⟨S_, .f32⟩
  | 58 => ⟨S8192x2, .f32⟩
  | 59 => ⟨S8192x2x1, .f32⟩
  | 60 => ⟨S_, .f32⟩
  | 61 => ⟨S8192x2x1, .f32⟩
  | 62 => ⟨S8192x2x1, .f32⟩
  | 63 => ⟨S_, .f32⟩
  | 64 => ⟨S8192x2x1, .f32⟩
  | 65 => ⟨S8192x2x1, .f32⟩
  | 66 => ⟨S8192x2x1, .f32⟩
  | 67 => ⟨S8192x2x1, .f32⟩
  | 68 => ⟨S_, .f32⟩
  | 69 => ⟨S8192x2x1, .f32⟩
  | 70 => ⟨S8192x2x1, .f32⟩
  | 71 => ⟨S8192x2x64, .f32⟩
  | 72 => ⟨S8192x2x64, .f32⟩
  | 73 => ⟨S1x2x64, .f32⟩
  | 74 => ⟨S8192x2x64, .f32⟩
  | 75 => ⟨S8192x2x64, .f32⟩
  | 76 => ⟨S8192x2x32x2, .f32⟩
  | 77 => ⟨S8192x2x32x1, .f32⟩
  | 78 => ⟨S8192x2x32, .f32⟩
  | 79 => ⟨S8192x2x32x1, .f32⟩
  | 80 => ⟨S8192x2x32, .f32⟩
  | 81 => ⟨S8192x1x32, .f32⟩
  | 82 => ⟨S8192x1x32, .f32⟩
  | 83 => ⟨S8192x2x32, .f32⟩
  | 84 => ⟨S8192x2x32, .f32⟩
  | 85 => ⟨S8192x2x32, .f32⟩
  | 86 => ⟨S8192x2x32, .f32⟩
  | 87 => ⟨S8192x2x32, .f32⟩
  | 88 => ⟨S8192x2x32, .f32⟩
  | 89 => ⟨S8192x2x32, .f32⟩
  | 90 => ⟨S8192x2x32, .f32⟩
  | 91 => ⟨S8192x2x32, .f32⟩
  | 92 => ⟨S8192x2x32, .f32⟩
  | 93 => ⟨S8192x2x32x1, .f32⟩
  | 94 => ⟨S8192x2x32x1, .f32⟩
  | 95 => ⟨S8192x2x32x2, .f32⟩
  | 96 => ⟨S8192x2x64, .f32⟩
  | 97 => ⟨S8192x512, .f32⟩
  | 98 => ⟨S_, .f32⟩
  | 99 => ⟨S8192x512, .f32⟩
  | 100 => ⟨S8192x512, .f32⟩
  | 101 => ⟨S8192x128, .f32⟩
  | 102 => ⟨S8192x2x64, .f32⟩
  | 103 => ⟨S_, .f32⟩
  | 104 => ⟨S8192x512, .f32⟩
  | 105 => ⟨S8192x512, .f32⟩
  | 106 => ⟨S8192x8x64, .f32⟩
  | 107 => ⟨S8192x2x32x2, .f32⟩
  | 108 => ⟨S8192x2x32x1, .f32⟩
  | 109 => ⟨S8192x2x32, .f32⟩
  | 110 => ⟨S8192x2x32x1, .f32⟩
  | 111 => ⟨S8192x2x32, .f32⟩
  | 112 => ⟨S8192x2x32, .f32⟩
  | 113 => ⟨S8192x2x32, .f32⟩
  | 114 => ⟨S8192x2x32, .f32⟩
  | 115 => ⟨S8192x2x32, .f32⟩
  | 116 => ⟨S8192x2x32, .f32⟩
  | 117 => ⟨S8192x2x32, .f32⟩
  | 118 => ⟨S8192x2x32, .f32⟩
  | 119 => ⟨S8192x2x32, .f32⟩
  | 120 => ⟨S8192x2x32, .f32⟩
  | 121 => ⟨S8192x2x32, .f32⟩
  | 122 => ⟨S8192x2x32, .f32⟩
  | 123 => ⟨S8192x2x32x1, .f32⟩
  | 124 => ⟨S_, .f32⟩
  | 125 => ⟨S8192x2x32x2, .f32⟩
  | 126 => ⟨S8192x2x32x1, .f32⟩
  | 127 => ⟨S_, .f32⟩
  | _ => ⟨S8192x512, .f32⟩

abbrev hbmTy0_1 (i : Nat) : BufTy := match i % 128 with
  | 0 => ⟨S8192x2x32x2, .f32⟩
  | 1 => ⟨S8192x2x32x2, .f32⟩
  | 2 => ⟨S8192x2x64, .f32⟩
  | 3 => ⟨S8192x2x64, .f32⟩
  | 4 => ⟨S_, .f32⟩
  | 5 => ⟨S2x64, .f32⟩
  | 6 => ⟨S1x2x64, .f32⟩
  | 7 => ⟨S8192x2x64, .f32⟩
  | 8 => ⟨S8192x2x64, .f32⟩
  | 9 => ⟨S_, .f32⟩
  | 10 => ⟨S2x64, .f32⟩
  | 11 => ⟨S8192x2x64, .f32⟩
  | 12 => ⟨S_, .f32⟩
  | 13 => ⟨S8192x2, .f32⟩
  | 14 => ⟨S8192x2x1, .f32⟩
  | 15 => ⟨S8192x2x64, .f32⟩
  | 16 => ⟨S8192x2x64, .f32⟩
  | 17 => ⟨S8192x2x1, .f32⟩
  | 18 => ⟨S_, .f32⟩
  | 19 => ⟨S8192x2x1, .f32⟩
  | 20 => ⟨S8192x2x1, .f32⟩
  | 21 => ⟨S_, .f32⟩
  | 22 => ⟨S8192x2, .f32⟩
  | 23 => ⟨S8192x2x64, .f32⟩
  | 24 => ⟨S8192x2x64, .f32⟩
  | 25 => ⟨S8192x2x64, .f32⟩
  | 26 => ⟨S8192x2x64, .f32⟩
  | 27 => ⟨S8192x2x64, .f32⟩
  | 28 => ⟨S8192x128, .f32⟩
  | 29 => ⟨S8192x8x32x2, .f32⟩
  | 30 => ⟨S8192x8x32x1, .f32⟩
  | 31 => ⟨S8192x8x32, .f32⟩
  | 32 => ⟨S8192x8x32x1, .f32⟩
  | 33 => ⟨S8192x8x32, .f32⟩
  | 34 => ⟨S8192x8x32, .f32⟩
  | 35 => ⟨S8192x8x32, .f32⟩
  | 36 => ⟨S8192x8x32, .f32⟩
  | 37 => ⟨S8192x8x32, .f32⟩
  | 38 => ⟨S8192x8x32, .f32⟩
  | 39 => ⟨S8192x8x32, .f32⟩
  | 40 => ⟨S8192x8x32, .f32⟩
  | 41 => ⟨S8192x8x32, .f32⟩
  | 42 => ⟨S8192x8x32, .f32⟩
  | 43 => ⟨S8192x8x32, .f32⟩
  | 44 => ⟨S8192x8x32, .f32⟩
  | 45 => ⟨S8192x8x32x1, .f32⟩
  | 46 => ⟨S_, .f32⟩
  | 47 => ⟨S8192x8x32x2, .f32⟩
  | 48 => ⟨S8192x8x32x1, .f32⟩
  | 49 => ⟨S_, .f32⟩
  | 50 => ⟨S8192x8x32x2, .f32⟩
  | 51 => ⟨S8192x8x32x2, .f32⟩
  | 52 => ⟨S8192x8x64, .f32⟩
  | 53 => ⟨S8192x8x64, .f32⟩
  | 54 => ⟨S_, .f32⟩
  | 55 => ⟨S8x64, .f32⟩
  | 56 => ⟨S1x8x64, .f32⟩
  | 57 => ⟨S8192x8x64, .f32⟩
  | 58 => ⟨S8192x8x64, .f32⟩
  | 59 => ⟨S_, .f32⟩
  | 60 => ⟨S8x64, .f32⟩
  | 61 => ⟨S8192x8x64, .f32⟩
  | 62 => ⟨S_, .f32⟩
  | 63 => ⟨S8192x8, .f32⟩
  | 64 => ⟨S8192x8x1, .f32⟩
  | 65 => ⟨S8192x8x64, .f32⟩
  | 66 => ⟨S8192x8x64, .f32⟩
  | 67 => ⟨S8192x8x1, .f32⟩
  | 68 => ⟨S_, .f32⟩
  | 69 => ⟨S8192x8x1, .f32⟩
  | 70 => ⟨S8192x8x1, .f32⟩
  | 71 => ⟨S_, .f32⟩
  | 72 => ⟨S8192x8, .f32⟩
  | 73 => ⟨S8192x8x64, .f32⟩
  | 74 => ⟨S8192x8x64, .f32⟩
  | 75 => ⟨S8192x8x64, .f32⟩
  | 76 => ⟨S8192x8x64, .f32⟩
  | 77 => ⟨S8192x8x64, .f32⟩
  | 78 => ⟨S8192x512, .f32⟩
  | 79 => ⟨S8192x768, .f32⟩
  | 80 => ⟨S8192x768, .bf16⟩
  | 81 => ⟨S1x512, .f32⟩
  | 82 => ⟨S1x128, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_3 : Ref sig .tc := ⟨.hbm, 57, rfl⟩
abbrev main_v45 : Ref sig .tc := ⟨.hbm, 58, rfl⟩
abbrev main_v46 : Ref sig .tc := ⟨.hbm, 59, rfl⟩
abbrev main_cst_4 : Ref sig .tc := ⟨.hbm, 60, rfl⟩
abbrev main_v47 : Ref sig .tc := ⟨.hbm, 61, rfl⟩
abbrev main_v48 : Ref sig .tc := ⟨.hbm, 62, rfl⟩
abbrev main_cst_5 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_6 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_cst_7 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_cst_8 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_cst_9 : Ref sig .tc := ⟨.hbm, 124, rfl⟩
abbrev main_v106 : Ref sig .tc := ⟨.hbm, 125, rfl⟩
abbrev main_v107 : Ref sig .tc := ⟨.hbm, 126, rfl⟩
abbrev main_cst_10 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_cst_11 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_cst_12 : Ref sig .tc := ⟨.hbm, 137, rfl⟩
abbrev main_v116 : Ref sig .tc := ⟨.hbm, 138, rfl⟩
abbrev main_v117 : Ref sig .tc := ⟨.hbm, 139, rfl⟩
abbrev main_cst_13 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_cst_14 : Ref sig .tc := ⟨.hbm, 146, rfl⟩
abbrev main_v123 : Ref sig .tc := ⟨.hbm, 147, rfl⟩
abbrev main_v124 : Ref sig .tc := ⟨.hbm, 148, rfl⟩
abbrev main_cst_15 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_cst_16 : Ref sig .tc := ⟨.hbm, 174, rfl⟩
abbrev main_v149 : Ref sig .tc := ⟨.hbm, 175, rfl⟩
abbrev main_v150 : Ref sig .tc := ⟨.hbm, 176, rfl⟩
abbrev main_cst_17 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_cst_18 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_cst_19 : Ref sig .tc := ⟨.hbm, 187, rfl⟩
abbrev main_v159 : Ref sig .tc := ⟨.hbm, 188, rfl⟩
abbrev main_v160 : Ref sig .tc := ⟨.hbm, 189, rfl⟩
abbrev main_cst_20 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_cst_21 : Ref sig .tc := ⟨.hbm, 196, rfl⟩
abbrev main_v166 : Ref sig .tc := ⟨.hbm, 197, rfl⟩
abbrev main_v167 : Ref sig .tc := ⟨.hbm, 198, rfl⟩
abbrev main_cst_22 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_v174 : Ref sig .tc := ⟨.hbm, 206, rfl⟩
abbrev main_v175 : Ref sig .tc := ⟨.hbm, 207, rfl⟩
abbrev main_v176 : Ref sig .tc := ⟨.hbm, 208, rfl⟩
abbrev main_v177 : Ref sig .tc := ⟨.hbm, 209, rfl⟩
abbrev main_v178 : Ref sig .tc := ⟨.hbm, 210, rfl⟩

abbrev nD : Nat := 1
abbrev τ : Topo := Topo.v7x

variable {F : FTy → Type} [FloatOps F]
-- ==== Kernel28.lean ====
abbrev S8192x1024 : Shape := ⟨2, ![8192, 1024]⟩
abbrev S8192x512 : Shape := ⟨2, ![8192, 512]⟩
abbrev S1x512 : Shape := ⟨2, ![1, 512]⟩
abbrev S8x128x128 : Shape := ⟨3, ![8, 128, 128]⟩
abbrev S8x128 : Shape := ⟨2, ![8, 128]⟩
abbrev S1024x1024 : Shape := ⟨2, ![1024, 1024]⟩
abbrev S512x8192 : Shape := ⟨2, ![512, 8192]⟩
abbrev S8x64x16x512 : Shape := ⟨4, ![8, 64, 16, 512]⟩
abbrev S8x16x64x512 : Shape := ⟨4, ![8, 16, 64, 512]⟩
abbrev S128x8 : Shape := ⟨2, ![128, 8]⟩
abbrev S128x8x64 : Shape := ⟨3, ![128, 8, 64]⟩
abbrev S128x512 : Shape := ⟨2, ![128, 512]⟩
abbrev S512x1024 : Shape := ⟨2, ![512, 1024]⟩
abbrev S8x1x64x512 : Shape := ⟨4, ![8, 1, 64, 512]⟩
abbrev S512x512 : Shape := ⟨2, ![512, 512]⟩
abbrev S512 : Shape := ⟨1, ![512]⟩
abbrev S512x1 : Shape := ⟨2, ![512, 1]⟩
abbrev S512x128 : Shape := ⟨2, ![512, 128]⟩
abbrev S64x128 : Shape := ⟨2, ![64, 128]⟩
abbrev S1x128x128 : Shape := ⟨3, ![1, 128, 128]⟩
abbrev S128x128 : Shape := ⟨2, ![128, 128]⟩
abbrev S8x64x512 : Shape := ⟨3, ![8, 64, 512]⟩

abbrev nBuf : Space → Nat
  | .hbm => 20
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x1024, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S8x128x128, .f32⟩
  | .hbm, ⟨7, _⟩ => ⟨S8x128, .f32⟩
  | .hbm, ⟨8, _⟩ => ⟨S1024x1024, .f32⟩
  | .hbm, ⟨9, _⟩ => ⟨S512x8192, .f32⟩
  | .hbm, ⟨10, _⟩ => ⟨S8x64x16x512, .f32⟩
  | .hbm, ⟨11, _⟩ => ⟨S8x16x64x512, .f32⟩
  | .hbm, ⟨12, _⟩ => ⟨S8x128x128, .f32⟩
  | .hbm, ⟨13, _⟩ => ⟨S8x128x128, .bf16⟩
  | .hbm, ⟨14, _⟩ => ⟨S128x8, .f32⟩
  | .hbm, ⟨15, _⟩ => ⟨S128x8x64, .f32⟩
  | .hbm, ⟨16, _⟩ => ⟨S128x512, .f32⟩
  | .hbm, ⟨17, _⟩ => ⟨S1024x1024, .bf16⟩
  | .hbm, ⟨18, _⟩ => ⟨S8192x1024, .f32⟩
  | .hbm, ⟨19, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S8x1x64x512, .f32⟩
  | .local _ .vmem, ⟨3, _⟩ => ⟨S8x1x64x512, .f32⟩
  | .local _ .vmem, ⟨4, _⟩ => ⟨S512x1024, .f32⟩
  | .local _ .vmem, ⟨5, _⟩ => ⟨S512x1024, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S8x128x128, .bf16⟩
  | .local _ .vmem, ⟨10, _⟩ => ⟨S128x512, .f32⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference28Ideal.lean ====
abbrev S8192x1024 : Shape := ⟨2, ![8192, 1024]⟩
abbrev S8192x512 : Shape := ⟨2, ![8192, 512]⟩
abbrev S1x512 : Shape := ⟨2, ![1, 512]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S64x128x8x64 : Shape := ⟨4, ![64, 128, 8, 64]⟩
abbrev S8x64x64x128 : Shape := ⟨4, ![8, 64, 64, 128]⟩
abbrev S128x8 : Shape := ⟨2, ![128, 8]⟩
abbrev S1x128x8x1 : Shape := ⟨4, ![1, 128, 8, 1]⟩

abbrev nBuf : Space → Nat
  | .hbm => 86
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x1024, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S8x128x128, .f32⟩
  | .hbm, ⟨7, _⟩ => ⟨S8x128, .f32⟩
  | .hbm, ⟨8, _⟩ => ⟨S1024x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S64x128x8x64, .f32⟩
  | .hbm, ⟨44, _⟩ => ⟨S8x64x64x128, .f32⟩
  | .hbm, ⟨45, _⟩ => ⟨S64x128x8x64, .f32⟩
  | .hbm, ⟨46, _⟩ => ⟨S128x8, .f32⟩
  | .hbm, ⟨47, _⟩ => ⟨S1x128x8x1, .f32⟩
  | .hbm, ⟨48, _⟩ => ⟨S64x128x8x64, .f32⟩
  | .hbm, ⟨49, _⟩ => ⟨S64x128x8x64, .f32⟩
  | .hbm, ⟨50, _⟩ => ⟨S8192x512, .f32⟩
  | .hbm, ⟨51, _⟩ => ⟨S8192x512, .f32⟩
  | .hbm, ⟨52, _⟩ => ⟨S8192x512, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S8192x1, .f32⟩
  | .hbm, ⟨63, _⟩ => ⟨S8192x512, .f32⟩
  | .hbm, ⟨64, _⟩ => ⟨S8192x512, .f32⟩
  | .hbm, ⟨65, _⟩ => ⟨S8192x512, .f32⟩
  | .hbm, ⟨66, _⟩ => ⟨S8192x512, .f32⟩
  | .hbm, ⟨67, _⟩ => ⟨S8192x512, .f32⟩
  | .hbm, ⟨68, _⟩ => ⟨S_, .f32⟩
  | .hbm, ⟨69, _⟩ => ⟨S8192, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S_, .f32⟩
  | .hbm, ⟨75, _⟩ => ⟨S8192x1, .f32⟩
  | .hbm, ⟨76, _⟩ => ⟨S8192x1, .f32⟩
  | .hbm, ⟨77, _⟩ => ⟨S8192x1, .f32⟩
  | .hbm, ⟨78, _⟩ => ⟨S8192x512, .f32⟩
  | .hbm, ⟨79, _⟩ => ⟨S8192x512, .f32⟩
  | .hbm, ⟨80, _⟩ => ⟨S8192x512, .f32⟩
  | .hbm, ⟨81, _⟩ => ⟨S8192x512, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩

abbrev nD : Nat := 1
abbrev τ : Topo := Topo.v7x

variable {F : FTy → Type} [FloatOps F]
-- ==== Proof.Own.lean ====
/- Loads and stores of a memref that is owned whole: what a load returns and what a store leaves, stated on the
   contents the memref reads rather than on its buffer. -/
module

public import Idealize.ShloMosaic.Lib.Tactic
public import Idealize.ShloMosaic.Lib.Pipeline.FrameBody

@[expose] public section

set_option maxRecDepth 16384

noncomputable section

namespace Cert.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}
variable {Ix : Type} [DecidableEq Ix] {Name : Type} [DecidableEq Name] {U : Type} [URA U] {Lvl : Type} [Preorder Lvl]
variable {defs : Defs nD τ sig Val Λ} (𝒱 : Variants) (c : Thread nD τ) (bd : Option 𝒱.V) (E : Set Name)
variable {α : Type} {Q : α → sProp (MT nD τ sig Ix Val Name U Lvl)}

/-- The part of an array's contents that a rectangle covers. -/
def get {sh : Shape} {A : Type} (r : Rect sh) (X : sh.Idx → A) : r.shape.Idx → A := fun i => X (r.emb i)

/-- A load through a rectangle of an owned memref returns the covered part of its contents and leaves them. -/
theorem load {cs : CoreSpace} {s : Shape} {e : EltTy} {m : Memref sig c.2.kind cs s e} {r : Rect s} {hl : m.view.LoadsAt r.toLoadRect}
    {k : (r.toLoadRect.shape.Idx → Val e) → Prog (TpuEff nD τ sig Val Λ c.2) α} {q : PosShare TreeShare} {X : s.Idx → Val e} :
    (owns c m q X : sProp (MT nD τ sig Ix Val Name U Lvl))
      ⊢ iprop((owns c m q X -∗ wp frame (wpE defs 𝒱 c bd) E (k (get r X)) Q)
        -∗ wp frame (wpE defs 𝒱 c bd) E (.op (.load m r.toLoadRect hl) k) Q) := by
  unfold owns
  iintro ⟨%f, %hf, H⟩ Hk
  subst hf
  iapply (wp_load 𝒱 c bd E (m := m) (r := r.toLoadRect) (S := m.view.set) (f := f) (by have h := m.view.set_slice_subset r; rw [View.set_slice] at h; exact h)) $$ H
  iintro H
  iapply Hk
  iexists f
  isplitr; · ipureintro; rfl
  iexact H

/-- A store over a rectangle of a wholly owned memref leaves its contents with that rectangle's part replaced. -/
theorem store {cs : CoreSpace} {s : Shape} {e : EltTy} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {X : s.Idx → Val e} :
    (owns c m fullShare X : sProp (MT nD τ sig Ix Val Name U Lvl))
      ⊢ iprop((owns c m fullShare (r.overlay X w) -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  subst hf
  iapply (wp_store 𝒱 c bd E (m := m) (r := r) (S := (show Finset (Idx (View.loc c (m.access r))) from m.view.set)) (f := f) (m.view.set_slice_subset r)) $$ H
  iintro H
  iapply Hk
  iexists (m.access r).write Val f w Finset.univ
  isplitr
  · ipureintro
    funext j
    by_cases hj : j ∈ r.set
    · obtain ⟨i, rfl⟩ := r.exists_idx_of_mem hj
      exact (m.view.read_writes_cons_emb f r w [] i).trans (r.overlay_emb _ _ i).symm
    · rw [Rect.overlay_of_not_mem _ _ _ hj]
      exact m.view.read_writes_cons_miss f ⟨r, w⟩ [] j hj
  iexact H

end Cert.Own
-- ==== Proof.Step.lean ====
/- The unrolled loop body as sixteen steps of one shape, and what one step does to the arrays it reads and writes. -/
module

public import proofs.«01_k».proof.Proof.Gen.KernelIdeal.Skeleton
public import proofs.«01_k».proof.Proof.Gen.KernelIdeal.Loops
public import proofs.«01_k».proof.Proof.Gen.KernelIdeal.Frame
public import proofs.«01_k».proof.Proof.Own

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

/-- The first half of a two-slot scratch array. -/
abbrev slot0 : Rect S2x512x256 := Rect.unit (s := S2x512x256) ![0, 0, 0] S1x512x256.size inb_S2x512x256_S1x512x256_0_0_0
/-- The second half of a two-slot scratch array. -/
abbrev slot1 : Rect S2x512x256 := Rect.unit (s := S2x512x256) ![1, 0, 0] S1x512x256.size inb_S2x512x256_S1x512x256_1_0_0
/-- The tile of a head-major array that step `r` of trip `k` finishes. -/
abbrev tileP (k : Fin k0_t1_loop.trips) (r : Fin 16) : Rect S4x16x64x512 :=
  Rect.unit (s := S4x16x64x512) (k0_off1 k (BitVec.ofNat 32 r.val)) S1x1x64x512.size (k0_off1_inb k r)
/-- The tile of a token-major array whose scores step `r` of trip `k` starts. -/
abbrev tileN (k : Fin k0_t1_loop.trips) (r : Fin 16) : Rect S4x16x512x128 :=
  Rect.unit (s := S4x16x512x128) (k0_off2 k (BitVec.ofNat 32 r.val)) S1x1x512x128.size (k0_off2_inb k r)

/-- One step of the unrolled body at slot 0: it finishes the previous tile out of slot 1, starts the next tile's scores into slot 1,
    and turns slot 0's scores into probabilities and score gradients. -/
def stepE (arg2 : Memref sig .tc .vmem S1x1x128x256 .bf16) (harg2 : arg2.IsWhole) (arg3 : Memref sig .tc .vmem S4x16x512x128 .bf16) (harg3 : arg3.IsWhole) (arg4 : Memref sig .tc .vmem S4x16x512x128 .bf16) (harg4 : arg4.IsWhole) (arg5 : Memref sig .tc .vmem S4x16x64x512 .bf16) (harg5 : arg5.IsWhole) (arg6 : Memref sig .tc .vmem S4x16x64x512 .bf16) (harg6 : arg6.IsWhole) (arg7 : Memref sig .tc .vmem S1x1x128x256 .bf16) (harg7 : arg7.IsWhole) (arg8 : Memref sig .tc .vmem S4x16x64x512 .f32) (harg8 : arg8.IsWhole) (arg9 : Memref sig .tc .vmem S1x1x64x256 .f32) (harg9 : arg9.IsWhole) (arg10 : Memref sig .tc .vmem S1x1x64x256 .f32) (harg10 : arg10.IsWhole) (arg11 : Memref sig .tc .vmem S2x512x256 .f32) (harg11 : arg11.IsWhole) (arg12 : Memref sig .tc .vmem S2x512x256 .f32) (harg12 : arg12.IsWhole) (arg13 : Memref sig .tc .vmem S2x512x256 .bf16) (harg13 : arg13.IsWhole) (arg14 : Memref sig .tc .vmem S2x512x256 .bf16) (harg14 : arg14.IsWhole)
    (v4 : FVec F S128x256 .bf16) (v6 : FVec F S128x256 .bf16) (v7 : FVec F S64x256 .bf16) (k : Fin k0_t1_loop.trips) (r : Fin 16)
    (acc : FVec F S64x256 .f32 × FVec F S64x256 .f32) :
    Prog (TpuEff nD τ sig (Elt F) Λ₀ .tc) (FVec F S64x256 .f32 × FVec F S64x256 .f32) := do
  let s ← Prog.lift (.load arg11 slot0.toLoadRect (View.loadsAt_vmem h_S1x512x256))
  let d ← Prog.lift (.load arg12 slot0.toLoadRect (View.loadsAt_vmem h_S1x512x256))
  let g ← Prog.lift (.load arg14 slot1.toLoadRect (View.loadsAt_vmem h_S1x512x256))
  let x ← Prog.lift (.load arg8 (tileP k r).toLoadRect (View.loadsAt_vmem h_S1x1x64x512))
  let _ ← Prog.lift (.load arg8 (tileP k r).toLoadRect (View.loadsAt_vmem h_S1x1x64x512))
  Prog.lift (.store arg8 (tileP k r) (k0_pay6 v7 g x) Finset.univ (View.stores_vmem_bits_univ h_S1x1x64x512 rfl) (.inl rfl))
  let q ← Prog.lift (.load arg5 (tileP k r).toLoadRect (View.loadsAt_vmem h_S1x1x64x512))
  let o ← Prog.lift (.load arg6 (tileP k r).toLoadRect (View.loadsAt_vmem h_S1x1x64x512))
  let p ← Prog.lift (.load arg13 slot1.toLoadRect (View.loadsAt_vmem h_S1x512x256))
  let qn ← Prog.lift (.load arg3 (tileN k r).toLoadRect (View.loadsAt_vmem h_S1x1x512x128))
  let _ ← Prog.lift (.load arg11 slot1.toLoadRect (View.loadsAt_vmem h_S1x512x256))
  Prog.lift (.store arg11 slot1 (k0_pay9 v4 qn) Finset.univ (View.stores_vmem_bits_univ h_S1x512x256 rfl) (.inl rfl))
  let on ← Prog.lift (.load arg4 (tileN k r).toLoadRect (View.loadsAt_vmem h_S1x1x512x128))
  let _ ← Prog.lift (.load arg12 slot1.toLoadRect (View.loadsAt_vmem h_S1x512x256))
  Prog.lift (.store arg12 slot1 (k0_pay10 v6 on) Finset.univ (View.stores_vmem_bits_univ h_S1x512x256 rfl) (.inl rfl))
  let _ ← Prog.lift (.load arg13 slot0.toLoadRect (View.loadsAt_vmem h_S1x512x256))
  Prog.lift (.store arg13 slot0 (k0_pay12 (k0_pay3 s)) Finset.univ (View.stores_vmem h_S1x512x256 (harg13.storeExact_slice rfl _ packedbf16_S2x512x256_S1x512x256_0_0_0) (fun _ => rfl)) (.inl rfl))
  let _ ← Prog.lift (.load arg14 slot0.toLoadRect (View.loadsAt_vmem h_S1x512x256))
  Prog.lift (.store arg14 slot0 (k0_pay13 (k0_pay3 s) (k0_pay4 d)) Finset.univ (View.stores_vmem h_S1x512x256 (harg14.storeExact_slice rfl _ packedbf16_S2x512x256_S1x512x256_0_0_0) (fun _ => rfl)) (.inl rfl))
  pure (k0_pay7 acc.1 g q, k0_pay8 acc.2 o p)

/-- One step of the unrolled body at slot 1: it finishes the previous tile out of slot 0, starts the next tile's scores into slot 0,
    and turns slot 1's scores into probabilities and score gradients. -/
def stepO (arg2 : Memref sig .tc .vmem S1x1x128x256 .bf16) (harg2 : arg2.IsWhole) (arg3 : Memref sig .tc .vmem S4x16x512x128 .bf16) (harg3 : arg3.IsWhole) (arg4 : Memref sig .tc .vmem S4x16x512x128 .bf16) (harg4 : arg4.IsWhole) (arg5 : Memref sig .tc .vmem S4x16x64x512 .bf16) (harg5 : arg5.IsWhole) (arg6 : Memref sig .tc .vmem S4x16x64x512 .bf16) (harg6 : arg6.IsWhole) (arg7 : Memref sig .tc .vmem S1x1x128x256 .bf16) (harg7 : arg7.IsWhole) (arg8 : Memref sig .tc .vmem S4x16x64x512 .f32) (harg8 : arg8.IsWhole) (arg9 : Memref sig .tc .vmem S1x1x64x256 .f32) (harg9 : arg9.IsWhole) (arg10 : Memref sig .tc .vmem S1x1x64x256 .f32) (harg10 : arg10.IsWhole) (arg11 : Memref sig .tc .vmem S2x512x256 .f32) (harg11 : arg11.IsWhole) (arg12 : Memref sig .tc .vmem S2x512x256 .f32) (harg12 : arg12.IsWhole) (arg13 : Memref sig .tc .vmem S2x512x256 .bf16) (harg13 : arg13.IsWhole) (arg14 : Memref sig .tc .vmem S2x512x256 .bf16) (harg14 : arg14.IsWhole)
    (v4 : FVec F S128x256 .bf16) (v6 : FVec F S128x256 .bf16) (v7 : FVec F S64x256 .bf16) (k : Fin k0_t1_loop.trips) (r : Fin 16)
    (acc : FVec F S64x256 .f32 × FVec F S64x256 .f32) :
    Prog (TpuEff nD τ sig (Elt F) Λ₀ .tc) (FVec F S64x256 .f32 × FVec F S64x256 .f32) := do
  let s ← Prog.lift (.load arg11 slot1.toLoadRect (View.loadsAt_vmem h_S1x512x256))
  let d ← Prog.lift (.load arg12 slot1.toLoadRect (View.loadsAt_vmem h_S1x512x256))
  let g ← Prog.lift (.load arg14 slot0.toLoadRect (View.loadsAt_vmem h_S1x512x256))
  let x ← Prog.lift (.load arg8 (tileP k r).toLoadRect (View.loadsAt_vmem h_S1x1x64x512))
  let _ ← Prog.lift (.load arg8 (tileP k r).toLoadRect (View.loadsAt_vmem h_S1x1x64x512))
  Prog.lift (.store arg8 (tileP k r) (k0_pay6 v7 g x) Finset.univ (View.stores_vmem_bits_univ h_S1x1x64x512 rfl) (.inl rfl))
  let q ← Prog.lift (.load arg5 (tileP k r).toLoadRect (View.loadsAt_vmem h_S1x1x64x512))
  let o ← Prog.lift (.load arg6 (tileP k r).toLoadRect (View.loadsAt_vmem h_S1x1x64x512))
  let p ← Prog.lift (.load arg13 slot0.toLoadRect (View.loadsAt_vmem h_S1x512x256))
  let qn ← Prog.lift (.load arg3 (tileN k r).toLoadRect (View.loadsAt_vmem h_S1x1x512x128))
  let _ ← Prog.lift (.load arg11 slot0.toLoadRect (View.loadsAt_vmem h_S1x512x256))
  Prog.lift (.store arg11 slot0 (k0_pay9 v4 qn) Finset.univ (View.stores_vmem_bits_univ h_S1x512x256 rfl) (.inl rfl))
  let on ← Prog.lift (.load arg4 (tileN k r).toLoadRect (View.loadsAt_vmem h_S1x1x512x128))
  let _ ← Prog.lift (.load arg12 slot0.toLoadRect (View.loadsAt_vmem h_S1x512x256))
  Prog.lift (.store arg12 slot0 (k0_pay10 v6 on) Finset.univ (View.stores_vmem_bits_univ h_S1x512x256 rfl) (.inl rfl))
  let _ ← Prog.lift (.load arg13 slot1.toLoadRect (View.loadsAt_vmem h_S1x512x256))
  Prog.lift (.store arg13 slot1 (k0_pay12 (k0_pay3 s)) Finset.univ (View.stores_vmem h_S1x512x256 (harg13.storeExact_slice rfl _ packedbf16_S2x512x256_S1x512x256_1_0_0) (fun _ => rfl)) (.inl rfl))
  let _ ← Prog.lift (.load arg14 slot1.toLoadRect (View.loadsAt_vmem h_S1x512x256))
  Prog.lift (.store arg14 slot1 (k0_pay13 (k0_pay3 s) (k0_pay4 d)) Finset.univ (View.stores_vmem h_S1x512x256 (harg14.storeExact_slice rfl _ packedbf16_S2x512x256_S1x512x256_1_0_0) (fun _ => rfl)) (.inl rfl))
  pure (k0_pay7 acc.1 g q, k0_pay8 acc.2 o p)

/-- Sixteen steps, one after another. -/
def steps (arg2 : Memref sig .tc .vmem S1x1x128x256 .bf16) (harg2 : arg2.IsWhole) (arg3 : Memref sig .tc .vmem S4x16x512x128 .bf16) (harg3 : arg3.IsWhole) (arg4 : Memref sig .tc .vmem S4x16x512x128 .bf16) (harg4 : arg4.IsWhole) (arg5 : Memref sig .tc .vmem S4x16x64x512 .bf16) (harg5 : arg5.IsWhole) (arg6 : Memref sig .tc .vmem S4x16x64x512 .bf16) (harg6 : arg6.IsWhole) (arg7 : Memref sig .tc .vmem S1x1x128x256 .bf16) (harg7 : arg7.IsWhole) (arg8 : Memref sig .tc .vmem S4x16x64x512 .f32) (harg8 : arg8.IsWhole) (arg9 : Memref sig .tc .vmem S1x1x64x256 .f32) (harg9 : arg9.IsWhole) (arg10 : Memref sig .tc .vmem S1x1x64x256 .f32) (harg10 : arg10.IsWhole) (arg11 : Memref sig .tc .vmem S2x512x256 .f32) (harg11 : arg11.IsWhole) (arg12 : Memref sig .tc .vmem S2x512x256 .f32) (harg12 : arg12.IsWhole) (arg13 : Memref sig .tc .vmem S2x512x256 .bf16) (harg13 : arg13.IsWhole) (arg14 : Memref sig .tc .vmem S2x512x256 .bf16) (harg14 : arg14.IsWhole)
    (v4 : FVec F S128x256 .bf16) (v6 : FVec F S128x256 .bf16) (v7 : FVec F S64x256 .bf16) (k : Fin k0_t1_loop.trips)
    (a : FVec F S64x256 .f32 × FVec F S64x256 .f32) :
    Prog (TpuEff nD τ sig (Elt F) Λ₀ .tc) (FVec F S64x256 .f32 × FVec F S64x256 .f32) := do
  let a ← stepE arg2 harg2 arg3 harg3 arg4 harg4 arg5 harg5 arg6 harg6 arg7 harg7 arg8 harg8 arg9 harg9 arg10 harg10 arg11 harg11 arg12 harg12 arg13 harg13 arg14 harg14 v4 v6 v7 k 0 a
  let a ← stepO arg2 harg2 arg3 harg3 arg4 harg4 arg5 harg5 arg6 harg6 arg7 harg7 arg8 harg8 arg9 harg9 arg10 harg10 arg11 harg11 arg12 harg12 arg13 harg13 arg14 harg14 v4 v6 v7 k 1 a
  let a ← stepE arg2 harg2 arg3 harg3 arg4 harg4 arg5 harg5 arg6 harg6 arg7 harg7 arg8 harg8 arg9 harg9 arg10 harg10 arg11 harg11 arg12 harg12 arg13 harg13 arg14 harg14 v4 v6 v7 k 2 a
  let a ← stepO arg2 harg2 arg3 harg3 arg4 harg4 arg5 harg5 arg6 harg6 arg7 harg7 arg8 harg8 arg9 harg9 arg10 harg10 arg11 harg11 arg12 harg12 arg13 harg13 arg14 harg14 v4 v6 v7 k 3 a
  let a ← stepE arg2 harg2 arg3 harg3 arg4 harg4 arg5 harg5 arg6 harg6 arg7 harg7 arg8 harg8 arg9 harg9 arg10 harg10 arg11 harg11 arg12 harg12 arg13 harg13 arg14 harg14 v4 v6 v7 k 4 a
  let a ← stepO arg2 harg2 arg3 harg3 arg4 harg4 arg5 harg5 arg6 harg6 arg7 harg7 arg8 harg8 arg9 harg9 arg10 harg10 arg11 harg11 arg12 harg12 arg13 harg13 arg14 harg14 v4 v6 v7 k 5 a
  let a ← stepE arg2 harg2 arg3 harg3 arg4 harg4 arg5 harg5 arg6 harg6 arg7 harg7 arg8 harg8 arg9 harg9 arg10 harg10 arg11 harg11 arg12 harg12 arg13 harg13 arg14 harg14 v4 v6 v7 k 6 a
  let a ← stepO arg2 harg2 arg3 harg3 arg4 harg4 arg5 harg5 arg6 harg6 arg7 harg7 arg8 harg8 arg9 harg9 arg10 harg10 arg11 harg11 arg12 harg12 arg13 harg13 arg14 harg14 v4 v6 v7 k 7 a
  let a ← stepE arg2 harg2 arg3 harg3 arg4 harg4 arg5 harg5 arg6 harg6 arg7 harg7 arg8 harg8 arg9 harg9 arg10 harg10 arg11 harg11 arg12 harg12 arg13 harg13 arg14 harg14 v4 v6 v7 k 8 a
  let a ← stepO arg2 harg2 arg3 harg3 arg4 harg4 arg5 harg5 arg6 harg6 arg7 harg7 arg8 harg8 arg9 harg9 arg10 harg10 arg11 harg11 arg12 harg12 arg13 harg13 arg14 harg14 v4 v6 v7 k 9 a
  let a ← stepE arg2 harg2 arg3 harg3 arg4 harg4 arg5 harg5 arg6 harg6 arg7 harg7 arg8 harg8 arg9 harg9 arg10 harg10 arg11 harg11 arg12 harg12 arg13 harg13 arg14 harg14 v4 v6 v7 k 10 a
  let a ← stepO arg2 harg2 arg3 harg3 arg4 harg4 arg5 harg5 arg6 harg6 arg7 harg7 arg8 harg8 arg9 harg9 arg10 harg10 arg11 harg11 arg12 harg12 arg13 harg13 arg14 harg14 v4 v6 v7 k 11 a
  let a ← stepE arg2 harg2 arg3 harg3 arg4 harg4 arg5 harg5 arg6 harg6 arg7 harg7 arg8 harg8 arg9 harg9 arg10 harg10 arg11 harg11 arg12 harg12 arg13 harg13 arg14 harg14 v4 v6 v7 k 12 a
  let a ← stepO arg2 harg2 arg3 harg3 arg4 harg4 arg5 harg5 arg6 harg6 arg7 harg7 arg8 harg8 arg9 harg9 arg10 harg10 arg11 harg11 arg12 harg12 arg13 harg13 arg14 harg14 v4 v6 v7 k 13 a
  let a ← stepE arg2 harg2 arg3 harg3 arg4 harg4 arg5 harg5 arg6 harg6 arg7 harg7 arg8 harg8 arg9 harg9 arg10 harg10 arg11 harg11 arg12 harg12 arg13 harg13 arg14 harg14 v4 v6 v7 k 14 a
  let a ← stepO arg2 harg2 arg3 harg3 arg4 harg4 arg5 harg5 arg6 harg6 arg7 harg7 arg8 harg8 arg9 harg9 arg10 harg10 arg11 harg11 arg12 harg12 arg13 harg13 arg14 harg14 v4 v6 v7 k 15 a
  pure a

set_option maxHeartbeats 4000000 in
/-- The loop's body is the sixteen steps. -/
theorem body_eq_steps (i : grid0.Coords) (arg2 : Memref sig .tc .vmem S1x1x128x256 .bf16) (harg2 : arg2.IsWhole) (arg3 : Memref sig .tc .vmem S4x16x512x128 .bf16) (harg3 : arg3.IsWhole) (arg4 : Memref sig .tc .vmem S4x16x512x128 .bf16) (harg4 : arg4.IsWhole) (arg5 : Memref sig .tc .vmem S4x16x64x512 .bf16) (harg5 : arg5.IsWhole) (arg6 : Memref sig .tc .vmem S4x16x64x512 .bf16) (harg6 : arg6.IsWhole) (arg7 : Memref sig .tc .vmem S1x1x128x256 .bf16) (harg7 : arg7.IsWhole) (arg8 : Memref sig .tc .vmem S4x16x64x512 .f32) (harg8 : arg8.IsWhole) (arg9 : Memref sig .tc .vmem S1x1x64x256 .f32) (harg9 : arg9.IsWhole) (arg10 : Memref sig .tc .vmem S1x1x64x256 .f32) (harg10 : arg10.IsWhole) (arg11 : Memref sig .tc .vmem S2x512x256 .f32) (harg11 : arg11.IsWhole) (arg12 : Memref sig .tc .vmem S2x512x256 .f32) (harg12 : arg12.IsWhole) (arg13 : Memref sig .tc .vmem S2x512x256 .bf16) (harg13 : arg13.IsWhole) (arg14 : Memref sig .tc .vmem S2x512x256 .bf16) (harg14 : arg14.IsWhole)
    (v4 : FVec F S128x256 .bf16) (v6 : FVec F S128x256 .bf16) (v7 : FVec F S64x256 .bf16) (k : Fin k0_t1_loop.trips)
    (a : FVec F S64x256 .f32 × FVec F S64x256 .f32) :
    k0_t1_body (F := F) i arg2 harg2 arg3 harg3 arg4 harg4 arg5 harg5 arg6 harg6 arg7 harg7 arg8 harg8 arg9 harg9 arg10 harg10 arg11 harg11 arg12 harg12 arg13 harg13 arg14 harg14 v4 v6 v7 k a = steps arg2 harg2 arg3 harg3 arg4 harg4 arg5 harg5 arg6 harg6 arg7 harg7 arg8 harg8 arg9 harg9 arg10 harg10 arg11 harg11 arg12 harg12 arg13 harg13 arg14 harg14 v4 v6 v7 k a := rfl

end Cert.KernelIdeal.Hand
-- ==== Proof.Trip.lean ====
/- What one step of the loop's body does to the arrays it holds. -/
module

public import proofs.«01_k».proof.Proof.Step

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Own

variable {F : FTy → Type} [FloatOps F] [Named F]

local notation "𝕄" => MT nD τ sig Unit (Elt F) ℕ (UR sig nD τ) ℕ

/-- The arrays a step of the loop holds: four read-only inputs and the output and scratch arrays it changes, each whole at the given contents. -/
def mem (c : Dev nD) (arg3 : Memref sig .tc .vmem S4x16x512x128 .bf16) (arg4 : Memref sig .tc .vmem S4x16x512x128 .bf16) (arg5 : Memref sig .tc .vmem S4x16x64x512 .bf16) (arg6 : Memref sig .tc .vmem S4x16x64x512 .bf16) (arg8 : Memref sig .tc .vmem S4x16x64x512 .f32) (arg11 : Memref sig .tc .vmem S2x512x256 .f32) (arg12 : Memref sig .tc .vmem S2x512x256 .f32) (arg13 : Memref sig .tc .vmem S2x512x256 .bf16) (arg14 : Memref sig .tc .vmem S2x512x256 .bf16)
    (X3 : Vec F S4x16x512x128 .bf16) (X4 : Vec F S4x16x512x128 .bf16) (X5 : Vec F S4x16x64x512 .bf16) (X6 : Vec F S4x16x64x512 .bf16)
    (D : Vec F S4x16x64x512 .f32) (s d : Vec F S2x512x256 .f32) (p g : Vec F S2x512x256 .bf16) : sProp 𝕄 :=
  iprop(owns (c : Thread nD τ) arg3 fullShare X3 ∗ owns (c : Thread nD τ) arg4 fullShare X4 ∗ owns (c : Thread nD τ) arg5 fullShare X5
    ∗ owns (c : Thread nD τ) arg6 fullShare X6 ∗ owns (c : Thread nD τ) arg8 fullShare D ∗ owns (c : Thread nD τ) arg11 fullShare s
    ∗ owns (c : Thread nD τ) arg12 fullShare d ∗ owns (c : Thread nD τ) arg13 fullShare p ∗ owns (c : Thread nD τ) arg14 fullShare g)

set_option maxHeartbeats 1600000 in
/-- What `stepE` leaves in the arrays it holds, and the carried sums it yields. -/
theorem stepE_wp (𝒱 : Variants) (c : Dev nD) (arg2 : Memref sig .tc .vmem S1x1x128x256 .bf16) (harg2 : arg2.IsWhole) (arg3 : Memref sig .tc .vmem S4x16x512x128 .bf16) (harg3 : arg3.IsWhole) (arg4 : Memref sig .tc .vmem S4x16x512x128 .bf16) (harg4 : arg4.IsWhole) (arg5 : Memref sig .tc .vmem S4x16x64x512 .bf16) (harg5 : arg5.IsWhole) (arg6 : Memref sig .tc .vmem S4x16x64x512 .bf16) (harg6 : arg6.IsWhole) (arg7 : Memref sig .tc .vmem S1x1x128x256 .bf16) (harg7 : arg7.IsWhole) (arg8 : Memref sig .tc .vmem S4x16x64x512 .f32) (harg8 : arg8.IsWhole) (arg9 : Memref sig .tc .vmem S1x1x64x256 .f32) (harg9 : arg9.IsWhole) (arg10 : Memref sig .tc .vmem S1x1x64x256 .f32) (harg10 : arg10.IsWhole) (arg11 : Memref sig .tc .vmem S2x512x256 .f32) (harg11 : arg11.IsWhole) (arg12 : Memref sig .tc .vmem S2x512x256 .f32) (harg12 : arg12.IsWhole) (arg13 : Memref sig .tc .vmem S2x512x256 .bf16) (harg13 : arg13.IsWhole) (arg14 : Memref sig .tc .vmem S2x512x256 .bf16) (harg14 : arg14.IsWhole)
    (X3 : Vec F S4x16x512x128 .bf16) (X4 : Vec F S4x16x512x128 .bf16) (X5 : Vec F S4x16x64x512 .bf16) (X6 : Vec F S4x16x64x512 .bf16)
    (D : Vec F S4x16x64x512 .f32) (s d : Vec F S2x512x256 .f32) (p g : Vec F S2x512x256 .bf16)
    (v4 : FVec F S128x256 .bf16) (v6 : FVec F S128x256 .bf16) (v7 : FVec F S64x256 .bf16) (k : Fin k0_t1_loop.trips) (r : Fin 16)
    (acc : FVec F S64x256 .f32 × FVec F S64x256 .f32) (Q : FVec F S64x256 .f32 × FVec F S64x256 .f32 → sProp 𝕄) :
    iprop(mem c arg3 arg4 arg5 arg6 arg8 arg11 arg12 arg13 arg14 X3 X4 X5 X6 D s d p g ∗
      (mem c arg3 arg4 arg5 arg6 arg8 arg11 arg12 arg13 arg14 X3 X4 X5 X6 ((tileP k r).overlay D (k0_pay6 v7 (get slot1 g) (get (tileP k r) D))) (slot1.overlay s (k0_pay9 v4 (get (tileN k r) X3))) (slot1.overlay d (k0_pay10 v6 (get (tileN k r) X4))) (slot0.overlay p (k0_pay12 (k0_pay3 (get slot0 s)))) (slot0.overlay g (k0_pay13 (k0_pay3 (get slot0 s)) (k0_pay4 (get slot0 d))))
        -∗ Q (k0_pay7 acc.1 (get slot1 g) (get (tileP k r) X5), k0_pay8 acc.2 (get (tileP k r) X6) (get slot1 p))))
      ⊢ wp frame (wpE defs₀ 𝒱 (c : Thread nD τ) none) Set.univ (stepE arg2 harg2 arg3 harg3 arg4 harg4 arg5 harg5 arg6 harg6 arg7 harg7 arg8 harg8 arg9 harg9 arg10 harg10 arg11 harg11 arg12 harg12 arg13 harg13 arg14 harg14 v4 v6 v7 k r acc) Q := by
  unfold stepE mem
  simp only [Prog.bind_lift, Prog.pure_eq_ret]
  iintro ⟨⟨H3, H4, H5, H6, H8, H11, H12, H13, H14⟩, Hk⟩
  iapply (Own.load 𝒱 (c : Thread nD τ) none Set.univ) $$ H11
  iintro H11
  iapply (Own.load 𝒱 (c : Thread nD τ) none Set.univ) $$ H12
  iintro H12
  iapply (Own.load 𝒱 (c : Thread nD τ) none Set.univ) $$ H14
  iintro H14
  iapply (Own.load 𝒱 (c : Thread nD τ) none Set.univ) $$ H8
  iintro H8
  iapply (Own.load 𝒱 (c : Thread nD τ) none Set.univ) $$ H8
  iintro H8
  iapply (Own.store 𝒱 (c : Thread nD τ) none Set.univ) $$ H8
  iintro H8
  iapply (Own.load 𝒱 (c : Thread nD τ) none Set.univ) $$ H5
  iintro H5
  iapply (Own.load 𝒱 (c : Thread nD τ) none Set.univ) $$ H6
  iintro H6
  iapply (Own.load 𝒱 (c : Thread nD τ) none Set.univ) $$ H13
  iintro H13
  iapply (Own.load 𝒱 (c : Thread nD τ) none Set.univ) $$ H3
  iintro H3
  iapply (Own.load 𝒱 (c : Thread nD τ) none Set.univ) $$ H11
  iintro H11
  iapply (Own.store 𝒱 (c : Thread nD τ) none Set.univ) $$ H11
  iintro H11
  iapply (Own.load 𝒱 (c : Thread nD τ) none Set.univ) $$ H4
  iintro H4
  iapply (Own.load 𝒱 (c : Thread nD τ) none Set.univ) $$ H12
  iintro H12
  iapply (Own.store 𝒱 (c : Thread nD τ) none Set.univ) $$ H12
  iintro H12
  iapply (Own.load 𝒱 (c : Thread nD τ) none Set.univ) $$ H13
  iintro H13
  iapply (Own.store 𝒱 (c : Thread nD τ) none Set.univ) $$ H13
  iintro H13
  iapply (Own.load 𝒱 (c : Thread nD τ) none Set.univ) $$ H14
  iintro H14
  iapply (Own.store 𝒱 (c : Thread nD τ) none Set.univ) $$ H14
  iintro H14
  rw [wp_ret]; imodintro
  iapply Hk
  iframe

set_option maxHeartbeats 1600000 in
/-- What `stepO` leaves in the arrays it holds, and the carried sums it yields. -/
theorem stepO_wp (𝒱 : Variants) (c : Dev nD) (arg2 : Memref sig .tc .vmem S1x1x128x256 .bf16) (harg2 : arg2.IsWhole) (arg3 : Memref sig .tc .vmem S4x16x512x128 .bf16) (harg3 : arg3.IsWhole) (arg4 : Memref sig .tc .vmem S4x16x512x128 .bf16) (harg4 : arg4.IsWhole) (arg5 : Memref sig .tc .vmem S4x16x64x512 .bf16) (harg5 : arg5.IsWhole) (arg6 : Memref sig .tc .vmem S4x16x64x512 .bf16) (harg6 : arg6.IsWhole) (arg7 : Memref sig .tc .vmem S1x1x128x256 .bf16) (harg7 : arg7.IsWhole) (arg8 : Memref sig .tc .vmem S4x16x64x512 .f32) (harg8 : arg8.IsWhole) (arg9 : Memref sig .tc .vmem S1x1x64x256 .f32) (harg9 : arg9.IsWhole) (arg10 : Memref sig .tc .vmem S1x1x64x256 .f32) (harg10 : arg10.IsWhole) (arg11 : Memref sig .tc .vmem S2x512x256 .f32) (harg11 : arg11.IsWhole) (arg12 : Memref sig .tc .vmem S2x512x256 .f32) (harg12 : arg12.IsWhole) (arg13 : Memref sig .tc .vmem S2x512x256 .bf16) (harg13 : arg13.IsWhole) (arg14 : Memref sig .tc .vmem S2x512x256 .bf16) (harg14 : arg14.IsWhole)
    (X3 : Vec F S4x16x512x128 .bf16) (X4 : Vec F S4x16x512x128 .bf16) (X5 : Vec F S4x16x64x512 .bf16) (X6 : Vec F S4x16x64x512 .bf16)
    (D : Vec F S4x16x64x512 .f32) (s d : Vec F S2x512x256 .f32) (p g : Vec F S2x512x256 .bf16)
    (v4 : FVec F S128x256 .bf16) (v6 : FVec F S128x256 .bf16) (v7 : FVec F S64x256 .bf16) (k : Fin k0_t1_loop.trips) (r : Fin 16)
    (acc : FVec F S64x256 .f32 × FVec F S64x256 .f32) (Q : FVec F S64x256 .f32 × FVec F S64x256 .f32 → sProp 𝕄) :
    iprop(mem c arg3 arg4 arg5 arg6 arg8 arg11 arg12 arg13 arg14 X3 X4 X5 X6 D s d p g ∗
      (mem c arg3 arg4 arg5 arg6 arg8 arg11 arg12 arg13 arg14 X3 X4 X5 X6 ((tileP k r).overlay D (k0_pay6 v7 (get slot0 g) (get (tileP k r) D))) (slot0.overlay s (k0_pay9 v4 (get (tileN k r) X3))) (slot0.overlay d (k0_pay10 v6 (get (tileN k r) X4))) (slot1.overlay p (k0_pay12 (k0_pay3 (get slot1 s)))) (slot1.overlay g (k0_pay13 (k0_pay3 (get slot1 s)) (k0_pay4 (get slot1 d))))
        -∗ Q (k0_pay7 acc.1 (get slot0 g) (get (tileP k r) X5), k0_pay8 acc.2 (get (tileP k r) X6) (get slot0 p))))
      ⊢ wp frame (wpE defs₀ 𝒱 (c : Thread nD τ) none) Set.univ (stepO arg2 harg2 arg3 harg3 arg4 harg4 arg5 harg5 arg6 harg6 arg7 harg7 arg8 harg8 arg9 harg9 arg10 harg10 arg11 harg11 arg12 harg12 arg13 harg13 arg14 harg14 v4 v6 v7 k r acc) Q := by
  unfold stepO mem
  simp only [Prog.bind_lift, Prog.pure_eq_ret]
  iintro ⟨⟨H3, H4, H5, H6, H8, H11, H12, H13, H14⟩, Hk⟩
  iapply (Own.load 𝒱 (c : Thread nD τ) none Set.univ) $$ H11
  iintro H11
  iapply (Own.load 𝒱 (c : Thread nD τ) none Set.univ) $$ H12
  iintro H12
  iapply (Own.load 𝒱 (c : Thread nD τ) none Set.univ) $$ H14
  iintro H14
  iapply (Own.load 𝒱 (c : Thread nD τ) none Set.univ) $$ H8
  iintro H8
  iapply (Own.load 𝒱 (c : Thread nD τ) none Set.univ) $$ H8
  iintro H8
  iapply (Own.store 𝒱 (c : Thread nD τ) none Set.univ) $$ H8
  iintro H8
  iapply (Own.load 𝒱 (c : Thread nD τ) none Set.univ) $$ H5
  iintro H5
  iapply (Own.load 𝒱 (c : Thread nD τ) none Set.univ) $$ H6
  iintro H6
  iapply (Own.load 𝒱 (c : Thread nD τ) none Set.univ) $$ H13
  iintro H13
  iapply (Own.load 𝒱 (c : Thread nD τ) none Set.univ) $$ H3
  iintro H3
  iapply (Own.load 𝒱 (c : Thread nD τ) none Set.univ) $$ H11
  iintro H11
  iapply (Own.store 𝒱 (c : Thread nD τ) none Set.univ) $$ H11
  iintro H11
  iapply (Own.load 𝒱 (c : Thread nD τ) none Set.univ) $$ H4
  iintro H4
  iapply (Own.load 𝒱 (c : Thread nD τ) none Set.univ) $$ H12
  iintro H12
  iapply (Own.store 𝒱 (c : Thread nD τ) none Set.univ) $$ H12
  iintro H12
  iapply (Own.load 𝒱 (c : Thread nD τ) none Set.univ) $$ H13
  iintro H13
  iapply (Own.store 𝒱 (c : Thread nD τ) none Set.univ) $$ H13
  iintro H13
  iapply (Own.load 𝒱 (c : Thread nD τ) none Set.univ) $$ H14
  iintro H14
  iapply (Own.store 𝒱 (c : Thread nD τ) none Set.univ) $$ H14
  iintro H14
  rw [wp_ret]; imodintro
  iapply Hk
  iframe

end Cert.KernelIdeal.Hand
-- ==== Proof.Loop.lean ====
/- The loop of the body: the values its slots hold at each tile, and the invariant that carries them through the sixty-four tiles. -/
module

public import proofs.«01_k».proof.Proof.Trip

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Own

variable {F : FTy → Type} [FloatOps F] [Named F]

local notation "𝕄" => MT nD τ sig Unit (Elt F) ℕ (UR sig nD τ) ℕ

/-! ## The tiles -/

theorem tileH_inb (t : ℕ) : ∀ a, ![t / 16 % 4, t % 16, 0, 0] a + S1x1x64x512.size a ≤ S4x16x64x512.size a := by
  intro a
  have h0 := Nat.mod_lt (t / 16) (show 0 < 4 by decide)
  have h1 := Nat.mod_lt t (show 0 < 16 by decide)
  fin_cases a <;> simp [S1x1x64x512, S4x16x64x512] <;> omega

theorem tileT_inb (t : ℕ) : ∀ a, ![t / 16 % 4, t % 16, 0, 0] a + S1x1x512x128.size a ≤ S4x16x512x128.size a := by
  intro a
  have h0 := Nat.mod_lt (t / 16) (show 0 < 4 by decide)
  have h1 := Nat.mod_lt t (show 0 < 16 by decide)
  fin_cases a <;> simp [S1x1x512x128, S4x16x512x128] <;> omega

/-- Tile `t` of a head-major array: head `t / 16`, query tile `t % 16`. -/
abbrev tileH (t : ℕ) : Rect S4x16x64x512 := Rect.unit (s := S4x16x64x512) ![t / 16 % 4, t % 16, 0, 0] S1x1x64x512.size (tileH_inb t)
/-- Tile `t` of a token-major array. -/
abbrev tileT (t : ℕ) : Rect S4x16x512x128 := Rect.unit (s := S4x16x512x128) ![t / 16 % 4, t % 16, 0, 0] S1x1x512x128.size (tileT_inb t)

theorem off1_eq : ∀ (k : Fin k0_t1_loop.trips) (r : Fin 16), k0_off1 k (BitVec.ofNat 32 r.val) = ![(16 * k.val + r.val - 1) / 16 % 4, (16 * k.val + r.val - 1) % 16, 0, 0] := by
  decide +kernel
theorem off2_eq : ∀ (k : Fin k0_t1_loop.trips) (r : Fin 16), k0_off2 k (BitVec.ofNat 32 r.val) = ![min (16 * k.val + r.val + 1) 63 / 16 % 4, min (16 * k.val + r.val + 1) 63 % 16, 0, 0] := by
  decide +kernel

theorem get_congr {A : Type} {s : Shape} {off off' size : Fin s.rank → ℕ} (h : off = off') (inb : ∀ a, off a + size a ≤ s.size a)
    (inb' : ∀ a, off' a + size a ≤ s.size a) (X : s.Idx → A) : get (Rect.unit off size inb) X = get (Rect.unit off' size inb') X := by
  subst h; rfl

theorem overlay_congr {A : Type} {s : Shape} {off off' size : Fin s.rank → ℕ} (h : off = off') (inb : ∀ a, off a + size a ≤ s.size a)
    (inb' : ∀ a, off' a + size a ≤ s.size a) (X : s.Idx → A) (w : (Rect.unit off size inb).shape.Idx → A) :
    (Rect.unit off size inb).overlay X w = (Rect.unit off' size inb').overlay X w := by
  subst h; rfl

/-- Tile `t` of a head-major array's contents. -/
def getH {e : EltTy} (t : ℕ) (X : Vec F S4x16x64x512 e) : Vec F S1x1x64x512 e := get (tileH t) X
/-- Tile `t` of a token-major array's contents. -/
def getT {e : EltTy} (t : ℕ) (X : Vec F S4x16x512x128 e) : Vec F S1x1x512x128 e := get (tileT t) X
/-- A head-major array's contents with tile `t` replaced. -/
def putH {e : EltTy} (t : ℕ) (X : Vec F S4x16x64x512 e) (w : Vec F S1x1x64x512 e) : Vec F S4x16x64x512 e := (tileH t).overlay X w

theorem get_tileP {e : EltTy} (k : Fin k0_t1_loop.trips) (r : Fin 16) (X : Vec F S4x16x64x512 e) :
    get (tileP k r) X = getH (16 * k.val + r.val - 1) X := get_congr (off1_eq k r) _ _ X
theorem get_tileN {e : EltTy} (k : Fin k0_t1_loop.trips) (r : Fin 16) (X : Vec F S4x16x512x128 e) :
    get (tileN k r) X = getT (min (16 * k.val + r.val + 1) 63) X := get_congr (off2_eq k r) _ _ X
theorem put_tileP {e : EltTy} (k : Fin k0_t1_loop.trips) (r : Fin 16) (X : Vec F S4x16x64x512 e) (w : Vec F S1x1x64x512 e) :
    (tileP k r).overlay X w = putH (16 * k.val + r.val - 1) X w := overlay_congr (off1_eq k r) _ _ X w

theorem get_overlay {A : Type} {s : Shape} (r : Rect s) (X : s.Idx → A) (w : r.shape.Idx → A) : get r (r.overlay X w) = w :=
  funext fun i => r.overlay_emb X w i

/-! ## The values at each tile -/

/-- Tile `t`'s scaled scores. -/
def Sc (v4 : FVec F S128x256 .bf16) (X3 : Vec F S4x16x512x128 .bf16) (t : ℕ) : FVec F S1x512x256 .f32 := k0_pay9 v4 (getT (min t 63) X3)
/-- Tile `t`'s shifted gradients of the probabilities. -/
def Dc (v6 : FVec F S128x256 .bf16) (X4 : Vec F S4x16x512x128 .bf16) (t : ℕ) : FVec F S1x512x256 .f32 := k0_pay10 v6 (getT (min t 63) X4)
/-- The probabilities of the tile before tile `t`, zero before the first. -/
def Pc (v4 : FVec F S128x256 .bf16) (X3 : Vec F S4x16x512x128 .bf16) : ℕ → FVec F S1x512x256 .bf16
  | 0 => k0_pay193
  | t + 1 => k0_pay12 (k0_pay3 (Sc v4 X3 t))
/-- The score gradients of the tile before tile `t`, zero before the first. -/
def Gc (v4 v6 : FVec F S128x256 .bf16) (X3 X4 : Vec F S4x16x512x128 .bf16) : ℕ → FVec F S1x512x256 .bf16
  | 0 => k0_pay194
  | t + 1 => k0_pay13 (k0_pay3 (Sc v4 X3 t)) (k0_pay4 (Dc v6 X4 t))
/-- The query gradients with the tiles before tile `t`'s predecessor added to `D`. -/
def Dq (v4 v6 : FVec F S128x256 .bf16) (v7 : FVec F S64x256 .bf16) (X3 X4 : Vec F S4x16x512x128 .bf16) (D : Vec F S4x16x64x512 .f32) : ℕ → Vec F S4x16x64x512 .f32
  | 0 => D
  | t + 1 => putH (t - 1) (Dq v4 v6 v7 X3 X4 D t) (k0_pay6 v7 (Gc v4 v6 X3 X4 t) (getH (t - 1) (Dq v4 v6 v7 X3 X4 D t)))
/-- The key gradient summed over the same tiles. -/
def Dk (v4 v6 : FVec F S128x256 .bf16) (X3 X4 : Vec F S4x16x512x128 .bf16) (X5 : Vec F S4x16x64x512 .bf16) : ℕ → FVec F S64x256 .f32
  | 0 => k0_pay195
  | t + 1 => k0_pay7 (Dk v4 v6 X3 X4 X5 t) (Gc v4 v6 X3 X4 t) (getH (t - 1) X5)
/-- The value gradient summed over the same tiles. -/
def Dv (v4 : FVec F S128x256 .bf16) (X3 : Vec F S4x16x512x128 .bf16) (X6 : Vec F S4x16x64x512 .bf16) : ℕ → FVec F S64x256 .f32
  | 0 => k0_pay195
  | t + 1 => k0_pay8 (Dv v4 X3 X6 t) (getH (t - 1) X6) (Pc v4 X3 t)

/-! ## The invariant -/

/-- Before tile `t`, whose scores are in slot 0: what the arrays hold and the sums carried so far. -/
def invE (c : Dev nD) (arg3 : Memref sig .tc .vmem S4x16x512x128 .bf16) (arg4 : Memref sig .tc .vmem S4x16x512x128 .bf16) (arg5 : Memref sig .tc .vmem S4x16x64x512 .bf16) (arg6 : Memref sig .tc .vmem S4x16x64x512 .bf16) (arg8 : Memref sig .tc .vmem S4x16x64x512 .f32) (arg11 : Memref sig .tc .vmem S2x512x256 .f32) (arg12 : Memref sig .tc .vmem S2x512x256 .f32) (arg13 : Memref sig .tc .vmem S2x512x256 .bf16) (arg14 : Memref sig .tc .vmem S2x512x256 .bf16)
    (X3 X4 : Vec F S4x16x512x128 .bf16) (X5 X6 : Vec F S4x16x64x512 .bf16) (D : Vec F S4x16x64x512 .f32) (v4 v6 : FVec F S128x256 .bf16) (v7 : FVec F S64x256 .bf16) (t : ℕ) (acc : FVec F S64x256 .f32 × FVec F S64x256 .f32) : sProp 𝕄 :=
  iprop(∃ s d p g, ⌜acc = (Dk v4 v6 X3 X4 X5 t, Dv v4 X3 X6 t) ∧ get slot0 s = Sc v4 X3 t ∧ get slot0 d = Dc v6 X4 t
      ∧ get slot1 p = Pc v4 X3 t ∧ get slot1 g = Gc v4 v6 X3 X4 t⌝
    ∗ mem c arg3 arg4 arg5 arg6 arg8 arg11 arg12 arg13 arg14 X3 X4 X5 X6 (Dq v4 v6 v7 X3 X4 D t) s d p g)

/-- Before tile `t`, whose scores are in slot 1: what the arrays hold and the sums carried so far. -/
def invO (c : Dev nD) (arg3 : Memref sig .tc .vmem S4x16x512x128 .bf16) (arg4 : Memref sig .tc .vmem S4x16x512x128 .bf16) (arg5 : Memref sig .tc .vmem S4x16x64x512 .bf16) (arg6 : Memref sig .tc .vmem S4x16x64x512 .bf16) (arg8 : Memref sig .tc .vmem S4x16x64x512 .f32) (arg11 : Memref sig .tc .vmem S2x512x256 .f32) (arg12 : Memref sig .tc .vmem S2x512x256 .f32) (arg13 : Memref sig .tc .vmem S2x512x256 .bf16) (arg14 : Memref sig .tc .vmem S2x512x256 .bf16)
    (X3 X4 : Vec F S4x16x512x128 .bf16) (X5 X6 : Vec F S4x16x64x512 .bf16) (D : Vec F S4x16x64x512 .f32) (v4 v6 : FVec F S128x256 .bf16) (v7 : FVec F S64x256 .bf16) (t : ℕ) (acc : FVec F S64x256 .f32 × FVec F S64x256 .f32) : sProp 𝕄 :=
  iprop(∃ s d p g, ⌜acc = (Dk v4 v6 X3 X4 X5 t, Dv v4 X3 X6 t) ∧ get slot1 s = Sc v4 X3 t ∧ get slot1 d = Dc v6 X4 t
      ∧ get slot0 p = Pc v4 X3 t ∧ get slot0 g = Gc v4 v6 X3 X4 t⌝
    ∗ mem c arg3 arg4 arg5 arg6 arg8 arg11 arg12 arg13 arg14 X3 X4 X5 X6 (Dq v4 v6 v7 X3 X4 D t) s d p g)

/-- One step takes the invariant at its tile to the invariant at the next. -/
theorem stepE_inv (𝒱 : Variants) (c : Dev nD) (arg2 : Memref sig .tc .vmem S1x1x128x256 .bf16) (harg2 : arg2.IsWhole) (arg3 : Memref sig .tc .vmem S4x16x512x128 .bf16) (harg3 : arg3.IsWhole) (arg4 : Memref sig .tc .vmem S4x16x512x128 .bf16) (harg4 : arg4.IsWhole) (arg5 : Memref sig .tc .vmem S4x16x64x512 .bf16) (harg5 : arg5.IsWhole) (arg6 : Memref sig .tc .vmem S4x16x64x512 .bf16) (harg6 : arg6.IsWhole) (arg7 : Memref sig .tc .vmem S1x1x128x256 .bf16) (harg7 : arg7.IsWhole) (arg8 : Memref sig .tc .vmem S4x16x64x512 .f32) (harg8 : arg8.IsWhole) (arg9 : Memref sig .tc .vmem S1x1x64x256 .f32) (harg9 : arg9.IsWhole) (arg10 : Memref sig .tc .vmem S1x1x64x256 .f32) (harg10 : arg10.IsWhole) (arg11 : Memref sig .tc .vmem S2x512x256 .f32) (harg11 : arg11.IsWhole) (arg12 : Memref sig .tc .vmem S2x512x256 .f32) (harg12 : arg12.IsWhole) (arg13 : Memref sig .tc .vmem S2x512x256 .bf16) (harg13 : arg13.IsWhole) (arg14 : Memref sig .tc .vmem S2x512x256 .bf16) (harg14 : arg14.IsWhole)
    (X3 X4 : Vec F S4x16x512x128 .bf16) (X5 X6 : Vec F S4x16x64x512 .bf16) (D : Vec F S4x16x64x512 .f32) (v4 v6 : FVec F S128x256 .bf16) (v7 : FVec F S64x256 .bf16) (k : Fin k0_t1_loop.trips) (r : Fin 16) (acc : FVec F S64x256 .f32 × FVec F S64x256 .f32) :
    invE c arg3 arg4 arg5 arg6 arg8 arg11 arg12 arg13 arg14 X3 X4 X5 X6 D v4 v6 v7 (16 * k.val + r.val) acc
      ⊢ wp frame (wpE defs₀ 𝒱 (c : Thread nD τ) none) Set.univ (stepE arg2 harg2 arg3 harg3 arg4 harg4 arg5 harg5 arg6 harg6 arg7 harg7 arg8 harg8 arg9 harg9 arg10 harg10 arg11 harg11 arg12 harg12 arg13 harg13 arg14 harg14 v4 v6 v7 k r acc)
          (invO c arg3 arg4 arg5 arg6 arg8 arg11 arg12 arg13 arg14 X3 X4 X5 X6 D v4 v6 v7 (16 * k.val + r.val + 1)) := by
  unfold invE
  iintro ⟨%s, %d, %p, %g, %h, H⟩
  obtain ⟨rfl, hs, hd, hp, hg⟩ := h
  iapply (stepE_wp 𝒱 c arg2 harg2 arg3 harg3 arg4 harg4 arg5 harg5 arg6 harg6 arg7 harg7 arg8 harg8 arg9 harg9 arg10 harg10 arg11 harg11 arg12 harg12 arg13 harg13 arg14 harg14 X3 X4 X5 X6 _ s d p g v4 v6 v7 k r)
  isplitl [H]; · iexact H
  rw [hs, hd, hp, hg, get_tileP, get_tileP, get_tileP, get_tileN, get_tileN, put_tileP]
  iintro H
  unfold invO
  iexists _, _, _, _
  isplitr
  rotate_left
  · iexact H
  · ipureintro
    exact ⟨rfl, get_overlay _ _ _, get_overlay _ _ _, get_overlay _ _ _, get_overlay _ _ _⟩

/-- One step takes the invariant at its tile to the invariant at the next. -/
theorem stepO_inv (𝒱 : Variants) (c : Dev nD) (arg2 : Memref sig .tc .vmem S1x1x128x256 .bf16) (harg2 : arg2.IsWhole) (arg3 : Memref sig .tc .vmem S4x16x512x128 .bf16) (harg3 : arg3.IsWhole) (arg4 : Memref sig .tc .vmem S4x16x512x128 .bf16) (harg4 : arg4.IsWhole) (arg5 : Memref sig .tc .vmem S4x16x64x512 .bf16) (harg5 : arg5.IsWhole) (arg6 : Memref sig .tc .vmem S4x16x64x512 .bf16) (harg6 : arg6.IsWhole) (arg7 : Memref sig .tc .vmem S1x1x128x256 .bf16) (harg7 : arg7.IsWhole) (arg8 : Memref sig .tc .vmem S4x16x64x512 .f32) (harg8 : arg8.IsWhole) (arg9 : Memref sig .tc .vmem S1x1x64x256 .f32) (harg9 : arg9.IsWhole) (arg10 : Memref sig .tc .vmem S1x1x64x256 .f32) (harg10 : arg10.IsWhole) (arg11 : Memref sig .tc .vmem S2x512x256 .f32) (harg11 : arg11.IsWhole) (arg12 : Memref sig .tc .vmem S2x512x256 .f32) (harg12 : arg12.IsWhole) (arg13 : Memref sig .tc .vmem S2x512x256 .bf16) (harg13 : arg13.IsWhole) (arg14 : Memref sig .tc .vmem S2x512x256 .bf16) (harg14 : arg14.IsWhole)
    (X3 X4 : Vec F S4x16x512x128 .bf16) (X5 X6 : Vec F S4x16x64x512 .bf16) (D : Vec F S4x16x64x512 .f32) (v4 v6 : FVec F S128x256 .bf16) (v7 : FVec F S64x256 .bf16) (k : Fin k0_t1_loop.trips) (r : Fin 16) (acc : FVec F S64x256 .f32 × FVec F S64x256 .f32) :
    invO c arg3 arg4 arg5 arg6 arg8 arg11 arg12 arg13 arg14 X3 X4 X5 X6 D v4 v6 v7 (16 * k.val + r.val) acc
      ⊢ wp frame (wpE defs₀ 𝒱 (c : Thread nD τ) none) Set.univ (stepO arg2 harg2 arg3 harg3 arg4 harg4 arg5 harg5 arg6 harg6 arg7 harg7 arg8 harg8 arg9 harg9 arg10 harg10 arg11 harg11 arg12 harg12 arg13 harg13 arg14 harg14 v4 v6 v7 k r acc)
          (invE c arg3 arg4 arg5 arg6 arg8 arg11 arg12 arg13 arg14 X3 X4 X5 X6 D v4 v6 v7 (16 * k.val + r.val + 1)) := by
  unfold invO
  iintro ⟨%s, %d, %p, %g, %h, H⟩
  obtain ⟨rfl, hs, hd, hp, hg⟩ := h
  iapply (stepO_wp 𝒱 c arg2 harg2 arg3 harg3 arg4 harg4 arg5 harg5 arg6 harg6 arg7 harg7 arg8 harg8 arg9 harg9 arg10 harg10 arg11 harg11 arg12 harg12 arg13 harg13 arg14 harg14 X3 X4 X5 X6 _ s d p g v4 v6 v7 k r)
  isplitl [H]; · iexact H
  rw [hs, hd, hp, hg, get_tileP, get_tileP, get_tileP, get_tileN, get_tileN, put_tileP]
  iintro H
  unfold invE
  iexists _, _, _, _
  isplitr
  rotate_left
  · iexact H
  · ipureintro
    exact ⟨rfl, get_overlay _ _ _, get_overlay _ _ _, get_overlay _ _ _, get_overlay _ _ _⟩

/-- One trip of the loop takes the invariant sixteen tiles on. -/
theorem trip_inv (𝒱 : Variants) (c : Dev nD) (i : grid0.Coords) (arg2 : Memref sig .tc .vmem S1x1x128x256 .bf16) (harg2 : arg2.IsWhole) (arg3 : Memref sig .tc .vmem S4x16x512x128 .bf16) (harg3 : arg3.IsWhole) (arg4 : Memref sig .tc .vmem S4x16x512x128 .bf16) (harg4 : arg4.IsWhole) (arg5 : Memref sig .tc .vmem S4x16x64x512 .bf16) (harg5 : arg5.IsWhole) (arg6 : Memref sig .tc .vmem S4x16x64x512 .bf16) (harg6 : arg6.IsWhole) (arg7 : Memref sig .tc .vmem S1x1x128x256 .bf16) (harg7 : arg7.IsWhole) (arg8 : Memref sig .tc .vmem S4x16x64x512 .f32) (harg8 : arg8.IsWhole) (arg9 : Memref sig .tc .vmem S1x1x64x256 .f32) (harg9 : arg9.IsWhole) (arg10 : Memref sig .tc .vmem S1x1x64x256 .f32) (harg10 : arg10.IsWhole) (arg11 : Memref sig .tc .vmem S2x512x256 .f32) (harg11 : arg11.IsWhole) (arg12 : Memref sig .tc .vmem S2x512x256 .f32) (harg12 : arg12.IsWhole) (arg13 : Memref sig .tc .vmem S2x512x256 .bf16) (harg13 : arg13.IsWhole) (arg14 : Memref sig .tc .vmem S2x512x256 .bf16) (harg14 : arg14.IsWhole)
    (X3 X4 : Vec F S4x16x512x128 .bf16) (X5 X6 : Vec F S4x16x64x512 .bf16) (D : Vec F S4x16x64x512 .f32) (v4 v6 : FVec F S128x256 .bf16) (v7 : FVec F S64x256 .bf16) (k : Fin k0_t1_loop.trips) (acc : FVec F S64x256 .f32 × FVec F S64x256 .f32) :
    invE c arg3 arg4 arg5 arg6 arg8 arg11 arg12 arg13 arg14 X3 X4 X5 X6 D v4 v6 v7 (16 * k.val) acc
      ⊢ wp frame (wpE defs₀ 𝒱 (c : Thread nD τ) none) Set.univ (k0_t1_body (F := F) i arg2 harg2 arg3 harg3 arg4 harg4 arg5 harg5 arg6 harg6 arg7 harg7 arg8 harg8 arg9 harg9 arg10 harg10 arg11 harg11 arg12 harg12 arg13 harg13 arg14 harg14 v4 v6 v7 k acc)
          (invE c arg3 arg4 arg5 arg6 arg8 arg11 arg12 arg13 arg14 X3 X4 X5 X6 D v4 v6 v7 (16 * (k.val + 1))) := by
  rw [body_eq_steps]
  unfold steps
  rw [wp_bind]; refine (stepE_inv 𝒱 c arg2 harg2 arg3 harg3 arg4 harg4 arg5 harg5 arg6 harg6 arg7 harg7 arg8 harg8 arg9 harg9 arg10 harg10 arg11 harg11 arg12 harg12 arg13 harg13 arg14 harg14 X3 X4 X5 X6 D v4 v6 v7 k 0 _).trans (wp_mono _ _ _ fun _ => ?_)
  rw [wp_bind]; refine (stepO_inv 𝒱 c arg2 harg2 arg3 harg3 arg4 harg4 arg5 harg5 arg6 harg6 arg7 harg7 arg8 harg8 arg9 harg9 arg10 harg10 arg11 harg11 arg12 harg12 arg13 harg13 arg14 harg14 X3 X4 X5 X6 D v4 v6 v7 k 1 _).trans (wp_mono _ _ _ fun _ => ?_)
  rw [wp_bind]; refine (stepE_inv 𝒱 c arg2 harg2 arg3 harg3 arg4 harg4 arg5 harg5 arg6 harg6 arg7 harg7 arg8 harg8 arg9 harg9 arg10 harg10 arg11 harg11 arg12 harg12 arg13 harg13 arg14 harg14 X3 X4 X5 X6 D v4 v6 v7 k 2 _).trans (wp_mono _ _ _ fun _ => ?_)
  rw [wp_bind]; refine (stepO_inv 𝒱 c arg2 harg2 arg3 harg3 arg4 harg4 arg5 harg5 arg6 harg6 arg7 harg7 arg8 harg8 arg9 harg9 arg10 harg10 arg11 harg11 arg12 harg12 arg13 harg13 arg14 harg14 X3 X4 X5 X6 D v4 v6 v7 k 3 _).trans (wp_mono _ _ _ fun _ => ?_)
  rw [wp_bind]; refine (stepE_inv 𝒱 c arg2 harg2 arg3 harg3 arg4 harg4 arg5 harg5 arg6 harg6 arg7 harg7 arg8 harg8 arg9 harg9 arg10 harg10 arg11 harg11 arg12 harg12 arg13 harg13 arg14 harg14 X3 X4 X5 X6 D v4 v6 v7 k 4 _).trans (wp_mono _ _ _ fun _ => ?_)
  rw [wp_bind]; refine (stepO_inv 𝒱 c arg2 harg2 arg3 harg3 arg4 harg4 arg5 harg5 arg6 harg6 arg7 harg7 arg8 harg8 arg9 harg9 arg10 harg10 arg11 harg11 arg12 harg12 arg13 harg13 arg14 harg14 X3 X4 X5 X6 D v4 v6 v7 k 5 _).trans (wp_mono _ _ _ fun _ => ?_)
  rw [wp_bind]; refine (stepE_inv 𝒱 c arg2 harg2 arg3 harg3 arg4 harg4 arg5 harg5 arg6 harg6 arg7 harg7 arg8 harg8 arg9 harg9 arg10 harg10 arg11 harg11 arg12 harg12 arg13 harg13 arg14 harg14 X3 X4 X5 X6 D v4 v6 v7 k 6 _).trans (wp_mono _ _ _ fun _ => ?_)
  rw [wp_bind]; refine (stepO_inv 𝒱 c arg2 harg2 arg3 harg3 arg4 harg4 arg5 harg5 arg6 harg6 arg7 harg7 arg8 harg8 arg9 harg9 arg10 harg10 arg11 harg11 arg12 harg12 arg13 harg13 arg14 harg14 X3 X4 X5 X6 D v4 v6 v7 k 7 _).trans (wp_mono _ _ _ fun _ => ?_)
  rw [wp_bind]; refine (stepE_inv 𝒱 c arg2 harg2 arg3 harg3 arg4 harg4 arg5 harg5 arg6 harg6 arg7 harg7 arg8 harg8 arg9 harg9 arg10 harg10 arg11 harg11 arg12 harg12 arg13 harg13 arg14 harg14 X3 X4 X5 X6 D v4 v6 v7 k 8 _).trans (wp_mono _ _ _ fun _ => ?_)
  rw [wp_bind]; refine (stepO_inv 𝒱 c arg2 harg2 arg3 harg3 arg4 harg4 arg5 harg5 arg6 harg6 arg7 harg7 arg8 harg8 arg9 harg9 arg10 harg10 arg11 harg11 arg12 harg12 arg13 harg13 arg14 harg14 X3 X4 X5 X6 D v4 v6 v7 k 9 _).trans (wp_mono _ _ _ fun _ => ?_)
  rw [wp_bind]; refine (stepE_inv 𝒱 c arg2 harg2 arg3 harg3 arg4 harg4 arg5 harg5 arg6 harg6 arg7 harg7 arg8 harg8 arg9 harg9 arg10 harg10 arg11 harg11 arg12 harg12 arg13 harg13 arg14 harg14 X3 X4 X5 X6 D v4 v6 v7 k 10 _).trans (wp_mono _ _ _ fun _ => ?_)
  rw [wp_bind]; refine (stepO_inv 𝒱 c arg2 harg2 arg3 harg3 arg4 harg4 arg5 harg5 arg6 harg6 arg7 harg7 arg8 harg8 arg9 harg9 arg10 harg10 arg11 harg11 arg12 harg12 arg13 harg13 arg14 harg14 X3 X4 X5 X6 D v4 v6 v7 k 11 _).trans (wp_mono _ _ _ fun _ => ?_)
  rw [wp_bind]; refine (stepE_inv 𝒱 c arg2 harg2 arg3 harg3 arg4 harg4 arg5 harg5 arg6 harg6 arg7 harg7 arg8 harg8 arg9 harg9 arg10 harg10 arg11 harg11 arg12 harg12 arg13 harg13 arg14 harg14 X3 X4 X5 X6 D v4 v6 v7 k 12 _).trans (wp_mono _ _ _ fun _ => ?_)
  rw [wp_bind]; refine (stepO_inv 𝒱 c arg2 harg2 arg3 harg3 arg4 harg4 arg5 harg5 arg6 harg6 arg7 harg7 arg8 harg8 arg9 harg9 arg10 harg10 arg11 harg11 arg12 harg12 arg13 harg13 arg14 harg14 X3 X4 X5 X6 D v4 v6 v7 k 13 _).trans (wp_mono _ _ _ fun _ => ?_)
  rw [wp_bind]; refine (stepE_inv 𝒱 c arg2 harg2 arg3 harg3 arg4 harg4 arg5 harg5 arg6 harg6 arg7 harg7 arg8 harg8 arg9 harg9 arg10 harg10 arg11 harg11 arg12 harg12 arg13 harg13 arg14 harg14 X3 X4 X5 X6 D v4 v6 v7 k 14 _).trans (wp_mono _ _ _ fun _ => ?_)
  exact stepO_inv 𝒱 c arg2 harg2 arg3 harg3 arg4 harg4 arg5 harg5 arg6 harg6 arg7 harg7 arg8 harg8 arg9 harg9 arg10 harg10 arg11 harg11 arg12 harg12 arg13 harg13 arg14 harg14 X3 X4 X5 X6 D v4 v6 v7 k 15 _

/-- The loop's invariant: before trip `k`, sixteen tiles a trip. -/
@[instance_reducible] def loopInv (𝒱 : Variants) (c : Dev nD) (i : grid0.Coords) (arg2 : Memref sig .tc .vmem S1x1x128x256 .bf16) (harg2 : arg2.IsWhole) (arg3 : Memref sig .tc .vmem S4x16x512x128 .bf16) (harg3 : arg3.IsWhole) (arg4 : Memref sig .tc .vmem S4x16x512x128 .bf16) (harg4 : arg4.IsWhole) (arg5 : Memref sig .tc .vmem S4x16x64x512 .bf16) (harg5 : arg5.IsWhole) (arg6 : Memref sig .tc .vmem S4x16x64x512 .bf16) (harg6 : arg6.IsWhole) (arg7 : Memref sig .tc .vmem S1x1x128x256 .bf16) (harg7 : arg7.IsWhole) (arg8 : Memref sig .tc .vmem S4x16x64x512 .f32) (harg8 : arg8.IsWhole) (arg9 : Memref sig .tc .vmem S1x1x64x256 .f32) (harg9 : arg9.IsWhole) (arg10 : Memref sig .tc .vmem S1x1x64x256 .f32) (harg10 : arg10.IsWhole) (arg11 : Memref sig .tc .vmem S2x512x256 .f32) (harg11 : arg11.IsWhole) (arg12 : Memref sig .tc .vmem S2x512x256 .f32) (harg12 : arg12.IsWhole) (arg13 : Memref sig .tc .vmem S2x512x256 .bf16) (harg13 : arg13.IsWhole) (arg14 : Memref sig .tc .vmem S2x512x256 .bf16) (harg14 : arg14.IsWhole)
    (X3 X4 : Vec F S4x16x512x128 .bf16) (X5 X6 : Vec F S4x16x64x512 .bf16) (D : Vec F S4x16x64x512 .f32) (v4 v6 : FVec F S128x256 .bf16) (v7 : FVec F S64x256 .bf16) (init : FVec F S64x256 .f32 × FVec F S64x256 .f32) :
    Gen.LoopInvTy_k0_t1 (F := F) Unit ℕ (UR sig nD τ) ℕ 𝒱 c none Set.univ i arg2 harg2 arg3 harg3 arg4 harg4 arg5 harg5 arg6 harg6 arg7 harg7 arg8 harg8 arg9 harg9 arg10 harg10 arg11 harg11 arg12 harg12 arg13 harg13 arg14 harg14 v4 v6 v7 init where
  inv k acc := invE c arg3 arg4 arg5 arg6 arg8 arg11 arg12 arg13 arg14 X3 X4 X5 X6 D v4 v6 v7 (16 * k) acc
  step k acc := trip_inv 𝒱 c i arg2 harg2 arg3 harg3 arg4 harg4 arg5 harg5 arg6 harg6 arg7 harg7 arg8 harg8 arg9 harg9 arg10 harg10 arg11 harg11 arg12 harg12 arg13 harg13 arg14 harg14 X3 X4 X5 X6 D v4 v6 v7 k acc

end Cert.KernelIdeal.Hand
-- ==== Proof.Body.lean ====
/- The kernel's body at one grid point: what it leaves in the three output blocks. -/
module

public import Idealize.ShloMosaic.Lib.VecWindow
public import proofs.«01_k».proof.Proof.Loop

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Own

variable {F : FTy → Type} [FloatOps F] [Named F]

local notation "𝕄" => MT nD τ sig Unit (Elt F) ℕ (UR sig nD τ) ℕ

theorem get_full {A : Type} {s : Shape} {off : Fin s.rank → ℕ} (inb : ∀ a, off a + s.size a ≤ s.size a) (X : s.Idx → A) :
    get (Rect.unit off s.size inb) X = X :=
  funext fun i => congrArg X (Rect.emb_unit_full inb i)

theorem overlay_full {A : Type} {s : Shape} {off : Fin s.rank → ℕ} (inb : ∀ a, off a + s.size a ≤ s.size a) (X w : s.Idx → A) :
    (Rect.unit off s.size inb).overlay X w = w := by
  funext i
  have h := (Rect.unit off s.size inb).overlay_emb X w i
  rwa [Rect.emb_unit_full inb i] at h

/-- The first grid point of a key-value head is the one whose second coordinate is zero. -/
theorem first_iff (i : grid0.Coords) :
    Scalar.cmpi .ne (Scalar.extui (Scalar.cmpi .eq (BitVec.ofNat 32 (i 1).val) 0#32)) 0#32 = 1#1 ↔ (i 1).val = 0 := by
  have h : ∀ j : Fin 32, Scalar.cmpi .ne (Scalar.extui (Scalar.cmpi .eq (BitVec.ofNat 32 j.val) 0#32)) 0#32 = 1#1 ↔ j.val = 0 := by
    decide +kernel
  exact h (i 1)

/-- The query gradients a grid point starts from: zero at the first of a key-value head, what the point before left otherwise. -/
def start (i : grid0.Coords) (D : Vec F S4x16x64x512 .f32) : Vec F S4x16x64x512 .f32 := if (i 1).val = 0 then k0_pay187 else D

set_option maxHeartbeats 1600000 in
/-- What the body's first part leaves: the query gradients started, the first tile's scores in slot 0, no probabilities in slot 1. -/
theorem part64_wp (𝒱 : Variants) (c : Dev nD) (i : grid0.Coords) (arg2 : Memref sig .tc .vmem S1x1x128x256 .bf16) (harg2 : arg2.IsWhole) (arg3 : Memref sig .tc .vmem S4x16x512x128 .bf16) (harg3 : arg3.IsWhole) (arg4 : Memref sig .tc .vmem S4x16x512x128 .bf16) (harg4 : arg4.IsWhole) (arg5 : Memref sig .tc .vmem S4x16x64x512 .bf16) (harg5 : arg5.IsWhole) (arg6 : Memref sig .tc .vmem S4x16x64x512 .bf16) (harg6 : arg6.IsWhole) (arg7 : Memref sig .tc .vmem S1x1x128x256 .bf16) (harg7 : arg7.IsWhole) (arg8 : Memref sig .tc .vmem S4x16x64x512 .f32) (harg8 : arg8.IsWhole) (arg9 : Memref sig .tc .vmem S1x1x64x256 .f32) (harg9 : arg9.IsWhole) (arg10 : Memref sig .tc .vmem S1x1x64x256 .f32) (harg10 : arg10.IsWhole) (arg11 : Memref sig .tc .vmem S2x512x256 .f32) (harg11 : arg11.IsWhole) (arg12 : Memref sig .tc .vmem S2x512x256 .f32) (harg12 : arg12.IsWhole) (arg13 : Memref sig .tc .vmem S2x512x256 .bf16) (harg13 : arg13.IsWhole) (arg14 : Memref sig .tc .vmem S2x512x256 .bf16) (harg14 : arg14.IsWhole)
    (X2 X7 : Vec F S1x1x128x256 .bf16) (X3 X4 : Vec F S4x16x512x128 .bf16) (X5 X6 : Vec F S4x16x64x512 .bf16) (D : Vec F S4x16x64x512 .f32) (s d : Vec F S2x512x256 .f32) (p g : Vec F S2x512x256 .bf16)
    (Q : (Σ' (v4 : FVec F S128x256 .bf16) (v6 : FVec F S128x256 .bf16), FVec F S64x256 .bf16) → sProp 𝕄) :
    iprop(owns (c : Thread nD τ) arg2 fullShare X2 ∗ owns (c : Thread nD τ) arg7 fullShare X7 ∗ mem c arg3 arg4 arg5 arg6 arg8 arg11 arg12 arg13 arg14 X3 X4 X5 X6 D s d p g ∗
      (owns (c : Thread nD τ) arg2 fullShare X2 -∗ owns (c : Thread nD τ) arg7 fullShare X7 -∗
        mem c arg3 arg4 arg5 arg6 arg8 arg11 arg12 arg13 arg14 X3 X4 X5 X6 (start i D) (slot0.overlay s (Sc (k0_pay188 X2) X3 0)) (slot0.overlay d (Dc (k0_pay189 X7) X4 0)) (slot1.overlay p k0_pay193) g
        -∗ Q ⟨k0_pay188 X2, k0_pay189 X7, k0_pay190 X2⟩))
      ⊢ wp frame (wpE defs₀ 𝒱 (c : Thread nD τ) none) Set.univ (k0_part64 (F := F) i arg2 harg2 arg3 harg3 arg4 harg4 arg5 harg5 arg6 harg6 arg7 harg7 arg8 harg8 arg9 harg9 arg10 harg10 arg11 harg11 arg12 harg12 arg13 harg13 arg14 harg14) Q := by
  have e3 : k0_pay191 X2 (get (Rect.unit (s := S4x16x512x128) ![0, 0, 0, 0] S1x1x512x128.size inb_S4x16x512x128_S1x1x512x128_0_0_0_0) X3) = Sc (k0_pay188 X2) X3 0 := rfl
  have e4 : k0_pay192 X7 (get (Rect.unit (s := S4x16x512x128) ![0, 0, 0, 0] S1x1x512x128.size inb_S4x16x512x128_S1x1x512x128_0_0_0_0) X4) = Dc (k0_pay189 X7) X4 0 := rfl
  have g2 := get_full (s := S1x1x128x256) inb_S1x1x128x256_S1x1x128x256_0_0_0_0 X2
  have g7 := get_full (s := S1x1x128x256) inb_S1x1x128x256_S1x1x128x256_0_0_0_0 X7
  rw [k0_part64_eq_skeleton]
  unfold k0_part64_skel mem
  rw [← e3, ← e4]
  iintro ⟨H2, H7, ⟨H3, H4, H5, H6, H8, H11, H12, H13, H14⟩, Hk⟩
  by_cases h : (i 1).val = 0
  · have hs : start i D = k0_pay187 := if_pos h
    dsimp only
    rw [dif_pos ((first_iff i).mpr h)]
    simp only [Prog.bind_lift, Prog.pure_eq_ret, Prog.bind_op, Prog.bind_ret]
    iapply (Own.load 𝒱 (c : Thread nD τ) none Set.univ) $$ H8
    iintro H8
    iapply (Own.store 𝒱 (c : Thread nD τ) none Set.univ) $$ H8
    iintro H8
    iapply (Own.load 𝒱 (c : Thread nD τ) none Set.univ) $$ H2
    iintro H2
    iapply (Own.load 𝒱 (c : Thread nD τ) none Set.univ) $$ H7
    iintro H7
    iapply (Own.load 𝒱 (c : Thread nD τ) none Set.univ) $$ H3
    iintro H3
    iapply (Own.load 𝒱 (c : Thread nD τ) none Set.univ) $$ H11
    iintro H11
    iapply (Own.store 𝒱 (c : Thread nD τ) none Set.univ) $$ H11
    iintro H11
    iapply (Own.load 𝒱 (c : Thread nD τ) none Set.univ) $$ H4
    iintro H4
    iapply (Own.load 𝒱 (c : Thread nD τ) none Set.univ) $$ H12
    iintro H12
    iapply (Own.store 𝒱 (c : Thread nD τ) none Set.univ) $$ H12
    iintro H12
    iapply (Own.load 𝒱 (c : Thread nD τ) none Set.univ) $$ H13
    iintro H13
    iapply (Own.store 𝒱 (c : Thread nD τ) none Set.univ) $$ H13
    iintro H13
    rw [wp_ret]; imodintro
    rw [g2, g7, overlay_full (s := S4x16x64x512)]
    iapply Hk $$ H2 H7
    rw [hs]
    iframe
  · have hs : start i D = D := if_neg h
    dsimp only
    rw [dif_neg (fun h' => h ((first_iff i).mp h'))]
    simp only [Prog.bind_lift, Prog.pure_eq_ret, Prog.bind_op, Prog.bind_ret]
    iapply (Own.load 𝒱 (c : Thread nD τ) none Set.univ) $$ H2
    iintro H2
    iapply (Own.load 𝒱 (c : Thread nD τ) none Set.univ) $$ H7
    iintro H7
    iapply (Own.load 𝒱 (c : Thread nD τ) none Set.univ) $$ H3
    iintro H3
    iapply (Own.load 𝒱 (c : Thread nD τ) none Set.univ) $$ H11
    iintro H11
    iapply (Own.store 𝒱 (c : Thread nD τ) none Set.univ) $$ H11
    iintro H11
    iapply (Own.load 𝒱 (c : Thread nD τ) none Set.univ) $$ H4
    iintro H4
    iapply (Own.load 𝒱 (c : Thread nD τ) none Set.univ) $$ H12
    iintro H12
    iapply (Own.store 𝒱 (c : Thread nD τ) none Set.univ) $$ H12
    iintro H12
    iapply (Own.load 𝒱 (c : Thread nD τ) none Set.univ) $$ H13
    iintro H13
    iapply (Own.store 𝒱 (c : Thread nD τ) none Set.univ) $$ H13
    iintro H13
    rw [wp_ret]; imodintro
    rw [g2, g7]
    iapply Hk $$ H2 H7
    rw [hs]
    iframe

set_option maxHeartbeats 1600000 in
/-- What the body's second part leaves: every tile's query gradient added, and the sums over the tiles before the last tile's are added. -/
theorem part65_wp (𝒱 : Variants) (c : Dev nD) (i : grid0.Coords) (arg2 : Memref sig .tc .vmem S1x1x128x256 .bf16) (harg2 : arg2.IsWhole) (arg3 : Memref sig .tc .vmem S4x16x512x128 .bf16) (harg3 : arg3.IsWhole) (arg4 : Memref sig .tc .vmem S4x16x512x128 .bf16) (harg4 : arg4.IsWhole) (arg5 : Memref sig .tc .vmem S4x16x64x512 .bf16) (harg5 : arg5.IsWhole) (arg6 : Memref sig .tc .vmem S4x16x64x512 .bf16) (harg6 : arg6.IsWhole) (arg7 : Memref sig .tc .vmem S1x1x128x256 .bf16) (harg7 : arg7.IsWhole) (arg8 : Memref sig .tc .vmem S4x16x64x512 .f32) (harg8 : arg8.IsWhole) (arg9 : Memref sig .tc .vmem S1x1x64x256 .f32) (harg9 : arg9.IsWhole) (arg10 : Memref sig .tc .vmem S1x1x64x256 .f32) (harg10 : arg10.IsWhole) (arg11 : Memref sig .tc .vmem S2x512x256 .f32) (harg11 : arg11.IsWhole) (arg12 : Memref sig .tc .vmem S2x512x256 .f32) (harg12 : arg12.IsWhole) (arg13 : Memref sig .tc .vmem S2x512x256 .bf16) (harg13 : arg13.IsWhole) (arg14 : Memref sig .tc .vmem S2x512x256 .bf16) (harg14 : arg14.IsWhole)
    (X3 X4 : Vec F S4x16x512x128 .bf16) (X5 X6 : Vec F S4x16x64x512 .bf16) (D : Vec F S4x16x64x512 .f32) (s d : Vec F S2x512x256 .f32) (p g : Vec F S2x512x256 .bf16)
    (v4 v6 : FVec F S128x256 .bf16) (v7 : FVec F S64x256 .bf16)
    (hs : get slot0 s = Sc v4 X3 0) (hd : get slot0 d = Dc v6 X4 0) (hp : get slot1 p = Pc v4 X3 0)
    (Q : (Σ' (v30_1 : FVec F S64x256 .f32) (v43 : FVec F S64x256 .f32) (v45 : FVec F S64x512 .bf16) (v47 : FVec F S512x256 .bf16), FVec F S64x256 .f32) → sProp 𝕄) :
    iprop(mem c arg3 arg4 arg5 arg6 arg8 arg11 arg12 arg13 arg14 X3 X4 X5 X6 D s d p g ∗
      (∀ s d p g, mem c arg3 arg4 arg5 arg6 arg8 arg11 arg12 arg13 arg14 X3 X4 X5 X6 (Dq v4 v6 v7 X3 X4 D 65) s d p g
        -∗ Q ⟨Dv v4 X3 X6 64, Dk v4 v6 X3 X4 X5 65, k0_pay203 (getH 63 X6), k0_pay204 (Pc v4 X3 64), constant S64x256 .f32 0x00000000#32⟩))
      ⊢ wp frame (wpE defs₀ 𝒱 (c : Thread nD τ) none) Set.univ (k0_part65 (F := F) i arg2 harg2 arg3 harg3 arg4 harg4 arg5 harg5 arg6 harg6 arg7 harg7 arg8 harg8 arg9 harg9 arg10 harg10 arg11 harg11 arg12 harg12 arg13 harg13 arg14 harg14 v4 v6 v7) Q := by
  rw [k0_part65_eq_skeleton]
  unfold k0_part65_skel
  simp only [Prog.bind_lift, Prog.pure_eq_ret]
  iintro ⟨H, Hk⟩
  unfold mem
  icases H with ⟨H3, H4, H5, H6, H8, H11, H12, H13, H14⟩
  iapply (Own.load 𝒱 (c : Thread nD τ) none Set.univ) $$ H14
  iintro H14
  iapply (Own.store 𝒱 (c : Thread nD τ) none Set.univ) $$ H14
  iintro H14
  rw [wp_bind]
  iapply (Scf.wp_for _ _ _ k0_t1_loop.lb k0_t1_loop.ub k0_t1_loop.st k0_t1_ok _ _
    (fun n acc => invE c arg3 arg4 arg5 arg6 arg8 arg11 arg12 arg13 arg14 X3 X4 X5 X6 D v4 v6 v7 (16 * n) acc) (fun k acc => trip_inv 𝒱 c i arg2 harg2 arg3 harg3 arg4 harg4 arg5 harg5 arg6 harg6 arg7 harg7 arg8 harg8 arg9 harg9 arg10 harg10 arg11 harg11 arg12 harg12 arg13 harg13 arg14 harg14 X3 X4 X5 X6 D v4 v6 v7 k acc))
  isplitl [H3 H4 H5 H6 H8 H11 H12 H13 H14]
  · unfold invE mem
    iexists s, d, p, (slot1.overlay g k0_pay194)
    isplitr
    · ipureintro
      exact ⟨rfl, hs, hd, hp, get_overlay _ _ _⟩
    rw [show Dq v4 v6 v7 X3 X4 D (16 * 0) = D from rfl]
    iframe
  iintro %acc H
  rw [show 16 * Scf.trips k0_t1_loop.lb k0_t1_loop.ub k0_t1_loop.st = 64 from by decide +kernel]
  unfold invE mem
  icases H with ⟨%s', %d', %p', %g', %h, H3, H4, H5, H6, H8, H11, H12, H13, H14⟩
  obtain ⟨rfl, hs', hd', hp', hg'⟩ := h
  iapply (Own.load 𝒱 (c : Thread nD τ) none Set.univ) $$ H14
  iintro H14
  iapply (Own.load 𝒱 (c : Thread nD τ) none Set.univ) $$ H8
  iintro H8
  iapply (Own.load 𝒱 (c : Thread nD τ) none Set.univ) $$ H8
  iintro H8
  iapply (Own.store 𝒱 (c : Thread nD τ) none Set.univ) $$ H8
  iintro H8
  iapply (Own.load 𝒱 (c : Thread nD τ) none Set.univ) $$ H5
  iintro H5
  iapply (Own.load 𝒱 (c : Thread nD τ) none Set.univ) $$ H6
  iintro H6
  iapply (Own.load 𝒱 (c : Thread nD τ) none Set.univ) $$ H13
  iintro H13
  rw [wp_ret]; imodintro
  rw [hp', hg']
  rw [show k0_pay202 (Dk v4 v6 X3 X4 X5 64) (Gc v4 v6 X3 X4 64) (get (Rect.unit (s := S4x16x64x512) ![3, 15, 0, 0] ![1, 1, 64, 512] inb_S4x16x64x512_S1x1x64x512_3_15_0_0) X5) = Dk v4 v6 X3 X4 X5 65 from rfl,
    show get (Rect.unit (s := S4x16x64x512) ![3, 15, 0, 0] ![1, 1, 64, 512] inb_S4x16x64x512_S1x1x64x512_3_15_0_0) X6 = getH 63 X6 from rfl]
  rw [show (Rect.unit (s := S4x16x64x512) ![3, 15, 0, 0] ![1, 1, 64, 512] inb_S4x16x64x512_S1x1x64x512_3_15_0_0).overlay (Dq v4 v6 v7 X3 X4 D 64)
      (k0_pay201 v7 (Gc v4 v6 X3 X4 64) (get (Rect.unit (s := S4x16x64x512) ![3, 15, 0, 0] ![1, 1, 64, 512] inb_S4x16x64x512_S1x1x64x512_3_15_0_0) (Dq v4 v6 v7 X3 X4 D 64)))
      = Dq v4 v6 v7 X3 X4 D 65 from rfl]
  iapply Hk $$ %s' %d' %p' %g'
  iframe

/-- The query gradients a grid point leaves. -/
def outQ (i : grid0.Coords) (X2 X7 : Vec F S1x1x128x256 .bf16) (X3 X4 : Vec F S4x16x512x128 .bf16) (D : Vec F S4x16x64x512 .f32) : Vec F S4x16x64x512 .f32 :=
  Dq (k0_pay188 X2) (k0_pay189 X7) (k0_pay190 X2) X3 X4 (start i D) 65
/-- The key gradient block a grid point leaves. -/
def outK (X2 X7 : Vec F S1x1x128x256 .bf16) (X3 X4 : Vec F S4x16x512x128 .bf16) (X5 : Vec F S4x16x64x512 .bf16) : Vec F S1x1x64x256 .f32 :=
  k0_pay1 (Dk (k0_pay188 X2) (k0_pay189 X7) X3 X4 X5 65)
/-- The value gradient block a grid point leaves. -/
def outV (X2 : Vec F S1x1x128x256 .bf16) (X3 : Vec F S4x16x512x128 .bf16) (X6 : Vec F S4x16x64x512 .bf16) : Vec F S1x1x64x256 .f32 :=
  shapeCast S1x1x64x256 (Dv (k0_pay188 X2) X3 X6 65) shapeCasts_S64x256_S1x1x64x256

set_option maxHeartbeats 1600000 in
/-- The body at a grid point: the inputs are left as they are, the three outputs hold their values, the scratch arrays hold something. -/
theorem body_wp (𝒱 : Variants) (c : Dev nD) (i : grid0.Coords) (arg2 : Memref sig .tc .vmem S1x1x128x256 .bf16) (harg2 : arg2.IsWhole) (arg3 : Memref sig .tc .vmem S4x16x512x128 .bf16) (harg3 : arg3.IsWhole) (arg4 : Memref sig .tc .vmem S4x16x512x128 .bf16) (harg4 : arg4.IsWhole) (arg5 : Memref sig .tc .vmem S4x16x64x512 .bf16) (harg5 : arg5.IsWhole) (arg6 : Memref sig .tc .vmem S4x16x64x512 .bf16) (harg6 : arg6.IsWhole) (arg7 : Memref sig .tc .vmem S1x1x128x256 .bf16) (harg7 : arg7.IsWhole) (arg8 : Memref sig .tc .vmem S4x16x64x512 .f32) (harg8 : arg8.IsWhole) (arg9 : Memref sig .tc .vmem S1x1x64x256 .f32) (harg9 : arg9.IsWhole) (arg10 : Memref sig .tc .vmem S1x1x64x256 .f32) (harg10 : arg10.IsWhole) (arg11 : Memref sig .tc .vmem S2x512x256 .f32) (harg11 : arg11.IsWhole) (arg12 : Memref sig .tc .vmem S2x512x256 .f32) (harg12 : arg12.IsWhole) (arg13 : Memref sig .tc .vmem S2x512x256 .bf16) (harg13 : arg13.IsWhole) (arg14 : Memref sig .tc .vmem S2x512x256 .bf16) (harg14 : arg14.IsWhole)
    (X2 X7 : Vec F S1x1x128x256 .bf16) (X3 X4 : Vec F S4x16x512x128 .bf16) (X5 X6 : Vec F S4x16x64x512 .bf16) (D : Vec F S4x16x64x512 .f32) (Q : PUnit → sProp 𝕄) :
    iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare D ∗ (∃ x, owns (c : Thread nD τ) arg9 fullShare x) ∗ (∃ x, owns (c : Thread nD τ) arg10 fullShare x) ∗ (∃ x, owns (c : Thread nD τ) arg11 fullShare x) ∗ (∃ x, owns (c : Thread nD τ) arg12 fullShare x) ∗ (∃ x, owns (c : Thread nD τ) arg13 fullShare x) ∗ (∃ x, owns (c : Thread nD τ) arg14 fullShare x) ∗
      (iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare (outQ i X2 X7 X3 X4 D) ∗ owns (c : Thread nD τ) arg9 fullShare (outK X2 X7 X3 X4 X5) ∗ owns (c : Thread nD τ) arg10 fullShare (outV X2 X3 X6) ∗ (∃ x, owns (c : Thread nD τ) arg11 fullShare x) ∗ (∃ x, owns (c : Thread nD τ) arg12 fullShare x) ∗ (∃ x, owns (c : Thread nD τ) arg13 fullShare x) ∗ (∃ x, owns (c : Thread nD τ) arg14 fullShare x)) -∗ Q ⟨⟩))
      ⊢ wp frame (wpE defs₀ 𝒱 (c : Thread nD τ) none) Set.univ (cc0_attention_bwd (F := F) i arg2 harg2 arg3 harg3 arg4 harg4 arg5 harg5 arg6 harg6 arg7 harg7 arg8 harg8 arg9 harg9 arg10 harg10 arg11 harg11 arg12 harg12 arg13 harg13 arg14 harg14) Q := by
  rw [cc0_attention_bwd_eq_skeleton]
  unfold cc0_attention_bwd_skel
  simp only [Prog.bind_lift, Prog.pure_eq_ret]
  iintro ⟨H2, H3, H4, H5, H6, H7, H8, ⟨%x9, H9⟩, ⟨%x10, H10⟩, ⟨%x11, H11⟩, ⟨%x12, H12⟩, ⟨%x13, H13⟩, ⟨%x14, H14⟩, Hk⟩
  rw [wp_bind]
  iapply (part64_wp 𝒱 c i arg2 harg2 arg3 harg3 arg4 harg4 arg5 harg5 arg6 harg6 arg7 harg7 arg8 harg8 arg9 harg9 arg10 harg10 arg11 harg11 arg12 harg12 arg13 harg13 arg14 harg14 X2 X7 X3 X4 X5 X6 D x11 x12 x13 x14)
  isplitl [H2]; · iexact H2
  isplitl [H7]; · iexact H7
  isplitl [H3 H4 H5 H6 H8 H11 H12 H13 H14]
  · unfold mem; iframe
  iintro H2 H7 H
  rw [wp_bind]
  iapply (part65_wp 𝒱 c i arg2 harg2 arg3 harg3 arg4 harg4 arg5 harg5 arg6 harg6 arg7 harg7 arg8 harg8 arg9 harg9 arg10 harg10 arg11 harg11 arg12 harg12 arg13 harg13 arg14 harg14 X3 X4 X5 X6 _ _ _ _ _ _ _ _ (get_overlay _ _ _) (get_overlay _ _ _) (get_overlay _ _ _))
  isplitl [H]; · iexact H
  iintro %s %d %p %g H
  iapply (Own.load 𝒱 (c : Thread nD τ) none Set.univ) $$ H9
  iintro H9
  iapply (Own.store 𝒱 (c : Thread nD τ) none Set.univ) $$ H9
  iintro H9
  iapply (Own.load 𝒱 (c : Thread nD τ) none Set.univ) $$ H10
  iintro H10
  iapply (Own.store 𝒱 (c : Thread nD τ) none Set.univ) $$ H10
  iintro H10
  rw [wp_ret]; imodintro
  rw [overlay_full (s := S1x1x64x256), overlay_full (s := S1x1x64x256)]
  unfold mem
  icases H with ⟨H3, H4, H5, H6, H8, H11, H12, H13, H14⟩
  iapply Hk
  unfold outQ outK outV
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  iexists _; iexact H14

end Cert.KernelIdeal.Hand
-- ==== Proof.Frame.lean ====
/- The run of the whole kernel: what its three result arrays are assembled from, and that it ends. -/
module

public import Idealize.ShloMosaic.Lib.Pipeline.FrameBody
public import Idealize.ShloMosaic.Lib.Claim
public import proofs.«01_k».proof.Proof.Gen.KernelIdeal.Points
public import proofs.«01_k».proof.Proof.Body

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The block of the keys that grid point `t` reads. -/
def kT (c : Dev nD) (t : Fin cfg0.N) : Vec F S1x1x128x256 .bf16 := iblk m c 0 t
/-- The block of the queries, one row per token, that grid point `t` reads. -/
def qTok (c : Dev nD) (t : Fin cfg0.N) : Vec F S4x16x512x128 .bf16 := iblk m c 1 t
/-- The block of the output cotangents, one row per token, that grid point `t` reads. -/
def doTok (c : Dev nD) (t : Fin cfg0.N) : Vec F S4x16x512x128 .bf16 := iblk m c 2 t
/-- The block of the queries, one column per token, that grid point `t` reads. -/
def qT (c : Dev nD) (t : Fin cfg0.N) : Vec F S4x16x64x512 .bf16 := iblk m c 3 t
/-- The block of the output cotangents, one column per token, that grid point `t` reads. -/
def doT (c : Dev nD) (t : Fin cfg0.N) : Vec F S4x16x64x512 .bf16 := iblk m c 4 t
/-- The block of the values that grid point `t` reads. -/
def vT (c : Dev nD) (t : Fin cfg0.N) : Vec F S1x1x128x256 .bf16 := iblk m c 5 t

/-- The grid point numbered `n`. -/
def pt (n : ℕ) : Fin cfg0.N := ⟨n % 64, lt_of_lt_of_eq (Nat.mod_lt n (by decide)) (show 64 = cfg0.N from N_0.symm)⟩

theorem pt_val (t : Fin cfg0.N) : pt t.val = t :=
  Fin.ext (Nat.mod_eq_of_lt (lt_of_lt_of_eq t.isLt (show cfg0.N = 64 from N_0)))

/-- The query gradients after the first `n` grid points, the sum begun anew at each key-value head. -/
def sumQ (c : Dev nD) : ℕ → Vec F S4x16x64x512 .f32
  | 0 => k0_pay187
  | n + 1 => outQ (grid0.coords (pt n)) (kT m c (pt n)) (vT m c (pt n)) (qTok m c (pt n)) (doTok m c (pt n)) (sumQ c n)

/-- What the pipeline's windows hold: an input its block, the query gradients their sum so far, the key and value gradients the point's block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => sumQ m c (t.val + 1)
    | ⟨7, _⟩ => outK (kT m c t) (vT m c t) (qTok m c t) (doTok m c t) (qT m c t)
    | ⟨8, _⟩ => outV (kT m c t) (qTok m c t) (doT m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = kT m c t := by dsimp only [dats]; rfl
theorem after_1 (c : Dev nD) (t : Fin cfg0.N) : (dats m 0 c).after 1 t = qTok m c t := by dsimp only [dats]; rfl
theorem after_2 (c : Dev nD) (t : Fin cfg0.N) : (dats m 0 c).after 2 t = doTok m c t := by dsimp only [dats]; rfl
theorem after_3 (c : Dev nD) (t : Fin cfg0.N) : (dats m 0 c).after 3 t = qT m c t := by dsimp only [dats]; rfl
theorem after_4 (c : Dev nD) (t : Fin cfg0.N) : (dats m 0 c).after 4 t = doT m c t := by dsimp only [dats]; rfl
theorem after_5 (c : Dev nD) (t : Fin cfg0.N) : (dats m 0 c).after 5 t = vT m c t := by dsimp only [dats]; rfl
theorem after_6 (c : Dev nD) (t : Fin cfg0.N) : (dats m 0 c).after 6 t = sumQ m c (t.val + 1) := by dsimp only [dats]
theorem after_7 (c : Dev nD) (t : Fin cfg0.N) :
    (dats m 0 c).after 7 t = outK (kT m c t) (vT m c t) (qTok m c t) (doTok m c t) (qT m c t) := by dsimp only [dats]
theorem after_8 (c : Dev nD) (t : Fin cfg0.N) : (dats m 0 c).after 8 t = outV (kT m c t) (qTok m c t) (doT m c t) := by dsimp only [dats]
theorem before_0 (c : Dev nD) (t : Fin cfg0.N) (d) : (dats m 0 c).before 0 t d = kT m c t :=
  before0_0_of m (dats m 0 c) (A_eq m c 0) (fun t => after_0 m c t) t d
theorem before_1 (c : Dev nD) (t : Fin cfg0.N) (d) : (dats m 0 c).before 1 t d = qTok m c t :=
  before0_1_of m (dats m 0 c) (A_eq m c 1) (fun t => after_1 m c t) t d
theorem before_2 (c : Dev nD) (t : Fin cfg0.N) (d) : (dats m 0 c).before 2 t d = doTok m c t :=
  before0_2_of m (dats m 0 c) (A_eq m c 2) (fun t => after_2 m c t) t d
theorem before_3 (c : Dev nD) (t : Fin cfg0.N) (d) : (dats m 0 c).before 3 t d = qT m c t :=
  before0_3_of m (dats m 0 c) (A_eq m c 3) (fun t => after_3 m c t) t d
theorem before_4 (c : Dev nD) (t : Fin cfg0.N) (d) : (dats m 0 c).before 4 t d = doT m c t :=
  before0_4_of m (dats m 0 c) (A_eq m c 4) (fun t => after_4 m c t) t d
theorem before_5 (c : Dev nD) (t : Fin cfg0.N) (d) : (dats m 0 c).before 5 t d = vT m c t :=
  before0_5_of m (dats m 0 c) (A_eq m c 5) (fun t => after_5 m c t) t d

theorem coord_one (t : Fin cfg0.N) : (grid0.coords t 1).val = t.val % 32 := by
  have h : (grid0.coords t 1).val = t.val / 1 % 32 := Pipeline.Grid.coords_val t 1 (by decide) rfl
  rw [h, Nat.div_one]

/-- The body turns the query gradients it finds into the sum through its point. -/
theorem outQ_before (c : Dev nD) (t : Fin cfg0.N) (d) :
    outQ (grid0.coords t) (kT m c t) (vT m c t) (qTok m c t) (doTok m c t) ((dats m 0 c).before 6 t d) = sumQ m c (t.val + 1) := by
  show _ = outQ (grid0.coords (pt t.val)) _ _ _ _ _
  rw [pt_val]
  by_cases h : t.val % 32 = 0
  · unfold outQ start
    rw [if_pos ((coord_one t).trans h), if_pos ((coord_one t).trans h)]
  · have h0 : t.val ≠ 0 := fun h' => h (by rw [h'])
    have hf : (cfg0.win 6).flush ⟨t.val - 1, Nat.lt_of_le_of_lt (Nat.sub_le _ _) t.isLt⟩ = false := by
      rw [← Bool.not_eq_true, flush0_6]
      show ¬ (t.val - 1) % 32 = 31
      omega
    rw [(dats m 0 c).before_out_kept 6 rfl t h0 hf (fun _ => rfl) (fun _ _ => rfl) d, after_6]
    show outQ _ _ _ _ _ (sumQ m c (t.val - 1 + 1)) = _
    rw [show t.val - 1 + 1 = t.val from by omega]

/-- The scratch arrays, each holding something, and the generator's register. -/
theorem rest_eq (c : Dev nD) :
    (Pipeline.ΦA spec0 c : sProp 𝕄)
      = iprop(((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d))
        ∗ (∃ r, prngReg c r)) := by
  unfold Pipeline.ΦA; rw [scopedRest0_eq]; simp only [owns_whole]

/-- The memref that window 0 stages its block in at point `t`. -/
abbrev stage0 (t : Fin cfg0.N) := win0_0.stage (cfg0.slots t 0)
/-- The memref that window 1 stages its block in at point `t`. -/
abbrev stage1 (t : Fin cfg0.N) := win0_1.stage (cfg0.slots t 1)
/-- The memref that window 2 stages its block in at point `t`. -/
abbrev stage2 (t : Fin cfg0.N) := win0_2.stage (cfg0.slots t 2)
/-- The memref that window 3 stages its block in at point `t`. -/
abbrev stage3 (t : Fin cfg0.N) := win0_3.stage (cfg0.slots t 3)
/-- The memref that window 4 stages its block in at point `t`. -/
abbrev stage4 (t : Fin cfg0.N) := win0_4.stage (cfg0.slots t 4)
/-- The memref that window 5 stages its block in at point `t`. -/
abbrev stage5 (t : Fin cfg0.N) := win0_5.stage (cfg0.slots t 5)
/-- The memref that window 6 stages its block in at point `t`. -/
abbrev stage6 (t : Fin cfg0.N) := win0_6.stage (cfg0.slots t 6)
/-- The memref that window 7 stages its block in at point `t`. -/
abbrev stage7 (t : Fin cfg0.N) := win0_7.stage (cfg0.slots t 7)
/-- The memref that window 8 stages its block in at point `t`. -/
abbrev stage8 (t : Fin cfg0.N) := win0_8.stage (cfg0.slots t 8)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (stage0 t) fullShare ((dats m 0 c).before 0 t d)) ∗ (∃ d, owns (c : Thread nD τ) (stage1 t) fullShare ((dats m 0 c).before 1 t d)) ∗ (∃ d, owns (c : Thread nD τ) (stage2 t) fullShare ((dats m 0 c).before 2 t d)) ∗ (∃ d, owns (c : Thread nD τ) (stage3 t) fullShare ((dats m 0 c).before 3 t d)) ∗ (∃ d, owns (c : Thread nD τ) (stage4 t) fullShare ((dats m 0 c).before 4 t d)) ∗ (∃ d, owns (c : Thread nD τ) (stage5 t) fullShare ((dats m 0 c).before 5 t d)) ∗ (∃ d, owns (c : Thread nD τ) (stage6 t) fullShare ((dats m 0 c).before 6 t d)) ∗ (∃ d, owns (c : Thread nD τ) (stage7 t) fullShare ((dats m 0 c).before 7 t d)) ∗ (∃ d, owns (c : Thread nD τ) (stage8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ owns (c : Thread nD τ) (stage0 t) fullShare ((dats m 0 c).after 0 t) ∗ owns (c : Thread nD τ) (stage1 t) fullShare ((dats m 0 c).after 1 t) ∗ owns (c : Thread nD τ) (stage2 t) fullShare ((dats m 0 c).after 2 t) ∗ owns (c : Thread nD τ) (stage3 t) fullShare ((dats m 0 c).after 3 t) ∗ owns (c : Thread nD τ) (stage4 t) fullShare ((dats m 0 c).after 4 t) ∗ owns (c : Thread nD τ) (stage5 t) fullShare ((dats m 0 c).after 5 t) ∗ owns (c : Thread nD τ) (stage6 t) fullShare ((dats m 0 c).after 6 t) ∗ owns (c : Thread nD τ) (stage7 t) fullShare ((dats m 0 c).after 7 t) ∗ owns (c : Thread nD τ) (stage8 t) fullShare ((dats m 0 c).after 8 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  rw [show (dats m 0 c).Φ t.castSucc = Pipeline.ΦA spec0 c from rfl, rest_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_wp Variants.none c (grid0.coords t) _ _ _ _ _ _ _ _ _ _ _ _ _ _ _ _ _ _ _ _ _ _ _ _ _ _ (kT m c t) (vT m c t) (qTok m c t) (doTok m c t) (qT m c t) (doT m c t) ((dats m 0 c).before 6 t d6) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HS1]; · iexact HS1
  isplitl [HS2]; · iexact HS2
  isplitl [HS3]; · iexact HS3
  rw [outQ_before]
  iintro ⟨H0, H1, H2, H3, H4, H5, H6, H7, H8, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

/-- The body meets, at every point, what the pipeline asks of it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every run ends with the arrays holding what the windows wrote back, and with every counter at zero. -/
theorem run_quiescent : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- Every run ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

end Cert.KernelIdeal.Hand
-- ==== Proof.Frames.lean ====
/- The frames of the three programs and the one rewrite between kernel and ideal kernel. -/
module

public import proofs.«01_k».proof.Defs
public import proofs.«01_k».proof.Proof.KernelFrame
public import proofs.«01_k».proof.Proof.Frame
public import proofs.«01_k».proof.Proof.Gen.ReferenceIdeal.Run
public import proofs.«01_k».proof.Proof.Gen.ReferenceIdeal.Read
public import Idealize.ShloMosaic.Lib.Quiescent

@[expose] public section

noncomputable section

namespace Cert.Proof

open Idealize.ShloMosaic Idealize.ShloMosaic.TcCoe Idealize.SL.Sem

/-- The kernel on machine words ends, its arguments unchanged and its counters at zero. -/
theorem frame_kernel : Cert.quiescent_Kernel := fun m ρ _ => Cert.Kernel.Hand.frame m ρ

/-- The kernel over the extended reals ends, its arguments unchanged and its counters at zero. -/
theorem frame_ideal : Cert.quiescent_KernelIdeal := fun m ρ _ => Cert.KernelIdeal.Hand.frame m ρ

/-- The reference ends, its arguments unchanged and its counters at zero. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The literal 0.6931472 of the kernel stands for the logarithm of two. -/
theorem preserves : Cert.preserves_Kernel_KernelIdeal :=
  IdealRules.named_const.statement Cert.KernelIdeal.κ "ln_2" .f32 0x3F317218#32 ((Real.log 2 : ℝ) : EReal) rfl

end Cert.Proof
-- ==== Proof.HostTerms.lean ====
/- The six arrays that the kernel reads, as terms of the program's arguments. -/
module

public import proofs.«01_k».proof.Proof.Gen.KernelIdeal.Frame
public import Idealize.ShloMosaic.Lib.StableHlo.ReadAt
public import Idealize.ShloMosaic.Lib.Claim
public import Idealize.ShloMosaic.Lib.Pipeline.FrameBody

@[expose] public section

set_option maxRecDepth 16384

noncomputable section

namespace Cert.KernelIdeal.Hand

open Idealize.ShloMosaic Idealize.ShloMosaic.TcCoe Cert.KernelIdeal Cert.KernelIdeal.Gen

/-- The scaled scores of every query against every key. -/
def scoresOf (q : FVec Ideal S1x8192x8x64 .f32) (k : FVec Ideal S1x8192x2x64 .f32) : FVec Ideal S1x2x4x8192x8192 .f32 :=
  mulf (transpose S1x2x4x8192x8192 [0, 1, 4, 3, 2]
      (Host.dotGeneral dot_S1x8192x2x64_S1x8192x2x4x64_S1x2x8192x8192x4_3_4_1_13_02_02 none k
        (shapeCast S1x8192x2x4x64 q shapeCasts_S1x8192x8x64_S1x8192x2x4x64))
      transposes_S1x2x8192x8192x4_S1x2x4x8192x8192_0_1_4_3_2)
    (broadcastInDim S1x2x4x8192x8192 ![] bcast_S_S1x2x4x8192x8192 (constant S_ .f32 0x3E000000#32))

/-- Each query's largest score. -/
def topsOf (s : FVec Ideal S1x2x4x8192x8192 .f32) : FVec Ideal S1x2x4x8192x1 .f32 :=
  broadcastInDim S1x2x4x8192x1 ![0, 1, 2, 3] bcast_S1x2x4x8192_S1x2x4x8192x1_0_1_2_3
    (Host.reduce FloatOps.maximumf s (constant S_ .f32 0xFF800000#32) reducesTo_S1x2x4x8192x8192_S1x2x4x8192_d4 h_S_)

/-- The exponentials of the scores less the largest. -/
def expsOf (s : FVec Ideal S1x2x4x8192x8192 .f32) : FVec Ideal S1x2x4x8192x8192 .f32 :=
  Host.exp (subf s (broadcastInDim S1x2x4x8192x8192 ![0, 1, 2, 3, 4]
    bcast_S1x2x4x8192x1_S1x2x4x8192x8192_0_1_2_3_4 (topsOf s)))

/-- Each query's sum of exponentials. -/
def sumsOf (e : FVec Ideal S1x2x4x8192x8192 .f32) : FVec Ideal S1x2x4x8192x1 .f32 :=
  broadcastInDim S1x2x4x8192x1 ![0, 1, 2, 3] bcast_S1x2x4x8192_S1x2x4x8192x1_0_1_2_3
    (Host.reduceAdd e (constant S_ .f32 0x00000000#32) reducesTo_S1x2x4x8192x8192_S1x2x4x8192_d4 h_S_)

/-- One over the natural logarithm of two. -/
def log2e : FVec Ideal S_ .f32 := Host.divf (constant S_ .f32 0x3F800000#32) (Host.log (constant S_ .f32 0x40000000#32))

/-- The logarithms of sums of exponentials to base two, one row per tile, of the largest scores and the sums. -/
def lseFrom (t u : FVec Ideal S1x2x4x8192x1 .f32) : FVec Ideal S8x16x1x512 .f32 :=
  shapeCast S8x16x1x512 (mulf (addf t (Host.log u))
    (broadcastInDim S1x2x4x8192x1 ![] bcast_S_S1x2x4x8192x1 log2e)) shapeCasts_S1x2x4x8192x1_S8x16x1x512

/-- Each query's logarithm of the sum of exponentials of its scores. -/
def lseOf (s : FVec Ideal S1x2x4x8192x8192 .f32) : FVec Ideal S8x16x1x512 .f32 := lseFrom (topsOf s) (sumsOf (expsOf s))

/-- The attention's output. -/
def outOf (s : FVec Ideal S1x2x4x8192x8192 .f32) (v : FVec Ideal S1x8192x2x64 .f32) : FVec Ideal S1x8192x8x64 .f32 :=
  shapeCast S1x8192x8x64 (transpose S1x8192x2x4x64 [0, 4, 1, 3, 2]
    (Host.dotGeneral dot_S1x8192x2x64_S1x2x4x8192x8192_S1x2x64x4x8192_1_4_3_23_02_01 none v
      (Host.divf (expsOf s) (broadcastInDim S1x2x4x8192x8192 ![0, 1, 2, 3, 4]
        bcast_S1x2x4x8192x1_S1x2x4x8192x8192_0_1_2_3_4 (sumsOf (expsOf s)))))
    transposes_S1x2x64x4x8192_S1x8192x2x4x64_0_4_1_3_2) shapeCasts_S1x8192x2x4x64_S1x8192x8x64

/-- Each query's inner product of the output with its cotangent, one row per tile. -/
def deltaOf (o : FVec Ideal S1x8192x8x64 .f32) (ct : FVec Ideal S1x8192x512 .f32) : FVec Ideal S8x16x1x512 .f32 :=
  transpose S8x16x1x512 [3, 0, 1, 2]
    (shapeCast S16x1x512x8 (shapeCast S8192x8
      (Host.reduceAdd (mulf (shapeCast S1x8192x8x64 ct shapeCasts_S1x8192x512_S1x8192x8x64) o)
        (constant S_ .f32 0x00000000#32) reducesTo_S1x8192x8x64_S1x8192x8_d3 h_S_)
      shapeCasts_S1x8192x8_S8192x8) shapeCasts_S8192x8_S16x1x512x8)
    transposes_S16x1x512x8_S8x16x1x512_3_0_1_2

/-- The queries times the scale and one over the logarithm of two, in tiles with one column per token. -/
def queriesOf (q : FVec Ideal S1x8192x8x64 .f32) : FVec Ideal S8x16x64x512 .f32 :=
  transpose S8x16x64x512 [2, 0, 3, 1]
    (shapeCast S16x512x8x64 (shapeCast S8192x512
      (mulf q (broadcastInDim S1x8192x8x64 ![] bcast_S_S1x8192x8x64 (mulf (constant S_ .f32 0x3E000000#32) log2e)))
      shapeCasts_S1x8192x8x64_S8192x512) shapeCasts_S8192x512_S16x512x8x64)
    transposes_S16x512x8x64_S8x16x64x512_2_0_3_1

/-- The output's cotangent in tiles with one column per token. -/
def cotangentsOf (ct : FVec Ideal S1x8192x512 .f32) : FVec Ideal S8x16x64x512 .f32 :=
  transpose S8x16x64x512 [2, 0, 3, 1]
    (shapeCast S16x512x8x64 (shapeCast S8192x512 ct shapeCasts_S1x8192x512_S8192x512) shapeCasts_S8192x512_S16x512x8x64)
    transposes_S16x512x8x64_S8x16x64x512_2_0_3_1

/-- Two arrays of sixty-four rows, one after the other. -/
def stack (a b : FVec Ideal S8x16x64x512 .f32) : FVec Ideal S8x16x128x512 .f32 :=
  concatenate S8x16x128x512 2 [⟨S8x16x64x512, a⟩, ⟨S8x16x64x512, b⟩] concatenates_S8x16x64x512_S8x16x64x512_S8x16x128x512_d2

theorem stack_def (a b : FVec Ideal S8x16x64x512 .f32) :
    concatenate S8x16x128x512 2 [⟨S8x16x64x512, a⟩, ⟨S8x16x64x512, b⟩]
      concatenates_S8x16x64x512_S8x16x64x512_S8x16x128x512_d2 = stack a b := rfl

/-- Tiles with one row per token, each row followed by its shift in two parts and zeros. -/
def rowsOf (a : FVec Ideal S8x16x64x512 .f32) (shift : FVec Ideal S8x16x1x512 .f32) : FVec Ideal S8x16x512x128 .bf16 :=
  truncf .bf16 (transpose S8x16x512x128 [0, 1, 3, 2]
    (stack a (select (cmpi .eq (iotaInDim S8x16x64x512 32 2)
            (broadcastInDim S8x16x64x512 ![] bcast_S_S8x16x64x512 (constantI S_ 32 0#32)))
          (broadcastInDim S8x16x64x512 ![0, 1, 2, 3] bcast_S8x16x1x512_S8x16x64x512_0_1_2_3
            (extf .f32 (truncf .bf16 shift bitsLt_bf16_f32) bitsLt_bf16_f32))
          (select (cmpi .eq (iotaInDim S8x16x64x512 32 2)
              (broadcastInDim S8x16x64x512 ![] bcast_S_S8x16x64x512 (constantI S_ 32 1#32)))
            (broadcastInDim S8x16x64x512 ![0, 1, 2, 3] bcast_S8x16x1x512_S8x16x64x512_0_1_2_3
              (subf shift (extf .f32 (truncf .bf16 shift bitsLt_bf16_f32) bitsLt_bf16_f32)))
            (broadcastInDim S8x16x64x512 ![] bcast_S_S8x16x64x512 (constant S_ .f32 0x00000000#32)))))
    transposes_S8x16x128x512_S8x16x512x128_0_1_3_2) bitsLt_bf16_f32

/-- Keys or values in tiles with one column per token, each followed by two times minus one and zeros. -/
def columnsOf (a : FVec Ideal S1x8192x2x64 .f32) : FVec Ideal S2x32x128x256 .bf16 :=
  truncf .bf16
    (concatenate S2x32x128x256 2
      [⟨S2x32x64x256, transpose S2x32x64x256 [2, 0, 3, 1]
          (shapeCast S32x256x2x64 (shapeCast S8192x128 a shapeCasts_S1x8192x2x64_S8192x128) shapeCasts_S8192x128_S32x256x2x64)
          transposes_S32x256x2x64_S2x32x64x256_2_0_3_1⟩,
       ⟨S2x32x64x256, select (cmpi .eq (iotaInDim S2x32x64x256 32 2)
            (broadcastInDim S2x32x64x256 ![] bcast_S_S2x32x64x256 (constantI S_ 32 0#32)))
          (broadcastInDim S2x32x64x256 ![] bcast_S_S2x32x64x256 (constant S_ .f32 0xBF800000#32))
          (select (cmpi .eq (iotaInDim S2x32x64x256 32 2)
              (broadcastInDim S2x32x64x256 ![] bcast_S_S2x32x64x256 (constantI S_ 32 1#32)))
            (broadcastInDim S2x32x64x256 ![] bcast_S_S2x32x64x256 (constant S_ .f32 0xBF800000#32))
            (broadcastInDim S2x32x64x256 ![] bcast_S_S2x32x64x256 (constant S_ .f32 0x00000000#32)))⟩]
      concatenates_S2x32x64x256_S2x32x64x256_S2x32x128x256_d2) bitsLt_bf16_f32

variable (m : (ℓ : Loc nD τ sig) → Buf (Elt Ideal) ℓ) (c : Dev nD)

/-- The four argument arrays on a device. -/
abbrev argQ : FVec Ideal S1x8192x8x64 .f32 := m ((c.tc : Thread nD τ).loc main_arg0)
abbrev argK : FVec Ideal S1x8192x2x64 .f32 := m ((c.tc : Thread nD τ).loc main_arg1)
abbrev argV : FVec Ideal S1x8192x2x64 .f32 := m ((c.tc : Thread nD τ).loc main_arg2)
abbrev argCt : FVec Ideal S1x8192x512 .f32 := m ((c.tc : Thread nD τ).loc main_arg3)

theorem V_kT : V m c main_v79 = columnsOf (argK m c) := by
  unfold V
  after_reads_simp
  rfl

theorem V_vT : V m c main_v92 = columnsOf (argV m c) := by
  unfold V
  after_reads_simp
  rfl

theorem V_qT : V m c main_v65 = truncf .bf16 (queriesOf (argQ m c)) bitsLt_bf16_f32 := by
  unfold V
  after_reads_simp
  rfl

theorem V_doT : V m c main_v66 = truncf .bf16 (cotangentsOf (argCt m c)) bitsLt_bf16_f32 := by
  unfold V
  after_reads_simp
  rfl

theorem V_qTok : V m c main_v51 = rowsOf (queriesOf (argQ m c)) (lseOf (scoresOf (argQ m c) (argK m c))) := by
  unfold V
  after_reads_simp
  rw [stack_def]
  after_reads_simp
  simp -implicitDefEqProofs only [StableHlo.TRef.toBuf, StableHlo.TRef.ofBuf, cast_cast, cast_eq]
  rfl

theorem V_doTok : V m c main_v64 = rowsOf (cotangentsOf (argCt m c))
    (deltaOf (outOf (scoresOf (argQ m c) (argK m c)) (argV m c)) (argCt m c)) := by
  unfold V
  after_reads_simp
  rw [stack_def]
  after_reads_simp
  simp -implicitDefEqProofs only [StableHlo.TRef.toBuf, StableHlo.TRef.ofBuf, cast_cast, cast_eq]
  rfl

end Cert.KernelIdeal.Hand

end
-- ==== Proof.Reals.lean ====
/- The attention gradients over the real numbers: the functions that the program's and the reference's
   arrays are shown to hold. -/
module

public import Mathlib.Analysis.SpecialFunctions.Log.Basic
public import Mathlib.Data.EReal.Operations
public import Mathlib.Algebra.BigOperators.Field
public import Mathlib.Tactic.FieldSimp
public import Mathlib.Tactic.Ring

@[expose] public section

noncomputable section

namespace Cert.Attention

/-- The attention's real-valued operands: queries, keys, values and the cotangent of the output. -/
structure Operands where
  q : Fin 8192 → Fin 8 → Fin 64 → ℝ
  k : Fin 8192 → Fin 2 → Fin 64 → ℝ
  v : Fin 8192 → Fin 2 → Fin 64 → ℝ
  ct : Fin 8192 → Fin 512 → ℝ

/-- Query head `e` of group `g`. -/
def head (g : Fin 2) (e : Fin 4) : Fin 8 := ⟨g.val * 4 + e.val, by omega⟩

/-- A query head's group. -/
def group (h : Fin 8) : Fin 2 := ⟨h.val / 4, by omega⟩

/-- A query head's place in its group. -/
def member (h : Fin 8) : Fin 4 := ⟨h.val % 4, by omega⟩

theorem head_group (h : Fin 8) : head (group h) (member h) = h := Fin.ext (by simp only [head, group, member]; omega)

/-- Column `d` of a query head in the flattened output. -/
def col (h : Fin 8) (d : Fin 64) : Fin 512 := ⟨h.val * 64 + d.val, by omega⟩

/-- Row `r` of query tile `i`. -/
def tokQ (i : Fin 16) (r : Fin 512) : Fin 8192 := ⟨i.val * 512 + r.val, by omega⟩

/-- Row `s` of key tile `j`. -/
def tokK (j : Fin 32) (s : Fin 256) : Fin 8192 := ⟨j.val * 256 + s.val, by omega⟩

variable (A : Operands)

/-- The scaled score of query `x` against key `y`. -/
def score (g : Fin 2) (e : Fin 4) (x y : Fin 8192) : ℝ := (∑ d, A.k y g d * A.q x (head g e) d) * (1 / 8)

/-- The largest score of a query. -/
def top (g : Fin 2) (e : Fin 4) (x : Fin 8192) : ℝ :=
  Finset.univ.sup' ⟨(0 : Fin 8192), Finset.mem_univ _⟩ fun y => score A g e x y

/-- The exponential of a score less the largest. -/
def ex (g : Fin 2) (e : Fin 4) (x y : Fin 8192) : ℝ := Real.exp (score A g e x y - top A g e x)

/-- The sum of a query's exponentials. -/
def total (g : Fin 2) (e : Fin 4) (x : Fin 8192) : ℝ := ∑ y, ex A g e x y

theorem total_pos (g : Fin 2) (e : Fin 4) (x : Fin 8192) : 0 < total A g e x :=
  Finset.sum_pos (fun y _ => Real.exp_pos _) ⟨0, Finset.mem_univ _⟩

/-- The softmax weight. -/
def prob (g : Fin 2) (e : Fin 4) (x y : Fin 8192) : ℝ := ex A g e x y / total A g e x

/-- The cotangent of a weight. -/
def dprob (g : Fin 2) (e : Fin 4) (x y : Fin 8192) : ℝ := ∑ d, A.v y g d * A.ct x (col (head g e) d)

/-- The weighted mean of a query's weight cotangents. -/
def delta (g : Fin 2) (e : Fin 4) (x : Fin 8192) : ℝ := ∑ y, prob A g e x y * dprob A g e x y

/-- The cotangent of a scaled score. -/
def dscore (g : Fin 2) (e : Fin 4) (x y : Fin 8192) : ℝ := prob A g e x y * (dprob A g e x y - delta A g e x)

/-- The gradient of a scaled query. -/
def gradQ (g : Fin 2) (e : Fin 4) (x : Fin 8192) (d : Fin 64) : ℝ := ∑ y, A.k y g d * dscore A g e x y

/-- The gradient of a key. -/
def gradK (g : Fin 2) (y : Fin 8192) (d : Fin 64) : ℝ :=
  ∑ e, ∑ x, dscore A g e x y * (1 / 8) * A.q x (head g e) d

/-- The gradient of a value. -/
def gradV (g : Fin 2) (y : Fin 8192) (d : Fin 64) : ℝ := ∑ e, ∑ x, A.ct x (col (head g e) d) * prob A g e x y

/-- The weight is the exponential of the score less the logarithm of the exponentials' sum. -/
theorem prob_eq (g : Fin 2) (e : Fin 4) (x y : Fin 8192) :
    prob A g e x y = Real.exp (score A g e x y - (top A g e x + Real.log (total A g e x))) := by
  rw [← sub_sub, Real.exp_sub, Real.exp_log (total_pos A g e x)]
  rfl

/-- The mean of the weight cotangents is the output's inner product with its cotangent. -/
theorem delta_eq (g : Fin 2) (e : Fin 4) (x : Fin 8192) :
    ∑ d, A.ct x (col (head g e) d) * ∑ y, A.v y g d * prob A g e x y = delta A g e x := by
  simp only [delta, dprob, Finset.mul_sum]
  rw [Finset.sum_comm]
  exact Finset.sum_congr rfl fun y _ => Finset.sum_congr rfl fun d _ => by ring

/-- The score cotangent as differentiation of the quotient writes it. -/
theorem dscore_eq (g : Fin 2) (e : Fin 4) (x y : Fin 8192) :
    (dprob A g e x y / total A g e x
        + -∑ z, dprob A g e x z * (1 / (total A g e x * total A g e x)) * ex A g e x z) * ex A g e x y
      = dscore A g e x y := by
  have h := (total_pos A g e x).ne'
  have hs : ∑ z, dprob A g e x z * (1 / (total A g e x * total A g e x)) * ex A g e x z
      = delta A g e x / total A g e x := by
    rw [delta, Finset.sum_div]
    exact Finset.sum_congr rfl fun z _ => by rw [prob]; field_simp
  rw [hs, dscore, prob]
  field_simp
  ring

/-- The coercion of a finite real sum. -/
theorem coe_sum {ι : Type*} [Fintype ι] (f : ι → ℝ) : ∑ i, ((f i : ℝ) : EReal) = ((∑ i, f i : ℝ) : EReal) := by
  classical
  induction (Finset.univ : Finset ι) using Finset.induction_on with
  | empty => simp
  | insert a s ha ih => rw [Finset.sum_insert ha, Finset.sum_insert ha, ih, EReal.coe_add]

end Cert.Attention

end
-- ==== Proof.Consts.lean ====
/- The literals of the two programs as real numbers, and quotients of real numbers. -/
module

public import proofs.«01_k».proof.Proof.Reals
public import Idealize.ShloMosaic.Lib.Pointwise

@[expose] public section

noncomputable section

namespace Cert.Attention

open Idealize.ShloMosaic

theorem lit_eighth : Ideal.ofBits FTy.f32 0x3E000000#32 = ((1 / 8 : ℝ) : EReal) := by
  simp [Ideal.ofBits, Ideal.ieee, -EReal.coe_mul]; norm_num

theorem lit_eight : Ideal.ofBits FTy.f32 0x41000000#32 = ((8 : ℝ) : EReal) := by
  simp [Ideal.ofBits, Ideal.ieee, -EReal.coe_mul]; norm_num

theorem lit_two : Ideal.ofBits FTy.f32 0x40000000#32 = ((2 : ℝ) : EReal) := by
  simp [Ideal.ofBits, Ideal.ieee, -EReal.coe_mul]; norm_num

theorem lit_minus_one : Ideal.ofBits FTy.f32 0xBF800000#32 = ((-1 : ℝ) : EReal) := by
  simp [Ideal.ofBits, Ideal.ieee, -EReal.coe_mul]; norm_num

theorem lit_bot : Ideal.ofBits FTy.f32 0xFF800000#32 = ⊥ := by
  simp [Ideal.ofBits, Ideal.ieee, -EReal.coe_mul]

theorem div_real (a b : ℝ) (h : b ≠ 0) : Ideal.div (a : EReal) (b : EReal) = ((a / b : ℝ) : EReal) := by
  rw [Ideal.div_coe h, ← EReal.coe_mul, mul_one_div]

/-- A fold of `max` from below everything is the greatest of the values. -/
theorem fold_top {ι : Type*} [Fintype ι] (h : (Finset.univ : Finset ι).Nonempty) (f : ι → ℝ) :
    Finset.fold max (⊥ : EReal) (fun y => ((f y : ℝ) : EReal)) Finset.univ
      = ((Finset.univ.sup' h f : ℝ) : EReal) := by
  apply le_antisymm
  · refine (Finset.fold_max_le _).mpr ⟨bot_le, fun y hy => ?_⟩
    exact EReal.coe_le_coe_iff.mpr (Finset.le_sup' f hy)
  · obtain ⟨y, hy, e⟩ := Finset.exists_mem_eq_sup' h f
    rw [e]
    exact (Finset.le_fold_max _).mpr (Or.inr ⟨y, hy, le_rfl⟩)

end Cert.Attention

end
-- ==== Proof.RefVal.lean ====
/- The reference's arrays read at an index, on real operands. -/
module

public import proofs.«01_k».proof.Proof.Consts
public import proofs.«01_k».proof.Proof.Gen.ReferenceIdeal.Read

@[expose] public section

set_option maxRecDepth 16384

noncomputable section

namespace Cert.ReferenceIdeal.Hand

open Cert.ReferenceIdeal Cert.ReferenceIdeal.Gen Cert.ReferenceIdeal.Read Idealize.ShloMosaic Cert.Attention

variable (A : Operands)
  (x0 : (⟨S1x8192x8x64, .f32⟩ : BufTy).Contents (Elt Ideal)) (x1 x2 : (⟨S1x8192x2x64, .f32⟩ : BufTy).Contents (Elt Ideal))
  (x3 : (⟨S1x8192x512, .f32⟩ : BufTy).Contents (Elt Ideal))

/-- The arguments' entries are the operands' reals. -/
structure Holds : Prop where
  q : ∀ x h d, x0 (ix4 (0 : Fin 1) x h d) = ((A.q x h d : ℝ) : EReal)
  k : ∀ y g d, x1 (ix4 (0 : Fin 1) y g d) = ((A.k y g d : ℝ) : EReal)
  v : ∀ y g d, x2 (ix4 (0 : Fin 1) y g d) = ((A.v y g d : ℝ) : EReal)
  ct : ∀ x j, x3 (ix3 (0 : Fin 1) x j) = ((A.ct x j : ℝ) : EReal)

variable {A x0 x1 x2 x3} (H : Holds A x0 x1 x2 x3)

include H

theorem v4_at (g : Fin 2) (e : Fin 4) (x y : Fin 8192) :
    val_main_v4 x0 x1 (ix5 (0 : Fin 1) g e x y) = ((score A g e x y : ℝ) : EReal) := by
  pointwise [val_main_v4, val_main_v2, val_main_v3, val_main_v1, val_main_v0, val_main_cst]
  simp only [H.q, H.k, lit_eighth, ← EReal.coe_mul, coe_sum]
  rfl

theorem v5_at (g : Fin 2) (e : Fin 4) (x : Fin 8192) :
    val_main_v5 x0 x1 (ix4 (0 : Fin 1) g e x) = ((top A g e x : ℝ) : EReal) := by
  pointwise [val_main_v5, val_main_cst_0]
  rw [lit_bot]
  have h : (fun y => val_main_v4 x0 x1 (ix5 (0 : Fin 1) g e x y)) = fun y => ((score A g e x y : ℝ) : EReal) :=
    funext fun y => v4_at H g e x y
  rw [h]
  exact fold_top ⟨(0 : Fin 8192), Finset.mem_univ _⟩ _

theorem v12_at (g : Fin 2) (e : Fin 4) (x : Fin 8192) :
    val_main_v12 x0 x1 (ix4 (0 : Fin 1) g e x) = ((top A g e x : ℝ) : EReal) := by
  rw [val_main_v12_apply, v5_at H, val_main_v11_apply, val_main_cst_2_apply, Ideal.ofBits_def, lit_bot, Ideal.maximumf_def]
  exact max_eq_right bot_le

theorem v25_at (g : Fin 2) (e : Fin 4) (x y : Fin 8192) :
    val_main_v25 x0 x1 (ix5 (0 : Fin 1) g e x y) = ((ex A g e x y : ℝ) : EReal) := by
  pointwise [val_main_v25, val_main_v24, val_main_v23, val_main_v22]
  simp only [v4_at H, v12_at H, ← EReal.coe_sub, Ideal.exp_coe]
  rfl

theorem v27_at (g : Fin 2) (e : Fin 4) (x : Fin 8192) :
    val_main_v27 x0 x1 (ix5 (0 : Fin 1) g e x (0 : Fin 1)) = ((total A g e x : ℝ) : EReal) := by
  pointwise [val_main_v27, val_main_v26, val_main_cst_8]
  simp only [v25_at H, coe_sum]
  rfl

theorem v29_at (g : Fin 2) (e : Fin 4) (x y : Fin 8192) :
    val_main_v29 x0 x1 (ix5 (0 : Fin 1) g e x y) = ((prob A g e x y : ℝ) : EReal) := by
  pointwise [val_main_v29, val_main_v28]
  simp only [v25_at H, v27_at H, div_real _ _ (total_pos A g e x).ne']
  rfl

theorem v32_at (g : Fin 2) (e : Fin 4) (x : Fin 8192) :
    val_main_v32 x0 x1 (ix5 (0 : Fin 1) g e x (0 : Fin 1)) = ((1 / (total A g e x * total A g e x) : ℝ) : EReal) := by
  have h := (total_pos A g e x).ne'
  pointwise [val_main_v32, val_main_v31, val_main_v30, val_main_cst_9]
  simp only [v27_at H, ← EReal.coe_mul]
  exact div_real 1 _ (mul_ne_zero h h)

theorem v38_at (g : Fin 2) (e : Fin 4) (x y : Fin 8192) :
    val_main_v38 x2 x3 (ix5 (0 : Fin 1) g e x y) = ((dprob A g e x y : ℝ) : EReal) := by
  pointwise [val_main_v38, val_main_v37, val_main_v36]
  simp only [H.v, H.ct, ← EReal.coe_mul, coe_sum]
  refine congrArg _ (Finset.sum_congr rfl fun d _ => ?_)
  rw [mul_comm, show (⟨g.val * 256 + e.val * 64 + d.val, by omega⟩ : Fin 512) = col (head g e) d from
    Fin.ext (by simp only [col, head]; omega)]

theorem v49_at (g : Fin 2) (e : Fin 4) (x : Fin 8192) :
    val_main_v49 x0 x1 x2 x3 (ix3 g e x)
      = ((-∑ z, dprob A g e x z * (1 / (total A g e x * total A g e x)) * ex A g e x z : ℝ) : EReal) := by
  have h46 : val_main_v46 x0 x1 x2 x3 (ix5 (0 : Fin 1) g e x (0 : Fin 1))
      = ((-∑ z, dprob A g e x z * (1 / (total A g e x * total A g e x)) * ex A g e x z : ℝ) : EReal) := by
    pointwise [val_main_v46, val_main_v45, val_main_v44, val_main_v43, val_main_v42, val_main_v41, val_main_cst_10]
    simp only [v25_at H, v38_at H, v32_at H, ← EReal.coe_mul, coe_sum, ← EReal.coe_neg]
  pointwise [val_main_v49, val_main_cst_11]
  rw [← h46, Ideal.hostReduceAdd, zero_add]
  generalize val_main_v46 x0 x1 x2 x3 = w
  refine (Finset.sum_eq_single (ix5 (0 : Fin 1) g e x (0 : Fin 1)) (fun b hb hn => ?_) (fun hn => ?_))
  · idx_vars b
    rw [Finset.mem_filter] at hb
    have e1 : b1 = g := Fin.ext (congrArg Fin.val (congrFun hb.2 (0 : Fin 3)))
    have e2 : b2 = e := Fin.ext (congrArg Fin.val (congrFun hb.2 (1 : Fin 3)))
    have e3 : b3 = x := Fin.ext (congrArg Fin.val (congrFun hb.2 (2 : Fin 3)))
    exact absurd (by rw [e1, e2, e3, Subsingleton.elim b0 0, Subsingleton.elim b4 0]) hn
  · exact (hn (Finset.mem_filter.mpr ⟨Finset.mem_univ _, funext fun a => match a with
      | ⟨0, _⟩ => Fin.ext (rfl : g.val = g.val)
      | ⟨1, _⟩ => Fin.ext (rfl : e.val = e.val)
      | ⟨2, _⟩ => Fin.ext (rfl : x.val = x.val)⟩)).elim

theorem v53_at (g : Fin 2) (e : Fin 4) (x y : Fin 8192) :
    val_main_v53 x0 x1 x2 x3 (ix5 (0 : Fin 1) g e x y) = ((dscore A g e x y : ℝ) : EReal) := by
  pointwise [val_main_v53, val_main_v52, val_main_v51, val_main_v50, val_main_v48, val_main_v47]
  simp only [v25_at H, v38_at H, v27_at H, v49_at H, div_real _ _ (total_pos A g e x).ne', ← EReal.coe_mul, ← EReal.coe_add]
  rw [dscore_eq]

theorem v65_at (h : Fin 8) (i : Fin 16) (d : Fin 64) (r : Fin 512) :
    val_main_v65 x0 x1 x2 x3 (ix4 h i d r) = ((gradQ A (group h) (member h) (tokQ i r) d : ℝ) : EReal) := by
  pointwise [val_main_v65, val_main_v64, val_main_v63, val_main_v62, val_main_v61, val_main_v58, val_main_v57,
    val_main_v56, val_main_v55, val_main_v54, val_main_cst_12, val_main_cst_13]
  simp only [v53_at H, H.k, lit_eighth, lit_eight, ← EReal.coe_mul, coe_sum]
  refine congrArg _ ?_
  rw [gradQ, Finset.sum_mul]
  refine Finset.sum_congr rfl fun y _ => ?_
  rw [show (⟨i.val * 512 + r.val, by omega⟩ : Fin 8192) = tokQ i r from rfl]
  simp only [group, member]
  ring

theorem v67_at (g : Fin 2) (j : Fin 32) (d : Fin 64) (s : Fin 256) :
    val_main_v67 x0 x1 x2 x3 (ix4 g j d s) = ((gradK A g (tokK j s) d : ℝ) : EReal) := by
  pointwise [val_main_v67, val_main_v66, val_main_v60, val_main_v59, val_main_v56, val_main_v55, val_main_v54,
    val_main_cst_12, val_main_v0]
  simp only [v53_at H, H.q, lit_eighth, ← EReal.coe_mul, coe_sum]
  refine congrArg _ ?_
  rw [gradK, Finset.sum_comm]
  rfl

theorem v69_at (g : Fin 2) (j : Fin 32) (d : Fin 64) (s : Fin 256) :
    val_main_v69 x0 x1 x3 (ix4 g j d s) = ((gradV A g (tokK j s) d : ℝ) : EReal) := by
  pointwise [val_main_v69, val_main_v68, val_main_v40, val_main_v39, val_main_v37, val_main_v36]
  simp only [v29_at H, H.ct, ← EReal.coe_mul, coe_sum]
  refine congrArg _ (Finset.sum_congr rfl fun e _ => Finset.sum_congr rfl fun x _ => ?_)
  rw [show (⟨g.val * 256 + e.val * 64 + d.val, by omega⟩ : Fin 512) = col (head g e) d from
    Fin.ext (by simp only [col, head]; omega)]
  rfl

end Cert.ReferenceIdeal.Hand

end
-- ==== Proof.HostVal.lean ====
/- The six arrays that the kernel reads, at an index, on real operands. -/
module

public import proofs.«01_k».proof.Proof.HostTerms
public import proofs.«01_k».proof.Proof.RefVal
public import Idealize.ShloMosaic.Lib.WordCmp

@[expose] public section

set_option maxRecDepth 16384

noncomputable section

namespace Cert.KernelIdeal.Hand

open Idealize.ShloMosaic Cert.KernelIdeal Cert.KernelIdeal.Gen Cert.Attention Cert.ReferenceIdeal.Hand

theorem log2e_at (z : S_.Idx) : log2e z = ((1 / Real.log 2 : ℝ) : EReal) := by
  have h : (0 : ℝ) < Real.log 2 := Real.log_pos (by norm_num)
  pointwise [log2e]
  rw [lit_two, Ideal.log_coe, if_neg (by norm_num)]
  exact div_real 1 _ h.ne'

/-- A choice by comparing two small numbers. -/
theorem select_nat {α : Type} (n c : ℕ) (hn : n < 64) (hc : c < 64) (a b : α) :
    Scalar.select (IntOp.cmpi .eq (BitVec.ofNat 32 n) (BitVec.ofNat 32 c)) a b = if n = c then a else b := by
  rw [WordCmp.cmpi_eq_eq_toNat, BitVec.toNat_ofNat, BitVec.toNat_ofNat, Nat.mod_eq_of_lt (by omega), Nat.mod_eq_of_lt (by omega)]
  by_cases h : n = c
  · rw [if_pos h, decide_eq_true h]; rfl
  · rw [if_neg h, decide_eq_false h]; rfl

variable {A : Operands} {x0 : FVec Ideal S1x8192x8x64 .f32} {x1 x2 : FVec Ideal S1x8192x2x64 .f32}
  {x3 : FVec Ideal S1x8192x512 .f32} (H : Holds A x0 x1 x2 x3)

/-- A token's row: its sixty-four entries, its shift, and zeros. -/
def rowReal (a : Fin 64 → ℝ) (s : ℝ) (d : Fin 128) : ℝ :=
  if h : d.val < 64 then a ⟨d.val, h⟩ else if d.val = 64 then s else 0

/-- A token's column: its sixty-four entries, two times minus one, and zeros. -/
def colReal (a : Fin 64 → ℝ) (d : Fin 128) : ℝ :=
  if h : d.val < 64 then a ⟨d.val, h⟩ else if d.val = 64 then -1 else if d.val = 65 then -1 else 0

theorem sum_aug (a b : Fin 64 → ℝ) (s : ℝ) :
    ∑ d : Fin 128, colReal b d * rowReal a s d = (∑ d, b d * a d) - s := by
  rw [show (∑ d : Fin 128, colReal b d * rowReal a s d) = ∑ d : Fin (64 + 64), colReal b d * rowReal a s d from rfl,
    Fin.sum_univ_add, Fin.sum_univ_succ (n := 63) (f := fun d => colReal b (Fin.natAdd 64 d) * rowReal a s (Fin.natAdd 64 d))]
  have h1 : ∀ d : Fin 64, colReal b (Fin.castAdd 64 d) * rowReal a s (Fin.castAdd 64 d) = b d * a d := fun d => by
    simp [colReal, rowReal]
  have h2 : ∀ d : Fin 63, colReal b (Fin.natAdd 64 d.succ) * rowReal a s (Fin.natAdd 64 d.succ) = 0 := fun d => by
    simp [rowReal]
  simp only [h1, h2, Finset.sum_const_zero]
  simp [colReal, rowReal]
  ring

theorem rowsOf_at (a : FVec Ideal S8x16x64x512 .f32) (s : FVec Ideal S8x16x1x512 .f32) (h : Fin 8) (i : Fin 16) (r : Fin 512)
    (ar : Fin 64 → ℝ) (sr : ℝ) (ha : ∀ d, a (ix4 h i d r) = ((ar d : ℝ) : EReal)) (hs : s (ix4 h i (0 : Fin 1) r) = ((sr : ℝ) : EReal))
    (d : Fin 128) : rowsOf a s (ix4 h i r d) = ((rowReal ar sr d : ℝ) : EReal) := by
  pointwise [rowsOf, stack]
  rw [hs, select_nat _ 0 (by omega) (by omega), select_nat _ 1 (by omega) (by omega), ← EReal.coe_sub, sub_self]
  rw [rowReal]
  split_ifs with h1 h2 h3 h4 <;> first | exact ha _ | rfl | omega

theorem columnsOf_at (a : FVec Ideal S1x8192x2x64 .f32) (g : Fin 2) (j : Fin 32) (s : Fin 256)
    (ar : Fin 64 → ℝ) (ha : ∀ d, a (ix4 (0 : Fin 1) (tokK j s) g d) = ((ar d : ℝ) : EReal))
    (d : Fin 128) : columnsOf a (ix4 g j d s) = ((colReal ar d : ℝ) : EReal) := by
  pointwise [columnsOf]
  rw [select_nat _ 0 (by omega) (by omega), select_nat _ 1 (by omega) (by omega), lit_minus_one]
  rw [colReal]
  split_ifs with h1 h2 h3 h4 <;> first | exact ha _ | rfl | omega

theorem lseFrom_at (t u : FVec Ideal S1x2x4x8192x1 .f32) (h : Fin 8) (i : Fin 16) (r : Fin 512) (a b : ℝ) (hb : 0 < b)
    (e1 : t (ix5 (0 : Fin 1) (group h) (member h) (tokQ i r) (0 : Fin 1)) = ((a : ℝ) : EReal))
    (e2 : u (ix5 (0 : Fin 1) (group h) (member h) (tokQ i r) (0 : Fin 1)) = ((b : ℝ) : EReal)) :
    lseFrom t u (ix4 h i (0 : Fin 1) r) = (((a + Real.log b) * (1 / Real.log 2) : ℝ) : EReal) := by
  pointwise [lseFrom]
  rw [show (⟨i.val * 512 + r.val, by omega⟩ : Fin 8192) = tokQ i r from rfl,
    show (⟨h.val / 4, by omega⟩ : Fin 2) = group h from rfl, show (⟨h.val % 4, by omega⟩ : Fin 4) = member h from rfl]
  rw [e1, e2, log2e_at, Ideal.log_coe, if_neg (not_le.mpr hb), ← EReal.coe_add, ← EReal.coe_mul]

include H

theorem scoresOf_at (g : Fin 2) (e : Fin 4) (x y : Fin 8192) :
    scoresOf x0 x1 (ix5 (0 : Fin 1) g e x y) = ((score A g e x y : ℝ) : EReal) := by
  pointwise [scoresOf]
  simp only [H.q, H.k, lit_eighth, ← EReal.coe_mul, coe_sum]
  rfl

theorem topsOf_at (g : Fin 2) (e : Fin 4) (x : Fin 8192) :
    topsOf (scoresOf x0 x1) (ix5 (0 : Fin 1) g e x (0 : Fin 1)) = ((top A g e x : ℝ) : EReal) := by
  have h : (fun y => scoresOf x0 x1 (ix5 (0 : Fin 1) g e x y)) = fun y => ((score A g e x y : ℝ) : EReal) :=
    funext fun y => scoresOf_at H g e x y
  revert h
  generalize scoresOf x0 x1 = s
  intro h
  pointwise [topsOf]
  rw [lit_bot, h]
  exact fold_top ⟨(0 : Fin 8192), Finset.mem_univ _⟩ _

theorem expsOf_at (g : Fin 2) (e : Fin 4) (x y : Fin 8192) :
    expsOf (scoresOf x0 x1) (ix5 (0 : Fin 1) g e x y) = ((ex A g e x y : ℝ) : EReal) := by
  pointwise [expsOf]
  simp only [scoresOf_at H, topsOf_at H, ← EReal.coe_sub, Ideal.exp_coe]
  rfl

theorem sumsOf_at (g : Fin 2) (e : Fin 4) (x : Fin 8192) :
    sumsOf (expsOf (scoresOf x0 x1)) (ix5 (0 : Fin 1) g e x (0 : Fin 1)) = ((total A g e x : ℝ) : EReal) := by
  pointwise [sumsOf]
  simp only [expsOf_at H, coe_sum]
  rfl

theorem lseOf_at (h : Fin 8) (i : Fin 16) (r : Fin 512) :
    lseOf (scoresOf x0 x1) (ix4 h i (0 : Fin 1) r)
      = (((top A (group h) (member h) (tokQ i r) + Real.log (total A (group h) (member h) (tokQ i r))) * (1 / Real.log 2) : ℝ) : EReal) := by
  rw [lseOf]
  exact lseFrom_at _ _ h i r _ _ (total_pos A _ _ _) (topsOf_at H (group h) (member h) (tokQ i r))
    (sumsOf_at H (group h) (member h) (tokQ i r))

theorem outOf_at (x : Fin 8192) (h : Fin 8) (d : Fin 64) :
    outOf (scoresOf x0 x1) x2 (ix4 (0 : Fin 1) x h d)
      = ((∑ y, A.v y (group h) d * prob A (group h) (member h) x y : ℝ) : EReal) := by
  pointwise [outOf]
  simp only [H.v, expsOf_at H, sumsOf_at H, div_real _ _ (total_pos A _ _ _).ne', ← EReal.coe_mul, coe_sum]
  rfl

theorem deltaOf_at (h : Fin 8) (i : Fin 16) (r : Fin 512) :
    deltaOf (outOf (scoresOf x0 x1) x2) x3 (ix4 h i (0 : Fin 1) r)
      = ((delta A (group h) (member h) (tokQ i r) : ℝ) : EReal) := by
  pointwise [deltaOf]
  simp only [H.ct, outOf_at H, ← EReal.coe_mul, coe_sum]
  rw [← delta_eq, head_group]
  rfl

theorem queriesOf_at (h : Fin 8) (i : Fin 16) (r : Fin 512) (d : Fin 64) :
    queriesOf x0 (ix4 h i d r) = ((A.q (tokQ i r) h d * (1 / 8 * (1 / Real.log 2)) : ℝ) : EReal) := by
  pointwise [queriesOf]
  rw [H.q, lit_eighth, log2e_at, ← EReal.coe_mul, ← EReal.coe_mul]
  rfl

theorem cotangentsOf_at (h : Fin 8) (i : Fin 16) (r : Fin 512) (d : Fin 64) :
    cotangentsOf x3 (ix4 h i d r) = ((A.ct (tokQ i r) (col h d) : ℝ) : EReal) := by
  pointwise [cotangentsOf]
  exact H.ct _ _

end Cert.KernelIdeal.Hand

end
-- ==== Proof.TileVal.lean ====
/- What one grid point of the attention backward kernel computes, at an index, on real operands. -/
module

public import proofs.«01_k».proof.Proof.HostVal
public import proofs.«01_k».proof.Proof.Body
public import Idealize.ShloMosaic.Lib.Pipeline.ValueKit

@[expose] public section

set_option maxRecDepth 16384

noncomputable section

namespace Cert.KernelIdeal.Hand

open Idealize.ShloMosaic Cert.KernelIdeal Cert.KernelIdeal.Gen Cert.Attention Cert.Own

/-- The query head that tile `t` belongs to. -/
def tileHead (t : ℕ) : Fin 4 := ⟨t / 16 % 4, Nat.mod_lt _ (by decide)⟩
/-- The query tile that tile `t` is. -/
def tileRow (t : ℕ) : Fin 16 := ⟨t % 16, Nat.mod_lt _ (by decide)⟩

/-- The kernel's power of two on extended reals. -/
theorem exp2_eq (x : Ideal .f32) : FloatOps.exp2 x = Ideal.exp2 x := rfl

theorem getT_at {e : EltTy} (X : Vec Ideal S4x16x512x128 e) (t : ℕ) (r : Fin 512) (d : Fin 128) :
    getT t X (ix4 (0 : Fin 1) (0 : Fin 1) r d) = X (ix4 (tileHead t) (tileRow t) r d) := by
  show X ((tileT t).emb _) = _
  refine congrArg X (funext fun a => match a with
    | ⟨0, _⟩ => Fin.ext (show t / 16 % 4 + 1 * 0 = t / 16 % 4 by omega)
    | ⟨1, _⟩ => Fin.ext (show t % 16 + 1 * 0 = t % 16 by omega)
    | ⟨2, _⟩ => Fin.ext (show 0 + 1 * r.val = r.val by omega)
    | ⟨3, _⟩ => Fin.ext (show 0 + 1 * d.val = d.val by omega))

theorem tileH_emb (t : ℕ) (d : Fin 64) (r : Fin 512) :
    (tileH t).emb (ix4 (0 : Fin 1) (0 : Fin 1) d r) = ix4 (tileHead t) (tileRow t) d r :=
  funext fun a => match a with
    | ⟨0, _⟩ => Fin.ext (show t / 16 % 4 + 1 * 0 = t / 16 % 4 by omega)
    | ⟨1, _⟩ => Fin.ext (show t % 16 + 1 * 0 = t % 16 by omega)
    | ⟨2, _⟩ => Fin.ext (show 0 + 1 * d.val = d.val by omega)
    | ⟨3, _⟩ => Fin.ext (show 0 + 1 * r.val = r.val by omega)

theorem getH_at {e : EltTy} (X : Vec Ideal S4x16x64x512 e) (t : ℕ) (d : Fin 64) (r : Fin 512) :
    getH t X (ix4 (0 : Fin 1) (0 : Fin 1) d r) = X (ix4 (tileHead t) (tileRow t) d r) :=
  congrArg X (tileH_emb t d r)

theorem putH_at {e : EltTy} (X : Vec Ideal S4x16x64x512 e) (t : ℕ) (ht : t < 64) (w : Vec Ideal S1x1x64x512 e)
    (h : Fin 4) (i : Fin 16) (d : Fin 64) (r : Fin 512) :
    putH t X w (ix4 h i d r)
      = if h.val * 16 + i.val = t then w (ix4 (0 : Fin 1) (0 : Fin 1) d r) else X (ix4 h i d r) := by
  split_ifs with c
  · have e1 : h = tileHead t := Fin.ext (by simp only [tileHead]; omega)
    have e2 : i = tileRow t := Fin.ext (by simp only [tileRow]; omega)
    rw [e1, e2, ← tileH_emb]
    exact Rect.overlay_emb _ _ _ _
  · refine Rect.overlay_of_not_mem _ _ _ fun hm => c ?_
    rw [← Rect.map_emb_univ, Finset.mem_map] at hm
    obtain ⟨y, -, hy⟩ := hm
    idx_vars y
    have a0 : t / 16 % 4 + 1 * y0.val = h.val := congrArg Fin.val (congrFun hy (0 : Fin 4))
    have a1 : t % 16 + 1 * y1.val = i.val := congrArg Fin.val (congrFun hy (1 : Fin 4))
    have b0 : y0.val < 1 := y0.isLt
    have b1 : y1.val < 1 := y1.isLt
    omega

variable (A : Operands) (g : Fin 2) (j : Fin 32)

/-- A grid point's blocks hold the operands' tiles. -/
structure Blocks (X2 X7 : Vec Ideal S1x1x128x256 .bf16) (X3 X4 : Vec Ideal S4x16x512x128 .bf16) (X5 X6 : Vec Ideal S4x16x64x512 .bf16) : Prop where
  k : ∀ d s, X2 (ix4 (0 : Fin 1) (0 : Fin 1) d s) = ((colReal (A.k (tokK j s) g) d : ℝ) : EReal)
  v : ∀ d s, X7 (ix4 (0 : Fin 1) (0 : Fin 1) d s) = ((colReal (A.v (tokK j s) g) d : ℝ) : EReal)
  qTok : ∀ e i r d, X3 (ix4 e i r d) = ((rowReal (fun d => A.q (tokQ i r) (head g e) d * (1 / 8 * (1 / Real.log 2)))
    ((top A g e (tokQ i r) + Real.log (total A g e (tokQ i r))) * (1 / Real.log 2)) d : ℝ) : EReal)
  doTok : ∀ e i r d, X4 (ix4 e i r d) = ((rowReal (fun d => A.ct (tokQ i r) (col (head g e) d)) (delta A g e (tokQ i r)) d : ℝ) : EReal)
  qT : ∀ e i d r, X5 (ix4 e i d r) = ((A.q (tokQ i r) (head g e) d * (1 / 8 * (1 / Real.log 2)) : ℝ) : EReal)
  doT : ∀ e i d r, X6 (ix4 e i d r) = ((A.ct (tokQ i r) (col (head g e) d) : ℝ) : EReal)

variable {A g j} {X2 X7 : Vec Ideal S1x1x128x256 .bf16} {X3 X4 : Vec Ideal S4x16x512x128 .bf16} {X5 X6 : Vec Ideal S4x16x64x512 .bf16}
  (B : Blocks A g j X2 X7 X3 X4 X5 X6)
include B

theorem Sc_at (t : ℕ) (ht : t < 64) (r : Fin 512) (s : Fin 256) :
    Sc (k0_pay188 X2) X3 t (ix3 (0 : Fin 1) r s)
      = (((score A g (tileHead t) (tokQ (tileRow t) r) (tokK j s) - (top A g (tileHead t) (tokQ (tileRow t) r)
          + Real.log (total A g (tileHead t) (tokQ (tileRow t) r)))) * (1 / Real.log 2) : ℝ) : EReal) := by
  rw [Sc, Nat.min_eq_left (by omega)]
  pointwise [k0_pay9, k0_pay188]
  simp only [getT_at, B.qTok, B.k, ← EReal.coe_mul, coe_sum]
  refine congrArg _ ?_
  rw [Finset.sum_congr rfl fun d _ => mul_comm _ _, sum_aug, sub_mul, score]
  congr 1
  rw [Finset.sum_mul, Finset.sum_mul]
  exact Finset.sum_congr rfl fun d _ => by ring

theorem Dc_at (t : ℕ) (ht : t < 64) (r : Fin 512) (s : Fin 256) :
    Dc (k0_pay189 X7) X4 t (ix3 (0 : Fin 1) r s)
      = ((dprob A g (tileHead t) (tokQ (tileRow t) r) (tokK j s) - delta A g (tileHead t) (tokQ (tileRow t) r) : ℝ) : EReal) := by
  rw [Dc, Nat.min_eq_left (by omega)]
  pointwise [k0_pay10, k0_pay189]
  simp only [getT_at, B.doTok, B.v, ← EReal.coe_mul, coe_sum]
  refine congrArg _ ?_
  rw [Finset.sum_congr rfl fun d _ => mul_comm _ _, sum_aug]
  rfl

omit B in
theorem exp2_scaled (a : ℝ) : Ideal.exp2 ((a * (1 / Real.log 2) : ℝ) : EReal) = ((Real.exp a : ℝ) : EReal) := by
  have h : Real.log 2 ≠ 0 := (Real.log_pos (by norm_num)).ne'
  rw [Ideal.exp2_coe]
  refine congrArg _ ?_
  show (2 : ℝ) ^ (a * (1 / Real.log 2)) = _
  rw [Real.rpow_def_of_pos (by norm_num)]
  congr 1
  field_simp

theorem Pc_at (t : ℕ) (ht : t < 64) (r : Fin 512) (s : Fin 256) :
    Pc (k0_pay188 X2) X3 (t + 1) (ix3 (0 : Fin 1) r s)
      = ((prob A g (tileHead t) (tokQ (tileRow t) r) (tokK j s) : ℝ) : EReal) := by
  rw [Pc]
  pointwise [k0_pay12, k0_pay11, k0_pay3]
  rw [Sc_at B t ht, exp2_eq, exp2_scaled, prob_eq]

theorem Gc_at (t : ℕ) (ht : t < 64) (r : Fin 512) (s : Fin 256) :
    Gc (k0_pay188 X2) (k0_pay189 X7) X3 X4 (t + 1) (ix3 (0 : Fin 1) r s)
      = ((dscore A g (tileHead t) (tokQ (tileRow t) r) (tokK j s) : ℝ) : EReal) := by
  rw [Gc]
  pointwise [k0_pay13, k0_pay11, k0_pay3, k0_pay4]
  rw [Sc_at B t ht, Dc_at B t ht, exp2_eq, exp2_scaled, ← prob_eq, ← EReal.coe_mul]
  rfl

/-- A query tile's sums over one key tile. -/
def partQ (A : Operands) (g : Fin 2) (j : Fin 32) (e : Fin 4) (x : Fin 8192) (d : Fin 64) : ℝ :=
  ∑ s, A.k (tokK j s) g d * dscore A g e x (tokK j s)

omit B in
theorem k0_pay6_at (K : Vec Ideal S1x1x128x256 .bf16) (G : Vec Ideal S1x512x256 .bf16) (D : Vec Ideal S1x1x64x512 .f32)
    (k : Fin 64 → Fin 256 → ℝ) (γ : Fin 512 → Fin 256 → ℝ)
    (hK : ∀ d s, K (ix4 (0 : Fin 1) (0 : Fin 1) (⟨d.val, by omega⟩ : Fin 128) s) = ((k d s : ℝ) : EReal))
    (hG : ∀ r s, G (ix3 (0 : Fin 1) r s) = ((γ r s : ℝ) : EReal)) (d : Fin 64) (r : Fin 512) (δ : ℝ)
    (hD : D (ix4 (0 : Fin 1) (0 : Fin 1) d r) = ((δ : ℝ) : EReal)) :
    k0_pay6 (k0_pay190 K) G D (ix4 (0 : Fin 1) (0 : Fin 1) d r) = ((δ + ∑ s, k d s * γ r s : ℝ) : EReal) := by
  pointwise [k0_pay6, k0_pay5, k0_pay190, k0_pay188]
  simp only [hK, hG, hD, ← EReal.coe_mul, coe_sum, ← EReal.coe_add]

omit B in
theorem k0_pay7_at (a : FVec Ideal S64x256 .f32) (G : Vec Ideal S1x512x256 .bf16) (Q : Vec Ideal S1x1x64x512 .bf16)
    (q : Fin 64 → Fin 512 → ℝ) (γ : Fin 512 → Fin 256 → ℝ)
    (hQ : ∀ d r, Q (ix4 (0 : Fin 1) (0 : Fin 1) d r) = ((q d r : ℝ) : EReal))
    (hG : ∀ r s, G (ix3 (0 : Fin 1) r s) = ((γ r s : ℝ) : EReal)) (d : Fin 64) (s : Fin 256) (α : ℝ)
    (ha : a (ix2 d s) = ((α : ℝ) : EReal)) :
    k0_pay7 a G Q (ix2 d s) = ((α + ∑ r, q d r * γ r s : ℝ) : EReal) := by
  pointwise [k0_pay7, k0_pay5]
  simp only [hQ, hG, ha, ← EReal.coe_mul, coe_sum, ← EReal.coe_add]

omit B in
theorem k0_pay8_at (a : FVec Ideal S64x256 .f32) (G : Vec Ideal S1x512x256 .bf16) (Q : Vec Ideal S1x1x64x512 .bf16)
    (q : Fin 64 → Fin 512 → ℝ) (γ : Fin 512 → Fin 256 → ℝ)
    (hQ : ∀ d r, Q (ix4 (0 : Fin 1) (0 : Fin 1) d r) = ((q d r : ℝ) : EReal))
    (hG : ∀ r s, G (ix3 (0 : Fin 1) r s) = ((γ r s : ℝ) : EReal)) (d : Fin 64) (s : Fin 256) (α : ℝ)
    (ha : a (ix2 d s) = ((α : ℝ) : EReal)) :
    k0_pay8 a Q G (ix2 d s) = ((α + ∑ r, q d r * γ r s : ℝ) : EReal) := by
  pointwise [k0_pay8]
  simp only [hQ, hG, ha, ← EReal.coe_mul, coe_sum, ← EReal.coe_add]

omit B in
theorem zeroP_at (v4 : FVec Ideal S128x256 .bf16) (X3 : Vec Ideal S4x16x512x128 .bf16) (r : Fin 512) (s : Fin 256) :
    Pc v4 X3 0 (ix3 (0 : Fin 1) r s) = ((0 : ℝ) : EReal) := by
  rw [Pc]
  pointwise [k0_pay193]; rfl

omit B in
theorem zeroG_at (v4 v6 : FVec Ideal S128x256 .bf16) (X3 X4 : Vec Ideal S4x16x512x128 .bf16) (r : Fin 512) (s : Fin 256) :
    Gc v4 v6 X3 X4 0 (ix3 (0 : Fin 1) r s) = ((0 : ℝ) : EReal) := by
  rw [Gc]
  pointwise [k0_pay194]; rfl

omit B in
theorem zeroA_at (d : Fin 64) (s : Fin 256) : (k0_pay195 : FVec Ideal S64x256 .f32) (ix2 d s) = ((0 : ℝ) : EReal) := by
  pointwise [k0_pay195]; rfl

theorem key_at (d : Fin 64) (s : Fin 256) :
    X2 (ix4 (0 : Fin 1) (0 : Fin 1) (⟨d.val, by omega⟩ : Fin 128) s) = ((A.k (tokK j s) g d : ℝ) : EReal) := by
  rw [B.k, colReal, dif_pos d.isLt]

theorem Dq_at (D : Vec Ideal S4x16x64x512 .f32) (δ : Fin 4 → Fin 16 → Fin 64 → Fin 512 → ℝ)
    (hD : ∀ e i d r, D (ix4 e i d r) = ((δ e i d r : ℝ) : EReal)) (t : ℕ) (ht : t ≤ 65)
    (e : Fin 4) (i : Fin 16) (d : Fin 64) (r : Fin 512) :
    Dq (k0_pay188 X2) (k0_pay189 X7) (k0_pay190 X2) X3 X4 D t (ix4 e i d r)
      = ((δ e i d r + if e.val * 16 + i.val + 1 < t then partQ A g j e (tokQ i r) d else 0 : ℝ) : EReal) := by
  induction t generalizing e i d r with
  | zero => rw [Dq, hD, if_neg (by omega), add_zero]
  | succ t ih =>
    rw [Dq, putH_at _ _ (by omega)]
    split_ifs with c c' c'
    · obtain ⟨u, rfl⟩ : ∃ u, t = u + 1 := ⟨t - 1, by omega⟩
      have e1 : tileHead u = e := Fin.ext (by simp only [tileHead]; omega)
      have e2 : tileRow u = i := Fin.ext (by simp only [tileRow]; omega)
      rw [k0_pay6_at X2 _ _ _ _ (key_at B) (Gc_at B u (by omega)) d r (δ e i d r)]
      · rw [e1, e2]; rfl
      · rw [getH_at, ih (by omega), show u + 1 - 1 = u by omega, e1, e2, if_neg (by omega), add_zero]
    · obtain rfl : t = 0 := by omega
      have e1 : tileHead (0 - 1) = e := Fin.ext (by simp only [tileHead]; omega)
      have e2 : tileRow (0 - 1) = i := Fin.ext (by simp only [tileRow]; omega)
      rw [k0_pay6_at X2 _ _ _ (fun _ _ => 0) (key_at B) (zeroG_at _ _ _ _) d r (δ e i d r)]
      · simp
      · rw [getH_at, ih (by omega), e1, e2, if_neg (by omega), add_zero]
    · rw [ih (by omega), if_pos (by omega)]
    · rw [ih (by omega), if_neg (by omega)]

theorem Dk_at (t : ℕ) (ht : t ≤ 64) (d : Fin 64) (s : Fin 256) :
    Dk (k0_pay188 X2) (k0_pay189 X7) X3 X4 X5 (t + 1) (ix2 d s)
      = ((∑ u ∈ Finset.range t, ∑ r, A.q (tokQ (tileRow u) r) (head g (tileHead u)) d * (1 / 8 * (1 / Real.log 2))
          * dscore A g (tileHead u) (tokQ (tileRow u) r) (tokK j s) : ℝ) : EReal) := by
  induction t with
  | zero =>
    rw [Dk, show Dk (k0_pay188 X2) (k0_pay189 X7) X3 X4 X5 0 = k0_pay195 from rfl, k0_pay7_at _ _ _ (fun d r => A.q (tokQ (tileRow 0) r) (head g (tileHead 0)) d * (1 / 8 * (1 / Real.log 2)))
      (fun _ _ => 0) (fun d r => by rw [getH_at, B.qT]) (zeroG_at _ _ _ _) d s 0 (zeroA_at d s)]
    simp
  | succ t ih =>
    rw [Dk, k0_pay7_at _ _ _ (fun d r => A.q (tokQ (tileRow t) r) (head g (tileHead t)) d * (1 / 8 * (1 / Real.log 2)))
      _ (fun d r => by rw [getH_at, B.qT, Nat.add_sub_cancel]) (Gc_at B t (by omega)) d s _ (ih (by omega)), Finset.sum_range_succ]

theorem Dv_at (t : ℕ) (ht : t ≤ 64) (d : Fin 64) (s : Fin 256) :
    Dv (k0_pay188 X2) X3 X6 (t + 1) (ix2 d s)
      = ((∑ u ∈ Finset.range t, ∑ r, A.ct (tokQ (tileRow u) r) (col (head g (tileHead u)) d)
          * prob A g (tileHead u) (tokQ (tileRow u) r) (tokK j s) : ℝ) : EReal) := by
  induction t with
  | zero =>
    rw [Dv, show Dv (k0_pay188 X2) X3 X6 0 = k0_pay195 from rfl, k0_pay8_at _ _ _ (fun d r => A.ct (tokQ (tileRow 0) r) (col (head g (tileHead 0)) d))
      (fun _ _ => 0) (fun d r => by rw [getH_at, B.doT]) (zeroP_at _ _) d s 0 (zeroA_at d s)]
    simp
  | succ t ih =>
    rw [Dv, k0_pay8_at _ _ _ (fun d r => A.ct (tokQ (tileRow t) r) (col (head g (tileHead t)) d))
      _ (fun d r => by rw [getH_at, B.doT, Nat.add_sub_cancel]) (Pc_at B t (by omega)) d s _ (ih (by omega)), Finset.sum_range_succ]

omit B in
/-- A sum over the sixty-four tiles and their rows is a sum over the heads of a group and the tokens. -/
theorem sum_tiles (f : Fin 4 → Fin 8192 → ℝ) :
    ∑ u ∈ Finset.range 64, ∑ r, f (tileHead u) (tokQ (tileRow u) r) = ∑ e, ∑ x, f e x := by
  rw [Finset.sum_range]
  refine (Finset.sum_congr rfl fun u _ => ?_).trans ((Fin.sum_divmod_fin (N := 64) (A := 4) 16 (fun e i => ∑ r, f e (tokQ i r))).trans
    (Finset.sum_congr rfl fun e _ => Fin.sum_mul_add_fin 16 512 (f e)))
  rw [show tileHead u.val = (⟨u.val / 16, by omega⟩ : Fin 4) from Fin.ext (by simp only [tileHead]; omega)]
  rfl

theorem outQ_at (i : grid0.Coords) (D : Vec Ideal S4x16x64x512 .f32) (δ : Fin 4 → Fin 16 → Fin 64 → Fin 512 → ℝ)
    (hD : ∀ e i' d r, start i D (ix4 e i' d r) = ((δ e i' d r : ℝ) : EReal)) (e : Fin 4) (i' : Fin 16) (d : Fin 64) (r : Fin 512) :
    outQ i X2 X7 X3 X4 D (ix4 e i' d r) = ((δ e i' d r + partQ A g j e (tokQ i' r) d : ℝ) : EReal) := by
  rw [outQ, Dq_at B _ δ hD 65 le_rfl, if_pos (by omega)]

theorem outK_at (d : Fin 64) (s : Fin 256) :
    outK X2 X7 X3 X4 X5 (ix4 (0 : Fin 1) (0 : Fin 1) d s) = ((gradK A g (tokK j s) d : ℝ) : EReal) := by
  have h : Real.log 2 ≠ 0 := (Real.log_pos (by norm_num)).ne'
  have hn : (Named.named κ "ln_2" 0x3F317218#32 : Ideal .f32) = ((Real.log 2 : ℝ) : EReal) :=
    IdealRules.named_const.ideal_named_scalar _ _ _ _ rfl
  rw [outK]
  pointwise [k0_pay1]
  rw [hn, Dk_at B 64 le_rfl, ← EReal.coe_mul]
  refine congrArg _ ?_
  rw [sum_tiles fun e x => A.q x (head g e) d * (1 / 8 * (1 / Real.log 2)) * dscore A g e x (tokK j s), gradK, Finset.sum_mul]
  refine Finset.sum_congr rfl fun e _ => ?_
  rw [Finset.sum_mul]
  refine Finset.sum_congr rfl fun x _ => ?_
  field_simp

theorem outV_at (d : Fin 64) (s : Fin 256) :
    outV X2 X3 X6 (ix4 (0 : Fin 1) (0 : Fin 1) d s) = ((gradV A g (tokK j s) d : ℝ) : EReal) := by
  rw [outV]
  pointwise
  rw [Dv_at B 64 le_rfl, sum_tiles fun e x => A.ct x (col (head g e) d) * prob A g e x (tokK j s)]
  rfl

end Cert.KernelIdeal.Hand

end
-- ==== Proof.Value.lean ====
/- The arrays that the attention backward kernel leaves, on real operands. -/
module

public import proofs.«01_k».proof.Proof.TileVal
public import proofs.«01_k».proof.Proof.Frame

@[expose] public section

set_option maxRecDepth 16384

noncomputable section

namespace Cert.KernelIdeal.Hand

open Idealize.ShloMosaic Idealize.ShloMosaic.TcCoe Cert.KernelIdeal Cert.KernelIdeal.Gen Cert.Attention Cert.ReferenceIdeal.Hand

theorem group_head (g : Fin 2) (e : Fin 4) : group (head g e) = g := Fin.ext (by simp only [group, head]; omega)
theorem member_head (g : Fin 2) (e : Fin 4) : member (head g e) = e := Fin.ext (by simp only [member, head]; omega)

/-- The windows' block indices at each grid point. -/
theorem windows_at : ∀ t : Fin cfg0.N,
    win0_0.index t = ![t.val / 32, t.val % 32, 0, 0] ∧ win0_1.index t = ![t.val / 32, 0, 0, 0]
    ∧ win0_2.index t = ![t.val / 32, 0, 0, 0] ∧ win0_3.index t = ![t.val / 32, 0, 0, 0]
    ∧ win0_4.index t = ![t.val / 32, 0, 0, 0] ∧ win0_5.index t = ![t.val / 32, t.val % 32, 0, 0]
    ∧ win0_6.index t = ![t.val / 32, 0, 0, 0] ∧ win0_7.index t = ![t.val / 32, t.val % 32, 0, 0]
    ∧ win0_8.index t = ![t.val / 32, t.val % 32, 0, 0] := by decide +kernel

/-- The key-value head of a grid point. -/
def pointGroup (n : ℕ) : Fin 2 := ⟨n / 32 % 2, Nat.mod_lt _ (by decide)⟩
/-- The key tile of a grid point. -/
def pointTile (n : ℕ) : Fin 32 := ⟨n % 32, Nat.mod_lt _ (by decide)⟩

variable (m : (ℓ : Loc nD τ sig) → Buf (Elt Ideal) ℓ) (c : Dev nD)

theorem point_lt (t : Fin cfg0.N) : t.val < 64 := lt_of_lt_of_eq t.isLt N_0

theorem kT_at (t : Fin cfg0.N) (d : Fin 128) (s : Fin 256) :
    kT m c t (ix4 (0 : Fin 1) (0 : Fin 1) d s) = V m c main_v79 (ix4 (pointGroup t.val) (pointTile t.val) d s) := by
  have ht := point_lt t
  unfold kT pointGroup pointTile
  obtain ⟨h0, h1, h2, h3, h4, h5, h6, h7, h8⟩ := windows_at t
  blk_ext [iblk, h0]

theorem qTok_at (t : Fin cfg0.N) (e : Fin 4) (i : Fin 16) (r : Fin 512) (d : Fin 128) :
    qTok m c t (ix4 e i r d) = V m c main_v51 (ix4 (head (pointGroup t.val) e) i r d) := by
  have ht := point_lt t
  unfold qTok pointGroup head
  obtain ⟨h0, h1, h2, h3, h4, h5, h6, h7, h8⟩ := windows_at t
  blk_ext [iblk, h1]

theorem doTok_at (t : Fin cfg0.N) (e : Fin 4) (i : Fin 16) (r : Fin 512) (d : Fin 128) :
    doTok m c t (ix4 e i r d) = V m c main_v64 (ix4 (head (pointGroup t.val) e) i r d) := by
  have ht := point_lt t
  unfold doTok pointGroup head
  obtain ⟨h0, h1, h2, h3, h4, h5, h6, h7, h8⟩ := windows_at t
  blk_ext [iblk, h2]

theorem qT_at (t : Fin cfg0.N) (e : Fin 4) (i : Fin 16) (d : Fin 64) (r : Fin 512) :
    qT m c t (ix4 e i d r) = V m c main_v65 (ix4 (head (pointGroup t.val) e) i d r) := by
  have ht := point_lt t
  unfold qT pointGroup head
  obtain ⟨h0, h1, h2, h3, h4, h5, h6, h7, h8⟩ := windows_at t
  blk_ext [iblk, h3]

theorem doT_at (t : Fin cfg0.N) (e : Fin 4) (i : Fin 16) (d : Fin 64) (r : Fin 512) :
    doT m c t (ix4 e i d r) = V m c main_v66 (ix4 (head (pointGroup t.val) e) i d r) := by
  have ht := point_lt t
  unfold doT pointGroup head
  obtain ⟨h0, h1, h2, h3, h4, h5, h6, h7, h8⟩ := windows_at t
  blk_ext [iblk, h4]

theorem vT_at (t : Fin cfg0.N) (d : Fin 128) (s : Fin 256) :
    vT m c t (ix4 (0 : Fin 1) (0 : Fin 1) d s) = V m c main_v92 (ix4 (pointGroup t.val) (pointTile t.val) d s) := by
  have ht := point_lt t
  unfold vT pointGroup pointTile
  obtain ⟨h0, h1, h2, h3, h4, h5, h6, h7, h8⟩ := windows_at t
  blk_ext [iblk, h5]

variable {A : Operands} (H : Holds A (argQ m c) (argK m c) (argV m c) (argCt m c))
include H

theorem blocks (t : Fin cfg0.N) :
    Blocks A (pointGroup t.val) (pointTile t.val) (kT m c t) (vT m c t) (qTok m c t) (doTok m c t) (qT m c t) (doT m c t) where
  k d s := by rw [kT_at, V_kT, columnsOf_at _ _ _ _ _ (fun d => H.k _ _ d)]
  v d s := by rw [vT_at, V_vT, columnsOf_at _ _ _ _ _ (fun d => H.v _ _ d)]
  qTok e i r d := by
    rw [qTok_at, V_qTok, rowsOf_at _ _ _ _ _ _ _ (fun d => queriesOf_at H _ i r d) (lseOf_at H _ i r), group_head, member_head]
  doTok e i r d := by
    rw [doTok_at, V_doTok, rowsOf_at _ _ _ _ _ _ _ (fun d => cotangentsOf_at H _ i r d) (deltaOf_at H _ i r), group_head, member_head]
  qT e i d r := by
    rw [qT_at, V_qT]
    exact queriesOf_at H _ i r d
  doT e i d r := by
    rw [doT_at, V_doT]
    exact cotangentsOf_at H _ i r d

theorem sumQ_at (n : ℕ) (hn : n < 64) (e : Fin 4) (i : Fin 16) (d : Fin 64) (r : Fin 512) :
    sumQ m c (n + 1) (ix4 e i d r)
      = ((∑ u ∈ Finset.range (n % 32 + 1), partQ A (pointGroup n) (pointTile u) e (tokQ i r) d : ℝ) : EReal) := by
  have hp : (pt n).val = n := Nat.mod_eq_of_lt hn
  have B := blocks m c H (pt n)
  rw [hp] at B
  induction n generalizing e i d r with
  | zero =>
    rw [sumQ, outQ_at B _ _ (fun _ _ _ _ => 0)]
    · simp [pointTile]
    · intro e i d r
      rw [start, if_pos (by rw [coord_one, hp])]
      pointwise [k0_pay187]
      rfl
  | succ n ih =>
    by_cases h : (n + 1) % 32 = 0
    · rw [sumQ, outQ_at B _ _ (fun _ _ _ _ => 0)]
      · rw [h, Finset.sum_range_one, zero_add, show pointTile (n + 1) = pointTile 0 from Fin.ext h]
      · intro e i d r
        rw [start, if_pos (by rw [coord_one, hp, h])]
        pointwise [k0_pay187]
        rfl
    · have hq : (pt n).val = n := Nat.mod_eq_of_lt (by omega)
      have Bq := blocks m c H (pt n)
      rw [hq] at Bq
      have hg : pointGroup (n + 1) = pointGroup n := Fin.ext (by simp only [pointGroup]; omega)
      rw [sumQ, outQ_at B _ _ (fun e i d r => ∑ u ∈ Finset.range (n % 32 + 1), partQ A (pointGroup n) (pointTile u) e (tokQ i r) d)]
      · rw [show (n + 1) % 32 + 1 = n % 32 + 1 + 1 by omega, Finset.sum_range_succ _ (n % 32 + 1), hg,
          show pointTile (n + 1) = pointTile (n % 32 + 1) from Fin.ext (by simp only [pointTile]; omega)]
      · intro e i d r
        rw [start, if_neg (by rw [coord_one, hp]; exact h)]
        exact ih (by omega) e i d r hq Bq

omit H in
theorem sum_keys (f : Fin 8192 → ℝ) : ∑ u ∈ Finset.range 32, ∑ s, f (tokK (pointTile u) s) = ∑ y, f y := by
  rw [Finset.sum_range]
  refine (Finset.sum_congr rfl fun u _ => ?_).trans (Fin.sum_mul_add_fin 32 256 f)
  rw [show pointTile u.val = u from Fin.ext (Nat.mod_eq_of_lt u.isLt)]
  rfl

/-- The query gradients as an array. -/
def gradsQ (A : Operands) : Vec Ideal S8x16x64x512 .f32 :=
  fun y => ((gradQ A (group (y 0)) (member (y 0)) (tokQ (y 1) (y 3)) (y 2) : ℝ) : EReal)
/-- The key gradients as an array. -/
def gradsK (A : Operands) : Vec Ideal S2x32x64x256 .f32 := fun y => ((gradK A (y 0) (tokK (y 1) (y 3)) (y 2) : ℝ) : EReal)
/-- The value gradients as an array. -/
def gradsV (A : Operands) : Vec Ideal S2x32x64x256 .f32 := fun y => ((gradV A (y 0) (tokK (y 1) (y 3)) (y 2) : ℝ) : EReal)

theorem arr_Q : (dats m 0 c).arrAt 6 cfg0.N = gradsQ A := by
  refine (dats m 0 c).arrAt_eq_of_covers 6 _ (by decide +kernel) fun t hf y => ?_
  blk_simp
  rw [after_6]
  have ht := point_lt t
  have hl : t.val % 32 = 31 := (by decide +kernel : ∀ t : Fin cfg0.N, (cfg0.win 6).flush t = true → t.val % 32 = 31) t hf
  idx_vars y
  have he : (win0_6.blk t).view.emb (ix4 y0 y1 y2 y3) = ix4 (head (pointGroup t.val) y0) y1 y2 y3 := by
    obtain ⟨h0, h1, h2, h3, h4, h5, h6, h7, h8⟩ := windows_at t
    unfold head pointGroup
    blk_ext [h6]
  refine Eq.trans ?_ (congrArg (gradsQ A) he).symm
  refine (sumQ_at m c H t.val ht y0 y1 y2 y3).trans (congrArg Real.toEReal ?_)
  rw [hl]
  refine (sum_keys fun y => A.k y (pointGroup t.val) y2 * dscore A (pointGroup t.val) y0 (tokQ y1 y3) y).trans ?_
  show _ = gradQ A (group (head (pointGroup t.val) y0)) (member (head (pointGroup t.val) y0)) (tokQ y1 y3) y2
  rw [group_head, member_head]
  rfl

theorem arr_K : (dats m 0 c).arrAt 7 cfg0.N = gradsK A := by
  refine (dats m 0 c).arrAt_eq_of_covers 7 _ (by decide +kernel) fun t hf y => ?_
  blk_simp
  rw [after_7]
  have ht := point_lt t
  idx_vars y
  have he : (win0_7.blk t).view.emb (ix4 y0 y1 y2 y3) = ix4 (pointGroup t.val) (pointTile t.val) y2 y3 := by
    obtain ⟨h0, h1, h2, h3, h4, h5, h6, h7, h8⟩ := windows_at t
    unfold pointGroup pointTile
    blk_ext [h7]
  refine Eq.trans ?_ (congrArg (gradsK A) he).symm
  rw [Subsingleton.elim y0 0, Subsingleton.elim y1 0]
  exact outK_at (blocks m c H t) y2 y3

theorem arr_V : (dats m 0 c).arrAt 8 cfg0.N = gradsV A := by
  refine (dats m 0 c).arrAt_eq_of_covers 8 _ (by decide +kernel) fun t hf y => ?_
  blk_simp
  rw [after_8]
  have ht := point_lt t
  idx_vars y
  have he : (win0_8.blk t).view.emb (ix4 y0 y1 y2 y3) = ix4 (pointGroup t.val) (pointTile t.val) y2 y3 := by
    obtain ⟨h0, h1, h2, h3, h4, h5, h6, h7, h8⟩ := windows_at t
    unfold pointGroup pointTile
    blk_ext [h8]
  refine Eq.trans ?_ (congrArg (gradsV A) he).symm
  rw [Subsingleton.elim y0 0, Subsingleton.elim y1 0]
  exact outV_at (blocks m c H t) y2 y3

end Cert.KernelIdeal.Hand

end
-- ==== Proof.Algebraic.lean ====
/- The attention backward kernel and the reference leave the same gradients. -/
module

public import proofs.«01_k».proof.Defs
public import proofs.«01_k».proof.Proof.Value
public import proofs.«01_k».proof.Proof.Frames

@[expose] public section

set_option maxRecDepth 16384

noncomputable section

namespace Cert.Proof

open Idealize.ShloMosaic Idealize.ShloMosaic.TcCoe Idealize.SL.Sem Cert.Attention Cert.ReferenceIdeal.Hand Cert.KernelIdeal.Hand

/-- The shapes of the precondition fit. -/
theorem finite_facts : Cert.Pre_finite.Facts := ⟨by decide, by decide, by decide⟩

/-- An array whose entries all compare below infinity in absolute value has real entries. -/
theorem real_of_finite {s : Shape} (x b : FVec Ideal s .f32) (hb : ∀ i, b i = Ideal.ofBits .f32 0x7F800000#32)
    (h : cmpf .olt (Host.absf x) b = fun _ => 1#1) (i : s.Idx) : x i = ((EReal.toReal (x i) : ℝ) : EReal) := by
  have ht : Ideal.ofBits .f32 0x7F800000#32 = ⊤ := by simp [Ideal.ofBits, Ideal.ieee]
  have hi : Ideal.cmp .olt (max (x i : EReal) (-(x i : EReal))) (b i) = 1#1 := congrFun h i
  rw [hb i, ht] at hi
  have hlt : max (x i : EReal) (-(x i : EReal)) < ⊤ := by
    by_contra hn
    simp [Ideal.cmp, hn] at hi
  rw [max_lt_iff] at hlt
  refine (EReal.coe_toReal hlt.1.ne fun hbot => ?_).symm
  rw [hbot] at hlt
  exact absurd hlt.2 (by simp)

/-- The real operands that four arrays hold. -/
def operands (x0 : FVec Ideal Cert.Pre_finite.S1x8192x8x64 .f32) (x1 x2 : FVec Ideal Cert.Pre_finite.S1x8192x2x64 .f32)
    (x3 : FVec Ideal Cert.Pre_finite.S1x8192x512 .f32) : Operands where
  q x h d := EReal.toReal (x0 (ix4 (0 : Fin 1) x h d))
  k y g d := EReal.toReal (x1 (ix4 (0 : Fin 1) y g d))
  v y g d := EReal.toReal (x2 (ix4 (0 : Fin 1) y g d))
  ct x j := EReal.toReal (x3 (ix3 (0 : Fin 1) x j))

theorem holds_of_finite [Cert.Pre_finite.Facts] {x0 : FVec Ideal Cert.Pre_finite.S1x8192x8x64 .f32}
    {x1 x2 : FVec Ideal Cert.Pre_finite.S1x8192x2x64 .f32} {x3 : FVec Ideal Cert.Pre_finite.S1x8192x512 .f32}
    (h : (Cert.Pre_finite.fn (F := Ideal) x0 x1 x2 x3).1 = (fun _ => 1#1)
      ∧ (Cert.Pre_finite.fn (F := Ideal) x0 x1 x2 x3).2.1 = (fun _ => 1#1)
      ∧ (Cert.Pre_finite.fn (F := Ideal) x0 x1 x2 x3).2.2.1 = (fun _ => 1#1)
      ∧ (Cert.Pre_finite.fn (F := Ideal) x0 x1 x2 x3).2.2.2 = (fun _ => 1#1)) :
    Holds (operands x0 x1 x2 x3) x0 x1 x2 x3 where
  q _ _ _ := real_of_finite x0 _ (fun _ => rfl) h.1 _
  k _ _ _ := real_of_finite x1 _ (fun _ => rfl) h.2.1 _
  v _ _ _ := real_of_finite x2 _ (fun _ => rfl) h.2.2.1 _
  ct _ _ := real_of_finite x3 _ (fun _ => rfl) h.2.2.2 _

section reference
open Cert.ReferenceIdeal.Read
variable {A : Operands} {x0 : FVec Ideal Cert.Pre_finite.S1x8192x8x64 .f32}
  {x1 x2 : FVec Ideal Cert.Pre_finite.S1x8192x2x64 .f32} {x3 : FVec Ideal Cert.Pre_finite.S1x8192x512 .f32} (H : Holds A x0 x1 x2 x3)
include H

theorem reference_Q : val_main_v65 (F := Ideal) x0 x1 x2 x3 = gradsQ A := by
  funext y
  rw [eq_ix4 y]
  exact v65_at H _ _ _ _

theorem reference_K : val_main_v67 (F := Ideal) x0 x1 x2 x3 = gradsK A := by
  funext y
  rw [eq_ix4 y]
  exact v67_at H _ _ _ _

theorem reference_V : val_main_v69 (F := Ideal) x0 x1 x3 = gradsV A := by
  funext y
  rw [eq_ix4 y]
  exact v69_at H _ _ _ _

end reference

theorem algebraic : Cert.algebraic_KernelIdeal_ReferenceIdeal_pre_finite (hPre_finite := finite_facts) := by
  haveI := finite_facts
  intro m g m' g' hP hm
  have H : ∀ c, Holds (operands (argQ m c) (argK m c) (argV m c) (argCt m c)) (argQ m c) (argK m c) (argV m c) (argCt m c) :=
    fun c => holds_of_finite (hP c)
  refine ⟨fun c => gradsQ (operands (argQ m c) (argK m c) (argV m c) (argCt m c)),
    fun c => gradsK (operands (argQ m c) (argK m c) (argV m c) (argCt m c)),
    fun c => gradsV (operands (argQ m c) (argK m c) (argV m c) (argCt m c)), ?_, ?_⟩
  · exact (θ_run Cert.KernelIdeal.defs _ _).mono
      (fun r h c => ⟨((h.1 c).1 6).trans (arr_Q m c (H c)), ((h.1 c).1 7).trans (arr_K m c (H c)),
        ((h.1 c).1 8).trans (arr_V m c (H c)), h.2.1 c⟩)
      (θ_run_and (Cert.KernelIdeal.Hand.run_main m g) (Cert.KernelIdeal.Hand.frame m g))
  · refine (θ_run Cert.ReferenceIdeal.defs _ _).mono (fun r h c => ?_) (Cert.ReferenceIdeal.Value.run (F := Ideal) m' g')
    obtain ⟨h0, h1, h2, h3⟩ := h c
    obtain ⟨e0, e1, e2, e3⟩ := hm c
    refine ⟨h0.trans ?_, h1.trans ?_, h2.trans ?_, h3⟩
    · rw [Cert.ReferenceIdeal.Read.val_main_v65_eq, e0, e1, e2, e3]
      exact reference_Q (H c)
    · rw [Cert.ReferenceIdeal.Read.val_main_v67_eq, e0, e1, e2, e3]
      exact reference_K (H c)
    · rw [Cert.ReferenceIdeal.Read.val_main_v69_eq, e0, e1, e3]
      exact reference_V (H c)

end Cert.Proof
-- ==== Proof.Rows.lean ====
/- Sums over the 8192 tokens, four blocks of 2048 at a time. -/
module

public import Idealize.ShloMosaic.PureOps
public import Idealize.ShloMosaic.Lib.ValueIdx
public import Idealize.ShloMosaic.Lib.Pipeline.ValueKit
public import Idealize.ShloMosaic.Lib.Claim

@[expose] public section

noncomputable section

namespace Cert.Rows

open Idealize.ShloMosaic

/-- Token `s` of the block of 2048 with number `u`. -/
def token (u : ℕ) (s : Fin 2048) : Fin 8192 := ⟨u % 4 * 2048 + s.val, by have := s.isLt; omega⟩
/-- Column `a` of the half with number `n`. -/
def column (n : ℕ) (a : Fin 1408) : Fin 2816 := ⟨n % 2 * 1408 + a.val, by have := a.isLt; omega⟩

/-- The sum over the blocks is the sum over the tokens. -/
theorem sum_tokens {M : Type} [AddCommMonoid M] (f : Fin 8192 → M) : ∑ u ∈ Finset.range 4, ∑ s, f (token u s) = ∑ x, f x := by
  rw [Finset.sum_range]
  refine (Finset.sum_congr rfl fun u _ => ?_).trans (Fin.sum_mul_add_fin 4 2048 f)
  refine Finset.sum_congr rfl fun s _ => congrArg f (Fin.ext ?_)
  show u.val % 4 * 2048 + s.val = _
  rw [Nat.mod_eq_of_lt u.isLt]

end Cert.Rows
-- ==== Proof.Activation.lean ====
/- The gradients of the activation's two factors. -/
module

public import proofs.«01_k».proof.Proof.Rows
public import proofs.«01_k».proof.Proof.Consts
public import proofs.«01_k».proof.Defs
public import proofs.«01_k».proof.Proof.Algebraic
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import Idealize.ShloMosaic.Lib.StableHlo.ReadAt
public import Idealize.ShloMosaic.Lib.Claim
public import Idealize.ShloMosaic.Lib.Quiescent

@[expose] public section

set_option maxRecDepth 16384

noncomputable section

namespace Cert.Kernel2Ideal.Hand

open Idealize.ShloMosaic Idealize.ShloMosaic.TcCoe Cert.Kernel2Ideal Cert.Kernel2Ideal.Gen

/-- One half. -/
abbrev half : EReal := Ideal.ofBits .f32 0x3F000000#32

/-- The gradient of the product of the two factors at a token and a column. -/
def dprod (ct : Fin 1024 → EReal) (w : Fin 1024 → EReal) : EReal := ∑ d, half * ct d * w d

section block
variable (x0 : Vec Ideal S256x1024 .f32) (x1 : Vec Ideal S2816x1024 .bf16) (x2 x3 : Vec Ideal S256x2816 .bf16) (r : Fin 256) (q : Fin 2816)

/-- The first output's block at a token and a column … -/
theorem out4_at : out0_4 x0 x1 x2 x3 (ix2 r q) = dprod (fun d => x0 (ix2 r d)) (fun d => x1 (ix2 q d)) * x3 (ix2 r q) := by
  unfold_out out0_4
  canon_tiles x h
  all_goals
    idx_vars x
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
    rw [show r = x0 from Fin.ext h0]
    first
      | rw [show q = ⟨x1.val, by omega⟩ from Fin.ext h1]
      | rw [show q = ⟨_, h1 ▸ q.isLt⟩ from Fin.ext h1]
    rfl

/-- … and the second's. -/
theorem out5_at : out0_5 x0 x1 x2 x3 (ix2 r q) = dprod (fun d => x0 (ix2 r d)) (fun d => x1 (ix2 q d)) * x2 (ix2 r q) := by
  unfold_out out0_5
  canon_tiles x h
  all_goals
    idx_vars x
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
    rw [show r = x0 from Fin.ext h0]
    first
      | rw [show q = ⟨x1.val, by omega⟩ from Fin.ext h1]
      | rw [show q = ⟨_, h1 ▸ q.isLt⟩ from Fin.ext h1]
    rfl

end block

/-- The logistic function. -/
def sigma (a : EReal) : EReal := Ideal.div 1 (1 + Ideal.exp (-a))

variable (m : (ℓ : Loc nD τ sig) → Buf (Elt Ideal) ℓ) (c : Dev nD)

/-- The gate's input to the activation. -/
abbrev argA : Vec Ideal S8192x2816 .f32 := m ((c.tc : Thread nD τ).loc main_arg0)
/-- The up projection. -/
abbrev argB : Vec Ideal S8192x2816 .f32 := m ((c.tc : Thread nD τ).loc main_arg1)
/-- The down projection's weight. -/
abbrev argW : Vec Ideal S2816x1024 .f32 := m ((c.tc : Thread nD τ).loc main_arg2)
/-- The cotangent of the layer's output. -/
abbrev argC : Vec Ideal S8192x1024 .f32 := m ((c.tc : Thread nD τ).loc main_arg3)

theorem V_gate (y : S8192x2816.Idx) : (V m c main_v12 : Vec Ideal S8192x2816 .bf16) y
    = argB m c y * (sigma (argA m c y) + argA m c y * sigma (argA m c y) * (1 - sigma (argA m c y))) := by
  unfold V
  after_reads_simp
  pointwise []
  rfl

theorem V_silu (y : S8192x2816.Idx) : (V m c main_v14 : Vec Ideal S8192x2816 .bf16) y = argA m c y * sigma (argA m c y) := by
  unfold V
  after_reads_simp
  pointwise []
  rfl

theorem V_weight : (V m c main_v13 : Vec Ideal S2816x1024 .bf16) = argW m c := by
  unfold V
  after_reads_simp
  rfl

theorem V_cotangent : (V m c main_arg3 : Vec Ideal S8192x1024 .f32) = argC m c := by
  unfold V
  after_reads_simp

/-- The windows' block indices at each grid point. -/
theorem windows_at : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] := by decide +kernel

/-- Row `r` of the block of tokens with number `n`. -/
def row (n : ℕ) (r : Fin 256) : Fin 8192 := ⟨n % 32 * 256 + r.val, by have := r.isLt; omega⟩

section point
variable (t : Fin cfg0.N) (r : Fin 256) (q : Fin 2816) (d : Fin 1024)

theorem cotangent_at : iblk m c 0 t (ix2 r d) = argC m c (ix2 (row t.val r) d) := by
  have ht : t.val < 32 := lt_of_lt_of_eq t.isLt N_0
  rw [← V_cotangent]
  unfold row
  obtain ⟨h0, h1, h2, h3, h4, h5⟩ := windows_at t
  blk_ext [iblk, h0]

theorem weight_at : iblk m c 1 t (ix2 q d) = argW m c (ix2 q d) := by
  have ht : t.val < 32 := lt_of_lt_of_eq t.isLt N_0
  rw [← V_weight]
  obtain ⟨h0, h1, h2, h3, h4, h5⟩ := windows_at t
  blk_ext [iblk, h1]

theorem silu_at : iblk m c 2 t (ix2 r q) = (V m c main_v14 : Vec Ideal S8192x2816 .bf16) (ix2 (row t.val r) q) := by
  have ht : t.val < 32 := lt_of_lt_of_eq t.isLt N_0
  unfold row
  obtain ⟨h0, h1, h2, h3, h4, h5⟩ := windows_at t
  blk_ext [iblk, h2]

theorem gate_at : iblk m c 3 t (ix2 r q) = (V m c main_v12 : Vec Ideal S8192x2816 .bf16) (ix2 (row t.val r) q) := by
  have ht : t.val < 32 := lt_of_lt_of_eq t.isLt N_0
  unfold row
  obtain ⟨h0, h1, h2, h3, h4, h5⟩ := windows_at t
  blk_ext [iblk, h3]

end point

/-- The gradient of the product at an index. -/
def product (w : Vec Ideal S2816x1024 .f32) (ct : Vec Ideal S8192x1024 .f32) (y : S8192x2816.Idx) : EReal :=
  dprod (fun d => ct (ix2 (y 0) d)) (fun d => w (ix2 (y 1) d))

/-- What the kernel leaves as the first gradient. -/
def gradA (a b : Vec Ideal S8192x2816 .f32) (w : Vec Ideal S2816x1024 .f32) (ct : Vec Ideal S8192x1024 .f32) : Vec Ideal S8192x2816 .bf16 :=
  fun y => product w ct y * (b y * (sigma (a y) + a y * sigma (a y) * (1 - sigma (a y))))

/-- What the kernel leaves as the second gradient. -/
def gradB (a : Vec Ideal S8192x2816 .f32) (w : Vec Ideal S2816x1024 .f32) (ct : Vec Ideal S8192x1024 .f32) : Vec Ideal S8192x2816 .bf16 :=
  fun y => product w ct y * (a y * sigma (a y))

theorem arr_A : (dats m 0 c).arrAt 4 cfg0.N = gradA (argA m c) (argB m c) (argW m c) (argC m c) := by
  refine (dats m 0 c).arrAt_eq_of_covers 4 _ (by decide +kernel) fun t hf y => ?_
  blk_simp
  rw [after0_4]
  have ht : t.val < 32 := lt_of_lt_of_eq t.isLt N_0
  idx_vars y
  have he : (win0_4.blk t).view.emb (ix2 y0 y1) = ix2 (row t.val y0) y1 := by
    obtain ⟨h0, h1, h2, h3, h4, h5⟩ := windows_at t
    unfold row
    blk_ext [h4]
  refine Eq.trans ?_ (congrArg (gradA (argA m c) (argB m c) (argW m c) (argC m c)) he).symm
  refine (out4_at _ _ _ _ _ _).trans ?_
  simp only [cotangent_at, weight_at, gate_at]
  exact congrArg (_ * ·) (V_gate m c _)

theorem arr_B : (dats m 0 c).arrAt 5 cfg0.N = gradB (argA m c) (argW m c) (argC m c) := by
  refine (dats m 0 c).arrAt_eq_of_covers 5 _ (by decide +kernel) fun t hf y => ?_
  blk_simp
  rw [after0_5]
  have ht : t.val < 32 := lt_of_lt_of_eq t.isLt N_0
  idx_vars y
  have he : (win0_5.blk t).view.emb (ix2 y0 y1) = ix2 (row t.val y0) y1 := by
    obtain ⟨h0, h1, h2, h3, h4, h5⟩ := windows_at t
    unfold row
    blk_ext [h5]
  refine Eq.trans ?_ (congrArg (gradB (argA m c) (argW m c) (argC m c)) he).symm
  refine (out5_at _ _ _ _ _ _).trans ?_
  simp only [cotangent_at, weight_at, silu_at]
  exact congrArg (_ * ·) (V_silu m c _)

open Cert.Reference2Ideal.Read in
theorem reference_A (a b : Vec Ideal S8192x2816 .f32) (w : Vec Ideal S2816x1024 .f32) (ct : Vec Ideal S8192x1024 .f32) (y : S8192x2816.Idx) :
    val_main_v11 (F := Ideal) a b w ct y
      = product w ct y * b y * sigma (a y) + a y * (product w ct y * b y) * (sigma (a y) * (1 - sigma (a y))) := by
  idx_vars y
  pointwise [val_main_call0_v0, val_main_call0_v1, val_main_call0_cst, val_main_call0_v2, val_main_call0_v3, val_main_call0_cst_0, val_main_call0_v4, val_main_v0_2, val_main_call0_cst_1, val_main_call0_v6, val_main_call0_v7, val_main_v0_1, val_main_v0_0, val_main_cst_0, val_main_v5, val_main_v6, val_main_v7, val_main_v8, val_main_v9, val_main_call1_v0, val_main_call1_v1, val_main_call1_v2, val_main_v10, val_main_v11, val_main_v12]
  rfl

open Cert.Reference2Ideal.Read in
theorem reference_B (a : Vec Ideal S8192x2816 .f32) (w : Vec Ideal S2816x1024 .f32) (ct : Vec Ideal S8192x1024 .f32) (y : S8192x2816.Idx) :
    val_main_v12 (F := Ideal) a w ct y = gradB a w ct y := by
  idx_vars y
  pointwise [val_main_call0_v0, val_main_call0_v1, val_main_call0_cst, val_main_call0_v2, val_main_call0_v3, val_main_call0_cst_0, val_main_call0_v4, val_main_v0_2, val_main_call0_cst_1, val_main_call0_v6, val_main_call0_v7, val_main_v0_1, val_main_v0_0, val_main_cst_0, val_main_v5, val_main_v6, val_main_v7, val_main_v8, val_main_v9, val_main_call1_v0, val_main_call1_v1, val_main_call1_v2, val_main_v10, val_main_v11, val_main_v12]
  exact mul_comm (a (ix2 y0 y1) * sigma (a (ix2 y0 y1))) (product w ct (ix2 y0 y1))

/-- The logistic function is real; at infinity it is one, at minus infinity zero. -/
theorem sigma_real (a : EReal) : ∃ s : ℝ, sigma a = (s : EReal) ∧ (a = ⊤ → s = 1) ∧ (a = ⊥ → s = 0) := by
  induction a using EReal.rec with
  | bot =>
    have e : Ideal.exp ⊤ = ⊤ := rfl
    have e1 : (1 : EReal) + ⊤ = ⊤ := rfl
    exact ⟨0, by simp [sigma, e, e1, Ideal.div], by simp, fun _ => rfl⟩
  | top =>
    have e : Ideal.exp ⊥ = 0 := rfl
    exact ⟨1, by simp [sigma, e, Ideal.div], fun _ => rfl, by simp⟩
  | coe x =>
    refine ⟨1 / (1 + Real.exp (-x)), ?_, fun h => absurd h (EReal.coe_ne_top x), fun h => absurd h (EReal.coe_ne_bot x)⟩
    rw [sigma, ← EReal.coe_neg, Ideal.exp_coe, ← EReal.coe_one, ← EReal.coe_add, Cert.Attention.div_real _ _ (by positivity)]

/-- The two forms of the first gradient, on a real product and a real up projection. -/
theorem forms (a : EReal) (p b : ℝ) :
    (p : EReal) * (b * (sigma a + a * sigma a * (1 - sigma a))) = p * b * sigma a + a * (p * b) * (sigma a * (1 - sigma a)) := by
  obtain ⟨s, hs, h1, h0⟩ := sigma_real a
  rw [hs]
  induction a using EReal.rec with
  | bot => rw [h0 rfl]; simp
  | top =>
    rw [h1 rfl]
    have e : (1 : EReal) - 1 = 0 := by rw [← EReal.coe_one, ← EReal.coe_sub, sub_self]; rfl
    simp [e]
  | coe x =>
    simp only [← EReal.coe_one, ← EReal.coe_mul, ← EReal.coe_add, ← EReal.coe_sub]
    exact congrArg Real.toEReal (by ring)

end Cert.Kernel2Ideal.Hand

namespace Cert.Proof

open Idealize.ShloMosaic Idealize.ShloMosaic.TcCoe Idealize.SL.Sem Cert.Kernel2Ideal.Hand

/-- The shapes of the precondition fit. -/
theorem finite_activation_facts : Cert.Pre_finite_activation.Facts := ⟨by decide, by decide, by decide⟩

/-- The kernel on machine words ends, its arguments unchanged and its counters at zero. -/
theorem frame_kernel2 : Cert.quiescent_Kernel2 := fun m ρ _ => Cert.Kernel2.Gen.frame m ρ

/-- The kernel over the extended reals ends, its arguments unchanged and its counters at zero. -/
theorem frame_ideal2 : Cert.quiescent_Kernel2Ideal := fun m ρ _ => Cert.Kernel2Ideal.Gen.frame m ρ

/-- The reference ends, its arguments unchanged and its counters at zero. -/
theorem frame_reference2 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

open Cert.Pre_finite_activation in
/-- The first gradient, on a finite up projection, weight and cotangent. -/
theorem gradA_eq [Cert.Pre_finite_activation.Facts] {a b : FVec Ideal S8192x2816 .f32} {w : FVec Ideal S2816x1024 .f32}
    {ct : FVec Ideal S8192x1024 .f32}
    (h : (fn (F := Ideal) a b w ct).1 = (fun _ => 1#1) ∧ (fn (F := Ideal) a b w ct).2.1 = (fun _ => 1#1)
      ∧ (fn (F := Ideal) a b w ct).2.2 = (fun _ => 1#1)) :
    Cert.Reference2Ideal.Read.val_main_v11 (F := Ideal) a b w ct = gradA a b w ct := by
  funext y
  have hb := real_of_finite b _ (fun _ => rfl) h.1
  have hw := real_of_finite w _ (fun _ => rfl) h.2.1
  have hc := real_of_finite ct _ (fun _ => rfl) h.2.2
  have hp : product w ct y = ((∑ d, 1 / 2 * EReal.toReal (ct (ix2 (y 0) d)) * EReal.toReal (w (ix2 (y 1) d)) : ℝ) : EReal) := by
    have hh : half = ((1 / 2 : ℝ) : EReal) := by
      show Ideal.ofBits .f32 0x3F000000#32 = _
      simp [Ideal.ofBits, Ideal.ieee, -EReal.coe_mul]
      norm_num
    unfold product dprod
    rw [← Cert.Attention.coe_sum]
    refine Finset.sum_congr rfl fun d _ => ?_
    rw [hh, EReal.coe_mul, EReal.coe_mul, ← hc (ix2 (y 0) d), ← hw (ix2 (y 1) d)]
  rw [reference_A]
  unfold gradA
  rw [hp, hb y]
  exact (forms (a y) _ _).symm

/-- The activation's kernel and the reference leave the same gradients. -/
theorem algebraic2 : Cert.algebraic_Kernel2Ideal_Reference2Ideal_pre_finite_activation (hPre_finite_activation := finite_activation_facts) := by
  haveI := finite_activation_facts
  intro m g m' g' hP hm
  refine ⟨fun c => gradA (argA m c) (argB m c) (argW m c) (argC m c), fun c => gradB (argA m c) (argW m c) (argC m c), ?_, ?_⟩
  · exact (θ_run Cert.Kernel2Ideal.defs _ _).mono (fun r h c => ⟨(h c).1.trans (arr_A m c), (h c).2.1.trans (arr_B m c), (h c).2.2⟩)
      (Cert.Kernel2Ideal.Value.run_blocks m g)
  · refine (θ_run Cert.Reference2Ideal.defs _ _).mono (fun r h c => ⟨(h c).1.trans ?_, (h c).2.1.trans ?_, (h c).2.2⟩)
      (Cert.Reference2Ideal.Value.run (F := Ideal) m' g')
    · obtain ⟨e0, e1, e2, e3⟩ := hm c
      rw [Cert.Reference2Ideal.Read.val_main_v11_eq, e0, e1, e2, e3]
      exact gradA_eq (hP c)
    · obtain ⟨e0, e1, e2, e3⟩ := hm c
      rw [Cert.Reference2Ideal.Read.val_main_v12_eq, e0, e2, e3]
      exact funext fun y => reference_B _ _ _ y

end Cert.Proof
-- ==== Proof.NormRow.lean ====
/- The gradient of a root-mean-square norm along one row, over the extended reals. -/
module

public import Idealize.ShloMosaic.PureOps
public import Idealize.ShloMosaic.Lib.ValueIdx
public import Idealize.ShloMosaic.Lib.Claim

@[expose] public section

noncomputable section

namespace Cert.Norm

open Idealize.ShloMosaic

/-- The width of a row. -/
def width : EReal := Ideal.ofBits FTy.f32 1149239296#32
/-- What is added to the mean square. -/
def eps : EReal := Ideal.ofBits FTy.f32 897988541#32
/-- Minus one half. -/
def minusHalf : EReal := Ideal.ofBits FTy.f32 3204448256#32

theorem width_eq : width = ((1024 : ℝ) : EReal) := by
  unfold width
  simp [Ideal.ofBits, Ideal.ieee, -EReal.coe_mul]
  norm_num

theorem minusHalf_eq : minusHalf = ((-(1 / 2) : ℝ) : EReal) := by
  unfold minusHalf
  simp [Ideal.ofBits, Ideal.ieee, -EReal.coe_mul]
  norm_num

theorem eps_eq : eps = ((8796093 / 2 ^ 43 : ℝ) : EReal) := by
  unfold eps
  simp [Ideal.ofBits, Ideal.ieee, -EReal.coe_mul]
  norm_num

theorem div_width (a : EReal) : Ideal.div a width = a * ((1024⁻¹ : ℝ) : EReal) := by
  rw [width_eq, EReal.coe_inv]
  simp [Ideal.div]

/-- The regularised mean square of a row. -/
def square (x : Fin 1024 → EReal) : EReal := Ideal.div (∑ k, x k * x k) width + eps
/-- The reciprocal root mean square of a row. -/
def scale (x : Fin 1024 → EReal) : EReal := Ideal.rsqrt (square x)

/-- The row's gradient in the normalised form. -/
def rowK (ct : EReal) (D x : Fin 1024 → EReal) (j : Fin 1024) : EReal :=
  ct + scale x * (D j - x j * scale x * Ideal.div (∑ k, D k * (x k * scale x)) width)

/-- The row's gradient by the product rule. -/
def rowR (ct : EReal) (D x : Fin 1024 → EReal) (j : Fin 1024) : EReal :=
  ct + D j * scale x + x j * Ideal.div ((∑ k, x k * D k) * (minusHalf * Ideal.div (scale x) (square x))) width
    + Ideal.div ((∑ k, x k * D k) * (minusHalf * Ideal.div (scale x) (square x))) width * x j

theorem sum_nonneg_top {ι : Type} [Fintype ι] (f : ι → EReal) (h : ∀ i, 0 ≤ f i) (i : ι) (hi : f i = ⊤) : ∑ i, f i = ⊤ :=
  top_le_iff.mp (hi ▸ Finset.single_le_sum (fun i _ => h i) (Finset.mem_univ i))

theorem square_self_nonneg (a : EReal) : 0 ≤ a * a := by
  induction a with
  | bot => simp
  | top => simp
  | coe a => rw [← EReal.coe_mul]; exact EReal.coe_nonneg.mpr (mul_self_nonneg a)

theorem coe_sum {ι : Type} [Fintype ι] (f : ι → ℝ) : ∑ i, ((f i : ℝ) : EReal) = ((∑ i, f i : ℝ) : EReal) := by
  induction (Finset.univ : Finset ι) using Finset.cons_induction with
  | empty => simp
  | cons a s h ih => rw [Finset.sum_cons, Finset.sum_cons, ih, EReal.coe_add]

theorem mul_sum_real {ι : Type} [Fintype ι] (r : ℝ) (hr : 0 ≤ r) (f : ι → EReal) : (r : EReal) * ∑ i, f i = ∑ i, (r : EReal) * f i := by
  induction (Finset.univ : Finset ι) using Finset.cons_induction with
  | empty => simp
  | cons a s h ih =>
    rw [Finset.sum_cons, Finset.sum_cons, ← ih, EReal.left_distrib_of_nonneg_of_ne_top (EReal.coe_nonneg.mpr hr) (EReal.coe_ne_top r)]

theorem twice (T : EReal) (a : ℝ) : T * (a : EReal) + T * (a : EReal) = T * ((2 * a : ℝ) : EReal) := by
  have two : ∀ y : EReal, y + y = ((2 : ℝ) : EReal) * y := fun y => by
    induction y with
    | bot => rw [EReal.coe_mul_bot_of_pos (by norm_num)]; rfl
    | top => rw [EReal.coe_mul_top_of_pos (by norm_num)]; rfl
    | coe y => rw [← EReal.coe_add, ← EReal.coe_mul, two_mul]
  rw [two, ← mul_assoc, mul_comm ((2 : ℝ) : EReal), mul_assoc, ← EReal.coe_mul]

/-- A row with an infinite entry is scaled to zero. -/
theorem scale_of_infinite (x : Fin 1024 → EReal) (k : Fin 1024) (hk : x k * x k = ⊤) : square x = ⊤ ∧ scale x = 0 := by
  have hs : square x = ⊤ := by
    unfold square
    rw [sum_nonneg_top (fun k => x k * x k) (fun k => square_self_nonneg (x k)) k hk, div_width, eps_eq,
      EReal.top_mul_coe_of_pos (by norm_num), EReal.top_add_coe]
  exact ⟨hs, by unfold scale; rw [hs]; rfl⟩

/-- Both forms of the row's gradient agree. -/
theorem row_eq (ct : EReal) (D x : Fin 1024 → EReal) (j : Fin 1024) : rowK ct D x j = rowR ct D x j := by
  by_cases hx : ∀ k, ∃ r : ℝ, x k = r
  · choose f hf using hx
    obtain rfl : x = fun k => (f k : EReal) := funext hf
    set u : ℝ := (∑ k, f k * f k) * 1024⁻¹ + 8796093 / 2 ^ 43 with hu
    have hu0 : 0 < u := by
      have : 0 ≤ ∑ k, f k * f k := Finset.sum_nonneg fun k _ => mul_self_nonneg (f k)
      positivity
    have hs : square (fun k => (f k : EReal)) = (u : EReal) := by
      unfold square
      rw [div_width, eps_eq, hu]
      simp only [← EReal.coe_mul, coe_sum, ← EReal.coe_add]
    set r : ℝ := (Real.sqrt u)⁻¹ with hr
    have hr0 : 0 < r := inv_pos.mpr (Real.sqrt_pos.mpr hu0)
    have hc : scale (fun k => (f k : EReal)) = (r : EReal) := by
      unfold scale
      rw [hs, Ideal.rsqrt_coe, if_neg (not_lt.mpr hu0.le), if_neg hu0.ne']
    have hd : Ideal.div (r : EReal) (u : EReal) = ((r * u⁻¹ : ℝ) : EReal) := by
      unfold Ideal.div
      rw [if_neg (by exact_mod_cast hu0.ne'), ← EReal.coe_inv, ← EReal.coe_mul]
    have hcube : r * u⁻¹ = r * (r * r) := by
      rw [show r * r = u⁻¹ by rw [hr, ← mul_inv, Real.mul_self_sqrt hu0.le]]
    have hK : ∑ k, D k * ((f k : EReal) * (r : EReal)) = (r : EReal) * ∑ k, (f k : EReal) * D k := by
      rw [mul_sum_real r hr0.le]
      exact Finset.sum_congr rfl fun k _ => by rw [mul_comm (f k : EReal) (r : EReal), mul_left_comm, mul_comm (D k)]
    unfold rowK rowR
    simp only [hc, hs, hd, hcube, hK, div_width, minusHalf_eq]
    generalize (∑ k, (f k : EReal) * D k) = T
    rw [sub_eq_add_neg, EReal.left_distrib_of_nonneg_of_ne_top (EReal.coe_nonneg.mpr hr0.le) (EReal.coe_ne_top r), ← add_assoc, mul_comm (r : EReal) (D j),
      add_assoc]
    rw [add_assoc (ct + D j * (r : EReal)), ← add_assoc ct]
    congr 1
    have e1 : (f j : EReal) * (T * (((-(1 / 2) : ℝ) : EReal) * ((r * (r * r) : ℝ) : EReal)) * ((1024⁻¹ : ℝ) : EReal))
        = T * ((f j * (-(1 / 2) * (r * (r * r)) * 1024⁻¹) : ℝ) : EReal) := by
      simp only [EReal.coe_mul]
      ac_rfl
    rw [mul_comm _ (f j : EReal), e1, twice]
    have e2 : (r : EReal) * -((f j : EReal) * (r : EReal) * ((r : EReal) * T * ((1024⁻¹ : ℝ) : EReal)))
        = T * (((-1 : ℝ) : EReal) * ((f j * (r * (r * r)) * 1024⁻¹ : ℝ) : EReal)) := by
      rw [← neg_one_mul, show (-1 : EReal) = ((-1 : ℝ) : EReal) by simp]
      simp only [EReal.coe_mul]
      ac_rfl
    rw [e2, ← EReal.coe_mul]
    congr 2
    ring
  · obtain ⟨k, hk⟩ := not_forall.mp hx
    have ht : x k * x k = ⊤ := by
      revert hk
      induction x k with
      | bot => intro _; simp
      | top => intro _; simp
      | coe a => intro h; exact absurd ⟨a, rfl⟩ h
    obtain ⟨hs, hc⟩ := scale_of_infinite x k ht
    have hd : Ideal.div 0 (⊤ : EReal) = 0 := by simp [Ideal.div]
    unfold rowK rowR
    rw [hs, hc, hd]
    simp [div_width]

end Cert.Norm
-- ==== Proof.Norm.lean ====
/- The gradient of the feed-forward block's normalised input, through the norm. -/
module

public import proofs.«01_k».proof.Proof.NormRow
public import proofs.«01_k».proof.Proof.Gen.Kernel3Ideal.Value
public import Idealize.ShloMosaic.Lib.StableHlo.ReadAt
public import Idealize.ShloMosaic.Lib.Claim
public import Idealize.ShloMosaic.Lib.Pipeline.ValueKit
public import Idealize.ShloMosaic.Lib.Pipeline.FrameBody
public import proofs.«01_k».proof.Defs
public import proofs.«01_k».proof.Proof.Gen.Kernel3.Frame
public import proofs.«01_k».proof.Proof.Gen.Reference3Ideal.Run
public import proofs.«01_k».proof.Proof.Gen.Reference3Ideal.Read
public import Idealize.ShloMosaic.Lib.Quiescent

@[expose] public section

set_option maxRecDepth 16384

noncomputable section

namespace Cert.Kernel3Ideal.Hand

open Idealize.ShloMosaic Idealize.ShloMosaic.TcCoe Cert.Kernel3Ideal Cert.Kernel3Ideal.Gen Cert.Norm

theorem origin : (![0, 0] : Fin 2 → ℕ) = fun _ => 0 := by decide

section cases
variable {F : FTy → Type} [FloatOps F] (c : Dev nD) (i : grid0.Coords)
  (a1 : Memref sig .tc .vmem S512x2816 .bf16) (h1 : a1.IsWhole) (a2 : Memref sig .tc .vmem S2816x1024 .bf16) (h2 : a2.IsWhole)
  (a3 : Memref sig .tc .vmem S512x2816 .bf16) (h3 : a3.IsWhole) (a4 : Memref sig .tc .vmem S2816x1024 .bf16) (h4 : a4.IsWhole)
  (a5 : Memref sig .tc .vmem S512x1024 .f32) (h5 : a5.IsWhole) (a6 : Memref sig .tc .vmem S1x1024 .f32) (h6 : a6.IsWhole)
  (a7 : Memref sig .tc .vmem S512x1024 .f32) (h7 : a7.IsWhole) (a8 : Memref sig .tc .vmem S512x1024 .f32) (h8 : a8.IsWhole)
  (a9 : Memref sig .tc .vmem S1x1024 .f32) (h9 : a9.IsWhole)
  (x0 : Vec F S512x2816 .bf16) (x1 : Vec F S2816x1024 .bf16) (x2 : Vec F S512x2816 .bf16) (x3 : Vec F S2816x1024 .bf16)
  (x4 : Vec F S512x1024 .f32) (x5 : Vec F S1x1024 .f32) (x6 : Vec F S512x1024 .f32) (acc : Vec F S1x1024 .f32)

/-- The rows' gradient at the first block of tokens … -/
theorem rows_first (hc0 : cond0_0 i) :
    out0_A_7 c i a1 h1 a2 h2 a3 h3 a4 h4 a5 h5 a6 h6 a7 h7 a8 h8 a9 h9 hc0 x0 x1 x2 x3 x4 x5 x6 = k0_pay7 x0 x1 x2 x3 x4 x5 x6 := by
  unfold out0_A_7
  rw [View.read_writes_eq_canon _ _ _ (cover0_A_7 c i a1 h1 a2 h2 a3 h3 a4 h4 a5 h5 a6 h6 a7 h7 a8 h8 a9 h9 hc0 x0 x1 x2 x3 x4 x5 x6)]
  unfold kernelRun0_A
  dsimp only
  sl_unfold_words
  rw [View.canon_unit_zero origin]
  simp only [View.readAt_eq_ld, h1.read_unread, h2.read_unread, h3.read_unread, h4.read_unread, h5.read_unread, h6.read_unread, h7.read_unread,
    View.ld_unit_zero (S := S512x2816) origin, View.ld_unit_zero (S := S2816x1024) origin, View.ld_unit_zero (S := S512x1024) origin,
    View.ld_unit_zero (S := S1x1024) origin]

/-- … and at a later one. -/
theorem rows_later (hc0 : ¬cond0_0 i) :
    out0_B_7 c i a1 h1 a2 h2 a3 h3 a4 h4 a5 h5 a6 h6 a7 h7 a8 h8 a9 h9 hc0 x0 x1 x2 x3 x4 x5 x6 acc = k0_pay7 x0 x1 x2 x3 x4 x5 x6 := by
  unfold out0_B_7
  rw [View.read_writes_eq_canon _ _ _ (cover0_B_7 c i a1 h1 a2 h2 a3 h3 a4 h4 a5 h5 a6 h6 a7 h7 a8 h8 a9 h9 hc0 x0 x1 x2 x3 x4 x5 x6 acc)]
  unfold kernelRun0_B
  dsimp only
  sl_unfold_words
  rw [View.canon_unit_zero origin]
  simp only [View.readAt_eq_ld, h1.read_unread, h2.read_unread, h3.read_unread, h4.read_unread, h5.read_unread, h6.read_unread, h7.read_unread,
    View.ld_unit_zero (S := S512x2816) origin, View.ld_unit_zero (S := S2816x1024) origin, View.ld_unit_zero (S := S512x1024) origin,
    View.ld_unit_zero (S := S1x1024) origin]

/-- The scale's gradient starts from zero at the first block of tokens … -/
theorem gain_first (hc0 : cond0_0 i) :
    out0_A_8 c i a1 h1 a2 h2 a3 h3 a4 h4 a5 h5 a6 h6 a7 h7 a8 h8 a9 h9 hc0 x0 x1 x2 x3 x4 x5 x6 = k0_pay2 (k0_pay6 x0 x1 x2 x3 x4) k0_pay1 := by
  unfold out0_A_8
  rw [View.read_writes_eq_canon _ _ _ (cover0_A_8 c i a1 h1 a2 h2 a3 h3 a4 h4 a5 h5 a6 h6 a7 h7 a8 h8 a9 h9 hc0 x0 x1 x2 x3 x4 x5 x6)]
  unfold kernelRun0_A
  dsimp only
  sl_unfold_words
  rw [View.canon_cons_unit_zero (S := S1x1024) origin, View.readCov_unit_zero (S := S1x1024) _ origin]
  simp only [View.readAt_eq_ld, h1.read_unread, h2.read_unread, h3.read_unread, h4.read_unread, h5.read_unread, h6.read_unread, h7.read_unread,
    View.ld_unit_zero (S := S512x2816) origin, View.ld_unit_zero (S := S2816x1024) origin, View.ld_unit_zero (S := S512x1024) origin,
    View.ld_unit_zero (S := S1x1024) origin]

/-- … and adds the later ones. -/
theorem gain_later (hc0 : ¬cond0_0 i) :
    out0_B_8 c i a1 h1 a2 h2 a3 h3 a4 h4 a5 h5 a6 h6 a7 h7 a8 h8 a9 h9 hc0 x0 x1 x2 x3 x4 x5 x6 acc = k0_pay2 (k0_pay6 x0 x1 x2 x3 x4) acc := by
  unfold out0_B_8
  rw [View.read_writes_eq_canon _ _ _ (cover0_B_8 c i a1 h1 a2 h2 a3 h3 a4 h4 a5 h5 a6 h6 a7 h7 a8 h8 a9 h9 hc0 x0 x1 x2 x3 x4 x5 x6 acc)]
  unfold kernelRun0_B
  dsimp only
  sl_unfold_words
  rw [View.canon_unit_zero origin]
  simp only [View.readAt_eq_ld, h1.read_unread, h2.read_unread, h3.read_unread, h4.read_unread, h5.read_unread, h6.read_unread, h7.read_unread,
    h9.read_unread, View.ld_unit_zero (S := S512x2816) origin, View.ld_unit_zero (S := S2816x1024) origin, View.ld_unit_zero (S := S512x1024) origin,
    View.ld_unit_zero (S := S1x1024) origin]

end cases

section payloads
variable (v0 v5 : Vec Ideal S512x2816 .bf16) (v2 v7 : Vec Ideal S2816x1024 .bf16) (v11 v36 : Vec Ideal S512x1024 .f32) (v22 : Vec Ideal S1x1024 .f32)

/-- The gradient of the normalised input in a block of tokens. -/
def blockH (i : Fin 512) (j : Fin 1024) : EReal := ∑ n : Fin 2816, v0 (ix2 i n) * v2 (ix2 n j) + ∑ n : Fin 2816, v5 (ix2 i n) * v7 (ix2 n j)

theorem rows_at (i : Fin 512) (j : Fin 1024) :
    k0_pay7 v0 v2 v5 v7 v11 v22 v36 (ix2 i j) = rowK (v36 (ix2 i j)) (fun j => blockH v0 v5 v2 v7 i j * v22 (ix2 0 j)) (fun j => v11 (ix2 i j)) j := by
  unfold rowK scale square blockH width eps
  pointwise [k0_pay7, k0_pay3, k0_pay4, k0_pay5]

theorem gain_at (j : Fin 1024) :
    k0_pay2 (k0_pay6 v0 v2 v5 v7 v11) v22 (ix2 0 j) = v22 (ix2 0 j) + ∑ i, blockH v0 v5 v2 v7 i j * (v11 (ix2 i j) * scale fun j => v11 (ix2 i j)) := by
  unfold scale square blockH width eps
  pointwise [k0_pay2, k0_pay6, k0_pay3, k0_pay4, k0_pay5]

theorem zero_at (j : Fin 1024) : (k0_pay1 : FVec Ideal S1x1024 .f32) (ix2 0 j) = 0 := by
  pointwise [k0_pay1]

end payloads

variable (m : (ℓ : Loc nD τ sig) → Buf (Elt Ideal) ℓ) (c : Dev nD)

abbrev argDa : Vec Ideal S8192x2816 .f32 := m ((c.tc : Thread nD τ).loc main_arg0)
abbrev argDb : Vec Ideal S8192x2816 .f32 := m ((c.tc : Thread nD τ).loc main_arg1)
abbrev argWg : Vec Ideal S1024x2816 .f32 := m ((c.tc : Thread nD τ).loc main_arg2)
abbrev argWu : Vec Ideal S1024x2816 .f32 := m ((c.tc : Thread nD τ).loc main_arg3)
abbrev argX : Vec Ideal S8192x1024 .f32 := m ((c.tc : Thread nD τ).loc main_arg4)
abbrev argG : Vec Ideal S1x1024 .f32 := m ((c.tc : Thread nD τ).loc main_arg5)
abbrev argC : Vec Ideal S8192x1024 .f32 := m ((c.tc : Thread nD τ).loc main_arg6)

/-- The gradient of the normalised input. -/
def gradH (t : Fin 8192) (j : Fin 1024) : EReal :=
  ∑ n : Fin 2816, argDa m c (ix2 t n) * argWg m c (ix2 j n) + ∑ n : Fin 2816, argDb m c (ix2 t n) * argWu m c (ix2 j n)
/-- A row of the input. -/
def row (t : Fin 8192) (j : Fin 1024) : EReal := argX m c (ix2 t j)

/-- Token `s` of the block of 512 with number `u`. -/
def token (u : ℕ) (s : Fin 512) : Fin 8192 := ⟨u % 16 * 512 + s.val, by have := s.isLt; omega⟩

theorem sum_tokens (f : Fin 8192 → EReal) : ∑ u ∈ Finset.range 16, ∑ s, f (token u s) = ∑ x, f x := by
  rw [Finset.sum_range]
  refine (Finset.sum_congr rfl fun u _ => ?_).trans (Fin.sum_mul_add_fin 16 512 f)
  refine Finset.sum_congr rfl fun s _ => congrArg f (Fin.ext ?_)
  show u.val % 16 * 512 + s.val = _
  rw [Nat.mod_eq_of_lt u.isLt]

/-- The windows' block indices at each grid point. -/
theorem windows_at : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] ∧ win0_6.index t = ![t.val, 0]
    ∧ win0_7.index t = ![t.val, 0] ∧ win0_8.index t = ![0, 0] := by decide +kernel

theorem V_da : V m c main_v0 = argDa m c := by
  unfold V
  after_reads_simp
  rfl

theorem V_db : V m c main_v3 = argDb m c := by
  unfold V
  after_reads_simp
  rfl

theorem V_wg (n : Fin 2816) (j : Fin 1024) : (V m c main_v2 : Vec Ideal S2816x1024 .bf16) (ix2 n j) = argWg m c (ix2 j n) := by
  unfold V
  after_reads_simp
  pointwise []

theorem V_wu (n : Fin 2816) (j : Fin 1024) : (V m c main_v5 : Vec Ideal S2816x1024 .bf16) (ix2 n j) = argWu m c (ix2 j n) := by
  unfold V
  after_reads_simp
  pointwise []

section blocks
variable (t : Fin cfg0.N)

theorem da_at (i : Fin 512) (n : Fin 2816) : iblk m c 0 t (ix2 i n) = argDa m c (ix2 (token t.val i) n) := by
  have ht : t.val < 16 := lt_of_lt_of_eq t.isLt N_0
  rw [← V_da]
  unfold token
  obtain ⟨h0, h1, h2, h3, h4, h5, h6, h7, h8⟩ := windows_at t
  blk_ext [iblk, h0]

theorem db_at (i : Fin 512) (n : Fin 2816) : iblk m c 2 t (ix2 i n) = argDb m c (ix2 (token t.val i) n) := by
  have ht : t.val < 16 := lt_of_lt_of_eq t.isLt N_0
  rw [← V_db]
  unfold token
  obtain ⟨h0, h1, h2, h3, h4, h5, h6, h7, h8⟩ := windows_at t
  blk_ext [iblk, h2]

theorem wg_at (n : Fin 2816) (j : Fin 1024) : iblk m c 1 t (ix2 n j) = argWg m c (ix2 j n) := by
  refine Eq.trans ?_ (V_wg m c n j)
  obtain ⟨h0, h1, h2, h3, h4, h5, h6, h7, h8⟩ := windows_at t
  blk_ext [iblk, h1]

theorem wu_at (n : Fin 2816) (j : Fin 1024) : iblk m c 3 t (ix2 n j) = argWu m c (ix2 j n) := by
  refine Eq.trans ?_ (V_wu m c n j)
  obtain ⟨h0, h1, h2, h3, h4, h5, h6, h7, h8⟩ := windows_at t
  blk_ext [iblk, h3]

theorem x_at (i : Fin 512) (j : Fin 1024) : iblk m c 4 t (ix2 i j) = row m c (token t.val i) j := by
  have ht : t.val < 16 := lt_of_lt_of_eq t.isLt N_0
  unfold row token
  obtain ⟨h0, h1, h2, h3, h4, h5, h6, h7, h8⟩ := windows_at t
  blk_ext [iblk, h4]

theorem g_at (j : Fin 1024) : iblk m c 5 t (ix2 0 j) = argG m c (ix2 0 j) := by
  obtain ⟨h0, h1, h2, h3, h4, h5, h6, h7, h8⟩ := windows_at t
  blk_ext [iblk, h5]

theorem ct_at (i : Fin 512) (j : Fin 1024) : iblk m c 6 t (ix2 i j) = argC m c (ix2 (token t.val i) j) := by
  have ht : t.val < 16 := lt_of_lt_of_eq t.isLt N_0
  unfold token
  obtain ⟨h0, h1, h2, h3, h4, h5, h6, h7, h8⟩ := windows_at t
  blk_ext [iblk, h6]

theorem blockH_at (i : Fin 512) (j : Fin 1024) :
    blockH (iblk m c 0 t) (iblk m c 2 t) (iblk m c 1 t) (iblk m c 3 t) i j = gradH m c (token t.val i) j := by
  unfold blockH gradH
  exact congrArg₂ _ (Finset.sum_congr rfl fun n _ => congrArg₂ _ (da_at m c t i n) (wg_at m c t n j))
    (Finset.sum_congr rfl fun n _ => congrArg₂ _ (db_at m c t i n) (wu_at m c t n j))

theorem row_at (i : Fin 512) : (fun j => (iblk m c 4 t : Vec Ideal S512x1024 .f32) (ix2 i j)) = row m c (token t.val i) :=
  funext fun j => x_at m c t i j

end blocks

/-- The rows' gradient. -/
def gradX : Vec Ideal S8192x1024 .f32 := fun y => rowK (argC m c y) (fun j => gradH m c (y 0) j * argG m c (ix2 0 j)) (row m c (y 0)) (y 1)
/-- The scale's gradient. -/
def gradG : Vec Ideal S1x1024 .f32 := fun y => ∑ t, gradH m c t (y 1) * (row m c t (y 1) * scale (row m c t))

theorem rows_of (t : Fin cfg0.N) (i : Fin 512) (j : Fin 1024) :
    k0_pay7 (iblk m c 0 t) (iblk m c 1 t) (iblk m c 2 t) (iblk m c 3 t) (iblk m c 4 t) (iblk m c 5 t) (iblk m c 6 t) (ix2 i j)
      = gradX m c (ix2 (token t.val i) j) := by
  refine (rows_at (iblk m c 0 t) (iblk m c 2 t) (iblk m c 1 t) (iblk m c 3 t) (iblk m c 4 t) (iblk m c 6 t) (iblk m c 5 t) i j).trans ?_
  unfold gradX
  rw [row_at, ct_at]
  exact congrArg (fun D => rowK _ D _ _) (funext fun j => congrArg₂ _ (blockH_at m c t i j) (g_at m c t j))

theorem rows_written (t : Fin cfg0.N) (i : Fin 512) (j : Fin 1024) :
    (outsAt0 m c t.val t.isLt).1 (ix2 i j) = gradX m c (ix2 (token t.val i) j) := by
  by_cases h : t.val % 16 = 0
  · rw [outsAt0_A m c t h, rows_first]
    exact rows_of m c t i j
  · rw [outsAt0_B m c t h, rows_later]
    exact rows_of m c t i j

theorem arr_rows : (dats m 0 c).arrAt 7 cfg0.N = gradX m c := by
  refine (dats m 0 c).arrAt_eq_of_covers 7 _ (by decide +kernel) fun t hf y => ?_
  blk_simp
  rw [after0_7]
  have ht : t.val < 16 := lt_of_lt_of_eq t.isLt N_0
  idx_vars y
  have he : (win0_7.blk t).view.emb (ix2 y0 y1) = ix2 (token t.val y0) y1 := by
    obtain ⟨h0, h1, h2, h3, h4, h5, h6, h7, h8⟩ := windows_at t
    unfold token
    blk_ext [h7]
  exact (rows_written m c t y0 y1).trans (congrArg (gradX m c) he).symm

/-- The part of the scale's gradient a block of tokens gives. -/
def part (u : ℕ) (j : Fin 1024) : EReal :=
  ∑ s : Fin 512, gradH m c (token u s) j * (row m c (token u s) j * scale (row m c (token u s)))

theorem gain_of (t : Fin cfg0.N) (acc : Vec Ideal S1x1024 .f32) (j : Fin 1024) :
    k0_pay2 (k0_pay6 (iblk m c 0 t) (iblk m c 1 t) (iblk m c 2 t) (iblk m c 3 t) (iblk m c 4 t)) acc (ix2 0 j) = acc (ix2 0 j) + part m c t.val j := by
  refine (gain_at (iblk m c 0 t) (iblk m c 2 t) (iblk m c 1 t) (iblk m c 3 t) (iblk m c 4 t) acc j).trans ?_
  unfold part
  exact congrArg _ (Finset.sum_congr rfl fun s _ => by rw [row_at]; exact congrArg₂ _ (blockH_at m c t s j) (congrArg (· * _) (x_at m c t s j)))

/-- After each grid point the scale's gradient covers the blocks of tokens so far. -/
theorem carried (n : ℕ) (hn : n < cfg0.N) (j : Fin 1024) :
    (outsAt0 m c n hn).2 (ix2 0 j) = ∑ u ∈ Finset.range (n + 1), part m c u j := by
  have h16 : n < 16 := lt_of_lt_of_eq hn N_0
  induction n with
  | zero =>
    rw [outsAt0_A m c ⟨0, hn⟩ rfl, gain_first]
    refine (gain_of m c ⟨0, hn⟩ _ j).trans ?_
    rw [zero_at, zero_add, Finset.sum_range_one]
  | succ n ih =>
    have hs := ih (by omega) (by omega)
    rw [outsAt0_B m c ⟨n + 1, hn⟩ (by show ¬(n + 1) % 16 = 0; omega), gain_later]
    refine (gain_of m c ⟨n + 1, hn⟩ _ j).trans ?_
    rw [Finset.sum_range_succ _ (n + 1)]
    exact congrArg (· + _) hs

theorem arr_gain : (dats m 0 c).arrAt 8 cfg0.N = gradG m c := by
  refine (dats m 0 c).arrAt_eq_of_covers 8 _ (by decide +kernel) fun t hf y => ?_
  blk_simp
  rw [after0_8]
  have ht : t.val < 16 := lt_of_lt_of_eq t.isLt N_0
  have hl : t.val = 15 := by have := (flush0_8 t).mp hf; omega
  idx_vars y
  obtain rfl : y0 = 0 := Subsingleton.elim _ _
  have he : (win0_8.blk t).view.emb (ix2 0 y1) = ix2 0 y1 := by
    obtain ⟨h0, h1, h2, h3, h4, h5, h6, h7, h8⟩ := windows_at t
    blk_ext [h8]
  refine Eq.trans ?_ (congrArg (gradG m c) he).symm
  refine (carried m c t.val t.isLt y1).trans ?_
  rw [hl]
  exact sum_tokens fun t => gradH m c t y1 * (row m c t y1 * scale (row m c t))

end Cert.Kernel3Ideal.Hand

namespace Cert.Proof

open Idealize.ShloMosaic Idealize.ShloMosaic.TcCoe Idealize.SL.Sem Cert.Norm

/-- The kernel on machine words ends, its arguments unchanged and its counters at zero. -/
theorem frame_kernel3 : Cert.quiescent_Kernel3 := fun m ρ _ => Cert.Kernel3.Gen.frame m ρ

/-- The kernel over the extended reals ends, its arguments unchanged and its counters at zero. -/
theorem frame_ideal3 : Cert.quiescent_Kernel3Ideal := fun m ρ _ => Cert.Kernel3Ideal.Gen.frame m ρ

/-- The reference ends, its arguments unchanged and its counters at zero. -/
theorem frame_reference3 : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

section reference
open Cert.Reference3Ideal Cert.Reference3Ideal.Read
variable (da db : Vec Ideal S8192x2816 .f32) (wg wu : Vec Ideal S1024x2816 .f32) (x ct : Vec Ideal S8192x1024 .f32) (g : Vec Ideal S1x1024 .f32)

/-- The reference's rows' gradient at an entry. -/
theorem reference_rows (i : Fin 8192) (j : Fin 1024) : val_main_v39 (F := Ideal) da db wg wu x g ct (ix2 i j)
    = rowR (ct (ix2 i j)) (fun j => (∑ n, db (ix2 i n) * wu (ix2 j n) + ∑ n, da (ix2 i n) * wg (ix2 j n)) * g (ix2 0 j)) (fun j => x (ix2 i j)) j := by
  have one : ∀ f : Fin 1 → EReal, ∑ k, f k = f 0 := fun f => Fin.sum_univ_one f
  unfold rowR scale square width eps minusHalf
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_v19, val_main_v20, val_main_cst_3, val_main_v21, val_main_v22, val_main_v23, val_main_v24, val_main_v25, val_main_cst_4, val_main_v26, val_main_v27, val_main_v28, val_main_v29, val_main_v30, val_main_v31, val_main_cst_5, val_main_v32, val_main_v33, val_main_cst_6, val_main_v34, val_main_v35, val_main_v36, val_main_v37, val_main_v38, val_main_v39]
  simp only [one]

/-- The reference's scale's gradient at an entry. -/
theorem reference_gain (j : Fin 1024) : val_main_v22 (F := Ideal) da db wg wu x (ix2 0 j)
    = ∑ i, x (ix2 i j) * (scale fun j => x (ix2 i j)) * (∑ n, db (ix2 i n) * wu (ix2 j n) + ∑ n, da (ix2 i n) * wg (ix2 j n)) := by
  unfold scale square width eps
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_v19, val_main_v20, val_main_cst_3, val_main_v21, val_main_v22, val_main_v23, val_main_v24, val_main_v25, val_main_cst_4, val_main_v26, val_main_v27, val_main_v28, val_main_v29, val_main_v30, val_main_v31, val_main_cst_5, val_main_v32, val_main_v33, val_main_cst_6, val_main_v34, val_main_v35, val_main_v36, val_main_v37, val_main_v38, val_main_v39]

end reference

/-- The norm's kernel and the reference leave the same gradients. -/
theorem algebraic3 : Cert.algebraic_Kernel3Ideal_Reference3Ideal := by
  intro m g m' g' _ hm
  refine ⟨fun c => Cert.Kernel3Ideal.Hand.gradX m c, fun c => Cert.Kernel3Ideal.Hand.gradG m c, ?_, ?_⟩
  · exact (θ_run Cert.Kernel3Ideal.defs _ _).mono (fun r h c => ⟨(h c).1.trans (Cert.Kernel3Ideal.Hand.arr_rows m c),
      (h c).2.1.trans (Cert.Kernel3Ideal.Hand.arr_gain m c), (h c).2.2⟩) (Cert.Kernel3Ideal.Value.run_blocks m g)
  · refine (θ_run Cert.Reference3Ideal.defs _ _).mono (fun r h c => ⟨(h c).1.trans ?_, (h c).2.1.trans ?_, (h c).2.2⟩)
      (Cert.Reference3Ideal.Value.run (F := Ideal) m' g')
    · obtain ⟨e0, e1, e2, e3, e4, e5, e6⟩ := hm c
      rw [Cert.Reference3Ideal.Read.val_main_v39_eq, e0, e1, e2, e3, e4, e5, e6]
      funext y
      idx_vars y
      refine (reference_rows _ _ _ _ _ _ _ y0 y1).trans ((row_eq _ _ _ y1).symm.trans ?_)
      exact congrArg (fun D => rowK _ D _ _) (funext fun j => congrArg (· * _) (add_comm _ _))
    · obtain ⟨e0, e1, e2, e3, e4, e5, e6⟩ := hm c
      rw [Cert.Reference3Ideal.Read.val_main_v22_eq, e0, e1, e2, e3, e4]
      funext y
      idx_vars y
      obtain rfl : y0 = 0 := Subsingleton.elim _ _
      refine (reference_gain _ _ _ _ _ y1).trans (Finset.sum_congr rfl fun i _ => ?_)
      rw [mul_comm, add_comm (∑ n, _)]
      rfl

end Cert.Proof
-- ==== Proof.Weight.lean ====
/- The gradient of the gate's and of the up projection's weights. -/
module

public import proofs.«01_k».proof.Proof.Rows
public import proofs.«01_k».proof.Proof.Gen.Kernel4Ideal.Value
public import Idealize.ShloMosaic.Lib.StableHlo.ReadAt
public import Idealize.ShloMosaic.Lib.Claim
public import Idealize.ShloMosaic.Lib.Pipeline.FrameBody
public import proofs.«01_k».proof.Defs
public import proofs.«01_k».proof.Proof.Gen.Kernel4.Frame
public import proofs.«01_k».proof.Proof.Gen.Reference4Ideal.Run
public import proofs.«01_k».proof.Proof.Gen.Reference4Ideal.Read
public import Idealize.ShloMosaic.Lib.Quiescent

@[expose] public section

set_option maxRecDepth 16384

noncomputable section

namespace Cert.Kernel4Ideal.Hand

open Idealize.ShloMosaic Idealize.ShloMosaic.TcCoe Cert.Kernel4Ideal Cert.Kernel4Ideal.Gen Cert.Rows

theorem origin : (![0, 0] : Fin 2 → ℕ) = fun _ => 0 := by decide

section cases
variable {F : FTy → Type} [FloatOps F] (c : Dev nD) (i : grid0.Coords)
  (a2 : Memref sig .tc .vmem S2048x1408 .bf16) (h2 : a2.IsWhole) (a3 : Memref sig .tc .vmem S2048x1024 .bf16) (h3 : a3.IsWhole)
  (a4 : Memref sig .tc .vmem S1408x1024 .bf16) (h4 : a4.IsWhole) (a5 : Memref sig .tc .vmem S1408x1024 .f32) (h5 : a5.IsWhole)
  (x : Vec F S2048x1408 .bf16) (y : Vec F S2048x1024 .bf16) (acc : Vec F S1408x1024 .f32)

/-- The first block of tokens starts the sum from zero. -/
theorem first (hc0 : cond0_0 i) (hc1 : ¬cond0_1 i) :
    sout0_A_0 c i a2 h2 a3 h3 a4 h4 a5 h5 hc0 hc1 x y = k0_pay2 k0_pay1 x y := by
  unfold sout0_A_0
  rw [View.read_writes_eq_canon _ _ _ (scover0_A_0 c i a2 h2 a3 h3 a4 h4 a5 h5 hc0 hc1 x y)]
  unfold kernelRun0_A
  dsimp only
  sl_unfold_words
  rw [View.canon_cons_unit_zero (S := S1408x1024) origin, View.readCov_unit_zero (S := S1408x1024) _ origin]
  simp only [View.readAt_eq_ld, h2.read_unread, h3.read_unread, View.ld_unit_zero (S := S2048x1408) origin, View.ld_unit_zero (S := S2048x1024) origin,
    View.ld_unit_zero (S := S1408x1024) origin]

/-- A later block adds its products. -/
theorem later (hc0 : ¬cond0_0 i) (hc1 : ¬cond0_1 i) :
    sout0_B_0 c i a2 h2 a3 h3 a4 h4 a5 h5 hc0 hc1 x y acc = k0_pay2 acc x y := by
  unfold sout0_B_0
  rw [View.read_writes_eq_canon _ _ _ (scover0_B_0 c i a2 h2 a3 h3 a4 h4 a5 h5 hc0 hc1 x y acc)]
  unfold kernelRun0_B
  dsimp only
  rw [View.canon_unit_zero origin]
  simp only [View.readAt_eq_ld, h2.read_unread, h3.read_unread, h5.read_unread, View.ld_unit_zero (S := S2048x1408) origin, View.ld_unit_zero (S := S2048x1024) origin,
    View.ld_unit_zero (S := S1408x1024) origin]

/-- So does the last block … -/
theorem last (hc0 : ¬cond0_0 i) (hc1 : cond0_1 i) :
    sout0_C_0 c i a2 h2 a3 h3 a4 h4 a5 h5 hc0 hc1 x y acc = k0_pay2 acc x y := by
  unfold sout0_C_0
  rw [View.read_writes_eq_canon _ _ _ (scover0_C_0 c i a2 h2 a3 h3 a4 h4 a5 h5 hc0 hc1 x y acc)]
  unfold kernelRun0_C
  dsimp only
  sl_unfold_words
  rw [View.canon_unit_zero origin]
  simp only [View.readAt_eq_ld, h2.read_unread, h3.read_unread, h5.read_unread, View.ld_unit_zero (S := S2048x1408) origin, View.ld_unit_zero (S := S2048x1024) origin,
    View.ld_unit_zero (S := S1408x1024) origin]

/-- … which also stores the scaled sum. -/
theorem stored (hc0 : ¬cond0_0 i) (hc1 : cond0_1 i) :
    out0_C_2 c i a2 h2 a3 h3 a4 h4 a5 h5 hc0 hc1 x y acc = k0_pay3 (k0_pay2 acc x y) := by
  unfold out0_C_2
  rw [View.read_writes_eq_canon _ _ _ (cover0_C_2 c i a2 h2 a3 h3 a4 h4 a5 h5 hc0 hc1 x y acc)]
  unfold kernelRun0_C
  dsimp only
  sl_unfold_words
  rw [View.canon_unit_zero origin, View.readCov_unit_zero (S := S1408x1024) _ origin]
  simp only [View.readAt_eq_ld, h2.read_unread, h3.read_unread, h5.read_unread, View.ld_unit_zero (S := S2048x1408) origin, View.ld_unit_zero (S := S2048x1024) origin,
    View.ld_unit_zero (S := S1408x1024) origin]

end cases

theorem zero_at (a : Fin 1408) (b : Fin 1024) : (k0_pay1 : FVec Ideal S1408x1024 .f32) (ix2 a b) = 0 := by
  pointwise [k0_pay1]

theorem step_at (acc : Vec Ideal S1408x1024 .f32) (x : Vec Ideal S2048x1408 .bf16) (y : Vec Ideal S2048x1024 .bf16) (a : Fin 1408) (b : Fin 1024) :
    k0_pay2 acc x y (ix2 a b) = acc (ix2 a b) + ∑ s : Fin 2048, x (ix2 s a) * y (ix2 s b) := by
  pointwise [k0_pay2]

theorem scaled_at (acc : Vec Ideal S1408x1024 .f32) (a : Fin 1408) (b : Fin 1024) :
    k0_pay3 acc (ix2 a b) = acc (ix2 a b) := by
  pointwise [k0_pay3]

variable (m : (ℓ : Loc nD τ sig) → Buf (Elt Ideal) ℓ) (c : Dev nD)

/-- The layer's input. -/
abbrev argH : Vec Ideal S8192x1024 .f32 := m ((c.tc : Thread nD τ).loc main_arg0)
/-- The cotangent of the layer's output. -/
abbrev argC : Vec Ideal S8192x2816 .f32 := m ((c.tc : Thread nD τ).loc main_arg1)

/-- The windows' block indices at each grid point. -/
theorem windows_at : ∀ t : Fin cfg0.N, win0_0.index t = ![t.val % 4, t.val / 4] ∧ win0_1.index t = ![t.val % 4, 0]
    ∧ win0_2.index t = ![t.val / 4, 0] := by decide +kernel

theorem cotangent_at (t : Fin cfg0.N) (s : Fin 2048) (a : Fin 1408) :
    iblk m c 0 t (ix2 s a) = argC m c (ix2 (token t.val s) (column (t.val / 4) a)) := by
  have ht : t.val < 8 := lt_of_lt_of_eq t.isLt N_0
  have e : V m c main_v0 = argC m c := by
    unfold V
    after_reads_simp
    rfl
  rw [← e]
  unfold token column
  obtain ⟨h0, h1, h2⟩ := windows_at t
  blk_ext [iblk, h0]

theorem input_at (t : Fin cfg0.N) (s : Fin 2048) (b : Fin 1024) :
    iblk m c 1 t (ix2 s b) = argH m c (ix2 (token t.val s) b) := by
  have ht : t.val < 8 := lt_of_lt_of_eq t.isLt N_0
  have e : V m c main_v1 = argH m c := by
    unfold V
    after_reads_simp
    rfl
  rw [← e]
  unfold token
  obtain ⟨h0, h1, h2⟩ := windows_at t
  blk_ext [iblk, h1]

/-- The products of the tokens of block `u`, summed. -/
def part (u : ℕ) (n : ℕ) (a : Fin 1408) (b : Fin 1024) : EReal :=
  ∑ s : Fin 2048, argC m c (ix2 (token u s) (column n a)) * argH m c (ix2 (token u s) b)

theorem step_of (t : Fin cfg0.N) (acc : Vec Ideal S1408x1024 .f32) (a : Fin 1408) (b : Fin 1024) :
    k0_pay2 acc (iblk m c 0 t) (iblk m c 1 t) (ix2 a b) = acc (ix2 a b) + part m c t.val (t.val / 4) a b := by
  rw [step_at]
  exact congrArg _ (Finset.sum_congr rfl fun s _ => by rw [cotangent_at, input_at])

/-- After each grid point the carried sum covers the blocks of tokens so far. -/
theorem carried (n : ℕ) (hn : n < cfg0.N) (a : Fin 1408) (b : Fin 1024) :
    (outsAt0 m c n hn).2 (ix2 a b) = ∑ u ∈ Finset.range (n % 4 + 1), part m c u (n / 4) a b := by
  have h8 : n < 8 := lt_of_lt_of_eq hn N_0
  have fold : ∀ k, part m c n k a b = part m c (n % 4) k a b := fun k => by
    unfold part token
    simp only [Nat.mod_mod]
  induction n with
  | zero =>
    rw [outsAt0_A m c ⟨0, hn⟩ rfl (by show ¬0 % 4 = 3; omega), first]
    refine (step_of m c ⟨0, hn⟩ _ a b).trans ?_
    rw [zero_at, zero_add, Finset.sum_range_one]
  | succ n ih =>
    by_cases h0 : (n + 1) % 4 = 0
    · rw [outsAt0_A m c ⟨n + 1, hn⟩ h0 (by show ¬(n + 1) % 4 = 3; omega), first]
      refine (step_of m c ⟨n + 1, hn⟩ _ a b).trans ?_
      rw [zero_at, zero_add, fold, h0, Finset.sum_range_one]
    · have hs := ih (by omega) (by omega) (fun k => by unfold part token; simp only [Nat.mod_mod])
      have goal : (outsAt0 m c n (by omega)).2 (ix2 a b) + part m c (n + 1) ((n + 1) / 4) a b
          = ∑ u ∈ Finset.range ((n + 1) % 4 + 1), part m c u ((n + 1) / 4) a b := by
        rw [hs, fold, show (n + 1) / 4 = n / 4 by omega, Finset.sum_range_succ _ ((n + 1) % 4), show (n + 1) % 4 = n % 4 + 1 by omega]
      by_cases h1 : (n + 1) % 4 = 3
      · rw [outsAt0_C m c ⟨n + 1, hn⟩ h0 h1, last]
        exact (step_of m c ⟨n + 1, hn⟩ _ a b).trans goal
      · rw [outsAt0_B m c ⟨n + 1, hn⟩ h0 h1, later]
        exact (step_of m c ⟨n + 1, hn⟩ _ a b).trans goal

/-- At the last block of tokens the stored block is the carried sum. -/
theorem written (t : Fin cfg0.N) (h1 : t.val % 4 = 3) (a : Fin 1408) (b : Fin 1024) :
    (outsAt0 m c t.val t.isLt).1 (ix2 a b) = (outsAt0 m c t.val t.isLt).2 (ix2 a b) := by
  rw [outsAt0_C m c t (by omega) h1, last, stored]
  exact scaled_at _ a b

/-- The transposed gradient of the weight. -/
def gradient : Vec Ideal S2816x1024 .bf16 := fun y => ∑ x, argC m c (ix2 x (y 0)) * argH m c (ix2 x (y 1))

theorem arr : (dats m 0 c).arrAt 2 cfg0.N = gradient m c := by
  refine (dats m 0 c).arrAt_eq_of_covers 2 _ (by decide +kernel) fun t hf y => ?_
  blk_simp
  rw [after0_2]
  have ht : t.val < 8 := lt_of_lt_of_eq t.isLt N_0
  have hl : t.val % 4 = 3 := (flush0_2 t).mp hf
  idx_vars y
  have he : (win0_2.blk t).view.emb (ix2 y0 y1) = ix2 (column (t.val / 4) y0) y1 := by
    obtain ⟨h0, h1, h2⟩ := windows_at t
    unfold column
    blk_ext [h2]
  refine Eq.trans ?_ (congrArg (gradient m c) he).symm
  refine (written m c t hl y0 y1).trans ((carried m c t.val t.isLt y0 y1).trans ?_)
  rw [hl]
  exact sum_tokens fun x => argC m c (ix2 x (column (t.val / 4) y0)) * argH m c (ix2 x y1)

end Cert.Kernel4Ideal.Hand

namespace Cert.Proof

open Idealize.ShloMosaic Idealize.ShloMosaic.TcCoe Idealize.SL.Sem

/-- The kernel on machine words ends, its arguments unchanged and its counters at zero. -/
theorem frame_kernel4 : Cert.quiescent_Kernel4 := fun m ρ _ => Cert.Kernel4.Gen.frame m ρ

/-- The kernel over the extended reals ends, its arguments unchanged and its counters at zero. -/
theorem frame_ideal4 : Cert.quiescent_Kernel4Ideal := fun m ρ _ => Cert.Kernel4Ideal.Gen.frame m ρ

/-- The reference ends, its arguments unchanged and its counters at zero. -/
theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The reference's transposed gradient at an entry. -/
theorem reference4 (h : Vec Ideal Cert.Reference4Ideal.S8192x1024 .f32) (ct : Vec Ideal Cert.Reference4Ideal.S8192x2816 .f32) :
    Cert.Reference4Ideal.Read.val_main_v5 (F := Ideal) h ct = fun y => ∑ x, ct (ix2 x (y 0)) * h (ix2 x (y 1)) := by
  funext y
  rw [Cert.Reference4Ideal.Read.val_main_v5_apply, Cert.Reference4Ideal.Read.val_main_v4_apply, Cert.Reference4Ideal.Read.val_main_v3_apply,
    Cert.Reference4Ideal.Read.val_main_v2_apply]
  refine Finset.sum_congr rfl fun x _ => congrArg₂ (· * ·) (congrArg ct ?_) (congrArg h ?_)
  · funext a; match a with | ⟨0, _⟩ => rfl | ⟨1, _⟩ => rfl
  · funext a; match a with | ⟨0, _⟩ => rfl | ⟨1, _⟩ => rfl

/-- The weight kernel and the reference leave the same gradient. -/
theorem algebraic4 : Cert.algebraic_Kernel4Ideal_Reference4Ideal := by
  intro m g m' g' _ hm
  refine ⟨fun c => Cert.Kernel4Ideal.Hand.gradient m c, ?_, ?_⟩
  · exact (θ_run Cert.Kernel4Ideal.defs _ _).mono (fun r h c => ⟨(h c).1.trans (Cert.Kernel4Ideal.Hand.arr m c), (h c).2⟩)
      (Cert.Kernel4Ideal.Value.run_blocks m g)
  · refine (θ_run Cert.Reference4Ideal.defs _ _).mono (fun r h c => ⟨(h c).1.trans ?_, (h c).2⟩) (Cert.Reference4Ideal.Value.run (F := Ideal) m' g')
    obtain ⟨e0, e1⟩ := hm c
    rw [Cert.Reference4Ideal.Read.val_main_v5_eq, e0, e1]
    exact reference4 _ _

end Cert.Proof
-- ==== Proof.Down.lean ====
/- The gradient of the down projection's weight. -/
module

public import proofs.«01_k».proof.Proof.Rows
public import proofs.«01_k».proof.Proof.Gen.Kernel5Ideal.Value
public import Idealize.ShloMosaic.Lib.StableHlo.ReadAt
public import Idealize.ShloMosaic.Lib.Claim
public import Idealize.ShloMosaic.Lib.Pipeline.FrameBody
public import proofs.«01_k».proof.Defs
public import proofs.«01_k».proof.Proof.Gen.Kernel5.Frame
public import proofs.«01_k».proof.Proof.Gen.Reference5Ideal.Run
public import proofs.«01_k».proof.Proof.Gen.Reference5Ideal.Read
public import Idealize.ShloMosaic.Lib.Quiescent

@[expose] public section

set_option maxRecDepth 16384

noncomputable section

namespace Cert.Kernel5Ideal.Hand

open Idealize.ShloMosaic Idealize.ShloMosaic.TcCoe Cert.Kernel5Ideal Cert.Kernel5Ideal.Gen Cert.Rows

theorem origin : (![0, 0] : Fin 2 → ℕ) = fun _ => 0 := by decide

section cases
variable {F : FTy → Type} [FloatOps F] (c : Dev nD) (i : grid0.Coords)
  (a2 : Memref sig .tc .vmem S2048x1408 .bf16) (h2 : a2.IsWhole) (a3 : Memref sig .tc .vmem S2048x1024 .f32) (h3 : a3.IsWhole)
  (a4 : Memref sig .tc .vmem S1408x1024 .bf16) (h4 : a4.IsWhole) (a5 : Memref sig .tc .vmem S1408x1024 .f32) (h5 : a5.IsWhole)
  (x : Vec F S2048x1408 .bf16) (y : Vec F S2048x1024 .f32) (acc : Vec F S1408x1024 .f32)

/-- The first block of tokens starts the sum from zero. -/
theorem first (hc0 : cond0_0 i) (hc1 : ¬cond0_1 i) :
    sout0_A_0 c i a2 h2 a3 h3 a4 h4 a5 h5 hc0 hc1 x y = k0_pay2 k0_pay1 x y := by
  unfold sout0_A_0
  rw [View.read_writes_eq_canon _ _ _ (scover0_A_0 c i a2 h2 a3 h3 a4 h4 a5 h5 hc0 hc1 x y)]
  unfold kernelRun0_A
  dsimp only
  sl_unfold_words
  rw [View.canon_cons_unit_zero (S := S1408x1024) origin, View.readCov_unit_zero (S := S1408x1024) _ origin]
  simp only [View.readAt_eq_ld, h2.read_unread, h3.read_unread, View.ld_unit_zero (S := S2048x1408) origin, View.ld_unit_zero (S := S2048x1024) origin,
    View.ld_unit_zero (S := S1408x1024) origin]

/-- A later block adds its products. -/
theorem later (hc0 : ¬cond0_0 i) (hc1 : ¬cond0_1 i) :
    sout0_B_0 c i a2 h2 a3 h3 a4 h4 a5 h5 hc0 hc1 x y acc = k0_pay2 acc x y := by
  unfold sout0_B_0
  rw [View.read_writes_eq_canon _ _ _ (scover0_B_0 c i a2 h2 a3 h3 a4 h4 a5 h5 hc0 hc1 x y acc)]
  unfold kernelRun0_B
  dsimp only
  rw [View.canon_unit_zero origin]
  simp only [View.readAt_eq_ld, h2.read_unread, h3.read_unread, h5.read_unread, View.ld_unit_zero (S := S2048x1408) origin, View.ld_unit_zero (S := S2048x1024) origin,
    View.ld_unit_zero (S := S1408x1024) origin]

/-- So does the last block … -/
theorem last (hc0 : ¬cond0_0 i) (hc1 : cond0_1 i) :
    sout0_C_0 c i a2 h2 a3 h3 a4 h4 a5 h5 hc0 hc1 x y acc = k0_pay2 acc x y := by
  unfold sout0_C_0
  rw [View.read_writes_eq_canon _ _ _ (scover0_C_0 c i a2 h2 a3 h3 a4 h4 a5 h5 hc0 hc1 x y acc)]
  unfold kernelRun0_C
  dsimp only
  sl_unfold_words
  rw [View.canon_unit_zero origin]
  simp only [View.readAt_eq_ld, h2.read_unread, h3.read_unread, h5.read_unread, View.ld_unit_zero (S := S2048x1408) origin, View.ld_unit_zero (S := S2048x1024) origin,
    View.ld_unit_zero (S := S1408x1024) origin]

/-- … which also stores the scaled sum. -/
theorem stored (hc0 : ¬cond0_0 i) (hc1 : cond0_1 i) :
    out0_C_2 c i a2 h2 a3 h3 a4 h4 a5 h5 hc0 hc1 x y acc = k0_pay3 (k0_pay2 acc x y) := by
  unfold out0_C_2
  rw [View.read_writes_eq_canon _ _ _ (cover0_C_2 c i a2 h2 a3 h3 a4 h4 a5 h5 hc0 hc1 x y acc)]
  unfold kernelRun0_C
  dsimp only
  sl_unfold_words
  rw [View.canon_unit_zero origin, View.readCov_unit_zero (S := S1408x1024) _ origin]
  simp only [View.readAt_eq_ld, h2.read_unread, h3.read_unread, h5.read_unread, View.ld_unit_zero (S := S2048x1408) origin, View.ld_unit_zero (S := S2048x1024) origin,
    View.ld_unit_zero (S := S1408x1024) origin]

end cases

theorem zero_at (a : Fin 1408) (b : Fin 1024) : (k0_pay1 : FVec Ideal S1408x1024 .f32) (ix2 a b) = 0 := by
  pointwise [k0_pay1]

theorem step_at (acc : Vec Ideal S1408x1024 .f32) (x : Vec Ideal S2048x1408 .bf16) (y : Vec Ideal S2048x1024 .f32) (a : Fin 1408) (b : Fin 1024) :
    k0_pay2 acc x y (ix2 a b) = acc (ix2 a b) + ∑ s : Fin 2048, x (ix2 s a) * y (ix2 s b) := by
  pointwise [k0_pay2]

/-- One half. -/
abbrev half : EReal := Ideal.ofBits .f32 0x3F000000#32

theorem scaled_at (acc : Vec Ideal S1408x1024 .f32) (a : Fin 1408) (b : Fin 1024) :
    k0_pay3 acc (ix2 a b) = half * acc (ix2 a b) := by
  pointwise [k0_pay3]

variable (m : (ℓ : Loc nD τ sig) → Buf (Elt Ideal) ℓ) (c : Dev nD)

/-- The layer's input. -/
abbrev argX : Vec Ideal S8192x2816 .f32 := m ((c.tc : Thread nD τ).loc main_arg0)
/-- The cotangent of the layer's output. -/
abbrev argC : Vec Ideal S8192x1024 .f32 := m ((c.tc : Thread nD τ).loc main_arg1)

/-- The windows' block indices at each grid point. -/
theorem windows_at : ∀ t : Fin cfg0.N, win0_0.index t = ![t.val % 4, t.val / 4] ∧ win0_1.index t = ![t.val % 4, 0]
    ∧ win0_2.index t = ![t.val / 4, 0] := by decide +kernel

theorem input_at (t : Fin cfg0.N) (s : Fin 2048) (a : Fin 1408) :
    iblk m c 0 t (ix2 s a) = argX m c (ix2 (token t.val s) (column (t.val / 4) a)) := by
  have ht : t.val < 8 := lt_of_lt_of_eq t.isLt N_0
  have e : V m c main_v0 = argX m c := by
    unfold V
    after_reads_simp
    rfl
  rw [← e]
  unfold token column
  obtain ⟨h0, h1, h2⟩ := windows_at t
  blk_ext [iblk, h0]

theorem cotangent_at (t : Fin cfg0.N) (s : Fin 2048) (b : Fin 1024) :
    iblk m c 1 t (ix2 s b) = argC m c (ix2 (token t.val s) b) := by
  have ht : t.val < 8 := lt_of_lt_of_eq t.isLt N_0
  have e : V m c main_arg1 = argC m c := by
    unfold V
    after_reads_simp
  rw [← e]
  unfold token
  obtain ⟨h0, h1, h2⟩ := windows_at t
  blk_ext [iblk, h1]

/-- The products of the tokens of block `u`, summed. -/
def part (u : ℕ) (n : ℕ) (a : Fin 1408) (b : Fin 1024) : EReal :=
  ∑ s : Fin 2048, argX m c (ix2 (token u s) (column n a)) * argC m c (ix2 (token u s) b)

theorem step_of (t : Fin cfg0.N) (acc : Vec Ideal S1408x1024 .f32) (a : Fin 1408) (b : Fin 1024) :
    k0_pay2 acc (iblk m c 0 t) (iblk m c 1 t) (ix2 a b) = acc (ix2 a b) + part m c t.val (t.val / 4) a b := by
  rw [step_at]
  exact congrArg _ (Finset.sum_congr rfl fun s _ => by rw [input_at, cotangent_at])

/-- After each grid point the carried sum covers the blocks of tokens so far. -/
theorem carried (n : ℕ) (hn : n < cfg0.N) (a : Fin 1408) (b : Fin 1024) :
    (outsAt0 m c n hn).2 (ix2 a b) = ∑ u ∈ Finset.range (n % 4 + 1), part m c u (n / 4) a b := by
  have h8 : n < 8 := lt_of_lt_of_eq hn N_0
  have fold : ∀ k, part m c n k a b = part m c (n % 4) k a b := fun k => by
    unfold part token
    simp only [Nat.mod_mod]
  induction n with
  | zero =>
    rw [outsAt0_A m c ⟨0, hn⟩ rfl (by show ¬0 % 4 = 3; omega), first]
    refine (step_of m c ⟨0, hn⟩ _ a b).trans ?_
    rw [zero_at, zero_add, Finset.sum_range_one]
  | succ n ih =>
    by_cases h0 : (n + 1) % 4 = 0
    · rw [outsAt0_A m c ⟨n + 1, hn⟩ h0 (by show ¬(n + 1) % 4 = 3; omega), first]
      refine (step_of m c ⟨n + 1, hn⟩ _ a b).trans ?_
      rw [zero_at, zero_add, fold, h0, Finset.sum_range_one]
    · have hs := ih (by omega) (by omega) (fun k => by unfold part token; simp only [Nat.mod_mod])
      have goal : (outsAt0 m c n (by omega)).2 (ix2 a b) + part m c (n + 1) ((n + 1) / 4) a b
          = ∑ u ∈ Finset.range ((n + 1) % 4 + 1), part m c u ((n + 1) / 4) a b := by
        rw [hs, fold, show (n + 1) / 4 = n / 4 by omega, Finset.sum_range_succ _ ((n + 1) % 4), show (n + 1) % 4 = n % 4 + 1 by omega]
      by_cases h1 : (n + 1) % 4 = 3
      · rw [outsAt0_C m c ⟨n + 1, hn⟩ h0 h1, last]
        exact (step_of m c ⟨n + 1, hn⟩ _ a b).trans goal
      · rw [outsAt0_B m c ⟨n + 1, hn⟩ h0 h1, later]
        exact (step_of m c ⟨n + 1, hn⟩ _ a b).trans goal

/-- At the last block of tokens the stored block is half the carried sum. -/
theorem written (t : Fin cfg0.N) (h1 : t.val % 4 = 3) (a : Fin 1408) (b : Fin 1024) :
    (outsAt0 m c t.val t.isLt).1 (ix2 a b) = half * (outsAt0 m c t.val t.isLt).2 (ix2 a b) := by
  rw [outsAt0_C m c t (by omega) h1, last, stored]
  exact scaled_at _ a b

/-- The transposed gradient of the weight. -/
def gradient : Vec Ideal S2816x1024 .bf16 := fun y => half * ∑ x, argX m c (ix2 x (y 0)) * argC m c (ix2 x (y 1))

theorem arr : (dats m 0 c).arrAt 2 cfg0.N = gradient m c := by
  refine (dats m 0 c).arrAt_eq_of_covers 2 _ (by decide +kernel) fun t hf y => ?_
  blk_simp
  rw [after0_2]
  have ht : t.val < 8 := lt_of_lt_of_eq t.isLt N_0
  have hl : t.val % 4 = 3 := (flush0_2 t).mp hf
  idx_vars y
  have he : (win0_2.blk t).view.emb (ix2 y0 y1) = ix2 (column (t.val / 4) y0) y1 := by
    obtain ⟨h0, h1, h2⟩ := windows_at t
    unfold column
    blk_ext [h2]
  refine Eq.trans ?_ (congrArg (gradient m c) he).symm
  refine (written m c t hl y0 y1).trans ((congrArg (half * ·) (carried m c t.val t.isLt y0 y1)).trans ?_)
  rw [hl]
  exact congrArg (half * ·) (sum_tokens fun x => argX m c (ix2 x (column (t.val / 4) y0)) * argC m c (ix2 x y1))

end Cert.Kernel5Ideal.Hand

namespace Cert.Proof

open Idealize.ShloMosaic Idealize.ShloMosaic.TcCoe Idealize.SL.Sem

/-- The kernel on machine words ends, its arguments unchanged and its counters at zero. -/
theorem frame_kernel5 : Cert.quiescent_Kernel5 := fun m ρ _ => Cert.Kernel5.Gen.frame m ρ

/-- The kernel over the extended reals ends, its arguments unchanged and its counters at zero. -/
theorem frame_ideal5 : Cert.quiescent_Kernel5Ideal := fun m ρ _ => Cert.Kernel5Ideal.Gen.frame m ρ

/-- The reference ends, its arguments unchanged and its counters at zero. -/
theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- Half of a sum is the sum of the halves. -/
theorem half_sum {ι : Type} (s : Finset ι) (f : ι → EReal) :
    Cert.Kernel5Ideal.Hand.half * ∑ x ∈ s, f x = ∑ x ∈ s, Cert.Kernel5Ideal.Hand.half * f x := by
  classical
  have hh : Cert.Kernel5Ideal.Hand.half = ((1 / 2 : ℝ) : EReal) := by
    show Ideal.ofBits .f32 0x3F000000#32 = _
    simp [Ideal.ofBits, Ideal.ieee, -EReal.coe_mul]
    norm_num
  induction s using Finset.induction_on with
  | empty => simp
  | insert a s ha ih =>
    rw [Finset.sum_insert ha, Finset.sum_insert ha, ← ih, hh]
    exact EReal.left_distrib_of_nonneg_of_ne_top (by exact_mod_cast (by norm_num : (0:ℝ) ≤ 1 / 2)) (EReal.coe_ne_top _) _ _

/-- The reference's gradient at an entry. -/
theorem reference5 (x : Vec Ideal Cert.Reference5Ideal.S8192x2816 .f32) (ct : Vec Ideal Cert.Reference5Ideal.S8192x1024 .f32) :
    Cert.Reference5Ideal.Read.val_main_v8 (F := Ideal) x ct
      = fun y => Cert.Kernel5Ideal.Hand.half * ∑ t, x (ix2 t (y 0)) * ct (ix2 t (y 1)) := by
  funext y
  rw [Cert.Reference5Ideal.Read.val_main_v8_apply, Cert.Reference5Ideal.Read.val_main_v7_apply, Cert.Reference5Ideal.Read.val_main_v6_apply, half_sum]
  refine Finset.sum_congr rfl fun t _ => ?_
  rw [mul_comm (x _), ← mul_assoc]
  refine congrArg₂ (· * ·) (congrArg (Cert.Kernel5Ideal.Hand.half * ·) (congrArg ct ?_)) (congrArg x ?_)
  · funext a; match a with | ⟨0, _⟩ => rfl | ⟨1, _⟩ => rfl
  · funext a; match a with | ⟨0, _⟩ => rfl | ⟨1, _⟩ => rfl

/-- The kernel of the down projection's weight and the reference leave the same gradient. -/
theorem algebraic5 : Cert.algebraic_Kernel5Ideal_Reference5Ideal := by
  intro m g m' g' _ hm
  refine ⟨fun c => Cert.Kernel5Ideal.Hand.gradient m c, ?_, ?_⟩
  · exact (θ_run Cert.Kernel5Ideal.defs _ _).mono (fun r h c => ⟨(h c).1.trans (Cert.Kernel5Ideal.Hand.arr m c), (h c).2⟩)
      (Cert.Kernel5Ideal.Value.run_blocks m g)
  · refine (θ_run Cert.Reference5Ideal.defs _ _).mono (fun r h c => ⟨(h c).1.trans ?_, (h c).2⟩) (Cert.Reference5Ideal.Value.run (F := Ideal) m' g')
    obtain ⟨e0, e1⟩ := hm c
    rw [Cert.Reference5Ideal.Read.val_main_v8_eq, e0, e1]
    exact reference5 _ _

end Cert.Proof
-- ==== Proof.Up.lean ====
/- The normalised input of the gated layer, its two projections and the activation. -/
module

public import proofs.«01_k».proof.Proof.NormRow
public import proofs.«01_k».proof.Proof.Algebraic
public import proofs.«01_k».proof.Proof.Activation
public import proofs.«01_k».proof.Proof.Gen.Kernel6Ideal.Value
public import Idealize.ShloMosaic.Lib.StableHlo.ReadAt
public import Idealize.ShloMosaic.Lib.Claim
public import Idealize.ShloMosaic.Lib.Pipeline.ValueKit
public import Idealize.ShloMosaic.Lib.Pipeline.FrameBody
public import proofs.«01_k».proof.Defs
public import proofs.«01_k».proof.Proof.Gen.Kernel6.Frame
public import proofs.«01_k».proof.Proof.Gen.Reference6Ideal.Run
public import proofs.«01_k».proof.Proof.Gen.Reference6Ideal.Read
public import Idealize.ShloMosaic.Lib.Quiescent

@[expose] public section

set_option maxRecDepth 16384

noncomputable section

namespace Cert.Kernel6Ideal.Hand

open Idealize.ShloMosaic Idealize.ShloMosaic.TcCoe Cert.Kernel6Ideal Cert.Kernel6Ideal.Gen Cert.Norm
open Cert.Kernel2Ideal.Hand (sigma sigma_real forms half)

theorem origin : (![0, 0] : Fin 2 → ℕ) = fun _ => 0 := by decide

/-- A row normalised, at a column. -/
def normal (x g : Fin 1024 → EReal) (k : Fin 1024) : EReal := x k * scale x * g k
/-- A normalised row against a column of a weight. -/
def dot (x g w : Fin 1024 → EReal) : EReal := ∑ k, normal x g k * w k
/-- The logistic function by the hyperbolic tangent. -/
def squash (a : EReal) : EReal := half * Ideal.tanh (half * a) + half
/-- The slope of the activation times the other factor. -/
def slope (a b : EReal) : EReal := b * (squash a + a * squash a * (1 - squash a))

theorem half_eq : half = ((1 / 2 : ℝ) : EReal) := by
  show Ideal.ofBits .f32 0x3F000000#32 = _
  simp [Ideal.ofBits, Ideal.ieee, -EReal.coe_mul]
  norm_num

/-- The two forms of the logistic function agree. -/
theorem squash_eq (a : EReal) : squash a = sigma a := by
  unfold squash
  rw [half_eq]
  induction a with
  | bot =>
    obtain ⟨s, hs, -, h0⟩ := sigma_real ⊥
    rw [hs, h0 rfl, EReal.coe_mul_bot_of_pos (by norm_num), Ideal.tanh_bot, mul_neg, mul_one, ← EReal.coe_neg, ← EReal.coe_add]
    norm_num
  | top =>
    obtain ⟨s, hs, h1, -⟩ := sigma_real ⊤
    rw [hs, h1 rfl, EReal.coe_mul_top_of_pos (by norm_num), Ideal.tanh_top, mul_one, ← EReal.coe_add]
    norm_num
  | coe x =>
    rw [← EReal.coe_mul, Ideal.tanh_coe, ← EReal.coe_mul, ← EReal.coe_add]
    unfold sigma
    rw [← EReal.coe_neg, Ideal.exp_coe, ← EReal.coe_one, ← EReal.coe_add, Cert.Attention.div_real _ _ (by positivity)]
    refine congrArg Real.toEReal ?_
    have hp : Real.exp (1 / 2 * x) ≠ 0 := (Real.exp_pos _).ne'
    have e1 : Real.exp (-(1 / 2 * x)) = (Real.exp (1 / 2 * x))⁻¹ := Real.exp_neg _
    have e2 : Real.exp (-x) = (Real.exp (1 / 2 * x))⁻¹ * (Real.exp (1 / 2 * x))⁻¹ := by
      rw [← e1, ← Real.exp_add]
      exact congrArg Real.exp (by ring)
    have hq : 0 < Real.exp (1 / 2 * x) := Real.exp_pos _
    rw [Real.tanh_eq_sinh_div_cosh, Real.sinh_eq, Real.cosh_eq, e1, e2]
    generalize Real.exp (1 / 2 * x) = p at hp hq
    field_simp
    ring

section block
variable (x0 : Vec Ideal S256x1024 .f32) (x1 : Vec Ideal S1x1024 .f32) (x2 x3 : Vec Ideal S2816x1024 .bf16) (r : Fin 256)

theorem out4_at (d : Fin 1024) : out0_4 x0 x1 x2 x3 (ix2 r d) = normal (fun k => x0 (ix2 r k)) (fun k => x1 (ix2 0 k)) d := by
  unfold out0_4
  rw [View.canon_unit_zero origin]
  simp only [View.ld_unit_zero (S := S256x1024) origin, View.ld_unit_zero (S := S1x1024) origin]
  unfold normal scale square width eps
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85]
  all_goals rfl

theorem out5_at (q : Fin 2816) : out0_5 x0 x1 x2 x3 (ix2 r q) = (dot (fun k => x0 (ix2 r k)) (fun k => x1 (ix2 0 k)) (fun k => x2 (ix2 q k))) * squash (dot (fun k => x0 (ix2 r k)) (fun k => x1 (ix2 0 k)) (fun k => x2 (ix2 q k))) := by
  unfold_out out0_5
  canon_tiles x h
  all_goals
    idx_vars x
    unfold squash dot normal scale square width eps
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85]
    rw [show r = x0 from Fin.ext h0]
    first
      | rw [show q = ⟨x1.val, by omega⟩ from Fin.ext h1]
      | rw [show q = ⟨_, h1 ▸ q.isLt⟩ from Fin.ext h1]

theorem out6_at (q : Fin 2816) : out0_6 x0 x1 x2 x3 (ix2 r q) = slope (dot (fun k => x0 (ix2 r k)) (fun k => x1 (ix2 0 k)) (fun k => x2 (ix2 q k))) (dot (fun k => x0 (ix2 r k)) (fun k => x1 (ix2 0 k)) (fun k => x3 (ix2 q k))) := by
  unfold_out out0_6
  canon_tiles x h
  all_goals
    idx_vars x
    unfold slope squash dot normal scale square width eps
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85]
    rw [show r = x0 from Fin.ext h0]
    first
      | rw [show q = ⟨x1.val, by omega⟩ from Fin.ext h1]
      | rw [show q = ⟨_, h1 ▸ q.isLt⟩ from Fin.ext h1]

theorem out7_at (q : Fin 2816) : out0_7 x0 x1 x2 x3 (ix2 r q) = (dot (fun k => x0 (ix2 r k)) (fun k => x1 (ix2 0 k)) (fun k => x2 (ix2 q k))) * squash (dot (fun k => x0 (ix2 r k)) (fun k => x1 (ix2 0 k)) (fun k => x2 (ix2 q k))) * (dot (fun k => x0 (ix2 r k)) (fun k => x1 (ix2 0 k)) (fun k => x3 (ix2 q k))) := by
  unfold_out out0_7
  canon_tiles x h
  all_goals
    idx_vars x
    unfold squash dot normal scale square width eps
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85]
    rw [show r = x0 from Fin.ext h0]
    first
      | rw [show q = ⟨x1.val, by omega⟩ from Fin.ext h1]
      | rw [show q = ⟨_, h1 ▸ q.isLt⟩ from Fin.ext h1]

end block

variable (m : (ℓ : Loc nD τ sig) → Buf (Elt Ideal) ℓ) (c : Dev nD)

/-- The layer's input. -/
abbrev argX : Vec Ideal S8192x1024 .f32 := m ((c.tc : Thread nD τ).loc main_arg0)
/-- The norm's gain. -/
abbrev argG : Vec Ideal S1x1024 .f32 := m ((c.tc : Thread nD τ).loc main_arg1)
/-- The gate's weight. -/
abbrev argA : Vec Ideal S1024x2816 .f32 := m ((c.tc : Thread nD τ).loc main_arg2)
/-- The up projection's weight. -/
abbrev argB : Vec Ideal S1024x2816 .f32 := m ((c.tc : Thread nD τ).loc main_arg3)

section arrays
variable (x : Vec Ideal S8192x1024 .f32) (g : Vec Ideal S1x1024 .f32) (w v : Vec Ideal S1024x2816 .f32)

/-- The normalised input. -/
def hidden : Vec Ideal S8192x1024 .bf16 := fun y => normal (fun k => x (ix2 (y 0) k)) (fun k => g (ix2 0 k)) (y 1)
/-- A projection. -/
def proj (y : S8192x2816.Idx) : EReal := dot (fun k => x (ix2 (y 0) k)) (fun k => g (ix2 0 k)) (fun k => w (ix2 k (y 1)))
/-- The gate's activation. -/
def silu : Vec Ideal S8192x2816 .bf16 := fun y => proj x g w y * squash (proj x g w y)
/-- The slope of the product in the gate. -/
def dgate : Vec Ideal S8192x2816 .bf16 := fun y => slope (proj x g w y) (proj x g v y)
/-- The product. -/
def act : Vec Ideal S8192x2816 .bf16 := fun y => proj x g w y * squash (proj x g w y) * proj x g v y

end arrays

theorem V_input : (V m c main_arg0 : Vec Ideal S8192x1024 .f32) = argX m c := by
  unfold V
  after_reads_simp

theorem V_gain : (V m c main_arg1 : Vec Ideal S1x1024 .f32) = argG m c := by
  unfold V
  after_reads_simp

theorem V_gate (q : Fin 2816) (k : Fin 1024) : (V m c main_v1 : Vec Ideal S2816x1024 .bf16) (ix2 q k) = argA m c (ix2 k q) := by
  unfold V
  after_reads_simp
  pointwise []
  all_goals rfl

theorem V_up (q : Fin 2816) (k : Fin 1024) : (V m c main_v3 : Vec Ideal S2816x1024 .bf16) (ix2 q k) = argB m c (ix2 k q) := by
  unfold V
  after_reads_simp
  pointwise []
  all_goals rfl

/-- The windows' block indices at each grid point. -/
theorem windows_at : ∀ t : Fin cfg0.N, win0_0.index t = ![t.val, 0]
    ∧ win0_1.index t = ![0, 0]
    ∧ win0_2.index t = ![0, 0]
    ∧ win0_3.index t = ![0, 0]
    ∧ win0_4.index t = ![t.val, 0]
    ∧ win0_5.index t = ![t.val, 0]
    ∧ win0_6.index t = ![t.val, 0]
    ∧ win0_7.index t = ![t.val, 0] := by decide +kernel

/-- Row `r` of the block of tokens with number `n`. -/
def row (n : ℕ) (r : Fin 256) : Fin 8192 := ⟨n % 32 * 256 + r.val, by have := r.isLt; omega⟩

section point
variable (t : Fin cfg0.N)

theorem input_at (r : Fin 256) (d : Fin 1024) : iblk m c 0 t (ix2 r d) = argX m c (ix2 (row t.val r) d) := by
  have ht : t.val < 32 := lt_of_lt_of_eq t.isLt N_0
  rw [← V_input]
  unfold row
  obtain ⟨h0, h1, h2, h3, h4, h5, h6, h7⟩ := windows_at t
  blk_ext [iblk, h0]

theorem gain_at (a : Fin 1) (d : Fin 1024) : iblk m c 1 t (ix2 a d) = argG m c (ix2 a d) := by
  have ht : t.val < 32 := lt_of_lt_of_eq t.isLt N_0
  rw [← V_gain]
  obtain ⟨h0, h1, h2, h3, h4, h5, h6, h7⟩ := windows_at t
  blk_ext [iblk, h1]

theorem gate_at (q : Fin 2816) (k : Fin 1024) : iblk m c 2 t (ix2 q k) = argA m c (ix2 k q) := by
  have ht : t.val < 32 := lt_of_lt_of_eq t.isLt N_0
  rw [← V_gate]
  obtain ⟨h0, h1, h2, h3, h4, h5, h6, h7⟩ := windows_at t
  blk_ext [iblk, h2]

theorem up_at (q : Fin 2816) (k : Fin 1024) : iblk m c 3 t (ix2 q k) = argB m c (ix2 k q) := by
  have ht : t.val < 32 := lt_of_lt_of_eq t.isLt N_0
  rw [← V_up]
  obtain ⟨h0, h1, h2, h3, h4, h5, h6, h7⟩ := windows_at t
  blk_ext [iblk, h3]

end point

theorem arr4 : (dats m 0 c).arrAt 4 cfg0.N = hidden (argX m c) (argG m c) := by
  refine (dats m 0 c).arrAt_eq_of_covers 4 _ (by decide +kernel) fun t hf y => ?_
  blk_simp
  rw [after0_4]
  have ht : t.val < 32 := lt_of_lt_of_eq t.isLt N_0
  idx_vars y
  have he : (win0_4.blk t).view.emb (ix2 y0 y1) = ix2 (row t.val y0) y1 := by
    obtain ⟨h0, h1, h2, h3, h4, h5, h6, h7⟩ := windows_at t
    unfold row
    blk_ext [h4]
  refine Eq.trans ?_ (congrArg (hidden (argX m c) (argG m c)) he).symm
  refine (out4_at _ _ _ _ _ _).trans ?_
  simp only [input_at, gain_at, gate_at, up_at]
  rfl

theorem arr5 : (dats m 0 c).arrAt 5 cfg0.N = silu (argX m c) (argG m c) (argA m c) := by
  refine (dats m 0 c).arrAt_eq_of_covers 5 _ (by decide +kernel) fun t hf y => ?_
  blk_simp
  rw [after0_5]
  have ht : t.val < 32 := lt_of_lt_of_eq t.isLt N_0
  idx_vars y
  have he : (win0_5.blk t).view.emb (ix2 y0 y1) = ix2 (row t.val y0) y1 := by
    obtain ⟨h0, h1, h2, h3, h4, h5, h6, h7⟩ := windows_at t
    unfold row
    blk_ext [h5]
  refine Eq.trans ?_ (congrArg (silu (argX m c) (argG m c) (argA m c)) he).symm
  refine (out5_at _ _ _ _ _ _).trans ?_
  simp only [input_at, gain_at, gate_at, up_at]
  rfl

theorem arr6 : (dats m 0 c).arrAt 6 cfg0.N = dgate (argX m c) (argG m c) (argA m c) (argB m c) := by
  refine (dats m 0 c).arrAt_eq_of_covers 6 _ (by decide +kernel) fun t hf y => ?_
  blk_simp
  rw [after0_6]
  have ht : t.val < 32 := lt_of_lt_of_eq t.isLt N_0
  idx_vars y
  have he : (win0_6.blk t).view.emb (ix2 y0 y1) = ix2 (row t.val y0) y1 := by
    obtain ⟨h0, h1, h2, h3, h4, h5, h6, h7⟩ := windows_at t
    unfold row
    blk_ext [h6]
  refine Eq.trans ?_ (congrArg (dgate (argX m c) (argG m c) (argA m c) (argB m c)) he).symm
  refine (out6_at _ _ _ _ _ _).trans ?_
  simp only [input_at, gain_at, gate_at, up_at]
  rfl

theorem arr7 : (dats m 0 c).arrAt 7 cfg0.N = act (argX m c) (argG m c) (argA m c) (argB m c) := by
  refine (dats m 0 c).arrAt_eq_of_covers 7 _ (by decide +kernel) fun t hf y => ?_
  blk_simp
  rw [after0_7]
  have ht : t.val < 32 := lt_of_lt_of_eq t.isLt N_0
  idx_vars y
  have he : (win0_7.blk t).view.emb (ix2 y0 y1) = ix2 (row t.val y0) y1 := by
    obtain ⟨h0, h1, h2, h3, h4, h5, h6, h7⟩ := windows_at t
    unfold row
    blk_ext [h7]
  refine Eq.trans ?_ (congrArg (act (argX m c) (argG m c) (argA m c) (argB m c)) he).symm
  refine (out7_at _ _ _ _ _ _).trans ?_
  simp only [input_at, gain_at, gate_at, up_at]
  rfl

section reference
open Cert.Reference6Ideal.Read
variable (x : Vec Ideal S8192x1024 .f32) (g : Vec Ideal S1x1024 .f32) (w v : Vec Ideal S1024x2816 .f32)

theorem reference_hidden : val_main_v21 (F := Ideal) x g = hidden x g := by
  funext y
  idx_vars y
  unfold hidden normal scale square width eps
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_call0_v0, val_main_call0_v1, val_main_call0_cst, val_main_call0_v2, val_main_call0_v3, val_main_call0_cst_0, val_main_call0_v4, val_main_call0_v5, val_main_v14, val_main_call1_v0, val_main_call1_v1, val_main_call1_cst, val_main_call1_v2, val_main_call1_v3, val_main_call1_cst_0, val_main_call1_v4, val_main_v15_2, val_main_call1_cst_1, val_main_call1_v6, val_main_call1_v7, val_main_v15_1, val_main_v15_0, val_main_v16, val_main_cst_2, val_main_v17, val_main_v18, val_main_call2_v0, val_main_call2_v1, val_main_call2_v2, val_main_v19, val_main_v20, val_main_v21, val_main_v22, val_main_v23, val_main_v24]
  all_goals rfl

theorem reference_silu : val_main_v22 (F := Ideal) x g w = silu x g w := by
  funext y
  unfold silu
  rw [squash_eq]
  idx_vars y
  unfold proj dot normal scale square width eps
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_call0_v0, val_main_call0_v1, val_main_call0_cst, val_main_call0_v2, val_main_call0_v3, val_main_call0_cst_0, val_main_call0_v4, val_main_call0_v5, val_main_v14, val_main_call1_v0, val_main_call1_v1, val_main_call1_cst, val_main_call1_v2, val_main_call1_v3, val_main_call1_cst_0, val_main_call1_v4, val_main_v15_2, val_main_call1_cst_1, val_main_call1_v6, val_main_call1_v7, val_main_v15_1, val_main_v15_0, val_main_v16, val_main_cst_2, val_main_v17, val_main_v18, val_main_call2_v0, val_main_call2_v1, val_main_call2_v2, val_main_v19, val_main_v20, val_main_v21, val_main_v22, val_main_v23, val_main_v24]
  all_goals rfl

theorem reference_act : val_main_v24 (F := Ideal) x g w v = act x g w v := by
  funext y
  unfold act
  rw [squash_eq]
  idx_vars y
  unfold proj dot normal scale square width eps
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_call0_v0, val_main_call0_v1, val_main_call0_cst, val_main_call0_v2, val_main_call0_v3, val_main_call0_cst_0, val_main_call0_v4, val_main_call0_v5, val_main_v14, val_main_call1_v0, val_main_call1_v1, val_main_call1_cst, val_main_call1_v2, val_main_call1_v3, val_main_call1_cst_0, val_main_call1_v4, val_main_v15_2, val_main_call1_cst_1, val_main_call1_v6, val_main_call1_v7, val_main_v15_1, val_main_v15_0, val_main_v16, val_main_cst_2, val_main_v17, val_main_v18, val_main_call2_v0, val_main_call2_v1, val_main_call2_v2, val_main_v19, val_main_v20, val_main_v21, val_main_v22, val_main_v23, val_main_v24]
  all_goals rfl

theorem reference_dgate (y : S8192x2816.Idx) : val_main_v23 (F := Ideal) x g w v y
    = proj x g v y * sigma (proj x g w y) + proj x g w y * proj x g v y * (sigma (proj x g w y) * (1 - sigma (proj x g w y))) := by
  idx_vars y
  unfold proj dot normal scale square width eps
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_call0_v0, val_main_call0_v1, val_main_call0_cst, val_main_call0_v2, val_main_call0_v3, val_main_call0_cst_0, val_main_call0_v4, val_main_call0_v5, val_main_v14, val_main_call1_v0, val_main_call1_v1, val_main_call1_cst, val_main_call1_v2, val_main_call1_v3, val_main_call1_cst_0, val_main_call1_v4, val_main_v15_2, val_main_call1_cst_1, val_main_call1_v6, val_main_call1_v7, val_main_v15_1, val_main_v15_0, val_main_v16, val_main_cst_2, val_main_v17, val_main_v18, val_main_call2_v0, val_main_call2_v1, val_main_call2_v2, val_main_v19, val_main_v20, val_main_v21, val_main_v22, val_main_v23, val_main_v24]
  all_goals rfl

end reference

/-- A row normalised by real gains is real. -/
theorem normal_real (x g : Fin 1024 → EReal) (hg : ∀ k, ∃ r : ℝ, g k = r) (k : Fin 1024) : ∃ r : ℝ, normal x g k = r := by
  obtain ⟨b, hb⟩ := hg k
  unfold normal
  by_cases hx : ∀ k, ∃ r : ℝ, x k = r
  · choose f hf using hx
    obtain rfl : x = fun k => (f k : EReal) := funext hf
    have hu0 : 0 < (∑ k, f k * f k) * 1024⁻¹ + 8796093 / 2 ^ 43 := by
      have : 0 ≤ ∑ k, f k * f k := Finset.sum_nonneg fun k _ => mul_self_nonneg (f k)
      positivity
    have hs : square (fun k => (f k : EReal)) = (((∑ k, f k * f k) * 1024⁻¹ + 8796093 / 2 ^ 43 : ℝ) : EReal) := by
      unfold square
      rw [div_width, eps_eq]
      simp only [← EReal.coe_mul, coe_sum, ← EReal.coe_add]
    unfold scale
    rw [hs, Ideal.rsqrt_coe, if_neg (not_lt.mpr hu0.le), if_neg hu0.ne', hb]
    exact ⟨_, by rw [← EReal.coe_mul, ← EReal.coe_mul]⟩
  · obtain ⟨j, hj⟩ := not_forall.mp hx
    have hk : x j * x j = ⊤ := by
      induction hxj : x j with
      | bot => rfl
      | top => rfl
      | coe r => exact absurd ⟨r, hxj⟩ hj
    exact ⟨0, by rw [(scale_of_infinite x j hk).2, mul_zero, zero_mul, EReal.coe_zero]⟩

/-- A projection by real weights of a row normalised by real gains is real. -/
theorem dot_real (x g w : Fin 1024 → EReal) (hg : ∀ k, ∃ r : ℝ, g k = r) (hw : ∀ k, ∃ r : ℝ, w k = r) : ∃ r : ℝ, dot x g w = r := by
  choose a ha using normal_real x g hg
  choose b hb using hw
  refine ⟨∑ k, a k * b k, ?_⟩
  unfold dot
  rw [← coe_sum]
  exact Finset.sum_congr rfl fun k _ => by rw [ha k, hb k, EReal.coe_mul]

open Cert.Pre_finite_up in
/-- The slope, on a finite gain and up projection's weight. -/
theorem dgate_eq [Cert.Pre_finite_up.Facts] {x : FVec Ideal S8192x1024 .f32} {g : FVec Ideal S1x1024 .f32} {w v : FVec Ideal S1024x2816 .f32}
    (h : (fn (F := Ideal) x g w v).1 = (fun _ => 1#1) ∧ (fn (F := Ideal) x g w v).2 = (fun _ => 1#1)) :
    Cert.Reference6Ideal.Read.val_main_v23 (F := Ideal) x g w v = dgate x g w v := by
  funext y
  have hg := Cert.Proof.real_of_finite g _ (fun _ => rfl) h.1
  have hv := Cert.Proof.real_of_finite v _ (fun _ => rfl) h.2
  obtain ⟨b, hb⟩ := dot_real (fun k => x (ix2 (y 0) k)) (fun k => g (ix2 0 k)) (fun k => v (ix2 k (y 1))) (fun k => ⟨_, hg _⟩) (fun k => ⟨_, hv _⟩)
  have hp : proj x g v y = (b : EReal) := hb
  rw [reference_dgate]
  unfold dgate slope
  rw [hp, squash_eq]
  have hf := forms (proj x g w y) 1 b
  rw [EReal.coe_one, one_mul, one_mul] at hf
  exact hf.symm

end Cert.Kernel6Ideal.Hand

namespace Cert.Proof

open Idealize.ShloMosaic Idealize.ShloMosaic.TcCoe Idealize.SL.Sem Cert.Kernel6Ideal.Hand

/-- The kernel on machine words ends, its arguments unchanged and its counters at zero. -/
theorem frame_kernel6 : Cert.quiescent_Kernel6 := fun m ρ _ => Cert.Kernel6.Gen.frame m ρ

/-- The kernel over the extended reals ends, its arguments unchanged and its counters at zero. -/
theorem frame_ideal6 : Cert.quiescent_Kernel6Ideal := fun m ρ _ => Cert.Kernel6Ideal.Gen.frame m ρ

/-- The reference ends, its arguments unchanged and its counters at zero. -/
theorem frame_reference6 : Cert.quiescent_Reference6Ideal := fun m ρ _ =>
  (θ_run Cert.Reference6Ideal.defs _ _).mono (fun r h => ⟨fun c => (h c).2.2.2.2, sem_eq_zero_of_no_sems (by decide) r.2⟩)
    (Cert.Reference6Ideal.Value.run (F := Ideal) m ρ)

/-- The shapes of the precondition fit. -/
theorem finite_up_facts : Cert.Pre_finite_up.Facts := ⟨by decide, by decide⟩

/-- The gated layer's kernel and the reference leave the same arrays. -/
theorem algebraic6 : Cert.algebraic_Kernel6Ideal_Reference6Ideal_pre_finite_up (hPre_finite_up := finite_up_facts) := by
  haveI := finite_up_facts
  intro m g m' g' hP hm
  refine ⟨fun c => hidden (argX m c) (argG m c), fun c => silu (argX m c) (argG m c) (argA m c), fun c => dgate (argX m c) (argG m c) (argA m c) (argB m c), fun c => act (argX m c) (argG m c) (argA m c) (argB m c), ?_, ?_⟩
  · exact (θ_run Cert.Kernel6Ideal.defs _ _).mono (fun r h c => ⟨(h c).1.trans (arr4 m c), (h c).2.1.trans (arr5 m c), (h c).2.2.1.trans (arr6 m c),
      (h c).2.2.2.1.trans (arr7 m c), (h c).2.2.2.2⟩) (Cert.Kernel6Ideal.Value.run_blocks m g)
  · refine (θ_run Cert.Reference6Ideal.defs _ _).mono
      (fun r h c => ⟨(h c).1.trans ?_, (h c).2.1.trans ?_, (h c).2.2.1.trans ?_, (h c).2.2.2.1.trans ?_, (h c).2.2.2.2⟩)
      (Cert.Reference6Ideal.Value.run (F := Ideal) m' g')
    all_goals obtain ⟨e0, e1, e2, e3⟩ := hm c
    · rw [Cert.Reference6Ideal.Read.val_main_v21_eq, e0, e1]
      exact reference_hidden _ _
    · rw [Cert.Reference6Ideal.Read.val_main_v22_eq, e0, e1, e2]
      exact reference_silu _ _ _
    · rw [Cert.Reference6Ideal.Read.val_main_v23_eq, e0, e1, e2, e3]
      exact dgate_eq (hP c)
    · rw [Cert.Reference6Ideal.Read.val_main_v24_eq, e0, e1, e2, e3]
      exact reference_act _ _ _ _

end Cert.Proof
-- ==== Proof.DownForward.lean ====
/- The down projection and the residual. -/
module

public import proofs.«01_k».proof.Proof.Rows
public import proofs.«01_k».proof.Proof.Gen.Kernel7Ideal.Value
public import Idealize.ShloMosaic.Lib.StableHlo.ReadAt
public import Idealize.ShloMosaic.Lib.Claim
public import Idealize.ShloMosaic.Lib.Pipeline.ValueKit
public import Idealize.ShloMosaic.Lib.Pipeline.FrameBody
public import proofs.«01_k».proof.Defs
public import proofs.«01_k».proof.Proof.Gen.Kernel7.Frame
public import proofs.«01_k».proof.Proof.Gen.Reference7Ideal.Run
public import proofs.«01_k».proof.Proof.Gen.Reference7Ideal.Read
public import Idealize.ShloMosaic.Lib.Quiescent

@[expose] public section

set_option maxRecDepth 16384

noncomputable section

namespace Cert.Kernel7Ideal.Hand

open Idealize.ShloMosaic Idealize.ShloMosaic.TcCoe Cert.Kernel7Ideal Cert.Kernel7Ideal.Gen

/-- One half. -/
abbrev half : EReal := Ideal.ofBits .f32 0x3F000000#32

theorem origin : (![0, 0] : Fin 2 → ℕ) = fun _ => 0 := by decide

/-- The residual and half the product, at an entry. -/
def layer (p : Fin 2816 → EReal) (w : Fin 2816 → EReal) (x : EReal) : EReal := x + half * ∑ k, p k * w k

variable (m : (ℓ : Loc nD τ sig) → Buf (Elt Ideal) ℓ) (c : Dev nD)

/-- The activation. -/
abbrev argA : Vec Ideal S8192x2816 .f32 := m ((c.tc : Thread nD τ).loc main_arg0)
/-- The down projection's weight. -/
abbrev argW : Vec Ideal S2816x1024 .f32 := m ((c.tc : Thread nD τ).loc main_arg1)
/-- The residual. -/
abbrev argX : Vec Ideal S8192x1024 .f32 := m ((c.tc : Thread nD τ).loc main_arg2)

/-- The layer's output. -/
def result (a : Vec Ideal S8192x2816 .f32) (w : Vec Ideal S2816x1024 .f32) (x : Vec Ideal S8192x1024 .f32) : Vec Ideal S8192x1024 .f32 :=
  fun y => layer (fun k => a (ix2 (y 0) k)) (fun k => w (ix2 k (y 1))) (x y)

theorem out3_at (x0 : Vec Ideal S512x2816 .bf16) (x1 : Vec Ideal S2816x1024 .bf16) (x2 : Vec Ideal S512x1024 .f32) (r : Fin 512) (d : Fin 1024) :
    out0_3 x0 x1 x2 (ix2 r d) = layer (fun k => x0 (ix2 r k)) (fun k => x1 (ix2 k d)) (x2 (ix2 r d)) := by
  unfold out0_3
  rw [View.canon_unit_zero origin]
  simp only [View.ld_unit_zero (S := S512x2816) origin, View.ld_unit_zero (S := S2816x1024) origin, View.ld_unit_zero (S := S512x1024) origin]
  pointwise [k0_pay1]
  all_goals rfl

theorem V_act : (V m c main_v0 : Vec Ideal S8192x2816 .bf16) = argA m c := by
  unfold V
  after_reads_simp
  rfl

theorem V_weight : (V m c main_v1 : Vec Ideal S2816x1024 .bf16) = argW m c := by
  unfold V
  after_reads_simp
  rfl

theorem V_residual : (V m c main_arg2 : Vec Ideal S8192x1024 .f32) = argX m c := by
  unfold V
  after_reads_simp

/-- The windows' block indices at each grid point. -/
theorem windows_at : ∀ t : Fin cfg0.N, win0_0.index t = ![t.val, 0]
    ∧ win0_1.index t = ![0, 0]
    ∧ win0_2.index t = ![t.val, 0]
    ∧ win0_3.index t = ![t.val, 0] := by decide +kernel

/-- Row `r` of the block of tokens with number `n`. -/
def row (n : ℕ) (r : Fin 512) : Fin 8192 := ⟨n % 16 * 512 + r.val, by have := r.isLt; omega⟩

section point
variable (t : Fin cfg0.N)

theorem act_at (r : Fin 512) (k : Fin 2816) : iblk m c 0 t (ix2 r k) = argA m c (ix2 (row t.val r) k) := by
  have ht : t.val < 16 := lt_of_lt_of_eq t.isLt N_0
  rw [← V_act]
  unfold row
  obtain ⟨h0, h1, h2, h3⟩ := windows_at t
  blk_ext [iblk, h0]

theorem weight_at (k : Fin 2816) (d : Fin 1024) : iblk m c 1 t (ix2 k d) = argW m c (ix2 k d) := by
  have ht : t.val < 16 := lt_of_lt_of_eq t.isLt N_0
  rw [← V_weight]
  obtain ⟨h0, h1, h2, h3⟩ := windows_at t
  blk_ext [iblk, h1]

theorem residual_at (r : Fin 512) (d : Fin 1024) : iblk m c 2 t (ix2 r d) = argX m c (ix2 (row t.val r) d) := by
  have ht : t.val < 16 := lt_of_lt_of_eq t.isLt N_0
  rw [← V_residual]
  unfold row
  obtain ⟨h0, h1, h2, h3⟩ := windows_at t
  blk_ext [iblk, h2]

end point

theorem arr : (dats m 0 c).arrAt 3 cfg0.N = result (argA m c) (argW m c) (argX m c) := by
  refine (dats m 0 c).arrAt_eq_of_covers 3 _ (by decide +kernel) fun t hf y => ?_
  blk_simp
  rw [after0_3]
  have ht : t.val < 16 := lt_of_lt_of_eq t.isLt N_0
  idx_vars y
  have he : (win0_3.blk t).view.emb (ix2 y0 y1) = ix2 (row t.val y0) y1 := by
    obtain ⟨h0, h1, h2, h3⟩ := windows_at t
    unfold row
    blk_ext [h3]
  refine Eq.trans ?_ (congrArg (result (argA m c) (argW m c) (argX m c)) he).symm
  refine (out3_at _ _ _ _ _).trans ?_
  simp only [act_at, weight_at, residual_at]
  rfl

open Cert.Reference7Ideal.Read in
theorem reference (a : Vec Ideal S8192x2816 .f32) (w : Vec Ideal S2816x1024 .f32) (x : Vec Ideal S8192x1024 .f32) :
    val_main_v3 (F := Ideal) a w x = result a w x := by
  funext y
  idx_vars y
  pointwise [val_main_v0, val_main_cst, val_main_v1, val_main_v2, val_main_v3]
  all_goals rfl

end Cert.Kernel7Ideal.Hand

namespace Cert.Proof

open Idealize.ShloMosaic Idealize.ShloMosaic.TcCoe Idealize.SL.Sem Cert.Kernel7Ideal.Hand

/-- The kernel on machine words ends, its arguments unchanged and its counters at zero. -/
theorem frame_kernel7 : Cert.quiescent_Kernel7 := fun m ρ _ => Cert.Kernel7.Gen.frame m ρ

/-- The kernel over the extended reals ends, its arguments unchanged and its counters at zero. -/
theorem frame_ideal7 : Cert.quiescent_Kernel7Ideal := fun m ρ _ => Cert.Kernel7Ideal.Gen.frame m ρ

/-- The reference ends, its arguments unchanged and its counters at zero. -/
theorem frame_reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The down projection's kernel and the reference leave the same output. -/
theorem algebraic7 : Cert.algebraic_Kernel7Ideal_Reference7Ideal := by
  intro m g m' g' _ hm
  refine ⟨fun c => result (argA m c) (argW m c) (argX m c), ?_, ?_⟩
  · exact (θ_run Cert.Kernel7Ideal.defs _ _).mono (fun r h c => ⟨(h c).1.trans (arr m c), (h c).2⟩) (Cert.Kernel7Ideal.Value.run_blocks m g)
  · refine (θ_run Cert.Reference7Ideal.defs _ _).mono (fun r h c => ⟨(h c).1.trans ?_, (h c).2⟩)
      (Cert.Reference7Ideal.Value.run (F := Ideal) m' g')
    obtain ⟨e0, e1, e2⟩ := hm c
    rw [Cert.Reference7Ideal.Read.val_main_v3_eq, e0, e1, e2]
    exact reference _ _ _

end Cert.Proof
-- ==== Proof.Loss.lean ====
/- The loss of one device's tokens and its gradients through the last norm. -/
module

public import proofs.«01_k».proof.Proof.NormRow
public import proofs.«01_k».proof.Proof.Gen.Kernel8Ideal.Value
public import Idealize.ShloMosaic.Lib.StableHlo.ReadAt
public import Idealize.ShloMosaic.Lib.Claim
public import Idealize.ShloMosaic.Lib.Pipeline.ValueKit
public import Idealize.ShloMosaic.Lib.Pipeline.FrameBody
public import proofs.«01_k».proof.Defs
public import proofs.«01_k».proof.Proof.Gen.Kernel8.Frame
public import proofs.«01_k».proof.Proof.Gen.Reference8Ideal.Run
public import proofs.«01_k».proof.Proof.Gen.Reference8Ideal.Read
public import Idealize.ShloMosaic.Lib.Quiescent

@[expose] public section

set_option maxRecDepth 16384

noncomputable section

namespace Cert.Kernel8Ideal.Hand

open Idealize.ShloMosaic Idealize.ShloMosaic.TcCoe Cert.Kernel8Ideal Cert.Kernel8Ideal.Gen Cert.Norm

theorem origin : (![0, 0] : Fin 2 → ℕ) = fun _ => 0 := by decide

/-- One half. -/
abbrev half : EReal := Ideal.ofBits .f32 0x3F000000#32
/-- The reciprocal of the width. -/
abbrev tiny : EReal := Ideal.ofBits .f32 0x3A800000#32

section cases
variable {F : FTy → Type} [FloatOps F] (c : Dev nD) (i : grid0.Coords)
  (a1 : Memref sig .tc .vmem S512x2816 .bf16) (h1 : a1.IsWhole) (a2 : Memref sig .tc .vmem S2816x1024 .bf16) (h2 : a2.IsWhole)
  (a3 : Memref sig .tc .vmem S512x1024 .f32) (h3 : a3.IsWhole) (a4 : Memref sig .tc .vmem S1x1024 .f32) (h4 : a4.IsWhole)
  (a5 : Memref sig .tc .vmem S512x1024 .f32) (h5 : a5.IsWhole) (a6 : Memref sig .tc .vmem S1x128 .f32) (h6 : a6.IsWhole)
  (a7 : Memref sig .tc .vmem S512x1024 .f32) (h7 : a7.IsWhole) (a8 : Memref sig .tc .vmem S1x1024 .f32) (h8 : a8.IsWhole)
  (x0 : Vec F S512x2816 .bf16) (x1 : Vec F S2816x1024 .bf16) (x2 : Vec F S512x1024 .f32) (x3 : Vec F S1x1024 .f32)
  (x4 : Vec F S512x1024 .f32) (s : Vec F S1x128 .f32) (acc : Vec F S1x1024 .f32)

/-- The loss starts from zero at the first block of tokens … -/
theorem loss_first (hc0 : cond0_0 i) :
    out0_A_5 c i a1 h1 a2 h2 a3 h3 a4 h4 a5 h5 a6 h6 a7 h7 a8 h8 hc0 x0 x1 x2 x3 x4 = k0_pay1 (k0_pay11 k0_pay5) (k0_pay12 x2 x0 x1 x3 x4) := by
  unfold out0_A_5
  rw [View.read_writes_eq_canon _ _ _ (cover0_A_5 c i a1 h1 a2 h2 a3 h3 a4 h4 a5 h5 a6 h6 a7 h7 a8 h8 hc0 x0 x1 x2 x3 x4)]
  unfold kernelRun0_A
  dsimp only
  sl_unfold_words
  rw [View.canon_cons_unit_zero (S := S1x128) origin, View.readCov_unit_zero (S := S1x128) _ origin]
  simp only [View.readAt_eq_ld, h1.read_unread, h2.read_unread, h3.read_unread, h4.read_unread, h5.read_unread, View.ld_unit_zero (S := S512x2816) origin,
    View.ld_unit_zero (S := S2816x1024) origin, View.ld_unit_zero (S := S512x1024) origin, View.ld_unit_zero (S := S1x1024) origin, View.ld_unit_zero (S := S1x128) origin]

/-- … and adds the later ones. -/
theorem loss_later (hc0 : ¬cond0_0 i) :
    out0_B_5 c i a1 h1 a2 h2 a3 h3 a4 h4 a5 h5 a6 h6 a7 h7 a8 h8 hc0 x0 x1 x2 x3 x4 s acc = k0_pay1 (k0_pay11 s) (k0_pay12 x2 x0 x1 x3 x4) := by
  unfold out0_B_5
  rw [View.read_writes_eq_canon _ _ _ (cover0_B_5 c i a1 h1 a2 h2 a3 h3 a4 h4 a5 h5 a6 h6 a7 h7 a8 h8 hc0 x0 x1 x2 x3 x4 s acc)]
  unfold kernelRun0_B
  dsimp only
  sl_unfold_words
  rw [View.canon_unit_zero origin]
  simp only [View.readAt_eq_ld, h1.read_unread, h2.read_unread, h3.read_unread, h4.read_unread, h5.read_unread, h6.read_unread, View.ld_unit_zero (S := S512x2816) origin,
    View.ld_unit_zero (S := S2816x1024) origin, View.ld_unit_zero (S := S512x1024) origin, View.ld_unit_zero (S := S1x1024) origin, View.ld_unit_zero (S := S1x128) origin]

/-- The rows' gradient at the first block of tokens … -/
theorem rows_first (hc0 : cond0_0 i) :
    out0_A_6 c i a1 h1 a2 h2 a3 h3 a4 h4 a5 h5 a6 h6 a7 h7 a8 h8 hc0 x0 x1 x2 x3 x4 = k0_pay3 (k0_pay8 x2 x0 x1) (k0_pay9 x2 x0 x1) (k0_pay10 x2 x0 x1 x3 x4) x3 := by
  unfold out0_A_6
  rw [View.read_writes_eq_canon _ _ _ (cover0_A_6 c i a1 h1 a2 h2 a3 h3 a4 h4 a5 h5 a6 h6 a7 h7 a8 h8 hc0 x0 x1 x2 x3 x4)]
  unfold kernelRun0_A
  dsimp only
  sl_unfold_words
  rw [View.canon_unit_zero origin]
  simp only [View.readAt_eq_ld, h1.read_unread, h2.read_unread, h3.read_unread, h4.read_unread, h5.read_unread, View.ld_unit_zero (S := S512x2816) origin,
    View.ld_unit_zero (S := S2816x1024) origin, View.ld_unit_zero (S := S512x1024) origin, View.ld_unit_zero (S := S1x1024) origin, View.ld_unit_zero (S := S1x128) origin]

/-- … and at a later one. -/
theorem rows_later (hc0 : ¬cond0_0 i) :
    out0_B_6 c i a1 h1 a2 h2 a3 h3 a4 h4 a5 h5 a6 h6 a7 h7 a8 h8 hc0 x0 x1 x2 x3 x4 s acc = k0_pay3 (k0_pay8 x2 x0 x1) (k0_pay9 x2 x0 x1) (k0_pay10 x2 x0 x1 x3 x4) x3 := by
  unfold out0_B_6
  rw [View.read_writes_eq_canon _ _ _ (cover0_B_6 c i a1 h1 a2 h2 a3 h3 a4 h4 a5 h5 a6 h6 a7 h7 a8 h8 hc0 x0 x1 x2 x3 x4 s acc)]
  unfold kernelRun0_B
  dsimp only
  sl_unfold_words
  rw [View.canon_unit_zero origin]
  simp only [View.readAt_eq_ld, h1.read_unread, h2.read_unread, h3.read_unread, h4.read_unread, h5.read_unread, View.ld_unit_zero (S := S512x2816) origin,
    View.ld_unit_zero (S := S2816x1024) origin, View.ld_unit_zero (S := S512x1024) origin, View.ld_unit_zero (S := S1x1024) origin, View.ld_unit_zero (S := S1x128) origin]

/-- The gain's gradient starts from zero at the first block of tokens … -/
theorem gain_first (hc0 : cond0_0 i) :
    out0_A_7 c i a1 h1 a2 h2 a3 h3 a4 h4 a5 h5 a6 h6 a7 h7 a8 h8 hc0 x0 x1 x2 x3 x4 = k0_pay4 (k0_pay9 x2 x0 x1) (k0_pay10 x2 x0 x1 x3 x4) k0_pay6 := by
  unfold out0_A_7
  rw [View.read_writes_eq_canon _ _ _ (cover0_A_7 c i a1 h1 a2 h2 a3 h3 a4 h4 a5 h5 a6 h6 a7 h7 a8 h8 hc0 x0 x1 x2 x3 x4)]
  unfold kernelRun0_A
  dsimp only
  sl_unfold_words
  rw [View.canon_cons_unit_zero (S := S1x1024) origin, View.readCov_unit_zero (S := S1x1024) _ origin]
  simp only [View.readAt_eq_ld, h1.read_unread, h2.read_unread, h3.read_unread, h4.read_unread, h5.read_unread, View.ld_unit_zero (S := S512x2816) origin,
    View.ld_unit_zero (S := S2816x1024) origin, View.ld_unit_zero (S := S512x1024) origin, View.ld_unit_zero (S := S1x1024) origin, View.ld_unit_zero (S := S1x128) origin]

/-- … and adds the later ones. -/
theorem gain_later (hc0 : ¬cond0_0 i) :
    out0_B_7 c i a1 h1 a2 h2 a3 h3 a4 h4 a5 h5 a6 h6 a7 h7 a8 h8 hc0 x0 x1 x2 x3 x4 s acc = k0_pay4 (k0_pay9 x2 x0 x1) (k0_pay10 x2 x0 x1 x3 x4) acc := by
  unfold out0_B_7
  rw [View.read_writes_eq_canon _ _ _ (cover0_B_7 c i a1 h1 a2 h2 a3 h3 a4 h4 a5 h5 a6 h6 a7 h7 a8 h8 hc0 x0 x1 x2 x3 x4 s acc)]
  unfold kernelRun0_B
  dsimp only
  sl_unfold_words
  rw [View.canon_unit_zero origin]
  simp only [View.readAt_eq_ld, h1.read_unread, h2.read_unread, h3.read_unread, h4.read_unread, h5.read_unread, h8.read_unread, View.ld_unit_zero (S := S512x2816) origin,
    View.ld_unit_zero (S := S2816x1024) origin, View.ld_unit_zero (S := S512x1024) origin, View.ld_unit_zero (S := S1x1024) origin, View.ld_unit_zero (S := S1x128) origin]

end cases

/-- The layer's output at an entry. -/
def layer (p w : Fin 2816 → EReal) (x : EReal) : EReal := x + half * ∑ k, p k * w k

/-- The distance of a row, normalised, from its target. -/
def gap (y g r : Fin 1024 → EReal) (j : Fin 1024) : EReal := y j * scale y * g j - r j

/-- The mean of a row's squared distances. -/
def spread (y g r : Fin 1024 → EReal) : EReal := Ideal.div (∑ j, gap y g r j * gap y g r j) width

section payloads
variable (x0 : Vec Ideal S512x2816 .bf16) (x1 : Vec Ideal S2816x1024 .bf16) (x2 : Vec Ideal S512x1024 .f32) (x3 : Vec Ideal S1x1024 .f32)
  (x4 : Vec Ideal S512x1024 .f32) (s : Vec Ideal S1x128 .f32) (acc : Vec Ideal S1x1024 .f32)

/-- A row of the block's output. -/
def blockY (i : Fin 512) (j : Fin 1024) : EReal := layer (fun k => x0 (ix2 i k)) (fun k => x1 (ix2 k j)) (x2 (ix2 i j))
/-- A row of the block's distances. -/
def blockE (i : Fin 512) (j : Fin 1024) : EReal := gap (blockY x0 x1 x2 i) (fun j => x3 (ix2 0 j)) (fun j => x4 (ix2 i j)) j

theorem zero_loss (q : Fin 128) : (k0_pay5 : FVec Ideal S1x128 .f32) (ix2 0 q) = 0 := by
  pointwise [k0_pay5]

theorem zero_gain (j : Fin 1024) : (k0_pay6 : FVec Ideal S1x1024 .f32) (ix2 0 j) = 0 := by
  pointwise [k0_pay6]

theorem loss_at (q : Fin 128) : k0_pay1 (k0_pay11 s) (k0_pay12 x2 x0 x1 x3 x4) (ix2 0 q)
    = s (ix2 0 q) + half * ∑ i, spread (blockY x0 x1 x2 i) (fun j => x3 (ix2 0 j)) (fun j => x4 (ix2 i j)) := by
  unfold spread gap blockY layer scale square width eps
  pointwise [k0_pay1, k0_pay2, k0_pay3, k0_pay4, k0_pay5, k0_pay6, k0_pay7, k0_pay8, k0_pay9, k0_pay10, k0_pay11, k0_pay12]
  all_goals rfl

theorem rows_at (i : Fin 512) (j : Fin 1024) : k0_pay3 (k0_pay8 x2 x0 x1) (k0_pay9 x2 x0 x1) (k0_pay10 x2 x0 x1 x3 x4) x3 (ix2 i j)
    = rowK 0 (fun j => blockE x0 x1 x2 x3 x4 i j * tiny * x3 (ix2 0 j)) (blockY x0 x1 x2 i) j := by
  unfold rowK
  rw [zero_add]
  unfold blockE gap blockY layer scale square width eps
  pointwise [k0_pay1, k0_pay2, k0_pay3, k0_pay4, k0_pay5, k0_pay6, k0_pay7, k0_pay8, k0_pay9, k0_pay10, k0_pay11, k0_pay12]
  all_goals rfl

theorem gain_at (j : Fin 1024) : k0_pay4 (k0_pay9 x2 x0 x1) (k0_pay10 x2 x0 x1 x3 x4) acc (ix2 0 j)
    = acc (ix2 0 j) + ∑ i, blockE x0 x1 x2 x3 x4 i j * tiny * (blockY x0 x1 x2 i j * scale (blockY x0 x1 x2 i)) := by
  unfold blockE gap blockY layer scale square width eps
  pointwise [k0_pay1, k0_pay2, k0_pay3, k0_pay4, k0_pay5, k0_pay6, k0_pay7, k0_pay8, k0_pay9, k0_pay10, k0_pay11, k0_pay12]
  all_goals rfl

end payloads

variable (m : (ℓ : Loc nD τ sig) → Buf (Elt Ideal) ℓ) (c : Dev nD)

/-- The activation. -/
abbrev argA : Vec Ideal S8192x2816 .f32 := m ((c.tc : Thread nD τ).loc main_arg0)
/-- The down projection's weight. -/
abbrev argW : Vec Ideal S2816x1024 .f32 := m ((c.tc : Thread nD τ).loc main_arg1)
/-- The residual. -/
abbrev argX : Vec Ideal S8192x1024 .f32 := m ((c.tc : Thread nD τ).loc main_arg2)
/-- The last norm's gain. -/
abbrev argG : Vec Ideal S1x1024 .f32 := m ((c.tc : Thread nD τ).loc main_arg3)
/-- The target. -/
abbrev argT : Vec Ideal S8192x1024 .f32 := m ((c.tc : Thread nD τ).loc main_arg4)

section arrays
variable (a : Vec Ideal S8192x2816 .f32) (w : Vec Ideal S2816x1024 .f32) (x : Vec Ideal S8192x1024 .f32) (g : Vec Ideal S1x1024 .f32) (r : Vec Ideal S8192x1024 .f32)

/-- A token's row of the layer's output. -/
def out (t : Fin 8192) (j : Fin 1024) : EReal := layer (fun k => a (ix2 t k)) (fun k => w (ix2 k j)) (x (ix2 t j))
/-- A token's distances. -/
def dist (t : Fin 8192) (j : Fin 1024) : EReal := gap (out a w x t) (fun j => g (ix2 0 j)) (fun j => r (ix2 t j)) j
/-- A token's mean squared distance. -/
def loss (t : Fin 8192) : EReal := spread (out a w x t) (fun j => g (ix2 0 j)) (fun j => r (ix2 t j))

/-- The loss. -/
def total : Vec Ideal S1x128 .f32 := fun _ => half * ∑ t, loss a w x g r t
/-- The gradient of the layer's output. -/
def gradX : Vec Ideal S8192x1024 .f32 := fun y => rowK 0 (fun j => dist a w x g r (y 0) j * tiny * g (ix2 0 j)) (out a w x (y 0)) (y 1)
/-- The gain's gradient. -/
def gradG : Vec Ideal S1x1024 .f32 := fun y => ∑ t, dist a w x g r t (y 1) * tiny * (out a w x t (y 1) * scale (out a w x t))

end arrays

/-- Row `r` of the block of tokens with number `n`. -/
def row (n : ℕ) (r : Fin 512) : Fin 8192 := ⟨n % 16 * 512 + r.val, by have := r.isLt; omega⟩

theorem sum_tokens (f : Fin 8192 → EReal) : ∑ u ∈ Finset.range 16, ∑ s, f (row u s) = ∑ x, f x := by
  rw [Finset.sum_range]
  refine (Finset.sum_congr rfl fun u _ => ?_).trans (Fin.sum_mul_add_fin 16 512 f)
  refine Finset.sum_congr rfl fun s _ => congrArg f (Fin.ext ?_)
  show u.val % 16 * 512 + s.val = _
  rw [Nat.mod_eq_of_lt u.isLt]

/-- The windows' block indices at each grid point. -/
theorem windows_at : ∀ t : Fin cfg0.N, win0_0.index t = ![t.val, 0]
    ∧ win0_1.index t = ![0, 0]
    ∧ win0_2.index t = ![t.val, 0]
    ∧ win0_3.index t = ![0, 0]
    ∧ win0_4.index t = ![t.val, 0]
    ∧ win0_5.index t = ![0, 0]
    ∧ win0_6.index t = ![t.val, 0]
    ∧ win0_7.index t = ![0, 0] := by decide +kernel

theorem V_act : (V m c main_v0 : Vec Ideal S8192x2816 .bf16) = argA m c := by
  unfold V
  after_reads_simp
  rfl

theorem V_weight : (V m c main_v1 : Vec Ideal S2816x1024 .bf16) = argW m c := by
  unfold V
  after_reads_simp
  rfl

theorem V_residual : (V m c main_arg2 : Vec Ideal S8192x1024 .f32) = argX m c := by
  unfold V
  after_reads_simp

theorem V_gain : (V m c main_arg3 : Vec Ideal S1x1024 .f32) = argG m c := by
  unfold V
  after_reads_simp

theorem V_target : (V m c main_arg4 : Vec Ideal S8192x1024 .f32) = argT m c := by
  unfold V
  after_reads_simp

section point
variable (t : Fin cfg0.N)

theorem act_at (r : Fin 512) (k : Fin 2816) : iblk m c 0 t (ix2 r k) = argA m c (ix2 (row t.val r) k) := by
  have ht : t.val < 16 := lt_of_lt_of_eq t.isLt N_0
  rw [← V_act]
  unfold row
  obtain ⟨h0, h1, h2, h3, h4, h5, h6, h7⟩ := windows_at t
  blk_ext [iblk, h0]

theorem weight_at (k : Fin 2816) (d : Fin 1024) : iblk m c 1 t (ix2 k d) = argW m c (ix2 k d) := by
  have ht : t.val < 16 := lt_of_lt_of_eq t.isLt N_0
  rw [← V_weight]
  obtain ⟨h0, h1, h2, h3, h4, h5, h6, h7⟩ := windows_at t
  blk_ext [iblk, h1]

theorem residual_at (r : Fin 512) (d : Fin 1024) : iblk m c 2 t (ix2 r d) = argX m c (ix2 (row t.val r) d) := by
  have ht : t.val < 16 := lt_of_lt_of_eq t.isLt N_0
  rw [← V_residual]
  unfold row
  obtain ⟨h0, h1, h2, h3, h4, h5, h6, h7⟩ := windows_at t
  blk_ext [iblk, h2]

theorem scale_at (b : Fin 1) (d : Fin 1024) : iblk m c 3 t (ix2 b d) = argG m c (ix2 b d) := by
  have ht : t.val < 16 := lt_of_lt_of_eq t.isLt N_0
  rw [← V_gain]
  obtain ⟨h0, h1, h2, h3, h4, h5, h6, h7⟩ := windows_at t
  blk_ext [iblk, h3]

theorem target_at (r : Fin 512) (d : Fin 1024) : iblk m c 4 t (ix2 r d) = argT m c (ix2 (row t.val r) d) := by
  have ht : t.val < 16 := lt_of_lt_of_eq t.isLt N_0
  rw [← V_target]
  unfold row
  obtain ⟨h0, h1, h2, h3, h4, h5, h6, h7⟩ := windows_at t
  blk_ext [iblk, h4]

theorem blockY_at (i : Fin 512) : blockY (iblk m c 0 t) (iblk m c 1 t) (iblk m c 2 t) i = out (argA m c) (argW m c) (argX m c) (row t.val i) := by
  funext j
  unfold blockY out
  simp only [act_at, weight_at, residual_at]

theorem gain_row : (fun j => (iblk m c 3 t : Vec Ideal S1x1024 .f32) (ix2 0 j)) = fun j => argG m c (ix2 0 j) := funext fun j => scale_at m c t 0 j

theorem target_row (i : Fin 512) : (fun j => (iblk m c 4 t : Vec Ideal S512x1024 .f32) (ix2 i j)) = fun j => argT m c (ix2 (row t.val i) j) :=
  funext fun j => target_at m c t i j

theorem blockE_at (i : Fin 512) (j : Fin 1024) : blockE (iblk m c 0 t) (iblk m c 1 t) (iblk m c 2 t) (iblk m c 3 t) (iblk m c 4 t) i j = dist (argA m c) (argW m c) (argX m c) (argG m c) (argT m c) (row t.val i) j := by
  unfold blockE dist
  rw [blockY_at, gain_row, target_row]

end point

/-- The part of the loss a block of tokens gives. -/
def lossPart (u : ℕ) : EReal := half * ∑ s, loss (argA m c) (argW m c) (argX m c) (argG m c) (argT m c) (row u s)
/-- The part of the gain's gradient a block of tokens gives. -/
def gainPart (u : ℕ) (j : Fin 1024) : EReal :=
  ∑ s, dist (argA m c) (argW m c) (argX m c) (argG m c) (argT m c) (row u s) j * tiny * (out (argA m c) (argW m c) (argX m c) (row u s) j * scale (out (argA m c) (argW m c) (argX m c) (row u s)))

theorem loss_of (t : Fin cfg0.N) (s : Vec Ideal S1x128 .f32) (q : Fin 128) : k0_pay1 (k0_pay11 s) (k0_pay12 (iblk m c 2 t) (iblk m c 0 t) (iblk m c 1 t) (iblk m c 3 t) (iblk m c 4 t)) (ix2 0 q)
    = s (ix2 0 q) + lossPart m c t.val := by
  refine (loss_at (iblk m c 0 t) (iblk m c 1 t) (iblk m c 2 t) (iblk m c 3 t) (iblk m c 4 t) s q).trans ?_
  unfold lossPart loss
  refine congrArg (fun e => s (ix2 0 q) + half * e) (Finset.sum_congr rfl fun i _ => ?_)
  rw [blockY_at, gain_row, target_row]

theorem rows_of (t : Fin cfg0.N) (i : Fin 512) (j : Fin 1024) : k0_pay3 (k0_pay8 (iblk m c 2 t) (iblk m c 0 t) (iblk m c 1 t)) (k0_pay9 (iblk m c 2 t) (iblk m c 0 t) (iblk m c 1 t)) (k0_pay10 (iblk m c 2 t) (iblk m c 0 t) (iblk m c 1 t) (iblk m c 3 t) (iblk m c 4 t)) (iblk m c 3 t) (ix2 i j)
    = gradX (argA m c) (argW m c) (argX m c) (argG m c) (argT m c) (ix2 (row t.val i) j) := by
  refine (rows_at (iblk m c 0 t) (iblk m c 1 t) (iblk m c 2 t) (iblk m c 3 t) (iblk m c 4 t) i j).trans ?_
  unfold gradX
  rw [blockY_at]
  exact congrArg (fun D => rowK 0 D _ _) (funext fun j => congrArg₂ (· * tiny * ·) (blockE_at m c t i j) (scale_at m c t 0 j))

theorem gain_of (t : Fin cfg0.N) (acc : Vec Ideal S1x1024 .f32) (j : Fin 1024) : k0_pay4 (k0_pay9 (iblk m c 2 t) (iblk m c 0 t) (iblk m c 1 t)) (k0_pay10 (iblk m c 2 t) (iblk m c 0 t) (iblk m c 1 t) (iblk m c 3 t) (iblk m c 4 t)) acc (ix2 0 j)
    = acc (ix2 0 j) + gainPart m c t.val j := by
  refine (gain_at (iblk m c 0 t) (iblk m c 1 t) (iblk m c 2 t) (iblk m c 3 t) (iblk m c 4 t) acc j).trans ?_
  unfold gainPart
  refine congrArg (acc (ix2 0 j) + ·) (Finset.sum_congr rfl fun i _ => ?_)
  rw [blockY_at, blockE_at]

/-- After each grid point the loss covers the blocks of tokens so far. -/
theorem carried_loss (n : ℕ) (hn : n < cfg0.N) (q : Fin 128) :
    (outsAt0 m c n hn).1 (ix2 0 q) = ∑ u ∈ Finset.range (n + 1), lossPart m c u := by
  have h16 : n < 16 := lt_of_lt_of_eq hn N_0
  induction n with
  | zero =>
    rw [outsAt0_A m c ⟨0, hn⟩ rfl, loss_first]
    refine (loss_of m c ⟨0, hn⟩ _ q).trans ?_
    rw [zero_loss, zero_add, Finset.sum_range_one]
  | succ n ih =>
    have hs := ih (by omega) (by omega)
    rw [outsAt0_B m c ⟨n + 1, hn⟩ (by show ¬(n + 1) % 16 = 0; omega), loss_later]
    refine (loss_of m c ⟨n + 1, hn⟩ _ q).trans ?_
    rw [Finset.sum_range_succ _ (n + 1)]
    exact congrArg (· + _) hs

/-- After each grid point the gain's gradient covers the blocks of tokens so far. -/
theorem carried_gain (n : ℕ) (hn : n < cfg0.N) (j : Fin 1024) :
    (outsAt0 m c n hn).2.2 (ix2 0 j) = ∑ u ∈ Finset.range (n + 1), gainPart m c u j := by
  have h16 : n < 16 := lt_of_lt_of_eq hn N_0
  induction n with
  | zero =>
    rw [outsAt0_A m c ⟨0, hn⟩ rfl, gain_first]
    refine (gain_of m c ⟨0, hn⟩ _ j).trans ?_
    rw [zero_gain, zero_add, Finset.sum_range_one]
  | succ n ih =>
    have hs := ih (by omega) (by omega)
    rw [outsAt0_B m c ⟨n + 1, hn⟩ (by show ¬(n + 1) % 16 = 0; omega), gain_later]
    refine (gain_of m c ⟨n + 1, hn⟩ _ j).trans ?_
    rw [Finset.sum_range_succ _ (n + 1)]
    exact congrArg (· + _) hs

theorem rows_written (t : Fin cfg0.N) (i : Fin 512) (j : Fin 1024) :
    (outsAt0 m c t.val t.isLt).2.1 (ix2 i j) = gradX (argA m c) (argW m c) (argX m c) (argG m c) (argT m c) (ix2 (row t.val i) j) := by
  by_cases h : t.val % 16 = 0
  · rw [outsAt0_A m c t h, rows_first]
    exact rows_of m c t i j
  · rw [outsAt0_B m c t h, rows_later]
    exact rows_of m c t i j

theorem half_eq : half = ((1 / 2 : ℝ) : EReal) := by
  show Ideal.ofBits .f32 0x3F000000#32 = _
  simp [Ideal.ofBits, Ideal.ieee, -EReal.coe_mul]
  norm_num

theorem tiny_eq : tiny = ((1 / 1024 : ℝ) : EReal) := by
  show Ideal.ofBits .f32 0x3A800000#32 = _
  simp [Ideal.ofBits, Ideal.ieee, -EReal.coe_mul]
  norm_num

theorem arr_rows : (dats m 0 c).arrAt 6 cfg0.N = gradX (argA m c) (argW m c) (argX m c) (argG m c) (argT m c) := by
  refine (dats m 0 c).arrAt_eq_of_covers 6 _ (by decide +kernel) fun t hf y => ?_
  blk_simp
  rw [after0_6]
  have ht : t.val < 16 := lt_of_lt_of_eq t.isLt N_0
  idx_vars y
  have he : (win0_6.blk t).view.emb (ix2 y0 y1) = ix2 (row t.val y0) y1 := by
    obtain ⟨h0, h1, h2, h3, h4, h5, h6, h7⟩ := windows_at t
    unfold row
    blk_ext [h6]
  exact (rows_written m c t y0 y1).trans (congrArg (gradX (argA m c) (argW m c) (argX m c) (argG m c) (argT m c)) he).symm

theorem arr_loss : (dats m 0 c).arrAt 5 cfg0.N = total (argA m c) (argW m c) (argX m c) (argG m c) (argT m c) := by
  refine (dats m 0 c).arrAt_eq_of_covers 5 _ (by decide +kernel) fun t hf y => ?_
  blk_simp
  rw [after0_5]
  have ht : t.val < 16 := lt_of_lt_of_eq t.isLt N_0
  have hl : t.val = 15 := by have := (flush0_5 t).mp hf; omega
  idx_vars y
  obtain rfl : y0 = 0 := Subsingleton.elim _ _
  refine (carried_loss m c t.val t.isLt y1).trans ?_
  rw [hl]
  unfold lossPart
  show _ = half * ∑ t, loss (argA m c) (argW m c) (argX m c) (argG m c) (argT m c) t
  rw [← sum_tokens, half_eq, Finset.sum_range, Finset.sum_range, mul_sum_real _ (by norm_num)]

theorem arr_gain : (dats m 0 c).arrAt 7 cfg0.N = gradG (argA m c) (argW m c) (argX m c) (argG m c) (argT m c) := by
  refine (dats m 0 c).arrAt_eq_of_covers 7 _ (by decide +kernel) fun t hf y => ?_
  blk_simp
  rw [after0_7]
  have ht : t.val < 16 := lt_of_lt_of_eq t.isLt N_0
  have hl : t.val = 15 := by have := (flush0_7 t).mp hf; omega
  idx_vars y
  obtain rfl : y0 = 0 := Subsingleton.elim _ _
  have he : (win0_7.blk t).view.emb (ix2 0 y1) = ix2 0 y1 := by
    obtain ⟨h0, h1, h2, h3, h4, h5, h6, h7⟩ := windows_at t
    blk_ext [h7]
  refine Eq.trans ?_ (congrArg (gradG (argA m c) (argW m c) (argX m c) (argG m c) (argT m c)) he).symm
  refine (carried_gain m c t.val t.isLt y1).trans ?_
  rw [hl]
  exact sum_tokens fun t => dist (argA m c) (argW m c) (argX m c) (argG m c) (argT m c) t y1 * tiny * (out (argA m c) (argW m c) (argX m c) t y1 * scale (out (argA m c) (argW m c) (argX m c) t))

section reference
open Cert.Reference8Ideal.Read
variable (a : Vec Ideal S8192x2816 .f32) (w : Vec Ideal S2816x1024 .f32) (x : Vec Ideal S8192x1024 .f32) (g : Vec Ideal S1x1024 .f32) (r : Vec Ideal S8192x1024 .f32)

/-- The factor the loss gives each squared distance. -/
abbrev weight : EReal := Ideal.div half width
/-- Two. -/
abbrev two : EReal := Ideal.ofBits .f32 0x40000000#32

/-- The factor, twice, is the reciprocal of the width. -/
theorem weight_two (e : EReal) : weight * (two * e) = e * tiny := by
  have h2 : two = ((2 : ℝ) : EReal) := by
    show Ideal.ofBits .f32 0x40000000#32 = _
    simp [Ideal.ofBits, Ideal.ieee, -EReal.coe_mul]
    norm_num
  rw [h2, tiny_eq, ← mul_assoc, mul_comm, show weight = half * ((1024⁻¹ : ℝ) : EReal) from div_width half, half_eq, ← EReal.coe_mul, ← EReal.coe_mul]
  norm_num

theorem reference_loss (q : Fin 128) : val_main_v53 (F := Ideal) a w x g r (ix2 0 q) = half * ∑ t, loss a w x g r t := by
  unfold loss spread gap out layer scale square width eps
  pointwise [val_main_v0, val_main_cst, val_main_v1, val_main_v2, val_main_v3, val_main_v4, val_main_cst_0, val_main_v5, val_main_v6, val_main_cst_1, val_main_v7, val_main_v8, val_main_cst_2, val_main_v9, val_main_v10, val_main_v11, val_main_v12, val_main_cst_3, val_main_v13, val_main_v14, val_main_v15, val_main_v16, val_main_v17, val_main_v18, val_main_v19, val_main_v20, val_main_cst_4, val_main_v21, val_main_v22, val_main_cst_5, val_main_v23, val_main_cst_6, val_main_v24, val_main_v25, val_main_cst_7, val_main_v26, val_main_cst_8, val_main_v27, val_main_cst_9, val_main_cst_10, val_main_v28, val_main_v29, val_main_cst_11, val_main_v30, val_main_v31, val_main_v32, val_main_v33, val_main_v34, val_main_cst_12, val_main_v35, val_main_v36, val_main_v37, val_main_v38, val_main_v39, val_main_cst_13, val_main_v40, val_main_v41, val_main_v42, val_main_v43, val_main_v44, val_main_cst_14, val_main_v45, val_main_v46, val_main_cst_15, val_main_v47, val_main_v48, val_main_v49, val_main_v50, val_main_v51, val_main_v52, val_main_v53]
  all_goals rfl

theorem reference_rows (i : Fin 8192) (j : Fin 1024) : val_main_v52 (F := Ideal) a w x g r (ix2 i j)
    = rowR 0 (fun j => weight * (two * dist a w x g r i j) * g (ix2 0 j)) (out a w x i) j := by
  have one : ∀ f : Fin 1 → EReal, ∑ k, f k = f 0 := fun f => Fin.sum_univ_one f
  unfold rowR
  rw [zero_add]
  unfold dist gap out layer scale square width eps minusHalf
  pointwise [val_main_v0, val_main_cst, val_main_v1, val_main_v2, val_main_v3, val_main_v4, val_main_cst_0, val_main_v5, val_main_v6, val_main_cst_1, val_main_v7, val_main_v8, val_main_cst_2, val_main_v9, val_main_v10, val_main_v11, val_main_v12, val_main_cst_3, val_main_v13, val_main_v14, val_main_v15, val_main_v16, val_main_v17, val_main_v18, val_main_v19, val_main_v20, val_main_cst_4, val_main_v21, val_main_v22, val_main_cst_5, val_main_v23, val_main_cst_6, val_main_v24, val_main_v25, val_main_cst_7, val_main_v26, val_main_cst_8, val_main_v27, val_main_cst_9, val_main_cst_10, val_main_v28, val_main_v29, val_main_cst_11, val_main_v30, val_main_v31, val_main_v32, val_main_v33, val_main_v34, val_main_cst_12, val_main_v35, val_main_v36, val_main_v37, val_main_v38, val_main_v39, val_main_cst_13, val_main_v40, val_main_v41, val_main_v42, val_main_v43, val_main_v44, val_main_cst_14, val_main_v45, val_main_v46, val_main_cst_15, val_main_v47, val_main_v48, val_main_v49, val_main_v50, val_main_v51, val_main_v52, val_main_v53]
  simp only [one]
  all_goals rfl

theorem reference_gain (j : Fin 1024) : val_main_v36 (F := Ideal) a w x g r (ix2 0 j)
    = ∑ i, out a w x i j * scale (out a w x i) * (weight * (two * dist a w x g r i j)) := by
  unfold dist gap out layer scale square width eps
  pointwise [val_main_v0, val_main_cst, val_main_v1, val_main_v2, val_main_v3, val_main_v4, val_main_cst_0, val_main_v5, val_main_v6, val_main_cst_1, val_main_v7, val_main_v8, val_main_cst_2, val_main_v9, val_main_v10, val_main_v11, val_main_v12, val_main_cst_3, val_main_v13, val_main_v14, val_main_v15, val_main_v16, val_main_v17, val_main_v18, val_main_v19, val_main_v20, val_main_cst_4, val_main_v21, val_main_v22, val_main_cst_5, val_main_v23, val_main_cst_6, val_main_v24, val_main_v25, val_main_cst_7, val_main_v26, val_main_cst_8, val_main_v27, val_main_cst_9, val_main_cst_10, val_main_v28, val_main_v29, val_main_cst_11, val_main_v30, val_main_v31, val_main_v32, val_main_v33, val_main_v34, val_main_cst_12, val_main_v35, val_main_v36, val_main_v37, val_main_v38, val_main_v39, val_main_cst_13, val_main_v40, val_main_v41, val_main_v42, val_main_v43, val_main_v44, val_main_cst_14, val_main_v45, val_main_v46, val_main_cst_15, val_main_v47, val_main_v48, val_main_v49, val_main_v50, val_main_v51, val_main_v52, val_main_v53]
  all_goals rfl

end reference

end Cert.Kernel8Ideal.Hand

namespace Cert.Proof

open Idealize.ShloMosaic Idealize.ShloMosaic.TcCoe Idealize.SL.Sem Cert.Kernel8Ideal.Hand

/-- The kernel on machine words ends, its arguments unchanged and its counters at zero. -/
theorem frame_kernel8 : Cert.quiescent_Kernel8 := fun m ρ _ => Cert.Kernel8.Gen.frame m ρ

/-- The kernel over the extended reals ends, its arguments unchanged and its counters at zero. -/
theorem frame_ideal8 : Cert.quiescent_Kernel8Ideal := fun m ρ _ => Cert.Kernel8Ideal.Gen.frame m ρ

/-- The reference ends, its arguments unchanged and its counters at zero. -/
theorem frame_reference8 : Cert.quiescent_Reference8Ideal := fun m ρ _ =>
  (θ_run Cert.Reference8Ideal.defs _ _).mono (fun r h => ⟨fun c => (h c).2.2.2, sem_eq_zero_of_no_sems (by decide) r.2⟩)
    (Cert.Reference8Ideal.Value.run (F := Ideal) m ρ)

/-- The loss's kernel and the reference leave the same loss and gradients. -/
theorem algebraic8 : Cert.algebraic_Kernel8Ideal_Reference8Ideal := by
  intro m g m' g' _ hm
  refine ⟨fun c => total (argA m c) (argW m c) (argX m c) (argG m c) (argT m c), fun c => gradX (argA m c) (argW m c) (argX m c) (argG m c) (argT m c), fun c => gradG (argA m c) (argW m c) (argX m c) (argG m c) (argT m c), ?_, ?_⟩
  · exact (θ_run Cert.Kernel8Ideal.defs _ _).mono (fun r h c => ⟨(h c).1.trans (arr_loss m c), (h c).2.1.trans (arr_rows m c), (h c).2.2.1.trans (arr_gain m c), (h c).2.2.2⟩)
      (Cert.Kernel8Ideal.Value.run_blocks m g)
  · refine (θ_run Cert.Reference8Ideal.defs _ _).mono
      (fun r h c => ⟨(h c).1.trans ?_, (h c).2.1.trans ?_, (h c).2.2.1.trans ?_, (h c).2.2.2⟩)
      (Cert.Reference8Ideal.Value.run (F := Ideal) m' g')
    all_goals obtain ⟨e0, e1, e2, e3, e4⟩ := hm c
    · rw [Cert.Reference8Ideal.Read.val_main_v53_eq, e0, e1, e2, e3, e4]
      funext y
      idx_vars y
      obtain rfl : y0 = 0 := Subsingleton.elim _ _
      exact reference_loss _ _ _ _ _ y1
    · rw [Cert.Reference8Ideal.Read.val_main_v52_eq, e0, e1, e2, e3, e4]
      funext y
      idx_vars y
      refine (reference_rows _ _ _ _ _ y0 y1).trans ((Cert.Norm.row_eq _ _ _ y1).symm.trans ?_)
      exact congrArg (fun D => Cert.Norm.rowK 0 D _ _) (funext fun j => congrArg (· * _) (weight_two _))
    · rw [Cert.Reference8Ideal.Read.val_main_v36_eq, e0, e1, e2, e3, e4]
      funext y
      idx_vars y
      obtain rfl : y0 = 0 := Subsingleton.elim _ _
      refine (reference_gain _ _ _ _ _ y1).trans (Finset.sum_congr rfl fun i _ => ?_)
      rw [weight_two, mul_comm]
      rfl

end Cert.Proof
-- ==== Proof.Projection.lean ====
/- The mixer's normalised input and its projection. -/
module

public import proofs.«01_k».proof.Proof.NormRow
public import proofs.«01_k».proof.Proof.Gen.Kernel9Ideal.Value
public import Idealize.ShloMosaic.Lib.StableHlo.ReadAt
public import Idealize.ShloMosaic.Lib.Claim
public import Idealize.ShloMosaic.Lib.Pipeline.ValueKit
public import Idealize.ShloMosaic.Lib.Pipeline.FrameBody
public import proofs.«01_k».proof.Defs
public import proofs.«01_k».proof.Proof.Gen.Kernel9.Frame
public import proofs.«01_k».proof.Proof.Gen.Reference9Ideal.Run
public import proofs.«01_k».proof.Proof.Gen.Reference9Ideal.Read
public import Idealize.ShloMosaic.Lib.Quiescent

@[expose] public section

set_option maxRecDepth 16384

noncomputable section

namespace Cert.Kernel9Ideal.Hand

open Idealize.ShloMosaic Idealize.ShloMosaic.TcCoe Cert.Kernel9Ideal Cert.Kernel9Ideal.Gen Cert.Norm

theorem origin : (![0, 0] : Fin 2 → ℕ) = fun _ => 0 := by decide

/-- A row normalised, at a column. -/
def normal (x g : Fin 1024 → EReal) (k : Fin 1024) : EReal := x k * scale x * g k

section block
variable (x0 : Vec Ideal S512x1024 .f32) (x1 : Vec Ideal S1x1024 .f32) (x2 : Vec Ideal S768x1024 .bf16) (x3 : Vec Ideal S1024x1024 .bf16)

theorem out4_at (r : Fin 512) (q : Fin 768) : out0_4 x0 x1 x2 x3 (ix2 r q) = ∑ k, normal (fun k => x0 (ix2 r k)) (fun k => x1 (ix2 0 k)) k * x2 (ix2 q k) := by
  unfold out0_4
  rw [View.canon_unit_zero origin]
  simp only [View.ld_unit_zero (S := S512x1024) origin, View.ld_unit_zero (S := S1x1024) origin, View.ld_unit_zero (S := S768x1024) origin, View.ld_unit_zero (S := S1024x1024) origin]
  pointwise [k0_pay1, k0_pay2, k0_pay3]
  all_goals rfl

theorem out5_at (r : Fin 512) (q : Fin 1024) : out0_5 x0 x1 x2 x3 (ix2 r q) = ∑ k, normal (fun k => x0 (ix2 r k)) (fun k => x1 (ix2 0 k)) k * x3 (ix2 q k) := by
  unfold out0_5
  rw [View.canon_unit_zero origin]
  simp only [View.ld_unit_zero (S := S512x1024) origin, View.ld_unit_zero (S := S1x1024) origin, View.ld_unit_zero (S := S768x1024) origin, View.ld_unit_zero (S := S1024x1024) origin]
  pointwise [k0_pay1, k0_pay2, k0_pay3]
  all_goals rfl

theorem out6_at (r : Fin 512) (d : Fin 1024) : out0_6 x0 x1 x2 x3 (ix2 r d) = normal (fun k => x0 (ix2 r k)) (fun k => x1 (ix2 0 k)) d := by
  unfold out0_6
  rw [View.canon_unit_zero origin]
  simp only [View.ld_unit_zero (S := S512x1024) origin, View.ld_unit_zero (S := S1x1024) origin, View.ld_unit_zero (S := S768x1024) origin, View.ld_unit_zero (S := S1024x1024) origin]
  pointwise [k0_pay1, k0_pay2, k0_pay3]
  all_goals rfl

end block

variable (m : (ℓ : Loc nD τ sig) → Buf (Elt Ideal) ℓ) (c : Dev nD)

/-- The mixer's input. -/
abbrev argX : Vec Ideal S8192x1024 .f32 := m ((c.tc : Thread nD τ).loc main_arg0)
/-- The norm's gain. -/
abbrev argG : Vec Ideal S1x1024 .f32 := m ((c.tc : Thread nD τ).loc main_arg1)
/-- The projection's weight. -/
abbrev argW : Vec Ideal S1024x1792 .f32 := m ((c.tc : Thread nD τ).loc main_arg2)

/-- The normalised input. -/
def hidden (x : Vec Ideal S8192x1024 .f32) (g : Vec Ideal S1x1024 .f32) : Vec Ideal S8192x1024 .bf16 :=
  fun y => normal (fun k => x (ix2 (y 0) k)) (fun k => g (ix2 0 k)) (y 1)

/-- The projection's first columns. -/
def left (x : Vec Ideal S8192x1024 .f32) (g : Vec Ideal S1x1024 .f32) (w : Vec Ideal S1024x1792 .f32) : Vec Ideal S8192x768 .f32 :=
  fun y => ∑ k, normal (fun k => x (ix2 (y 0) k)) (fun k => g (ix2 0 k)) k * w (ix2 k ⟨(y 1).val, by have : (y 1).val < 768 := (y 1).isLt; omega⟩)

/-- The projection's other columns. -/
def right (x : Vec Ideal S8192x1024 .f32) (g : Vec Ideal S1x1024 .f32) (w : Vec Ideal S1024x1792 .f32) : Vec Ideal S8192x1024 .f32 :=
  fun y => ∑ k, normal (fun k => x (ix2 (y 0) k)) (fun k => g (ix2 0 k)) k * w (ix2 k ⟨768 + (y 1).val, by have : (y 1).val < 1024 := (y 1).isLt; omega⟩)

theorem V_input : (V m c main_arg0 : Vec Ideal S8192x1024 .f32) = argX m c := by
  unfold V
  after_reads_simp

theorem V_gain : (V m c main_arg1 : Vec Ideal S1x1024 .f32) = argG m c := by
  unfold V
  after_reads_simp

theorem V_first (q : Fin 768) (k : Fin 1024) : (V m c main_v2 : Vec Ideal S768x1024 .bf16) (ix2 q k) = argW m c (ix2 k ⟨q.val, by omega⟩) := by
  unfold V
  after_reads_simp
  pointwise []
  all_goals rfl

theorem V_second (q : Fin 1024) (k : Fin 1024) : (V m c main_v3 : Vec Ideal S1024x1024 .bf16) (ix2 q k) = argW m c (ix2 k ⟨768 + q.val, by omega⟩) := by
  unfold V
  after_reads_simp
  pointwise []
  all_goals rfl

/-- The windows' block indices at each grid point. -/
theorem windows_at : ∀ t : Fin cfg0.N, win0_0.index t = ![t.val, 0]
    ∧ win0_1.index t = ![0, 0]
    ∧ win0_2.index t = ![0, 0]
    ∧ win0_3.index t = ![0, 0]
    ∧ win0_4.index t = ![t.val, 0]
    ∧ win0_5.index t = ![t.val, 0]
    ∧ win0_6.index t = ![t.val, 0] := by decide +kernel

/-- Row `r` of the block of tokens with number `n`. -/
def row (n : ℕ) (r : Fin 512) : Fin 8192 := ⟨n % 16 * 512 + r.val, by have := r.isLt; omega⟩

section point
variable (t : Fin cfg0.N)

theorem input_at (r : Fin 512) (d : Fin 1024) : iblk m c 0 t (ix2 r d) = argX m c (ix2 (row t.val r) d) := by
  have ht : t.val < 16 := lt_of_lt_of_eq t.isLt N_0
  rw [← V_input]
  unfold row
  obtain ⟨h0, h1, h2, h3, h4, h5, h6⟩ := windows_at t
  blk_ext [iblk, h0]

theorem gain_at (a : Fin 1) (d : Fin 1024) : iblk m c 1 t (ix2 a d) = argG m c (ix2 a d) := by
  have ht : t.val < 16 := lt_of_lt_of_eq t.isLt N_0
  rw [← V_gain]
  obtain ⟨h0, h1, h2, h3, h4, h5, h6⟩ := windows_at t
  blk_ext [iblk, h1]

theorem first_at (q : Fin 768) (k : Fin 1024) : iblk m c 2 t (ix2 q k) = argW m c (ix2 k ⟨q.val, by omega⟩) := by
  have ht : t.val < 16 := lt_of_lt_of_eq t.isLt N_0
  rw [← V_first]
  obtain ⟨h0, h1, h2, h3, h4, h5, h6⟩ := windows_at t
  blk_ext [iblk, h2]

theorem second_at (q : Fin 1024) (k : Fin 1024) : iblk m c 3 t (ix2 q k) = argW m c (ix2 k ⟨768 + q.val, by omega⟩) := by
  have ht : t.val < 16 := lt_of_lt_of_eq t.isLt N_0
  rw [← V_second]
  obtain ⟨h0, h1, h2, h3, h4, h5, h6⟩ := windows_at t
  blk_ext [iblk, h3]

end point

theorem arr4 : (dats m 0 c).arrAt 4 cfg0.N = left (argX m c) (argG m c) (argW m c) := by
  refine (dats m 0 c).arrAt_eq_of_covers 4 _ (by decide +kernel) fun t hf y => ?_
  blk_simp
  rw [after0_4]
  have ht : t.val < 16 := lt_of_lt_of_eq t.isLt N_0
  idx_vars y
  have he : (win0_4.blk t).view.emb (ix2 y0 y1) = ix2 (row t.val y0) y1 := by
    obtain ⟨h0, h1, h2, h3, h4, h5, h6⟩ := windows_at t
    unfold row
    blk_ext [h4]
  refine Eq.trans ?_ (congrArg (left (argX m c) (argG m c) (argW m c)) he).symm
  refine (out4_at _ _ _ _ _ _).trans ?_
  simp only [input_at, gain_at, first_at, second_at]
  rfl

theorem arr5 : (dats m 0 c).arrAt 5 cfg0.N = right (argX m c) (argG m c) (argW m c) := by
  refine (dats m 0 c).arrAt_eq_of_covers 5 _ (by decide +kernel) fun t hf y => ?_
  blk_simp
  rw [after0_5]
  have ht : t.val < 16 := lt_of_lt_of_eq t.isLt N_0
  idx_vars y
  have he : (win0_5.blk t).view.emb (ix2 y0 y1) = ix2 (row t.val y0) y1 := by
    obtain ⟨h0, h1, h2, h3, h4, h5, h6⟩ := windows_at t
    unfold row
    blk_ext [h5]
  refine Eq.trans ?_ (congrArg (right (argX m c) (argG m c) (argW m c)) he).symm
  refine (out5_at _ _ _ _ _ _).trans ?_
  simp only [input_at, gain_at, first_at, second_at]
  rfl

theorem arr6 : (dats m 0 c).arrAt 6 cfg0.N = hidden (argX m c) (argG m c) := by
  refine (dats m 0 c).arrAt_eq_of_covers 6 _ (by decide +kernel) fun t hf y => ?_
  blk_simp
  rw [after0_6]
  have ht : t.val < 16 := lt_of_lt_of_eq t.isLt N_0
  idx_vars y
  have he : (win0_6.blk t).view.emb (ix2 y0 y1) = ix2 (row t.val y0) y1 := by
    obtain ⟨h0, h1, h2, h3, h4, h5, h6⟩ := windows_at t
    unfold row
    blk_ext [h6]
  refine Eq.trans ?_ (congrArg (hidden (argX m c) (argG m c)) he).symm
  refine (out6_at _ _ _ _ _ _).trans ?_
  simp only [input_at, gain_at, first_at, second_at]
  rfl

open Cert.Reference9Ideal.Read in
theorem reference_left (x : Vec Ideal S8192x1024 .f32) (g : Vec Ideal S1x1024 .f32) (w : Vec Ideal S1024x1792 .f32) : val_main_v13 (F := Ideal) x g w = left x g w := by
  funext y
  idx_vars y
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14, val_main_v15]
  all_goals rfl

open Cert.Reference9Ideal.Read in
theorem reference_right (x : Vec Ideal S8192x1024 .f32) (g : Vec Ideal S1x1024 .f32) (w : Vec Ideal S1024x1792 .f32) : val_main_v14 (F := Ideal) x g w = right x g w := by
  funext y
  idx_vars y
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14, val_main_v15]
  all_goals rfl

open Cert.Reference9Ideal.Read in
theorem reference_hidden (x : Vec Ideal S8192x1024 .f32) (g : Vec Ideal S1x1024 .f32) : val_main_v15 (F := Ideal) x g = hidden x g := by
  funext y
  idx_vars y
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14, val_main_v15]
  all_goals rfl

end Cert.Kernel9Ideal.Hand

namespace Cert.Proof

open Idealize.ShloMosaic Idealize.ShloMosaic.TcCoe Idealize.SL.Sem Cert.Kernel9Ideal.Hand

/-- The kernel on machine words ends, its arguments unchanged and its counters at zero. -/
theorem frame_kernel9 : Cert.quiescent_Kernel9 := fun m ρ _ => Cert.Kernel9.Gen.frame m ρ

/-- The kernel over the extended reals ends, its arguments unchanged and its counters at zero. -/
theorem frame_ideal9 : Cert.quiescent_Kernel9Ideal := fun m ρ _ => Cert.Kernel9Ideal.Gen.frame m ρ

/-- The reference ends, its arguments unchanged and its counters at zero. -/
theorem frame_reference9 : Cert.quiescent_Reference9Ideal := fun m ρ _ =>
  (θ_run Cert.Reference9Ideal.defs _ _).mono (fun r h => ⟨fun c => (h c).2.2.2, sem_eq_zero_of_no_sems (by decide) r.2⟩)
    (Cert.Reference9Ideal.Value.run (F := Ideal) m ρ)

/-- The projection's kernel and the reference leave the same arrays. -/
theorem algebraic9 : Cert.algebraic_Kernel9Ideal_Reference9Ideal := by
  intro m g m' g' _ hm
  refine ⟨fun c => left (argX m c) (argG m c) (argW m c), fun c => right (argX m c) (argG m c) (argW m c), fun c => hidden (argX m c) (argG m c), ?_, ?_⟩
  · exact (θ_run Cert.Kernel9Ideal.defs _ _).mono (fun r h c => ⟨(h c).1.trans (arr4 m c), (h c).2.1.trans (arr5 m c), (h c).2.2.1.trans (arr6 m c), (h c).2.2.2⟩)
      (Cert.Kernel9Ideal.Value.run_blocks m g)
  · refine (θ_run Cert.Reference9Ideal.defs _ _).mono
      (fun r h c => ⟨(h c).1.trans ?_, (h c).2.1.trans ?_, (h c).2.2.1.trans ?_, (h c).2.2.2⟩)
      (Cert.Reference9Ideal.Value.run (F := Ideal) m' g')
    all_goals obtain ⟨e0, e1, e2⟩ := hm c
    · rw [Cert.Reference9Ideal.Read.val_main_v13_eq, e0, e1, e2]
      exact reference_left _ _ _
    · rw [Cert.Reference9Ideal.Read.val_main_v14_eq, e0, e1, e2]
      exact reference_right _ _ _
    · rw [Cert.Reference9Ideal.Read.val_main_v15_eq, e0, e1]
      exact reference_hidden _ _

end Cert.Proof
-- ==== Proof.NormMix.lean ====
/- The gradient of the mixer's normalised input, through the norm. -/
module

public import proofs.«01_k».proof.Proof.NormRow
public import proofs.«01_k».proof.Proof.Gen.Kernel10Ideal.Value
public import Idealize.ShloMosaic.Lib.StableHlo.ReadAt
public import Idealize.ShloMosaic.Lib.Claim
public import Idealize.ShloMosaic.Lib.Pipeline.ValueKit
public import Idealize.ShloMosaic.Lib.Pipeline.FrameBody
public import proofs.«01_k».proof.Defs
public import proofs.«01_k».proof.Proof.Gen.Kernel10.Frame
public import proofs.«01_k».proof.Proof.Gen.Reference10Ideal.Run
public import proofs.«01_k».proof.Proof.Gen.Reference10Ideal.Read
public import Idealize.ShloMosaic.Lib.Quiescent

@[expose] public section

set_option maxRecDepth 16384

noncomputable section

namespace Cert.Kernel10Ideal.Hand

open Idealize.ShloMosaic Idealize.ShloMosaic.TcCoe Cert.Kernel10Ideal Cert.Kernel10Ideal.Gen Cert.Norm

theorem origin : (![0, 0] : Fin 2 → ℕ) = fun _ => 0 := by decide

section cases
variable {F : FTy → Type} [FloatOps F] (c : Dev nD) (i : grid0.Coords)
  (a1 : Memref sig .tc .vmem S512x768 .bf16) (h1 : a1.IsWhole) (a2 : Memref sig .tc .vmem S768x1024 .bf16) (h2 : a2.IsWhole)
  (a3 : Memref sig .tc .vmem S512x1024 .bf16) (h3 : a3.IsWhole) (a4 : Memref sig .tc .vmem S1024x1024 .bf16) (h4 : a4.IsWhole)
  (a5 : Memref sig .tc .vmem S512x1024 .f32) (h5 : a5.IsWhole) (a6 : Memref sig .tc .vmem S1x1024 .f32) (h6 : a6.IsWhole)
  (a7 : Memref sig .tc .vmem S512x1024 .f32) (h7 : a7.IsWhole) (a8 : Memref sig .tc .vmem S512x1024 .f32) (h8 : a8.IsWhole)
  (a9 : Memref sig .tc .vmem S1x1024 .f32) (h9 : a9.IsWhole)
  (x0 : Vec F S512x768 .bf16) (x1 : Vec F S768x1024 .bf16) (x2 : Vec F S512x1024 .bf16) (x3 : Vec F S1024x1024 .bf16)
  (x4 : Vec F S512x1024 .f32) (x5 : Vec F S1x1024 .f32) (x6 : Vec F S512x1024 .f32) (acc : Vec F S1x1024 .f32)

/-- The rows' gradient at the first block of tokens … -/
theorem rows_first (hc0 : cond0_0 i) :
    out0_A_7 c i a1 h1 a2 h2 a3 h3 a4 h4 a5 h5 a6 h6 a7 h7 a8 h8 a9 h9 hc0 x0 x1 x2 x3 x4 x5 x6 = k0_pay7 x0 x1 x2 x3 x4 x5 x6 := by
  unfold out0_A_7
  rw [View.read_writes_eq_canon _ _ _ (cover0_A_7 c i a1 h1 a2 h2 a3 h3 a4 h4 a5 h5 a6 h6 a7 h7 a8 h8 a9 h9 hc0 x0 x1 x2 x3 x4 x5 x6)]
  unfold kernelRun0_A
  dsimp only
  sl_unfold_words
  rw [View.canon_unit_zero origin]
  simp only [View.readAt_eq_ld, h1.read_unread, h2.read_unread, h3.read_unread, h4.read_unread, h5.read_unread, h6.read_unread, h7.read_unread,
    View.ld_unit_zero (S := S512x768) origin, View.ld_unit_zero (S := S768x1024) origin, View.ld_unit_zero (S := S1024x1024) origin, View.ld_unit_zero (S := S512x1024) origin,
    View.ld_unit_zero (S := S1x1024) origin]

/-- … and at a later one. -/
theorem rows_later (hc0 : ¬cond0_0 i) :
    out0_B_7 c i a1 h1 a2 h2 a3 h3 a4 h4 a5 h5 a6 h6 a7 h7 a8 h8 a9 h9 hc0 x0 x1 x2 x3 x4 x5 x6 acc = k0_pay7 x0 x1 x2 x3 x4 x5 x6 := by
  unfold out0_B_7
  rw [View.read_writes_eq_canon _ _ _ (cover0_B_7 c i a1 h1 a2 h2 a3 h3 a4 h4 a5 h5 a6 h6 a7 h7 a8 h8 a9 h9 hc0 x0 x1 x2 x3 x4 x5 x6 acc)]
  unfold kernelRun0_B
  dsimp only
  sl_unfold_words
  rw [View.canon_unit_zero origin]
  simp only [View.readAt_eq_ld, h1.read_unread, h2.read_unread, h3.read_unread, h4.read_unread, h5.read_unread, h6.read_unread, h7.read_unread,
    View.ld_unit_zero (S := S512x768) origin, View.ld_unit_zero (S := S768x1024) origin, View.ld_unit_zero (S := S1024x1024) origin, View.ld_unit_zero (S := S512x1024) origin,
    View.ld_unit_zero (S := S1x1024) origin]

/-- The scale's gradient starts from zero at the first block of tokens … -/
theorem gain_first (hc0 : cond0_0 i) :
    out0_A_8 c i a1 h1 a2 h2 a3 h3 a4 h4 a5 h5 a6 h6 a7 h7 a8 h8 a9 h9 hc0 x0 x1 x2 x3 x4 x5 x6 = k0_pay2 (k0_pay6 x0 x1 x2 x3 x4) k0_pay1 := by
  unfold out0_A_8
  rw [View.read_writes_eq_canon _ _ _ (cover0_A_8 c i a1 h1 a2 h2 a3 h3 a4 h4 a5 h5 a6 h6 a7 h7 a8 h8 a9 h9 hc0 x0 x1 x2 x3 x4 x5 x6)]
  unfold kernelRun0_A
  dsimp only
  sl_unfold_words
  rw [View.canon_cons_unit_zero (S := S1x1024) origin, View.readCov_unit_zero (S := S1x1024) _ origin]
  simp only [View.readAt_eq_ld, h1.read_unread, h2.read_unread, h3.read_unread, h4.read_unread, h5.read_unread, h6.read_unread, h7.read_unread,
    View.ld_unit_zero (S := S512x768) origin, View.ld_unit_zero (S := S768x1024) origin, View.ld_unit_zero (S := S1024x1024) origin, View.ld_unit_zero (S := S512x1024) origin,
    View.ld_unit_zero (S := S1x1024) origin]

/-- … and adds the later ones. -/
theorem gain_later (hc0 : ¬cond0_0 i) :
    out0_B_8 c i a1 h1 a2 h2 a3 h3 a4 h4 a5 h5 a6 h6 a7 h7 a8 h8 a9 h9 hc0 x0 x1 x2 x3 x4 x5 x6 acc = k0_pay2 (k0_pay6 x0 x1 x2 x3 x4) acc := by
  unfold out0_B_8
  rw [View.read_writes_eq_canon _ _ _ (cover0_B_8 c i a1 h1 a2 h2 a3 h3 a4 h4 a5 h5 a6 h6 a7 h7 a8 h8 a9 h9 hc0 x0 x1 x2 x3 x4 x5 x6 acc)]
  unfold kernelRun0_B
  dsimp only
  sl_unfold_words
  rw [View.canon_unit_zero origin]
  simp only [View.readAt_eq_ld, h1.read_unread, h2.read_unread, h3.read_unread, h4.read_unread, h5.read_unread, h6.read_unread, h7.read_unread,
    h9.read_unread, View.ld_unit_zero (S := S512x768) origin, View.ld_unit_zero (S := S768x1024) origin, View.ld_unit_zero (S := S1024x1024) origin, View.ld_unit_zero (S := S512x1024) origin,
    View.ld_unit_zero (S := S1x1024) origin]

end cases

section payloads
variable (v0 : Vec Ideal S512x768 .bf16) (v5 : Vec Ideal S512x1024 .bf16) (v2 : Vec Ideal S768x1024 .bf16) (v7 : Vec Ideal S1024x1024 .bf16) (v11 v36 : Vec Ideal S512x1024 .f32) (v22 : Vec Ideal S1x1024 .f32)

/-- The gradient of the normalised input in a block of tokens. -/
def blockH (i : Fin 512) (j : Fin 1024) : EReal := ∑ n : Fin 768, v0 (ix2 i n) * v2 (ix2 n j) + ∑ n : Fin 1024, v5 (ix2 i n) * v7 (ix2 n j)

theorem rows_at (i : Fin 512) (j : Fin 1024) :
    k0_pay7 v0 v2 v5 v7 v11 v22 v36 (ix2 i j) = rowK (v36 (ix2 i j)) (fun j => blockH v0 v5 v2 v7 i j * v22 (ix2 0 j)) (fun j => v11 (ix2 i j)) j := by
  unfold rowK scale square blockH width eps
  pointwise [k0_pay7, k0_pay3, k0_pay4, k0_pay5]

theorem gain_at (j : Fin 1024) :
    k0_pay2 (k0_pay6 v0 v2 v5 v7 v11) v22 (ix2 0 j) = v22 (ix2 0 j) + ∑ i, blockH v0 v5 v2 v7 i j * (v11 (ix2 i j) * scale fun j => v11 (ix2 i j)) := by
  unfold scale square blockH width eps
  pointwise [k0_pay2, k0_pay6, k0_pay3, k0_pay4, k0_pay5]

theorem zero_at (j : Fin 1024) : (k0_pay1 : FVec Ideal S1x1024 .f32) (ix2 0 j) = 0 := by
  pointwise [k0_pay1]

end payloads

variable (m : (ℓ : Loc nD τ sig) → Buf (Elt Ideal) ℓ) (c : Dev nD)

abbrev argDa : Vec Ideal S8192x768 .f32 := m ((c.tc : Thread nD τ).loc main_arg0)
abbrev argDb : Vec Ideal S8192x1024 .f32 := m ((c.tc : Thread nD τ).loc main_arg1)
abbrev argWg : Vec Ideal S1024x768 .f32 := m ((c.tc : Thread nD τ).loc main_arg2)
abbrev argWu : Vec Ideal S1024x1024 .f32 := m ((c.tc : Thread nD τ).loc main_arg3)
abbrev argX : Vec Ideal S8192x1024 .f32 := m ((c.tc : Thread nD τ).loc main_arg4)
abbrev argG : Vec Ideal S1x1024 .f32 := m ((c.tc : Thread nD τ).loc main_arg5)
abbrev argC : Vec Ideal S8192x1024 .f32 := m ((c.tc : Thread nD τ).loc main_arg6)

/-- The gradient of the normalised input. -/
def gradH (t : Fin 8192) (j : Fin 1024) : EReal :=
  ∑ n : Fin 768, argDa m c (ix2 t n) * argWg m c (ix2 j n) + ∑ n : Fin 1024, argDb m c (ix2 t n) * argWu m c (ix2 j n)
/-- A row of the input. -/
def row (t : Fin 8192) (j : Fin 1024) : EReal := argX m c (ix2 t j)

/-- Token `s` of the block of 512 with number `u`. -/
def token (u : ℕ) (s : Fin 512) : Fin 8192 := ⟨u % 16 * 512 + s.val, by have := s.isLt; omega⟩

theorem sum_tokens (f : Fin 8192 → EReal) : ∑ u ∈ Finset.range 16, ∑ s, f (token u s) = ∑ x, f x := by
  rw [Finset.sum_range]
  refine (Finset.sum_congr rfl fun u _ => ?_).trans (Fin.sum_mul_add_fin 16 512 f)
  refine Finset.sum_congr rfl fun s _ => congrArg f (Fin.ext ?_)
  show u.val % 16 * 512 + s.val = _
  rw [Nat.mod_eq_of_lt u.isLt]

/-- The windows' block indices at each grid point. -/
theorem windows_at : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] ∧ win0_6.index t = ![t.val, 0]
    ∧ win0_7.index t = ![t.val, 0] ∧ win0_8.index t = ![0, 0] := by decide +kernel

theorem V_da : V m c main_v0 = argDa m c := by
  unfold V
  after_reads_simp
  rfl

theorem V_db : V m c main_v3 = argDb m c := by
  unfold V
  after_reads_simp
  rfl

theorem V_wg (n : Fin 768) (j : Fin 1024) : (V m c main_v2 : Vec Ideal S768x1024 .bf16) (ix2 n j) = argWg m c (ix2 j n) := by
  unfold V
  after_reads_simp
  pointwise []

theorem V_wu (n : Fin 1024) (j : Fin 1024) : (V m c main_v5 : Vec Ideal S1024x1024 .bf16) (ix2 n j) = argWu m c (ix2 j n) := by
  unfold V
  after_reads_simp
  pointwise []

section blocks
variable (t : Fin cfg0.N)

theorem da_at (i : Fin 512) (n : Fin 768) : iblk m c 0 t (ix2 i n) = argDa m c (ix2 (token t.val i) n) := by
  have ht : t.val < 16 := lt_of_lt_of_eq t.isLt N_0
  rw [← V_da]
  unfold token
  obtain ⟨h0, h1, h2, h3, h4, h5, h6, h7, h8⟩ := windows_at t
  blk_ext [iblk, h0]

theorem db_at (i : Fin 512) (n : Fin 1024) : iblk m c 2 t (ix2 i n) = argDb m c (ix2 (token t.val i) n) := by
  have ht : t.val < 16 := lt_of_lt_of_eq t.isLt N_0
  rw [← V_db]
  unfold token
  obtain ⟨h0, h1, h2, h3, h4, h5, h6, h7, h8⟩ := windows_at t
  blk_ext [iblk, h2]

theorem wg_at (n : Fin 768) (j : Fin 1024) : iblk m c 1 t (ix2 n j) = argWg m c (ix2 j n) := by
  refine Eq.trans ?_ (V_wg m c n j)
  obtain ⟨h0, h1, h2, h3, h4, h5, h6, h7, h8⟩ := windows_at t
  blk_ext [iblk, h1]

theorem wu_at (n : Fin 1024) (j : Fin 1024) : iblk m c 3 t (ix2 n j) = argWu m c (ix2 j n) := by
  refine Eq.trans ?_ (V_wu m c n j)
  obtain ⟨h0, h1, h2, h3, h4, h5, h6, h7, h8⟩ := windows_at t
  blk_ext [iblk, h3]

theorem x_at (i : Fin 512) (j : Fin 1024) : iblk m c 4 t (ix2 i j) = row m c (token t.val i) j := by
  have ht : t.val < 16 := lt_of_lt_of_eq t.isLt N_0
  unfold row token
  obtain ⟨h0, h1, h2, h3, h4, h5, h6, h7, h8⟩ := windows_at t
  blk_ext [iblk, h4]

theorem g_at (j : Fin 1024) : iblk m c 5 t (ix2 0 j) = argG m c (ix2 0 j) := by
  obtain ⟨h0, h1, h2, h3, h4, h5, h6, h7, h8⟩ := windows_at t
  blk_ext [iblk, h5]

theorem ct_at (i : Fin 512) (j : Fin 1024) : iblk m c 6 t (ix2 i j) = argC m c (ix2 (token t.val i) j) := by
  have ht : t.val < 16 := lt_of_lt_of_eq t.isLt N_0
  unfold token
  obtain ⟨h0, h1, h2, h3, h4, h5, h6, h7, h8⟩ := windows_at t
  blk_ext [iblk, h6]

theorem blockH_at (i : Fin 512) (j : Fin 1024) :
    blockH (iblk m c 0 t) (iblk m c 2 t) (iblk m c 1 t) (iblk m c 3 t) i j = gradH m c (token t.val i) j := by
  unfold blockH gradH
  exact congrArg₂ _ (Finset.sum_congr rfl fun n _ => congrArg₂ _ (da_at m c t i n) (wg_at m c t n j))
    (Finset.sum_congr rfl fun n _ => congrArg₂ _ (db_at m c t i n) (wu_at m c t n j))

theorem row_at (i : Fin 512) : (fun j => (iblk m c 4 t : Vec Ideal S512x1024 .f32) (ix2 i j)) = row m c (token t.val i) :=
  funext fun j => x_at m c t i j

end blocks

/-- The rows' gradient. -/
def gradX : Vec Ideal S8192x1024 .f32 := fun y => rowK (argC m c y) (fun j => gradH m c (y 0) j * argG m c (ix2 0 j)) (row m c (y 0)) (y 1)
/-- The scale's gradient. -/
def gradG : Vec Ideal S1x1024 .f32 := fun y => ∑ t, gradH m c t (y 1) * (row m c t (y 1) * scale (row m c t))

theorem rows_of (t : Fin cfg0.N) (i : Fin 512) (j : Fin 1024) :
    k0_pay7 (iblk m c 0 t) (iblk m c 1 t) (iblk m c 2 t) (iblk m c 3 t) (iblk m c 4 t) (iblk m c 5 t) (iblk m c 6 t) (ix2 i j)
      = gradX m c (ix2 (token t.val i) j) := by
  refine (rows_at (iblk m c 0 t) (iblk m c 2 t) (iblk m c 1 t) (iblk m c 3 t) (iblk m c 4 t) (iblk m c 6 t) (iblk m c 5 t) i j).trans ?_
  unfold gradX
  rw [row_at, ct_at]
  exact congrArg (fun D => rowK _ D _ _) (funext fun j => congrArg₂ _ (blockH_at m c t i j) (g_at m c t j))

theorem rows_written (t : Fin cfg0.N) (i : Fin 512) (j : Fin 1024) :
    (outsAt0 m c t.val t.isLt).1 (ix2 i j) = gradX m c (ix2 (token t.val i) j) := by
  by_cases h : t.val % 16 = 0
  · rw [outsAt0_A m c t h, rows_first]
    exact rows_of m c t i j
  · rw [outsAt0_B m c t h, rows_later]
    exact rows_of m c t i j

theorem arr_rows : (dats m 0 c).arrAt 7 cfg0.N = gradX m c := by
  refine (dats m 0 c).arrAt_eq_of_covers 7 _ (by decide +kernel) fun t hf y => ?_
  blk_simp
  rw [after0_7]
  have ht : t.val < 16 := lt_of_lt_of_eq t.isLt N_0
  idx_vars y
  have he : (win0_7.blk t).view.emb (ix2 y0 y1) = ix2 (token t.val y0) y1 := by
    obtain ⟨h0, h1, h2, h3, h4, h5, h6, h7, h8⟩ := windows_at t
    unfold token
    blk_ext [h7]
  exact (rows_written m c t y0 y1).trans (congrArg (gradX m c) he).symm

/-- The part of the scale's gradient a block of tokens gives. -/
def part (u : ℕ) (j : Fin 1024) : EReal :=
  ∑ s : Fin 512, gradH m c (token u s) j * (row m c (token u s) j * scale (row m c (token u s)))

theorem gain_of (t : Fin cfg0.N) (acc : Vec Ideal S1x1024 .f32) (j : Fin 1024) :
    k0_pay2 (k0_pay6 (iblk m c 0 t) (iblk m c 1 t) (iblk m c 2 t) (iblk m c 3 t) (iblk m c 4 t)) acc (ix2 0 j) = acc (ix2 0 j) + part m c t.val j := by
  refine (gain_at (iblk m c 0 t) (iblk m c 2 t) (iblk m c 1 t) (iblk m c 3 t) (iblk m c 4 t) acc j).trans ?_
  unfold part
  exact congrArg _ (Finset.sum_congr rfl fun s _ => by rw [row_at]; exact congrArg₂ _ (blockH_at m c t s j) (congrArg (· * _) (x_at m c t s j)))

/-- After each grid point the scale's gradient covers the blocks of tokens so far. -/
theorem carried (n : ℕ) (hn : n < cfg0.N) (j : Fin 1024) :
    (outsAt0 m c n hn).2 (ix2 0 j) = ∑ u ∈ Finset.range (n + 1), part m c u j := by
  have h16 : n < 16 := lt_of_lt_of_eq hn N_0
  induction n with
  | zero =>
    rw [outsAt0_A m c ⟨0, hn⟩ rfl, gain_first]
    refine (gain_of m c ⟨0, hn⟩ _ j).trans ?_
    rw [zero_at, zero_add, Finset.sum_range_one]
  | succ n ih =>
    have hs := ih (by omega) (by omega)
    rw [outsAt0_B m c ⟨n + 1, hn⟩ (by show ¬(n + 1) % 16 = 0; omega), gain_later]
    refine (gain_of m c ⟨n + 1, hn⟩ _ j).trans ?_
    rw [Finset.sum_range_succ _ (n + 1)]
    exact congrArg (· + _) hs

theorem arr_gain : (dats m 0 c).arrAt 8 cfg0.N = gradG m c := by
  refine (dats m 0 c).arrAt_eq_of_covers 8 _ (by decide +kernel) fun t hf y => ?_
  blk_simp
  rw [after0_8]
  have ht : t.val < 16 := lt_of_lt_of_eq t.isLt N_0
  have hl : t.val = 15 := by have := (flush0_8 t).mp hf; omega
  idx_vars y
  obtain rfl : y0 = 0 := Subsingleton.elim _ _
  have he : (win0_8.blk t).view.emb (ix2 0 y1) = ix2 0 y1 := by
    obtain ⟨h0, h1, h2, h3, h4, h5, h6, h7, h8⟩ := windows_at t
    blk_ext [h8]
  refine Eq.trans ?_ (congrArg (gradG m c) he).symm
  refine (carried m c t.val t.isLt y1).trans ?_
  rw [hl]
  exact sum_tokens fun t => gradH m c t y1 * (row m c t y1 * scale (row m c t))

end Cert.Kernel10Ideal.Hand

namespace Cert.Proof

open Idealize.ShloMosaic Idealize.ShloMosaic.TcCoe Idealize.SL.Sem Cert.Norm

/-- The kernel on machine words ends, its arguments unchanged and its counters at zero. -/
theorem frame_kernel10 : Cert.quiescent_Kernel10 := fun m ρ _ => Cert.Kernel10.Gen.frame m ρ

/-- The kernel over the extended reals ends, its arguments unchanged and its counters at zero. -/
theorem frame_ideal10 : Cert.quiescent_Kernel10Ideal := fun m ρ _ => Cert.Kernel10Ideal.Gen.frame m ρ

/-- The reference ends, its arguments unchanged and its counters at zero. -/
theorem frame_reference10 : Cert.quiescent_Reference10Ideal := fun m ρ _ =>
  (θ_run Cert.Reference10Ideal.defs _ _).mono (fun r h => ⟨fun c => (h c).2.2, sem_eq_zero_of_no_sems (by decide) r.2⟩)
    (Cert.Reference10Ideal.Value.run (F := Ideal) m ρ)

section reference
open Cert.Reference10Ideal Cert.Reference10Ideal.Read
variable (da : Vec Ideal S8192x768 .f32) (db : Vec Ideal S8192x1024 .f32) (wg : Vec Ideal S1024x768 .f32) (wu : Vec Ideal S1024x1024 .f32) (x ct : Vec Ideal S8192x1024 .f32) (g : Vec Ideal S1x1024 .f32)

/-- The reference's rows' gradient at an entry. -/
theorem reference_mix_rows (i : Fin 8192) (j : Fin 1024) : val_main_v39 (F := Ideal) da db wg wu x g ct (ix2 i j)
    = rowR (ct (ix2 i j)) (fun j => (∑ n, db (ix2 i n) * wu (ix2 j n) + ∑ n, da (ix2 i n) * wg (ix2 j n)) * g (ix2 0 j)) (fun j => x (ix2 i j)) j := by
  have one : ∀ f : Fin 1 → EReal, ∑ k, f k = f 0 := fun f => Fin.sum_univ_one f
  unfold rowR scale square width eps minusHalf
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_v19, val_main_v20, val_main_cst_3, val_main_v21, val_main_v22, val_main_v23, val_main_v24, val_main_v25, val_main_cst_4, val_main_v26, val_main_v27, val_main_v28, val_main_v29, val_main_v30, val_main_v31, val_main_cst_5, val_main_v32, val_main_v33, val_main_cst_6, val_main_v34, val_main_v35, val_main_v36, val_main_v37, val_main_v38, val_main_v39]
  simp only [one]

/-- The reference's scale's gradient at an entry. -/
theorem reference_mix_gain (j : Fin 1024) : val_main_v22 (F := Ideal) da db wg wu x (ix2 0 j)
    = ∑ i, x (ix2 i j) * (scale fun j => x (ix2 i j)) * (∑ n, db (ix2 i n) * wu (ix2 j n) + ∑ n, da (ix2 i n) * wg (ix2 j n)) := by
  unfold scale square width eps
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_v19, val_main_v20, val_main_cst_3, val_main_v21, val_main_v22, val_main_v23, val_main_v24, val_main_v25, val_main_cst_4, val_main_v26, val_main_v27, val_main_v28, val_main_v29, val_main_v30, val_main_v31, val_main_cst_5, val_main_v32, val_main_v33, val_main_cst_6, val_main_v34, val_main_v35, val_main_v36, val_main_v37, val_main_v38, val_main_v39]

end reference

/-- The norm's kernel and the reference leave the same gradients. -/
theorem algebraic10 : Cert.algebraic_Kernel10Ideal_Reference10Ideal := by
  intro m g m' g' _ hm
  refine ⟨fun c => Cert.Kernel10Ideal.Hand.gradX m c, fun c => Cert.Kernel10Ideal.Hand.gradG m c, ?_, ?_⟩
  · exact (θ_run Cert.Kernel10Ideal.defs _ _).mono (fun r h c => ⟨(h c).1.trans (Cert.Kernel10Ideal.Hand.arr_rows m c),
      (h c).2.1.trans (Cert.Kernel10Ideal.Hand.arr_gain m c), (h c).2.2⟩) (Cert.Kernel10Ideal.Value.run_blocks m g)
  · refine (θ_run Cert.Reference10Ideal.defs _ _).mono (fun r h c => ⟨(h c).1.trans ?_, (h c).2.1.trans ?_, (h c).2.2⟩)
      (Cert.Reference10Ideal.Value.run (F := Ideal) m' g')
    · obtain ⟨e0, e1, e2, e3, e4, e5, e6⟩ := hm c
      rw [Cert.Reference10Ideal.Read.val_main_v39_eq, e0, e1, e2, e3, e4, e5, e6]
      funext y
      idx_vars y
      refine (reference_mix_rows _ _ _ _ _ _ _ y0 y1).trans ((row_eq _ _ _ y1).symm.trans ?_)
      exact congrArg (fun D => rowK _ D _ _) (funext fun j => congrArg (· * _) (add_comm _ _))
    · obtain ⟨e0, e1, e2, e3, e4, e5, e6⟩ := hm c
      rw [Cert.Reference10Ideal.Read.val_main_v22_eq, e0, e1, e2, e3, e4]
      funext y
      idx_vars y
      obtain rfl : y0 = 0 := Subsingleton.elim _ _
      refine (reference_mix_gain _ _ _ _ _ y1).trans (Finset.sum_congr rfl fun i _ => ?_)
      rw [mul_comm, add_comm (∑ n, _)]
      rfl

end Cert.Proof
-- ==== Proof.WeightQkv.lean ====
/- The gradient of the input projection's weights for the queries, keys and values. -/
module

public import proofs.«01_k».proof.Proof.Rows
public import proofs.«01_k».proof.Proof.Gen.Kernel11Ideal.Value
public import Idealize.ShloMosaic.Lib.StableHlo.ReadAt
public import Idealize.ShloMosaic.Lib.Claim
public import Idealize.ShloMosaic.Lib.Pipeline.FrameBody
public import proofs.«01_k».proof.Defs
public import proofs.«01_k».proof.Proof.Gen.Kernel11.Frame
public import proofs.«01_k».proof.Proof.Gen.Reference11Ideal.Run
public import proofs.«01_k».proof.Proof.Gen.Reference11Ideal.Read
public import Idealize.ShloMosaic.Lib.Quiescent

@[expose] public section

set_option maxRecDepth 16384

noncomputable section

namespace Cert.Kernel11Ideal.Hand

open Idealize.ShloMosaic Idealize.ShloMosaic.TcCoe Cert.Kernel11Ideal Cert.Kernel11Ideal.Gen
open Cert.Rows hiding column

/-- Column `a` of the half with number `n`. -/
def column (n : ℕ) (a : Fin 384) : Fin 768 := ⟨n % 2 * 384 + a.val, by have := a.isLt; omega⟩

theorem origin : (![0, 0] : Fin 2 → ℕ) = fun _ => 0 := by decide

section cases
variable {F : FTy → Type} [FloatOps F] (c : Dev nD) (i : grid0.Coords)
  (a2 : Memref sig .tc .vmem S2048x384 .bf16) (h2 : a2.IsWhole) (a3 : Memref sig .tc .vmem S2048x1024 .bf16) (h3 : a3.IsWhole)
  (a4 : Memref sig .tc .vmem S384x1024 .bf16) (h4 : a4.IsWhole) (a5 : Memref sig .tc .vmem S384x1024 .f32) (h5 : a5.IsWhole)
  (x : Vec F S2048x384 .bf16) (y : Vec F S2048x1024 .bf16) (acc : Vec F S384x1024 .f32)

/-- The first block of tokens starts the sum from zero. -/
theorem first (hc0 : cond0_0 i) (hc1 : ¬cond0_1 i) :
    sout0_A_0 c i a2 h2 a3 h3 a4 h4 a5 h5 hc0 hc1 x y = k0_pay2 k0_pay1 x y := by
  unfold sout0_A_0
  rw [View.read_writes_eq_canon _ _ _ (scover0_A_0 c i a2 h2 a3 h3 a4 h4 a5 h5 hc0 hc1 x y)]
  unfold kernelRun0_A
  dsimp only
  sl_unfold_words
  rw [View.canon_cons_unit_zero (S := S384x1024) origin, View.readCov_unit_zero (S := S384x1024) _ origin]
  simp only [View.readAt_eq_ld, h2.read_unread, h3.read_unread, View.ld_unit_zero (S := S2048x384) origin, View.ld_unit_zero (S := S2048x1024) origin,
    View.ld_unit_zero (S := S384x1024) origin]

/-- A later block adds its products. -/
theorem later (hc0 : ¬cond0_0 i) (hc1 : ¬cond0_1 i) :
    sout0_B_0 c i a2 h2 a3 h3 a4 h4 a5 h5 hc0 hc1 x y acc = k0_pay2 acc x y := by
  unfold sout0_B_0
  rw [View.read_writes_eq_canon _ _ _ (scover0_B_0 c i a2 h2 a3 h3 a4 h4 a5 h5 hc0 hc1 x y acc)]
  unfold kernelRun0_B
  dsimp only
  rw [View.canon_unit_zero origin]
  simp only [View.readAt_eq_ld, h2.read_unread, h3.read_unread, h5.read_unread, View.ld_unit_zero (S := S2048x384) origin, View.ld_unit_zero (S := S2048x1024) origin,
    View.ld_unit_zero (S := S384x1024) origin]

/-- So does the last block … -/
theorem last (hc0 : ¬cond0_0 i) (hc1 : cond0_1 i) :
    sout0_C_0 c i a2 h2 a3 h3 a4 h4 a5 h5 hc0 hc1 x y acc = k0_pay2 acc x y := by
  unfold sout0_C_0
  rw [View.read_writes_eq_canon _ _ _ (scover0_C_0 c i a2 h2 a3 h3 a4 h4 a5 h5 hc0 hc1 x y acc)]
  unfold kernelRun0_C
  dsimp only
  sl_unfold_words
  rw [View.canon_unit_zero origin]
  simp only [View.readAt_eq_ld, h2.read_unread, h3.read_unread, h5.read_unread, View.ld_unit_zero (S := S2048x384) origin, View.ld_unit_zero (S := S2048x1024) origin,
    View.ld_unit_zero (S := S384x1024) origin]

/-- … which also stores the scaled sum. -/
theorem stored (hc0 : ¬cond0_0 i) (hc1 : cond0_1 i) :
    out0_C_2 c i a2 h2 a3 h3 a4 h4 a5 h5 hc0 hc1 x y acc = k0_pay3 (k0_pay2 acc x y) := by
  unfold out0_C_2
  rw [View.read_writes_eq_canon _ _ _ (cover0_C_2 c i a2 h2 a3 h3 a4 h4 a5 h5 hc0 hc1 x y acc)]
  unfold kernelRun0_C
  dsimp only
  sl_unfold_words
  rw [View.canon_unit_zero origin, View.readCov_unit_zero (S := S384x1024) _ origin]
  simp only [View.readAt_eq_ld, h2.read_unread, h3.read_unread, h5.read_unread, View.ld_unit_zero (S := S2048x384) origin, View.ld_unit_zero (S := S2048x1024) origin,
    View.ld_unit_zero (S := S384x1024) origin]

end cases

theorem zero_at (a : Fin 384) (b : Fin 1024) : (k0_pay1 : FVec Ideal S384x1024 .f32) (ix2 a b) = 0 := by
  pointwise [k0_pay1]

theorem step_at (acc : Vec Ideal S384x1024 .f32) (x : Vec Ideal S2048x384 .bf16) (y : Vec Ideal S2048x1024 .bf16) (a : Fin 384) (b : Fin 1024) :
    k0_pay2 acc x y (ix2 a b) = acc (ix2 a b) + ∑ s : Fin 2048, x (ix2 s a) * y (ix2 s b) := by
  pointwise [k0_pay2]

theorem scaled_at (acc : Vec Ideal S384x1024 .f32) (a : Fin 384) (b : Fin 1024) :
    k0_pay3 acc (ix2 a b) = acc (ix2 a b) := by
  pointwise [k0_pay3]

variable (m : (ℓ : Loc nD τ sig) → Buf (Elt Ideal) ℓ) (c : Dev nD)

/-- The layer's input. -/
abbrev argH : Vec Ideal S8192x1024 .f32 := m ((c.tc : Thread nD τ).loc main_arg0)
/-- The cotangent of the layer's output. -/
abbrev argC : Vec Ideal S8192x768 .f32 := m ((c.tc : Thread nD τ).loc main_arg1)

/-- The windows' block indices at each grid point. -/
theorem windows_at : ∀ t : Fin cfg0.N, win0_0.index t = ![t.val % 4, t.val / 4] ∧ win0_1.index t = ![t.val % 4, 0]
    ∧ win0_2.index t = ![t.val / 4, 0] := by decide +kernel

theorem cotangent_at (t : Fin cfg0.N) (s : Fin 2048) (a : Fin 384) :
    iblk m c 0 t (ix2 s a) = argC m c (ix2 (token t.val s) (column (t.val / 4) a)) := by
  have ht : t.val < 8 := lt_of_lt_of_eq t.isLt N_0
  have e : V m c main_v0 = argC m c := by
    unfold V
    after_reads_simp
    rfl
  rw [← e]
  unfold token column
  obtain ⟨h0, h1, h2⟩ := windows_at t
  blk_ext [iblk, h0]

theorem input_at (t : Fin cfg0.N) (s : Fin 2048) (b : Fin 1024) :
    iblk m c 1 t (ix2 s b) = argH m c (ix2 (token t.val s) b) := by
  have ht : t.val < 8 := lt_of_lt_of_eq t.isLt N_0
  have e : V m c main_v1 = argH m c := by
    unfold V
    after_reads_simp
    rfl
  rw [← e]
  unfold token
  obtain ⟨h0, h1, h2⟩ := windows_at t
  blk_ext [iblk, h1]

/-- The products of the tokens of block `u`, summed. -/
def part (u : ℕ) (n : ℕ) (a : Fin 384) (b : Fin 1024) : EReal :=
  ∑ s : Fin 2048, argC m c (ix2 (token u s) (column n a)) * argH m c (ix2 (token u s) b)

theorem step_of (t : Fin cfg0.N) (acc : Vec Ideal S384x1024 .f32) (a : Fin 384) (b : Fin 1024) :
    k0_pay2 acc (iblk m c 0 t) (iblk m c 1 t) (ix2 a b) = acc (ix2 a b) + part m c t.val (t.val / 4) a b := by
  rw [step_at]
  exact congrArg _ (Finset.sum_congr rfl fun s _ => by rw [cotangent_at, input_at])

/-- After each grid point the carried sum covers the blocks of tokens so far. -/
theorem carried (n : ℕ) (hn : n < cfg0.N) (a : Fin 384) (b : Fin 1024) :
    (outsAt0 m c n hn).2 (ix2 a b) = ∑ u ∈ Finset.range (n % 4 + 1), part m c u (n / 4) a b := by
  have h8 : n < 8 := lt_of_lt_of_eq hn N_0
  have fold : ∀ k, part m c n k a b = part m c (n % 4) k a b := fun k => by
    unfold part token
    simp only [Nat.mod_mod]
  induction n with
  | zero =>
    rw [outsAt0_A m c ⟨0, hn⟩ rfl (by show ¬0 % 4 = 3; omega), first]
    refine (step_of m c ⟨0, hn⟩ _ a b).trans ?_
    rw [zero_at, zero_add, Finset.sum_range_one]
  | succ n ih =>
    by_cases h0 : (n + 1) % 4 = 0
    · rw [outsAt0_A m c ⟨n + 1, hn⟩ h0 (by show ¬(n + 1) % 4 = 3; omega), first]
      refine (step_of m c ⟨n + 1, hn⟩ _ a b).trans ?_
      rw [zero_at, zero_add, fold, h0, Finset.sum_range_one]
    · have hs := ih (by omega) (by omega) (fun k => by unfold part token; simp only [Nat.mod_mod])
      have goal : (outsAt0 m c n (by omega)).2 (ix2 a b) + part m c (n + 1) ((n + 1) / 4) a b
          = ∑ u ∈ Finset.range ((n + 1) % 4 + 1), part m c u ((n + 1) / 4) a b := by
        rw [hs, fold, show (n + 1) / 4 = n / 4 by omega, Finset.sum_range_succ _ ((n + 1) % 4), show (n + 1) % 4 = n % 4 + 1 by omega]
      by_cases h1 : (n + 1) % 4 = 3
      · rw [outsAt0_C m c ⟨n + 1, hn⟩ h0 h1, last]
        exact (step_of m c ⟨n + 1, hn⟩ _ a b).trans goal
      · rw [outsAt0_B m c ⟨n + 1, hn⟩ h0 h1, later]
        exact (step_of m c ⟨n + 1, hn⟩ _ a b).trans goal

/-- At the last block of tokens the stored block is the carried sum. -/
theorem written (t : Fin cfg0.N) (h1 : t.val % 4 = 3) (a : Fin 384) (b : Fin 1024) :
    (outsAt0 m c t.val t.isLt).1 (ix2 a b) = (outsAt0 m c t.val t.isLt).2 (ix2 a b) := by
  rw [outsAt0_C m c t (by omega) h1, last, stored]
  exact scaled_at _ a b

/-- The transposed gradient of the weight. -/
def gradient : Vec Ideal S768x1024 .bf16 := fun y => ∑ x, argC m c (ix2 x (y 0)) * argH m c (ix2 x (y 1))

theorem arr : (dats m 0 c).arrAt 2 cfg0.N = gradient m c := by
  refine (dats m 0 c).arrAt_eq_of_covers 2 _ (by decide +kernel) fun t hf y => ?_
  blk_simp
  rw [after0_2]
  have ht : t.val < 8 := lt_of_lt_of_eq t.isLt N_0
  have hl : t.val % 4 = 3 := (flush0_2 t).mp hf
  idx_vars y
  have he : (win0_2.blk t).view.emb (ix2 y0 y1) = ix2 (column (t.val / 4) y0) y1 := by
    obtain ⟨h0, h1, h2⟩ := windows_at t
    unfold column
    blk_ext [h2]
  refine Eq.trans ?_ (congrArg (gradient m c) he).symm
  refine (written m c t hl y0 y1).trans ((carried m c t.val t.isLt y0 y1).trans ?_)
  rw [hl]
  exact sum_tokens fun x => argC m c (ix2 x (column (t.val / 4) y0)) * argH m c (ix2 x y1)

end Cert.Kernel11Ideal.Hand

namespace Cert.Proof

open Idealize.ShloMosaic Idealize.ShloMosaic.TcCoe Idealize.SL.Sem

/-- The kernel on machine words ends, its arguments unchanged and its counters at zero. -/
theorem frame_kernel11 : Cert.quiescent_Kernel11 := fun m ρ _ => Cert.Kernel11.Gen.frame m ρ

/-- The kernel over the extended reals ends, its arguments unchanged and its counters at zero. -/
theorem frame_ideal11 : Cert.quiescent_Kernel11Ideal := fun m ρ _ => Cert.Kernel11Ideal.Gen.frame m ρ

/-- The reference ends, its arguments unchanged and its counters at zero. -/
theorem frame_reference11 : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- The reference's transposed gradient at an entry. -/
theorem reference11 (h : Vec Ideal Cert.Reference11Ideal.S8192x1024 .f32) (ct : Vec Ideal Cert.Reference11Ideal.S8192x768 .f32) :
    Cert.Reference11Ideal.Read.val_main_v5 (F := Ideal) h ct = fun y => ∑ x, ct (ix2 x (y 0)) * h (ix2 x (y 1)) := by
  funext y
  rw [Cert.Reference11Ideal.Read.val_main_v5_apply, Cert.Reference11Ideal.Read.val_main_v4_apply, Cert.Reference11Ideal.Read.val_main_v3_apply,
    Cert.Reference11Ideal.Read.val_main_v2_apply]
  refine Finset.sum_congr rfl fun x _ => congrArg₂ (· * ·) (congrArg ct ?_) (congrArg h ?_)
  · funext a; match a with | ⟨0, _⟩ => rfl | ⟨1, _⟩ => rfl
  · funext a; match a with | ⟨0, _⟩ => rfl | ⟨1, _⟩ => rfl

/-- The weight kernel and the reference leave the same gradient. -/
theorem algebraic11 : Cert.algebraic_Kernel11Ideal_Reference11Ideal := by
  intro m g m' g' _ hm
  refine ⟨fun c => Cert.Kernel11Ideal.Hand.gradient m c, ?_, ?_⟩
  · exact (θ_run Cert.Kernel11Ideal.defs _ _).mono (fun r h c => ⟨(h c).1.trans (Cert.Kernel11Ideal.Hand.arr m c), (h c).2⟩)
      (Cert.Kernel11Ideal.Value.run_blocks m g)
  · refine (θ_run Cert.Reference11Ideal.defs _ _).mono (fun r h c => ⟨(h c).1.trans ?_, (h c).2⟩) (Cert.Reference11Ideal.Value.run (F := Ideal) m' g')
    obtain ⟨e0, e1⟩ := hm c
    rw [Cert.Reference11Ideal.Read.val_main_v5_eq, e0, e1]
    exact reference11 _ _

end Cert.Proof
-- ==== Proof.WeightGate.lean ====
/- The gradient of the input projection's weights for the gate. -/
module

public import proofs.«01_k».proof.Proof.Rows
public import proofs.«01_k».proof.Proof.Gen.Kernel12Ideal.Value
public import Idealize.ShloMosaic.Lib.StableHlo.ReadAt
public import Idealize.ShloMosaic.Lib.Claim
public import Idealize.ShloMosaic.Lib.Pipeline.FrameBody
public import proofs.«01_k».proof.Defs
public import proofs.«01_k».proof.Proof.Gen.Kernel12.Frame
public import proofs.«01_k».proof.Proof.Gen.Reference12Ideal.Run
public import proofs.«01_k».proof.Proof.Gen.Reference12Ideal.Read
public import Idealize.ShloMosaic.Lib.Quiescent

@[expose] public section

set_option maxRecDepth 16384

noncomputable section

namespace Cert.Kernel12Ideal.Hand

open Idealize.ShloMosaic Idealize.ShloMosaic.TcCoe Cert.Kernel12Ideal Cert.Kernel12Ideal.Gen
open Cert.Rows hiding column

/-- Column `a` of the half with number `n`. -/
def column (n : ℕ) (a : Fin 512) : Fin 1024 := ⟨n % 2 * 512 + a.val, by have := a.isLt; omega⟩

theorem origin : (![0, 0] : Fin 2 → ℕ) = fun _ => 0 := by decide

section cases
variable {F : FTy → Type} [FloatOps F] (c : Dev nD) (i : grid0.Coords)
  (a2 : Memref sig .tc .vmem S2048x512 .bf16) (h2 : a2.IsWhole) (a3 : Memref sig .tc .vmem S2048x1024 .bf16) (h3 : a3.IsWhole)
  (a4 : Memref sig .tc .vmem S512x1024 .bf16) (h4 : a4.IsWhole) (a5 : Memref sig .tc .vmem S512x1024 .f32) (h5 : a5.IsWhole)
  (x : Vec F S2048x512 .bf16) (y : Vec F S2048x1024 .bf16) (acc : Vec F S512x1024 .f32)

/-- The first block of tokens starts the sum from zero. -/
theorem first (hc0 : cond0_0 i) (hc1 : ¬cond0_1 i) :
    sout0_A_0 c i a2 h2 a3 h3 a4 h4 a5 h5 hc0 hc1 x y = k0_pay2 k0_pay1 x y := by
  unfold sout0_A_0
  rw [View.read_writes_eq_canon _ _ _ (scover0_A_0 c i a2 h2 a3 h3 a4 h4 a5 h5 hc0 hc1 x y)]
  unfold kernelRun0_A
  dsimp only
  sl_unfold_words
  rw [View.canon_cons_unit_zero (S := S512x1024) origin, View.readCov_unit_zero (S := S512x1024) _ origin]
  simp only [View.readAt_eq_ld, h2.read_unread, h3.read_unread, View.ld_unit_zero (S := S2048x512) origin, View.ld_unit_zero (S := S2048x1024) origin,
    View.ld_unit_zero (S := S512x1024) origin]

/-- A later block adds its products. -/
theorem later (hc0 : ¬cond0_0 i) (hc1 : ¬cond0_1 i) :
    sout0_B_0 c i a2 h2 a3 h3 a4 h4 a5 h5 hc0 hc1 x y acc = k0_pay2 acc x y := by
  unfold sout0_B_0
  rw [View.read_writes_eq_canon _ _ _ (scover0_B_0 c i a2 h2 a3 h3 a4 h4 a5 h5 hc0 hc1 x y acc)]
  unfold kernelRun0_B
  dsimp only
  rw [View.canon_unit_zero origin]
  simp only [View.readAt_eq_ld, h2.read_unread, h3.read_unread, h5.read_unread, View.ld_unit_zero (S := S2048x512) origin, View.ld_unit_zero (S := S2048x1024) origin,
    View.ld_unit_zero (S := S512x1024) origin]

/-- So does the last block … -/
theorem last (hc0 : ¬cond0_0 i) (hc1 : cond0_1 i) :
    sout0_C_0 c i a2 h2 a3 h3 a4 h4 a5 h5 hc0 hc1 x y acc = k0_pay2 acc x y := by
  unfold sout0_C_0
  rw [View.read_writes_eq_canon _ _ _ (scover0_C_0 c i a2 h2 a3 h3 a4 h4 a5 h5 hc0 hc1 x y acc)]
  unfold kernelRun0_C
  dsimp only
  sl_unfold_words
  rw [View.canon_unit_zero origin]
  simp only [View.readAt_eq_ld, h2.read_unread, h3.read_unread, h5.read_unread, View.ld_unit_zero (S := S2048x512) origin, View.ld_unit_zero (S := S2048x1024) origin,
    View.ld_unit_zero (S := S512x1024) origin]

/-- … which also stores the scaled sum. -/
theorem stored (hc0 : ¬cond0_0 i) (hc1 : cond0_1 i) :
    out0_C_2 c i a2 h2 a3 h3 a4 h4 a5 h5 hc0 hc1 x y acc = k0_pay3 (k0_pay2 acc x y) := by
  unfold out0_C_2
  rw [View.read_writes_eq_canon _ _ _ (cover0_C_2 c i a2 h2 a3 h3 a4 h4 a5 h5 hc0 hc1 x y acc)]
  unfold kernelRun0_C
  dsimp only
  sl_unfold_words
  rw [View.canon_unit_zero origin, View.readCov_unit_zero (S := S512x1024) _ origin]
  simp only [View.readAt_eq_ld, h2.read_unread, h3.read_unread, h5.read_unread, View.ld_unit_zero (S := S2048x512) origin, View.ld_unit_zero (S := S2048x1024) origin,
    View.ld_unit_zero (S := S512x1024) origin]

end cases

theorem zero_at (a : Fin 512) (b : Fin 1024) : (k0_pay1 : FVec Ideal S512x1024 .f32) (ix2 a b) = 0 := by
  pointwise [k0_pay1]

theorem step_at (acc : Vec Ideal S512x1024 .f32) (x : Vec Ideal S2048x512 .bf16) (y : Vec Ideal S2048x1024 .bf16) (a : Fin 512) (b : Fin 1024) :
    k0_pay2 acc x y (ix2 a b) = acc (ix2 a b) + ∑ s : Fin 2048, x (ix2 s a) * y (ix2 s b) := by
  pointwise [k0_pay2]

theorem scaled_at (acc : Vec Ideal S512x1024 .f32) (a : Fin 512) (b : Fin 1024) :
    k0_pay3 acc (ix2 a b) = acc (ix2 a b) := by
  pointwise [k0_pay3]

variable (m : (ℓ : Loc nD τ sig) → Buf (Elt Ideal) ℓ) (c : Dev nD)

/-- The layer's input. -/
abbrev argH : Vec Ideal S8192x1024 .f32 := m ((c.tc : Thread nD τ).loc main_arg0)
/-- The cotangent of the layer's output. -/
abbrev argC : Vec Ideal S8192x1024 .f32 := m ((c.tc : Thread nD τ).loc main_arg1)

/-- The windows' block indices at each grid point. -/
theorem windows_at : ∀ t : Fin cfg0.N, win0_0.index t = ![t.val % 4, t.val / 4] ∧ win0_1.index t = ![t.val % 4, 0]
    ∧ win0_2.index t = ![t.val / 4, 0] := by decide +kernel

theorem cotangent_at (t : Fin cfg0.N) (s : Fin 2048) (a : Fin 512) :
    iblk m c 0 t (ix2 s a) = argC m c (ix2 (token t.val s) (column (t.val / 4) a)) := by
  have ht : t.val < 8 := lt_of_lt_of_eq t.isLt N_0
  have e : V m c main_v0 = argC m c := by
    unfold V
    after_reads_simp
    rfl
  rw [← e]
  unfold token column
  obtain ⟨h0, h1, h2⟩ := windows_at t
  blk_ext [iblk, h0]

theorem input_at (t : Fin cfg0.N) (s : Fin 2048) (b : Fin 1024) :
    iblk m c 1 t (ix2 s b) = argH m c (ix2 (token t.val s) b) := by
  have ht : t.val < 8 := lt_of_lt_of_eq t.isLt N_0
  have e : V m c main_v1 = argH m c := by
    unfold V
    after_reads_simp
    rfl
  rw [← e]
  unfold token
  obtain ⟨h0, h1, h2⟩ := windows_at t
  blk_ext [iblk, h1]

/-- The products of the tokens of block `u`, summed. -/
def part (u : ℕ) (n : ℕ) (a : Fin 512) (b : Fin 1024) : EReal :=
  ∑ s : Fin 2048, argC m c (ix2 (token u s) (column n a)) * argH m c (ix2 (token u s) b)

theorem step_of (t : Fin cfg0.N) (acc : Vec Ideal S512x1024 .f32) (a : Fin 512) (b : Fin 1024) :
    k0_pay2 acc (iblk m c 0 t) (iblk m c 1 t) (ix2 a b) = acc (ix2 a b) + part m c t.val (t.val / 4) a b := by
  rw [step_at]
  exact congrArg _ (Finset.sum_congr rfl fun s _ => by rw [cotangent_at, input_at])

/-- After each grid point the carried sum covers the blocks of tokens so far. -/
theorem carried (n : ℕ) (hn : n < cfg0.N) (a : Fin 512) (b : Fin 1024) :
    (outsAt0 m c n hn).2 (ix2 a b) = ∑ u ∈ Finset.range (n % 4 + 1), part m c u (n / 4) a b := by
  have h8 : n < 8 := lt_of_lt_of_eq hn N_0
  have fold : ∀ k, part m c n k a b = part m c (n % 4) k a b := fun k => by
    unfold part token
    simp only [Nat.mod_mod]
  induction n with
  | zero =>
    rw [outsAt0_A m c ⟨0, hn⟩ rfl (by show ¬0 % 4 = 3; omega), first]
    refine (step_of m c ⟨0, hn⟩ _ a b).trans ?_
    rw [zero_at, zero_add, Finset.sum_range_one]
  | succ n ih =>
    by_cases h0 : (n + 1) % 4 = 0
    · rw [outsAt0_A m c ⟨n + 1, hn⟩ h0 (by show ¬(n + 1) % 4 = 3; omega), first]
      refine (step_of m c ⟨n + 1, hn⟩ _ a b).trans ?_
      rw [zero_at, zero_add, fold, h0, Finset.sum_range_one]
    · have hs := ih (by omega) (by omega) (fun k => by unfold part token; simp only [Nat.mod_mod])
      have goal : (outsAt0 m c n (by omega)).2 (ix2 a b) + part m c (n + 1) ((n + 1) / 4) a b
          = ∑ u ∈ Finset.range ((n + 1) % 4 + 1), part m c u ((n + 1) / 4) a b := by
        rw [hs, fold, show (n + 1) / 4 = n / 4 by omega, Finset.sum_range_succ _ ((n + 1) % 4), show (n + 1) % 4 = n % 4 + 1 by omega]
      by_cases h1 : (n + 1) % 4 = 3
      · rw [outsAt0_C m c ⟨n + 1, hn⟩ h0 h1, last]
        exact (step_of m c ⟨n + 1, hn⟩ _ a b).trans goal
      · rw [outsAt0_B m c ⟨n + 1, hn⟩ h0 h1, later]
        exact (step_of m c ⟨n + 1, hn⟩ _ a b).trans goal

/-- At the last block of tokens the stored block is the carried sum. -/
theorem written (t : Fin cfg0.N) (h1 : t.val % 4 = 3) (a : Fin 512) (b : Fin 1024) :
    (outsAt0 m c t.val t.isLt).1 (ix2 a b) = (outsAt0 m c t.val t.isLt).2 (ix2 a b) := by
  rw [outsAt0_C m c t (by omega) h1, last, stored]
  exact scaled_at _ a b

/-- The transposed gradient of the weight. -/
def gradient : Vec Ideal S1024x1024 .bf16 := fun y => ∑ x, argC m c (ix2 x (y 0)) * argH m c (ix2 x (y 1))

theorem arr : (dats m 0 c).arrAt 2 cfg0.N = gradient m c := by
  refine (dats m 0 c).arrAt_eq_of_covers 2 _ (by decide +kernel) fun t hf y => ?_
  blk_simp
  rw [after0_2]
  have ht : t.val < 8 := lt_of_lt_of_eq t.isLt N_0
  have hl : t.val % 4 = 3 := (flush0_2 t).mp hf
  idx_vars y
  have he : (win0_2.blk t).view.emb (ix2 y0 y1) = ix2 (column (t.val / 4) y0) y1 := by
    obtain ⟨h0, h1, h2⟩ := windows_at t
    unfold column
    blk_ext [h2]
  refine Eq.trans ?_ (congrArg (gradient m c) he).symm
  refine (written m c t hl y0 y1).trans ((carried m c t.val t.isLt y0 y1).trans ?_)
  rw [hl]
  exact sum_tokens fun x => argC m c (ix2 x (column (t.val / 4) y0)) * argH m c (ix2 x y1)

end Cert.Kernel12Ideal.Hand

namespace Cert.Proof

open Idealize.ShloMosaic Idealize.ShloMosaic.TcCoe Idealize.SL.Sem

/-- The kernel on machine words ends, its arguments unchanged and its counters at zero. -/
theorem frame_kernel12 : Cert.quiescent_Kernel12 := fun m ρ _ => Cert.Kernel12.Gen.frame m ρ

/-- The kernel over the extended reals ends, its arguments unchanged and its counters at zero. -/
theorem frame_ideal12 : Cert.quiescent_Kernel12Ideal := fun m ρ _ => Cert.Kernel12Ideal.Gen.frame m ρ

/-- The reference ends, its arguments unchanged and its counters at zero. -/
theorem frame_reference12 : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

/-- The reference's transposed gradient at an entry. -/
theorem reference12 (h : Vec Ideal Cert.Reference12Ideal.S8192x1024 .f32) (ct : Vec Ideal Cert.Reference12Ideal.S8192x1024 .f32) :
    Cert.Reference12Ideal.Read.val_main_v5 (F := Ideal) h ct = fun y => ∑ x, ct (ix2 x (y 0)) * h (ix2 x (y 1)) := by
  funext y
  rw [Cert.Reference12Ideal.Read.val_main_v5_apply, Cert.Reference12Ideal.Read.val_main_v4_apply, Cert.Reference12Ideal.Read.val_main_v3_apply,
    Cert.Reference12Ideal.Read.val_main_v2_apply]
  refine Finset.sum_congr rfl fun x _ => congrArg₂ (· * ·) (congrArg ct ?_) (congrArg h ?_)
  · funext a; match a with | ⟨0, _⟩ => rfl | ⟨1, _⟩ => rfl
  · funext a; match a with | ⟨0, _⟩ => rfl | ⟨1, _⟩ => rfl

/-- The weight kernel and the reference leave the same gradient. -/
theorem algebraic12 : Cert.algebraic_Kernel12Ideal_Reference12Ideal := by
  intro m g m' g' _ hm
  refine ⟨fun c => Cert.Kernel12Ideal.Hand.gradient m c, ?_, ?_⟩
  · exact (θ_run Cert.Kernel12Ideal.defs _ _).mono (fun r h c => ⟨(h c).1.trans (Cert.Kernel12Ideal.Hand.arr m c), (h c).2⟩)
      (Cert.Kernel12Ideal.Value.run_blocks m g)
  · refine (θ_run Cert.Reference12Ideal.defs _ _).mono (fun r h c => ⟨(h c).1.trans ?_, (h c).2⟩) (Cert.Reference12Ideal.Value.run (F := Ideal) m' g')
    obtain ⟨e0, e1⟩ := hm c
    rw [Cert.Reference12Ideal.Read.val_main_v5_eq, e0, e1]
    exact reference12 _ _

end Cert.Proof
-- ==== Proof.WeightOut.lean ====
/- The gradient of the output projection's weight. -/
module

public import proofs.«01_k».proof.Proof.Rows
public import proofs.«01_k».proof.Proof.Gen.Kernel13Ideal.Value
public import Idealize.ShloMosaic.Lib.StableHlo.ReadAt
public import Idealize.ShloMosaic.Lib.Claim
public import Idealize.ShloMosaic.Lib.Pipeline.FrameBody
public import proofs.«01_k».proof.Defs
public import proofs.«01_k».proof.Proof.Gen.Kernel13.Frame
public import proofs.«01_k».proof.Proof.Gen.Reference13Ideal.Run
public import proofs.«01_k».proof.Proof.Gen.Reference13Ideal.Read
public import Idealize.ShloMosaic.Lib.Quiescent

@[expose] public section

set_option maxRecDepth 16384

noncomputable section

namespace Cert.Kernel13Ideal.Hand

open Idealize.ShloMosaic Idealize.ShloMosaic.TcCoe Cert.Kernel13Ideal Cert.Kernel13Ideal.Gen
open Cert.Rows hiding column

/-- Column `a` of the half with number `n`. -/
def column (n : ℕ) (a : Fin 512) : Fin 1024 := ⟨n % 2 * 512 + a.val, by have := a.isLt; omega⟩

theorem origin : (![0, 0] : Fin 2 → ℕ) = fun _ => 0 := by decide

section cases
variable {F : FTy → Type} [FloatOps F] (c : Dev nD) (i : grid0.Coords)
  (a2 : Memref sig .tc .vmem S2048x512 .bf16) (h2 : a2.IsWhole) (a3 : Memref sig .tc .vmem S2048x1024 .f32) (h3 : a3.IsWhole)
  (a4 : Memref sig .tc .vmem S512x1024 .bf16) (h4 : a4.IsWhole) (a5 : Memref sig .tc .vmem S512x1024 .f32) (h5 : a5.IsWhole)
  (x : Vec F S2048x512 .bf16) (y : Vec F S2048x1024 .f32) (acc : Vec F S512x1024 .f32)

/-- The first block of tokens starts the sum from zero. -/
theorem first (hc0 : cond0_0 i) (hc1 : ¬cond0_1 i) :
    sout0_A_0 c i a2 h2 a3 h3 a4 h4 a5 h5 hc0 hc1 x y = k0_pay2 k0_pay1 x y := by
  unfold sout0_A_0
  rw [View.read_writes_eq_canon _ _ _ (scover0_A_0 c i a2 h2 a3 h3 a4 h4 a5 h5 hc0 hc1 x y)]
  unfold kernelRun0_A
  dsimp only
  sl_unfold_words
  rw [View.canon_cons_unit_zero (S := S512x1024) origin, View.readCov_unit_zero (S := S512x1024) _ origin]
  simp only [View.readAt_eq_ld, h2.read_unread, h3.read_unread, View.ld_unit_zero (S := S2048x512) origin, View.ld_unit_zero (S := S2048x1024) origin,
    View.ld_unit_zero (S := S512x1024) origin]

/-- A later block adds its products. -/
theorem later (hc0 : ¬cond0_0 i) (hc1 : ¬cond0_1 i) :
    sout0_B_0 c i a2 h2 a3 h3 a4 h4 a5 h5 hc0 hc1 x y acc = k0_pay2 acc x y := by
  unfold sout0_B_0
  rw [View.read_writes_eq_canon _ _ _ (scover0_B_0 c i a2 h2 a3 h3 a4 h4 a5 h5 hc0 hc1 x y acc)]
  unfold kernelRun0_B
  dsimp only
  rw [View.canon_unit_zero origin]
  simp only [View.readAt_eq_ld, h2.read_unread, h3.read_unread, h5.read_unread, View.ld_unit_zero (S := S2048x512) origin, View.ld_unit_zero (S := S2048x1024) origin,
    View.ld_unit_zero (S := S512x1024) origin]

/-- So does the last block … -/
theorem last (hc0 : ¬cond0_0 i) (hc1 : cond0_1 i) :
    sout0_C_0 c i a2 h2 a3 h3 a4 h4 a5 h5 hc0 hc1 x y acc = k0_pay2 acc x y := by
  unfold sout0_C_0
  rw [View.read_writes_eq_canon _ _ _ (scover0_C_0 c i a2 h2 a3 h3 a4 h4 a5 h5 hc0 hc1 x y acc)]
  unfold kernelRun0_C
  dsimp only
  sl_unfold_words
  rw [View.canon_unit_zero origin]
  simp only [View.readAt_eq_ld, h2.read_unread, h3.read_unread, h5.read_unread, View.ld_unit_zero (S := S2048x512) origin, View.ld_unit_zero (S := S2048x1024) origin,
    View.ld_unit_zero (S := S512x1024) origin]

/-- … which also stores the scaled sum. -/
theorem stored (hc0 : ¬cond0_0 i) (hc1 : cond0_1 i) :
    out0_C_2 c i a2 h2 a3 h3 a4 h4 a5 h5 hc0 hc1 x y acc = k0_pay3 (k0_pay2 acc x y) := by
  unfold out0_C_2
  rw [View.read_writes_eq_canon _ _ _ (cover0_C_2 c i a2 h2 a3 h3 a4 h4 a5 h5 hc0 hc1 x y acc)]
  unfold kernelRun0_C
  dsimp only
  sl_unfold_words
  rw [View.canon_unit_zero origin, View.readCov_unit_zero (S := S512x1024) _ origin]
  simp only [View.readAt_eq_ld, h2.read_unread, h3.read_unread, h5.read_unread, View.ld_unit_zero (S := S2048x512) origin, View.ld_unit_zero (S := S2048x1024) origin,
    View.ld_unit_zero (S := S512x1024) origin]

end cases

theorem zero_at (a : Fin 512) (b : Fin 1024) : (k0_pay1 : FVec Ideal S512x1024 .f32) (ix2 a b) = 0 := by
  pointwise [k0_pay1]

theorem step_at (acc : Vec Ideal S512x1024 .f32) (x : Vec Ideal S2048x512 .bf16) (y : Vec Ideal S2048x1024 .f32) (a : Fin 512) (b : Fin 1024) :
    k0_pay2 acc x y (ix2 a b) = acc (ix2 a b) + ∑ s : Fin 2048, x (ix2 s a) * y (ix2 s b) := by
  pointwise [k0_pay2]

theorem scaled_at (acc : Vec Ideal S512x1024 .f32) (a : Fin 512) (b : Fin 1024) :
    k0_pay3 acc (ix2 a b) = acc (ix2 a b) := by
  pointwise [k0_pay3]

variable (m : (ℓ : Loc nD τ sig) → Buf (Elt Ideal) ℓ) (c : Dev nD)

/-- The layer's input. -/
abbrev argX : Vec Ideal S8192x1024 .f32 := m ((c.tc : Thread nD τ).loc main_arg0)
/-- The cotangent of the layer's output. -/
abbrev argC : Vec Ideal S8192x1024 .f32 := m ((c.tc : Thread nD τ).loc main_arg1)

/-- The windows' block indices at each grid point. -/
theorem windows_at : ∀ t : Fin cfg0.N, win0_0.index t = ![t.val % 4, t.val / 4] ∧ win0_1.index t = ![t.val % 4, 0]
    ∧ win0_2.index t = ![t.val / 4, 0] := by decide +kernel

theorem input_at (t : Fin cfg0.N) (s : Fin 2048) (a : Fin 512) :
    iblk m c 0 t (ix2 s a) = argX m c (ix2 (token t.val s) (column (t.val / 4) a)) := by
  have ht : t.val < 8 := lt_of_lt_of_eq t.isLt N_0
  have e : V m c main_v0 = argX m c := by
    unfold V
    after_reads_simp
    rfl
  rw [← e]
  unfold token column
  obtain ⟨h0, h1, h2⟩ := windows_at t
  blk_ext [iblk, h0]

theorem cotangent_at (t : Fin cfg0.N) (s : Fin 2048) (b : Fin 1024) :
    iblk m c 1 t (ix2 s b) = argC m c (ix2 (token t.val s) b) := by
  have ht : t.val < 8 := lt_of_lt_of_eq t.isLt N_0
  have e : V m c main_arg1 = argC m c := by
    unfold V
    after_reads_simp
  rw [← e]
  unfold token
  obtain ⟨h0, h1, h2⟩ := windows_at t
  blk_ext [iblk, h1]

/-- The products of the tokens of block `u`, summed. -/
def part (u : ℕ) (n : ℕ) (a : Fin 512) (b : Fin 1024) : EReal :=
  ∑ s : Fin 2048, argX m c (ix2 (token u s) (column n a)) * argC m c (ix2 (token u s) b)

theorem step_of (t : Fin cfg0.N) (acc : Vec Ideal S512x1024 .f32) (a : Fin 512) (b : Fin 1024) :
    k0_pay2 acc (iblk m c 0 t) (iblk m c 1 t) (ix2 a b) = acc (ix2 a b) + part m c t.val (t.val / 4) a b := by
  rw [step_at]
  exact congrArg _ (Finset.sum_congr rfl fun s _ => by rw [input_at, cotangent_at])

/-- After each grid point the carried sum covers the blocks of tokens so far. -/
theorem carried (n : ℕ) (hn : n < cfg0.N) (a : Fin 512) (b : Fin 1024) :
    (outsAt0 m c n hn).2 (ix2 a b) = ∑ u ∈ Finset.range (n % 4 + 1), part m c u (n / 4) a b := by
  have h8 : n < 8 := lt_of_lt_of_eq hn N_0
  have fold : ∀ k, part m c n k a b = part m c (n % 4) k a b := fun k => by
    unfold part token
    simp only [Nat.mod_mod]
  induction n with
  | zero =>
    rw [outsAt0_A m c ⟨0, hn⟩ rfl (by show ¬0 % 4 = 3; omega), first]
    refine (step_of m c ⟨0, hn⟩ _ a b).trans ?_
    rw [zero_at, zero_add, Finset.sum_range_one]
  | succ n ih =>
    by_cases h0 : (n + 1) % 4 = 0
    · rw [outsAt0_A m c ⟨n + 1, hn⟩ h0 (by show ¬(n + 1) % 4 = 3; omega), first]
      refine (step_of m c ⟨n + 1, hn⟩ _ a b).trans ?_
      rw [zero_at, zero_add, fold, h0, Finset.sum_range_one]
    · have hs := ih (by omega) (by omega) (fun k => by unfold part token; simp only [Nat.mod_mod])
      have goal : (outsAt0 m c n (by omega)).2 (ix2 a b) + part m c (n + 1) ((n + 1) / 4) a b
          = ∑ u ∈ Finset.range ((n + 1) % 4 + 1), part m c u ((n + 1) / 4) a b := by
        rw [hs, fold, show (n + 1) / 4 = n / 4 by omega, Finset.sum_range_succ _ ((n + 1) % 4), show (n + 1) % 4 = n % 4 + 1 by omega]
      by_cases h1 : (n + 1) % 4 = 3
      · rw [outsAt0_C m c ⟨n + 1, hn⟩ h0 h1, last]
        exact (step_of m c ⟨n + 1, hn⟩ _ a b).trans goal
      · rw [outsAt0_B m c ⟨n + 1, hn⟩ h0 h1, later]
        exact (step_of m c ⟨n + 1, hn⟩ _ a b).trans goal

/-- At the last block of tokens the stored block is half the carried sum. -/
theorem written (t : Fin cfg0.N) (h1 : t.val % 4 = 3) (a : Fin 512) (b : Fin 1024) :
    (outsAt0 m c t.val t.isLt).1 (ix2 a b) = (outsAt0 m c t.val t.isLt).2 (ix2 a b) := by
  rw [outsAt0_C m c t (by omega) h1, last, stored]
  exact scaled_at _ a b

/-- The transposed gradient of the weight. -/
def gradient : Vec Ideal S1024x1024 .bf16 := fun y => ∑ x, argX m c (ix2 x (y 0)) * argC m c (ix2 x (y 1))

theorem arr : (dats m 0 c).arrAt 2 cfg0.N = gradient m c := by
  refine (dats m 0 c).arrAt_eq_of_covers 2 _ (by decide +kernel) fun t hf y => ?_
  blk_simp
  rw [after0_2]
  have ht : t.val < 8 := lt_of_lt_of_eq t.isLt N_0
  have hl : t.val % 4 = 3 := (flush0_2 t).mp hf
  idx_vars y
  have he : (win0_2.blk t).view.emb (ix2 y0 y1) = ix2 (column (t.val / 4) y0) y1 := by
    obtain ⟨h0, h1, h2⟩ := windows_at t
    unfold column
    blk_ext [h2]
  refine Eq.trans ?_ (congrArg (gradient m c) he).symm
  refine (written m c t hl y0 y1).trans ((carried m c t.val t.isLt y0 y1).trans ?_)
  rw [hl]
  exact (sum_tokens fun x => argX m c (ix2 x (column (t.val / 4) y0)) * argC m c (ix2 x y1))

end Cert.Kernel13Ideal.Hand

namespace Cert.Proof

open Idealize.ShloMosaic Idealize.ShloMosaic.TcCoe Idealize.SL.Sem

/-- The kernel on machine words ends, its arguments unchanged and its counters at zero. -/
theorem frame_kernel13 : Cert.quiescent_Kernel13 := fun m ρ _ => Cert.Kernel13.Gen.frame m ρ

/-- The kernel over the extended reals ends, its arguments unchanged and its counters at zero. -/
theorem frame_ideal13 : Cert.quiescent_Kernel13Ideal := fun m ρ _ => Cert.Kernel13Ideal.Gen.frame m ρ

/-- The reference ends, its arguments unchanged and its counters at zero. -/
theorem frame_reference13 : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

/-- The reference's gradient at an entry. -/
theorem reference13 (x : Vec Ideal Cert.Reference13Ideal.S8192x1024 .f32) (ct : Vec Ideal Cert.Reference13Ideal.S8192x1024 .f32) :
    Cert.Reference13Ideal.Read.val_main_v4 (F := Ideal) x ct
      = fun y => ∑ t, x (ix2 t (y 0)) * ct (ix2 t (y 1)) := by
  funext y
  rw [Cert.Reference13Ideal.Read.val_main_v4_apply, Cert.Reference13Ideal.Read.val_main_v3_apply, Cert.Reference13Ideal.Read.val_main_v2_apply]
  refine Finset.sum_congr rfl fun t _ => ?_
  rw [mul_comm (x _)]
  refine congrArg₂ (· * ·) (congrArg ct ?_) (congrArg x ?_)
  · funext a; match a with | ⟨0, _⟩ => rfl | ⟨1, _⟩ => rfl
  · funext a; match a with | ⟨0, _⟩ => rfl | ⟨1, _⟩ => rfl

/-- The kernel of the output projection's weight and the reference leave the same gradient. -/
theorem algebraic13 : Cert.algebraic_Kernel13Ideal_Reference13Ideal := by
  intro m g m' g' _ hm
  refine ⟨fun c => Cert.Kernel13Ideal.Hand.gradient m c, ?_, ?_⟩
  · exact (θ_run Cert.Kernel13Ideal.defs _ _).mono (fun r h c => ⟨(h c).1.trans (Cert.Kernel13Ideal.Hand.arr m c), (h c).2⟩)
      (Cert.Kernel13Ideal.Value.run_blocks m g)
  · refine (θ_run Cert.Reference13Ideal.defs _ _).mono (fun r h c => ⟨(h c).1.trans ?_, (h c).2⟩) (Cert.Reference13Ideal.Value.run (F := Ideal) m' g')
    obtain ⟨e0, e1⟩ := hm c
    rw [Cert.Reference13Ideal.Read.val_main_v4_eq, e0, e1]
    exact reference13 _ _

end Cert.Proof
-- ==== Proof.Adamw.lean ====
/- The optimiser, at each of its shapes. -/
module

public import proofs.«01_k».proof.Proof.Gen.Kernel14.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21.Frame
public import proofs.«01_k».proof.Proof.Gen.Kernel21Ideal.Value
public import proofs.«01_k».proof.Proof.Gen.Reference21Ideal.Run
public import proofs.«01_k».proof.Proof.Gen.Reference21Ideal.Read
public import proofs.«01_k».proof.Defs
public import Idealize.ShloMosaic.Lib.StableHlo.ReadAt
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem

/-- The optimiser of a norm's scale of 1024 channels: on machine words it ends, its arguments unchanged. -/
theorem frame_kernel14 : Cert.quiescent_Kernel14 := fun m ρ _ => Cert.Kernel14.Gen.frame m ρ

/-- Over the extended reals it does too, … -/
theorem frame_ideal14 : Cert.quiescent_Kernel14Ideal := fun m ρ _ => Cert.Kernel14Ideal.Gen.frame m ρ

/-- … and so does the reference. -/
theorem frame_reference14 : Cert.quiescent_Reference14Ideal := fun m ρ _ =>
  (θ_run Cert.Reference14Ideal.defs _ _).mono (fun r h => ⟨fun c => (h c).2.2.2, sem_eq_zero_of_no_sems (by decide) r.2⟩)
    (Cert.Reference14Ideal.Value.run (F := Ideal) m ρ)

open Cert.Reference14Ideal.Read in
/-- They leave the same step and the same moments. -/
theorem algebraic14 : Cert.algebraic_Kernel14Ideal_Reference14Ideal := by
  intro m g m' g' _ hm
  refine ⟨_, _, _, Cert.Kernel14Ideal.Value.run m g, ?_⟩
  refine (θ_run Cert.Reference14Ideal.defs _ _).mono (fun r h c => ⟨(h c).1.trans ?_, (h c).2.1.trans ?_, (h c).2.2.1.trans ?_, (h c).2.2.2⟩)
    (Cert.Reference14Ideal.Value.run (F := Ideal) m' g')
  all_goals
    obtain ⟨e0, e1, e2, e3⟩ := hm c
    simp only [e0, e1, e2, e3]
    funext y
    idx_vars y
    pointwise []
    all_goals rfl

/-- The optimiser of a feed-forward weight's shard: on machine words it ends, its arguments unchanged. -/
theorem frame_kernel15 : Cert.quiescent_Kernel15 := fun m ρ _ => Cert.Kernel15.Gen.frame m ρ

/-- Over the extended reals it does too, … -/
theorem frame_ideal15 : Cert.quiescent_Kernel15Ideal := fun m ρ _ => Cert.Kernel15Ideal.Gen.frame m ρ

/-- … and so does the reference. -/
theorem frame_reference15 : Cert.quiescent_Reference15Ideal := fun m ρ _ =>
  (θ_run Cert.Reference15Ideal.defs _ _).mono (fun r h => ⟨fun c => (h c).2.2.2, sem_eq_zero_of_no_sems (by decide) r.2⟩)
    (Cert.Reference15Ideal.Value.run (F := Ideal) m ρ)

open Cert.Reference15Ideal.Read in
/-- They leave the same step and the same moments. -/
theorem algebraic15 : Cert.algebraic_Kernel15Ideal_Reference15Ideal := by
  intro m g m' g' _ hm
  refine ⟨_, _, _, Cert.Kernel15Ideal.Value.run m g, ?_⟩
  refine (θ_run Cert.Reference15Ideal.defs _ _).mono (fun r h c => ⟨(h c).1.trans ?_, (h c).2.1.trans ?_, (h c).2.2.1.trans ?_, (h c).2.2.2⟩)
    (Cert.Reference15Ideal.Value.run (F := Ideal) m' g')
  all_goals
    obtain ⟨e0, e1, e2, e3⟩ := hm c
    simp only [e0, e1, e2, e3]
    funext y
    idx_vars y
    pointwise []
    all_goals rfl

/-- The optimiser of the input projection's shard: on machine words it ends, its arguments unchanged. -/
theorem frame_kernel16 : Cert.quiescent_Kernel16 := fun m ρ _ => Cert.Kernel16.Gen.frame m ρ

/-- Over the extended reals it does too, … -/
theorem frame_ideal16 : Cert.quiescent_Kernel16Ideal := fun m ρ _ => Cert.Kernel16Ideal.Gen.frame m ρ

/-- … and so does the reference. -/
theorem frame_reference16 : Cert.quiescent_Reference16Ideal := fun m ρ _ =>
  (θ_run Cert.Reference16Ideal.defs _ _).mono (fun r h => ⟨fun c => (h c).2.2.2, sem_eq_zero_of_no_sems (by decide) r.2⟩)
    (Cert.Reference16Ideal.Value.run (F := Ideal) m ρ)

open Cert.Reference16Ideal.Read in
/-- They leave the same step and the same moments. -/
theorem algebraic16 : Cert.algebraic_Kernel16Ideal_Reference16Ideal := by
  intro m g m' g' _ hm
  refine ⟨_, _, _, Cert.Kernel16Ideal.Value.run m g, ?_⟩
  refine (θ_run Cert.Reference16Ideal.defs _ _).mono (fun r h c => ⟨(h c).1.trans ?_, (h c).2.1.trans ?_, (h c).2.2.1.trans ?_, (h c).2.2.2⟩)
    (Cert.Reference16Ideal.Value.run (F := Ideal) m' g')
  all_goals
    obtain ⟨e0, e1, e2, e3⟩ := hm c
    simp only [e0, e1, e2, e3]
    funext y
    idx_vars y
    pointwise []
    all_goals rfl

/-- The optimiser of the output projection's shard: on machine words it ends, its arguments unchanged. -/
theorem frame_kernel17 : Cert.quiescent_Kernel17 := fun m ρ _ => Cert.Kernel17.Gen.frame m ρ

/-- Over the extended reals it does too, … -/
theorem frame_ideal17 : Cert.quiescent_Kernel17Ideal := fun m ρ _ => Cert.Kernel17Ideal.Gen.frame m ρ

/-- … and so does the reference. -/
theorem frame_reference17 : Cert.quiescent_Reference17Ideal := fun m ρ _ =>
  (θ_run Cert.Reference17Ideal.defs _ _).mono (fun r h => ⟨fun c => (h c).2.2.2, sem_eq_zero_of_no_sems (by decide) r.2⟩)
    (Cert.Reference17Ideal.Value.run (F := Ideal) m ρ)

open Cert.Reference17Ideal.Read in
/-- They leave the same step and the same moments. -/
theorem algebraic17 : Cert.algebraic_Kernel17Ideal_Reference17Ideal := by
  intro m g m' g' _ hm
  refine ⟨_, _, _, Cert.Kernel17Ideal.Value.run m g, ?_⟩
  refine (θ_run Cert.Reference17Ideal.defs _ _).mono (fun r h c => ⟨(h c).1.trans ?_, (h c).2.1.trans ?_, (h c).2.2.1.trans ?_, (h c).2.2.2⟩)
    (Cert.Reference17Ideal.Value.run (F := Ideal) m' g')
  all_goals
    obtain ⟨e0, e1, e2, e3⟩ := hm c
    simp only [e0, e1, e2, e3]
    funext y
    idx_vars y
    pointwise []
    all_goals rfl

/-- The optimiser of the spatial gate's weights: on machine words it ends, its arguments unchanged. -/
theorem frame_kernel18 : Cert.quiescent_Kernel18 := fun m ρ _ => Cert.Kernel18.Gen.frame m ρ

/-- Over the extended reals it does too, … -/
theorem frame_ideal18 : Cert.quiescent_Kernel18Ideal := fun m ρ _ => Cert.Kernel18Ideal.Gen.frame m ρ

/-- … and so does the reference. -/
theorem frame_reference18 : Cert.quiescent_Reference18Ideal := fun m ρ _ =>
  (θ_run Cert.Reference18Ideal.defs _ _).mono (fun r h => ⟨fun c => (h c).2.2.2, sem_eq_zero_of_no_sems (by decide) r.2⟩)
    (Cert.Reference18Ideal.Value.run (F := Ideal) m ρ)

open Cert.Reference18Ideal.Read in
/-- They leave the same step and the same moments. -/
theorem algebraic18 : Cert.algebraic_Kernel18Ideal_Reference18Ideal := by
  intro m g m' g' _ hm
  refine ⟨_, _, _, Cert.Kernel18Ideal.Value.run m g, ?_⟩
  refine (θ_run Cert.Reference18Ideal.defs _ _).mono (fun r h c => ⟨(h c).1.trans ?_, (h c).2.1.trans ?_, (h c).2.2.1.trans ?_, (h c).2.2.2⟩)
    (Cert.Reference18Ideal.Value.run (F := Ideal) m' g')
  all_goals
    obtain ⟨e0, e1, e2, e3⟩ := hm c
    simp only [e0, e1, e2, e3]
    funext y
    idx_vars y
    pointwise []
    all_goals rfl

/-- The optimiser of a scale of 512 channels: on machine words it ends, its arguments unchanged. -/
theorem frame_kernel19 : Cert.quiescent_Kernel19 := fun m ρ _ => Cert.Kernel19.Gen.frame m ρ

/-- Over the extended reals it does too, … -/
theorem frame_ideal19 : Cert.quiescent_Kernel19Ideal := fun m ρ _ => Cert.Kernel19Ideal.Gen.frame m ρ

/-- … and so does the reference. -/
theorem frame_reference19 : Cert.quiescent_Reference19Ideal := fun m ρ _ =>
  (θ_run Cert.Reference19Ideal.defs _ _).mono (fun r h => ⟨fun c => (h c).2.2.2, sem_eq_zero_of_no_sems (by decide) r.2⟩)
    (Cert.Reference19Ideal.Value.run (F := Ideal) m ρ)

open Cert.Reference19Ideal.Read in
/-- They leave the same step and the same moments. -/
theorem algebraic19 : Cert.algebraic_Kernel19Ideal_Reference19Ideal := by
  intro m g m' g' _ hm
  refine ⟨_, _, _, Cert.Kernel19Ideal.Value.run m g, ?_⟩
  refine (θ_run Cert.Reference19Ideal.defs _ _).mono (fun r h c => ⟨(h c).1.trans ?_, (h c).2.1.trans ?_, (h c).2.2.1.trans ?_, (h c).2.2.2⟩)
    (Cert.Reference19Ideal.Value.run (F := Ideal) m' g')
  all_goals
    obtain ⟨e0, e1, e2, e3⟩ := hm c
    simp only [e0, e1, e2, e3]
    funext y
    idx_vars y
    pointwise []
    all_goals rfl

/-- The optimiser of a head norm's scale: on machine words it ends, its arguments unchanged. -/
theorem frame_kernel20 : Cert.quiescent_Kernel20 := fun m ρ _ => Cert.Kernel20.Gen.frame m ρ

/-- Over the extended reals it does too, … -/
theorem frame_ideal20 : Cert.quiescent_Kernel20Ideal := fun m ρ _ => Cert.Kernel20Ideal.Gen.frame m ρ

/-- … and so does the reference. -/
theorem frame_reference20 : Cert.quiescent_Reference20Ideal := fun m ρ _ =>
  (θ_run Cert.Reference20Ideal.defs _ _).mono (fun r h => ⟨fun c => (h c).2.2.2, sem_eq_zero_of_no_sems (by decide) r.2⟩)
    (Cert.Reference20Ideal.Value.run (F := Ideal) m ρ)

open Cert.Reference20Ideal.Read in
/-- They leave the same step and the same moments. -/
theorem algebraic20 : Cert.algebraic_Kernel20Ideal_Reference20Ideal := by
  intro m g m' g' _ hm
  refine ⟨_, _, _, Cert.Kernel20Ideal.Value.run m g, ?_⟩
  refine (θ_run Cert.Reference20Ideal.defs _ _).mono (fun r h c => ⟨(h c).1.trans ?_, (h c).2.1.trans ?_, (h c).2.2.1.trans ?_, (h c).2.2.2⟩)
    (Cert.Reference20Ideal.Value.run (F := Ideal) m' g')
  all_goals
    obtain ⟨e0, e1, e2, e3⟩ := hm c
    simp only [e0, e1, e2, e3]
    funext y
    idx_vars y
    pointwise []
    all_goals rfl

/-- The optimiser of the spatial gate's bias: on machine words it ends, its arguments unchanged. -/
theorem frame_kernel21 : Cert.quiescent_Kernel21 := fun m ρ _ => Cert.Kernel21.Gen.frame m ρ

/-- Over the extended reals it does too, … -/
theorem frame_ideal21 : Cert.quiescent_Kernel21Ideal := fun m ρ _ => Cert.Kernel21Ideal.Gen.frame m ρ

/-- … and so does the reference. -/
theorem frame_reference21 : Cert.quiescent_Reference21Ideal := fun m ρ _ =>
  (θ_run Cert.Reference21Ideal.defs _ _).mono (fun r h => ⟨fun c => (h c).2.2.2, sem_eq_zero_of_no_sems (by decide) r.2⟩)
    (Cert.Reference21Ideal.Value.run (F := Ideal) m ρ)

open Cert.Reference21Ideal.Read in
/-- They leave the same step and the same moments. -/
theorem algebraic21 : Cert.algebraic_Kernel21Ideal_Reference21Ideal := by
  intro m g m' g' _ hm
  refine ⟨_, _, _, Cert.Kernel21Ideal.Value.run m g, ?_⟩
  refine (θ_run Cert.Reference21Ideal.defs _ _).mono (fun r h c => ⟨(h c).1.trans ?_, (h c).2.1.trans ?_, (h c).2.2.1.trans ?_, (h c).2.2.2⟩)
    (Cert.Reference21Ideal.Value.run (F := Ideal) m' g')
  all_goals
    obtain ⟨e0, e1, e2, e3⟩ := hm c
    simp only [e0, e1, e2, e3]
    funext y
    idx_vars y
    pointwise []
    all_goals rfl

end Cert.Proof
-- ==== Proof.Parts.lean ====
/- The sums over the eight devices. -/
module

public import proofs.«01_k».proof.Proof.Gen.Kernel22.Frame
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel23.Frame
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel24.Frame
public import proofs.«01_k».proof.Proof.Gen.Kernel24Ideal.Value
public import proofs.«01_k».proof.Proof.Gen.Reference24Ideal.Run
public import proofs.«01_k».proof.Proof.Gen.Reference24Ideal.Read
public import proofs.«01_k».proof.Proof.Gen.Kernel25.Frame
public import proofs.«01_k».proof.Proof.Gen.Kernel25Ideal.Value
public import proofs.«01_k».proof.Proof.Gen.Reference25Ideal.Run
public import proofs.«01_k».proof.Proof.Gen.Reference25Ideal.Read
public import proofs.«01_k».proof.Proof.Gen.Kernel26.Frame
public import proofs.«01_k».proof.Proof.Gen.Kernel26Ideal.Value
public import proofs.«01_k».proof.Proof.Gen.Reference26Ideal.Run
public import proofs.«01_k».proof.Proof.Gen.Reference26Ideal.Read
public import proofs.«01_k».proof.Defs
public import Idealize.ShloMosaic.Lib.StableHlo.ReadAt
public import Idealize.ShloMosaic.Lib.Claim
public import Idealize.ShloMosaic.Lib.Quiescent
public import Idealize.ShloMosaic.Lib.Pipeline.ValueKit
public import Idealize.ShloMosaic.Lib.Pipeline.FrameBody

@[expose] public section

set_option maxRecDepth 16384

noncomputable section

namespace Cert.Parts

/-- The eight devices' parts, added one after the other, are their sum. -/
theorem sum_eight (f : Fin 8 → EReal) : f 0 + f 1 + f 2 + f 3 + f 4 + f 5 + f 6 + f 7 = ∑ s, f s := (Fin.sum_univ_eight f).symm

theorem origin : (![0, 0] : Fin 2 → ℕ) = fun _ => 0 := by decide

end Cert.Parts

namespace Cert.Kernel22Ideal.Hand

open Idealize.ShloMosaic Idealize.ShloMosaic.TcCoe Cert.Kernel22Ideal Cert.Kernel22Ideal.Gen

/-- The sum over the devices. -/
def result (a : Vec Ideal S8x1184x1024 .bf16) : Vec Ideal S1184x1024 .f32 := fun y => ∑ s : Fin 8, (a (ix3 s (y 0) (y 1)) : EReal)

variable (m : (ℓ : Loc nD τ sig) → Buf (Elt Ideal) ℓ) (c : Dev nD)

/-- The parts. -/
abbrev argP : Vec Ideal S8x1184x1024 .bf16 := m ((c.tc : Thread nD τ).loc main_arg0)

theorem out1_at (x : Vec Ideal S8x592x1024 .bf16) (r : Fin 592) (d : Fin 1024) :
    out0_1 x (ix2 r d) = ∑ s : Fin 8, (x (ix3 s r d) : EReal) := by
  rw [← Cert.Parts.sum_eight]
  unfold out0_1
  rw [View.canon_unit_zero Cert.Parts.origin]
  pointwise [k0_pay1]

theorem windows_at : ∀ t : Fin cfg0.N, win0_0.index t = ![0, t.val, 0] ∧ win0_1.index t = ![t.val, 0] := by decide +kernel

/-- Row `r` of the block of rows with number `n`. -/
def row (n : ℕ) (r : Fin 592) : Fin 1184 := ⟨n % 2 * 592 + r.val, by have := r.isLt; omega⟩

theorem V_parts : (V m c main_arg0 : Vec Ideal S8x1184x1024 .bf16) = argP m c := by
  unfold V
  after_reads_simp

theorem parts_at (t : Fin cfg0.N) (s : Fin 8) (r : Fin 592) (d : Fin 1024) : iblk m c 0 t (ix3 s r d) = argP m c (ix3 s (row t.val r) d) := by
  have ht : t.val < 2 := lt_of_lt_of_eq t.isLt N_0
  rw [← V_parts]
  unfold row
  obtain ⟨h0, h1⟩ := windows_at t
  blk_ext [iblk, h0]

theorem arr : (dats m 0 c).arrAt 1 cfg0.N = result (argP m c) := by
  refine (dats m 0 c).arrAt_eq_of_covers 1 _ (by decide +kernel) fun t hf y => ?_
  blk_simp
  rw [after0_1]
  have ht : t.val < 2 := lt_of_lt_of_eq t.isLt N_0
  idx_vars y
  have he : (win0_1.blk t).view.emb (ix2 y0 y1) = ix2 (row t.val y0) y1 := by
    obtain ⟨h0, h1⟩ := windows_at t
    unfold row
    blk_ext [h1]
  refine Eq.trans ?_ (congrArg (result (argP m c)) he).symm
  refine (out1_at _ _ _).trans ?_
  simp only [parts_at]
  rfl

open Cert.Reference22Ideal.Read in
theorem reference (a : Vec Ideal S8x1184x1024 .bf16) : val_main_v1 (F := Ideal) a = result a := by
  funext y
  idx_vars y
  pointwise [val_main_v0, val_main_cst, val_main_v1]
  all_goals rfl

end Cert.Kernel22Ideal.Hand

namespace Cert.Proof

open Idealize.ShloMosaic Idealize.ShloMosaic.TcCoe Idealize.SL.Sem Cert.Kernel22Ideal.Hand

/-- The sum of the parts of the second block's weights and the output projection: on float words the kernel ends, its arguments unchanged. -/
theorem frame_kernel22 : Cert.quiescent_Kernel22 := fun m ρ _ => Cert.Kernel22.Gen.frame m ρ

/-- Over the extended reals it does too, … -/
theorem frame_ideal22 : Cert.quiescent_Kernel22Ideal := fun m ρ _ => Cert.Kernel22Ideal.Gen.frame m ρ

/-- … and so does the reference. -/
theorem frame_reference22 : Cert.quiescent_Reference22Ideal := fun m ρ _ =>
  (θ_run Cert.Reference22Ideal.defs _ _).mono (fun r h => ⟨fun c => (h c).2, sem_eq_zero_of_no_sems (by decide) r.2⟩)
    (Cert.Reference22Ideal.Value.run (F := Ideal) m ρ)

/-- They leave the same sum. -/
theorem algebraic22 : Cert.algebraic_Kernel22Ideal_Reference22Ideal := by
  intro m g m' g' _ hm
  refine ⟨fun c => result (argP m c), ?_, ?_⟩
  · exact (θ_run Cert.Kernel22Ideal.defs _ _).mono (fun r h c => ⟨(h c).1.trans (arr m c), (h c).2⟩) (Cert.Kernel22Ideal.Value.run_blocks m g)
  · refine (θ_run Cert.Reference22Ideal.defs _ _).mono (fun r h c => ⟨(h c).1.trans ?_, (h c).2⟩)
      (Cert.Reference22Ideal.Value.run (F := Ideal) m' g')
    rw [Cert.Reference22Ideal.Read.val_main_v1_eq, hm c]
    exact reference _

end Cert.Proof

namespace Cert.Kernel23Ideal.Hand

open Idealize.ShloMosaic Idealize.ShloMosaic.TcCoe Cert.Kernel23Ideal Cert.Kernel23Ideal.Gen

/-- The sum over the devices. -/
def result (a : Vec Ideal S8x224x1024 .bf16) : Vec Ideal S224x1024 .f32 := fun y => ∑ s : Fin 8, (a (ix3 s (y 0) (y 1)) : EReal)

variable (m : (ℓ : Loc nD τ sig) → Buf (Elt Ideal) ℓ) (c : Dev nD)

/-- The parts. -/
abbrev argP : Vec Ideal S8x224x1024 .bf16 := m ((c.tc : Thread nD τ).loc main_arg0)

theorem out1_at (x : Vec Ideal S8x224x1024 .bf16) (r : Fin 224) (d : Fin 1024) :
    out0_1 x (ix2 r d) = ∑ s : Fin 8, (x (ix3 s r d) : EReal) := by
  rw [← Cert.Parts.sum_eight]
  unfold out0_1
  rw [View.canon_unit_zero Cert.Parts.origin]
  pointwise [k0_pay1]

theorem windows_at : ∀ t : Fin cfg0.N, win0_0.index t = ![0, t.val, 0] ∧ win0_1.index t = ![t.val, 0] := by decide +kernel

/-- Row `r` of the block of rows with number `n`. -/
def row (n : ℕ) (r : Fin 224) : Fin 224 := ⟨n % 1 * 224 + r.val, by have := r.isLt; omega⟩

theorem V_parts : (V m c main_arg0 : Vec Ideal S8x224x1024 .bf16) = argP m c := by
  unfold V
  after_reads_simp

theorem parts_at (t : Fin cfg0.N) (s : Fin 8) (r : Fin 224) (d : Fin 1024) : iblk m c 0 t (ix3 s r d) = argP m c (ix3 s (row t.val r) d) := by
  have ht : t.val < 1 := lt_of_lt_of_eq t.isLt N_0
  rw [← V_parts]
  unfold row
  obtain ⟨h0, h1⟩ := windows_at t
  blk_ext [iblk, h0]

theorem arr : (dats m 0 c).arrAt 1 cfg0.N = result (argP m c) := by
  refine (dats m 0 c).arrAt_eq_of_covers 1 _ (by decide +kernel) fun t hf y => ?_
  blk_simp
  rw [after0_1]
  have ht : t.val < 1 := lt_of_lt_of_eq t.isLt N_0
  idx_vars y
  have he : (win0_1.blk t).view.emb (ix2 y0 y1) = ix2 (row t.val y0) y1 := by
    obtain ⟨h0, h1⟩ := windows_at t
    unfold row
    blk_ext [h1]
  refine Eq.trans ?_ (congrArg (result (argP m c)) he).symm
  refine (out1_at _ _ _).trans ?_
  simp only [parts_at]
  rfl

open Cert.Reference23Ideal.Read in
theorem reference (a : Vec Ideal S8x224x1024 .bf16) : val_main_v1 (F := Ideal) a = result a := by
  funext y
  idx_vars y
  pointwise [val_main_v0, val_main_cst, val_main_v1]
  all_goals rfl

end Cert.Kernel23Ideal.Hand

namespace Cert.Proof

open Idealize.ShloMosaic Idealize.ShloMosaic.TcCoe Idealize.SL.Sem Cert.Kernel23Ideal.Hand

/-- The sum of the parts of the input projection: on float words the kernel ends, its arguments unchanged. -/
theorem frame_kernel23 : Cert.quiescent_Kernel23 := fun m ρ _ => Cert.Kernel23.Gen.frame m ρ

/-- Over the extended reals it does too, … -/
theorem frame_ideal23 : Cert.quiescent_Kernel23Ideal := fun m ρ _ => Cert.Kernel23Ideal.Gen.frame m ρ

/-- … and so does the reference. -/
theorem frame_reference23 : Cert.quiescent_Reference23Ideal := fun m ρ _ =>
  (θ_run Cert.Reference23Ideal.defs _ _).mono (fun r h => ⟨fun c => (h c).2, sem_eq_zero_of_no_sems (by decide) r.2⟩)
    (Cert.Reference23Ideal.Value.run (F := Ideal) m ρ)

/-- They leave the same sum. -/
theorem algebraic23 : Cert.algebraic_Kernel23Ideal_Reference23Ideal := by
  intro m g m' g' _ hm
  refine ⟨fun c => result (argP m c), ?_, ?_⟩
  · exact (θ_run Cert.Kernel23Ideal.defs _ _).mono (fun r h c => ⟨(h c).1.trans (arr m c), (h c).2⟩) (Cert.Kernel23Ideal.Value.run_blocks m g)
  · refine (θ_run Cert.Reference23Ideal.defs _ _).mono (fun r h c => ⟨(h c).1.trans ?_, (h c).2⟩)
      (Cert.Reference23Ideal.Value.run (F := Ideal) m' g')
    rw [Cert.Reference23Ideal.Read.val_main_v1_eq, hm c]
    exact reference _

end Cert.Proof

namespace Cert.Kernel24Ideal.Hand

open Idealize.ShloMosaic Idealize.ShloMosaic.TcCoe Cert.Kernel24Ideal Cert.Kernel24Ideal.Gen

/-- The sum over the devices. -/
def result (a : Vec Ideal S8x352x1024 .bf16) : Vec Ideal S352x1024 .f32 := fun y => ∑ s : Fin 8, (a (ix3 s (y 0) (y 1)) : EReal)

variable (m : (ℓ : Loc nD τ sig) → Buf (Elt Ideal) ℓ) (c : Dev nD)

/-- The parts. -/
abbrev argP : Vec Ideal S8x352x1024 .bf16 := m ((c.tc : Thread nD τ).loc main_arg0)

theorem out1_at (x : Vec Ideal S8x352x1024 .bf16) (r : Fin 352) (d : Fin 1024) :
    out0_1 x (ix2 r d) = ∑ s : Fin 8, (x (ix3 s r d) : EReal) := by
  rw [← Cert.Parts.sum_eight]
  unfold out0_1
  rw [View.canon_unit_zero Cert.Parts.origin]
  pointwise [k0_pay1]

theorem windows_at : ∀ t : Fin cfg0.N, win0_0.index t = ![0, t.val, 0] ∧ win0_1.index t = ![t.val, 0] := by decide +kernel

/-- Row `r` of the block of rows with number `n`. -/
def row (n : ℕ) (r : Fin 352) : Fin 352 := ⟨n % 1 * 352 + r.val, by have := r.isLt; omega⟩

theorem V_parts : (V m c main_arg0 : Vec Ideal S8x352x1024 .bf16) = argP m c := by
  unfold V
  after_reads_simp

theorem parts_at (t : Fin cfg0.N) (s : Fin 8) (r : Fin 352) (d : Fin 1024) : iblk m c 0 t (ix3 s r d) = argP m c (ix3 s (row t.val r) d) := by
  have ht : t.val < 1 := lt_of_lt_of_eq t.isLt N_0
  rw [← V_parts]
  unfold row
  obtain ⟨h0, h1⟩ := windows_at t
  blk_ext [iblk, h0]

theorem arr : (dats m 0 c).arrAt 1 cfg0.N = result (argP m c) := by
  refine (dats m 0 c).arrAt_eq_of_covers 1 _ (by decide +kernel) fun t hf y => ?_
  blk_simp
  rw [after0_1]
  have ht : t.val < 1 := lt_of_lt_of_eq t.isLt N_0
  idx_vars y
  have he : (win0_1.blk t).view.emb (ix2 y0 y1) = ix2 (row t.val y0) y1 := by
    obtain ⟨h0, h1⟩ := windows_at t
    unfold row
    blk_ext [h1]
  refine Eq.trans ?_ (congrArg (result (argP m c)) he).symm
  refine (out1_at _ _ _).trans ?_
  simp only [parts_at]
  rfl

open Cert.Reference24Ideal.Read in
theorem reference (a : Vec Ideal S8x352x1024 .bf16) : val_main_v1 (F := Ideal) a = result a := by
  funext y
  idx_vars y
  pointwise [val_main_v0, val_main_cst, val_main_v1]
  all_goals rfl

end Cert.Kernel24Ideal.Hand

namespace Cert.Proof

open Idealize.ShloMosaic Idealize.ShloMosaic.TcCoe Idealize.SL.Sem Cert.Kernel24Ideal.Hand

/-- The sum of the parts of one of the first block's weights: on float words the kernel ends, its arguments unchanged. -/
theorem frame_kernel24 : Cert.quiescent_Kernel24 := fun m ρ _ => Cert.Kernel24.Gen.frame m ρ

/-- Over the extended reals it does too, … -/
theorem frame_ideal24 : Cert.quiescent_Kernel24Ideal := fun m ρ _ => Cert.Kernel24Ideal.Gen.frame m ρ

/-- … and so does the reference. -/
theorem frame_reference24 : Cert.quiescent_Reference24Ideal := fun m ρ _ =>
  (θ_run Cert.Reference24Ideal.defs _ _).mono (fun r h => ⟨fun c => (h c).2, sem_eq_zero_of_no_sems (by decide) r.2⟩)
    (Cert.Reference24Ideal.Value.run (F := Ideal) m ρ)

/-- They leave the same sum. -/
theorem algebraic24 : Cert.algebraic_Kernel24Ideal_Reference24Ideal := by
  intro m g m' g' _ hm
  refine ⟨fun c => result (argP m c), ?_, ?_⟩
  · exact (θ_run Cert.Kernel24Ideal.defs _ _).mono (fun r h c => ⟨(h c).1.trans (arr m c), (h c).2⟩) (Cert.Kernel24Ideal.Value.run_blocks m g)
  · refine (θ_run Cert.Reference24Ideal.defs _ _).mono (fun r h c => ⟨(h c).1.trans ?_, (h c).2⟩)
      (Cert.Reference24Ideal.Value.run (F := Ideal) m' g')
    rw [Cert.Reference24Ideal.Read.val_main_v1_eq, hm c]
    exact reference _

end Cert.Proof

namespace Cert.Kernel25Ideal.Hand

open Idealize.ShloMosaic Idealize.ShloMosaic.TcCoe Cert.Kernel25Ideal Cert.Kernel25Ideal.Gen

/-- The sum over the devices. -/
def result (a : Vec Ideal S8x1088x128 .f32) : Vec Ideal S1088x128 .f32 := fun y => ∑ s : Fin 8, (a (ix3 s (y 0) (y 1)) : EReal)

variable (m : (ℓ : Loc nD τ sig) → Buf (Elt Ideal) ℓ) (c : Dev nD)

/-- The parts. -/
abbrev argP : Vec Ideal S8x1088x128 .f32 := m ((c.tc : Thread nD τ).loc main_arg0)

theorem out1_at (x : Vec Ideal S8x1088x128 .f32) (r : Fin 1088) (d : Fin 128) :
    out0_1 x (ix2 r d) = ∑ s : Fin 8, (x (ix3 s r d) : EReal) := by
  rw [← Cert.Parts.sum_eight]
  unfold out0_1
  rw [View.canon_unit_zero Cert.Parts.origin]
  pointwise [k0_pay1]

theorem windows_at : ∀ t : Fin cfg0.N, win0_0.index t = ![0, t.val, 0] ∧ win0_1.index t = ![t.val, 0] := by decide +kernel

/-- Row `r` of the block of rows with number `n`. -/
def row (n : ℕ) (r : Fin 1088) : Fin 1088 := ⟨n % 1 * 1088 + r.val, by have := r.isLt; omega⟩

theorem V_parts : (V m c main_arg0 : Vec Ideal S8x1088x128 .f32) = argP m c := by
  unfold V
  after_reads_simp

theorem parts_at (t : Fin cfg0.N) (s : Fin 8) (r : Fin 1088) (d : Fin 128) : iblk m c 0 t (ix3 s r d) = argP m c (ix3 s (row t.val r) d) := by
  have ht : t.val < 1 := lt_of_lt_of_eq t.isLt N_0
  rw [← V_parts]
  unfold row
  obtain ⟨h0, h1⟩ := windows_at t
  blk_ext [iblk, h0]

theorem arr : (dats m 0 c).arrAt 1 cfg0.N = result (argP m c) := by
  refine (dats m 0 c).arrAt_eq_of_covers 1 _ (by decide +kernel) fun t hf y => ?_
  blk_simp
  rw [after0_1]
  have ht : t.val < 1 := lt_of_lt_of_eq t.isLt N_0
  idx_vars y
  have he : (win0_1.blk t).view.emb (ix2 y0 y1) = ix2 (row t.val y0) y1 := by
    obtain ⟨h0, h1⟩ := windows_at t
    unfold row
    blk_ext [h1]
  refine Eq.trans ?_ (congrArg (result (argP m c)) he).symm
  refine (out1_at _ _ _).trans ?_
  simp only [parts_at]
  rfl

open Cert.Reference25Ideal.Read in
theorem reference (a : Vec Ideal S8x1088x128 .f32) : val_main_v0 (F := Ideal) a = result a := by
  funext y
  idx_vars y
  pointwise [val_main_cst, val_main_v0]
  all_goals rfl

end Cert.Kernel25Ideal.Hand

namespace Cert.Proof

open Idealize.ShloMosaic Idealize.ShloMosaic.TcCoe Idealize.SL.Sem Cert.Kernel25Ideal.Hand

/-- The sum of the parts of the scales, the spatial gate's weights and its bias: on float words the kernel ends, its arguments unchanged. -/
theorem frame_kernel25 : Cert.quiescent_Kernel25 := fun m ρ _ => Cert.Kernel25.Gen.frame m ρ

/-- Over the extended reals it does too, … -/
theorem frame_ideal25 : Cert.quiescent_Kernel25Ideal := fun m ρ _ => Cert.Kernel25Ideal.Gen.frame m ρ

/-- … and so does the reference. -/
theorem frame_reference25 : Cert.quiescent_Reference25Ideal := fun m ρ _ =>
  (θ_run Cert.Reference25Ideal.defs _ _).mono (fun r h => ⟨fun c => (h c).2, sem_eq_zero_of_no_sems (by decide) r.2⟩)
    (Cert.Reference25Ideal.Value.run (F := Ideal) m ρ)

/-- They leave the same sum. -/
theorem algebraic25 : Cert.algebraic_Kernel25Ideal_Reference25Ideal := by
  intro m g m' g' _ hm
  refine ⟨fun c => result (argP m c), ?_, ?_⟩
  · exact (θ_run Cert.Kernel25Ideal.defs _ _).mono (fun r h c => ⟨(h c).1.trans (arr m c), (h c).2⟩) (Cert.Kernel25Ideal.Value.run_blocks m g)
  · refine (θ_run Cert.Reference25Ideal.defs _ _).mono (fun r h c => ⟨(h c).1.trans ?_, (h c).2⟩)
      (Cert.Reference25Ideal.Value.run (F := Ideal) m' g')
    rw [Cert.Reference25Ideal.Read.val_main_v0_eq, hm c]
    exact reference _

end Cert.Proof

namespace Cert.Kernel26Ideal.Hand

open Idealize.ShloMosaic Idealize.ShloMosaic.TcCoe Cert.Kernel26Ideal Cert.Kernel26Ideal.Gen

/-- The sum over the devices. -/
def result (a : Vec Ideal S8x24x128 .f32) : Vec Ideal S24x128 .f32 := fun y => ∑ s : Fin 8, (a (ix3 s (y 0) (y 1)) : EReal)

variable (m : (ℓ : Loc nD τ sig) → Buf (Elt Ideal) ℓ) (c : Dev nD)

/-- The parts. -/
abbrev argP : Vec Ideal S8x24x128 .f32 := m ((c.tc : Thread nD τ).loc main_arg0)

theorem out1_at (x : Vec Ideal S8x24x128 .f32) (r : Fin 24) (d : Fin 128) :
    out0_1 x (ix2 r d) = ∑ s : Fin 8, (x (ix3 s r d) : EReal) := by
  rw [← Cert.Parts.sum_eight]
  unfold out0_1
  rw [View.canon_unit_zero Cert.Parts.origin]
  pointwise [k0_pay1]

theorem windows_at : ∀ t : Fin cfg0.N, win0_0.index t = ![0, t.val, 0] ∧ win0_1.index t = ![t.val, 0] := by decide +kernel

/-- Row `r` of the block of rows with number `n`. -/
def row (n : ℕ) (r : Fin 24) : Fin 24 := ⟨n % 1 * 24 + r.val, by have := r.isLt; omega⟩

theorem V_parts : (V m c main_arg0 : Vec Ideal S8x24x128 .f32) = argP m c := by
  unfold V
  after_reads_simp

theorem parts_at (t : Fin cfg0.N) (s : Fin 8) (r : Fin 24) (d : Fin 128) : iblk m c 0 t (ix3 s r d) = argP m c (ix3 s (row t.val r) d) := by
  have ht : t.val < 1 := lt_of_lt_of_eq t.isLt N_0
  rw [← V_parts]
  unfold row
  obtain ⟨h0, h1⟩ := windows_at t
  blk_ext [iblk, h0]

theorem arr : (dats m 0 c).arrAt 1 cfg0.N = result (argP m c) := by
  refine (dats m 0 c).arrAt_eq_of_covers 1 _ (by decide +kernel) fun t hf y => ?_
  blk_simp
  rw [after0_1]
  have ht : t.val < 1 := lt_of_lt_of_eq t.isLt N_0
  idx_vars y
  have he : (win0_1.blk t).view.emb (ix2 y0 y1) = ix2 (row t.val y0) y1 := by
    obtain ⟨h0, h1⟩ := windows_at t
    unfold row
    blk_ext [h1]
  refine Eq.trans ?_ (congrArg (result (argP m c)) he).symm
  refine (out1_at _ _ _).trans ?_
  simp only [parts_at]
  rfl

open Cert.Reference26Ideal.Read in
theorem reference (a : Vec Ideal S8x24x128 .f32) : val_main_v0 (F := Ideal) a = result a := by
  funext y
  idx_vars y
  pointwise [val_main_cst, val_main_v0]
  all_goals rfl

end Cert.Kernel26Ideal.Hand

namespace Cert.Proof

open Idealize.ShloMosaic Idealize.ShloMosaic.TcCoe Idealize.SL.Sem Cert.Kernel26Ideal.Hand

/-- The sum of the parts of the first two norms' scales and the loss: on float words the kernel ends, its arguments unchanged. -/
theorem frame_kernel26 : Cert.quiescent_Kernel26 := fun m ρ _ => Cert.Kernel26.Gen.frame m ρ

/-- Over the extended reals it does too, … -/
theorem frame_ideal26 : Cert.quiescent_Kernel26Ideal := fun m ρ _ => Cert.Kernel26Ideal.Gen.frame m ρ

/-- … and so does the reference. -/
theorem frame_reference26 : Cert.quiescent_Reference26Ideal := fun m ρ _ =>
  (θ_run Cert.Reference26Ideal.defs _ _).mono (fun r h => ⟨fun c => (h c).2, sem_eq_zero_of_no_sems (by decide) r.2⟩)
    (Cert.Reference26Ideal.Value.run (F := Ideal) m ρ)

/-- They leave the same sum. -/
theorem algebraic26 : Cert.algebraic_Kernel26Ideal_Reference26Ideal := by
  intro m g m' g' _ hm
  refine ⟨fun c => result (argP m c), ?_, ?_⟩
  · exact (θ_run Cert.Kernel26Ideal.defs _ _).mono (fun r h c => ⟨(h c).1.trans (arr m c), (h c).2⟩) (Cert.Kernel26Ideal.Value.run_blocks m g)
  · refine (θ_run Cert.Reference26Ideal.defs _ _).mono (fun r h c => ⟨(h c).1.trans ?_, (h c).2⟩)
      (Cert.Reference26Ideal.Value.run (F := Ideal) m' g')
    rw [Cert.Reference26Ideal.Read.val_main_v0_eq, hm c]
    exact reference _

end Cert.Proof
-- ==== Proof.HeadsRow.lean ====
/- The gradient of a head's norm along its 64 entries, over finite entries. -/
module

public import proofs.«01_k».proof.Proof.NormRow
public import Idealize.ShloMosaic.Lib.Pipeline.ValueKit.Acc

@[expose] public section

noncomputable section

namespace Cert.Heads

open Idealize.ShloMosaic Cert.Norm

/-- The width of a head. -/
def width : EReal := Ideal.ofBits FTy.f32 1115684864#32

theorem width_eq : width = ((64 : ℝ) : EReal) := by
  unfold width
  simp [Ideal.ofBits, Ideal.ieee, -EReal.coe_mul]
  norm_num

theorem div_width (a : EReal) : Ideal.div a width = a * ((64⁻¹ : ℝ) : EReal) := by
  rw [width_eq, EReal.coe_inv]
  simp [Ideal.div]

/-- The regularised mean square of a head. -/
def square (f : Fin 64 → ℝ) : ℝ := (∑ k, f k * f k) * 64⁻¹ + 8796093 / 2 ^ 43
/-- The reciprocal root mean square of a head. -/
def scale (f : Fin 64 → ℝ) : ℝ := (Real.sqrt (square f))⁻¹
/-- The gradient of a head's entries, in the normalised form. -/
def grad (D f : Fin 64 → ℝ) (e : Fin 64) : ℝ := scale f * (D e - f e * scale f * ((∑ k, D k * (f k * scale f)) * 64⁻¹))

theorem square_pos (f : Fin 64 → ℝ) : 0 < square f := by
  have : 0 ≤ ∑ k, f k * f k := Finset.sum_nonneg fun k _ => mul_self_nonneg (f k)
  unfold square
  positivity

theorem rsqrt_square (f : Fin 64 → ℝ) : Ideal.rsqrt ((square f : ℝ) : EReal) = (scale f : EReal) := by
  unfold scale
  rw [Ideal.rsqrt_coe, if_neg (not_lt.mpr (square_pos f).le), if_neg (square_pos f).ne']

/-- The mean square as the reference takes it. -/
def squareR (x : Fin 64 → EReal) : EReal := Ideal.div (∑ k, x k * x k) width + eps
/-- The factor of the entries in the gradient by the product rule. -/
def slopeR (D x : Fin 64 → EReal) : EReal :=
  Ideal.div ((∑ k, x k * D k) * (minusHalf * Ideal.div (Ideal.rsqrt (squareR x)) (squareR x))) width
/-- The gradient of a head's entries by the product rule. -/
def rowR (D x : Fin 64 → EReal) (e : Fin 64) : EReal := D e * Ideal.rsqrt (squareR x) + x e * slopeR D x + slopeR D x * x e

section reference
variable (D f : Fin 64 → ℝ)

theorem squareR_eq : squareR (fun k => (f k : EReal)) = (square f : EReal) := by
  unfold squareR square
  rw [div_width, eps_eq]
  simp only [← EReal.coe_mul, coe_sum, ← EReal.coe_add]

theorem scaleR_eq : Ideal.rsqrt (squareR (fun k => (f k : EReal))) = (scale f : EReal) := by rw [squareR_eq, rsqrt_square]

theorem rowR_eq (e : Fin 64) : rowR (fun k => (D k : EReal)) (fun k => (f k : EReal)) e = (grad D f e : EReal) := by
  have hu0 := square_pos f
  have hd : Ideal.div (scale f : EReal) (square f : EReal) = ((scale f * (square f)⁻¹ : ℝ) : EReal) := by
    unfold Ideal.div
    rw [if_neg (by exact_mod_cast hu0.ne'), ← EReal.coe_inv, ← EReal.coe_mul]
  have hcube : scale f * (square f)⁻¹ = scale f * (scale f * scale f) := by
    rw [show scale f * scale f = (square f)⁻¹ by unfold scale; rw [← mul_inv, Real.mul_self_sqrt hu0.le]]
  have hK : ∑ k, D k * (f k * scale f) = scale f * ∑ k, f k * D k := by
    rw [Finset.mul_sum]
    exact Finset.sum_congr rfl fun k _ => by ring
  unfold rowR slopeR grad
  rw [squareR_eq, rsqrt_square, hd, hcube, div_width, minusHalf_eq, hK]
  simp only [← EReal.coe_mul, coe_sum, ← EReal.coe_add]
  congr 1
  ring

end reference

section kernel
variable {w n : ℕ} (hw : n * 64 = w)

/-- Entry `e` of head `h` in a flattened row. -/
def col (h : Fin n) (e : Fin 64) : Fin w := ⟨h.val * 64 + e.val, by have := h.isLt; have := e.isLt; omega⟩

/-- The weight by which entry `k` enters the mean of `l`'s head. -/
def weight (k l : ℕ) : ℝ := if k / 64 = l / 64 then 64⁻¹ else 0

theorem weight_sum (z : Fin w → ℝ) (h : Fin n) (e : Fin 64) :
    ∑ k, z k * weight k.val (col hw h e).val = (∑ k, z (col hw h k)) * 64⁻¹ := by
  subst hw
  rw [← Fin.sum_mul_add_fin n 64 fun k => z k * weight k.val (col rfl h e).val, Finset.sum_eq_single h, Finset.sum_mul]
  · refine Finset.sum_congr rfl fun k _ => ?_
    unfold weight col
    rw [if_pos (by have := e.isLt; have := k.isLt; show (h.val * 64 + k.val) / 64 = (h.val * 64 + e.val) / 64; omega)]
  · intro u _ hu
    refine Finset.sum_eq_zero fun k _ => ?_
    unfold weight col
    rw [if_neg, mul_zero]
    have := e.isLt
    have := k.isLt
    have := fun h => hu (Fin.ext h)
    show ¬(u.val * 64 + k.val) / 64 = (h.val * 64 + e.val) / 64
    omega
  · exact fun h => absurd (Finset.mem_univ _) h

variable (M : Fin w → Fin w → EReal)

/-- A product with the mean matrix, the operand split in a rounded part and a rest. -/
def meanK (z : Fin w → EReal) (l : Fin w) : EReal := ∑ k, z k * M k l + ∑ k, (z k - z k) * M k l
/-- The reciprocal root mean square in every lane. -/
def scaleK (x : Fin w → EReal) (l : Fin w) : EReal := Ideal.rsqrt (meanK M (fun k => x k * x k) l + eps)
/-- The gradient in every lane. -/
def rowK (D x : Fin w → EReal) (l : Fin w) : EReal :=
  scaleK M x l * (D l - x l * scaleK M x l * meanK M (fun k => D k * (x k * scaleK M x k)) l)

variable (hM : ∀ k l, M k l = (weight k.val l.val : EReal))
include hM

theorem meanK_eq (z : Fin w → ℝ) (h : Fin n) (e : Fin 64) :
    meanK M (fun k => (z k : EReal)) (col hw h e) = (((∑ k, z (col hw h k)) * 64⁻¹ : ℝ) : EReal) := by
  unfold meanK
  simp only [hM, ← EReal.coe_sub, sub_self, ← EReal.coe_mul, zero_mul, coe_sum, Finset.sum_const_zero, ← EReal.coe_add, add_zero]
  rw [weight_sum]

theorem scaleK_eq (x : Fin w → ℝ) (h : Fin n) (e : Fin 64) :
    scaleK M (fun k => (x k : EReal)) (col hw h e) = (scale (fun k => x (col hw h k)) : EReal) := by
  unfold scaleK
  rw [← rsqrt_square]
  unfold square
  simp only [← EReal.coe_mul]
  rw [meanK_eq hw M hM (fun k => x k * x k), eps_eq, ← EReal.coe_add]

theorem col_surj (k : Fin w) : ∃ h e, k = col hw h e := by
  have := k.isLt
  exact ⟨⟨k.val / 64, by omega⟩, ⟨k.val % 64, by omega⟩, Fin.ext (by show k.val = k.val / 64 * 64 + k.val % 64; omega)⟩

/-- Over finite entries the lanes of a head hold its gradient. -/
theorem rowK_eq (D x : Fin w → ℝ) (h : Fin n) (e : Fin 64) :
    rowK M (fun k => (D k : EReal)) (fun k => (x k : EReal)) (col hw h e)
      = (grad (fun k => D (col hw h k)) (fun k => x (col hw h k)) e : EReal) := by
  have hs : ∀ k, ∃ r : ℝ, scaleK M (fun k => (x k : EReal)) k = r := fun k => by
    obtain ⟨h, e, rfl⟩ := col_surj hw M hM k
    exact ⟨_, scaleK_eq hw M hM x h e⟩
  choose r hr using hs
  have hr' : ∀ h e, r (col hw h e) = scale fun k => x (col hw h k) := fun h e =>
    EReal.coe_injective ((hr _).symm.trans (scaleK_eq hw M hM x h e))
  unfold rowK
  simp only [hr, ← EReal.coe_mul]
  rw [meanK_eq hw M hM (fun k => D k * (x k * r k))]
  simp only [hr', ← EReal.coe_mul, ← EReal.coe_sub]
  rfl

end kernel

end Cert.Heads
-- ==== Proof.HeadsStep.lean ====
/- One step of the gradient of the head norms and the rotary positions: what a block of tokens leaves. -/
module

public import proofs.«01_k».proof.Proof.HeadsRow
public import proofs.«01_k».proof.Proof.Gen.Kernel27Ideal.Value
public import Idealize.ShloMosaic.Lib.StableHlo.ReadAt
public import Idealize.ShloMosaic.Lib.KernelVsHost
public import Idealize.ShloMosaic.Lib.Claim
public import Idealize.ShloMosaic.Lib.Pipeline.ValueKit
public import Idealize.ShloMosaic.Lib.Pipeline.FrameBody

@[expose] public section

set_option maxRecDepth 16384

noncomputable section

namespace Cert.Kernel27Ideal.Hand

open Idealize.ShloMosaic Idealize.ShloMosaic.TcCoe Cert.Kernel27Ideal Cert.Kernel27Ideal.Gen Cert.Heads

theorem origin : (![0, 0] : Fin 2 → ℕ) = fun _ => 0 := by decide
theorem origin4 : (![0, 0, 0, 0] : Fin 4 → ℕ) = fun _ => 0 := by decide

section cases
variable {F : FTy → Type} [FloatOps F] (c : Dev nD) (i : grid0.Coords)
  (a1 : Memref sig .tc .vmem S8x1x64x512 .f32) (h1 : a1.IsWhole) (a2 : Memref sig .tc .vmem S2x2x64x256 .f32) (h2 : a2.IsWhole)
  (a3 : Memref sig .tc .vmem S2x2x64x256 .f32) (h3 : a3.IsWhole) (a4 : Memref sig .tc .vmem S512x768 .f32) (h4 : a4.IsWhole)
  (a5 : Memref sig .tc .vmem S1x512 .f32) (h5 : a5.IsWhole) (a6 : Memref sig .tc .vmem S1x128 .f32) (h6 : a6.IsWhole)
  (a7 : Memref sig .tc .vmem S512x128 .f32) (h7 : a7.IsWhole) (a8 : Memref sig .tc .vmem S512x128 .f32) (h8 : a8.IsWhole)
  (a9 : Memref sig .tc .vmem S512x512 .bf16) (h9 : a9.IsWhole) (a10 : Memref sig .tc .vmem S128x128 .bf16) (h10 : a10.IsWhole)
  (a11 : Memref sig .tc .vmem S512x768 .bf16) (h11 : a11.IsWhole) (a12 : Memref sig .tc .vmem S1x512 .f32) (h12 : a12.IsWhole)
  (a13 : Memref sig .tc .vmem S1x128 .f32) (h13 : a13.IsWhole)
  (x0 : Vec F S8x1x64x512 .f32) (x1 x2 : Vec F S2x2x64x256 .f32) (x3 : Vec F S512x768 .f32) (x4 : Vec F S1x512 .f32) (x5 : Vec F S1x128 .f32)
  (x6 x7 : Vec F S512x128 .f32) (x8 : Vec F S512x512 .bf16) (x9 : Vec F S128x128 .bf16) (acc : Vec F S1x512 .f32) (acc' : Vec F S1x128 .f32)

/-- The query columns of a block of the projection … -/
def colsQ : Vec F S512x512 .f32 := View.ld x3 (Rect.unit ![0, 0] ![512, 512] inb_S512x768_S512x512_0_0)
/-- … and its key columns. -/
def colsK : Vec F S512x128 .f32 := View.ld x3 (Rect.unit ![0, 512] ![512, 128] inb_S512x768_S512x128_0_512)
/-- The first half of a pair of tiles … -/
def tile0 : Vec F S2x1x64x256 .f32 := View.ld x1 (Rect.unit ![0, 0, 0, 0] ![2, 1, 64, 256] inb_S2x2x64x256_S2x1x64x256_0_0_0_0)
/-- … and the second. -/
def tile1 : Vec F S2x1x64x256 .f32 := View.ld x1 (Rect.unit ![0, 1, 0, 0] ![2, 1, 64, 256] inb_S2x2x64x256_S2x1x64x256_0_1_0_0)

/-- The queries' gradient. -/
def rowsQ : FVec F S512x512 .f32 :=
  k0_pay14 (k0_pay4 x7) (k0_pay5 x0) x4 (k0_pay6 x8) (k0_pay7 (colsQ x3) x8) (k0_pay8 (colsQ x3) x8) (k0_pay9 x6 x0) (2#32) k0_pay10 k0_pay11 k0_pay12 0#32
/-- The whole block of the projection's gradient. -/
def rows : FVec F S512x768 .bf16 :=
  k0_pay24 (rowsQ x0 x3 x4 x6 x7 x8) (k0_pay17 x9) (k0_pay18 (colsK x3) x9) (k0_pay19 (colsK x3) x9)
    (k0_pay21 (k0_pay2 x6) (k0_pay3 x7) (k0_pay16 (tile0 x1) (tile1 x1)) x5)
    (k0_pay22 (k0_pay2 x6) (k0_pay3 x7) (colsK x3) (k0_pay16 (tile0 x1) (tile1 x1)) x5 x9)
    (k0_pay23 (k0_pay2 x6) (k0_pay3 x7) (colsK x3) (k0_pay16 (tile0 x1) (tile1 x1)) x5 x9) (tile0 x2) (tile1 x2)
/-- The rows whose sum is a part of the query gain's gradient. -/
def gainQ : FVec F S512x512 .f32 :=
  k0_pay15 (k0_pay4 x7) (k0_pay5 x0) (k0_pay8 (colsQ x3) x8) (k0_pay9 x6 x0) (2#32) k0_pay10 k0_pay11 k0_pay12 0#32
/-- A block's part of the key gain's gradient. -/
def gainK : FVec F S1x128 .f32 :=
  k0_pay29 (k0_pay19 (colsK x3) x9) (k0_pay20 (k0_pay2 x6) (k0_pay3 x7) (k0_pay16 (tile0 x1) (tile1 x1)))

/-- The rows at the first block of tokens … -/
theorem rows_first (hc0 : cond0_0 i) :
    out0_A_10 c i a1 h1 a2 h2 a3 h3 a4 h4 a5 h5 a6 h6 a7 h7 a8 h8 a9 h9 a10 h10 a11 h11 a12 h12 a13 h13 hc0 x0 x1 x2 x3 x4 x5 x6 x7 x8 x9 = rows x0 x1 x2 x3 x4 x5 x6 x7 x8 x9 := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 hc0 x0 x1 x2 x3 x4 x5 x6 x7 x8 x9)]
  unfold kernelRun0_A
  dsimp only
  sl_unfold_words
  rw [View.canon_unit_zero origin]
  simp only [View.readAt_eq_ld, h1.read_unread, h2.read_unread, h3.read_unread, h4.read_unread, h5.read_unread, h6.read_unread, h7.read_unread, h8.read_unread, h9.read_unread, h10.read_unread,
    View.ld_unit_zero (S := S8x1x64x512) origin4, View.ld_unit_zero (S := S512x128) origin, View.ld_unit_zero (S := S512x512) origin,
    View.ld_unit_zero (S := S1x512) origin, View.ld_unit_zero (S := S1x128) origin, View.ld_unit_zero (S := S128x128) origin]
  try rfl

/-- … and at a later one. -/
theorem rows_later (hc0 : ¬cond0_0 i) :
    out0_B_10 c i a1 h1 a2 h2 a3 h3 a4 h4 a5 h5 a6 h6 a7 h7 a8 h8 a9 h9 a10 h10 a11 h11 a12 h12 a13 h13 hc0 x0 x1 x2 x3 x4 x5 x6 x7 x8 x9 acc acc' = rows x0 x1 x2 x3 x4 x5 x6 x7 x8 x9 := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 hc0 x0 x1 x2 x3 x4 x5 x6 x7 x8 x9 acc acc')]
  unfold kernelRun0_B
  dsimp only
  sl_unfold_words
  rw [View.canon_unit_zero origin]
  simp only [View.readAt_eq_ld, h1.read_unread, h2.read_unread, h3.read_unread, h4.read_unread, h5.read_unread, h6.read_unread, h7.read_unread, h8.read_unread, h9.read_unread, h10.read_unread, h12.read_unread, h13.read_unread,
    View.ld_unit_zero (S := S8x1x64x512) origin4, View.ld_unit_zero (S := S512x128) origin, View.ld_unit_zero (S := S512x512) origin,
    View.ld_unit_zero (S := S1x512) origin, View.ld_unit_zero (S := S1x128) origin, View.ld_unit_zero (S := S128x128) origin]
  try rfl

/-- The query gain's gradient starts from zero at the first block … -/
theorem gq_first (hc0 : cond0_0 i) :
    out0_A_11 c i a1 h1 a2 h2 a3 h3 a4 h4 a5 h5 a6 h6 a7 h7 a8 h8 a9 h9 a10 h10 a11 h11 a12 h12 a13 h13 hc0 x0 x1 x2 x3 x4 x5 x6 x7 x8 x9 = k0_pay27 (gainQ x0 x3 x6 x7 x8) k0_pay25 := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 hc0 x0 x1 x2 x3 x4 x5 x6 x7 x8 x9)]
  unfold kernelRun0_A
  dsimp only
  sl_unfold_words
  rw [View.canon_cons_unit_zero (S := S1x512) origin, View.readCov_unit_zero (S := S1x512) _ origin]
  simp only [View.readAt_eq_ld, h1.read_unread, h2.read_unread, h3.read_unread, h4.read_unread, h5.read_unread, h6.read_unread, h7.read_unread, h8.read_unread, h9.read_unread, h10.read_unread,
    View.ld_unit_zero (S := S8x1x64x512) origin4, View.ld_unit_zero (S := S512x128) origin, View.ld_unit_zero (S := S512x512) origin,
    View.ld_unit_zero (S := S1x512) origin, View.ld_unit_zero (S := S1x128) origin, View.ld_unit_zero (S := S128x128) origin]
  try rfl

/-- … and adds the later ones. -/
theorem gq_later (hc0 : ¬cond0_0 i) :
    out0_B_11 c i a1 h1 a2 h2 a3 h3 a4 h4 a5 h5 a6 h6 a7 h7 a8 h8 a9 h9 a10 h10 a11 h11 a12 h12 a13 h13 hc0 x0 x1 x2 x3 x4 x5 x6 x7 x8 x9 acc acc' = k0_pay27 (gainQ x0 x3 x6 x7 x8) acc := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 hc0 x0 x1 x2 x3 x4 x5 x6 x7 x8 x9 acc acc')]
  unfold kernelRun0_B
  dsimp only
  sl_unfold_words
  rw [View.canon_unit_zero origin]
  simp only [View.readAt_eq_ld, h1.read_unread, h2.read_unread, h3.read_unread, h4.read_unread, h5.read_unread, h6.read_unread, h7.read_unread, h8.read_unread, h9.read_unread, h10.read_unread, h12.read_unread, h13.read_unread,
    View.ld_unit_zero (S := S8x1x64x512) origin4, View.ld_unit_zero (S := S512x128) origin, View.ld_unit_zero (S := S512x512) origin,
    View.ld_unit_zero (S := S1x512) origin, View.ld_unit_zero (S := S1x128) origin, View.ld_unit_zero (S := S128x128) origin]
  try rfl

/-- The key gain's gradient starts from zero at the first block … -/
theorem gk_first (hc0 : cond0_0 i) :
    out0_A_12 c i a1 h1 a2 h2 a3 h3 a4 h4 a5 h5 a6 h6 a7 h7 a8 h8 a9 h9 a10 h10 a11 h11 a12 h12 a13 h13 hc0 x0 x1 x2 x3 x4 x5 x6 x7 x8 x9 = k0_pay1 (k0_pay28 k0_pay26) (gainK x1 x3 x6 x7 x9) := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 hc0 x0 x1 x2 x3 x4 x5 x6 x7 x8 x9)]
  unfold kernelRun0_A
  dsimp only
  sl_unfold_words
  rw [View.canon_cons_unit_zero (S := S1x128) origin, View.readCov_unit_zero (S := S1x128) _ origin]
  simp only [View.readAt_eq_ld, h1.read_unread, h2.read_unread, h3.read_unread, h4.read_unread, h5.read_unread, h6.read_unread, h7.read_unread, h8.read_unread, h9.read_unread, h10.read_unread,
    View.ld_unit_zero (S := S8x1x64x512) origin4, View.ld_unit_zero (S := S512x128) origin, View.ld_unit_zero (S := S512x512) origin,
    View.ld_unit_zero (S := S1x512) origin, View.ld_unit_zero (S := S1x128) origin, View.ld_unit_zero (S := S128x128) origin]
  try rfl

/-- … and adds the later ones. -/
theorem gk_later (hc0 : ¬cond0_0 i) :
    out0_B_12 c i a1 h1 a2 h2 a3 h3 a4 h4 a5 h5 a6 h6 a7 h7 a8 h8 a9 h9 a10 h10 a11 h11 a12 h12 a13 h13 hc0 x0 x1 x2 x3 x4 x5 x6 x7 x8 x9 acc acc' = k0_pay1 (k0_pay28 acc') (gainK x1 x3 x6 x7 x9) := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 hc0 x0 x1 x2 x3 x4 x5 x6 x7 x8 x9 acc acc')]
  unfold kernelRun0_B
  dsimp only
  sl_unfold_words
  rw [View.canon_unit_zero origin]
  simp only [View.readAt_eq_ld, h1.read_unread, h2.read_unread, h3.read_unread, h4.read_unread, h5.read_unread, h6.read_unread, h7.read_unread, h8.read_unread, h9.read_unread, h10.read_unread, h12.read_unread, h13.read_unread,
    View.ld_unit_zero (S := S8x1x64x512) origin4, View.ld_unit_zero (S := S512x128) origin, View.ld_unit_zero (S := S512x512) origin,
    View.ld_unit_zero (S := S1x512) origin, View.ld_unit_zero (S := S1x128) origin, View.ld_unit_zero (S := S128x128) origin]
  try rfl

end cases

end Cert.Kernel27Ideal.Hand
-- ==== Proof.HeadsPayload.lean ====
/- The steps of the gradient of the head norms and the rotary positions, read at an entry. -/
module

public import proofs.«01_k».proof.Proof.HeadsStep

@[expose] public section

set_option maxRecDepth 16384

noncomputable section

namespace Cert.Kernel27Ideal.Hand

open Idealize.ShloMosaic Idealize.ShloMosaic.TcCoe Cert.Kernel27Ideal Cert.Kernel27Ideal.Gen Cert.Heads

/-- The head of a query lane … -/
def headQ (l : Fin 512) : Fin 8 := ⟨l.val / 64, by have := l.isLt; omega⟩
/-- … and of a key lane. -/
def headK (l : Fin 128) : Fin 2 := ⟨l.val / 64, by have := l.isLt; omega⟩
/-- The place of a lane in its head. -/
def entry {w : ℕ} (l : Fin w) : Fin 64 := ⟨l.val % 64, Nat.mod_lt _ (by decide)⟩
/-- A lane's partner in its rotary pair. -/
def partner {w : ℕ} (hw : w % 2 = 0) (l : Fin w) : Fin w :=
  if h : l.val % 2 = 0 then ⟨l.val + 1, by have := l.isLt; omega⟩ else ⟨l.val - 1, by have := l.isLt; omega⟩
/-- The lane of the tables that a query lane reads. -/
def table (l : Fin 512) : Fin 128 := ⟨l.val % 128, Nat.mod_lt _ (by decide)⟩

section layout
variable (v : Vec Ideal S8x1x64x512 .f32) (u : Vec Ideal S512x128 .f32) (a b : Vec Ideal S2x1x64x256 .f32)

theorem tilesQ_at (i l : Fin 512) : k0_pay5 v (ix2 i l) = v (ix4 (headQ l) 0 (entry l) i) := by
  unfold headQ entry
  pointwise [k0_pay5]

/-- Four copies of a table side by side. -/
theorem copies (f : Fin 128 → EReal) (l : Fin 512) : (if h : l.val < 128 then f ⟨l.val, h⟩
    else if h : l.val - 128 < 128 then f ⟨l.val - 128, h⟩
      else if h : l.val - 128 - 128 < 128 then f ⟨l.val - 128 - 128, h⟩
        else f ⟨l.val - 128 - 128 - 128, by have := l.isLt; omega⟩) = f (table l) := by
  unfold table
  split_ifs <;> exact congrArg f (Fin.ext (by have := l.isLt; dsimp only; omega))

theorem tableS_at (i l : Fin 512) : k0_pay4 u (ix2 i l) = u (ix2 i (table l)) := by
  rw [← copies fun l => u (ix2 i l)]
  pointwise [k0_pay4, k0_pay3]

theorem tableC_at (i l : Fin 512) : k0_pay9 u v (ix2 i l) = v (ix4 (headQ l) 0 (entry l) i) * u (ix2 i (table l)) := by
  rw [← copies fun l => u (ix2 i l), ← tilesQ_at v]
  pointwise [k0_pay9, k0_pay2]

theorem tilesK_at (i : Fin 512) (l : Fin 128) : k0_pay16 a b (ix2 i l)
    = if h : i.val < 256 then a (ix4 (headK l) 0 (entry l) ⟨i.val, h⟩) else b (ix4 (headK l) 0 (entry l) ⟨i.val - 256, by have := i.isLt; omega⟩) := by
  unfold headK entry
  pointwise [k0_pay16]

end layout

/-- Whether a lane is the first of its rotary pair, as the words have it. -/
def parity (l : ℕ) : BitVec 1 :=
  IntOp.cmpi .eq (Scalar.select (IntOp.andi (IntOp.xori (IntOp.cmpi .slt (IntOp.remsi .vector (BitVec.ofNat 32 l) 2#32) 0#32)
      (Scalar.cmpi .slt 2#32 0#32)) (IntOp.cmpi .ne (IntOp.remsi .vector (BitVec.ofNat 32 l) 2#32) 0#32))
    (IntOp.addi (IntOp.remsi .vector (BitVec.ofNat 32 l) 2#32) 2#32) (IntOp.remsi .vector (BitVec.ofNat 32 l) 2#32)) 0#32

theorem parity_eq : ∀ l : Fin 512, parity l.val = if l.val % 2 = 0 then 1#1 else 0#1 := by decide +kernel

theorem two : Scalar.select (Scalar.cmpi CmpIPredicate.eq 2#32 0#32) 1#32 2#32 = 2#32 := by decide

/-- The two rotations of a row, chosen by a lane's parity, hold the lane's partner. -/
theorem partnerQ (f : Fin 512 → EReal) (l : Fin 512) : Scalar.select (parity l.val) (f ⟨(l.val + 512 - 511) % 512, Nat.mod_lt _ (by decide)⟩)
    (f ⟨(l.val + 512 - 1) % 512, Nat.mod_lt _ (by decide)⟩) = f (partner rfl l) := by
  rw [parity_eq]
  unfold partner Scalar.select
  have := l.isLt
  split_ifs with h h' h' <;> first | exact absurd h' (by decide) | exact congrArg f (Fin.ext (by dsimp only; omega))

theorem partnerK (f : Fin 128 → EReal) (l : Fin 128) : Scalar.select (parity l.val) (f ⟨(l.val + 128 - 127) % 128, Nat.mod_lt _ (by decide)⟩)
    (f ⟨(l.val + 128 - 1) % 128, Nat.mod_lt _ (by decide)⟩) = f (partner rfl l) := by
  have := l.isLt
  rw [show parity l.val = if l.val % 2 = 0 then 1#1 else 0#1 from parity_eq ⟨l.val, by omega⟩]
  unfold partner Scalar.select
  split_ifs with h h' h' <;> first | exact absurd h' (by decide) | exact congrArg f (Fin.ext (by dsimp only; omega))

section turn
variable (s d k : FVec Ideal S512x512 .f32) (c' s' d' : FVec Ideal S512x128 .f32)

theorem turnQ_at (i l : Fin 512) : k0_pay13 s d k 2#32 k0_pay10 k0_pay11 k0_pay12 0#32 (ix2 i l)
    = (k (ix2 i l) - d (ix2 i (partner rfl l)) * s (ix2 i l)) * Ideal.ofBits .f32 0x3E000000#32 := by
  rw [← partnerQ fun l => d (ix2 i l)]
  unfold parity
  pointwise [k0_pay13, k0_pay10, k0_pay11, k0_pay12]
  simp only [two]

theorem turnK_at (i : Fin 512) (l : Fin 128) : k0_pay20 c' s' d' (ix2 i l)
    = (d' (ix2 i l) * c' (ix2 i l) - d' (ix2 i (partner rfl l)) * s' (ix2 i l)) * Ideal.ofBits .f32 0x3F800000#32 := by
  rw [← partnerK fun l => d' (ix2 i l)]
  unfold parity
  pointwise [k0_pay20]
  simp only [two]

end turn

section norm
variable (s d r n k : FVec Ideal S512x512 .f32) (x : Vec Ideal S512x512 .f32) (g : Vec Ideal S1x512 .f32) (M : FVec Ideal S512x512 .bf16)

theorem scaleQ_at (i l : Fin 512) : k0_pay7 x M (ix2 i l) = scaleK (fun k l => M (ix2 k l)) (fun l => x (ix2 i l)) l := by
  unfold scaleK meanK Norm.eps
  pointwise [k0_pay7, k0_pay6]

theorem unitQ_at (i l : Fin 512) : k0_pay8 x M (ix2 i l) = x (ix2 i l) * scaleK (fun k l => M (ix2 k l)) (fun l => x (ix2 i l)) l := by
  rw [← scaleQ_at]
  pointwise [k0_pay8]

theorem rowQ_at (i l : Fin 512) : k0_pay14 s d g (k0_pay6 M) r n k 2#32 k0_pay10 k0_pay11 k0_pay12 0#32 (ix2 i l)
    = r (ix2 i l) * (k0_pay13 s d k 2#32 k0_pay10 k0_pay11 k0_pay12 0#32 (ix2 i l) * g (ix2 0 l)
      - n (ix2 i l) * meanK (fun k l => M (ix2 k l)) (fun l => k0_pay13 s d k 2#32 k0_pay10 k0_pay11 k0_pay12 0#32 (ix2 i l) * g (ix2 0 l) * n (ix2 i l)) l) := by
  unfold meanK
  pointwise [k0_pay14, k0_pay6]

theorem gainRowQ_at (i l : Fin 512) : k0_pay15 s d n k 2#32 k0_pay10 k0_pay11 k0_pay12 0#32 (ix2 i l)
    = k0_pay13 s d k 2#32 k0_pay10 k0_pay11 k0_pay12 0#32 (ix2 i l) * n (ix2 i l) := by
  pointwise [k0_pay15]

theorem sumQ_at (acc : Vec Ideal S1x512 .f32) (l : Fin 512) : k0_pay27 s acc (ix2 0 l) = acc (ix2 0 l) + ∑ i : Fin 512, s (ix2 i l) := by
  pointwise [k0_pay27]

theorem zeroQ_at (l : Fin 512) : (k0_pay25 : FVec Ideal S1x512 .f32) (ix2 0 l) = 0 := by
  pointwise [k0_pay25]

theorem zeroK_at (l : Fin 128) : (k0_pay26 : FVec Ideal S1x128 .f32) (ix2 0 l) = 0 := by
  pointwise [k0_pay26]

end norm

section block
variable (x0 : Vec Ideal S8x1x64x512 .f32) (x1 x2 : Vec Ideal S2x2x64x256 .f32) (x3 : Vec Ideal S512x768 .f32) (x4 : Vec Ideal S1x512 .f32)
  (x5 : Vec Ideal S1x128 .f32) (x6 x7 : Vec Ideal S512x128 .f32) (x8 : Vec Ideal S512x512 .bf16) (x9 : Vec Ideal S128x128 .bf16)

theorem colsQ_at (i l : Fin 512) : colsQ x3 (ix2 i l) = x3 (ix2 i ⟨l.val, by have := l.isLt; omega⟩) := by
  unfold colsQ
  pointwise [View.ld]

theorem colsK_at (i : Fin 512) (l : Fin 128) : colsK x3 (ix2 i l) = x3 (ix2 i ⟨512 + l.val, by have := l.isLt; omega⟩) := by
  unfold colsK
  pointwise [View.ld]

theorem tile0_at (h : Fin 2) (e : Fin 64) (i : Fin 256) : tile0 x1 (ix4 h 0 e i) = x1 (ix4 h 0 e i) := by
  unfold tile0
  pointwise [View.ld]

theorem tile1_at (h : Fin 2) (e : Fin 64) (i : Fin 256) : tile1 x1 (ix4 h 0 e i) = x1 (ix4 h 1 e i) := by
  unfold tile1
  pointwise [View.ld]

/-- The key part of a tile of gradients, token major. -/
def lanesK (i : Fin 512) (l : Fin 128) : EReal :=
  x1 (ix4 (headK l) ⟨i.val / 256, by have := i.isLt; omega⟩ (entry l) ⟨i.val % 256, Nat.mod_lt _ (by decide)⟩)
/-- The queries' gradient turned back. -/
def turnQ (i l : Fin 512) : EReal :=
  (x0 (ix4 (headQ l) 0 (entry l) i) * x6 (ix2 i (table l))
    - x0 (ix4 (headQ (partner rfl l)) 0 (entry (partner rfl l)) i) * x7 (ix2 i (table l))) * Ideal.ofBits .f32 0x3E000000#32
/-- The keys' gradient turned back. -/
def turnK (i : Fin 512) (l : Fin 128) : EReal :=
  (lanesK x1 i l * x6 (ix2 i l) - lanesK x1 i (partner rfl l) * x7 (ix2 i l)) * Ideal.ofBits .f32 0x3F800000#32

theorem halves (i : Fin 512) (l : Fin 128) : (if h : i.val < 256 then tile0 x1 (ix4 (headK l) 0 (entry l) ⟨i.val, h⟩)
    else tile1 x1 (ix4 (headK l) 0 (entry l) ⟨i.val - 256, by have := i.isLt; omega⟩)) = lanesK x1 i l := by
  have := i.isLt
  unfold lanesK
  split_ifs with h
  · rw [tile0_at]
    exact congrArg x1 (congrArg₂ (fun a b => ix4 (headK l) a (entry l) b) (Fin.ext (by show 0 = i.val / 256; omega)) (Fin.ext (by show i.val = i.val % 256; omega)))
  · rw [tile1_at]
    exact congrArg x1 (congrArg₂ (fun a b => ix4 (headK l) a (entry l) b) (Fin.ext (by show 1 = i.val / 256; omega)) (Fin.ext (by show i.val - 256 = i.val % 256; omega)))

theorem turnQ_eq (i l : Fin 512) :
    k0_pay13 (k0_pay4 x7) (k0_pay5 x0) (k0_pay9 x6 x0) 2#32 k0_pay10 k0_pay11 k0_pay12 0#32 (ix2 i l) = turnQ x0 x6 x7 i l := by
  rw [turnQ_at, tableC_at, tilesQ_at, tableS_at]
  rfl

theorem turnK_eq (i : Fin 512) (l : Fin 128) :
    k0_pay20 (k0_pay2 x6) (k0_pay3 x7) (k0_pay16 (tile0 x1) (tile1 x1)) (ix2 i l) = turnK x1 x6 x7 i l := by
  have e2 : k0_pay2 x6 (ix2 i l) = x6 (ix2 i l) := by pointwise [k0_pay2]
  have e3 : k0_pay3 x7 (ix2 i l) = x7 (ix2 i l) := by pointwise [k0_pay3]
  rw [turnK_at, tilesK_at, tilesK_at, halves, halves, e2, e3]
  rfl

/-- The queries' gradient in a block of tokens. -/
theorem rowsQ_at (i l : Fin 512) : rowsQ x0 x3 x4 x6 x7 x8 (ix2 i l)
    = rowK (fun k l => x8 (ix2 k l)) (fun l => turnQ x0 x6 x7 i l * x4 (ix2 0 l)) (fun l => colsQ x3 (ix2 i l)) l := by
  unfold rowsQ rowK
  rw [rowQ_at, scaleQ_at]
  simp only [unitQ_at, turnQ_eq, mul_assoc]

theorem rows_at (i : Fin 512) (l : Fin 768) : rows x0 x1 x2 x3 x4 x5 x6 x7 x8 x9 (ix2 i l)
    = if h : l.val < 512 then rowsQ x0 x3 x4 x6 x7 x8 (ix2 i ⟨l.val, h⟩)
      else if h : l.val - 512 < 128 then rowK (fun k l => x9 (ix2 k l)) (fun l => turnK x1 x6 x7 i l * x5 (ix2 0 l)) (fun l => colsK x3 (ix2 i l)) ⟨l.val - 512, h⟩
      else lanesK x2 i ⟨l.val - 512 - 128, by have := l.isLt; omega⟩ := by
  unfold rowK scaleK meanK Norm.eps
  simp only [← halves, ← turnK_eq]
  unfold headK entry
  pointwise [rows, k0_pay24, k0_pay17, k0_pay18, k0_pay19, k0_pay21, k0_pay22, k0_pay23]

theorem gainQ_at (acc : Vec Ideal S1x512 .f32) (l : Fin 512) : k0_pay27 (gainQ x0 x3 x6 x7 x8) acc (ix2 0 l)
    = acc (ix2 0 l) + ∑ i, turnQ x0 x6 x7 i l * (colsQ x3 (ix2 i l) * scaleK (fun k l => x8 (ix2 k l)) (fun l => colsQ x3 (ix2 i l)) l) := by
  rw [sumQ_at]
  unfold gainQ
  simp only [gainRowQ_at, unitQ_at, turnQ_eq]

theorem gainK_at (acc : Vec Ideal S1x128 .f32) (l : Fin 128) : k0_pay1 (k0_pay28 acc) (gainK x1 x3 x6 x7 x9) (ix2 0 l)
    = acc (ix2 0 l) + ∑ i, turnK x1 x6 x7 i l * (colsK x3 (ix2 i l) * scaleK (fun k l => x9 (ix2 k l)) (fun l => colsK x3 (ix2 i l)) l) := by
  unfold scaleK meanK Norm.eps
  simp only [← turnK_eq]
  pointwise [k0_pay1, k0_pay28, gainK, k0_pay29, k0_pay17, k0_pay18, k0_pay19]

end block
end Cert.Kernel27Ideal.Hand
-- ==== Proof.HeadsHost.lean ====
/- What the host lays out for the gradient of the head norms and the rotary positions. -/
module

public import proofs.«01_k».proof.Proof.HeadsPayload

@[expose] public section

set_option maxRecDepth 16384

noncomputable section

namespace Cert.Kernel27Ideal.Hand

open Idealize.ShloMosaic Idealize.ShloMosaic.TcCoe Cert.Kernel27Ideal Cert.Kernel27Ideal.Gen Cert.Heads

variable (m : (ℓ : Loc nD τ sig) → Buf (Elt Ideal) ℓ) (c : Dev nD)

abbrev argQ : Vec Ideal S8192x512 .f32 := m ((c.tc : Thread nD τ).loc main_arg0)
abbrev argK : Vec Ideal S8192x128 .f32 := m ((c.tc : Thread nD τ).loc main_arg1)
abbrev argV : Vec Ideal S8192x128 .f32 := m ((c.tc : Thread nD τ).loc main_arg2)
abbrev argX : Vec Ideal S8192x768 .f32 := m ((c.tc : Thread nD τ).loc main_arg3)
abbrev argGq : Vec Ideal S1x64 .f32 := m ((c.tc : Thread nD τ).loc main_arg4)
abbrev argGk : Vec Ideal S1x64 .f32 := m ((c.tc : Thread nD τ).loc main_arg5)
abbrev argC : Vec Ideal S8192x32 .f32 := m ((c.tc : Thread nD τ).loc main_arg6)
abbrev argS : Vec Ideal S8192x32 .f32 := m ((c.tc : Thread nD τ).loc main_arg7)

/-- The place of a lane's rotary pair in its head. -/
def pair {w : ℕ} (l : Fin w) : Fin 32 := ⟨l.val % 64 / 2, by omega⟩

theorem lit_minus_one : Ideal.ofBits FTy.f32 0xBF800000#32 = ((-1 : ℝ) : EReal) := by
  simp [Ideal.ofBits, Ideal.ieee, -EReal.coe_mul]
  norm_num

theorem lit_one : Ideal.ofBits FTy.f32 0x3F800000#32 = ((1 : ℝ) : EReal) := by
  simp [Ideal.ofBits, Ideal.ieee, -EReal.coe_mul]
  norm_num

theorem V_q (h : Fin 8) (a : Fin 16) (e : Fin 64) (i : Fin 512) : (V m c main_v5 : Vec Ideal S8x16x64x512 .f32) (ix4 h a e i)
    = argQ m c (ix2 ⟨a.val * 512 + i.val, by have := a.isLt; have := i.isLt; omega⟩ ⟨h.val * 64 + e.val, by have := h.isLt; have := e.isLt; omega⟩) := by
  unfold V
  after_reads_simp
  pointwise []

theorem V_k (h : Fin 2) (a : Fin 32) (e : Fin 64) (i : Fin 256) : (V m c main_v8 : Vec Ideal S2x32x64x256 .f32) (ix4 h a e i)
    = argK m c (ix2 ⟨a.val * 256 + i.val, by have := a.isLt; have := i.isLt; omega⟩ ⟨h.val * 64 + e.val, by have := h.isLt; have := e.isLt; omega⟩) := by
  unfold V
  after_reads_simp
  pointwise []

theorem V_v (h : Fin 2) (a : Fin 32) (e : Fin 64) (i : Fin 256) : (V m c main_v11 : Vec Ideal S2x32x64x256 .f32) (ix4 h a e i)
    = argV m c (ix2 ⟨a.val * 256 + i.val, by have := a.isLt; have := i.isLt; omega⟩ ⟨h.val * 64 + e.val, by have := h.isLt; have := e.isLt; omega⟩) := by
  unfold V
  after_reads_simp
  pointwise []

theorem V_gq (l : Fin 512) : (V m c main_v14 : Vec Ideal S1x512 .f32) (ix2 0 l) = argGq m c (ix2 0 (entry l)) := by
  unfold V entry
  after_reads_simp
  pointwise []

theorem V_gk (l : Fin 128) : (V m c main_v17 : Vec Ideal S1x128 .f32) (ix2 0 l) = argGk m c (ix2 0 (entry l)) := by
  unfold V entry
  after_reads_simp
  pointwise []

theorem V_c (t : Fin 8192) (l : Fin 128) : (V m c main_v22 : Vec Ideal S8192x128 .f32) (ix2 t l) = argC m c (ix2 t (pair l)) := by
  unfold V pair
  after_reads_simp
  pointwise []

theorem signs : ∀ a : Fin 2, lit0 (S2.rowMajor (ix1 a)) = if a.val = 0 then 0xBF800000#32 else 0x3F800000#32 := by decide

theorem V_s (t : Fin 8192) (l : Fin 128) : (V m c main_v30 : Vec Ideal S8192x128 .f32) (ix2 t l)
    = argS m c (ix2 t (pair l)) * (if l.val % 2 = 0 then ((-1 : ℝ) : EReal) else ((1 : ℝ) : EReal)) := by
  unfold V pair
  after_reads_simp
  pointwise []
  rw [signs]
  dsimp only
  split_ifs
  · rw [lit_minus_one]
  · rw [lit_one]

/-- An entry of the mean matrix. -/
theorem mean_entry (a b : ℕ) (ha : a < 8) (hb : b < 8) :
    Ideal.div (FloatOps.uitofp (F := Ideal) FTy.f32 (IntOp.cmpi CmpIPredicate.eq (BitVec.ofNat 32 a) (BitVec.ofNat 32 b))) width
      = ((if a = b then 64⁻¹ else 0 : ℝ) : EReal) := by
  have hc : ∀ a b : Fin 8, IntOp.cmpi CmpIPredicate.eq (BitVec.ofNat 32 a.val) (BitVec.ofNat 32 b.val) = if a.val = b.val then 1#1 else 0#1 := by decide
  rw [div_width, show IntOp.cmpi CmpIPredicate.eq (BitVec.ofNat 32 a) (BitVec.ofNat 32 b) = if a = b then 1#1 else 0#1 from hc ⟨a, ha⟩ ⟨b, hb⟩]
  split_ifs
  · show (((1#1 : BitVec 1).toNat : ℝ) : EReal) * _ = _
    simp
  · show (((0#1 : BitVec 1).toNat : ℝ) : EReal) * _ = _
    simp

/-- The head of each lane, as the host divides. -/
theorem lanes_q : ∀ l : Fin 512, select (andi
      (cmpi .ne (signi (iotaInDim S512 32 0)) (broadcastInDim S512 ![] bcast_S_S512 (signi (id (constantI S_ 32 64#32)))))
      (cmpi .ne (Host.remsi (iotaInDim S512 32 0) (broadcastInDim S512 ![] bcast_S_S512 (id (constantI S_ 32 64#32))))
        (broadcastInDim S512 ![] bcast_S_S512 (constantI S_ 32 0#32))))
    (subi (Host.divsi (iotaInDim S512 32 0) (broadcastInDim S512 ![] bcast_S_S512 (id (constantI S_ 32 64#32))))
      (broadcastInDim S512 ![] bcast_S_S512 (constantI S_ 32 1#32)))
    (Host.divsi (iotaInDim S512 32 0) (broadcastInDim S512 ![] bcast_S_S512 (id (constantI S_ 32 64#32)))) (ix1 l)
      = BitVec.ofNat 32 (l.val / 64) := by
  decide +kernel

theorem V_hq : ∀ l : Fin 512, (V m c main_v32 : IVec S512 32) (ix1 l) = BitVec.ofNat 32 (l.val / 64) := by
  unfold V
  after_reads_simp
  simp -implicitDefEqProofs only [StableHlo.TRef.toBuf, StableHlo.TRef.ofBuf, cast_cast, cast_eq]
  exact lanes_q

theorem V_mq (k l : Fin 512) : (V m c main_v41 : Vec Ideal S512x512 .bf16) (ix2 k l) = (weight k.val l.val : EReal) := by
  refine Eq.trans ?_ (mean_entry _ _ (by have := k.isLt; omega) (by have := l.isLt; omega))
  have hv := V_hq m c
  revert hv
  unfold V width
  after_reads_simp
  intro hv
  pointwise []
  simp only [hv]

/-- The head of each lane, as the host divides. -/
theorem lanes_k : ∀ l : Fin 128, select (andi
      (cmpi .ne (signi (iotaInDim S128 32 0)) (broadcastInDim S128 ![] bcast_S_S128 (signi (id (constantI S_ 32 64#32)))))
      (cmpi .ne (Host.remsi (iotaInDim S128 32 0) (broadcastInDim S128 ![] bcast_S_S128 (id (constantI S_ 32 64#32))))
        (broadcastInDim S128 ![] bcast_S_S128 (constantI S_ 32 0#32))))
    (subi (Host.divsi (iotaInDim S128 32 0) (broadcastInDim S128 ![] bcast_S_S128 (id (constantI S_ 32 64#32))))
      (broadcastInDim S128 ![] bcast_S_S128 (constantI S_ 32 1#32)))
    (Host.divsi (iotaInDim S128 32 0) (broadcastInDim S128 ![] bcast_S_S128 (id (constantI S_ 32 64#32)))) (ix1 l)
      = BitVec.ofNat 32 (l.val / 64) := by
  decide +kernel

theorem V_hk : ∀ l : Fin 128, (V m c main_v43 : IVec S128 32) (ix1 l) = BitVec.ofNat 32 (l.val / 64) := by
  unfold V
  after_reads_simp
  simp -implicitDefEqProofs only [StableHlo.TRef.toBuf, StableHlo.TRef.ofBuf, cast_cast, cast_eq]
  exact lanes_k

theorem V_mk (k l : Fin 128) : (V m c main_v52 : Vec Ideal S128x128 .bf16) (ix2 k l) = (weight k.val l.val : EReal) := by
  refine Eq.trans ?_ (mean_entry _ _ (by have := k.isLt; omega) (by have := l.isLt; omega))
  have hv := V_hk m c
  revert hv
  unfold V width
  after_reads_simp
  intro hv
  pointwise []
  simp only [hv]

end Cert.Kernel27Ideal.Hand
-- ==== Proof.HeadsSpec.lean ====
/- The gradient of the head norms and the rotary positions over the reals, lane by lane. -/
module

public import proofs.«01_k».proof.Proof.HeadsRow

@[expose] public section

set_option maxRecDepth 16384

noncomputable section

namespace Cert.Heads

open Idealize.ShloMosaic Idealize.ShloMosaic.TcCoe

/-- The rotary pair of a lane. -/
def spin {w : ℕ} (l : Fin w) : Fin 32 := ⟨l.val % 64 / 2, by omega⟩
/-- The sign by which a lane's mate enters. -/
def side {w : ℕ} (l : Fin w) : ℝ := if l.val % 2 = 0 then -1 else 1
/-- The place of a lane in its head. -/
def placeOf {w : ℕ} (l : Fin w) : Fin 64 := ⟨l.val % 64, Nat.mod_lt _ (by decide)⟩

section lanes
variable {n w : ℕ} (hw : n * 64 = w)

/-- The other lane of a rotary pair. -/
def mate (l : Fin w) : Fin w :=
  if h : l.val % 2 = 0 then ⟨l.val + 1, by have := l.isLt; omega⟩ else ⟨l.val - 1, by have := l.isLt; omega⟩
/-- The head of a lane. -/
def headOf (l : Fin w) : Fin n := ⟨l.val / 64, by have := l.isLt; omega⟩

theorem col_self (l : Fin w) : col hw (headOf hw l) (placeOf l) = l :=
  Fin.ext (by show l.val / 64 * 64 + l.val % 64 = l.val; omega)

theorem placeOf_col (h : Fin n) (e : Fin 64) : placeOf (col hw h e) = e :=
  Fin.ext (by show (h.val * 64 + e.val) % 64 = e.val; have := e.isLt; omega)

theorem headOf_col (h : Fin n) (e : Fin 64) : headOf hw (col hw h e) = h :=
  Fin.ext (by show (h.val * 64 + e.val) / 64 = h.val; have := e.isLt; omega)

/-- A gradient turned back through the rotary positions, times a factor. -/
def turned (d : Fin w → ℝ) (a b : Fin 32 → ℝ) (z : ℝ) (l : Fin w) : ℝ :=
  (d l * a (spin l) - d (mate hw l) * (b (spin l) * side l)) * z
/-- The entries of a lane's head. -/
def inHead (x : Fin w → ℝ) (l : Fin w) (k : Fin 64) : ℝ := x (col hw (headOf hw l) k)
/-- The gradient of a lane, its head normalised and scaled by a gain. -/
def lane (B : Fin w → ℝ) (g : Fin 64 → ℝ) (x : Fin w → ℝ) (l : Fin w) : ℝ :=
  grad (fun k => inHead hw B l k * g k) (inHead hw x l) (placeOf l)
/-- What a token gives to the gradient of the gain. -/
def give (B x : Fin w → ℝ) (l : Fin w) : ℝ := B l * (x l * scale (inHead hw x l))

variable (M : Fin w → Fin w → EReal) (hM : ∀ k l, M k l = (weight k.val l.val : EReal))
include hM

/-- The factor of a lane's head, by the mean matrix. -/
theorem scaleK_lane (X : Fin w → EReal) (x : Fin w → ℝ) (hx : ∀ l, X l = (x l : EReal)) (l : Fin w) :
    scaleK M X l = (scale (inHead hw x l) : EReal) := by
  obtain rfl : X = fun l => (x l : EReal) := funext hx
  have h := scaleK_eq hw M hM x (headOf hw l) (placeOf l)
  rw [col_self] at h
  exact h

/-- The gradient of a lane, by the mean matrix. -/
theorem rowK_lane (D X : Fin w → EReal) (B x : Fin w → ℝ) (g : Fin 64 → ℝ) (hD : ∀ l, D l = ((B l * g (placeOf l) : ℝ) : EReal))
    (hx : ∀ l, X l = (x l : EReal)) (l : Fin w) : rowK M D X l = (lane hw B g x l : EReal) := by
  obtain rfl : X = fun l => (x l : EReal) := funext hx
  obtain rfl : D = fun l => ((B l * g (placeOf l) : ℝ) : EReal) := funext hD
  have h := rowK_eq hw M hM (fun l => B l * g (placeOf l)) x (headOf hw l) (placeOf l)
  simp only [col_self, placeOf_col] at h
  exact h

end lanes

theorem eighth : Ideal.ofBits .f32 0x3E000000#32 = ((1 / 8 : ℝ) : EReal) := by
  simp [Ideal.ofBits, Ideal.ieee, -EReal.coe_mul]
  norm_num

theorem unit : Ideal.ofBits .f32 0x3F800000#32 = ((1 : ℝ) : EReal) := by
  simp [Ideal.ofBits, Ideal.ieee, -EReal.coe_mul]
  norm_num

end Cert.Heads
-- ==== Proof.HeadsArrays.lean ====
/- The three arrays of the gradient of the head norms and the rotary positions. -/
module

public import proofs.«01_k».proof.Proof.HeadsSpec
public import proofs.«01_k».proof.Reference27Ideal
public import Idealize.ShloMosaic.Lib.StableHlo.ReadAt

@[expose] public section

set_option maxRecDepth 16384

noncomputable section

namespace Cert.Heads

open Idealize.ShloMosaic Idealize.ShloMosaic.TcCoe Cert.Reference27Ideal

/-- The real entries of a matrix. -/
def entries {a b : ℕ} (v : Vec Ideal ⟨2, ![a, b]⟩ .f32) (t : Fin a) (l : Fin b) : ℝ := EReal.toReal (v (ix2 t l))

variable (dq : Vec Ideal S8192x512 .f32) (dk dv : Vec Ideal S8192x128 .f32) (x : Vec Ideal S8192x768 .f32) (gq gk : Vec Ideal S1x64 .f32)
  (cs sn : Vec Ideal S8192x32 .f32)

/-- The projected queries of a token. -/
def lanesOfQ (t : Fin 8192) (l : Fin 512) : ℝ := entries x t ⟨l.val, by have := l.isLt; omega⟩
/-- The projected keys of a token. -/
def lanesOfK (t : Fin 8192) (l : Fin 128) : ℝ := entries x t ⟨512 + l.val, by have := l.isLt; omega⟩
/-- The queries' gradient of a token, turned back. -/
def backQ (t : Fin 8192) : Fin 512 → ℝ := turned (n := 8) rfl (entries dq t) (entries cs t) (entries sn t) (1 / 8)
/-- The keys' gradient of a token, turned back. -/
def backK (t : Fin 8192) : Fin 128 → ℝ := turned (n := 2) rfl (entries dk t) (entries cs t) (entries sn t) 1

/-- What is asked of the arguments: all but the values' parts are real. -/
structure Reals : Prop where
  dq : ∀ t l, dq (ix2 t l) = (entries dq t l : EReal)
  dk : ∀ t l, dk (ix2 t l) = (entries dk t l : EReal)
  x : ∀ (t : Fin 8192) (l : Fin 768), l.val < 640 → x (ix2 t l) = (entries x t l : EReal)
  gq : ∀ t l, gq (ix2 t l) = (entries gq t l : EReal)
  gk : ∀ t l, gk (ix2 t l) = (entries gk t l : EReal)
  cs : ∀ t l, cs (ix2 t l) = (entries cs t l : EReal)
  sn : ∀ t l, sn (ix2 t l) = (entries sn t l : EReal)

/-- The projections' gradient. -/
def gradRows : Vec Ideal S8192x768 .bf16 := fun y =>
  if h : (y 1).val < 512 then (lane (n := 8) rfl (backQ dq cs sn (y 0)) (entries gq 0) (lanesOfQ x (y 0)) ⟨(y 1).val, h⟩ : EReal)
  else if h : (y 1).val - 512 < 128 then (lane (n := 2) rfl (backK dk cs sn (y 0)) (entries gk 0) (lanesOfK x (y 0)) ⟨(y 1).val - 512, h⟩ : EReal)
  else dv (ix2 (y 0) ⟨(y 1).val - 512 - 128, by have : (y 1).val < 768 := (y 1).isLt; omega⟩)
/-- The queries' gain's gradient, head by head. -/
def gradGainQ : Vec Ideal S1x512 .f32 := fun y => ∑ t, (give (n := 8) rfl (backQ dq cs sn t) (lanesOfQ x t) (y 1) : EReal)
/-- The keys' gain's gradient, head by head. -/
def gradGainK : Vec Ideal S1x128 .f32 := fun y => ∑ t, (give (n := 2) rfl (backK dk cs sn t) (lanesOfK x t) (y 1) : EReal)

end Cert.Heads
-- ==== Proof.HeadsReference.lean ====
/- The reference's gradient of the head norms and the rotary positions, read at an entry. -/
module

public import proofs.«01_k».proof.Proof.HeadsArrays
public import proofs.«01_k».proof.Proof.Gen.Reference27Ideal.Run
public import proofs.«01_k».proof.Proof.Gen.Reference27Ideal.Read
public import Idealize.ShloMosaic.Lib.StableHlo.ReadAt
public import Idealize.ShloMosaic.Lib.Claim
public import Idealize.ShloMosaic.Lib.Pipeline.ValueKit

@[expose] public section

set_option maxRecDepth 16384

noncomputable section

namespace Cert.Reference27Ideal.Hand

open Idealize.ShloMosaic Idealize.ShloMosaic.TcCoe Cert.Reference27Ideal Cert.Reference27Ideal.Read Cert.Heads

variable (dq : Vec Ideal S8192x512 .f32) (dk dv : Vec Ideal S8192x128 .f32) (x : Vec Ideal S8192x768 .f32) (gq gk : Vec Ideal S1x64 .f32)
  (cs sn : Vec Ideal S8192x32 .f32)

section turn
variable (a b : Fin 8192 → Fin 32 → ℝ) (ha : ∀ t p, cs (ix2 t p) = (a t p : EReal)) (hb : ∀ t p, sn (ix2 t p) = (b t p : EReal))
include ha hb

theorem turned_q (d : Fin 8192 → Fin 512 → ℝ) (hd : ∀ t l, dq (ix2 t l) = (d t l : EReal)) (t : Fin 8192) (h : Fin 8) (e : Fin 64) :
    val_main_v153 (F := Ideal) dq cs sn (ix3 t h e) = (turned (n := 8) rfl (d t) (a t) (b t) (1 / 8) (col rfl h e) : EReal) := by
  have he := e.isLt
  have hs : spin (col (n := 8) (w := 512) rfl h e) = ⟨e.val / 2, by omega⟩ := Fin.ext (by
    show (h.val * 64 + e.val) % 64 / 2 = e.val / 2
    omega)
  unfold turned
  rw [hs]
  pointwise [val_main_v0, val_main_v1, val_main_v2, val_main_v3, val_main_v4, val_main_v5, val_main_v6, val_main_cst, val_main_v7, val_main_v8, val_main_cst_0, val_main_v9, val_main_v10, val_main_cst_1, val_main_v11, val_main_v12, val_main_v13, val_main_v14, val_main_cst_2, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_cst_3, val_main_v45, val_main_v46, val_main_cst_4, val_main_v47, val_main_v48, val_main_cst_5, val_main_v49, val_main_v50, val_main_v51, val_main_v52, val_main_cst_6, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_cst_7, val_main_v82, val_main_v83, val_main_v84, val_main_v85, val_main_cst_8, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_cst_9, val_main_v106, val_main_v107, val_main_cst_10, val_main_v108, val_main_v109, val_main_v110, val_main_v111, val_main_cst_11, val_main_v112, val_main_v113, val_main_v114, val_main_v115, val_main_cst_12, val_main_v116, val_main_v117, val_main_cst_13, val_main_v118, val_main_v119, val_main_v120, val_main_v121, val_main_v122, val_main_cst_14, val_main_v123, val_main_v124, val_main_cst_15, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_cst_16, val_main_v149, val_main_v150, val_main_cst_17, val_main_v151, val_main_v152, val_main_v153, val_main_v154, val_main_cst_18, val_main_v155, val_main_v156, val_main_v157, val_main_v158, val_main_cst_19, val_main_v159, val_main_v160, val_main_cst_20, val_main_v161, val_main_v162, val_main_v163, val_main_v164, val_main_v165, val_main_cst_21, val_main_v166, val_main_v167, val_main_cst_22, val_main_v168, val_main_v169, val_main_v170, val_main_v171, val_main_v172, val_main_v173, val_main_v174, val_main_v175, val_main_v176, val_main_v177, val_main_v178]
  simp only [hd, ha, hb, eighth]
  by_cases h2 : e.val % 2 = 0
  · have h3 : (h.val * 64 + e.val) % 2 = 0 := by omega
    have e0 : (⟨h.val * 64 + e.val / 2 * 2, by have := h.isLt; omega⟩ : Fin 512) = col (n := 8) rfl h e := Fin.ext (by
      show h.val * 64 + e.val / 2 * 2 = h.val * 64 + e.val
      omega)
    have e1 : (⟨h.val * 64 + e.val / 2 * 2 + 1, by have := h.isLt; omega⟩ : Fin 512) = mate (n := 8) rfl (col (n := 8) rfl h e) := by
      unfold mate
      rw [dif_pos (show (col (n := 8) (w := 512) rfl h e).val % 2 = 0 from h3)]
      exact Fin.ext (by show h.val * 64 + e.val / 2 * 2 + 1 = h.val * 64 + e.val + 1; omega)
    have hz : side (col (n := 8) (w := 512) rfl h e) = -1 := if_pos h3
    have c0 : e.val / 2 < 32 := by omega
    have c1 : ¬1 ≤ e.val % 2 := by omega
    have c2 : e.val % 2 < 1 := by omega
    simp only [c0, c1, c2, dite_false, dite_true, e0, e1, hz, zero_add, true_and, false_and]
    simp only [← EReal.coe_mul, ← EReal.coe_add, ← EReal.coe_neg]
    refine congrArg Real.toEReal ?_
    ring
  · have h3 : ¬(h.val * 64 + e.val) % 2 = 0 := by omega
    have e0 : (⟨h.val * 64 + e.val / 2 * 2 + 1, by have := h.isLt; omega⟩ : Fin 512) = col (n := 8) rfl h e := Fin.ext (by
      show h.val * 64 + e.val / 2 * 2 + 1 = h.val * 64 + e.val
      omega)
    have e1 : (⟨h.val * 64 + e.val / 2 * 2, by have := h.isLt; omega⟩ : Fin 512) = mate (n := 8) rfl (col (n := 8) rfl h e) := by
      unfold mate
      rw [dif_neg (show ¬(col (n := 8) (w := 512) rfl h e).val % 2 = 0 from h3)]
      exact Fin.ext (by show h.val * 64 + e.val / 2 * 2 = h.val * 64 + e.val - 1; omega)
    have hz : side (col (n := 8) (w := 512) rfl h e) = 1 := if_neg h3
    have c0 : e.val / 2 < 32 := by omega
    have c1 : 1 ≤ e.val % 2 := by omega
    have c2 : ¬e.val % 2 < 1 := by omega
    have c3 : e.val % 2 - 1 < 1 := by omega
    simp only [c0, c1, c2, c3, dite_false, dite_true, e0, e1, hz, add_zero, true_and, false_and]
    simp only [← EReal.coe_mul, ← EReal.coe_add, ← EReal.coe_neg]
    refine congrArg Real.toEReal ?_
    ring

theorem turned_k (d : Fin 8192 → Fin 128 → ℝ) (hd : ∀ t l, dk (ix2 t l) = (d t l : EReal)) (t : Fin 8192) (h : Fin 2) (e : Fin 64) :
    val_main_v110 (F := Ideal) dk cs sn (ix3 t h e) = (turned (n := 2) rfl (d t) (a t) (b t) 1 (col rfl h e) : EReal) := by
  have he := e.isLt
  have hs : spin (col (n := 2) (w := 128) rfl h e) = ⟨e.val / 2, by omega⟩ := Fin.ext (by
    show (h.val * 64 + e.val) % 64 / 2 = e.val / 2
    omega)
  unfold turned
  rw [hs]
  pointwise [val_main_v0, val_main_v1, val_main_v2, val_main_v3, val_main_v4, val_main_v5, val_main_v6, val_main_cst, val_main_v7, val_main_v8, val_main_cst_0, val_main_v9, val_main_v10, val_main_cst_1, val_main_v11, val_main_v12, val_main_v13, val_main_v14, val_main_cst_2, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_cst_3, val_main_v45, val_main_v46, val_main_cst_4, val_main_v47, val_main_v48, val_main_cst_5, val_main_v49, val_main_v50, val_main_v51, val_main_v52, val_main_cst_6, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_cst_7, val_main_v82, val_main_v83, val_main_v84, val_main_v85, val_main_cst_8, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_cst_9, val_main_v106, val_main_v107, val_main_cst_10, val_main_v108, val_main_v109, val_main_v110, val_main_v111, val_main_cst_11, val_main_v112, val_main_v113, val_main_v114, val_main_v115, val_main_cst_12, val_main_v116, val_main_v117, val_main_cst_13, val_main_v118, val_main_v119, val_main_v120, val_main_v121, val_main_v122, val_main_cst_14, val_main_v123, val_main_v124, val_main_cst_15, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_cst_16, val_main_v149, val_main_v150, val_main_cst_17, val_main_v151, val_main_v152, val_main_v153, val_main_v154, val_main_cst_18, val_main_v155, val_main_v156, val_main_v157, val_main_v158, val_main_cst_19, val_main_v159, val_main_v160, val_main_cst_20, val_main_v161, val_main_v162, val_main_v163, val_main_v164, val_main_v165, val_main_cst_21, val_main_v166, val_main_v167, val_main_cst_22, val_main_v168, val_main_v169, val_main_v170, val_main_v171, val_main_v172, val_main_v173, val_main_v174, val_main_v175, val_main_v176, val_main_v177, val_main_v178]
  simp only [hd, ha, hb]
  by_cases h2 : e.val % 2 = 0
  · have h3 : (h.val * 64 + e.val) % 2 = 0 := by omega
    have e0 : (⟨h.val * 64 + e.val / 2 * 2, by have := h.isLt; omega⟩ : Fin 128) = col (n := 2) rfl h e := Fin.ext (by
      show h.val * 64 + e.val / 2 * 2 = h.val * 64 + e.val
      omega)
    have e1 : (⟨h.val * 64 + e.val / 2 * 2 + 1, by have := h.isLt; omega⟩ : Fin 128) = mate (n := 2) rfl (col (n := 2) rfl h e) := by
      unfold mate
      rw [dif_pos (show (col (n := 2) (w := 128) rfl h e).val % 2 = 0 from h3)]
      exact Fin.ext (by show h.val * 64 + e.val / 2 * 2 + 1 = h.val * 64 + e.val + 1; omega)
    have hz : side (col (n := 2) (w := 128) rfl h e) = -1 := if_pos h3
    have c0 : e.val / 2 < 32 := by omega
    have c1 : ¬1 ≤ e.val % 2 := by omega
    have c2 : e.val % 2 < 1 := by omega
    simp only [c0, c1, c2, dite_false, dite_true, e0, e1, hz, zero_add, true_and, false_and]
    simp only [← EReal.coe_mul, ← EReal.coe_add, ← EReal.coe_neg]
    refine congrArg Real.toEReal ?_
    ring
  · have h3 : ¬(h.val * 64 + e.val) % 2 = 0 := by omega
    have e0 : (⟨h.val * 64 + e.val / 2 * 2 + 1, by have := h.isLt; omega⟩ : Fin 128) = col (n := 2) rfl h e := Fin.ext (by
      show h.val * 64 + e.val / 2 * 2 + 1 = h.val * 64 + e.val
      omega)
    have e1 : (⟨h.val * 64 + e.val / 2 * 2, by have := h.isLt; omega⟩ : Fin 128) = mate (n := 2) rfl (col (n := 2) rfl h e) := by
      unfold mate
      rw [dif_neg (show ¬(col (n := 2) (w := 128) rfl h e).val % 2 = 0 from h3)]
      exact Fin.ext (by show h.val * 64 + e.val / 2 * 2 = h.val * 64 + e.val - 1; omega)
    have hz : side (col (n := 2) (w := 128) rfl h e) = 1 := if_neg h3
    have c0 : e.val / 2 < 32 := by omega
    have c1 : 1 ≤ e.val % 2 := by omega
    have c2 : ¬e.val % 2 < 1 := by omega
    have c3 : e.val % 2 - 1 < 1 := by omega
    simp only [c0, c1, c2, c3, dite_false, dite_true, e0, e1, hz, add_zero, true_and, false_and]
    simp only [← EReal.coe_mul, ← EReal.coe_add, ← EReal.coe_neg]
    refine congrArg Real.toEReal ?_
    ring

end turn

/-- The reference's gradient of the projections: the queries' lanes, the keys' lanes and the values' lanes. -/
theorem rows_ref (t : Fin 8192) (l : Fin 768) : val_main_v176 (F := Ideal) dq dk dv x gq gk cs sn (ix2 t l)
    = if h : l.val < 512 then
        rowR (fun k => val_main_v153 (F := Ideal) dq cs sn (ix3 t ⟨l.val / 64, by omega⟩ k) * gq (ix2 0 k))
          (fun k => x (ix2 t ⟨l.val / 64 * 64 + k.val, by have := k.isLt; omega⟩)) ⟨l.val % 64, by omega⟩
      else if h : l.val - 512 < 128 then
        rowR (fun k => val_main_v110 (F := Ideal) dk cs sn (ix3 t ⟨(l.val - 512) / 64, by omega⟩ k) * gk (ix2 0 k))
          (fun k => x (ix2 t ⟨512 + ((l.val - 512) / 64 * 64 + k.val), by have := k.isLt; omega⟩)) ⟨(l.val - 512) % 64, by omega⟩
      else dv (ix2 t ⟨l.val - 512 - 128, by have := l.isLt; omega⟩) := by
  have one : ∀ f : Fin 1 → EReal, ∑ k, f k = f 0 := fun f => Fin.sum_univ_one f
  unfold rowR slopeR squareR width Norm.eps Norm.minusHalf
  pointwise [val_main_v0, val_main_v1, val_main_v2, val_main_v3, val_main_v4, val_main_v5, val_main_v6, val_main_cst, val_main_v7, val_main_v8, val_main_cst_0, val_main_v9, val_main_v10, val_main_cst_1, val_main_v11, val_main_v12, val_main_v13, val_main_v14, val_main_cst_2, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_cst_3, val_main_v45, val_main_v46, val_main_cst_4, val_main_v47, val_main_v48, val_main_cst_5, val_main_v49, val_main_v50, val_main_v51, val_main_v52, val_main_cst_6, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_cst_7, val_main_v82, val_main_v83, val_main_v84, val_main_v85, val_main_cst_8, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_cst_9, val_main_v106, val_main_v107, val_main_cst_10, val_main_v108, val_main_v109, val_main_v111, val_main_cst_11, val_main_v112, val_main_v113, val_main_v114, val_main_v115, val_main_cst_12, val_main_v116, val_main_v117, val_main_cst_13, val_main_v118, val_main_v119, val_main_v120, val_main_v121, val_main_v122, val_main_cst_14, val_main_v123, val_main_v124, val_main_cst_15, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_cst_16, val_main_v149, val_main_v150, val_main_cst_17, val_main_v151, val_main_v152, val_main_v154, val_main_cst_18, val_main_v155, val_main_v156, val_main_v157, val_main_v158, val_main_cst_19, val_main_v159, val_main_v160, val_main_cst_20, val_main_v161, val_main_v162, val_main_v163, val_main_v164, val_main_v165, val_main_cst_21, val_main_v166, val_main_v167, val_main_cst_22, val_main_v168, val_main_v169, val_main_v170, val_main_v171, val_main_v172, val_main_v173, val_main_v174, val_main_v175, val_main_v176, val_main_v177, val_main_v178]
  simp only [one]

/-- The reference's gradient of the queries' gain, head by head. -/
theorem gq_ref (l : Fin 512) : val_main_v177 (F := Ideal) dq x cs sn (ix2 0 l)
    = ∑ t, x (ix2 t ⟨l.val, by have := l.isLt; omega⟩)
        * Ideal.rsqrt (squareR fun k => x (ix2 t ⟨l.val / 64 * 64 + k.val, by have := l.isLt; have := k.isLt; omega⟩))
        * val_main_v153 (F := Ideal) dq cs sn (ix3 t ⟨l.val / 64, by have := l.isLt; omega⟩ ⟨l.val % 64, by omega⟩) := by
  have one : ∀ f : Fin 1 → EReal, ∑ k, f k = f 0 := fun f => Fin.sum_univ_one f
  unfold squareR width Norm.eps
  pointwise [val_main_v0, val_main_v1, val_main_v2, val_main_v3, val_main_v4, val_main_v5, val_main_v6, val_main_cst, val_main_v7, val_main_v8, val_main_cst_0, val_main_v9, val_main_v10, val_main_cst_1, val_main_v11, val_main_v12, val_main_v13, val_main_v14, val_main_cst_2, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_cst_3, val_main_v45, val_main_v46, val_main_cst_4, val_main_v47, val_main_v48, val_main_cst_5, val_main_v49, val_main_v50, val_main_v51, val_main_v52, val_main_cst_6, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_cst_7, val_main_v82, val_main_v83, val_main_v84, val_main_v85, val_main_cst_8, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_cst_9, val_main_v106, val_main_v107, val_main_cst_10, val_main_v108, val_main_v109, val_main_v111, val_main_cst_11, val_main_v112, val_main_v113, val_main_v114, val_main_v115, val_main_cst_12, val_main_v116, val_main_v117, val_main_cst_13, val_main_v118, val_main_v119, val_main_v120, val_main_v121, val_main_v122, val_main_cst_14, val_main_v123, val_main_v124, val_main_cst_15, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_cst_16, val_main_v149, val_main_v150, val_main_cst_17, val_main_v151, val_main_v152, val_main_v154, val_main_cst_18, val_main_v155, val_main_v156, val_main_v157, val_main_v158, val_main_cst_19, val_main_v159, val_main_v160, val_main_cst_20, val_main_v161, val_main_v162, val_main_v163, val_main_v164, val_main_v165, val_main_cst_21, val_main_v166, val_main_v167, val_main_cst_22, val_main_v168, val_main_v169, val_main_v170, val_main_v171, val_main_v172, val_main_v173, val_main_v174, val_main_v175, val_main_v176, val_main_v177, val_main_v178]
  simp only [one]

/-- The reference's gradient of the keys' gain, head by head. -/
theorem gk_ref (l : Fin 128) : val_main_v178 (F := Ideal) dk x cs sn (ix2 0 l)
    = ∑ t, x (ix2 t ⟨512 + l.val, by have := l.isLt; omega⟩)
        * Ideal.rsqrt (squareR fun k => x (ix2 t ⟨512 + (l.val / 64 * 64 + k.val), by have := l.isLt; have := k.isLt; omega⟩))
        * val_main_v110 (F := Ideal) dk cs sn (ix3 t ⟨l.val / 64, by have := l.isLt; omega⟩ ⟨l.val % 64, by omega⟩) := by
  have one : ∀ f : Fin 1 → EReal, ∑ k, f k = f 0 := fun f => Fin.sum_univ_one f
  unfold squareR width Norm.eps
  pointwise [val_main_v0, val_main_v1, val_main_v2, val_main_v3, val_main_v4, val_main_v5, val_main_v6, val_main_cst, val_main_v7, val_main_v8, val_main_cst_0, val_main_v9, val_main_v10, val_main_cst_1, val_main_v11, val_main_v12, val_main_v13, val_main_v14, val_main_cst_2, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_cst_3, val_main_v45, val_main_v46, val_main_cst_4, val_main_v47, val_main_v48, val_main_cst_5, val_main_v49, val_main_v50, val_main_v51, val_main_v52, val_main_cst_6, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_cst_7, val_main_v82, val_main_v83, val_main_v84, val_main_v85, val_main_cst_8, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_cst_9, val_main_v106, val_main_v107, val_main_cst_10, val_main_v108, val_main_v109, val_main_v111, val_main_cst_11, val_main_v112, val_main_v113, val_main_v114, val_main_v115, val_main_cst_12, val_main_v116, val_main_v117, val_main_cst_13, val_main_v118, val_main_v119, val_main_v120, val_main_v121, val_main_v122, val_main_cst_14, val_main_v123, val_main_v124, val_main_cst_15, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_cst_16, val_main_v149, val_main_v150, val_main_cst_17, val_main_v151, val_main_v152, val_main_v154, val_main_cst_18, val_main_v155, val_main_v156, val_main_v157, val_main_v158, val_main_cst_19, val_main_v159, val_main_v160, val_main_cst_20, val_main_v161, val_main_v162, val_main_v163, val_main_v164, val_main_v165, val_main_cst_21, val_main_v166, val_main_v167, val_main_cst_22, val_main_v168, val_main_v169, val_main_v170, val_main_v171, val_main_v172, val_main_v173, val_main_v174, val_main_v175, val_main_v176, val_main_v177, val_main_v178]
  simp only [one]

section result
variable {dq dk dv x gq gk cs sn} (R : Reals dq dk x gq gk cs sn)
include R

theorem lanesQ_real (t : Fin 8192) (l : Fin 512) : x (ix2 t ⟨l.val, by have := l.isLt; omega⟩) = (lanesOfQ x t l : EReal) :=
  R.x t _ (by show l.val < 640; have := l.isLt; omega)

theorem lanesK_real (t : Fin 8192) (l : Fin 128) : x (ix2 t ⟨512 + l.val, by have := l.isLt; omega⟩) = (lanesOfK x t l : EReal) :=
  R.x t _ (by show 512 + l.val < 640; have := l.isLt; omega)

theorem backQ_real (t : Fin 8192) (h : Fin 8) (e : Fin 64) :
    val_main_v153 (F := Ideal) dq cs sn (ix3 t h e) = (backQ dq cs sn t (col rfl h e) : EReal) :=
  turned_q dq cs sn _ _ R.cs R.sn _ R.dq t h e

theorem backK_real (t : Fin 8192) (h : Fin 2) (e : Fin 64) :
    val_main_v110 (F := Ideal) dk cs sn (ix3 t h e) = (backK dk cs sn t (col rfl h e) : EReal) :=
  turned_k dk cs sn _ _ R.cs R.sn _ R.dk t h e

/-- The reference's gradient of the projections. -/
theorem rows_result : val_main_v176 (F := Ideal) dq dk dv x gq gk cs sn = gradRows dq dk dv x gq gk cs sn := by
  funext y
  idx_vars y
  rw [rows_ref]
  show _ = if h : y1.val < 512 then _ else if h : y1.val - 512 < 128 then _ else _
  by_cases h : y1.val < 512
  · rw [dif_pos h, dif_pos h]
    refine Eq.trans ?_ (rowR_eq _ _ _)
    refine congrArg₂ (fun D f => rowR D f _) (funext fun k => ?_) (funext fun k => lanesQ_real R y0 (col (n := 8) rfl ⟨y1.val / 64, by omega⟩ k))
    rw [backQ_real R, R.gq, ← EReal.coe_mul]
    rfl
  · rw [dif_neg h, dif_neg h]
    by_cases h' : y1.val - 512 < 128
    · rw [dif_pos h', dif_pos h']
      refine Eq.trans ?_ (rowR_eq _ _ _)
      refine congrArg₂ (fun D f => rowR D f _) (funext fun k => ?_) (funext fun k => lanesK_real R y0 (col (n := 2) rfl ⟨(y1.val - 512) / 64, by omega⟩ k))
      rw [backK_real R, R.gk, ← EReal.coe_mul]
      rfl
    · rw [dif_neg h', dif_neg h']
      rfl

/-- The reference's gradient of the queries' gain. -/
theorem gq_result : val_main_v177 (F := Ideal) dq x cs sn = gradGainQ dq x cs sn := by
  funext y
  idx_vars y
  obtain rfl : y0 = 0 := Subsingleton.elim _ _
  refine (gq_ref dq x cs sn y1).trans (Finset.sum_congr rfl fun t _ => ?_)
  have hs := scaleR_eq (inHead (n := 8) rfl (lanesOfQ x t) y1)
  have hx : (fun k : Fin 64 => x (ix2 t ⟨y1.val / 64 * 64 + k.val, by have := y1.isLt; have := k.isLt; omega⟩))
      = fun k => (inHead (n := 8) rfl (lanesOfQ x t) y1 k : EReal) :=
    funext fun k => lanesQ_real R t (col (n := 8) rfl ⟨y1.val / 64, by have := y1.isLt; omega⟩ k)
  rw [hx, hs, backQ_real R, lanesQ_real R, ← EReal.coe_mul, ← EReal.coe_mul]
  refine congrArg Real.toEReal ?_
  rw [mul_comm]
  exact congrArg (fun l => backQ dq cs sn t l * _) (col_self (n := 8) rfl y1)

/-- The reference's gradient of the keys' gain. -/
theorem gk_result : val_main_v178 (F := Ideal) dk x cs sn = gradGainK dk x cs sn := by
  funext y
  idx_vars y
  obtain rfl : y0 = 0 := Subsingleton.elim _ _
  refine (gk_ref dk x cs sn y1).trans (Finset.sum_congr rfl fun t _ => ?_)
  have hs := scaleR_eq (inHead (n := 2) rfl (lanesOfK x t) y1)
  have hx : (fun k : Fin 64 => x (ix2 t ⟨512 + (y1.val / 64 * 64 + k.val), by have := y1.isLt; have := k.isLt; omega⟩))
      = fun k => (inHead (n := 2) rfl (lanesOfK x t) y1 k : EReal) :=
    funext fun k => lanesK_real R t (col (n := 2) rfl ⟨y1.val / 64, by have := y1.isLt; omega⟩ k)
  rw [hx, hs, backK_real R, lanesK_real R, ← EReal.coe_mul, ← EReal.coe_mul]
  refine congrArg Real.toEReal ?_
  rw [mul_comm]
  exact congrArg (fun l => backK dk cs sn t l * _) (col_self (n := 2) rfl y1)

end result

end Cert.Reference27Ideal.Hand
-- ==== Proof.Heads.lean ====
/- The gradient of the head norms and the rotary positions: the projections' gradient and the gains' gradients. -/
module

public import proofs.«01_k».proof.Proof.HeadsHost
public import proofs.«01_k».proof.Proof.HeadsReference
public import proofs.«01_k».proof.Proof.Algebraic
public import proofs.«01_k».proof.Proof.Gen.Kernel27Ideal.Value
public import Idealize.ShloMosaic.Lib.StableHlo.ReadAt
public import Idealize.ShloMosaic.Lib.Claim
public import Idealize.ShloMosaic.Lib.Pipeline.ValueKit
public import Idealize.ShloMosaic.Lib.Pipeline.ValueKit.Acc
public import Idealize.ShloMosaic.Lib.Pipeline.FrameBody
public import proofs.«01_k».proof.Defs
public import proofs.«01_k».proof.Proof.Gen.Kernel27.Frame
public import proofs.«01_k».proof.Proof.Gen.Reference27Ideal.Run
public import proofs.«01_k».proof.Proof.Gen.Reference27Ideal.Read
public import Idealize.ShloMosaic.Lib.Quiescent

@[expose] public section

set_option maxRecDepth 16384

noncomputable section

namespace Cert.Kernel27Ideal.Hand

open Idealize.ShloMosaic Idealize.ShloMosaic.TcCoe Cert.Kernel27Ideal Cert.Kernel27Ideal.Gen Cert.Heads

variable (m : (ℓ : Loc nD τ sig) → Buf (Elt Ideal) ℓ) (c : Dev nD)

/-- The token in row `s` of block `u`. -/
def token (u : ℕ) (s : Fin 512) : Fin 8192 := ⟨u % 16 * 512 + s.val, by have := s.isLt; omega⟩

theorem sum_tokens (f : Fin 8192 → EReal) : ∑ u ∈ Finset.range 16, ∑ s, f (token u s) = ∑ x, f x := by
  rw [Finset.sum_range]
  refine (Finset.sum_congr rfl fun u _ => ?_).trans (Fin.sum_mul_add_fin 16 512 f)
  refine Finset.sum_congr rfl fun s _ => congrArg f (Fin.ext ?_)
  show u.val % 16 * 512 + s.val = _
  have := u.isLt
  rw [Nat.mod_eq_of_lt this]

theorem windows_at : ∀ t : Fin cfg0.N, win0_0.index t = ![0, t.val, 0, 0] ∧ win0_1.index t = ![0, t.val, 0, 0] ∧ win0_2.index t = ![0, t.val, 0, 0] ∧ win0_3.index t = ![t.val, 0] ∧ win0_4.index t = ![0, 0]
    ∧ win0_5.index t = ![0, 0] ∧ win0_6.index t = ![t.val, 0] ∧ win0_7.index t = ![t.val, 0] ∧ win0_8.index t = ![0, 0]
    ∧ win0_9.index t = ![0, 0] ∧ win0_10.index t = ![t.val, 0] ∧ win0_11.index t = ![0, 0] ∧ win0_12.index t = ![0, 0] := by decide +kernel

section blocks
variable (t : Fin cfg0.N)

theorem tileQ_at (h : Fin 8) (e : Fin 64) (i : Fin 512) : (iblk m c 0 t : Vec Ideal S8x1x64x512 .f32) (ix4 h 0 e i)
    = argQ m c (ix2 (token t.val i) ⟨h.val * 64 + e.val, by have := h.isLt; have := e.isLt; omega⟩) := by
  have ht : t.val < 16 := lt_of_lt_of_eq t.isLt N_0
  have hv := V_q m c h ⟨t.val, ht⟩ e i
  refine Eq.trans ?_ (hv.trans ?_)
  · obtain ⟨h0, h1, h2, h3, h4, h5, h6, h7, h8, h9, h10, h11, h12⟩ := windows_at t
    blk_ext [iblk, h0]
  · exact congrArg (fun r => argQ m c (ix2 r _)) (Fin.ext (by show t.val * 512 + i.val = t.val % 16 * 512 + i.val; omega))

theorem tileK_at (i : Fin 512) (l : Fin 128) : lanesK (iblk m c 1 t) i l = argK m c (ix2 (token t.val i) l) := by
  have ht : t.val < 16 := lt_of_lt_of_eq t.isLt N_0
  have hi := i.isLt
  have hv := V_k m c (headK l) ⟨t.val * 2 + i.val / 256, by omega⟩ (entry l) ⟨i.val % 256, Nat.mod_lt _ (by decide)⟩
  refine Eq.trans ?_ (hv.trans ?_)
  · unfold lanesK
    obtain ⟨h0, h1, h2, h3, h4, h5, h6, h7, h8, h9, h10, h11, h12⟩ := windows_at t
    blk_ext [iblk, h1]
  · refine congrArg₂ (fun r l => argK m c (ix2 r l)) (Fin.ext ?_) (Fin.ext ?_)
    · show (t.val * 2 + i.val / 256) * 256 + i.val % 256 = t.val % 16 * 512 + i.val
      omega
    · show l.val / 64 * 64 + l.val % 64 = l.val
      omega

theorem tileV_at (i : Fin 512) (l : Fin 128) : lanesK (iblk m c 2 t) i l = argV m c (ix2 (token t.val i) l) := by
  have ht : t.val < 16 := lt_of_lt_of_eq t.isLt N_0
  have hi := i.isLt
  have hv := V_v m c (headK l) ⟨t.val * 2 + i.val / 256, by omega⟩ (entry l) ⟨i.val % 256, Nat.mod_lt _ (by decide)⟩
  refine Eq.trans ?_ (hv.trans ?_)
  · unfold lanesK
    obtain ⟨h0, h1, h2, h3, h4, h5, h6, h7, h8, h9, h10, h11, h12⟩ := windows_at t
    blk_ext [iblk, h2]
  · refine congrArg₂ (fun r l => argV m c (ix2 r l)) (Fin.ext ?_) (Fin.ext ?_)
    · show (t.val * 2 + i.val / 256) * 256 + i.val % 256 = t.val % 16 * 512 + i.val
      omega
    · show l.val / 64 * 64 + l.val % 64 = l.val
      omega

theorem x_at (i : Fin 512) (l : Fin 768) : (iblk m c 3 t : Vec Ideal S512x768 .f32) (ix2 i l) = argX m c (ix2 (token t.val i) l) := by
  have ht : t.val < 16 := lt_of_lt_of_eq t.isLt N_0
  unfold token
  obtain ⟨h0, h1, h2, h3, h4, h5, h6, h7, h8, h9, h10, h11, h12⟩ := windows_at t
  blk_ext [iblk, h3]

theorem gq_at (l : Fin 512) : (iblk m c 4 t : Vec Ideal S1x512 .f32) (ix2 0 l) = argGq m c (ix2 0 (entry l)) := by
  refine Eq.trans ?_ (V_gq m c l)
  obtain ⟨h0, h1, h2, h3, h4, h5, h6, h7, h8, h9, h10, h11, h12⟩ := windows_at t
  blk_ext [iblk, h4]

theorem gk_at (l : Fin 128) : (iblk m c 5 t : Vec Ideal S1x128 .f32) (ix2 0 l) = argGk m c (ix2 0 (entry l)) := by
  refine Eq.trans ?_ (V_gk m c l)
  obtain ⟨h0, h1, h2, h3, h4, h5, h6, h7, h8, h9, h10, h11, h12⟩ := windows_at t
  blk_ext [iblk, h5]

theorem cos_at (i : Fin 512) (l : Fin 128) : (iblk m c 6 t : Vec Ideal S512x128 .f32) (ix2 i l) = argC m c (ix2 (token t.val i) (pair l)) := by
  have ht : t.val < 16 := lt_of_lt_of_eq t.isLt N_0
  refine Eq.trans ?_ (V_c m c (token t.val i) l)
  unfold token
  obtain ⟨h0, h1, h2, h3, h4, h5, h6, h7, h8, h9, h10, h11, h12⟩ := windows_at t
  blk_ext [iblk, h6]

theorem sin_at (i : Fin 512) (l : Fin 128) : (iblk m c 7 t : Vec Ideal S512x128 .f32) (ix2 i l)
    = argS m c (ix2 (token t.val i) (pair l)) * (if l.val % 2 = 0 then ((-1 : ℝ) : EReal) else ((1 : ℝ) : EReal)) := by
  have ht : t.val < 16 := lt_of_lt_of_eq t.isLt N_0
  refine Eq.trans ?_ (V_s m c (token t.val i) l)
  unfold token
  obtain ⟨h0, h1, h2, h3, h4, h5, h6, h7, h8, h9, h10, h11, h12⟩ := windows_at t
  blk_ext [iblk, h7]

theorem mq_at (k l : Fin 512) : (iblk m c 8 t : Vec Ideal S512x512 .bf16) (ix2 k l) = (weight k.val l.val : EReal) := by
  refine Eq.trans ?_ (V_mq m c k l)
  obtain ⟨h0, h1, h2, h3, h4, h5, h6, h7, h8, h9, h10, h11, h12⟩ := windows_at t
  blk_ext [iblk, h8]

theorem mk_at (k l : Fin 128) : (iblk m c 9 t : Vec Ideal S128x128 .bf16) (ix2 k l) = (weight k.val l.val : EReal) := by
  refine Eq.trans ?_ (V_mk m c k l)
  obtain ⟨h0, h1, h2, h3, h4, h5, h6, h7, h8, h9, h10, h11, h12⟩ := windows_at t
  blk_ext [iblk, h9]

variable (R : Reals (argQ m c) (argK m c) (argX m c) (argGq m c) (argGk m c) (argC m c) (argS m c))
include R

theorem xq_at (i l : Fin 512) : colsQ (iblk m c 3 t) (ix2 i l) = (lanesOfQ (argX m c) (token t.val i) l : EReal) :=
  (colsQ_at _ i l).trans ((x_at m c t i _).trans (R.x _ _ (by show l.val < 640; have := l.isLt; omega)))

theorem xk_at (i : Fin 512) (l : Fin 128) : colsK (iblk m c 3 t) (ix2 i l) = (lanesOfK (argX m c) (token t.val i) l : EReal) :=
  (colsK_at _ i l).trans ((x_at m c t i _).trans (R.x _ _ (by show 512 + l.val < 640; have := l.isLt; omega)))

/-- The sign of a table's lane. -/
theorem sign_at {w : ℕ} (l : Fin w) : (if l.val % 2 = 0 then ((-1 : ℝ) : EReal) else ((1 : ℝ) : EReal)) = (side l : EReal) := by
  unfold side
  split_ifs <;> rfl

theorem turnQ_real (i l : Fin 512) : turnQ (iblk m c 0 t) (iblk m c 6 t) (iblk m c 7 t) i l
    = (backQ (argQ m c) (argC m c) (argS m c) (token t.val i) l : EReal) := by
  have hl : ∀ l : Fin 512, (⟨(headQ l).val * 64 + (entry l).val, by have := (headQ l).isLt; have := (entry l).isLt; omega⟩ : Fin 512) = l := fun l =>
    Fin.ext (by show l.val / 64 * 64 + l.val % 64 = l.val; omega)
  have hp : pair (table l) = spin l := Fin.ext (by show l.val % 128 % 64 / 2 = l.val % 64 / 2; omega)
  have hs : side (table l) = side l := by
    have : l.val % 128 % 2 = l.val % 2 := by omega
    unfold side table
    rw [this]
  unfold turnQ
  rw [tileQ_at, tileQ_at, cos_at, sin_at, hl, hl, hp, sign_at m c R, hs, eighth, R.dq, R.dq, R.cs, R.sn, ← EReal.coe_mul, ← EReal.coe_mul, ← EReal.coe_mul,
    ← EReal.coe_sub, ← EReal.coe_mul]
  rfl

theorem turnK_real (i : Fin 512) (l : Fin 128) : turnK (iblk m c 1 t) (iblk m c 6 t) (iblk m c 7 t) i l
    = (backK (argK m c) (argC m c) (argS m c) (token t.val i) l : EReal) := by
  unfold turnK
  rw [tileK_at, tileK_at, cos_at, sin_at, sign_at m c R, unit, R.dk, R.dk, R.cs, R.sn, ← EReal.coe_mul, ← EReal.coe_mul, ← EReal.coe_mul,
    ← EReal.coe_sub, ← EReal.coe_mul]
  rfl

theorem scaleQ_real (i l : Fin 512) : scaleK (fun k l => (iblk m c 8 t : Vec Ideal S512x512 .bf16) (ix2 k l)) (fun l => colsQ (iblk m c 3 t) (ix2 i l)) l
    = (scale (inHead (n := 8) rfl (lanesOfQ (argX m c) (token t.val i)) l) : EReal) :=
  scaleK_lane (n := 8) rfl _ (mq_at m c t) _ _ (xq_at m c t R i) l

theorem scaleK_real (i : Fin 512) (l : Fin 128) : scaleK (fun k l => (iblk m c 9 t : Vec Ideal S128x128 .bf16) (ix2 k l)) (fun l => colsK (iblk m c 3 t) (ix2 i l)) l
    = (scale (inHead (n := 2) rfl (lanesOfK (argX m c) (token t.val i)) l) : EReal) :=
  scaleK_lane (n := 2) rfl _ (mk_at m c t) _ _ (xk_at m c t R i) l

theorem laneQ_real (i l : Fin 512) : rowK (fun k l => (iblk m c 8 t : Vec Ideal S512x512 .bf16) (ix2 k l))
      (fun l => turnQ (iblk m c 0 t) (iblk m c 6 t) (iblk m c 7 t) i l * (iblk m c 4 t : Vec Ideal S1x512 .f32) (ix2 0 l))
      (fun l => colsQ (iblk m c 3 t) (ix2 i l)) l
    = (lane (n := 8) rfl (backQ (argQ m c) (argC m c) (argS m c) (token t.val i)) (entries (argGq m c) 0) (lanesOfQ (argX m c) (token t.val i)) l : EReal) :=
  rowK_lane (n := 8) rfl _ (mq_at m c t) _ _ _ _ _
    (fun l => by rw [turnQ_real m c t R, gq_at, R.gq, EReal.coe_mul]; rfl) (xq_at m c t R i) l

theorem laneK_real (i : Fin 512) (l : Fin 128) : rowK (fun k l => (iblk m c 9 t : Vec Ideal S128x128 .bf16) (ix2 k l))
      (fun l => turnK (iblk m c 1 t) (iblk m c 6 t) (iblk m c 7 t) i l * (iblk m c 5 t : Vec Ideal S1x128 .f32) (ix2 0 l))
      (fun l => colsK (iblk m c 3 t) (ix2 i l)) l
    = (lane (n := 2) rfl (backK (argK m c) (argC m c) (argS m c) (token t.val i)) (entries (argGk m c) 0) (lanesOfK (argX m c) (token t.val i)) l : EReal) :=
  rowK_lane (n := 2) rfl _ (mk_at m c t) _ _ _ _ _
    (fun l => by rw [turnK_real m c t R, gk_at, R.gk, EReal.coe_mul]; rfl) (xk_at m c t R i) l

theorem rows_of (i : Fin 512) (l : Fin 768) : rows (iblk m c 0 t) (iblk m c 1 t) (iblk m c 2 t) (iblk m c 3 t) (iblk m c 4 t) (iblk m c 5 t) (iblk m c 6 t) (iblk m c 7 t) (iblk m c 8 t) (iblk m c 9 t) (ix2 i l)
    = gradRows (argQ m c) (argK m c) (argV m c) (argX m c) (argGq m c) (argGk m c) (argC m c) (argS m c) (ix2 (token t.val i) l) := by
  rw [rows_at]
  show _ = if h : l.val < 512 then _ else if h : l.val - 512 < 128 then _ else _
  by_cases h : l.val < 512
  · rw [dif_pos h, dif_pos h, rowsQ_at]
    exact laneQ_real m c t R i _
  · rw [dif_neg h, dif_neg h]
    by_cases h' : l.val - 512 < 128
    · rw [dif_pos h', dif_pos h']
      exact laneK_real m c t R i _
    · rw [dif_neg h', dif_neg h']
      exact tileV_at m c t i _

end blocks

section arrays
variable (R : Reals (argQ m c) (argK m c) (argX m c) (argGq m c) (argGk m c) (argC m c) (argS m c))
include R

theorem rows_written (t : Fin cfg0.N) (i : Fin 512) (l : Fin 768) : (outsAt0 m c t.val t.isLt).1 (ix2 i l)
    = gradRows (argQ m c) (argK m c) (argV m c) (argX m c) (argGq m c) (argGk m c) (argC m c) (argS m c) (ix2 (token t.val i) l) := by
  by_cases h : t.val % 16 = 0
  · rw [outsAt0_A m c t h, rows_first]
    exact rows_of m c t R i l
  · rw [outsAt0_B m c t h, rows_later]
    exact rows_of m c t R i l

theorem arr_rows : (dats m 0 c).arrAt 10 cfg0.N
    = gradRows (argQ m c) (argK m c) (argV m c) (argX m c) (argGq m c) (argGk m c) (argC m c) (argS m c) := by
  refine (dats m 0 c).arrAt_eq_of_covers 10 _ (by decide +kernel) fun t hf y => ?_
  blk_simp
  rw [after0_10]
  have ht : t.val < 16 := lt_of_lt_of_eq t.isLt N_0
  idx_vars y
  have he : (win0_10.blk t).view.emb (ix2 y0 y1) = ix2 (token t.val y0) y1 := by
    obtain ⟨h0, h1, h2, h3, h4, h5, h6, h7, h8, h9, h10, h11, h12⟩ := windows_at t
    unfold token
    blk_ext [h10]
  exact (rows_written m c R t y0 y1).trans (congrArg (gradRows (argQ m c) (argK m c) (argV m c) (argX m c) (argGq m c) (argGk m c) (argC m c) (argS m c)) he).symm

/-- The part of a gain's gradient that a block of tokens gives. -/
def partQ (u : ℕ) (l : Fin 512) : EReal := ∑ s : Fin 512, (give (n := 8) rfl (backQ (argQ m c) (argC m c) (argS m c) (token u s)) (lanesOfQ (argX m c) (token u s)) l : EReal)

theorem gainQ_of (t : Fin cfg0.N) (acc : Vec Ideal S1x512 .f32) (l : Fin 512) :
    k0_pay27 (gainQ (iblk m c 0 t) (iblk m c 3 t) (iblk m c 6 t) (iblk m c 7 t) (iblk m c 8 t)) acc (ix2 0 l)
      = acc (ix2 0 l) + partQ m c t.val l := by
  refine (gainQ_at _ _ _ _ _ acc l).trans ?_
  unfold partQ
  refine congrArg _ (Finset.sum_congr rfl fun s _ => ?_)
  rw [turnQ_real m c t R, scaleQ_real m c t R, xq_at m c t R, ← EReal.coe_mul, ← EReal.coe_mul]
  rfl

/-- After each grid point the gain's gradient covers the blocks of tokens so far. -/
theorem carriedQ (n : ℕ) (hn : n < cfg0.N) (l : Fin 512) :
    (outsAt0 m c n hn).2.1 (ix2 0 l) = ∑ u ∈ Finset.range (n + 1), partQ m c u l := by
  have h16 : n < 16 := lt_of_lt_of_eq hn N_0
  induction n with
  | zero =>
    rw [outsAt0_A m c ⟨0, hn⟩ rfl]
    dsimp only
    rw [gq_first]
    refine (gainQ_of m c R ⟨0, hn⟩ _ l).trans ?_
    rw [zeroQ_at, zero_add, Finset.sum_range_one]
  | succ n ih =>
    have hs := ih (by omega) (by omega)
    rw [outsAt0_B m c ⟨n + 1, hn⟩ (by show ¬(n + 1) % 16 = 0; omega)]
    dsimp only
    rw [gq_later]
    refine (gainQ_of m c R ⟨n + 1, hn⟩ _ l).trans ?_
    rw [Finset.sum_range_succ _ (n + 1)]
    exact congrArg (· + _) hs

theorem arr_gq : (dats m 0 c).arrAt 11 cfg0.N = gradGainQ (argQ m c) (argX m c) (argC m c) (argS m c) := by
  refine (dats m 0 c).arrAt_eq_of_covers 11 _ (by decide +kernel) fun t hf y => ?_
  blk_simp
  rw [after0_11]
  have ht : t.val < 16 := lt_of_lt_of_eq t.isLt N_0
  have hl : t.val = 15 := by have := (flush0_11 t).mp hf; omega
  idx_vars y
  obtain rfl : y0 = 0 := Subsingleton.elim _ _
  have he : (win0_11.blk t).view.emb (ix2 0 y1) = ix2 0 y1 := by
    obtain ⟨h0, h1, h2, h3, h4, h5, h6, h7, h8, h9, h10, h11, h12⟩ := windows_at t
    blk_ext [h11]
  refine Eq.trans ?_ (congrArg (gradGainQ (argQ m c) (argX m c) (argC m c) (argS m c)) he).symm
  refine (carriedQ m c R t.val t.isLt y1).trans ?_
  rw [hl]
  exact sum_tokens fun t => (give (n := 8) rfl (backQ (argQ m c) (argC m c) (argS m c) (t)) (lanesOfQ (argX m c) (t)) y1 : EReal)

/-- The part of a gain's gradient that a block of tokens gives. -/
def partK (u : ℕ) (l : Fin 128) : EReal := ∑ s : Fin 512, (give (n := 2) rfl (backK (argK m c) (argC m c) (argS m c) (token u s)) (lanesOfK (argX m c) (token u s)) l : EReal)

theorem gainK_of (t : Fin cfg0.N) (acc : Vec Ideal S1x128 .f32) (l : Fin 128) :
    k0_pay1 (k0_pay28 acc) (gainK (iblk m c 1 t) (iblk m c 3 t) (iblk m c 6 t) (iblk m c 7 t) (iblk m c 9 t)) (ix2 0 l)
      = acc (ix2 0 l) + partK m c t.val l := by
  refine (gainK_at _ _ _ _ _ acc l).trans ?_
  unfold partK
  refine congrArg _ (Finset.sum_congr rfl fun s _ => ?_)
  rw [turnK_real m c t R, scaleK_real m c t R, xk_at m c t R, ← EReal.coe_mul, ← EReal.coe_mul]
  rfl

/-- After each grid point the gain's gradient covers the blocks of tokens so far. -/
theorem carriedK (n : ℕ) (hn : n < cfg0.N) (l : Fin 128) :
    (outsAt0 m c n hn).2.2 (ix2 0 l) = ∑ u ∈ Finset.range (n + 1), partK m c u l := by
  have h16 : n < 16 := lt_of_lt_of_eq hn N_0
  induction n with
  | zero =>
    rw [outsAt0_A m c ⟨0, hn⟩ rfl]
    dsimp only
    rw [gk_first]
    refine (gainK_of m c R ⟨0, hn⟩ _ l).trans ?_
    rw [zeroK_at, zero_add, Finset.sum_range_one]
  | succ n ih =>
    have hs := ih (by omega) (by omega)
    rw [outsAt0_B m c ⟨n + 1, hn⟩ (by show ¬(n + 1) % 16 = 0; omega)]
    dsimp only
    rw [gk_later]
    refine (gainK_of m c R ⟨n + 1, hn⟩ _ l).trans ?_
    rw [Finset.sum_range_succ _ (n + 1)]
    exact congrArg (· + _) hs

theorem arr_gk : (dats m 0 c).arrAt 12 cfg0.N = gradGainK (argK m c) (argX m c) (argC m c) (argS m c) := by
  refine (dats m 0 c).arrAt_eq_of_covers 12 _ (by decide +kernel) fun t hf y => ?_
  blk_simp
  rw [after0_12]
  have ht : t.val < 16 := lt_of_lt_of_eq t.isLt N_0
  have hl : t.val = 15 := by have := (flush0_12 t).mp hf; omega
  idx_vars y
  obtain rfl : y0 = 0 := Subsingleton.elim _ _
  have he : (win0_12.blk t).view.emb (ix2 0 y1) = ix2 0 y1 := by
    obtain ⟨h0, h1, h2, h3, h4, h5, h6, h7, h8, h9, h10, h11, h12⟩ := windows_at t
    blk_ext [h12]
  refine Eq.trans ?_ (congrArg (gradGainK (argK m c) (argX m c) (argC m c) (argS m c)) he).symm
  refine (carriedK m c R t.val t.isLt y1).trans ?_
  rw [hl]
  exact sum_tokens fun t => (give (n := 2) rfl (backK (argK m c) (argC m c) (argS m c) (t)) (lanesOfK (argX m c) (t)) y1 : EReal)

end arrays

end Cert.Kernel27Ideal.Hand

namespace Cert.Proof

open Idealize.ShloMosaic Idealize.ShloMosaic.TcCoe Idealize.SL.Sem Cert.Heads Cert.Kernel27Ideal.Hand Cert.Reference27Ideal.Hand

/-- The kernel on machine words ends, its arguments unchanged and its counters at zero. -/
theorem frame_kernel27 : Cert.quiescent_Kernel27 := fun m ρ _ => Cert.Kernel27.Gen.frame m ρ

/-- The kernel over the extended reals ends, its arguments unchanged and its counters at zero. -/
theorem frame_ideal27 : Cert.quiescent_Kernel27Ideal := fun m ρ _ => Cert.Kernel27Ideal.Gen.frame m ρ

/-- The reference ends, its arguments unchanged and its counters at zero. -/
theorem frame_reference27 : Cert.quiescent_Reference27Ideal := fun m ρ _ =>
  (θ_run Cert.Reference27Ideal.defs _ _).mono (fun r h => ⟨fun c => (h c).2.2.2, sem_eq_zero_of_no_sems (by decide) r.2⟩)
    (Cert.Reference27Ideal.Value.run (F := Ideal) m ρ)

/-- The shapes of the precondition fit. -/
theorem finite_heads_facts : Cert.Pre_finite_heads.Facts := ⟨by decide, by decide, by decide, by decide, by decide, by decide⟩

/-- The gradient's kernel and the reference leave the same arrays. -/
theorem algebraic27 : Cert.algebraic_Kernel27Ideal_Reference27Ideal_pre_finite_heads (hPre_finite_heads := finite_heads_facts) := by
  haveI := finite_heads_facts
  intro m g m' g' hP hm
  have R : ∀ c, Reals (argQ m c) (argK m c) (argX m c) (argGq m c) (argGk m c) (argC m c) (argS m c) := fun c => by
    obtain ⟨p0, p1, p2, p3, p4, p5, p6⟩ := hP c
    exact ⟨fun t l => real_of_finite _ _ (fun _ => rfl) p0 _, fun t l => real_of_finite _ _ (fun _ => rfl) p1 _,
      fun t l hl => by
        have h := real_of_finite _ _ (fun _ => rfl) p2 (ix2 t ⟨l.val, hl⟩)
        have he : extractStridedSlice Cert.Pre_finite_heads.S8192x640 ![0, 0] (argX m c) Cert.Pre_finite_heads.Facts.slices_S8192x768_S8192x640_0_0 (ix2 t ⟨l.val, hl⟩) = argX m c (ix2 t l) := by
          pointwise []
        exact (he.symm.trans h).trans (congrArg (fun v => ((EReal.toReal v : ℝ) : EReal)) he),
      fun t l => real_of_finite _ _ (fun _ => rfl) p3 _, fun t l => real_of_finite _ _ (fun _ => rfl) p4 _,
      fun t l => real_of_finite _ _ (fun _ => rfl) p5 _, fun t l => real_of_finite _ _ (fun _ => rfl) p6 _⟩
  refine ⟨fun c => gradRows (argQ m c) (argK m c) (argV m c) (argX m c) (argGq m c) (argGk m c) (argC m c) (argS m c),
    fun c => gradGainQ (argQ m c) (argX m c) (argC m c) (argS m c), fun c => gradGainK (argK m c) (argX m c) (argC m c) (argS m c), ?_, ?_⟩
  · exact (θ_run Cert.Kernel27Ideal.defs _ _).mono (fun r h c => ⟨(h c).1.trans (arr_rows m c (R c)), (h c).2.1.trans (arr_gq m c (R c)),
      (h c).2.2.1.trans (arr_gk m c (R c)), (h c).2.2.2⟩) (Cert.Kernel27Ideal.Value.run_blocks m g)
  · refine (θ_run Cert.Reference27Ideal.defs _ _).mono (fun r h c => ⟨(h c).1.trans ?_, (h c).2.1.trans ?_, (h c).2.2.1.trans ?_, (h c).2.2.2⟩)
      (Cert.Reference27Ideal.Value.run (F := Ideal) m' g')
    all_goals
      clear h
      obtain ⟨e0, e1, e2, e3, e4, e5, e6, e7⟩ := hm c
    · rw [Cert.Reference27Ideal.Read.val_main_v176_eq]
      show Cert.Reference27Ideal.Read.val_main_v176 (F := Ideal) (m' ((c.tc : Thread Cert.Reference27Ideal.nD Cert.Reference27Ideal.τ).loc Cert.Reference27Ideal.main_arg0)) (m' ((c.tc : Thread Cert.Reference27Ideal.nD Cert.Reference27Ideal.τ).loc Cert.Reference27Ideal.main_arg1)) (m' ((c.tc : Thread Cert.Reference27Ideal.nD Cert.Reference27Ideal.τ).loc Cert.Reference27Ideal.main_arg2)) (m' ((c.tc : Thread Cert.Reference27Ideal.nD Cert.Reference27Ideal.τ).loc Cert.Reference27Ideal.main_arg3)) (m' ((c.tc : Thread Cert.Reference27Ideal.nD Cert.Reference27Ideal.τ).loc Cert.Reference27Ideal.main_arg4)) (m' ((c.tc : Thread Cert.Reference27Ideal.nD Cert.Reference27Ideal.τ).loc Cert.Reference27Ideal.main_arg5)) (m' ((c.tc : Thread Cert.Reference27Ideal.nD Cert.Reference27Ideal.τ).loc Cert.Reference27Ideal.main_arg6)) (m' ((c.tc : Thread Cert.Reference27Ideal.nD Cert.Reference27Ideal.τ).loc Cert.Reference27Ideal.main_arg7)) = _
      rw [e0, e1, e2, e3, e4, e5, e6, e7]
      exact rows_result (dv := argV m c) (R c)
    · rw [Cert.Reference27Ideal.Read.val_main_v177_eq]
      show Cert.Reference27Ideal.Read.val_main_v177 (F := Ideal) (m' ((c.tc : Thread Cert.Reference27Ideal.nD Cert.Reference27Ideal.τ).loc Cert.Reference27Ideal.main_arg0)) (m' ((c.tc : Thread Cert.Reference27Ideal.nD Cert.Reference27Ideal.τ).loc Cert.Reference27Ideal.main_arg3)) (m' ((c.tc : Thread Cert.Reference27Ideal.nD Cert.Reference27Ideal.τ).loc Cert.Reference27Ideal.main_arg6)) (m' ((c.tc : Thread Cert.Reference27Ideal.nD Cert.Reference27Ideal.τ).loc Cert.Reference27Ideal.main_arg7)) = _
      rw [e0, e3, e6, e7]
      exact gq_result (R c)
    · rw [Cert.Reference27Ideal.Read.val_main_v178_eq]
      show Cert.Reference27Ideal.Read.val_main_v178 (F := Ideal) (m' ((c.tc : Thread Cert.Reference27Ideal.nD Cert.Reference27Ideal.τ).loc Cert.Reference27Ideal.main_arg1)) (m' ((c.tc : Thread Cert.Reference27Ideal.nD Cert.Reference27Ideal.τ).loc Cert.Reference27Ideal.main_arg3)) (m' ((c.tc : Thread Cert.Reference27Ideal.nD Cert.Reference27Ideal.τ).loc Cert.Reference27Ideal.main_arg6)) (m' ((c.tc : Thread Cert.Reference27Ideal.nD Cert.Reference27Ideal.τ).loc Cert.Reference27Ideal.main_arg7)) = _
      rw [e1, e3, e6, e7]
      exact gk_result (R c)

end Cert.Proof
-- ==== Proof.MixRow.lean ====
/- The gated mixer's forward pass and its output projection, on one block of tokens. -/
module

public import proofs.«01_k».proof.Proof.NormRow
public import proofs.«01_k».proof.Proof.Gen.Kernel28Ideal.Frame
public import Idealize.ShloMosaic.Lib.StableHlo.ReadAt
public import Idealize.ShloMosaic.Lib.Claim
public import Idealize.ShloMosaic.Lib.Pipeline.ValueKit
public import Idealize.ShloMosaic.Lib.Pipeline.FrameBody

@[expose] public section

set_option maxRecDepth 16384

noncomputable section

namespace Cert.Kernel28Ideal.Hand

open Idealize.ShloMosaic Idealize.ShloMosaic.TcCoe Cert.Kernel28Ideal Cert.Kernel28Ideal.Gen Cert.Norm

theorem origin : (![0, 0] : Fin 2 → ℕ) = fun _ => 0 := by decide
theorem origin4 : (![0, 0, 0, 0] : Fin 4 → ℕ) = fun _ => 0 := by decide

/-- The smooth rectifier, by the hyperbolic tangent. -/
def gelu (a : EReal) : EReal :=
  a * (Ideal.ofBits .f32 0x3F000000#32 * (1
    + Ideal.tanh (Ideal.ofBits .f32 0x3F4C422A#32 * (a + Ideal.ofBits .f32 0x3D372713#32 * (a * a * a)))))
/-- The reciprocal root mean square of a row of 512 entries. -/
def scaleH (x : Fin 512 → EReal) : EReal := Ideal.rsqrt (Ideal.div (∑ k, x k * x k) (Ideal.ofBits .f32 0x44000000#32) + eps)
/-- A row of 512 entries normalised, at a column. -/
def normH (x g : Fin 512 → EReal) (k : Fin 512) : EReal := x k * scaleH x * g k
/-- The gate's half of a token's row, activated and normalised. -/
def gateRow (z : Fin 1024 → EReal) (g : Fin 512 → EReal) (e : Fin 512) : EReal :=
  normH (fun k => gelu (z ⟨512 + k.val, by have := k.isLt; omega⟩)) g e

/-- A lane's group. -/
def group (e : Fin 512) : Fin 8 := ⟨e.val / 64, by have := e.isLt; omega⟩
/-- A lane's number in its group. -/
def inner (e : Fin 512) : Fin 64 := ⟨e.val % 64, Nat.mod_lt _ (by decide)⟩
/-- A row's number in its chunk. -/
def within (r : Fin 512) : Fin 128 := ⟨r.val % 128, Nat.mod_lt _ (by decide)⟩
/-- Row `q` of the chunk of row `r`. -/
def peer (r : Fin 512) (q : Fin 128) : Fin 512 := ⟨r.val / 128 * 128 + q.val, by have := r.isLt; have := q.isLt; omega⟩

section chunks
variable (V : Vec Ideal S512x512 .f32) (x6 : Vec Ideal S8x128x128 .bf16) (x7 : Vec Ideal S128x512 .f32)

/-- The mixed gate at a row and a lane. -/
def mixAt (r e : Fin 512) : EReal := (∑ q, V (ix2 (peer r q) e) * x6 (ix3 (group e) q (within r))) + x7 (ix2 (within r) e)

theorem leaf (r e : Fin 512) (g : Fin 8) (p : Fin 128) (i : Fin 128 → Fin 512) (j : Fin 128 → Fin 512)
    (hg : e.val / 64 = g.val) (hp : r.val % 128 = p.val) (hi : ∀ q, (i q).val = r.val / 128 * 128 + q.val) (hj : ∀ q, (j q).val = e.val) :
    (∑ q, V (ix2 (i q) (j q)) * x6 (ix3 g q p)) + x7 (ix2 p e) = mixAt V x6 x7 r e := by
  have h1 : group e = g := Fin.ext hg
  have h2 : within r = p := Fin.ext hp
  have h3 : i = peer r := funext fun q => Fin.ext (hi q)
  have h4 : j = fun _ => e := funext fun q => Fin.ext (hj q)
  unfold mixAt
  rw [h1, h2, h3, h4]

end chunks

section block
variable (x0 : Vec Ideal S512x1024 .f32) (x1 : Vec Ideal S8x1x64x512 .f32) (x2 : Vec Ideal S512x1024 .f32) (x3 x4 x5 : Vec Ideal S1x512 .f32)
  (x6 : Vec Ideal S8x128x128 .bf16) (x7 : Vec Ideal S128x512 .f32) (x8 : Vec Ideal S1024x1024 .bf16)

theorem activated_at (r : Fin 512) (k : Fin 1024) : k0_pay4 x0 (ix2 r k) = gelu (x0 (ix2 r k)) := by
  pointwise [k0_pay4]
  all_goals rfl

theorem value_at (r e : Fin 512) : k0_pay5 x0 (ix2 r e) = gelu (x0 (ix2 r ⟨e.val, by have := e.isLt; omega⟩)) := by
  pointwise [k0_pay4, k0_pay5]
  all_goals rfl

theorem gate_at (r e : Fin 512) : k0_pay6 x0 x3 (ix2 r e) = gateRow (fun k => x0 (ix2 r k)) (fun k => x3 (ix2 0 k)) e := by
  pointwise [k0_pay4, k0_pay6]
  all_goals rfl

theorem heads_at (r e : Fin 512) : k0_pay40 x1 x4 (ix2 r e) = normH (fun k => x1 (ix4 (group k) 0 (inner k) r)) (fun k => x4 (ix2 0 k)) e := by
  pointwise [k0_pay40]
  all_goals rfl

theorem first_at (V : Vec Ideal S512x512 .f32) (v3 : Vec Ideal S128x512 .f32) (v33 : FVec Ideal S512x128 .bf16) (v37 : FVec Ideal S64x128 .f32) (v38 : FVec Ideal S64x128 .bf16)
    (h3 : ∀ p e, v3 (ix2 p e) = x7 (ix2 p e))
    (h33 : ∀ (e : Fin 512) (q : Fin 128), v33 (ix2 e q) = V (ix2 ⟨q.val, by have := q.isLt; omega⟩ e))
    (h37 : ∀ (d : Fin 64) (p : Fin 128), v37 (ix2 d p) = ∑ q : Fin 128, V (ix2 ⟨q.val, by have := q.isLt; omega⟩ ⟨d.val, by have := d.isLt; omega⟩) * x6 (ix3 0 q p))
    (h38 : ∀ (d : Fin 64) (q : Fin 128), v38 (ix2 d q) = V (ix2 ⟨q.val, by have := q.isLt; omega⟩ ⟨64 + d.val, by have := d.isLt; omega⟩))
    (p : Fin 128) (e : Fin 512) :
    k0_pay10 v3 v33 v37 v38 (View.ld x6 r0_4) (View.ld x6 r0_5) (View.ld x6 r0_6) (View.ld x6 r0_7) (View.ld x6 r0_8) (View.ld x6 r0_9) (View.ld x6 r0_10) (ix2 p e)
    = mixAt V x6 x7 ⟨p.val, by have := p.isLt; omega⟩ e := by
  have hp := p.isLt
  have he := e.isLt
  pointwise [k0_pay10, View.ld]
  simp only [h3, h33, h37, h38]
  clear h3 h33 h37 h38
  split_ifs <;> refine leaf V x6 x7 _ e _ _ _ _ ?_ ?_ ?_ ?_ <;> intros <;> simp only [Fin.coe_ofNat_eq_mod] <;> omega

theorem bias_at (p : Fin 128) (e : Fin 512) : k0_pay42 x0 x1 x2 x3 x4 x5 x6 x7 x8 (ix2 p e) = x7 (ix2 p e) := by
  unfold k0_pay42
  simp only [View.ld_unit_zero (S := S128x512) origin]
  pointwise [k0_pay3]

theorem chunk0 (p : Fin 128) (e : Fin 512) : k0_pay45 x0 x1 x2 x3 x4 x5 x6 x7 x8 (ix2 p e)
    = mixAt (k0_pay6 x0 x3) x6 x7 ⟨p.val, by have := p.isLt; omega⟩ e := by
  unfold k0_pay45
  simp only [View.ld_unit_zero (S := S512x1024) origin, View.ld_unit_zero (S := S1x512) origin]
  refine first_at x6 x7 (k0_pay6 x0 x3) _ _ _ _ (bias_at x0 x1 x2 x3 x4 x5 x6 x7 x8) ?_ ?_ ?_ p e
  · intro e q
    pointwise [k0_pay7]
  · intro d p
    pointwise [k0_pay8, k0_pay7, View.ld]
  · intro d q
    pointwise [k0_pay9, k0_pay7]

theorem chunk1 (p : Fin 128) (e : Fin 512) : k0_pay47 x0 x1 x2 x3 x4 x5 x6 x7 x8 (ix2 p e)
    = mixAt (k0_pay6 x0 x3) x6 x7 ⟨128 + p.val, by have := p.isLt; omega⟩ e := by
  have hp := p.isLt
  have he := e.isLt
  unfold k0_pay47 k0_pay42 k0_pay46 k0_pay44
  simp only [View.ld_unit_zero (S := S512x1024) origin, View.ld_unit_zero (S := S1x512) origin, View.ld_unit_zero (S := S128x512) origin]
  generalize k0_pay6 x0 x3 = V
  pointwise [k0_pay22, k0_pay11, k0_pay12, k0_pay13, k0_pay14, k0_pay15, k0_pay16, k0_pay17, k0_pay18, k0_pay19, k0_pay20, k0_pay21, k0_pay3, View.ld]
  split_ifs <;> refine leaf V x6 x7 _ e _ _ _ _ ?_ ?_ ?_ ?_ <;> intros <;> simp only [Fin.coe_ofNat_eq_mod] <;> omega

theorem chunk2 (p : Fin 128) (e : Fin 512) : k0_pay48 x0 x1 x2 x3 x4 x5 x6 x7 x8 (ix2 p e)
    = mixAt (k0_pay6 x0 x3) x6 x7 ⟨256 + p.val, by have := p.isLt; omega⟩ e := by
  have hp := p.isLt
  have he := e.isLt
  unfold k0_pay48 k0_pay42 k0_pay44
  simp only [View.ld_unit_zero (S := S512x1024) origin, View.ld_unit_zero (S := S1x512) origin, View.ld_unit_zero (S := S128x512) origin]
  generalize k0_pay6 x0 x3 = V
  pointwise [k0_pay31, k0_pay23, k0_pay24, k0_pay25, k0_pay26, k0_pay27, k0_pay28, k0_pay29, k0_pay30, k0_pay3, View.ld]
  split_ifs <;> refine leaf V x6 x7 _ e _ _ _ _ ?_ ?_ ?_ ?_ <;> intros <;> simp only [Fin.coe_ofNat_eq_mod] <;> omega

/-- The last chunk's mixed gate. -/
def fourth (v3 : Vec Ideal S128x512 .f32) (v147 : FVec Ideal S512x128 .bf16) (v151 v155 v159 v163 v167 : FVec Ideal S64x128 .f32) (v168 : FVec Ideal S64x128 .bf16) (w5 w6 w7 : Vec Ideal S1x128x128 .bf16) : FVec Ideal S128x512 .f32 :=
  k0_pay22 v3 v151 v155 v159 v163 v167 (k0_pay13 v168 w5) (k0_pay19 v147 w6) (k0_pay20 v147) (k0_pay21 w7)

/-- The values times the four chunks' mixed gates. -/
def stacked (U : FVec Ideal S512x512 .f32) (C0 C1 C2 C3 : FVec Ideal S128x512 .f32) : FVec Ideal S512x512 .f32 :=
  mulf U (concatenate S512x512 0 [⟨S128x512, C0⟩, ⟨S128x512, C1⟩, ⟨S128x512, C2⟩, ⟨S128x512, C3⟩] concatenates_S128x512_S128x512_S128x512_S128x512_S512x512_d0)

theorem fourth_at (V : Vec Ideal S512x512 .f32) (v3 : Vec Ideal S128x512 .f32) (v147 : FVec Ideal S512x128 .bf16) (v151 v155 v159 v163 v167 : FVec Ideal S64x128 .f32) (v168 : FVec Ideal S64x128 .bf16)
    (h3 : ∀ p e, v3 (ix2 p e) = x7 (ix2 p e))
    (h147 : ∀ (e : Fin 512) (q : Fin 128), v147 (ix2 e q) = V (ix2 ⟨384 + q.val, by have := q.isLt; omega⟩ e))
    (h151 : ∀ (d : Fin 64) (p : Fin 128), v151 (ix2 d p) = ∑ q : Fin 128, V (ix2 ⟨384 + q.val, by have := q.isLt; omega⟩ ⟨d.val, by have := d.isLt; omega⟩) * x6 (ix3 0 q p))
    (h155 : ∀ (d : Fin 64) (p : Fin 128), v155 (ix2 d p) = ∑ q : Fin 128, V (ix2 ⟨384 + q.val, by have := q.isLt; omega⟩ ⟨64 + d.val, by have := d.isLt; omega⟩) * x6 (ix3 1 q p))
    (h159 : ∀ (d : Fin 64) (p : Fin 128), v159 (ix2 d p) = ∑ q : Fin 128, V (ix2 ⟨384 + q.val, by have := q.isLt; omega⟩ ⟨128 + d.val, by have := d.isLt; omega⟩) * x6 (ix3 2 q p))
    (h163 : ∀ (d : Fin 64) (p : Fin 128), v163 (ix2 d p) = ∑ q : Fin 128, V (ix2 ⟨384 + q.val, by have := q.isLt; omega⟩ ⟨192 + d.val, by have := d.isLt; omega⟩) * x6 (ix3 3 q p))
    (h167 : ∀ (d : Fin 64) (p : Fin 128), v167 (ix2 d p) = ∑ q : Fin 128, V (ix2 ⟨384 + q.val, by have := q.isLt; omega⟩ ⟨256 + d.val, by have := d.isLt; omega⟩) * x6 (ix3 4 q p))
    (h168 : ∀ (d : Fin 64) (q : Fin 128), v168 (ix2 d q) = V (ix2 ⟨384 + q.val, by have := q.isLt; omega⟩ ⟨320 + d.val, by have := d.isLt; omega⟩))
    (p : Fin 128) (e : Fin 512) :
    fourth v3 v147 v151 v155 v159 v163 v167 v168 (View.ld x6 r0_8) (View.ld x6 r0_9) (View.ld x6 r0_10) (ix2 p e)
    = mixAt V x6 x7 ⟨384 + p.val, by have := p.isLt; omega⟩ e := by
  have hp := p.isLt
  have he := e.isLt
  unfold fourth
  pointwise [k0_pay22, k0_pay13, k0_pay19, k0_pay20, k0_pay21, View.ld]
  simp only [h3, h147, h151, h155, h159, h163, h167, h168]
  clear h3 h147 h151 h155 h159 h163 h167 h168
  split_ifs <;> refine leaf V x6 x7 _ e _ _ _ _ ?_ ?_ ?_ ?_ <;> intros <;> simp only [Fin.coe_ofNat_eq_mod] <;> omega

theorem stacked_at (U V : Vec Ideal S512x512 .f32) (C0 C1 C2 C3 : Vec Ideal S128x512 .f32)
    (c0 : ∀ (p : Fin 128) (e : Fin 512), C0 (ix2 p e) = mixAt V x6 x7 ⟨p.val, by have := p.isLt; omega⟩ e)
    (c1 : ∀ (p : Fin 128) (e : Fin 512), C1 (ix2 p e) = mixAt V x6 x7 ⟨128 + p.val, by have := p.isLt; omega⟩ e)
    (c2 : ∀ (p : Fin 128) (e : Fin 512), C2 (ix2 p e) = mixAt V x6 x7 ⟨256 + p.val, by have := p.isLt; omega⟩ e)
    (c3 : ∀ (p : Fin 128) (e : Fin 512), C3 (ix2 p e) = mixAt V x6 x7 ⟨384 + p.val, by have := p.isLt; omega⟩ e)
    (r e : Fin 512) : stacked U C0 C1 C2 C3 (ix2 r e) = U (ix2 r e) * mixAt V x6 x7 r e := by
  have hr := r.isLt
  pointwise [stacked]
  split_ifs <;> first | rw [c0] | rw [c1] | rw [c2] | rw [c3]
  all_goals exact congrArg (fun a => U (ix2 r e) * mixAt V x6 x7 a e) (Fin.ext (by dsimp only; omega))

theorem stacked_eq (v3 : Vec Ideal S128x512 .f32) (U : FVec Ideal S512x512 .f32) (C0 C1 C2 : FVec Ideal S128x512 .f32) (v147 : FVec Ideal S512x128 .bf16) (v151 v155 v159 v163 v167 : FVec Ideal S64x128 .f32) (v168 : FVec Ideal S64x128 .bf16) (w5 w6 w7 : Vec Ideal S1x128x128 .bf16) :
    k0_pay39 v3 U C0 C1 C2 v147 v151 v155 v159 v163 v167 v168 w5 w6 w7 = stacked U C0 C1 C2 (fourth v3 v147 v151 v155 v159 v163 v167 v168 w5 w6 w7) := rfl

theorem gated_at (r e : Fin 512) : k0_pay56 x0 x1 x2 x3 x4 x5 x6 x7 x8 (ix2 r e)
    = gelu (x0 (ix2 r ⟨e.val, by have := e.isLt; omega⟩)) * mixAt (k0_pay6 x0 x3) x6 x7 r e := by
  unfold k0_pay56
  rw [stacked_eq]
  refine (stacked_at x6 x7 _ (k0_pay6 x0 x3) _ _ _ _ (chunk0 x0 x1 x2 x3 x4 x5 x6 x7 x8) (chunk1 x0 x1 x2 x3 x4 x5 x6 x7 x8) (chunk2 x0 x1 x2 x3 x4 x5 x6 x7 x8)
    (fourth_at x6 x7 (k0_pay6 x0 x3) _ _ _ _ _ _ _ _ (bias_at x0 x1 x2 x3 x4 x5 x6 x7 x8) ?_ ?_ ?_ ?_ ?_ ?_ ?_) r e).trans ?_
  · intro e q
    unfold k0_pay49 k0_pay44
    simp only [View.ld_unit_zero (S := S512x1024) origin, View.ld_unit_zero (S := S1x512) origin]
    pointwise [k0_pay32]
  · intro d p
    unfold k0_pay50 k0_pay44
    simp only [View.ld_unit_zero (S := S512x1024) origin, View.ld_unit_zero (S := S1x512) origin]
    pointwise [k0_pay33, k0_pay32, View.ld]
  · intro d p
    unfold k0_pay51 k0_pay44
    simp only [View.ld_unit_zero (S := S512x1024) origin, View.ld_unit_zero (S := S1x512) origin]
    pointwise [k0_pay34, k0_pay32, View.ld]
  · intro d p
    unfold k0_pay52 k0_pay44
    simp only [View.ld_unit_zero (S := S512x1024) origin, View.ld_unit_zero (S := S1x512) origin]
    pointwise [k0_pay35, k0_pay32, View.ld]
  · intro d p
    unfold k0_pay53 k0_pay44
    simp only [View.ld_unit_zero (S := S512x1024) origin, View.ld_unit_zero (S := S1x512) origin]
    pointwise [k0_pay36, k0_pay32, View.ld]
  · intro d p
    unfold k0_pay54 k0_pay44
    simp only [View.ld_unit_zero (S := S512x1024) origin, View.ld_unit_zero (S := S1x512) origin]
    pointwise [k0_pay37, k0_pay32, View.ld]
  · intro d q
    unfold k0_pay55 k0_pay44
    simp only [View.ld_unit_zero (S := S512x1024) origin, View.ld_unit_zero (S := S1x512) origin]
    pointwise [k0_pay38, k0_pay32]
  · unfold k0_pay43
    simp only [View.ld_unit_zero (S := S512x1024) origin]
    rw [value_at]

theorem square_at (r : Fin 512) (a : Fin 1) : k0_pay58 x0 x1 x2 x3 x4 x5 x6 x7 x8 (ix2 r a)
    = Ideal.div (∑ k, k0_pay56 x0 x1 x2 x3 x4 x5 x6 x7 x8 (ix2 r k) * k0_pay56 x0 x1 x2 x3 x4 x5 x6 x7 x8 (ix2 r k)) (Ideal.ofBits .f32 0x44000000#32) := by
  unfold k0_pay58 k0_pay56
  pointwise [k0_pay41]
  all_goals rfl

/-- The gated values of a row. -/
def sguRow (r e : Fin 512) : EReal :=
  gelu (x0 (ix2 r ⟨e.val, by have := e.isLt; omega⟩))
    * ((∑ q, gateRow (fun k => x0 (ix2 (peer r q) k)) (fun k => x3 (ix2 0 k)) e * x6 (ix3 (group e) q (within r))) + x7 (ix2 (within r) e))
/-- The mixed values of a row: the normalised heads, then the normalised gated values. -/
def mixedRow (r : Fin 512) (k : Fin 1024) : EReal :=
  if h : k.val < 512 then normH (fun k => x1 (ix4 (group k) 0 (inner k) r)) (fun k => x4 (ix2 0 k)) ⟨k.val, h⟩
  else normH (sguRow x0 x3 x6 x7 r) (fun k => x5 (ix2 0 k)) ⟨k.val - 512, by have := k.isLt; omega⟩

theorem gated_row (r e : Fin 512) : k0_pay56 x0 x1 x2 x3 x4 x5 x6 x7 x8 (ix2 r e) = sguRow x0 x3 x6 x7 r e := by
  rw [gated_at]
  unfold mixAt
  simp only [gate_at]
  rfl

theorem mixed_at (r : Fin 512) (k : Fin 1024) :
    k0_pay1 (k0_pay56 x0 x1 x2 x3 x4 x5 x6 x7 x8) (k0_pay57 x0 x1 x2 x3 x4 x5 x6 x7 x8) (k0_pay58 x0 x1 x2 x3 x4 x5 x6 x7 x8) x5 (ix2 r k) = mixedRow x0 x1 x3 x4 x5 x6 x7 r k := by
  have h0 := gated_row x0 x1 x2 x3 x4 x5 x6 x7 x8
  have h2 := square_at x0 x1 x2 x3 x4 x5 x6 x7 x8
  have h1 : ∀ r e, k0_pay57 x0 x1 x2 x3 x4 x5 x6 x7 x8 (ix2 r e) = normH (fun k => x1 (ix4 (group k) 0 (inner k) r)) (fun k => x4 (ix2 0 k)) e := by
    intro r e
    unfold k0_pay57
    simp only [View.ld_unit_zero (S := S8x1x64x512) origin4, View.ld_unit_zero (S := S1x512) origin]
    exact heads_at _ _ _ _
  generalize k0_pay56 x0 x1 x2 x3 x4 x5 x6 x7 x8 = A at h0 h2 ⊢
  generalize k0_pay57 x0 x1 x2 x3 x4 x5 x6 x7 x8 = B at h1 ⊢
  generalize k0_pay58 x0 x1 x2 x3 x4 x5 x6 x7 x8 = C at h2 ⊢
  pointwise [k0_pay1]
  simp only [h1, h2, h0]
  rfl

theorem out10_at (r : Fin 512) (k : Fin 1024) : out0_10 x0 x1 x2 x3 x4 x5 x6 x7 x8 (ix2 r k) = mixedRow x0 x1 x3 x4 x5 x6 x7 r k := by
  unfold out0_10
  rw [View.canon_unit_zero origin]
  simp only [View.ld_unit_zero (S := S1x512) origin]
  exact mixed_at _ _ _ _ _ _ _ _ _ _ _

theorem out9_at (r : Fin 512) (d : Fin 1024) : out0_9 x0 x1 x2 x3 x4 x5 x6 x7 x8 (ix2 r d)
    = x2 (ix2 r d) + ∑ k, mixedRow x0 x1 x3 x4 x5 x6 x7 r k * x8 (ix2 k d) := by
  have h := mixed_at x0 x1 x2 x3 x4 x5 x6 x7 x8
  unfold out0_9
  rw [View.canon_unit_zero origin]
  simp only [View.ld_unit_zero (S := S1x512) origin, View.ld_unit_zero (S := S512x1024) origin, View.ld_unit_zero (S := S1024x1024) origin]
  pointwise [k0_pay2]
  simp only [h]

end block

end Cert.Kernel28Ideal.Hand
-- ==== Proof.MixOut.lean ====
/- The gated mixer's forward pass and its output projection. -/
module

public import proofs.«01_k».proof.Proof.MixRow
public import proofs.«01_k».proof.Proof.Gen.Kernel28Ideal.Value
public import Idealize.ShloMosaic.Lib.StableHlo.ReadAt
public import Idealize.ShloMosaic.Lib.Claim
public import Idealize.ShloMosaic.Lib.Pipeline.ValueKit
public import Idealize.ShloMosaic.Lib.Pipeline.FrameBody
public import proofs.«01_k».proof.Defs
public import proofs.«01_k».proof.Proof.Gen.Kernel28.Frame
public import proofs.«01_k».proof.Proof.Gen.Reference28Ideal.Run
public import proofs.«01_k».proof.Proof.Gen.Reference28Ideal.Read
public import Idealize.ShloMosaic.Lib.Quiescent

@[expose] public section

set_option maxRecDepth 16384

noncomputable section

namespace Cert.Kernel28Ideal.Hand

open Idealize.ShloMosaic Idealize.ShloMosaic.TcCoe Cert.Kernel28Ideal Cert.Kernel28Ideal.Gen Cert.Norm

/-- A token's number in its chunk. -/
def place (n : Fin 8192) : Fin 128 := ⟨n.val % 128, Nat.mod_lt _ (by decide)⟩
/-- Token `q` of the chunk of token `n`. -/
def mate (n : Fin 8192) (q : Fin 128) : Fin 8192 := ⟨n.val / 128 * 128 + q.val, by have := n.isLt; have := q.isLt; omega⟩

/-- The gated values of a token. -/
def sguTok (z : Vec Ideal S8192x1024 .f32) (gs : Vec Ideal S1x512 .f32) (ws : Vec Ideal S8x128x128 .f32) (bs : Vec Ideal S8x128 .f32) (n : Fin 8192) (e : Fin 512) : EReal :=
  gelu (z (ix2 n ⟨e.val, by have := e.isLt; omega⟩))
    * ((∑ q, gateRow (fun k => z (ix2 (mate n q) k)) (fun k => gs (ix2 0 k)) e * ws (ix3 (group e) (place n) q)) + bs (ix2 (group e) (place n)))
/-- The mixed values of a token: the normalised heads, then the normalised gated values. -/
def mixedTok (z : Vec Ideal S8192x1024 .f32) (o : Vec Ideal S8192x512 .f32) (gs : Vec Ideal S1x512 .f32) (ga : Vec Ideal S1x512 .f32) (go : Vec Ideal S1x512 .f32) (ws : Vec Ideal S8x128x128 .f32) (bs : Vec Ideal S8x128 .f32) (n : Fin 8192) (k : Fin 1024) : EReal :=
  if h : k.val < 512 then normH (fun k => o (ix2 n k)) (fun k => ga (ix2 0 k)) ⟨k.val, h⟩
  else normH (sguTok z gs ws bs n) (fun k => go (ix2 0 k)) ⟨k.val - 512, by have := k.isLt; omega⟩
/-- The mixed values. -/
def mixed (z : Vec Ideal S8192x1024 .f32) (o : Vec Ideal S8192x512 .f32) (gs : Vec Ideal S1x512 .f32) (ga : Vec Ideal S1x512 .f32) (go : Vec Ideal S1x512 .f32) (ws : Vec Ideal S8x128x128 .f32) (bs : Vec Ideal S8x128 .f32) : Vec Ideal S8192x1024 .bf16 := fun y => mixedTok z o gs ga go ws bs (y 0) (y 1)
/-- The residual stream after the mixer. -/
def output (z : Vec Ideal S8192x1024 .f32) (o : Vec Ideal S8192x512 .f32) (x : Vec Ideal S8192x1024 .f32) (gs : Vec Ideal S1x512 .f32) (ga : Vec Ideal S1x512 .f32) (go : Vec Ideal S1x512 .f32) (ws : Vec Ideal S8x128x128 .f32) (bs : Vec Ideal S8x128 .f32) (wo : Vec Ideal S1024x1024 .f32) : Vec Ideal S8192x1024 .f32 :=
  fun y => x (ix2 (y 0) (y 1)) + ∑ k, mixedTok z o gs ga go ws bs (y 0) k * wo (ix2 k (y 1))

section kernel
variable (m : (ℓ : Loc nD τ sig) → Buf (Elt Ideal) ℓ) (c : Dev nD)

/-- The activation's input. -/
abbrev argZ : Vec Ideal S8192x1024 .f32 := m ((c.tc : Thread nD τ).loc main_arg0)
/-- The heads' output. -/
abbrev argO : Vec Ideal S8192x512 .f32 := m ((c.tc : Thread nD τ).loc main_arg1)
/-- The residual stream. -/
abbrev argX : Vec Ideal S8192x1024 .f32 := m ((c.tc : Thread nD τ).loc main_arg2)
/-- The gate norm's gain. -/
abbrev argGs : Vec Ideal S1x512 .f32 := m ((c.tc : Thread nD τ).loc main_arg3)
/-- The heads norm's gain. -/
abbrev argGa : Vec Ideal S1x512 .f32 := m ((c.tc : Thread nD τ).loc main_arg4)
/-- The gated values norm's gain. -/
abbrev argGo : Vec Ideal S1x512 .f32 := m ((c.tc : Thread nD τ).loc main_arg5)
/-- The chunk weights. -/
abbrev argWs : Vec Ideal S8x128x128 .f32 := m ((c.tc : Thread nD τ).loc main_arg6)
/-- The chunk biases. -/
abbrev argBs : Vec Ideal S8x128 .f32 := m ((c.tc : Thread nD τ).loc main_arg7)
/-- The output projection's weight. -/
abbrev argWo : Vec Ideal S1024x1024 .f32 := m ((c.tc : Thread nD τ).loc main_arg8)

theorem V_input : (V m c main_arg0 : Vec Ideal S8192x1024 .f32) = argZ m c := by
  unfold V
  after_reads_simp

theorem V_stream : (V m c main_arg2 : Vec Ideal S8192x1024 .f32) = argX m c := by
  unfold V
  after_reads_simp

theorem V_gainS : (V m c main_arg3 : Vec Ideal S1x512 .f32) = argGs m c := by
  unfold V
  after_reads_simp

theorem V_gainA : (V m c main_arg4 : Vec Ideal S1x512 .f32) = argGa m c := by
  unfold V
  after_reads_simp

theorem V_gainO : (V m c main_arg5 : Vec Ideal S1x512 .f32) = argGo m c := by
  unfold V
  after_reads_simp

theorem V_heads (h : Fin 8) (u : Fin 16) (d : Fin 64) (r : Fin 512) : (V m c main_v2 : Vec Ideal S8x16x64x512 .f32) (ix4 h u d r)
    = argO m c (ix2 ⟨u.val * 512 + r.val, by omega⟩ ⟨h.val * 64 + d.val, by omega⟩) := by
  unfold V
  after_reads_simp
  pointwise []
  all_goals rfl

theorem V_weights (g : Fin 8) (q p : Fin 128) : (V m c main_v4 : Vec Ideal S8x128x128 .bf16) (ix3 g q p) = argWs m c (ix3 g p q) := by
  unfold V
  after_reads_simp
  pointwise []
  all_goals rfl

theorem V_bias (p : Fin 128) (e : Fin 512) : (V m c main_v7 : Vec Ideal S128x512 .f32) (ix2 p e) = argBs m c (ix2 (group e) p) := by
  unfold V
  after_reads_simp
  pointwise []
  all_goals rfl

theorem V_out (k d : Fin 1024) : (V m c main_v8 : Vec Ideal S1024x1024 .bf16) (ix2 k d) = argWo m c (ix2 k d) := by
  unfold V
  after_reads_simp
  pointwise []
  all_goals rfl

/-- The windows' block indices at each grid point. -/
theorem windows_at : ∀ t : Fin cfg0.N, win0_0.index t = ![t.val, 0]
    ∧ win0_1.index t = ![0, t.val, 0, 0]
    ∧ win0_2.index t = ![t.val, 0]
    ∧ win0_3.index t = ![0, 0]
    ∧ win0_4.index t = ![0, 0]
    ∧ win0_5.index t = ![0, 0]
    ∧ win0_6.index t = ![0, 0, 0]
    ∧ win0_7.index t = ![0, 0]
    ∧ win0_8.index t = ![0, 0]
    ∧ win0_9.index t = ![t.val, 0]
    ∧ win0_10.index t = ![t.val, 0] := by decide +kernel

/-- Row `r` of the block of tokens with number `n`. -/
def row (n : ℕ) (r : Fin 512) : Fin 8192 := ⟨n % 16 * 512 + r.val, by have := r.isLt; omega⟩

section point
variable (t : Fin cfg0.N)

theorem input_at (r : Fin 512) (d : Fin 1024) : iblk m c 0 t (ix2 r d) = argZ m c (ix2 (row t.val r) d) := by
  have ht : t.val < 16 := lt_of_lt_of_eq t.isLt N_0
  rw [← V_input]
  unfold row
  obtain ⟨h0, h1, h2, h3, h4, h5, h6, h7, h8, h9, h10⟩ := windows_at t
  blk_ext [iblk, h0]

theorem stream_at (r : Fin 512) (d : Fin 1024) : iblk m c 2 t (ix2 r d) = argX m c (ix2 (row t.val r) d) := by
  have ht : t.val < 16 := lt_of_lt_of_eq t.isLt N_0
  rw [← V_stream]
  unfold row
  obtain ⟨h0, h1, h2, h3, h4, h5, h6, h7, h8, h9, h10⟩ := windows_at t
  blk_ext [iblk, h2]

theorem gainS_at (a : Fin 1) (d : Fin 512) : iblk m c 3 t (ix2 a d) = argGs m c (ix2 a d) := by
  have ht : t.val < 16 := lt_of_lt_of_eq t.isLt N_0
  rw [← V_gainS]
  obtain ⟨h0, h1, h2, h3, h4, h5, h6, h7, h8, h9, h10⟩ := windows_at t
  blk_ext [iblk, h3]

theorem gainA_at (a : Fin 1) (d : Fin 512) : iblk m c 4 t (ix2 a d) = argGa m c (ix2 a d) := by
  have ht : t.val < 16 := lt_of_lt_of_eq t.isLt N_0
  rw [← V_gainA]
  obtain ⟨h0, h1, h2, h3, h4, h5, h6, h7, h8, h9, h10⟩ := windows_at t
  blk_ext [iblk, h4]

theorem gainO_at (a : Fin 1) (d : Fin 512) : iblk m c 5 t (ix2 a d) = argGo m c (ix2 a d) := by
  have ht : t.val < 16 := lt_of_lt_of_eq t.isLt N_0
  rw [← V_gainO]
  obtain ⟨h0, h1, h2, h3, h4, h5, h6, h7, h8, h9, h10⟩ := windows_at t
  blk_ext [iblk, h5]

theorem tile_at (r k : Fin 512) : iblk m c 1 t (ix4 (group k) 0 (inner k) r) = argO m c (ix2 (row t.val r) k) := by
  have ht : t.val < 16 := lt_of_lt_of_eq t.isLt N_0
  have hk := k.isLt
  have e : argO m c (ix2 (row t.val r) k) = (V m c main_v2 : Vec Ideal S8x16x64x512 .f32) (ix4 (group k) ⟨t.val, ht⟩ (inner k) r) := by
    rw [V_heads]
    unfold row group inner
    exact congrArg (argO m c) (congrArg₂ ix2 (Fin.ext (by dsimp only; omega)) (Fin.ext (by dsimp only; omega)))
  rw [e]
  obtain ⟨h0, h1, h2, h3, h4, h5, h6, h7, h8, h9, h10⟩ := windows_at t
  blk_ext [iblk, h1]

theorem weights_at (g : Fin 8) (q p : Fin 128) : iblk m c 6 t (ix3 g q p) = argWs m c (ix3 g p q) := by
  have ht : t.val < 16 := lt_of_lt_of_eq t.isLt N_0
  rw [← V_weights]
  obtain ⟨h0, h1, h2, h3, h4, h5, h6, h7, h8, h9, h10⟩ := windows_at t
  blk_ext [iblk, h6]

theorem biases_at (p : Fin 128) (e : Fin 512) : iblk m c 7 t (ix2 p e) = argBs m c (ix2 (group e) p) := by
  have ht : t.val < 16 := lt_of_lt_of_eq t.isLt N_0
  rw [← V_bias]
  obtain ⟨h0, h1, h2, h3, h4, h5, h6, h7, h8, h9, h10⟩ := windows_at t
  blk_ext [iblk, h7]

theorem out_at (k d : Fin 1024) : iblk m c 8 t (ix2 k d) = argWo m c (ix2 k d) := by
  have ht : t.val < 16 := lt_of_lt_of_eq t.isLt N_0
  rw [← V_out]
  obtain ⟨h0, h1, h2, h3, h4, h5, h6, h7, h8, h9, h10⟩ := windows_at t
  blk_ext [iblk, h8]

theorem peer_row (n : ℕ) (r : Fin 512) (q : Fin 128) : row n (peer r q) = mate (row n r) q := by
  have := r.isLt
  have := q.isLt
  unfold row peer mate
  exact Fin.ext (by dsimp only; omega)

theorem within_row (n : ℕ) (r : Fin 512) : within r = place (row n r) := by
  have := r.isLt
  unfold row within place
  exact Fin.ext (by dsimp only; omega)

theorem sgu_block (r : Fin 512) : sguRow (iblk m c 0 t) (iblk m c 3 t) (iblk m c 6 t) (iblk m c 7 t) r
    = sguTok (argZ m c) (argGs m c) (argWs m c) (argBs m c) (row t.val r) := by
  funext e
  unfold sguRow sguTok
  simp only [input_at, gainS_at, weights_at, biases_at, peer_row, within_row t.val]

theorem mixed_block (r : Fin 512) (k : Fin 1024) :
    mixedRow (iblk m c 0 t) (iblk m c 1 t) (iblk m c 3 t) (iblk m c 4 t) (iblk m c 5 t) (iblk m c 6 t) (iblk m c 7 t) r k
    = mixedTok (argZ m c) (argO m c) (argGs m c) (argGa m c) (argGo m c) (argWs m c) (argBs m c) (row t.val r) k := by
  unfold mixedRow mixedTok
  rw [sgu_block]
  simp only [tile_at, gainA_at, gainO_at]

end point

theorem arr9 : (dats m 0 c).arrAt 9 cfg0.N
    = output (argZ m c) (argO m c) (argX m c) (argGs m c) (argGa m c) (argGo m c) (argWs m c) (argBs m c) (argWo m c) := by
  refine (dats m 0 c).arrAt_eq_of_covers 9 _ (by decide +kernel) fun t hf y => ?_
  blk_simp
  rw [after0_9]
  have ht : t.val < 16 := lt_of_lt_of_eq t.isLt N_0
  idx_vars y
  have he : (win0_9.blk t).view.emb (ix2 y0 y1) = ix2 (row t.val y0) y1 := by
    obtain ⟨h0, h1, h2, h3, h4, h5, h6, h7, h8, h9, h10⟩ := windows_at t
    unfold row
    blk_ext [h9]
  refine Eq.trans ?_ (congrArg (output (argZ m c) (argO m c) (argX m c) (argGs m c) (argGa m c) (argGo m c) (argWs m c) (argBs m c) (argWo m c)) he).symm
  refine (out9_at _ _ _ _ _ _ _ _ _ _ _).trans ?_
  simp only [mixed_block, stream_at, out_at]
  rfl

theorem arr10 : (dats m 0 c).arrAt 10 cfg0.N
    = mixed (argZ m c) (argO m c) (argGs m c) (argGa m c) (argGo m c) (argWs m c) (argBs m c) := by
  refine (dats m 0 c).arrAt_eq_of_covers 10 _ (by decide +kernel) fun t hf y => ?_
  blk_simp
  rw [after0_10]
  have ht : t.val < 16 := lt_of_lt_of_eq t.isLt N_0
  idx_vars y
  have he : (win0_10.blk t).view.emb (ix2 y0 y1) = ix2 (row t.val y0) y1 := by
    obtain ⟨h0, h1, h2, h3, h4, h5, h6, h7, h8, h9, h10⟩ := windows_at t
    unfold row
    blk_ext [h10]
  refine Eq.trans ?_ (congrArg (mixed (argZ m c) (argO m c) (argGs m c) (argGa m c) (argGo m c) (argWs m c) (argBs m c)) he).symm
  refine (out10_at _ _ _ _ _ _ _ _ _ _ _).trans ?_
  exact mixed_block m c t y0 y1

end kernel

section reference
open Cert.Reference28Ideal.Read

theorem activated_ref (z : Vec Ideal S8192x1024 .f32) (n : Fin 8192) (k : Fin 1024) : val_main_v12 (F := Ideal) z (ix2 n k) = gelu (z (ix2 n k)) := by
  pointwise [val_main_v0, val_main_v1, val_main_v2, val_main_v3, val_main_v4, val_main_v5, val_main_v6, val_main_v7, val_main_v8, val_main_v9, val_main_v10, val_main_v11, val_main_v12, val_main_cst, val_main_cst_0, val_main_cst_1, val_main_cst_2]
  all_goals rfl

theorem gate_ref (z : Vec Ideal S8192x1024 .f32) (gs : Vec Ideal S1x512 .f32) (n : Fin 8192) (e : Fin 512) : val_main_v26 (F := Ideal) z gs (ix2 n e) = gateRow (fun k => z (ix2 n k)) (fun k => gs (ix2 0 k)) e := by
  have h := activated_ref z
  pointwise [val_main_v14, val_main_v15, val_main_v16, val_main_v17, val_main_v18, val_main_v19, val_main_v20, val_main_v21, val_main_v22, val_main_v23, val_main_v24, val_main_v25, val_main_v26, val_main_cst_3, val_main_cst_4, val_main_cst_5]
  simp only [h]
  rfl

theorem heads_ref (o : Vec Ideal S8192x512 .f32) (ga : Vec Ideal S1x512 .f32) (n : Fin 8192) (e : Fin 512) : val_main_v47 (F := Ideal) o ga (ix2 n e) = normH (fun k => o (ix2 n k)) (fun k => ga (ix2 0 k)) e := by
  pointwise [val_main_v36, val_main_v37, val_main_v38, val_main_v39, val_main_v40, val_main_v41, val_main_v42, val_main_v43, val_main_v44, val_main_v45, val_main_v46, val_main_v47, val_main_cst_6, val_main_cst_7, val_main_cst_8]
  all_goals rfl

theorem mix_ref (z : Vec Ideal S8192x1024 .f32) (gs : Vec Ideal S1x512 .f32) (ws : Vec Ideal S8x128x128 .f32) (bs : Vec Ideal S8x128 .f32) (n : Fin 8192) (e : Fin 512) : val_main_v34 (F := Ideal) z gs ws bs (ix2 n e)
    = (∑ q, val_main_v26 (F := Ideal) z gs (ix2 (mate n q) e) * ws (ix3 (group e) (place n) q)) + bs (ix2 (group e) (place n)) := by
  pointwise [val_main_v27, val_main_v28, val_main_v29, val_main_v30, val_main_v31, val_main_v32, val_main_v33, val_main_v34]
  rfl

theorem sgu_ref (z : Vec Ideal S8192x1024 .f32) (gs : Vec Ideal S1x512 .f32) (ws : Vec Ideal S8x128x128 .f32) (bs : Vec Ideal S8x128 .f32) (n : Fin 8192) (e : Fin 512) : val_main_v35 (F := Ideal) z gs ws bs (ix2 n e) = sguTok z gs ws bs n e := by
  have h := activated_ref z
  have h' := mix_ref z gs ws bs
  pointwise [val_main_v13, val_main_v35]
  simp only [h, h', gate_ref]
  rfl

theorem norm_ref (z : Vec Ideal S8192x1024 .f32) (gs : Vec Ideal S1x512 .f32) (go : Vec Ideal S1x512 .f32) (ws : Vec Ideal S8x128x128 .f32) (bs : Vec Ideal S8x128 .f32) (n : Fin 8192) (e : Fin 512) : val_main_v59 (F := Ideal) z gs go ws bs (ix2 n e)
    = normH (sguTok z gs ws bs n) (fun k => go (ix2 0 k)) e := by
  have h := sgu_ref z gs ws bs
  pointwise [val_main_v48, val_main_v49, val_main_v50, val_main_v51, val_main_v52, val_main_v53, val_main_v54, val_main_v55, val_main_v56, val_main_v57, val_main_v58, val_main_v59, val_main_cst_9, val_main_cst_10, val_main_cst_11]
  simp only [h]
  rfl

theorem mixed_ref (z : Vec Ideal S8192x1024 .f32) (o : Vec Ideal S8192x512 .f32) (gs : Vec Ideal S1x512 .f32) (ga : Vec Ideal S1x512 .f32) (go : Vec Ideal S1x512 .f32) (ws : Vec Ideal S8x128x128 .f32) (bs : Vec Ideal S8x128 .f32) (n : Fin 8192) (k : Fin 1024) : val_main_v60 (F := Ideal) z o gs ga go ws bs (ix2 n k)
    = mixedTok z o gs ga go ws bs n k := by
  have h := norm_ref z gs go ws bs
  have h' := heads_ref o ga
  pointwise [val_main_v60]
  simp only [h, h']
  rfl

theorem reference_mixed (z : Vec Ideal S8192x1024 .f32) (o : Vec Ideal S8192x512 .f32) (gs : Vec Ideal S1x512 .f32) (ga : Vec Ideal S1x512 .f32) (go : Vec Ideal S1x512 .f32) (ws : Vec Ideal S8x128x128 .f32) (bs : Vec Ideal S8x128 .f32) : val_main_v63 (F := Ideal) z o gs ga go ws bs = mixed z o gs ga go ws bs := by
  funext y
  idx_vars y
  have h := mixed_ref z o gs ga go ws bs
  pointwise [val_main_v63]
  exact h _ _

theorem reference_output (z : Vec Ideal S8192x1024 .f32) (o : Vec Ideal S8192x512 .f32) (x : Vec Ideal S8192x1024 .f32) (gs : Vec Ideal S1x512 .f32) (ga : Vec Ideal S1x512 .f32) (go : Vec Ideal S1x512 .f32) (ws : Vec Ideal S8x128x128 .f32) (bs : Vec Ideal S8x128 .f32) (wo : Vec Ideal S1024x1024 .f32) : val_main_v62 (F := Ideal) z o x gs ga go ws bs wo = output z o x gs ga go ws bs wo := by
  funext y
  idx_vars y
  have h := mixed_ref z o gs ga go ws bs
  pointwise [val_main_v61, val_main_v62]
  simp only [h]
  rfl

end reference

end Cert.Kernel28Ideal.Hand

namespace Cert.Proof

open Idealize.ShloMosaic Idealize.ShloMosaic.TcCoe Idealize.SL.Sem Cert.Kernel28Ideal.Hand

/-- The kernel on machine words ends, its arguments unchanged and its counters at zero. -/
theorem frame_kernel28 : Cert.quiescent_Kernel28 := fun m ρ _ => Cert.Kernel28.Gen.frame m ρ

/-- The kernel over the extended reals ends, its arguments unchanged and its counters at zero. -/
theorem frame_ideal28 : Cert.quiescent_Kernel28Ideal := fun m ρ _ => Cert.Kernel28Ideal.Gen.frame m ρ

/-- The reference ends, its arguments unchanged and its counters at zero. -/
theorem frame_reference28 : Cert.quiescent_Reference28Ideal := fun m ρ _ =>
  (θ_run Cert.Reference28Ideal.defs _ _).mono (fun r h => ⟨fun c => (h c).2.2, sem_eq_zero_of_no_sems (by decide) r.2⟩)
    (Cert.Reference28Ideal.Value.run (F := Ideal) m ρ)

/-- The mixer's kernel and the reference leave the same arrays. -/
theorem algebraic28 : Cert.algebraic_Kernel28Ideal_Reference28Ideal := by
  intro m g m' g' _ hm
  refine ⟨fun c => output (argZ m c) (argO m c) (argX m c) (argGs m c) (argGa m c) (argGo m c) (argWs m c) (argBs m c) (argWo m c),
    fun c => mixed (argZ m c) (argO m c) (argGs m c) (argGa m c) (argGo m c) (argWs m c) (argBs m c), ?_, ?_⟩
  · exact (θ_run Cert.Kernel28Ideal.defs _ _).mono (fun r h c => ⟨(h c).1.trans (arr9 m c), (h c).2.1.trans (arr10 m c), (h c).2.2⟩)
      (Cert.Kernel28Ideal.Value.run_blocks m g)
  · refine (θ_run Cert.Reference28Ideal.defs _ _).mono
      (fun r h c => ⟨(h c).1.trans ?_, (h c).2.1.trans ?_, (h c).2.2⟩)
      (Cert.Reference28Ideal.Value.run (F := Ideal) m' g')
    all_goals obtain ⟨e0, e1, e2, e3, e4, e5, e6, e7, e8⟩ := hm c
    · rw [Cert.Reference28Ideal.Read.val_main_v62_eq, e0, e1, e2, e3, e4, e5, e6, e7, e8]
      exact reference_output _ _ _ _ _ _ _ _ _
    · rw [Cert.Reference28Ideal.Read.val_main_v63_eq, e0, e1, e3, e4, e5, e6, e7]
      exact reference_mixed _ _ _ _ _ _ _

end Cert.Proof
-- ==== Proof.lean ====
/- The proof of the certificate's claims. -/
module

public import proofs.«01_k».proof.Defs
public import proofs.«01_k».proof.Proof.Frames
public import proofs.«01_k».proof.Proof.Algebraic
public import proofs.«01_k».proof.Proof.Activation
public import proofs.«01_k».proof.Proof.Norm
public import proofs.«01_k».proof.Proof.Weight
public import proofs.«01_k».proof.Proof.Down
public import proofs.«01_k».proof.Proof.Up
public import proofs.«01_k».proof.Proof.DownForward
public import proofs.«01_k».proof.Proof.Loss
public import proofs.«01_k».proof.Proof.Projection
public import proofs.«01_k».proof.Proof.NormMix
public import proofs.«01_k».proof.Proof.WeightQkv
public import proofs.«01_k».proof.Proof.WeightGate
public import proofs.«01_k».proof.Proof.WeightOut
public import proofs.«01_k».proof.Proof.Adamw
public import proofs.«01_k».proof.Proof.Parts
public import proofs.«01_k».proof.Proof.Heads
public import proofs.«01_k».proof.Proof.MixOut
public import proofs.«01_k».proof.Proof.Gen.Pre_finite
public import proofs.«01_k».proof.Proof.Gen.Pre_finite_heads
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    finite_facts, finite_activation_facts, finite_up_facts, finite_heads_facts,
    frame_kernel, frame_ideal, fun m ρ _ => Cert.KernelIdeal.Hand.frame m ρ,
    frame_reference, fun m ρ _ => frame_reference m ρ trivial,
    frame_kernel2, frame_ideal2, fun m ρ _ => Cert.Kernel2Ideal.Gen.frame m ρ,
    frame_reference2, fun m ρ _ => frame_reference2 m ρ trivial,
    frame_kernel3, frame_ideal3, frame_reference3,
    frame_kernel4, frame_ideal4, frame_reference4,
    frame_kernel5, frame_ideal5, frame_reference5,
    frame_kernel6, frame_ideal6, fun m ρ _ => Cert.Kernel6Ideal.Gen.frame m ρ,
    frame_reference6, fun m ρ _ => frame_reference6 m ρ trivial,
    frame_kernel7, frame_ideal7, frame_reference7,
    frame_kernel8, frame_ideal8, frame_reference8,
    frame_kernel9, frame_ideal9, frame_reference9,
    frame_kernel10, frame_ideal10, frame_reference10,
    frame_kernel11, frame_ideal11, frame_reference11,
    frame_kernel12, frame_ideal12, frame_reference12,
    frame_kernel13, frame_ideal13, frame_reference13,
    frame_kernel14, frame_ideal14, frame_reference14,
    frame_kernel15, frame_ideal15, frame_reference15,
    frame_kernel16, frame_ideal16, frame_reference16,
    frame_kernel17, frame_ideal17, frame_reference17,
    frame_kernel18, frame_ideal18, frame_reference18,
    frame_kernel19, frame_ideal19, frame_reference19,
    frame_kernel20, frame_ideal20, frame_reference20,
    frame_kernel21, frame_ideal21, frame_reference21,
    frame_kernel22, frame_ideal22, frame_reference22,
    frame_kernel23, frame_ideal23, frame_reference23,
    frame_kernel24, frame_ideal24, frame_reference24,
    frame_kernel25, frame_ideal25, frame_reference25,
    frame_kernel26, frame_ideal26, frame_reference26,
    frame_kernel27, frame_ideal27, fun m ρ _ => Cert.Kernel27Ideal.Gen.frame m ρ,
    frame_reference27, fun m ρ _ => frame_reference27 m ρ trivial,
    frame_kernel28, frame_ideal28, frame_reference28,
    preserves, trivial, trivial, trivial, trivial, trivial, trivial, trivial, trivial, trivial, trivial, trivial, trivial, trivial, trivial, trivial, trivial, trivial, trivial, trivial, trivial, trivial, trivial, trivial, trivial, trivial, trivial, trivial,
    algebraic, algebraic2, algebraic3, algebraic4, algebraic5,
    algebraic6, algebraic7, algebraic8, algebraic9, algebraic10, algebraic11, algebraic12, algebraic13, algebraic14, algebraic15, algebraic16, algebraic17, algebraic18, algebraic19, algebraic20, algebraic21, algebraic22, algebraic23, algebraic24, algebraic25, algebraic26, algebraic27, algebraic28⟩

end Cert.Proof

end
